-- ==== Defs.lean ====
def Pre_KConv (m : (ℓ : Loc Cert.KConv.nD Cert.KConv.τ Cert.KConv.sig) → Buf (Elt Bits) ℓ) : Prop :=
  True

def Pre_KConvIdeal (m : (ℓ : Loc Cert.KConvIdeal.nD Cert.KConvIdeal.τ Cert.KConvIdeal.sig) → Buf (Elt Ideal) ℓ) : Prop :=
  True

def Pre_RConvIdeal (m : (ℓ : Loc Cert.RConvIdeal.nD Cert.RConvIdeal.τ Cert.RConvIdeal.sig) → Buf (Elt Ideal) ℓ) : Prop :=
  True

def Pre_KGw (m : (ℓ : Loc Cert.KGw.nD Cert.KGw.τ Cert.KGw.sig) → Buf (Elt Bits) ℓ) : Prop :=
  True

def Pre_KGwIdeal (m : (ℓ : Loc Cert.KGwIdeal.nD Cert.KGwIdeal.τ Cert.KGwIdeal.sig) → Buf (Elt Ideal) ℓ) : Prop :=
  True

def Pre_RGwIdeal (m : (ℓ : Loc Cert.RGwIdeal.nD Cert.RGwIdeal.τ Cert.RGwIdeal.sig) → Buf (Elt Ideal) ℓ) : Prop :=
  True

def Pre_KFfn (m : (ℓ : Loc Cert.KFfn.nD Cert.KFfn.τ Cert.KFfn.sig) → Buf (Elt Bits) ℓ) : Prop :=
  True

def Pre_KFfnIdeal (m : (ℓ : Loc Cert.KFfnIdeal.nD Cert.KFfnIdeal.τ Cert.KFfnIdeal.sig) → Buf (Elt Ideal) ℓ) : Prop :=
  True

def Pre_KFfnIdeal_ffn_finite [hPre_ffn_finite : Cert.Pre_ffn_finite.Facts] (m : (ℓ : Loc Cert.KFfnIdeal.nD Cert.KFfnIdeal.τ Cert.KFfnIdeal.sig) → Buf (Elt Ideal) ℓ) : Prop :=
  ∀ c : Dev Cert.KFfnIdeal.nD,
    (Cert.Pre_ffn_finite.fn (F := Ideal) (m ((c.tc : Thread Cert.KFfnIdeal.nD Cert.KFfnIdeal.τ).loc Cert.KFfnIdeal.main_arg0)) (m ((c.tc : Thread Cert.KFfnIdeal.nD Cert.KFfnIdeal.τ).loc Cert.KFfnIdeal.main_arg1)) (m ((c.tc : Thread Cert.KFfnIdeal.nD Cert.KFfnIdeal.τ).loc Cert.KFfnIdeal.main_arg2)) (m ((c.tc : Thread Cert.KFfnIdeal.nD Cert.KFfnIdeal.τ).loc Cert.KFfnIdeal.main_arg3)) (m ((c.tc : Thread Cert.KFfnIdeal.nD Cert.KFfnIdeal.τ).loc Cert.KFfnIdeal.main_arg4)) (m ((c.tc : Thread Cert.KFfnIdeal.nD Cert.KFfnIdeal.τ).loc Cert.KFfnIdeal.main_arg5)) (m ((c.tc : Thread Cert.KFfnIdeal.nD Cert.KFfnIdeal.τ).loc Cert.KFfnIdeal.main_arg6)) (m ((c.tc : Thread Cert.KFfnIdeal.nD Cert.KFfnIdeal.τ).loc Cert.KFfnIdeal.main_arg7)) (m ((c.tc : Thread Cert.KFfnIdeal.nD Cert.KFfnIdeal.τ).loc Cert.KFfnIdeal.main_arg8)) (m ((c.tc : Thread Cert.KFfnIdeal.nD Cert.KFfnIdeal.τ).loc Cert.KFfnIdeal.main_arg9))) = (fun _ => 1#1)

def Pre_RFfnIdeal (m : (ℓ : Loc Cert.RFfnIdeal.nD Cert.RFfnIdeal.τ Cert.RFfnIdeal.sig) → Buf (Elt Ideal) ℓ) : Prop :=
  True

def Pre_RFfnIdeal_ffn_finite [hPre_ffn_finite : Cert.Pre_ffn_finite.Facts] (m : (ℓ : Loc Cert.RFfnIdeal.nD Cert.RFfnIdeal.τ Cert.RFfnIdeal.sig) → Buf (Elt Ideal) ℓ) : Prop :=
  ∀ c : Dev Cert.RFfnIdeal.nD,
    (Cert.Pre_ffn_finite.fn (F := Ideal) (m ((c.tc : Thread Cert.RFfnIdeal.nD Cert.RFfnIdeal.τ).loc Cert.RFfnIdeal.main_arg0)) (m ((c.tc : Thread Cert.RFfnIdeal.nD Cert.RFfnIdeal.τ).loc Cert.RFfnIdeal.main_arg1)) (m ((c.tc : Thread Cert.RFfnIdeal.nD Cert.RFfnIdeal.τ).loc Cert.RFfnIdeal.main_arg2)) (m ((c.tc : Thread Cert.RFfnIdeal.nD Cert.RFfnIdeal.τ).loc Cert.RFfnIdeal.main_arg3)) (m ((c.tc : Thread Cert.RFfnIdeal.nD Cert.RFfnIdeal.τ).loc Cert.RFfnIdeal.main_arg4)) (m ((c.tc : Thread Cert.RFfnIdeal.nD Cert.RFfnIdeal.τ).loc Cert.RFfnIdeal.main_arg5)) (m ((c.tc : Thread Cert.RFfnIdeal.nD Cert.RFfnIdeal.τ).loc Cert.RFfnIdeal.main_arg6)) (m ((c.tc : Thread Cert.RFfnIdeal.nD Cert.RFfnIdeal.τ).loc Cert.RFfnIdeal.main_arg7)) (m ((c.tc : Thread Cert.RFfnIdeal.nD Cert.RFfnIdeal.τ).loc Cert.RFfnIdeal.main_arg8)) (m ((c.tc : Thread Cert.RFfnIdeal.nD Cert.RFfnIdeal.τ).loc Cert.RFfnIdeal.main_arg9))) = (fun _ => 1#1)

def Pre_KFwd (m : (ℓ : Loc Cert.KFwd.nD Cert.KFwd.τ Cert.KFwd.sig) → Buf (Elt Bits) ℓ) : Prop :=
  True

def Pre_KFwdIdeal (m : (ℓ : Loc Cert.KFwdIdeal.nD Cert.KFwdIdeal.τ Cert.KFwdIdeal.sig) → Buf (Elt Ideal) ℓ) : Prop :=
  True

def Pre_RFwdIdeal (m : (ℓ : Loc Cert.RFwdIdeal.nD Cert.RFwdIdeal.τ Cert.RFwdIdeal.sig) → Buf (Elt Ideal) ℓ) : Prop :=
  True

def Pre_KAttn (m : (ℓ : Loc Cert.KAttn.nD Cert.KAttn.τ Cert.KAttn.sig) → Buf (Elt Bits) ℓ) : Prop :=
  True

def Pre_KAttnIdeal (m : (ℓ : Loc Cert.KAttnIdeal.nD Cert.KAttnIdeal.τ Cert.KAttnIdeal.sig) → Buf (Elt Ideal) ℓ) : Prop :=
  True

def Pre_KAttnIdeal_attn_finite [hPre_attn_finite : Cert.Pre_attn_finite.Facts] (m : (ℓ : Loc Cert.KAttnIdeal.nD Cert.KAttnIdeal.τ Cert.KAttnIdeal.sig) → Buf (Elt Ideal) ℓ) : Prop :=
  ∀ c : Dev Cert.KAttnIdeal.nD,
    (Cert.Pre_attn_finite.fn (F := Ideal) (m ((c.tc : Thread Cert.KAttnIdeal.nD Cert.KAttnIdeal.τ).loc Cert.KAttnIdeal.main_arg0)) (m ((c.tc : Thread Cert.KAttnIdeal.nD Cert.KAttnIdeal.τ).loc Cert.KAttnIdeal.main_arg1)) (m ((c.tc : Thread Cert.KAttnIdeal.nD Cert.KAttnIdeal.τ).loc Cert.KAttnIdeal.main_arg2)) (m ((c.tc : Thread Cert.KAttnIdeal.nD Cert.KAttnIdeal.τ).loc Cert.KAttnIdeal.main_arg3)) (m ((c.tc : Thread Cert.KAttnIdeal.nD Cert.KAttnIdeal.τ).loc Cert.KAttnIdeal.main_arg4)) (m ((c.tc : Thread Cert.KAttnIdeal.nD Cert.KAttnIdeal.τ).loc Cert.KAttnIdeal.main_arg5)) (m ((c.tc : Thread Cert.KAttnIdeal.nD Cert.KAttnIdeal.τ).loc Cert.KAttnIdeal.main_arg6)) (m ((c.tc : Thread Cert.KAttnIdeal.nD Cert.KAttnIdeal.τ).loc Cert.KAttnIdeal.main_arg7))) = (fun _ => 1#1)

def Pre_RAttnIdeal (m : (ℓ : Loc Cert.RAttnIdeal.nD Cert.RAttnIdeal.τ Cert.RAttnIdeal.sig) → Buf (Elt Ideal) ℓ) : Prop :=
  True

def Pre_RAttnIdeal_attn_finite [hPre_attn_finite : Cert.Pre_attn_finite.Facts] (m : (ℓ : Loc Cert.RAttnIdeal.nD Cert.RAttnIdeal.τ Cert.RAttnIdeal.sig) → Buf (Elt Ideal) ℓ) : Prop :=
  ∀ c : Dev Cert.RAttnIdeal.nD,
    (Cert.Pre_attn_finite.fn (F := Ideal) (m ((c.tc : Thread Cert.RAttnIdeal.nD Cert.RAttnIdeal.τ).loc Cert.RAttnIdeal.main_arg0)) (m ((c.tc : Thread Cert.RAttnIdeal.nD Cert.RAttnIdeal.τ).loc Cert.RAttnIdeal.main_arg1)) (m ((c.tc : Thread Cert.RAttnIdeal.nD Cert.RAttnIdeal.τ).loc Cert.RAttnIdeal.main_arg2)) (m ((c.tc : Thread Cert.RAttnIdeal.nD Cert.RAttnIdeal.τ).loc Cert.RAttnIdeal.main_arg3)) (m ((c.tc : Thread Cert.RAttnIdeal.nD Cert.RAttnIdeal.τ).loc Cert.RAttnIdeal.main_arg4)) (m ((c.tc : Thread Cert.RAttnIdeal.nD Cert.RAttnIdeal.τ).loc Cert.RAttnIdeal.main_arg5)) (m ((c.tc : Thread Cert.RAttnIdeal.nD Cert.RAttnIdeal.τ).loc Cert.RAttnIdeal.main_arg6)) (m ((c.tc : Thread Cert.RAttnIdeal.nD Cert.RAttnIdeal.τ).loc Cert.RAttnIdeal.main_arg7))) = (fun _ => 1#1)

def Pre_KAtf (m : (ℓ : Loc Cert.KAtf.nD Cert.KAtf.τ Cert.KAtf.sig) → Buf (Elt Bits) ℓ) : Prop :=
  True

def Pre_KAtfIdeal (m : (ℓ : Loc Cert.KAtfIdeal.nD Cert.KAtfIdeal.τ Cert.KAtfIdeal.sig) → Buf (Elt Ideal) ℓ) : Prop :=
  True

def Pre_KAtfIdeal_scores_finite [hPre_scores_finite : Cert.Pre_scores_finite.Facts] (m : (ℓ : Loc Cert.KAtfIdeal.nD Cert.KAtfIdeal.τ Cert.KAtfIdeal.sig) → Buf (Elt Ideal) ℓ) : Prop :=
  ∀ c : Dev Cert.KAtfIdeal.nD,
    (Cert.Pre_scores_finite.fn (F := Ideal) (m ((c.tc : Thread Cert.KAtfIdeal.nD Cert.KAtfIdeal.τ).loc Cert.KAtfIdeal.main_arg0)) (m ((c.tc : Thread Cert.KAtfIdeal.nD Cert.KAtfIdeal.τ).loc Cert.KAtfIdeal.main_arg1)) (m ((c.tc : Thread Cert.KAtfIdeal.nD Cert.KAtfIdeal.τ).loc Cert.KAtfIdeal.main_arg2)) (m ((c.tc : Thread Cert.KAtfIdeal.nD Cert.KAtfIdeal.τ).loc Cert.KAtfIdeal.main_arg3)) (m ((c.tc : Thread Cert.KAtfIdeal.nD Cert.KAtfIdeal.τ).loc Cert.KAtfIdeal.main_arg4)) (m ((c.tc : Thread Cert.KAtfIdeal.nD Cert.KAtfIdeal.τ).loc Cert.KAtfIdeal.main_arg5))) = (fun _ => 1#1)

def Pre_RAtfIdeal (m : (ℓ : Loc Cert.RAtfIdeal.nD Cert.RAtfIdeal.τ Cert.RAtfIdeal.sig) → Buf (Elt Ideal) ℓ) : Prop :=
  True

def Pre_RAtfIdeal_scores_finite [hPre_scores_finite : Cert.Pre_scores_finite.Facts] (m : (ℓ : Loc Cert.RAtfIdeal.nD Cert.RAtfIdeal.τ Cert.RAtfIdeal.sig) → Buf (Elt Ideal) ℓ) : Prop :=
  ∀ c : Dev Cert.RAtfIdeal.nD,
    (Cert.Pre_scores_finite.fn (F := Ideal) (m ((c.tc : Thread Cert.RAtfIdeal.nD Cert.RAtfIdeal.τ).loc Cert.RAtfIdeal.main_arg0)) (m ((c.tc : Thread Cert.RAtfIdeal.nD Cert.RAtfIdeal.τ).loc Cert.RAtfIdeal.main_arg1)) (m ((c.tc : Thread Cert.RAtfIdeal.nD Cert.RAtfIdeal.τ).loc Cert.RAtfIdeal.main_arg2)) (m ((c.tc : Thread Cert.RAtfIdeal.nD Cert.RAtfIdeal.τ).loc Cert.RAtfIdeal.main_arg3)) (m ((c.tc : Thread Cert.RAtfIdeal.nD Cert.RAtfIdeal.τ).loc Cert.RAtfIdeal.main_arg4)) (m ((c.tc : Thread Cert.RAtfIdeal.nD Cert.RAtfIdeal.τ).loc Cert.RAtfIdeal.main_arg5))) = (fun _ => 1#1)

def Pre_KOut (m : (ℓ : Loc Cert.KOut.nD Cert.KOut.τ Cert.KOut.sig) → Buf (Elt Bits) ℓ) : Prop :=
  True

def Pre_KOutIdeal (m : (ℓ : Loc Cert.KOutIdeal.nD Cert.KOutIdeal.τ Cert.KOutIdeal.sig) → Buf (Elt Ideal) ℓ) : Prop :=
  True

def Pre_ROutIdeal (m : (ℓ : Loc Cert.ROutIdeal.nD Cert.ROutIdeal.τ Cert.ROutIdeal.sig) → Buf (Elt Ideal) ℓ) : Prop :=
  True

def Pre_KOub (m : (ℓ : Loc Cert.KOub.nD Cert.KOub.τ Cert.KOub.sig) → Buf (Elt Bits) ℓ) : Prop :=
  True

def Pre_KOubIdeal (m : (ℓ : Loc Cert.KOubIdeal.nD Cert.KOubIdeal.τ Cert.KOubIdeal.sig) → Buf (Elt Ideal) ℓ) : Prop :=
  True

def Pre_ROubIdeal (m : (ℓ : Loc Cert.ROubIdeal.nD Cert.ROubIdeal.τ Cert.ROubIdeal.sig) → Buf (Elt Ideal) ℓ) : Prop :=
  True

def Pre_KGwo (m : (ℓ : Loc Cert.KGwo.nD Cert.KGwo.τ Cert.KGwo.sig) → Buf (Elt Bits) ℓ) : Prop :=
  True

def Pre_KGwoIdeal (m : (ℓ : Loc Cert.KGwoIdeal.nD Cert.KGwoIdeal.τ Cert.KGwoIdeal.sig) → Buf (Elt Ideal) ℓ) : Prop :=
  True

def Pre_RGwoIdeal (m : (ℓ : Loc Cert.RGwoIdeal.nD Cert.RGwoIdeal.τ Cert.RGwoIdeal.sig) → Buf (Elt Ideal) ℓ) : Prop :=
  True

def Pre_KSci (m : (ℓ : Loc Cert.KSci.nD Cert.KSci.τ Cert.KSci.sig) → Buf (Elt Bits) ℓ) : Prop :=
  True

def Pre_KSciIdeal (m : (ℓ : Loc Cert.KSciIdeal.nD Cert.KSciIdeal.τ Cert.KSciIdeal.sig) → Buf (Elt Ideal) ℓ) : Prop :=
  True

def Pre_RSciIdeal (m : (ℓ : Loc Cert.RSciIdeal.nD Cert.RSciIdeal.τ Cert.RSciIdeal.sig) → Buf (Elt Ideal) ℓ) : Prop :=
  True

def Pre_KGwi (m : (ℓ : Loc Cert.KGwi.nD Cert.KGwi.τ Cert.KGwi.sig) → Buf (Elt Bits) ℓ) : Prop :=
  True

def Pre_KGwiIdeal (m : (ℓ : Loc Cert.KGwiIdeal.nD Cert.KGwiIdeal.τ Cert.KGwiIdeal.sig) → Buf (Elt Ideal) ℓ) : Prop :=
  True

def Pre_RGwiIdeal (m : (ℓ : Loc Cert.RGwiIdeal.nD Cert.RGwiIdeal.τ Cert.RGwiIdeal.sig) → Buf (Elt Ideal) ℓ) : Prop :=
  True

def Pre_KScb (m : (ℓ : Loc Cert.KScb.nD Cert.KScb.τ Cert.KScb.sig) → Buf (Elt Bits) ℓ) : Prop :=
  True

def Pre_KScbIdeal (m : (ℓ : Loc Cert.KScbIdeal.nD Cert.KScbIdeal.τ Cert.KScbIdeal.sig) → Buf (Elt Ideal) ℓ) : Prop :=
  True

def Pre_RScbIdeal (m : (ℓ : Loc Cert.RScbIdeal.nD Cert.RScbIdeal.τ Cert.RScbIdeal.sig) → Buf (Elt Ideal) ℓ) : Prop :=
  True

def quiescent_KConv [hKConv : Cert.KConv.Facts] : Prop :=
  ∀ (m : (ℓ : Loc Cert.KConv.nD Cert.KConv.τ Cert.KConv.sig) → Buf (Elt Bits) ℓ) (g : Dev Cert.KConv.nD → PrngReg), Pre_KConv m →
    θ_run (Cert.KConv.defs (F := Bits)) (onTc (τ := Cert.KConv.τ) (Cert.KConv.main (F := Bits))) ⟨m, fun _ => 0, g⟩ (fun r => (∀ c : Dev Cert.KConv.nD,
      r.2.mem ((c.tc : Thread Cert.KConv.nD Cert.KConv.τ).loc Cert.KConv.main_arg0) = m ((c.tc : Thread Cert.KConv.nD Cert.KConv.τ).loc Cert.KConv.main_arg0)
      ∧ r.2.mem ((c.tc : Thread Cert.KConv.nD Cert.KConv.τ).loc Cert.KConv.main_arg1) = m ((c.tc : Thread Cert.KConv.nD Cert.KConv.τ).loc Cert.KConv.main_arg1)
      ∧ r.2.mem ((c.tc : Thread Cert.KConv.nD Cert.KConv.τ).loc Cert.KConv.main_arg2) = m ((c.tc : Thread Cert.KConv.nD Cert.KConv.τ).loc Cert.KConv.main_arg2)
      ∧ r.2.mem ((c.tc : Thread Cert.KConv.nD Cert.KConv.τ).loc Cert.KConv.main_arg3) = m ((c.tc : Thread Cert.KConv.nD Cert.KConv.τ).loc Cert.KConv.main_arg3)
      ∧ r.2.mem ((c.tc : Thread Cert.KConv.nD Cert.KConv.τ).loc Cert.KConv.main_arg4) = m ((c.tc : Thread Cert.KConv.nD Cert.KConv.τ).loc Cert.KConv.main_arg4))
      ∧ r.2.sem = fun _ => 0)

def quiescent_KConvIdeal [hKConvIdeal : Cert.KConvIdeal.Facts] : Prop :=
  ∀ (m : (ℓ : Loc Cert.KConvIdeal.nD Cert.KConvIdeal.τ Cert.KConvIdeal.sig) → Buf (Elt Ideal) ℓ) (g : Dev Cert.KConvIdeal.nD → PrngReg), Pre_KConvIdeal m →
    θ_run (Cert.KConvIdeal.defs (F := Ideal)) (onTc (τ := Cert.KConvIdeal.τ) (Cert.KConvIdeal.main (F := Ideal))) ⟨m, fun _ => 0, g⟩ (fun r => (∀ c : Dev Cert.KConvIdeal.nD,
      r.2.mem ((c.tc : Thread Cert.KConvIdeal.nD Cert.KConvIdeal.τ).loc Cert.KConvIdeal.main_arg0) = m ((c.tc : Thread Cert.KConvIdeal.nD Cert.KConvIdeal.τ).loc Cert.KConvIdeal.main_arg0)
      ∧ r.2.mem ((c.tc : Thread Cert.KConvIdeal.nD Cert.KConvIdeal.τ).loc Cert.KConvIdeal.main_arg1) = m ((c.tc : Thread Cert.KConvIdeal.nD Cert.KConvIdeal.τ).loc Cert.KConvIdeal.main_arg1)
      ∧ r.2.mem ((c.tc : Thread Cert.KConvIdeal.nD Cert.KConvIdeal.τ).loc Cert.KConvIdeal.main_arg2) = m ((c.tc : Thread Cert.KConvIdeal.nD Cert.KConvIdeal.τ).loc Cert.KConvIdeal.main_arg2)
      ∧ r.2.mem ((c.tc : Thread Cert.KConvIdeal.nD Cert.KConvIdeal.τ).loc Cert.KConvIdeal.main_arg3) = m ((c.tc : Thread Cert.KConvIdeal.nD Cert.KConvIdeal.τ).loc Cert.KConvIdeal.main_arg3)
      ∧ r.2.mem ((c.tc : Thread Cert.KConvIdeal.nD Cert.KConvIdeal.τ).loc Cert.KConvIdeal.main_arg4) = m ((c.tc : Thread Cert.KConvIdeal.nD Cert.KConvIdeal.τ).loc Cert.KConvIdeal.main_arg4))
      ∧ r.2.sem = fun _ => 0)

def quiescent_RConvIdeal [hRConvIdeal : Cert.RConvIdeal.Facts] : Prop :=
  ∀ (m : (ℓ : Loc Cert.RConvIdeal.nD Cert.RConvIdeal.τ Cert.RConvIdeal.sig) → Buf (Elt Ideal) ℓ) (g : Dev Cert.RConvIdeal.nD → PrngReg), Pre_RConvIdeal m →
    θ_run (Cert.RConvIdeal.defs (F := Ideal)) (onTc (τ := Cert.RConvIdeal.τ) (Cert.RConvIdeal.main (F := Ideal))) ⟨m, fun _ => 0, g⟩ (fun r => (∀ c : Dev Cert.RConvIdeal.nD,
      r.2.mem ((c.tc : Thread Cert.RConvIdeal.nD Cert.RConvIdeal.τ).loc Cert.RConvIdeal.main_arg0) = m ((c.tc : Thread Cert.RConvIdeal.nD Cert.RConvIdeal.τ).loc Cert.RConvIdeal.main_arg0)
      ∧ r.2.mem ((c.tc : Thread Cert.RConvIdeal.nD Cert.RConvIdeal.τ).loc Cert.RConvIdeal.main_arg1) = m ((c.tc : Thread Cert.RConvIdeal.nD Cert.RConvIdeal.τ).loc Cert.RConvIdeal.main_arg1)
      ∧ r.2.mem ((c.tc : Thread Cert.RConvIdeal.nD Cert.RConvIdeal.τ).loc Cert.RConvIdeal.main_arg2) = m ((c.tc : Thread Cert.RConvIdeal.nD Cert.RConvIdeal.τ).loc Cert.RConvIdeal.main_arg2)
      ∧ r.2.mem ((c.tc : Thread Cert.RConvIdeal.nD Cert.RConvIdeal.τ).loc Cert.RConvIdeal.main_arg3) = m ((c.tc : Thread Cert.RConvIdeal.nD Cert.RConvIdeal.τ).loc Cert.RConvIdeal.main_arg3)
      ∧ r.2.mem ((c.tc : Thread Cert.RConvIdeal.nD Cert.RConvIdeal.τ).loc Cert.RConvIdeal.main_arg4) = m ((c.tc : Thread Cert.RConvIdeal.nD Cert.RConvIdeal.τ).loc Cert.RConvIdeal.main_arg4))
      ∧ r.2.sem = fun _ => 0)

def quiescent_KGw [hKGw : Cert.KGw.Facts] : Prop :=
  ∀ (m : (ℓ : Loc Cert.KGw.nD Cert.KGw.τ Cert.KGw.sig) → Buf (Elt Bits) ℓ) (g : Dev Cert.KGw.nD → PrngReg), Pre_KGw m →
    θ_run (Cert.KGw.defs (F := Bits)) (onTc (τ := Cert.KGw.τ) (Cert.KGw.main (F := Bits))) ⟨m, fun _ => 0, g⟩ (fun r => (∀ c : Dev Cert.KGw.nD,
      r.2.mem ((c.tc : Thread Cert.KGw.nD Cert.KGw.τ).loc Cert.KGw.main_arg0) = m ((c.tc : Thread Cert.KGw.nD Cert.KGw.τ).loc Cert.KGw.main_arg0)
      ∧ r.2.mem ((c.tc : Thread Cert.KGw.nD Cert.KGw.τ).loc Cert.KGw.main_arg1) = m ((c.tc : Thread Cert.KGw.nD Cert.KGw.τ).loc Cert.KGw.main_arg1))
      ∧ r.2.sem = fun _ => 0)

def quiescent_KGwIdeal [hKGwIdeal : Cert.KGwIdeal.Facts] : Prop :=
  ∀ (m : (ℓ : Loc Cert.KGwIdeal.nD Cert.KGwIdeal.τ Cert.KGwIdeal.sig) → Buf (Elt Ideal) ℓ) (g : Dev Cert.KGwIdeal.nD → PrngReg), Pre_KGwIdeal m →
    θ_run (Cert.KGwIdeal.defs (F := Ideal)) (onTc (τ := Cert.KGwIdeal.τ) (Cert.KGwIdeal.main (F := Ideal))) ⟨m, fun _ => 0, g⟩ (fun r => (∀ c : Dev Cert.KGwIdeal.nD,
      r.2.mem ((c.tc : Thread Cert.KGwIdeal.nD Cert.KGwIdeal.τ).loc Cert.KGwIdeal.main_arg0) = m ((c.tc : Thread Cert.KGwIdeal.nD Cert.KGwIdeal.τ).loc Cert.KGwIdeal.main_arg0)
      ∧ r.2.mem ((c.tc : Thread Cert.KGwIdeal.nD Cert.KGwIdeal.τ).loc Cert.KGwIdeal.main_arg1) = m ((c.tc : Thread Cert.KGwIdeal.nD Cert.KGwIdeal.τ).loc Cert.KGwIdeal.main_arg1))
      ∧ r.2.sem = fun _ => 0)

def quiescent_RGwIdeal [hRGwIdeal : Cert.RGwIdeal.Facts] : Prop :=
  ∀ (m : (ℓ : Loc Cert.RGwIdeal.nD Cert.RGwIdeal.τ Cert.RGwIdeal.sig) → Buf (Elt Ideal) ℓ) (g : Dev Cert.RGwIdeal.nD → PrngReg), Pre_RGwIdeal m →
    θ_run (Cert.RGwIdeal.defs (F := Ideal)) (onTc (τ := Cert.RGwIdeal.τ) (Cert.RGwIdeal.main (F := Ideal))) ⟨m, fun _ => 0, g⟩ (fun r => (∀ c : Dev Cert.RGwIdeal.nD,
      r.2.mem ((c.tc : Thread Cert.RGwIdeal.nD Cert.RGwIdeal.τ).loc Cert.RGwIdeal.main_arg0) = m ((c.tc : Thread Cert.RGwIdeal.nD Cert.RGwIdeal.τ).loc Cert.RGwIdeal.main_arg0)
      ∧ r.2.mem ((c.tc : Thread Cert.RGwIdeal.nD Cert.RGwIdeal.τ).loc Cert.RGwIdeal.main_arg1) = m ((c.tc : Thread Cert.RGwIdeal.nD Cert.RGwIdeal.τ).loc Cert.RGwIdeal.main_arg1))
      ∧ r.2.sem = fun _ => 0)

def quiescent_KFfn [hKFfn : Cert.KFfn.Facts] : Prop :=
  ∀ (m : (ℓ : Loc Cert.KFfn.nD Cert.KFfn.τ Cert.KFfn.sig) → Buf (Elt Bits) ℓ) (g : Dev Cert.KFfn.nD → PrngReg), Pre_KFfn m →
    θ_run (Cert.KFfn.defs (F := Bits)) (onTc (τ := Cert.KFfn.τ) (Cert.KFfn.main (F := Bits))) ⟨m, fun _ => 0, g⟩ (fun r => (∀ c : Dev Cert.KFfn.nD,
      r.2.mem ((c.tc : Thread Cert.KFfn.nD Cert.KFfn.τ).loc Cert.KFfn.main_arg0) = m ((c.tc : Thread Cert.KFfn.nD Cert.KFfn.τ).loc Cert.KFfn.main_arg0)
      ∧ r.2.mem ((c.tc : Thread Cert.KFfn.nD Cert.KFfn.τ).loc Cert.KFfn.main_arg1) = m ((c.tc : Thread Cert.KFfn.nD Cert.KFfn.τ).loc Cert.KFfn.main_arg1)
      ∧ r.2.mem ((c.tc : Thread Cert.KFfn.nD Cert.KFfn.τ).loc Cert.KFfn.main_arg2) = m ((c.tc : Thread Cert.KFfn.nD Cert.KFfn.τ).loc Cert.KFfn.main_arg2)
      ∧ r.2.mem ((c.tc : Thread Cert.KFfn.nD Cert.KFfn.τ).loc Cert.KFfn.main_arg3) = m ((c.tc : Thread Cert.KFfn.nD Cert.KFfn.τ).loc Cert.KFfn.main_arg3)
      ∧ r.2.mem ((c.tc : Thread Cert.KFfn.nD Cert.KFfn.τ).loc Cert.KFfn.main_arg4) = m ((c.tc : Thread Cert.KFfn.nD Cert.KFfn.τ).loc Cert.KFfn.main_arg4)
      ∧ r.2.mem ((c.tc : Thread Cert.KFfn.nD Cert.KFfn.τ).loc Cert.KFfn.main_arg5) = m ((c.tc : Thread Cert.KFfn.nD Cert.KFfn.τ).loc Cert.KFfn.main_arg5)
      ∧ r.2.mem ((c.tc : Thread Cert.KFfn.nD Cert.KFfn.τ).loc Cert.KFfn.main_arg6) = m ((c.tc : Thread Cert.KFfn.nD Cert.KFfn.τ).loc Cert.KFfn.main_arg6)
      ∧ r.2.mem ((c.tc : Thread Cert.KFfn.nD Cert.KFfn.τ).loc Cert.KFfn.main_arg7) = m ((c.tc : Thread Cert.KFfn.nD Cert.KFfn.τ).loc Cert.KFfn.main_arg7)
      ∧ r.2.mem ((c.tc : Thread Cert.KFfn.nD Cert.KFfn.τ).loc Cert.KFfn.main_arg8) = m ((c.tc : Thread Cert.KFfn.nD Cert.KFfn.τ).loc Cert.KFfn.main_arg8)
      ∧ r.2.mem ((c.tc : Thread Cert.KFfn.nD Cert.KFfn.τ).loc Cert.KFfn.main_arg9) = m ((c.tc : Thread Cert.KFfn.nD Cert.KFfn.τ).loc Cert.KFfn.main_arg9))
      ∧ r.2.sem = fun _ => 0)

def quiescent_KFfnIdeal [hKFfnIdeal : Cert.KFfnIdeal.Facts] : Prop :=
  ∀ (m : (ℓ : Loc Cert.KFfnIdeal.nD Cert.KFfnIdeal.τ Cert.KFfnIdeal.sig) → Buf (Elt Ideal) ℓ) (g : Dev Cert.KFfnIdeal.nD → PrngReg), Pre_KFfnIdeal m →
    θ_run (Cert.KFfnIdeal.defs (F := Ideal)) (onTc (τ := Cert.KFfnIdeal.τ) (Cert.KFfnIdeal.main (F := Ideal))) ⟨m, fun _ => 0, g⟩ (fun r => (∀ c : Dev Cert.KFfnIdeal.nD,
      r.2.mem ((c.tc : Thread Cert.KFfnIdeal.nD Cert.KFfnIdeal.τ).loc Cert.KFfnIdeal.main_arg0) = m ((c.tc : Thread Cert.KFfnIdeal.nD Cert.KFfnIdeal.τ).loc Cert.KFfnIdeal.main_arg0)
      ∧ r.2.mem ((c.tc : Thread Cert.KFfnIdeal.nD Cert.KFfnIdeal.τ).loc Cert.KFfnIdeal.main_arg1) = m ((c.tc : Thread Cert.KFfnIdeal.nD Cert.KFfnIdeal.τ).loc Cert.KFfnIdeal.main_arg1)
      ∧ r.2.mem ((c.tc : Thread Cert.KFfnIdeal.nD Cert.KFfnIdeal.τ).loc Cert.KFfnIdeal.main_arg2) = m ((c.tc : Thread Cert.KFfnIdeal.nD Cert.KFfnIdeal.τ).loc Cert.KFfnIdeal.main_arg2)
      ∧ r.2.mem ((c.tc : Thread Cert.KFfnIdeal.nD Cert.KFfnIdeal.τ).loc Cert.KFfnIdeal.main_arg3) = m ((c.tc : Thread Cert.KFfnIdeal.nD Cert.KFfnIdeal.τ).loc Cert.KFfnIdeal.main_arg3)
      ∧ r.2.mem ((c.tc : Thread Cert.KFfnIdeal.nD Cert.KFfnIdeal.τ).loc Cert.KFfnIdeal.main_arg4) = m ((c.tc : Thread Cert.KFfnIdeal.nD Cert.KFfnIdeal.τ).loc Cert.KFfnIdeal.main_arg4)
      ∧ r.2.mem ((c.tc : Thread Cert.KFfnIdeal.nD Cert.KFfnIdeal.τ).loc Cert.KFfnIdeal.main_arg5) = m ((c.tc : Thread Cert.KFfnIdeal.nD Cert.KFfnIdeal.τ).loc Cert.KFfnIdeal.main_arg5)
      ∧ r.2.mem ((c.tc : Thread Cert.KFfnIdeal.nD Cert.KFfnIdeal.τ).loc Cert.KFfnIdeal.main_arg6) = m ((c.tc : Thread Cert.KFfnIdeal.nD Cert.KFfnIdeal.τ).loc Cert.KFfnIdeal.main_arg6)
      ∧ r.2.mem ((c.tc : Thread Cert.KFfnIdeal.nD Cert.KFfnIdeal.τ).loc Cert.KFfnIdeal.main_arg7) = m ((c.tc : Thread Cert.KFfnIdeal.nD Cert.KFfnIdeal.τ).loc Cert.KFfnIdeal.main_arg7)
      ∧ r.2.mem ((c.tc : Thread Cert.KFfnIdeal.nD Cert.KFfnIdeal.τ).loc Cert.KFfnIdeal.main_arg8) = m ((c.tc : Thread Cert.KFfnIdeal.nD Cert.KFfnIdeal.τ).loc Cert.KFfnIdeal.main_arg8)
      ∧ r.2.mem ((c.tc : Thread Cert.KFfnIdeal.nD Cert.KFfnIdeal.τ).loc Cert.KFfnIdeal.main_arg9) = m ((c.tc : Thread Cert.KFfnIdeal.nD Cert.KFfnIdeal.τ).loc Cert.KFfnIdeal.main_arg9))
      ∧ r.2.sem = fun _ => 0)

def quiescent_KFfnIdeal_pre_ffn_finite [hKFfnIdeal : Cert.KFfnIdeal.Facts] [hPre_ffn_finite : Cert.Pre_ffn_finite.Facts] : Prop :=
  ∀ (m : (ℓ : Loc Cert.KFfnIdeal.nD Cert.KFfnIdeal.τ Cert.KFfnIdeal.sig) → Buf (Elt Ideal) ℓ) (g : Dev Cert.KFfnIdeal.nD → PrngReg), Pre_KFfnIdeal_ffn_finite m →
    θ_run (Cert.KFfnIdeal.defs (F := Ideal)) (onTc (τ := Cert.KFfnIdeal.τ) (Cert.KFfnIdeal.main (F := Ideal))) ⟨m, fun _ => 0, g⟩ (fun r => (∀ c : Dev Cert.KFfnIdeal.nD,
      r.2.mem ((c.tc : Thread Cert.KFfnIdeal.nD Cert.KFfnIdeal.τ).loc Cert.KFfnIdeal.main_arg0) = m ((c.tc : Thread Cert.KFfnIdeal.nD Cert.KFfnIdeal.τ).loc Cert.KFfnIdeal.main_arg0)
      ∧ r.2.mem ((c.tc : Thread Cert.KFfnIdeal.nD Cert.KFfnIdeal.τ).loc Cert.KFfnIdeal.main_arg1) = m ((c.tc : Thread Cert.KFfnIdeal.nD Cert.KFfnIdeal.τ).loc Cert.KFfnIdeal.main_arg1)
      ∧ r.2.mem ((c.tc : Thread Cert.KFfnIdeal.nD Cert.KFfnIdeal.τ).loc Cert.KFfnIdeal.main_arg2) = m ((c.tc : Thread Cert.KFfnIdeal.nD Cert.KFfnIdeal.τ).loc Cert.KFfnIdeal.main_arg2)
      ∧ r.2.mem ((c.tc : Thread Cert.KFfnIdeal.nD Cert.KFfnIdeal.τ).loc Cert.KFfnIdeal.main_arg3) = m ((c.tc : Thread Cert.KFfnIdeal.nD Cert.KFfnIdeal.τ).loc Cert.KFfnIdeal.main_arg3)
      ∧ r.2.mem ((c.tc : Thread Cert.KFfnIdeal.nD Cert.KFfnIdeal.τ).loc Cert.KFfnIdeal.main_arg4) = m ((c.tc : Thread Cert.KFfnIdeal.nD Cert.KFfnIdeal.τ).loc Cert.KFfnIdeal.main_arg4)
      ∧ r.2.mem ((c.tc : Thread Cert.KFfnIdeal.nD Cert.KFfnIdeal.τ).loc Cert.KFfnIdeal.main_arg5) = m ((c.tc : Thread Cert.KFfnIdeal.nD Cert.KFfnIdeal.τ).loc Cert.KFfnIdeal.main_arg5)
      ∧ r.2.mem ((c.tc : Thread Cert.KFfnIdeal.nD Cert.KFfnIdeal.τ).loc Cert.KFfnIdeal.main_arg6) = m ((c.tc : Thread Cert.KFfnIdeal.nD Cert.KFfnIdeal.τ).loc Cert.KFfnIdeal.main_arg6)
      ∧ r.2.mem ((c.tc : Thread Cert.KFfnIdeal.nD Cert.KFfnIdeal.τ).loc Cert.KFfnIdeal.main_arg7) = m ((c.tc : Thread Cert.KFfnIdeal.nD Cert.KFfnIdeal.τ).loc Cert.KFfnIdeal.main_arg7)
      ∧ r.2.mem ((c.tc : Thread Cert.KFfnIdeal.nD Cert.KFfnIdeal.τ).loc Cert.KFfnIdeal.main_arg8) = m ((c.tc : Thread Cert.KFfnIdeal.nD Cert.KFfnIdeal.τ).loc Cert.KFfnIdeal.main_arg8)
      ∧ r.2.mem ((c.tc : Thread Cert.KFfnIdeal.nD Cert.KFfnIdeal.τ).loc Cert.KFfnIdeal.main_arg9) = m ((c.tc : Thread Cert.KFfnIdeal.nD Cert.KFfnIdeal.τ).loc Cert.KFfnIdeal.main_arg9))
      ∧ r.2.sem = fun _ => 0)

def quiescent_RFfnIdeal [hRFfnIdeal : Cert.RFfnIdeal.Facts] : Prop :=
  ∀ (m : (ℓ : Loc Cert.RFfnIdeal.nD Cert.RFfnIdeal.τ Cert.RFfnIdeal.sig) → Buf (Elt Ideal) ℓ) (g : Dev Cert.RFfnIdeal.nD → PrngReg), Pre_RFfnIdeal m →
    θ_run (Cert.RFfnIdeal.defs (F := Ideal)) (onTc (τ := Cert.RFfnIdeal.τ) (Cert.RFfnIdeal.main (F := Ideal))) ⟨m, fun _ => 0, g⟩ (fun r => (∀ c : Dev Cert.RFfnIdeal.nD,
      r.2.mem ((c.tc : Thread Cert.RFfnIdeal.nD Cert.RFfnIdeal.τ).loc Cert.RFfnIdeal.main_arg0) = m ((c.tc : Thread Cert.RFfnIdeal.nD Cert.RFfnIdeal.τ).loc Cert.RFfnIdeal.main_arg0)
      ∧ r.2.mem ((c.tc : Thread Cert.RFfnIdeal.nD Cert.RFfnIdeal.τ).loc Cert.RFfnIdeal.main_arg1) = m ((c.tc : Thread Cert.RFfnIdeal.nD Cert.RFfnIdeal.τ).loc Cert.RFfnIdeal.main_arg1)
      ∧ r.2.mem ((c.tc : Thread Cert.RFfnIdeal.nD Cert.RFfnIdeal.τ).loc Cert.RFfnIdeal.main_arg2) = m ((c.tc : Thread Cert.RFfnIdeal.nD Cert.RFfnIdeal.τ).loc Cert.RFfnIdeal.main_arg2)
      ∧ r.2.mem ((c.tc : Thread Cert.RFfnIdeal.nD Cert.RFfnIdeal.τ).loc Cert.RFfnIdeal.main_arg3) = m ((c.tc : Thread Cert.RFfnIdeal.nD Cert.RFfnIdeal.τ).loc Cert.RFfnIdeal.main_arg3)
      ∧ r.2.mem ((c.tc : Thread Cert.RFfnIdeal.nD Cert.RFfnIdeal.τ).loc Cert.RFfnIdeal.main_arg4) = m ((c.tc : Thread Cert.RFfnIdeal.nD Cert.RFfnIdeal.τ).loc Cert.RFfnIdeal.main_arg4)
      ∧ r.2.mem ((c.tc : Thread Cert.RFfnIdeal.nD Cert.RFfnIdeal.τ).loc Cert.RFfnIdeal.main_arg5) = m ((c.tc : Thread Cert.RFfnIdeal.nD Cert.RFfnIdeal.τ).loc Cert.RFfnIdeal.main_arg5)
      ∧ r.2.mem ((c.tc : Thread Cert.RFfnIdeal.nD Cert.RFfnIdeal.τ).loc Cert.RFfnIdeal.main_arg6) = m ((c.tc : Thread Cert.RFfnIdeal.nD Cert.RFfnIdeal.τ).loc Cert.RFfnIdeal.main_arg6)
      ∧ r.2.mem ((c.tc : Thread Cert.RFfnIdeal.nD Cert.RFfnIdeal.τ).loc Cert.RFfnIdeal.main_arg7) = m ((c.tc : Thread Cert.RFfnIdeal.nD Cert.RFfnIdeal.τ).loc Cert.RFfnIdeal.main_arg7)
      ∧ r.2.mem ((c.tc : Thread Cert.RFfnIdeal.nD Cert.RFfnIdeal.τ).loc Cert.RFfnIdeal.main_arg8) = m ((c.tc : Thread Cert.RFfnIdeal.nD Cert.RFfnIdeal.τ).loc Cert.RFfnIdeal.main_arg8)
      ∧ r.2.mem ((c.tc : Thread Cert.RFfnIdeal.nD Cert.RFfnIdeal.τ).loc Cert.RFfnIdeal.main_arg9) = m ((c.tc : Thread Cert.RFfnIdeal.nD Cert.RFfnIdeal.τ).loc Cert.RFfnIdeal.main_arg9))
      ∧ r.2.sem = fun _ => 0)

def quiescent_RFfnIdeal_pre_ffn_finite [hRFfnIdeal : Cert.RFfnIdeal.Facts] [hPre_ffn_finite : Cert.Pre_ffn_finite.Facts] : Prop :=
  ∀ (m : (ℓ : Loc Cert.RFfnIdeal.nD Cert.RFfnIdeal.τ Cert.RFfnIdeal.sig) → Buf (Elt Ideal) ℓ) (g : Dev Cert.RFfnIdeal.nD → PrngReg), Pre_RFfnIdeal_ffn_finite m →
    θ_run (Cert.RFfnIdeal.defs (F := Ideal)) (onTc (τ := Cert.RFfnIdeal.τ) (Cert.RFfnIdeal.main (F := Ideal))) ⟨m, fun _ => 0, g⟩ (fun r => (∀ c : Dev Cert.RFfnIdeal.nD,
      r.2.mem ((c.tc : Thread Cert.RFfnIdeal.nD Cert.RFfnIdeal.τ).loc Cert.RFfnIdeal.main_arg0) = m ((c.tc : Thread Cert.RFfnIdeal.nD Cert.RFfnIdeal.τ).loc Cert.RFfnIdeal.main_arg0)
      ∧ r.2.mem ((c.tc : Thread Cert.RFfnIdeal.nD Cert.RFfnIdeal.τ).loc Cert.RFfnIdeal.main_arg1) = m ((c.tc : Thread Cert.RFfnIdeal.nD Cert.RFfnIdeal.τ).loc Cert.RFfnIdeal.main_arg1)
      ∧ r.2.mem ((c.tc : Thread Cert.RFfnIdeal.nD Cert.RFfnIdeal.τ).loc Cert.RFfnIdeal.main_arg2) = m ((c.tc : Thread Cert.RFfnIdeal.nD Cert.RFfnIdeal.τ).loc Cert.RFfnIdeal.main_arg2)
      ∧ r.2.mem ((c.tc : Thread Cert.RFfnIdeal.nD Cert.RFfnIdeal.τ).loc Cert.RFfnIdeal.main_arg3) = m ((c.tc : Thread Cert.RFfnIdeal.nD Cert.RFfnIdeal.τ).loc Cert.RFfnIdeal.main_arg3)
      ∧ r.2.mem ((c.tc : Thread Cert.RFfnIdeal.nD Cert.RFfnIdeal.τ).loc Cert.RFfnIdeal.main_arg4) = m ((c.tc : Thread Cert.RFfnIdeal.nD Cert.RFfnIdeal.τ).loc Cert.RFfnIdeal.main_arg4)
      ∧ r.2.mem ((c.tc : Thread Cert.RFfnIdeal.nD Cert.RFfnIdeal.τ).loc Cert.RFfnIdeal.main_arg5) = m ((c.tc : Thread Cert.RFfnIdeal.nD Cert.RFfnIdeal.τ).loc Cert.RFfnIdeal.main_arg5)
      ∧ r.2.mem ((c.tc : Thread Cert.RFfnIdeal.nD Cert.RFfnIdeal.τ).loc Cert.RFfnIdeal.main_arg6) = m ((c.tc : Thread Cert.RFfnIdeal.nD Cert.RFfnIdeal.τ).loc Cert.RFfnIdeal.main_arg6)
      ∧ r.2.mem ((c.tc : Thread Cert.RFfnIdeal.nD Cert.RFfnIdeal.τ).loc Cert.RFfnIdeal.main_arg7) = m ((c.tc : Thread Cert.RFfnIdeal.nD Cert.RFfnIdeal.τ).loc Cert.RFfnIdeal.main_arg7)
      ∧ r.2.mem ((c.tc : Thread Cert.RFfnIdeal.nD Cert.RFfnIdeal.τ).loc Cert.RFfnIdeal.main_arg8) = m ((c.tc : Thread Cert.RFfnIdeal.nD Cert.RFfnIdeal.τ).loc Cert.RFfnIdeal.main_arg8)
      ∧ r.2.mem ((c.tc : Thread Cert.RFfnIdeal.nD Cert.RFfnIdeal.τ).loc Cert.RFfnIdeal.main_arg9) = m ((c.tc : Thread Cert.RFfnIdeal.nD Cert.RFfnIdeal.τ).loc Cert.RFfnIdeal.main_arg9))
      ∧ r.2.sem = fun _ => 0)

def quiescent_KFwd [hKFwd : Cert.KFwd.Facts] : Prop :=
  ∀ (m : (ℓ : Loc Cert.KFwd.nD Cert.KFwd.τ Cert.KFwd.sig) → Buf (Elt Bits) ℓ) (g : Dev Cert.KFwd.nD → PrngReg), Pre_KFwd m →
    θ_run (Cert.KFwd.defs (F := Bits)) (onTc (τ := Cert.KFwd.τ) (Cert.KFwd.main (F := Bits))) ⟨m, fun _ => 0, g⟩ (fun r => (∀ c : Dev Cert.KFwd.nD,
      r.2.mem ((c.tc : Thread Cert.KFwd.nD Cert.KFwd.τ).loc Cert.KFwd.main_arg0) = m ((c.tc : Thread Cert.KFwd.nD Cert.KFwd.τ).loc Cert.KFwd.main_arg0)
      ∧ r.2.mem ((c.tc : Thread Cert.KFwd.nD Cert.KFwd.τ).loc Cert.KFwd.main_arg1) = m ((c.tc : Thread Cert.KFwd.nD Cert.KFwd.τ).loc Cert.KFwd.main_arg1)
      ∧ r.2.mem ((c.tc : Thread Cert.KFwd.nD Cert.KFwd.τ).loc Cert.KFwd.main_arg2) = m ((c.tc : Thread Cert.KFwd.nD Cert.KFwd.τ).loc Cert.KFwd.main_arg2)
      ∧ r.2.mem ((c.tc : Thread Cert.KFwd.nD Cert.KFwd.τ).loc Cert.KFwd.main_arg3) = m ((c.tc : Thread Cert.KFwd.nD Cert.KFwd.τ).loc Cert.KFwd.main_arg3)
      ∧ r.2.mem ((c.tc : Thread Cert.KFwd.nD Cert.KFwd.τ).loc Cert.KFwd.main_arg4) = m ((c.tc : Thread Cert.KFwd.nD Cert.KFwd.τ).loc Cert.KFwd.main_arg4)
      ∧ r.2.mem ((c.tc : Thread Cert.KFwd.nD Cert.KFwd.τ).loc Cert.KFwd.main_arg5) = m ((c.tc : Thread Cert.KFwd.nD Cert.KFwd.τ).loc Cert.KFwd.main_arg5)
      ∧ r.2.mem ((c.tc : Thread Cert.KFwd.nD Cert.KFwd.τ).loc Cert.KFwd.main_arg6) = m ((c.tc : Thread Cert.KFwd.nD Cert.KFwd.τ).loc Cert.KFwd.main_arg6)
      ∧ r.2.mem ((c.tc : Thread Cert.KFwd.nD Cert.KFwd.τ).loc Cert.KFwd.main_arg7) = m ((c.tc : Thread Cert.KFwd.nD Cert.KFwd.τ).loc Cert.KFwd.main_arg7))
      ∧ r.2.sem = fun _ => 0)

def quiescent_KFwdIdeal [hKFwdIdeal : Cert.KFwdIdeal.Facts] : Prop :=
  ∀ (m : (ℓ : Loc Cert.KFwdIdeal.nD Cert.KFwdIdeal.τ Cert.KFwdIdeal.sig) → Buf (Elt Ideal) ℓ) (g : Dev Cert.KFwdIdeal.nD → PrngReg), Pre_KFwdIdeal m →
    θ_run (Cert.KFwdIdeal.defs (F := Ideal)) (onTc (τ := Cert.KFwdIdeal.τ) (Cert.KFwdIdeal.main (F := Ideal))) ⟨m, fun _ => 0, g⟩ (fun r => (∀ c : Dev Cert.KFwdIdeal.nD,
      r.2.mem ((c.tc : Thread Cert.KFwdIdeal.nD Cert.KFwdIdeal.τ).loc Cert.KFwdIdeal.main_arg0) = m ((c.tc : Thread Cert.KFwdIdeal.nD Cert.KFwdIdeal.τ).loc Cert.KFwdIdeal.main_arg0)
      ∧ r.2.mem ((c.tc : Thread Cert.KFwdIdeal.nD Cert.KFwdIdeal.τ).loc Cert.KFwdIdeal.main_arg1) = m ((c.tc : Thread Cert.KFwdIdeal.nD Cert.KFwdIdeal.τ).loc Cert.KFwdIdeal.main_arg1)
      ∧ r.2.mem ((c.tc : Thread Cert.KFwdIdeal.nD Cert.KFwdIdeal.τ).loc Cert.KFwdIdeal.main_arg2) = m ((c.tc : Thread Cert.KFwdIdeal.nD Cert.KFwdIdeal.τ).loc Cert.KFwdIdeal.main_arg2)
      ∧ r.2.mem ((c.tc : Thread Cert.KFwdIdeal.nD Cert.KFwdIdeal.τ).loc Cert.KFwdIdeal.main_arg3) = m ((c.tc : Thread Cert.KFwdIdeal.nD Cert.KFwdIdeal.τ).loc Cert.KFwdIdeal.main_arg3)
      ∧ r.2.mem ((c.tc : Thread Cert.KFwdIdeal.nD Cert.KFwdIdeal.τ).loc Cert.KFwdIdeal.main_arg4) = m ((c.tc : Thread Cert.KFwdIdeal.nD Cert.KFwdIdeal.τ).loc Cert.KFwdIdeal.main_arg4)
      ∧ r.2.mem ((c.tc : Thread Cert.KFwdIdeal.nD Cert.KFwdIdeal.τ).loc Cert.KFwdIdeal.main_arg5) = m ((c.tc : Thread Cert.KFwdIdeal.nD Cert.KFwdIdeal.τ).loc Cert.KFwdIdeal.main_arg5)
      ∧ r.2.mem ((c.tc : Thread Cert.KFwdIdeal.nD Cert.KFwdIdeal.τ).loc Cert.KFwdIdeal.main_arg6) = m ((c.tc : Thread Cert.KFwdIdeal.nD Cert.KFwdIdeal.τ).loc Cert.KFwdIdeal.main_arg6)
      ∧ r.2.mem ((c.tc : Thread Cert.KFwdIdeal.nD Cert.KFwdIdeal.τ).loc Cert.KFwdIdeal.main_arg7) = m ((c.tc : Thread Cert.KFwdIdeal.nD Cert.KFwdIdeal.τ).loc Cert.KFwdIdeal.main_arg7))
      ∧ r.2.sem = fun _ => 0)

def quiescent_RFwdIdeal [hRFwdIdeal : Cert.RFwdIdeal.Facts] : Prop :=
  ∀ (m : (ℓ : Loc Cert.RFwdIdeal.nD Cert.RFwdIdeal.τ Cert.RFwdIdeal.sig) → Buf (Elt Ideal) ℓ) (g : Dev Cert.RFwdIdeal.nD → PrngReg), Pre_RFwdIdeal m →
    θ_run (Cert.RFwdIdeal.defs (F := Ideal)) (onTc (τ := Cert.RFwdIdeal.τ) (Cert.RFwdIdeal.main (F := Ideal))) ⟨m, fun _ => 0, g⟩ (fun r => (∀ c : Dev Cert.RFwdIdeal.nD,
      r.2.mem ((c.tc : Thread Cert.RFwdIdeal.nD Cert.RFwdIdeal.τ).loc Cert.RFwdIdeal.main_arg0) = m ((c.tc : Thread Cert.RFwdIdeal.nD Cert.RFwdIdeal.τ).loc Cert.RFwdIdeal.main_arg0)
      ∧ r.2.mem ((c.tc : Thread Cert.RFwdIdeal.nD Cert.RFwdIdeal.τ).loc Cert.RFwdIdeal.main_arg1) = m ((c.tc : Thread Cert.RFwdIdeal.nD Cert.RFwdIdeal.τ).loc Cert.RFwdIdeal.main_arg1)
      ∧ r.2.mem ((c.tc : Thread Cert.RFwdIdeal.nD Cert.RFwdIdeal.τ).loc Cert.RFwdIdeal.main_arg2) = m ((c.tc : Thread Cert.RFwdIdeal.nD Cert.RFwdIdeal.τ).loc Cert.RFwdIdeal.main_arg2)
      ∧ r.2.mem ((c.tc : Thread Cert.RFwdIdeal.nD Cert.RFwdIdeal.τ).loc Cert.RFwdIdeal.main_arg3) = m ((c.tc : Thread Cert.RFwdIdeal.nD Cert.RFwdIdeal.τ).loc Cert.RFwdIdeal.main_arg3)
      ∧ r.2.mem ((c.tc : Thread Cert.RFwdIdeal.nD Cert.RFwdIdeal.τ).loc Cert.RFwdIdeal.main_arg4) = m ((c.tc : Thread Cert.RFwdIdeal.nD Cert.RFwdIdeal.τ).loc Cert.RFwdIdeal.main_arg4)
      ∧ r.2.mem ((c.tc : Thread Cert.RFwdIdeal.nD Cert.RFwdIdeal.τ).loc Cert.RFwdIdeal.main_arg5) = m ((c.tc : Thread Cert.RFwdIdeal.nD Cert.RFwdIdeal.τ).loc Cert.RFwdIdeal.main_arg5)
      ∧ r.2.mem ((c.tc : Thread Cert.RFwdIdeal.nD Cert.RFwdIdeal.τ).loc Cert.RFwdIdeal.main_arg6) = m ((c.tc : Thread Cert.RFwdIdeal.nD Cert.RFwdIdeal.τ).loc Cert.RFwdIdeal.main_arg6)
      ∧ r.2.mem ((c.tc : Thread Cert.RFwdIdeal.nD Cert.RFwdIdeal.τ).loc Cert.RFwdIdeal.main_arg7) = m ((c.tc : Thread Cert.RFwdIdeal.nD Cert.RFwdIdeal.τ).loc Cert.RFwdIdeal.main_arg7))
      ∧ r.2.sem = fun _ => 0)

def quiescent_KAttn [hKAttn : Cert.KAttn.Facts] : Prop :=
  ∀ (m : (ℓ : Loc Cert.KAttn.nD Cert.KAttn.τ Cert.KAttn.sig) → Buf (Elt Bits) ℓ) (g : Dev Cert.KAttn.nD → PrngReg), Pre_KAttn m →
    θ_run (Cert.KAttn.defs (F := Bits)) (onTc (τ := Cert.KAttn.τ) (Cert.KAttn.main (F := Bits))) ⟨m, fun _ => 0, g⟩ (fun r => (∀ c : Dev Cert.KAttn.nD,
      r.2.mem ((c.tc : Thread Cert.KAttn.nD Cert.KAttn.τ).loc Cert.KAttn.main_arg0) = m ((c.tc : Thread Cert.KAttn.nD Cert.KAttn.τ).loc Cert.KAttn.main_arg0)
      ∧ r.2.mem ((c.tc : Thread Cert.KAttn.nD Cert.KAttn.τ).loc Cert.KAttn.main_arg1) = m ((c.tc : Thread Cert.KAttn.nD Cert.KAttn.τ).loc Cert.KAttn.main_arg1)
      ∧ r.2.mem ((c.tc : Thread Cert.KAttn.nD Cert.KAttn.τ).loc Cert.KAttn.main_arg2) = m ((c.tc : Thread Cert.KAttn.nD Cert.KAttn.τ).loc Cert.KAttn.main_arg2)
      ∧ r.2.mem ((c.tc : Thread Cert.KAttn.nD Cert.KAttn.τ).loc Cert.KAttn.main_arg3) = m ((c.tc : Thread Cert.KAttn.nD Cert.KAttn.τ).loc Cert.KAttn.main_arg3)
      ∧ r.2.mem ((c.tc : Thread Cert.KAttn.nD Cert.KAttn.τ).loc Cert.KAttn.main_arg4) = m ((c.tc : Thread Cert.KAttn.nD Cert.KAttn.τ).loc Cert.KAttn.main_arg4)
      ∧ r.2.mem ((c.tc : Thread Cert.KAttn.nD Cert.KAttn.τ).loc Cert.KAttn.main_arg5) = m ((c.tc : Thread Cert.KAttn.nD Cert.KAttn.τ).loc Cert.KAttn.main_arg5)
      ∧ r.2.mem ((c.tc : Thread Cert.KAttn.nD Cert.KAttn.τ).loc Cert.KAttn.main_arg6) = m ((c.tc : Thread Cert.KAttn.nD Cert.KAttn.τ).loc Cert.KAttn.main_arg6)
      ∧ r.2.mem ((c.tc : Thread Cert.KAttn.nD Cert.KAttn.τ).loc Cert.KAttn.main_arg7) = m ((c.tc : Thread Cert.KAttn.nD Cert.KAttn.τ).loc Cert.KAttn.main_arg7))
      ∧ r.2.sem = fun _ => 0)

def quiescent_KAttnIdeal [hKAttnIdeal : Cert.KAttnIdeal.Facts] : Prop :=
  ∀ (m : (ℓ : Loc Cert.KAttnIdeal.nD Cert.KAttnIdeal.τ Cert.KAttnIdeal.sig) → Buf (Elt Ideal) ℓ) (g : Dev Cert.KAttnIdeal.nD → PrngReg), Pre_KAttnIdeal m →
    θ_run (Cert.KAttnIdeal.defs (F := Ideal)) (onTc (τ := Cert.KAttnIdeal.τ) (Cert.KAttnIdeal.main (F := Ideal))) ⟨m, fun _ => 0, g⟩ (fun r => (∀ c : Dev Cert.KAttnIdeal.nD,
      r.2.mem ((c.tc : Thread Cert.KAttnIdeal.nD Cert.KAttnIdeal.τ).loc Cert.KAttnIdeal.main_arg0) = m ((c.tc : Thread Cert.KAttnIdeal.nD Cert.KAttnIdeal.τ).loc Cert.KAttnIdeal.main_arg0)
      ∧ r.2.mem ((c.tc : Thread Cert.KAttnIdeal.nD Cert.KAttnIdeal.τ).loc Cert.KAttnIdeal.main_arg1) = m ((c.tc : Thread Cert.KAttnIdeal.nD Cert.KAttnIdeal.τ).loc Cert.KAttnIdeal.main_arg1)
      ∧ r.2.mem ((c.tc : Thread Cert.KAttnIdeal.nD Cert.KAttnIdeal.τ).loc Cert.KAttnIdeal.main_arg2) = m ((c.tc : Thread Cert.KAttnIdeal.nD Cert.KAttnIdeal.τ).loc Cert.KAttnIdeal.main_arg2)
      ∧ r.2.mem ((c.tc : Thread Cert.KAttnIdeal.nD Cert.KAttnIdeal.τ).loc Cert.KAttnIdeal.main_arg3) = m ((c.tc : Thread Cert.KAttnIdeal.nD Cert.KAttnIdeal.τ).loc Cert.KAttnIdeal.main_arg3)
      ∧ r.2.mem ((c.tc : Thread Cert.KAttnIdeal.nD Cert.KAttnIdeal.τ).loc Cert.KAttnIdeal.main_arg4) = m ((c.tc : Thread Cert.KAttnIdeal.nD Cert.KAttnIdeal.τ).loc Cert.KAttnIdeal.main_arg4)
      ∧ r.2.mem ((c.tc : Thread Cert.KAttnIdeal.nD Cert.KAttnIdeal.τ).loc Cert.KAttnIdeal.main_arg5) = m ((c.tc : Thread Cert.KAttnIdeal.nD Cert.KAttnIdeal.τ).loc Cert.KAttnIdeal.main_arg5)
      ∧ r.2.mem ((c.tc : Thread Cert.KAttnIdeal.nD Cert.KAttnIdeal.τ).loc Cert.KAttnIdeal.main_arg6) = m ((c.tc : Thread Cert.KAttnIdeal.nD Cert.KAttnIdeal.τ).loc Cert.KAttnIdeal.main_arg6)
      ∧ r.2.mem ((c.tc : Thread Cert.KAttnIdeal.nD Cert.KAttnIdeal.τ).loc Cert.KAttnIdeal.main_arg7) = m ((c.tc : Thread Cert.KAttnIdeal.nD Cert.KAttnIdeal.τ).loc Cert.KAttnIdeal.main_arg7))
      ∧ r.2.sem = fun _ => 0)

def quiescent_KAttnIdeal_pre_attn_finite [hKAttnIdeal : Cert.KAttnIdeal.Facts] [hPre_attn_finite : Cert.Pre_attn_finite.Facts] : Prop :=
  ∀ (m : (ℓ : Loc Cert.KAttnIdeal.nD Cert.KAttnIdeal.τ Cert.KAttnIdeal.sig) → Buf (Elt Ideal) ℓ) (g : Dev Cert.KAttnIdeal.nD → PrngReg), Pre_KAttnIdeal_attn_finite m →
    θ_run (Cert.KAttnIdeal.defs (F := Ideal)) (onTc (τ := Cert.KAttnIdeal.τ) (Cert.KAttnIdeal.main (F := Ideal))) ⟨m, fun _ => 0, g⟩ (fun r => (∀ c : Dev Cert.KAttnIdeal.nD,
      r.2.mem ((c.tc : Thread Cert.KAttnIdeal.nD Cert.KAttnIdeal.τ).loc Cert.KAttnIdeal.main_arg0) = m ((c.tc : Thread Cert.KAttnIdeal.nD Cert.KAttnIdeal.τ).loc Cert.KAttnIdeal.main_arg0)
      ∧ r.2.mem ((c.tc : Thread Cert.KAttnIdeal.nD Cert.KAttnIdeal.τ).loc Cert.KAttnIdeal.main_arg1) = m ((c.tc : Thread Cert.KAttnIdeal.nD Cert.KAttnIdeal.τ).loc Cert.KAttnIdeal.main_arg1)
      ∧ r.2.mem ((c.tc : Thread Cert.KAttnIdeal.nD Cert.KAttnIdeal.τ).loc Cert.KAttnIdeal.main_arg2) = m ((c.tc : Thread Cert.KAttnIdeal.nD Cert.KAttnIdeal.τ).loc Cert.KAttnIdeal.main_arg2)
      ∧ r.2.mem ((c.tc : Thread Cert.KAttnIdeal.nD Cert.KAttnIdeal.τ).loc Cert.KAttnIdeal.main_arg3) = m ((c.tc : Thread Cert.KAttnIdeal.nD Cert.KAttnIdeal.τ).loc Cert.KAttnIdeal.main_arg3)
      ∧ r.2.mem ((c.tc : Thread Cert.KAttnIdeal.nD Cert.KAttnIdeal.τ).loc Cert.KAttnIdeal.main_arg4) = m ((c.tc : Thread Cert.KAttnIdeal.nD Cert.KAttnIdeal.τ).loc Cert.KAttnIdeal.main_arg4)
      ∧ r.2.mem ((c.tc : Thread Cert.KAttnIdeal.nD Cert.KAttnIdeal.τ).loc Cert.KAttnIdeal.main_arg5) = m ((c.tc : Thread Cert.KAttnIdeal.nD Cert.KAttnIdeal.τ).loc Cert.KAttnIdeal.main_arg5)
      ∧ r.2.mem ((c.tc : Thread Cert.KAttnIdeal.nD Cert.KAttnIdeal.τ).loc Cert.KAttnIdeal.main_arg6) = m ((c.tc : Thread Cert.KAttnIdeal.nD Cert.KAttnIdeal.τ).loc Cert.KAttnIdeal.main_arg6)
      ∧ r.2.mem ((c.tc : Thread Cert.KAttnIdeal.nD Cert.KAttnIdeal.τ).loc Cert.KAttnIdeal.main_arg7) = m ((c.tc : Thread Cert.KAttnIdeal.nD Cert.KAttnIdeal.τ).loc Cert.KAttnIdeal.main_arg7))
      ∧ r.2.sem = fun _ => 0)

def quiescent_RAttnIdeal [hRAttnIdeal : Cert.RAttnIdeal.Facts] : Prop :=
  ∀ (m : (ℓ : Loc Cert.RAttnIdeal.nD Cert.RAttnIdeal.τ Cert.RAttnIdeal.sig) → Buf (Elt Ideal) ℓ) (g : Dev Cert.RAttnIdeal.nD → PrngReg), Pre_RAttnIdeal m →
    θ_run (Cert.RAttnIdeal.defs (F := Ideal)) (onTc (τ := Cert.RAttnIdeal.τ) (Cert.RAttnIdeal.main (F := Ideal))) ⟨m, fun _ => 0, g⟩ (fun r => (∀ c : Dev Cert.RAttnIdeal.nD,
      r.2.mem ((c.tc : Thread Cert.RAttnIdeal.nD Cert.RAttnIdeal.τ).loc Cert.RAttnIdeal.main_arg0) = m ((c.tc : Thread Cert.RAttnIdeal.nD Cert.RAttnIdeal.τ).loc Cert.RAttnIdeal.main_arg0)
      ∧ r.2.mem ((c.tc : Thread Cert.RAttnIdeal.nD Cert.RAttnIdeal.τ).loc Cert.RAttnIdeal.main_arg1) = m ((c.tc : Thread Cert.RAttnIdeal.nD Cert.RAttnIdeal.τ).loc Cert.RAttnIdeal.main_arg1)
      ∧ r.2.mem ((c.tc : Thread Cert.RAttnIdeal.nD Cert.RAttnIdeal.τ).loc Cert.RAttnIdeal.main_arg2) = m ((c.tc : Thread Cert.RAttnIdeal.nD Cert.RAttnIdeal.τ).loc Cert.RAttnIdeal.main_arg2)
      ∧ r.2.mem ((c.tc : Thread Cert.RAttnIdeal.nD Cert.RAttnIdeal.τ).loc Cert.RAttnIdeal.main_arg3) = m ((c.tc : Thread Cert.RAttnIdeal.nD Cert.RAttnIdeal.τ).loc Cert.RAttnIdeal.main_arg3)
      ∧ r.2.mem ((c.tc : Thread Cert.RAttnIdeal.nD Cert.RAttnIdeal.τ).loc Cert.RAttnIdeal.main_arg4) = m ((c.tc : Thread Cert.RAttnIdeal.nD Cert.RAttnIdeal.τ).loc Cert.RAttnIdeal.main_arg4)
      ∧ r.2.mem ((c.tc : Thread Cert.RAttnIdeal.nD Cert.RAttnIdeal.τ).loc Cert.RAttnIdeal.main_arg5) = m ((c.tc : Thread Cert.RAttnIdeal.nD Cert.RAttnIdeal.τ).loc Cert.RAttnIdeal.main_arg5)
      ∧ r.2.mem ((c.tc : Thread Cert.RAttnIdeal.nD Cert.RAttnIdeal.τ).loc Cert.RAttnIdeal.main_arg6) = m ((c.tc : Thread Cert.RAttnIdeal.nD Cert.RAttnIdeal.τ).loc Cert.RAttnIdeal.main_arg6)
      ∧ r.2.mem ((c.tc : Thread Cert.RAttnIdeal.nD Cert.RAttnIdeal.τ).loc Cert.RAttnIdeal.main_arg7) = m ((c.tc : Thread Cert.RAttnIdeal.nD Cert.RAttnIdeal.τ).loc Cert.RAttnIdeal.main_arg7))
      ∧ r.2.sem = fun _ => 0)

def quiescent_RAttnIdeal_pre_attn_finite [hRAttnIdeal : Cert.RAttnIdeal.Facts] [hPre_attn_finite : Cert.Pre_attn_finite.Facts] : Prop :=
  ∀ (m : (ℓ : Loc Cert.RAttnIdeal.nD Cert.RAttnIdeal.τ Cert.RAttnIdeal.sig) → Buf (Elt Ideal) ℓ) (g : Dev Cert.RAttnIdeal.nD → PrngReg), Pre_RAttnIdeal_attn_finite m →
    θ_run (Cert.RAttnIdeal.defs (F := Ideal)) (onTc (τ := Cert.RAttnIdeal.τ) (Cert.RAttnIdeal.main (F := Ideal))) ⟨m, fun _ => 0, g⟩ (fun r => (∀ c : Dev Cert.RAttnIdeal.nD,
      r.2.mem ((c.tc : Thread Cert.RAttnIdeal.nD Cert.RAttnIdeal.τ).loc Cert.RAttnIdeal.main_arg0) = m ((c.tc : Thread Cert.RAttnIdeal.nD Cert.RAttnIdeal.τ).loc Cert.RAttnIdeal.main_arg0)
      ∧ r.2.mem ((c.tc : Thread Cert.RAttnIdeal.nD Cert.RAttnIdeal.τ).loc Cert.RAttnIdeal.main_arg1) = m ((c.tc : Thread Cert.RAttnIdeal.nD Cert.RAttnIdeal.τ).loc Cert.RAttnIdeal.main_arg1)
      ∧ r.2.mem ((c.tc : Thread Cert.RAttnIdeal.nD Cert.RAttnIdeal.τ).loc Cert.RAttnIdeal.main_arg2) = m ((c.tc : Thread Cert.RAttnIdeal.nD Cert.RAttnIdeal.τ).loc Cert.RAttnIdeal.main_arg2)
      ∧ r.2.mem ((c.tc : Thread Cert.RAttnIdeal.nD Cert.RAttnIdeal.τ).loc Cert.RAttnIdeal.main_arg3) = m ((c.tc : Thread Cert.RAttnIdeal.nD Cert.RAttnIdeal.τ).loc Cert.RAttnIdeal.main_arg3)
      ∧ r.2.mem ((c.tc : Thread Cert.RAttnIdeal.nD Cert.RAttnIdeal.τ).loc Cert.RAttnIdeal.main_arg4) = m ((c.tc : Thread Cert.RAttnIdeal.nD Cert.RAttnIdeal.τ).loc Cert.RAttnIdeal.main_arg4)
      ∧ r.2.mem ((c.tc : Thread Cert.RAttnIdeal.nD Cert.RAttnIdeal.τ).loc Cert.RAttnIdeal.main_arg5) = m ((c.tc : Thread Cert.RAttnIdeal.nD Cert.RAttnIdeal.τ).loc Cert.RAttnIdeal.main_arg5)
      ∧ r.2.mem ((c.tc : Thread Cert.RAttnIdeal.nD Cert.RAttnIdeal.τ).loc Cert.RAttnIdeal.main_arg6) = m ((c.tc : Thread Cert.RAttnIdeal.nD Cert.RAttnIdeal.τ).loc Cert.RAttnIdeal.main_arg6)
      ∧ r.2.mem ((c.tc : Thread Cert.RAttnIdeal.nD Cert.RAttnIdeal.τ).loc Cert.RAttnIdeal.main_arg7) = m ((c.tc : Thread Cert.RAttnIdeal.nD Cert.RAttnIdeal.τ).loc Cert.RAttnIdeal.main_arg7))
      ∧ r.2.sem = fun _ => 0)

def quiescent_KAtf [hKAtf : Cert.KAtf.Facts] : Prop :=
  ∀ (m : (ℓ : Loc Cert.KAtf.nD Cert.KAtf.τ Cert.KAtf.sig) → Buf (Elt Bits) ℓ) (g : Dev Cert.KAtf.nD → PrngReg), Pre_KAtf m →
    θ_run (Cert.KAtf.defs (F := Bits)) (onTc (τ := Cert.KAtf.τ) (Cert.KAtf.main (F := Bits))) ⟨m, fun _ => 0, g⟩ (fun r => (∀ c : Dev Cert.KAtf.nD,
      r.2.mem ((c.tc : Thread Cert.KAtf.nD Cert.KAtf.τ).loc Cert.KAtf.main_arg0) = m ((c.tc : Thread Cert.KAtf.nD Cert.KAtf.τ).loc Cert.KAtf.main_arg0)
      ∧ r.2.mem ((c.tc : Thread Cert.KAtf.nD Cert.KAtf.τ).loc Cert.KAtf.main_arg1) = m ((c.tc : Thread Cert.KAtf.nD Cert.KAtf.τ).loc Cert.KAtf.main_arg1)
      ∧ r.2.mem ((c.tc : Thread Cert.KAtf.nD Cert.KAtf.τ).loc Cert.KAtf.main_arg2) = m ((c.tc : Thread Cert.KAtf.nD Cert.KAtf.τ).loc Cert.KAtf.main_arg2)
      ∧ r.2.mem ((c.tc : Thread Cert.KAtf.nD Cert.KAtf.τ).loc Cert.KAtf.main_arg3) = m ((c.tc : Thread Cert.KAtf.nD Cert.KAtf.τ).loc Cert.KAtf.main_arg3)
      ∧ r.2.mem ((c.tc : Thread Cert.KAtf.nD Cert.KAtf.τ).loc Cert.KAtf.main_arg4) = m ((c.tc : Thread Cert.KAtf.nD Cert.KAtf.τ).loc Cert.KAtf.main_arg4)
      ∧ r.2.mem ((c.tc : Thread Cert.KAtf.nD Cert.KAtf.τ).loc Cert.KAtf.main_arg5) = m ((c.tc : Thread Cert.KAtf.nD Cert.KAtf.τ).loc Cert.KAtf.main_arg5))
      ∧ r.2.sem = fun _ => 0)

def quiescent_KAtfIdeal [hKAtfIdeal : Cert.KAtfIdeal.Facts] : Prop :=
  ∀ (m : (ℓ : Loc Cert.KAtfIdeal.nD Cert.KAtfIdeal.τ Cert.KAtfIdeal.sig) → Buf (Elt Ideal) ℓ) (g : Dev Cert.KAtfIdeal.nD → PrngReg), Pre_KAtfIdeal m →
    θ_run (Cert.KAtfIdeal.defs (F := Ideal)) (onTc (τ := Cert.KAtfIdeal.τ) (Cert.KAtfIdeal.main (F := Ideal))) ⟨m, fun _ => 0, g⟩ (fun r => (∀ c : Dev Cert.KAtfIdeal.nD,
      r.2.mem ((c.tc : Thread Cert.KAtfIdeal.nD Cert.KAtfIdeal.τ).loc Cert.KAtfIdeal.main_arg0) = m ((c.tc : Thread Cert.KAtfIdeal.nD Cert.KAtfIdeal.τ).loc Cert.KAtfIdeal.main_arg0)
      ∧ r.2.mem ((c.tc : Thread Cert.KAtfIdeal.nD Cert.KAtfIdeal.τ).loc Cert.KAtfIdeal.main_arg1) = m ((c.tc : Thread Cert.KAtfIdeal.nD Cert.KAtfIdeal.τ).loc Cert.KAtfIdeal.main_arg1)
      ∧ r.2.mem ((c.tc : Thread Cert.KAtfIdeal.nD Cert.KAtfIdeal.τ).loc Cert.KAtfIdeal.main_arg2) = m ((c.tc : Thread Cert.KAtfIdeal.nD Cert.KAtfIdeal.τ).loc Cert.KAtfIdeal.main_arg2)
      ∧ r.2.mem ((c.tc : Thread Cert.KAtfIdeal.nD Cert.KAtfIdeal.τ).loc Cert.KAtfIdeal.main_arg3) = m ((c.tc : Thread Cert.KAtfIdeal.nD Cert.KAtfIdeal.τ).loc Cert.KAtfIdeal.main_arg3)
      ∧ r.2.mem ((c.tc : Thread Cert.KAtfIdeal.nD Cert.KAtfIdeal.τ).loc Cert.KAtfIdeal.main_arg4) = m ((c.tc : Thread Cert.KAtfIdeal.nD Cert.KAtfIdeal.τ).loc Cert.KAtfIdeal.main_arg4)
      ∧ r.2.mem ((c.tc : Thread Cert.KAtfIdeal.nD Cert.KAtfIdeal.τ).loc Cert.KAtfIdeal.main_arg5) = m ((c.tc : Thread Cert.KAtfIdeal.nD Cert.KAtfIdeal.τ).loc Cert.KAtfIdeal.main_arg5))
      ∧ r.2.sem = fun _ => 0)

def quiescent_KAtfIdeal_pre_scores_finite [hKAtfIdeal : Cert.KAtfIdeal.Facts] [hPre_scores_finite : Cert.Pre_scores_finite.Facts] : Prop :=
  ∀ (m : (ℓ : Loc Cert.KAtfIdeal.nD Cert.KAtfIdeal.τ Cert.KAtfIdeal.sig) → Buf (Elt Ideal) ℓ) (g : Dev Cert.KAtfIdeal.nD → PrngReg), Pre_KAtfIdeal_scores_finite m →
    θ_run (Cert.KAtfIdeal.defs (F := Ideal)) (onTc (τ := Cert.KAtfIdeal.τ) (Cert.KAtfIdeal.main (F := Ideal))) ⟨m, fun _ => 0, g⟩ (fun r => (∀ c : Dev Cert.KAtfIdeal.nD,
      r.2.mem ((c.tc : Thread Cert.KAtfIdeal.nD Cert.KAtfIdeal.τ).loc Cert.KAtfIdeal.main_arg0) = m ((c.tc : Thread Cert.KAtfIdeal.nD Cert.KAtfIdeal.τ).loc Cert.KAtfIdeal.main_arg0)
      ∧ r.2.mem ((c.tc : Thread Cert.KAtfIdeal.nD Cert.KAtfIdeal.τ).loc Cert.KAtfIdeal.main_arg1) = m ((c.tc : Thread Cert.KAtfIdeal.nD Cert.KAtfIdeal.τ).loc Cert.KAtfIdeal.main_arg1)
      ∧ r.2.mem ((c.tc : Thread Cert.KAtfIdeal.nD Cert.KAtfIdeal.τ).loc Cert.KAtfIdeal.main_arg2) = m ((c.tc : Thread Cert.KAtfIdeal.nD Cert.KAtfIdeal.τ).loc Cert.KAtfIdeal.main_arg2)
      ∧ r.2.mem ((c.tc : Thread Cert.KAtfIdeal.nD Cert.KAtfIdeal.τ).loc Cert.KAtfIdeal.main_arg3) = m ((c.tc : Thread Cert.KAtfIdeal.nD Cert.KAtfIdeal.τ).loc Cert.KAtfIdeal.main_arg3)
      ∧ r.2.mem ((c.tc : Thread Cert.KAtfIdeal.nD Cert.KAtfIdeal.τ).loc Cert.KAtfIdeal.main_arg4) = m ((c.tc : Thread Cert.KAtfIdeal.nD Cert.KAtfIdeal.τ).loc Cert.KAtfIdeal.main_arg4)
      ∧ r.2.mem ((c.tc : Thread Cert.KAtfIdeal.nD Cert.KAtfIdeal.τ).loc Cert.KAtfIdeal.main_arg5) = m ((c.tc : Thread Cert.KAtfIdeal.nD Cert.KAtfIdeal.τ).loc Cert.KAtfIdeal.main_arg5))
      ∧ r.2.sem = fun _ => 0)

def quiescent_RAtfIdeal [hRAtfIdeal : Cert.RAtfIdeal.Facts] : Prop :=
  ∀ (m : (ℓ : Loc Cert.RAtfIdeal.nD Cert.RAtfIdeal.τ Cert.RAtfIdeal.sig) → Buf (Elt Ideal) ℓ) (g : Dev Cert.RAtfIdeal.nD → PrngReg), Pre_RAtfIdeal m →
    θ_run (Cert.RAtfIdeal.defs (F := Ideal)) (onTc (τ := Cert.RAtfIdeal.τ) (Cert.RAtfIdeal.main (F := Ideal))) ⟨m, fun _ => 0, g⟩ (fun r => (∀ c : Dev Cert.RAtfIdeal.nD,
      r.2.mem ((c.tc : Thread Cert.RAtfIdeal.nD Cert.RAtfIdeal.τ).loc Cert.RAtfIdeal.main_arg0) = m ((c.tc : Thread Cert.RAtfIdeal.nD Cert.RAtfIdeal.τ).loc Cert.RAtfIdeal.main_arg0)
      ∧ r.2.mem ((c.tc : Thread Cert.RAtfIdeal.nD Cert.RAtfIdeal.τ).loc Cert.RAtfIdeal.main_arg1) = m ((c.tc : Thread Cert.RAtfIdeal.nD Cert.RAtfIdeal.τ).loc Cert.RAtfIdeal.main_arg1)
      ∧ r.2.mem ((c.tc : Thread Cert.RAtfIdeal.nD Cert.RAtfIdeal.τ).loc Cert.RAtfIdeal.main_arg2) = m ((c.tc : Thread Cert.RAtfIdeal.nD Cert.RAtfIdeal.τ).loc Cert.RAtfIdeal.main_arg2)
      ∧ r.2.mem ((c.tc : Thread Cert.RAtfIdeal.nD Cert.RAtfIdeal.τ).loc Cert.RAtfIdeal.main_arg3) = m ((c.tc : Thread Cert.RAtfIdeal.nD Cert.RAtfIdeal.τ).loc Cert.RAtfIdeal.main_arg3)
      ∧ r.2.mem ((c.tc : Thread Cert.RAtfIdeal.nD Cert.RAtfIdeal.τ).loc Cert.RAtfIdeal.main_arg4) = m ((c.tc : Thread Cert.RAtfIdeal.nD Cert.RAtfIdeal.τ).loc Cert.RAtfIdeal.main_arg4)
      ∧ r.2.mem ((c.tc : Thread Cert.RAtfIdeal.nD Cert.RAtfIdeal.τ).loc Cert.RAtfIdeal.main_arg5) = m ((c.tc : Thread Cert.RAtfIdeal.nD Cert.RAtfIdeal.τ).loc Cert.RAtfIdeal.main_arg5))
      ∧ r.2.sem = fun _ => 0)

def quiescent_RAtfIdeal_pre_scores_finite [hRAtfIdeal : Cert.RAtfIdeal.Facts] [hPre_scores_finite : Cert.Pre_scores_finite.Facts] : Prop :=
  ∀ (m : (ℓ : Loc Cert.RAtfIdeal.nD Cert.RAtfIdeal.τ Cert.RAtfIdeal.sig) → Buf (Elt Ideal) ℓ) (g : Dev Cert.RAtfIdeal.nD → PrngReg), Pre_RAtfIdeal_scores_finite m →
    θ_run (Cert.RAtfIdeal.defs (F := Ideal)) (onTc (τ := Cert.RAtfIdeal.τ) (Cert.RAtfIdeal.main (F := Ideal))) ⟨m, fun _ => 0, g⟩ (fun r => (∀ c : Dev Cert.RAtfIdeal.nD,
      r.2.mem ((c.tc : Thread Cert.RAtfIdeal.nD Cert.RAtfIdeal.τ).loc Cert.RAtfIdeal.main_arg0) = m ((c.tc : Thread Cert.RAtfIdeal.nD Cert.RAtfIdeal.τ).loc Cert.RAtfIdeal.main_arg0)
      ∧ r.2.mem ((c.tc : Thread Cert.RAtfIdeal.nD Cert.RAtfIdeal.τ).loc Cert.RAtfIdeal.main_arg1) = m ((c.tc : Thread Cert.RAtfIdeal.nD Cert.RAtfIdeal.τ).loc Cert.RAtfIdeal.main_arg1)
      ∧ r.2.mem ((c.tc : Thread Cert.RAtfIdeal.nD Cert.RAtfIdeal.τ).loc Cert.RAtfIdeal.main_arg2) = m ((c.tc : Thread Cert.RAtfIdeal.nD Cert.RAtfIdeal.τ).loc Cert.RAtfIdeal.main_arg2)
      ∧ r.2.mem ((c.tc : Thread Cert.RAtfIdeal.nD Cert.RAtfIdeal.τ).loc Cert.RAtfIdeal.main_arg3) = m ((c.tc : Thread Cert.RAtfIdeal.nD Cert.RAtfIdeal.τ).loc Cert.RAtfIdeal.main_arg3)
      ∧ r.2.mem ((c.tc : Thread Cert.RAtfIdeal.nD Cert.RAtfIdeal.τ).loc Cert.RAtfIdeal.main_arg4) = m ((c.tc : Thread Cert.RAtfIdeal.nD Cert.RAtfIdeal.τ).loc Cert.RAtfIdeal.main_arg4)
      ∧ r.2.mem ((c.tc : Thread Cert.RAtfIdeal.nD Cert.RAtfIdeal.τ).loc Cert.RAtfIdeal.main_arg5) = m ((c.tc : Thread Cert.RAtfIdeal.nD Cert.RAtfIdeal.τ).loc Cert.RAtfIdeal.main_arg5))
      ∧ r.2.sem = fun _ => 0)

def quiescent_KOut [hKOut : Cert.KOut.Facts] : Prop :=
  ∀ (m : (ℓ : Loc Cert.KOut.nD Cert.KOut.τ Cert.KOut.sig) → Buf (Elt Bits) ℓ) (g : Dev Cert.KOut.nD → PrngReg), Pre_KOut m →
    θ_run (Cert.KOut.defs (F := Bits)) (onTc (τ := Cert.KOut.τ) (Cert.KOut.main (F := Bits))) ⟨m, fun _ => 0, g⟩ (fun r => (∀ c : Dev Cert.KOut.nD,
      r.2.mem ((c.tc : Thread Cert.KOut.nD Cert.KOut.τ).loc Cert.KOut.main_arg0) = m ((c.tc : Thread Cert.KOut.nD Cert.KOut.τ).loc Cert.KOut.main_arg0)
      ∧ r.2.mem ((c.tc : Thread Cert.KOut.nD Cert.KOut.τ).loc Cert.KOut.main_arg1) = m ((c.tc : Thread Cert.KOut.nD Cert.KOut.τ).loc Cert.KOut.main_arg1)
      ∧ r.2.mem ((c.tc : Thread Cert.KOut.nD Cert.KOut.τ).loc Cert.KOut.main_arg2) = m ((c.tc : Thread Cert.KOut.nD Cert.KOut.τ).loc Cert.KOut.main_arg2)
      ∧ r.2.mem ((c.tc : Thread Cert.KOut.nD Cert.KOut.τ).loc Cert.KOut.main_arg3) = m ((c.tc : Thread Cert.KOut.nD Cert.KOut.τ).loc Cert.KOut.main_arg3)
      ∧ r.2.mem ((c.tc : Thread Cert.KOut.nD Cert.KOut.τ).loc Cert.KOut.main_arg4) = m ((c.tc : Thread Cert.KOut.nD Cert.KOut.τ).loc Cert.KOut.main_arg4)
      ∧ r.2.mem ((c.tc : Thread Cert.KOut.nD Cert.KOut.τ).loc Cert.KOut.main_arg5) = m ((c.tc : Thread Cert.KOut.nD Cert.KOut.τ).loc Cert.KOut.main_arg5)
      ∧ r.2.mem ((c.tc : Thread Cert.KOut.nD Cert.KOut.τ).loc Cert.KOut.main_arg6) = m ((c.tc : Thread Cert.KOut.nD Cert.KOut.τ).loc Cert.KOut.main_arg6))
      ∧ r.2.sem = fun _ => 0)

def quiescent_KOutIdeal [hKOutIdeal : Cert.KOutIdeal.Facts] : Prop :=
  ∀ (m : (ℓ : Loc Cert.KOutIdeal.nD Cert.KOutIdeal.τ Cert.KOutIdeal.sig) → Buf (Elt Ideal) ℓ) (g : Dev Cert.KOutIdeal.nD → PrngReg), Pre_KOutIdeal m →
    θ_run (Cert.KOutIdeal.defs (F := Ideal)) (onTc (τ := Cert.KOutIdeal.τ) (Cert.KOutIdeal.main (F := Ideal))) ⟨m, fun _ => 0, g⟩ (fun r => (∀ c : Dev Cert.KOutIdeal.nD,
      r.2.mem ((c.tc : Thread Cert.KOutIdeal.nD Cert.KOutIdeal.τ).loc Cert.KOutIdeal.main_arg0) = m ((c.tc : Thread Cert.KOutIdeal.nD Cert.KOutIdeal.τ).loc Cert.KOutIdeal.main_arg0)
      ∧ r.2.mem ((c.tc : Thread Cert.KOutIdeal.nD Cert.KOutIdeal.τ).loc Cert.KOutIdeal.main_arg1) = m ((c.tc : Thread Cert.KOutIdeal.nD Cert.KOutIdeal.τ).loc Cert.KOutIdeal.main_arg1)
      ∧ r.2.mem ((c.tc : Thread Cert.KOutIdeal.nD Cert.KOutIdeal.τ).loc Cert.KOutIdeal.main_arg2) = m ((c.tc : Thread Cert.KOutIdeal.nD Cert.KOutIdeal.τ).loc Cert.KOutIdeal.main_arg2)
      ∧ r.2.mem ((c.tc : Thread Cert.KOutIdeal.nD Cert.KOutIdeal.τ).loc Cert.KOutIdeal.main_arg3) = m ((c.tc : Thread Cert.KOutIdeal.nD Cert.KOutIdeal.τ).loc Cert.KOutIdeal.main_arg3)
      ∧ r.2.mem ((c.tc : Thread Cert.KOutIdeal.nD Cert.KOutIdeal.τ).loc Cert.KOutIdeal.main_arg4) = m ((c.tc : Thread Cert.KOutIdeal.nD Cert.KOutIdeal.τ).loc Cert.KOutIdeal.main_arg4)
      ∧ r.2.mem ((c.tc : Thread Cert.KOutIdeal.nD Cert.KOutIdeal.τ).loc Cert.KOutIdeal.main_arg5) = m ((c.tc : Thread Cert.KOutIdeal.nD Cert.KOutIdeal.τ).loc Cert.KOutIdeal.main_arg5)
      ∧ r.2.mem ((c.tc : Thread Cert.KOutIdeal.nD Cert.KOutIdeal.τ).loc Cert.KOutIdeal.main_arg6) = m ((c.tc : Thread Cert.KOutIdeal.nD Cert.KOutIdeal.τ).loc Cert.KOutIdeal.main_arg6))
      ∧ r.2.sem = fun _ => 0)

def quiescent_ROutIdeal [hROutIdeal : Cert.ROutIdeal.Facts] : Prop :=
  ∀ (m : (ℓ : Loc Cert.ROutIdeal.nD Cert.ROutIdeal.τ Cert.ROutIdeal.sig) → Buf (Elt Ideal) ℓ) (g : Dev Cert.ROutIdeal.nD → PrngReg), Pre_ROutIdeal m →
    θ_run (Cert.ROutIdeal.defs (F := Ideal)) (onTc (τ := Cert.ROutIdeal.τ) (Cert.ROutIdeal.main (F := Ideal))) ⟨m, fun _ => 0, g⟩ (fun r => (∀ c : Dev Cert.ROutIdeal.nD,
      r.2.mem ((c.tc : Thread Cert.ROutIdeal.nD Cert.ROutIdeal.τ).loc Cert.ROutIdeal.main_arg0) = m ((c.tc : Thread Cert.ROutIdeal.nD Cert.ROutIdeal.τ).loc Cert.ROutIdeal.main_arg0)
      ∧ r.2.mem ((c.tc : Thread Cert.ROutIdeal.nD Cert.ROutIdeal.τ).loc Cert.ROutIdeal.main_arg1) = m ((c.tc : Thread Cert.ROutIdeal.nD Cert.ROutIdeal.τ).loc Cert.ROutIdeal.main_arg1)
      ∧ r.2.mem ((c.tc : Thread Cert.ROutIdeal.nD Cert.ROutIdeal.τ).loc Cert.ROutIdeal.main_arg2) = m ((c.tc : Thread Cert.ROutIdeal.nD Cert.ROutIdeal.τ).loc Cert.ROutIdeal.main_arg2)
      ∧ r.2.mem ((c.tc : Thread Cert.ROutIdeal.nD Cert.ROutIdeal.τ).loc Cert.ROutIdeal.main_arg3) = m ((c.tc : Thread Cert.ROutIdeal.nD Cert.ROutIdeal.τ).loc Cert.ROutIdeal.main_arg3)
      ∧ r.2.mem ((c.tc : Thread Cert.ROutIdeal.nD Cert.ROutIdeal.τ).loc Cert.ROutIdeal.main_arg4) = m ((c.tc : Thread Cert.ROutIdeal.nD Cert.ROutIdeal.τ).loc Cert.ROutIdeal.main_arg4)
      ∧ r.2.mem ((c.tc : Thread Cert.ROutIdeal.nD Cert.ROutIdeal.τ).loc Cert.ROutIdeal.main_arg5) = m ((c.tc : Thread Cert.ROutIdeal.nD Cert.ROutIdeal.τ).loc Cert.ROutIdeal.main_arg5)
      ∧ r.2.mem ((c.tc : Thread Cert.ROutIdeal.nD Cert.ROutIdeal.τ).loc Cert.ROutIdeal.main_arg6) = m ((c.tc : Thread Cert.ROutIdeal.nD Cert.ROutIdeal.τ).loc Cert.ROutIdeal.main_arg6))
      ∧ r.2.sem = fun _ => 0)

def quiescent_KOub [hKOub : Cert.KOub.Facts] : Prop :=
  ∀ (m : (ℓ : Loc Cert.KOub.nD Cert.KOub.τ Cert.KOub.sig) → Buf (Elt Bits) ℓ) (g : Dev Cert.KOub.nD → PrngReg), Pre_KOub m →
    θ_run (Cert.KOub.defs (F := Bits)) (onTc (τ := Cert.KOub.τ) (Cert.KOub.main (F := Bits))) ⟨m, fun _ => 0, g⟩ (fun r => (∀ c : Dev Cert.KOub.nD,
      r.2.mem ((c.tc : Thread Cert.KOub.nD Cert.KOub.τ).loc Cert.KOub.main_arg0) = m ((c.tc : Thread Cert.KOub.nD Cert.KOub.τ).loc Cert.KOub.main_arg0)
      ∧ r.2.mem ((c.tc : Thread Cert.KOub.nD Cert.KOub.τ).loc Cert.KOub.main_arg1) = m ((c.tc : Thread Cert.KOub.nD Cert.KOub.τ).loc Cert.KOub.main_arg1)
      ∧ r.2.mem ((c.tc : Thread Cert.KOub.nD Cert.KOub.τ).loc Cert.KOub.main_arg2) = m ((c.tc : Thread Cert.KOub.nD Cert.KOub.τ).loc Cert.KOub.main_arg2)
      ∧ r.2.mem ((c.tc : Thread Cert.KOub.nD Cert.KOub.τ).loc Cert.KOub.main_arg3) = m ((c.tc : Thread Cert.KOub.nD Cert.KOub.τ).loc Cert.KOub.main_arg3)
      ∧ r.2.mem ((c.tc : Thread Cert.KOub.nD Cert.KOub.τ).loc Cert.KOub.main_arg4) = m ((c.tc : Thread Cert.KOub.nD Cert.KOub.τ).loc Cert.KOub.main_arg4)
      ∧ r.2.mem ((c.tc : Thread Cert.KOub.nD Cert.KOub.τ).loc Cert.KOub.main_arg5) = m ((c.tc : Thread Cert.KOub.nD Cert.KOub.τ).loc Cert.KOub.main_arg5)
      ∧ r.2.mem ((c.tc : Thread Cert.KOub.nD Cert.KOub.τ).loc Cert.KOub.main_arg6) = m ((c.tc : Thread Cert.KOub.nD Cert.KOub.τ).loc Cert.KOub.main_arg6))
      ∧ r.2.sem = fun _ => 0)

def quiescent_KOubIdeal [hKOubIdeal : Cert.KOubIdeal.Facts] : Prop :=
  ∀ (m : (ℓ : Loc Cert.KOubIdeal.nD Cert.KOubIdeal.τ Cert.KOubIdeal.sig) → Buf (Elt Ideal) ℓ) (g : Dev Cert.KOubIdeal.nD → PrngReg), Pre_KOubIdeal m →
    θ_run (Cert.KOubIdeal.defs (F := Ideal)) (onTc (τ := Cert.KOubIdeal.τ) (Cert.KOubIdeal.main (F := Ideal))) ⟨m, fun _ => 0, g⟩ (fun r => (∀ c : Dev Cert.KOubIdeal.nD,
      r.2.mem ((c.tc : Thread Cert.KOubIdeal.nD Cert.KOubIdeal.τ).loc Cert.KOubIdeal.main_arg0) = m ((c.tc : Thread Cert.KOubIdeal.nD Cert.KOubIdeal.τ).loc Cert.KOubIdeal.main_arg0)
      ∧ r.2.mem ((c.tc : Thread Cert.KOubIdeal.nD Cert.KOubIdeal.τ).loc Cert.KOubIdeal.main_arg1) = m ((c.tc : Thread Cert.KOubIdeal.nD Cert.KOubIdeal.τ).loc Cert.KOubIdeal.main_arg1)
      ∧ r.2.mem ((c.tc : Thread Cert.KOubIdeal.nD Cert.KOubIdeal.τ).loc Cert.KOubIdeal.main_arg2) = m ((c.tc : Thread Cert.KOubIdeal.nD Cert.KOubIdeal.τ).loc Cert.KOubIdeal.main_arg2)
      ∧ r.2.mem ((c.tc : Thread Cert.KOubIdeal.nD Cert.KOubIdeal.τ).loc Cert.KOubIdeal.main_arg3) = m ((c.tc : Thread Cert.KOubIdeal.nD Cert.KOubIdeal.τ).loc Cert.KOubIdeal.main_arg3)
      ∧ r.2.mem ((c.tc : Thread Cert.KOubIdeal.nD Cert.KOubIdeal.τ).loc Cert.KOubIdeal.main_arg4) = m ((c.tc : Thread Cert.KOubIdeal.nD Cert.KOubIdeal.τ).loc Cert.KOubIdeal.main_arg4)
      ∧ r.2.mem ((c.tc : Thread Cert.KOubIdeal.nD Cert.KOubIdeal.τ).loc Cert.KOubIdeal.main_arg5) = m ((c.tc : Thread Cert.KOubIdeal.nD Cert.KOubIdeal.τ).loc Cert.KOubIdeal.main_arg5)
      ∧ r.2.mem ((c.tc : Thread Cert.KOubIdeal.nD Cert.KOubIdeal.τ).loc Cert.KOubIdeal.main_arg6) = m ((c.tc : Thread Cert.KOubIdeal.nD Cert.KOubIdeal.τ).loc Cert.KOubIdeal.main_arg6))
      ∧ r.2.sem = fun _ => 0)

def quiescent_ROubIdeal [hROubIdeal : Cert.ROubIdeal.Facts] : Prop :=
  ∀ (m : (ℓ : Loc Cert.ROubIdeal.nD Cert.ROubIdeal.τ Cert.ROubIdeal.sig) → Buf (Elt Ideal) ℓ) (g : Dev Cert.ROubIdeal.nD → PrngReg), Pre_ROubIdeal m →
    θ_run (Cert.ROubIdeal.defs (F := Ideal)) (onTc (τ := Cert.ROubIdeal.τ) (Cert.ROubIdeal.main (F := Ideal))) ⟨m, fun _ => 0, g⟩ (fun r => (∀ c : Dev Cert.ROubIdeal.nD,
      r.2.mem ((c.tc : Thread Cert.ROubIdeal.nD Cert.ROubIdeal.τ).loc Cert.ROubIdeal.main_arg0) = m ((c.tc : Thread Cert.ROubIdeal.nD Cert.ROubIdeal.τ).loc Cert.ROubIdeal.main_arg0)
      ∧ r.2.mem ((c.tc : Thread Cert.ROubIdeal.nD Cert.ROubIdeal.τ).loc Cert.ROubIdeal.main_arg1) = m ((c.tc : Thread Cert.ROubIdeal.nD Cert.ROubIdeal.τ).loc Cert.ROubIdeal.main_arg1)
      ∧ r.2.mem ((c.tc : Thread Cert.ROubIdeal.nD Cert.ROubIdeal.τ).loc Cert.ROubIdeal.main_arg2) = m ((c.tc : Thread Cert.ROubIdeal.nD Cert.ROubIdeal.τ).loc Cert.ROubIdeal.main_arg2)
      ∧ r.2.mem ((c.tc : Thread Cert.ROubIdeal.nD Cert.ROubIdeal.τ).loc Cert.ROubIdeal.main_arg3) = m ((c.tc : Thread Cert.ROubIdeal.nD Cert.ROubIdeal.τ).loc Cert.ROubIdeal.main_arg3)
      ∧ r.2.mem ((c.tc : Thread Cert.ROubIdeal.nD Cert.ROubIdeal.τ).loc Cert.ROubIdeal.main_arg4) = m ((c.tc : Thread Cert.ROubIdeal.nD Cert.ROubIdeal.τ).loc Cert.ROubIdeal.main_arg4)
      ∧ r.2.mem ((c.tc : Thread Cert.ROubIdeal.nD Cert.ROubIdeal.τ).loc Cert.ROubIdeal.main_arg5) = m ((c.tc : Thread Cert.ROubIdeal.nD Cert.ROubIdeal.τ).loc Cert.ROubIdeal.main_arg5)
      ∧ r.2.mem ((c.tc : Thread Cert.ROubIdeal.nD Cert.ROubIdeal.τ).loc Cert.ROubIdeal.main_arg6) = m ((c.tc : Thread Cert.ROubIdeal.nD Cert.ROubIdeal.τ).loc Cert.ROubIdeal.main_arg6))
      ∧ r.2.sem = fun _ => 0)

def quiescent_KGwo [hKGwo : Cert.KGwo.Facts] : Prop :=
  ∀ (m : (ℓ : Loc Cert.KGwo.nD Cert.KGwo.τ Cert.KGwo.sig) → Buf (Elt Bits) ℓ) (g : Dev Cert.KGwo.nD → PrngReg), Pre_KGwo m →
    θ_run (Cert.KGwo.defs (F := Bits)) (onTc (τ := Cert.KGwo.τ) (Cert.KGwo.main (F := Bits))) ⟨m, fun _ => 0, g⟩ (fun r => (∀ c : Dev Cert.KGwo.nD,
      r.2.mem ((c.tc : Thread Cert.KGwo.nD Cert.KGwo.τ).loc Cert.KGwo.main_arg0) = m ((c.tc : Thread Cert.KGwo.nD Cert.KGwo.τ).loc Cert.KGwo.main_arg0)
      ∧ r.2.mem ((c.tc : Thread Cert.KGwo.nD Cert.KGwo.τ).loc Cert.KGwo.main_arg1) = m ((c.tc : Thread Cert.KGwo.nD Cert.KGwo.τ).loc Cert.KGwo.main_arg1))
      ∧ r.2.sem = fun _ => 0)

def quiescent_KGwoIdeal [hKGwoIdeal : Cert.KGwoIdeal.Facts] : Prop :=
  ∀ (m : (ℓ : Loc Cert.KGwoIdeal.nD Cert.KGwoIdeal.τ Cert.KGwoIdeal.sig) → Buf (Elt Ideal) ℓ) (g : Dev Cert.KGwoIdeal.nD → PrngReg), Pre_KGwoIdeal m →
    θ_run (Cert.KGwoIdeal.defs (F := Ideal)) (onTc (τ := Cert.KGwoIdeal.τ) (Cert.KGwoIdeal.main (F := Ideal))) ⟨m, fun _ => 0, g⟩ (fun r => (∀ c : Dev Cert.KGwoIdeal.nD,
      r.2.mem ((c.tc : Thread Cert.KGwoIdeal.nD Cert.KGwoIdeal.τ).loc Cert.KGwoIdeal.main_arg0) = m ((c.tc : Thread Cert.KGwoIdeal.nD Cert.KGwoIdeal.τ).loc Cert.KGwoIdeal.main_arg0)
      ∧ r.2.mem ((c.tc : Thread Cert.KGwoIdeal.nD Cert.KGwoIdeal.τ).loc Cert.KGwoIdeal.main_arg1) = m ((c.tc : Thread Cert.KGwoIdeal.nD Cert.KGwoIdeal.τ).loc Cert.KGwoIdeal.main_arg1))
      ∧ r.2.sem = fun _ => 0)

def quiescent_RGwoIdeal [hRGwoIdeal : Cert.RGwoIdeal.Facts] : Prop :=
  ∀ (m : (ℓ : Loc Cert.RGwoIdeal.nD Cert.RGwoIdeal.τ Cert.RGwoIdeal.sig) → Buf (Elt Ideal) ℓ) (g : Dev Cert.RGwoIdeal.nD → PrngReg), Pre_RGwoIdeal m →
    θ_run (Cert.RGwoIdeal.defs (F := Ideal)) (onTc (τ := Cert.RGwoIdeal.τ) (Cert.RGwoIdeal.main (F := Ideal))) ⟨m, fun _ => 0, g⟩ (fun r => (∀ c : Dev Cert.RGwoIdeal.nD,
      r.2.mem ((c.tc : Thread Cert.RGwoIdeal.nD Cert.RGwoIdeal.τ).loc Cert.RGwoIdeal.main_arg0) = m ((c.tc : Thread Cert.RGwoIdeal.nD Cert.RGwoIdeal.τ).loc Cert.RGwoIdeal.main_arg0)
      ∧ r.2.mem ((c.tc : Thread Cert.RGwoIdeal.nD Cert.RGwoIdeal.τ).loc Cert.RGwoIdeal.main_arg1) = m ((c.tc : Thread Cert.RGwoIdeal.nD Cert.RGwoIdeal.τ).loc Cert.RGwoIdeal.main_arg1))
      ∧ r.2.sem = fun _ => 0)

def quiescent_KSci [hKSci : Cert.KSci.Facts] : Prop :=
  ∀ (m : (ℓ : Loc Cert.KSci.nD Cert.KSci.τ Cert.KSci.sig) → Buf (Elt Bits) ℓ) (g : Dev Cert.KSci.nD → PrngReg), Pre_KSci m →
    θ_run (Cert.KSci.defs (F := Bits)) (onTc (τ := Cert.KSci.τ) (Cert.KSci.main (F := Bits))) ⟨m, fun _ => 0, g⟩ (fun r => (∀ c : Dev Cert.KSci.nD,
      r.2.mem ((c.tc : Thread Cert.KSci.nD Cert.KSci.τ).loc Cert.KSci.main_arg0) = m ((c.tc : Thread Cert.KSci.nD Cert.KSci.τ).loc Cert.KSci.main_arg0)
      ∧ r.2.mem ((c.tc : Thread Cert.KSci.nD Cert.KSci.τ).loc Cert.KSci.main_arg1) = m ((c.tc : Thread Cert.KSci.nD Cert.KSci.τ).loc Cert.KSci.main_arg1)
      ∧ r.2.mem ((c.tc : Thread Cert.KSci.nD Cert.KSci.τ).loc Cert.KSci.main_arg2) = m ((c.tc : Thread Cert.KSci.nD Cert.KSci.τ).loc Cert.KSci.main_arg2)
      ∧ r.2.mem ((c.tc : Thread Cert.KSci.nD Cert.KSci.τ).loc Cert.KSci.main_arg3) = m ((c.tc : Thread Cert.KSci.nD Cert.KSci.τ).loc Cert.KSci.main_arg3)
      ∧ r.2.mem ((c.tc : Thread Cert.KSci.nD Cert.KSci.τ).loc Cert.KSci.main_arg4) = m ((c.tc : Thread Cert.KSci.nD Cert.KSci.τ).loc Cert.KSci.main_arg4)
      ∧ r.2.mem ((c.tc : Thread Cert.KSci.nD Cert.KSci.τ).loc Cert.KSci.main_arg5) = m ((c.tc : Thread Cert.KSci.nD Cert.KSci.τ).loc Cert.KSci.main_arg5))
      ∧ r.2.sem = fun _ => 0)

def quiescent_KSciIdeal [hKSciIdeal : Cert.KSciIdeal.Facts] : Prop :=
  ∀ (m : (ℓ : Loc Cert.KSciIdeal.nD Cert.KSciIdeal.τ Cert.KSciIdeal.sig) → Buf (Elt Ideal) ℓ) (g : Dev Cert.KSciIdeal.nD → PrngReg), Pre_KSciIdeal m →
    θ_run (Cert.KSciIdeal.defs (F := Ideal)) (onTc (τ := Cert.KSciIdeal.τ) (Cert.KSciIdeal.main (F := Ideal))) ⟨m, fun _ => 0, g⟩ (fun r => (∀ c : Dev Cert.KSciIdeal.nD,
      r.2.mem ((c.tc : Thread Cert.KSciIdeal.nD Cert.KSciIdeal.τ).loc Cert.KSciIdeal.main_arg0) = m ((c.tc : Thread Cert.KSciIdeal.nD Cert.KSciIdeal.τ).loc Cert.KSciIdeal.main_arg0)
      ∧ r.2.mem ((c.tc : Thread Cert.KSciIdeal.nD Cert.KSciIdeal.τ).loc Cert.KSciIdeal.main_arg1) = m ((c.tc : Thread Cert.KSciIdeal.nD Cert.KSciIdeal.τ).loc Cert.KSciIdeal.main_arg1)
      ∧ r.2.mem ((c.tc : Thread Cert.KSciIdeal.nD Cert.KSciIdeal.τ).loc Cert.KSciIdeal.main_arg2) = m ((c.tc : Thread Cert.KSciIdeal.nD Cert.KSciIdeal.τ).loc Cert.KSciIdeal.main_arg2)
      ∧ r.2.mem ((c.tc : Thread Cert.KSciIdeal.nD Cert.KSciIdeal.τ).loc Cert.KSciIdeal.main_arg3) = m ((c.tc : Thread Cert.KSciIdeal.nD Cert.KSciIdeal.τ).loc Cert.KSciIdeal.main_arg3)
      ∧ r.2.mem ((c.tc : Thread Cert.KSciIdeal.nD Cert.KSciIdeal.τ).loc Cert.KSciIdeal.main_arg4) = m ((c.tc : Thread Cert.KSciIdeal.nD Cert.KSciIdeal.τ).loc Cert.KSciIdeal.main_arg4)
      ∧ r.2.mem ((c.tc : Thread Cert.KSciIdeal.nD Cert.KSciIdeal.τ).loc Cert.KSciIdeal.main_arg5) = m ((c.tc : Thread Cert.KSciIdeal.nD Cert.KSciIdeal.τ).loc Cert.KSciIdeal.main_arg5))
      ∧ r.2.sem = fun _ => 0)

def quiescent_RSciIdeal [hRSciIdeal : Cert.RSciIdeal.Facts] : Prop :=
  ∀ (m : (ℓ : Loc Cert.RSciIdeal.nD Cert.RSciIdeal.τ Cert.RSciIdeal.sig) → Buf (Elt Ideal) ℓ) (g : Dev Cert.RSciIdeal.nD → PrngReg), Pre_RSciIdeal m →
    θ_run (Cert.RSciIdeal.defs (F := Ideal)) (onTc (τ := Cert.RSciIdeal.τ) (Cert.RSciIdeal.main (F := Ideal))) ⟨m, fun _ => 0, g⟩ (fun r => (∀ c : Dev Cert.RSciIdeal.nD,
      r.2.mem ((c.tc : Thread Cert.RSciIdeal.nD Cert.RSciIdeal.τ).loc Cert.RSciIdeal.main_arg0) = m ((c.tc : Thread Cert.RSciIdeal.nD Cert.RSciIdeal.τ).loc Cert.RSciIdeal.main_arg0)
      ∧ r.2.mem ((c.tc : Thread Cert.RSciIdeal.nD Cert.RSciIdeal.τ).loc Cert.RSciIdeal.main_arg1) = m ((c.tc : Thread Cert.RSciIdeal.nD Cert.RSciIdeal.τ).loc Cert.RSciIdeal.main_arg1)
      ∧ r.2.mem ((c.tc : Thread Cert.RSciIdeal.nD Cert.RSciIdeal.τ).loc Cert.RSciIdeal.main_arg2) = m ((c.tc : Thread Cert.RSciIdeal.nD Cert.RSciIdeal.τ).loc Cert.RSciIdeal.main_arg2)
      ∧ r.2.mem ((c.tc : Thread Cert.RSciIdeal.nD Cert.RSciIdeal.τ).loc Cert.RSciIdeal.main_arg3) = m ((c.tc : Thread Cert.RSciIdeal.nD Cert.RSciIdeal.τ).loc Cert.RSciIdeal.main_arg3)
      ∧ r.2.mem ((c.tc : Thread Cert.RSciIdeal.nD Cert.RSciIdeal.τ).loc Cert.RSciIdeal.main_arg4) = m ((c.tc : Thread Cert.RSciIdeal.nD Cert.RSciIdeal.τ).loc Cert.RSciIdeal.main_arg4)
      ∧ r.2.mem ((c.tc : Thread Cert.RSciIdeal.nD Cert.RSciIdeal.τ).loc Cert.RSciIdeal.main_arg5) = m ((c.tc : Thread Cert.RSciIdeal.nD Cert.RSciIdeal.τ).loc Cert.RSciIdeal.main_arg5))
      ∧ r.2.sem = fun _ => 0)

def quiescent_KGwi [hKGwi : Cert.KGwi.Facts] : Prop :=
  ∀ (m : (ℓ : Loc Cert.KGwi.nD Cert.KGwi.τ Cert.KGwi.sig) → Buf (Elt Bits) ℓ) (g : Dev Cert.KGwi.nD → PrngReg), Pre_KGwi m →
    θ_run (Cert.KGwi.defs (F := Bits)) (onTc (τ := Cert.KGwi.τ) (Cert.KGwi.main (F := Bits))) ⟨m, fun _ => 0, g⟩ (fun r => (∀ c : Dev Cert.KGwi.nD,
      r.2.mem ((c.tc : Thread Cert.KGwi.nD Cert.KGwi.τ).loc Cert.KGwi.main_arg0) = m ((c.tc : Thread Cert.KGwi.nD Cert.KGwi.τ).loc Cert.KGwi.main_arg0)
      ∧ r.2.mem ((c.tc : Thread Cert.KGwi.nD Cert.KGwi.τ).loc Cert.KGwi.main_arg1) = m ((c.tc : Thread Cert.KGwi.nD Cert.KGwi.τ).loc Cert.KGwi.main_arg1))
      ∧ r.2.sem = fun _ => 0)

def quiescent_KGwiIdeal [hKGwiIdeal : Cert.KGwiIdeal.Facts] : Prop :=
  ∀ (m : (ℓ : Loc Cert.KGwiIdeal.nD Cert.KGwiIdeal.τ Cert.KGwiIdeal.sig) → Buf (Elt Ideal) ℓ) (g : Dev Cert.KGwiIdeal.nD → PrngReg), Pre_KGwiIdeal m →
    θ_run (Cert.KGwiIdeal.defs (F := Ideal)) (onTc (τ := Cert.KGwiIdeal.τ) (Cert.KGwiIdeal.main (F := Ideal))) ⟨m, fun _ => 0, g⟩ (fun r => (∀ c : Dev Cert.KGwiIdeal.nD,
      r.2.mem ((c.tc : Thread Cert.KGwiIdeal.nD Cert.KGwiIdeal.τ).loc Cert.KGwiIdeal.main_arg0) = m ((c.tc : Thread Cert.KGwiIdeal.nD Cert.KGwiIdeal.τ).loc Cert.KGwiIdeal.main_arg0)
      ∧ r.2.mem ((c.tc : Thread Cert.KGwiIdeal.nD Cert.KGwiIdeal.τ).loc Cert.KGwiIdeal.main_arg1) = m ((c.tc : Thread Cert.KGwiIdeal.nD Cert.KGwiIdeal.τ).loc Cert.KGwiIdeal.main_arg1))
      ∧ r.2.sem = fun _ => 0)

def quiescent_RGwiIdeal [hRGwiIdeal : Cert.RGwiIdeal.Facts] : Prop :=
  ∀ (m : (ℓ : Loc Cert.RGwiIdeal.nD Cert.RGwiIdeal.τ Cert.RGwiIdeal.sig) → Buf (Elt Ideal) ℓ) (g : Dev Cert.RGwiIdeal.nD → PrngReg), Pre_RGwiIdeal m →
    θ_run (Cert.RGwiIdeal.defs (F := Ideal)) (onTc (τ := Cert.RGwiIdeal.τ) (Cert.RGwiIdeal.main (F := Ideal))) ⟨m, fun _ => 0, g⟩ (fun r => (∀ c : Dev Cert.RGwiIdeal.nD,
      r.2.mem ((c.tc : Thread Cert.RGwiIdeal.nD Cert.RGwiIdeal.τ).loc Cert.RGwiIdeal.main_arg0) = m ((c.tc : Thread Cert.RGwiIdeal.nD Cert.RGwiIdeal.τ).loc Cert.RGwiIdeal.main_arg0)
      ∧ r.2.mem ((c.tc : Thread Cert.RGwiIdeal.nD Cert.RGwiIdeal.τ).loc Cert.RGwiIdeal.main_arg1) = m ((c.tc : Thread Cert.RGwiIdeal.nD Cert.RGwiIdeal.τ).loc Cert.RGwiIdeal.main_arg1))
      ∧ r.2.sem = fun _ => 0)

def quiescent_KScb [hKScb : Cert.KScb.Facts] : Prop :=
  ∀ (m : (ℓ : Loc Cert.KScb.nD Cert.KScb.τ Cert.KScb.sig) → Buf (Elt Bits) ℓ) (g : Dev Cert.KScb.nD → PrngReg), Pre_KScb m →
    θ_run (Cert.KScb.defs (F := Bits)) (onTc (τ := Cert.KScb.τ) (Cert.KScb.main (F := Bits))) ⟨m, fun _ => 0, g⟩ (fun r => (∀ c : Dev Cert.KScb.nD,
      r.2.mem ((c.tc : Thread Cert.KScb.nD Cert.KScb.τ).loc Cert.KScb.main_arg0) = m ((c.tc : Thread Cert.KScb.nD Cert.KScb.τ).loc Cert.KScb.main_arg0)
      ∧ r.2.mem ((c.tc : Thread Cert.KScb.nD Cert.KScb.τ).loc Cert.KScb.main_arg1) = m ((c.tc : Thread Cert.KScb.nD Cert.KScb.τ).loc Cert.KScb.main_arg1)
      ∧ r.2.mem ((c.tc : Thread Cert.KScb.nD Cert.KScb.τ).loc Cert.KScb.main_arg2) = m ((c.tc : Thread Cert.KScb.nD Cert.KScb.τ).loc Cert.KScb.main_arg2)
      ∧ r.2.mem ((c.tc : Thread Cert.KScb.nD Cert.KScb.τ).loc Cert.KScb.main_arg3) = m ((c.tc : Thread Cert.KScb.nD Cert.KScb.τ).loc Cert.KScb.main_arg3)
      ∧ r.2.mem ((c.tc : Thread Cert.KScb.nD Cert.KScb.τ).loc Cert.KScb.main_arg4) = m ((c.tc : Thread Cert.KScb.nD Cert.KScb.τ).loc Cert.KScb.main_arg4)
      ∧ r.2.mem ((c.tc : Thread Cert.KScb.nD Cert.KScb.τ).loc Cert.KScb.main_arg5) = m ((c.tc : Thread Cert.KScb.nD Cert.KScb.τ).loc Cert.KScb.main_arg5)
      ∧ r.2.mem ((c.tc : Thread Cert.KScb.nD Cert.KScb.τ).loc Cert.KScb.main_arg6) = m ((c.tc : Thread Cert.KScb.nD Cert.KScb.τ).loc Cert.KScb.main_arg6)
      ∧ r.2.mem ((c.tc : Thread Cert.KScb.nD Cert.KScb.τ).loc Cert.KScb.main_arg7) = m ((c.tc : Thread Cert.KScb.nD Cert.KScb.τ).loc Cert.KScb.main_arg7)
      ∧ r.2.mem ((c.tc : Thread Cert.KScb.nD Cert.KScb.τ).loc Cert.KScb.main_arg8) = m ((c.tc : Thread Cert.KScb.nD Cert.KScb.τ).loc Cert.KScb.main_arg8)
      ∧ r.2.mem ((c.tc : Thread Cert.KScb.nD Cert.KScb.τ).loc Cert.KScb.main_arg9) = m ((c.tc : Thread Cert.KScb.nD Cert.KScb.τ).loc Cert.KScb.main_arg9))
      ∧ r.2.sem = fun _ => 0)

def quiescent_KScbIdeal [hKScbIdeal : Cert.KScbIdeal.Facts] : Prop :=
  ∀ (m : (ℓ : Loc Cert.KScbIdeal.nD Cert.KScbIdeal.τ Cert.KScbIdeal.sig) → Buf (Elt Ideal) ℓ) (g : Dev Cert.KScbIdeal.nD → PrngReg), Pre_KScbIdeal m →
    θ_run (Cert.KScbIdeal.defs (F := Ideal)) (onTc (τ := Cert.KScbIdeal.τ) (Cert.KScbIdeal.main (F := Ideal))) ⟨m, fun _ => 0, g⟩ (fun r => (∀ c : Dev Cert.KScbIdeal.nD,
      r.2.mem ((c.tc : Thread Cert.KScbIdeal.nD Cert.KScbIdeal.τ).loc Cert.KScbIdeal.main_arg0) = m ((c.tc : Thread Cert.KScbIdeal.nD Cert.KScbIdeal.τ).loc Cert.KScbIdeal.main_arg0)
      ∧ r.2.mem ((c.tc : Thread Cert.KScbIdeal.nD Cert.KScbIdeal.τ).loc Cert.KScbIdeal.main_arg1) = m ((c.tc : Thread Cert.KScbIdeal.nD Cert.KScbIdeal.τ).loc Cert.KScbIdeal.main_arg1)
      ∧ r.2.mem ((c.tc : Thread Cert.KScbIdeal.nD Cert.KScbIdeal.τ).loc Cert.KScbIdeal.main_arg2) = m ((c.tc : Thread Cert.KScbIdeal.nD Cert.KScbIdeal.τ).loc Cert.KScbIdeal.main_arg2)
      ∧ r.2.mem ((c.tc : Thread Cert.KScbIdeal.nD Cert.KScbIdeal.τ).loc Cert.KScbIdeal.main_arg3) = m ((c.tc : Thread Cert.KScbIdeal.nD Cert.KScbIdeal.τ).loc Cert.KScbIdeal.main_arg3)
      ∧ r.2.mem ((c.tc : Thread Cert.KScbIdeal.nD Cert.KScbIdeal.τ).loc Cert.KScbIdeal.main_arg4) = m ((c.tc : Thread Cert.KScbIdeal.nD Cert.KScbIdeal.τ).loc Cert.KScbIdeal.main_arg4)
      ∧ r.2.mem ((c.tc : Thread Cert.KScbIdeal.nD Cert.KScbIdeal.τ).loc Cert.KScbIdeal.main_arg5) = m ((c.tc : Thread Cert.KScbIdeal.nD Cert.KScbIdeal.τ).loc Cert.KScbIdeal.main_arg5)
      ∧ r.2.mem ((c.tc : Thread Cert.KScbIdeal.nD Cert.KScbIdeal.τ).loc Cert.KScbIdeal.main_arg6) = m ((c.tc : Thread Cert.KScbIdeal.nD Cert.KScbIdeal.τ).loc Cert.KScbIdeal.main_arg6)
      ∧ r.2.mem ((c.tc : Thread Cert.KScbIdeal.nD Cert.KScbIdeal.τ).loc Cert.KScbIdeal.main_arg7) = m ((c.tc : Thread Cert.KScbIdeal.nD Cert.KScbIdeal.τ).loc Cert.KScbIdeal.main_arg7)
      ∧ r.2.mem ((c.tc : Thread Cert.KScbIdeal.nD Cert.KScbIdeal.τ).loc Cert.KScbIdeal.main_arg8) = m ((c.tc : Thread Cert.KScbIdeal.nD Cert.KScbIdeal.τ).loc Cert.KScbIdeal.main_arg8)
      ∧ r.2.mem ((c.tc : Thread Cert.KScbIdeal.nD Cert.KScbIdeal.τ).loc Cert.KScbIdeal.main_arg9) = m ((c.tc : Thread Cert.KScbIdeal.nD Cert.KScbIdeal.τ).loc Cert.KScbIdeal.main_arg9))
      ∧ r.2.sem = fun _ => 0)

def quiescent_RScbIdeal [hRScbIdeal : Cert.RScbIdeal.Facts] : Prop :=
  ∀ (m : (ℓ : Loc Cert.RScbIdeal.nD Cert.RScbIdeal.τ Cert.RScbIdeal.sig) → Buf (Elt Ideal) ℓ) (g : Dev Cert.RScbIdeal.nD → PrngReg), Pre_RScbIdeal m →
    θ_run (Cert.RScbIdeal.defs (F := Ideal)) (onTc (τ := Cert.RScbIdeal.τ) (Cert.RScbIdeal.main (F := Ideal))) ⟨m, fun _ => 0, g⟩ (fun r => (∀ c : Dev Cert.RScbIdeal.nD,
      r.2.mem ((c.tc : Thread Cert.RScbIdeal.nD Cert.RScbIdeal.τ).loc Cert.RScbIdeal.main_arg0) = m ((c.tc : Thread Cert.RScbIdeal.nD Cert.RScbIdeal.τ).loc Cert.RScbIdeal.main_arg0)
      ∧ r.2.mem ((c.tc : Thread Cert.RScbIdeal.nD Cert.RScbIdeal.τ).loc Cert.RScbIdeal.main_arg1) = m ((c.tc : Thread Cert.RScbIdeal.nD Cert.RScbIdeal.τ).loc Cert.RScbIdeal.main_arg1)
      ∧ r.2.mem ((c.tc : Thread Cert.RScbIdeal.nD Cert.RScbIdeal.τ).loc Cert.RScbIdeal.main_arg2) = m ((c.tc : Thread Cert.RScbIdeal.nD Cert.RScbIdeal.τ).loc Cert.RScbIdeal.main_arg2)
      ∧ r.2.mem ((c.tc : Thread Cert.RScbIdeal.nD Cert.RScbIdeal.τ).loc Cert.RScbIdeal.main_arg3) = m ((c.tc : Thread Cert.RScbIdeal.nD Cert.RScbIdeal.τ).loc Cert.RScbIdeal.main_arg3)
      ∧ r.2.mem ((c.tc : Thread Cert.RScbIdeal.nD Cert.RScbIdeal.τ).loc Cert.RScbIdeal.main_arg4) = m ((c.tc : Thread Cert.RScbIdeal.nD Cert.RScbIdeal.τ).loc Cert.RScbIdeal.main_arg4)
      ∧ r.2.mem ((c.tc : Thread Cert.RScbIdeal.nD Cert.RScbIdeal.τ).loc Cert.RScbIdeal.main_arg5) = m ((c.tc : Thread Cert.RScbIdeal.nD Cert.RScbIdeal.τ).loc Cert.RScbIdeal.main_arg5)
      ∧ r.2.mem ((c.tc : Thread Cert.RScbIdeal.nD Cert.RScbIdeal.τ).loc Cert.RScbIdeal.main_arg6) = m ((c.tc : Thread Cert.RScbIdeal.nD Cert.RScbIdeal.τ).loc Cert.RScbIdeal.main_arg6)
      ∧ r.2.mem ((c.tc : Thread Cert.RScbIdeal.nD Cert.RScbIdeal.τ).loc Cert.RScbIdeal.main_arg7) = m ((c.tc : Thread Cert.RScbIdeal.nD Cert.RScbIdeal.τ).loc Cert.RScbIdeal.main_arg7)
      ∧ r.2.mem ((c.tc : Thread Cert.RScbIdeal.nD Cert.RScbIdeal.τ).loc Cert.RScbIdeal.main_arg8) = m ((c.tc : Thread Cert.RScbIdeal.nD Cert.RScbIdeal.τ).loc Cert.RScbIdeal.main_arg8)
      ∧ r.2.mem ((c.tc : Thread Cert.RScbIdeal.nD Cert.RScbIdeal.τ).loc Cert.RScbIdeal.main_arg9) = m ((c.tc : Thread Cert.RScbIdeal.nD Cert.RScbIdeal.τ).loc Cert.RScbIdeal.main_arg9))
      ∧ r.2.sem = fun _ => 0)

def preserves_KConv_KConvIdeal : Prop :=
  True

def algebraic_KConvIdeal_RConvIdeal [hKConvIdeal : Cert.KConvIdeal.Facts] [hRConvIdeal : Cert.RConvIdeal.Facts] : Prop :=
  ∀ (m : (ℓ : Loc Cert.KConvIdeal.nD Cert.KConvIdeal.τ Cert.KConvIdeal.sig) → Buf (Elt Ideal) ℓ) (g : Dev Cert.KConvIdeal.nD → PrngReg)
    (m' : (ℓ : Loc Cert.RConvIdeal.nD Cert.RConvIdeal.τ Cert.RConvIdeal.sig) → Buf (Elt Ideal) ℓ) (g' : Dev Cert.RConvIdeal.nD → PrngReg), Pre_KConvIdeal m →
    (∀ c : Dev Cert.KConvIdeal.nD,
      m' ((c.tc : Thread Cert.RConvIdeal.nD Cert.RConvIdeal.τ).loc Cert.RConvIdeal.main_arg0) = m ((c.tc : Thread Cert.KConvIdeal.nD Cert.KConvIdeal.τ).loc Cert.KConvIdeal.main_arg0)
      ∧ m' ((c.tc : Thread Cert.RConvIdeal.nD Cert.RConvIdeal.τ).loc Cert.RConvIdeal.main_arg1) = m ((c.tc : Thread Cert.KConvIdeal.nD Cert.KConvIdeal.τ).loc Cert.KConvIdeal.main_arg1)
      ∧ m' ((c.tc : Thread Cert.RConvIdeal.nD Cert.RConvIdeal.τ).loc Cert.RConvIdeal.main_arg2) = m ((c.tc : Thread Cert.KConvIdeal.nD Cert.KConvIdeal.τ).loc Cert.KConvIdeal.main_arg2)
      ∧ m' ((c.tc : Thread Cert.RConvIdeal.nD Cert.RConvIdeal.τ).loc Cert.RConvIdeal.main_arg3) = m ((c.tc : Thread Cert.KConvIdeal.nD Cert.KConvIdeal.τ).loc Cert.KConvIdeal.main_arg3)
      ∧ m' ((c.tc : Thread Cert.RConvIdeal.nD Cert.RConvIdeal.τ).loc Cert.RConvIdeal.main_arg4) = m ((c.tc : Thread Cert.KConvIdeal.nD Cert.KConvIdeal.τ).loc Cert.KConvIdeal.main_arg4)) →
    ∃ (v0 : (c : Dev Cert.KConvIdeal.nD) → Buf (Elt Ideal) ((c.tc : Thread Cert.KConvIdeal.nD Cert.KConvIdeal.τ).loc Cert.KConvIdeal.main_v8_0)) (v1 : (c : Dev Cert.KConvIdeal.nD) → Buf (Elt Ideal) ((c.tc : Thread Cert.KConvIdeal.nD Cert.KConvIdeal.τ).loc Cert.KConvIdeal.main_v8_1)),
      θ_run (Cert.KConvIdeal.defs (F := Ideal)) (onTc (τ := Cert.KConvIdeal.τ) (Cert.KConvIdeal.main (F := Ideal))) ⟨m, fun _ => 0, g⟩ (fun r => ∀ c : Dev Cert.KConvIdeal.nD,
          r.2.mem ((c.tc : Thread Cert.KConvIdeal.nD Cert.KConvIdeal.τ).loc Cert.KConvIdeal.main_v8_0) = v0 c
          ∧ r.2.mem ((c.tc : Thread Cert.KConvIdeal.nD Cert.KConvIdeal.τ).loc Cert.KConvIdeal.main_v8_1) = v1 c
          ∧ r.2.mem ((c.tc : Thread Cert.KConvIdeal.nD Cert.KConvIdeal.τ).loc Cert.KConvIdeal.main_arg0) = m ((c.tc : Thread Cert.KConvIdeal.nD Cert.KConvIdeal.τ).loc Cert.KConvIdeal.main_arg0)
          ∧ r.2.mem ((c.tc : Thread Cert.KConvIdeal.nD Cert.KConvIdeal.τ).loc Cert.KConvIdeal.main_arg1) = m ((c.tc : Thread Cert.KConvIdeal.nD Cert.KConvIdeal.τ).loc Cert.KConvIdeal.main_arg1)
          ∧ r.2.mem ((c.tc : Thread Cert.KConvIdeal.nD Cert.KConvIdeal.τ).loc Cert.KConvIdeal.main_arg2) = m ((c.tc : Thread Cert.KConvIdeal.nD Cert.KConvIdeal.τ).loc Cert.KConvIdeal.main_arg2)
          ∧ r.2.mem ((c.tc : Thread Cert.KConvIdeal.nD Cert.KConvIdeal.τ).loc Cert.KConvIdeal.main_arg3) = m ((c.tc : Thread Cert.KConvIdeal.nD Cert.KConvIdeal.τ).loc Cert.KConvIdeal.main_arg3)
          ∧ r.2.mem ((c.tc : Thread Cert.KConvIdeal.nD Cert.KConvIdeal.τ).loc Cert.KConvIdeal.main_arg4) = m ((c.tc : Thread Cert.KConvIdeal.nD Cert.KConvIdeal.τ).loc Cert.KConvIdeal.main_arg4))
      ∧ θ_run (Cert.RConvIdeal.defs (F := Ideal)) (onTc (τ := Cert.RConvIdeal.τ) (Cert.RConvIdeal.main (F := Ideal))) ⟨m', fun _ => 0, g'⟩ (fun r => ∀ c : Dev Cert.RConvIdeal.nD,
          r.2.mem ((c.tc : Thread Cert.RConvIdeal.nD Cert.RConvIdeal.τ).loc Cert.RConvIdeal.main_v157) = v0 c
          ∧ r.2.mem ((c.tc : Thread Cert.RConvIdeal.nD Cert.RConvIdeal.τ).loc Cert.RConvIdeal.main_v127) = v1 c
          ∧ r.2.mem ((c.tc : Thread Cert.RConvIdeal.nD Cert.RConvIdeal.τ).loc Cert.RConvIdeal.main_arg0) = m' ((c.tc : Thread Cert.RConvIdeal.nD Cert.RConvIdeal.τ).loc Cert.RConvIdeal.main_arg0)
          ∧ r.2.mem ((c.tc : Thread Cert.RConvIdeal.nD Cert.RConvIdeal.τ).loc Cert.RConvIdeal.main_arg1) = m' ((c.tc : Thread Cert.RConvIdeal.nD Cert.RConvIdeal.τ).loc Cert.RConvIdeal.main_arg1)
          ∧ r.2.mem ((c.tc : Thread Cert.RConvIdeal.nD Cert.RConvIdeal.τ).loc Cert.RConvIdeal.main_arg2) = m' ((c.tc : Thread Cert.RConvIdeal.nD Cert.RConvIdeal.τ).loc Cert.RConvIdeal.main_arg2)
          ∧ r.2.mem ((c.tc : Thread Cert.RConvIdeal.nD Cert.RConvIdeal.τ).loc Cert.RConvIdeal.main_arg3) = m' ((c.tc : Thread Cert.RConvIdeal.nD Cert.RConvIdeal.τ).loc Cert.RConvIdeal.main_arg3)
          ∧ r.2.mem ((c.tc : Thread Cert.RConvIdeal.nD Cert.RConvIdeal.τ).loc Cert.RConvIdeal.main_arg4) = m' ((c.tc : Thread Cert.RConvIdeal.nD Cert.RConvIdeal.τ).loc Cert.RConvIdeal.main_arg4))

def preserves_KGw_KGwIdeal : Prop :=
  True

def algebraic_KGwIdeal_RGwIdeal [hKGwIdeal : Cert.KGwIdeal.Facts] [hRGwIdeal : Cert.RGwIdeal.Facts] : Prop :=
  ∀ (m : (ℓ : Loc Cert.KGwIdeal.nD Cert.KGwIdeal.τ Cert.KGwIdeal.sig) → Buf (Elt Ideal) ℓ) (g : Dev Cert.KGwIdeal.nD → PrngReg)
    (m' : (ℓ : Loc Cert.RGwIdeal.nD Cert.RGwIdeal.τ Cert.RGwIdeal.sig) → Buf (Elt Ideal) ℓ) (g' : Dev Cert.RGwIdeal.nD → PrngReg), Pre_KGwIdeal m →
    (∀ c : Dev Cert.KGwIdeal.nD,
      m' ((c.tc : Thread Cert.RGwIdeal.nD Cert.RGwIdeal.τ).loc Cert.RGwIdeal.main_arg0) = m ((c.tc : Thread Cert.KGwIdeal.nD Cert.KGwIdeal.τ).loc Cert.KGwIdeal.main_arg0)
      ∧ m' ((c.tc : Thread Cert.RGwIdeal.nD Cert.RGwIdeal.τ).loc Cert.RGwIdeal.main_arg1) = m ((c.tc : Thread Cert.KGwIdeal.nD Cert.KGwIdeal.τ).loc Cert.KGwIdeal.main_arg1)) →
    ∃ (v0 : (c : Dev Cert.KGwIdeal.nD) → Buf (Elt Ideal) ((c.tc : Thread Cert.KGwIdeal.nD Cert.KGwIdeal.τ).loc Cert.KGwIdeal.main_v4)),
      θ_run (Cert.KGwIdeal.defs (F := Ideal)) (onTc (τ := Cert.KGwIdeal.τ) (Cert.KGwIdeal.main (F := Ideal))) ⟨m, fun _ => 0, g⟩ (fun r => ∀ c : Dev Cert.KGwIdeal.nD,
          r.2.mem ((c.tc : Thread Cert.KGwIdeal.nD Cert.KGwIdeal.τ).loc Cert.KGwIdeal.main_v4) = v0 c
          ∧ r.2.mem ((c.tc : Thread Cert.KGwIdeal.nD Cert.KGwIdeal.τ).loc Cert.KGwIdeal.main_arg0) = m ((c.tc : Thread Cert.KGwIdeal.nD Cert.KGwIdeal.τ).loc Cert.KGwIdeal.main_arg0)
          ∧ r.2.mem ((c.tc : Thread Cert.KGwIdeal.nD Cert.KGwIdeal.τ).loc Cert.KGwIdeal.main_arg1) = m ((c.tc : Thread Cert.KGwIdeal.nD Cert.KGwIdeal.τ).loc Cert.KGwIdeal.main_arg1))
      ∧ θ_run (Cert.RGwIdeal.defs (F := Ideal)) (onTc (τ := Cert.RGwIdeal.τ) (Cert.RGwIdeal.main (F := Ideal))) ⟨m', fun _ => 0, g'⟩ (fun r => ∀ c : Dev Cert.RGwIdeal.nD,
          r.2.mem ((c.tc : Thread Cert.RGwIdeal.nD Cert.RGwIdeal.τ).loc Cert.RGwIdeal.main_v6) = v0 c
          ∧ r.2.mem ((c.tc : Thread Cert.RGwIdeal.nD Cert.RGwIdeal.τ).loc Cert.RGwIdeal.main_arg0) = m' ((c.tc : Thread Cert.RGwIdeal.nD Cert.RGwIdeal.τ).loc Cert.RGwIdeal.main_arg0)
          ∧ r.2.mem ((c.tc : Thread Cert.RGwIdeal.nD Cert.RGwIdeal.τ).loc Cert.RGwIdeal.main_arg1) = m' ((c.tc : Thread Cert.RGwIdeal.nD Cert.RGwIdeal.τ).loc Cert.RGwIdeal.main_arg1))

def preserves_KFfn_KFfnIdeal : Prop :=
  True

def algebraic_KFfnIdeal_RFfnIdeal_pre_ffn_finite [hKFfnIdeal : Cert.KFfnIdeal.Facts] [hRFfnIdeal : Cert.RFfnIdeal.Facts] [hPre_ffn_finite : Cert.Pre_ffn_finite.Facts] : Prop :=
  ∀ (m : (ℓ : Loc Cert.KFfnIdeal.nD Cert.KFfnIdeal.τ Cert.KFfnIdeal.sig) → Buf (Elt Ideal) ℓ) (g : Dev Cert.KFfnIdeal.nD → PrngReg)
    (m' : (ℓ : Loc Cert.RFfnIdeal.nD Cert.RFfnIdeal.τ Cert.RFfnIdeal.sig) → Buf (Elt Ideal) ℓ) (g' : Dev Cert.RFfnIdeal.nD → PrngReg), Pre_KFfnIdeal_ffn_finite m →
    (∀ c : Dev Cert.KFfnIdeal.nD,
      m' ((c.tc : Thread Cert.RFfnIdeal.nD Cert.RFfnIdeal.τ).loc Cert.RFfnIdeal.main_arg0) = m ((c.tc : Thread Cert.KFfnIdeal.nD Cert.KFfnIdeal.τ).loc Cert.KFfnIdeal.main_arg0)
      ∧ m' ((c.tc : Thread Cert.RFfnIdeal.nD Cert.RFfnIdeal.τ).loc Cert.RFfnIdeal.main_arg1) = m ((c.tc : Thread Cert.KFfnIdeal.nD Cert.KFfnIdeal.τ).loc Cert.KFfnIdeal.main_arg1)
      ∧ m' ((c.tc : Thread Cert.RFfnIdeal.nD Cert.RFfnIdeal.τ).loc Cert.RFfnIdeal.main_arg2) = m ((c.tc : Thread Cert.KFfnIdeal.nD Cert.KFfnIdeal.τ).loc Cert.KFfnIdeal.main_arg2)
      ∧ m' ((c.tc : Thread Cert.RFfnIdeal.nD Cert.RFfnIdeal.τ).loc Cert.RFfnIdeal.main_arg3) = m ((c.tc : Thread Cert.KFfnIdeal.nD Cert.KFfnIdeal.τ).loc Cert.KFfnIdeal.main_arg3)
      ∧ m' ((c.tc : Thread Cert.RFfnIdeal.nD Cert.RFfnIdeal.τ).loc Cert.RFfnIdeal.main_arg4) = m ((c.tc : Thread Cert.KFfnIdeal.nD Cert.KFfnIdeal.τ).loc Cert.KFfnIdeal.main_arg4)
      ∧ m' ((c.tc : Thread Cert.RFfnIdeal.nD Cert.RFfnIdeal.τ).loc Cert.RFfnIdeal.main_arg5) = m ((c.tc : Thread Cert.KFfnIdeal.nD Cert.KFfnIdeal.τ).loc Cert.KFfnIdeal.main_arg5)
      ∧ m' ((c.tc : Thread Cert.RFfnIdeal.nD Cert.RFfnIdeal.τ).loc Cert.RFfnIdeal.main_arg6) = m ((c.tc : Thread Cert.KFfnIdeal.nD Cert.KFfnIdeal.τ).loc Cert.KFfnIdeal.main_arg6)
      ∧ m' ((c.tc : Thread Cert.RFfnIdeal.nD Cert.RFfnIdeal.τ).loc Cert.RFfnIdeal.main_arg7) = m ((c.tc : Thread Cert.KFfnIdeal.nD Cert.KFfnIdeal.τ).loc Cert.KFfnIdeal.main_arg7)
      ∧ m' ((c.tc : Thread Cert.RFfnIdeal.nD Cert.RFfnIdeal.τ).loc Cert.RFfnIdeal.main_arg8) = m ((c.tc : Thread Cert.KFfnIdeal.nD Cert.KFfnIdeal.τ).loc Cert.KFfnIdeal.main_arg8)
      ∧ m' ((c.tc : Thread Cert.RFfnIdeal.nD Cert.RFfnIdeal.τ).loc Cert.RFfnIdeal.main_arg9) = m ((c.tc : Thread Cert.KFfnIdeal.nD Cert.KFfnIdeal.τ).loc Cert.KFfnIdeal.main_arg9)) →
    ∃ (v0 : (c : Dev Cert.KFfnIdeal.nD) → Buf (Elt Ideal) ((c.tc : Thread Cert.KFfnIdeal.nD Cert.KFfnIdeal.τ).loc Cert.KFfnIdeal.main_v60_0)) (v1 : (c : Dev Cert.KFfnIdeal.nD) → Buf (Elt Ideal) ((c.tc : Thread Cert.KFfnIdeal.nD Cert.KFfnIdeal.τ).loc Cert.KFfnIdeal.main_v60_1)) (v2 : (c : Dev Cert.KFfnIdeal.nD) → Buf (Elt Ideal) ((c.tc : Thread Cert.KFfnIdeal.nD Cert.KFfnIdeal.τ).loc Cert.KFfnIdeal.main_v60_2)) (v3 : (c : Dev Cert.KFfnIdeal.nD) → Buf (Elt Ideal) ((c.tc : Thread Cert.KFfnIdeal.nD Cert.KFfnIdeal.τ).loc Cert.KFfnIdeal.main_v60_3)) (v4 : (c : Dev Cert.KFfnIdeal.nD) → Buf (Elt Ideal) ((c.tc : Thread Cert.KFfnIdeal.nD Cert.KFfnIdeal.τ).loc Cert.KFfnIdeal.main_v60_4)) (v5 : (c : Dev Cert.KFfnIdeal.nD) → Buf (Elt Ideal) ((c.tc : Thread Cert.KFfnIdeal.nD Cert.KFfnIdeal.τ).loc Cert.KFfnIdeal.main_v60_5)),
      θ_run (Cert.KFfnIdeal.defs (F := Ideal)) (onTc (τ := Cert.KFfnIdeal.τ) (Cert.KFfnIdeal.main (F := Ideal))) ⟨m, fun _ => 0, g⟩ (fun r => ∀ c : Dev Cert.KFfnIdeal.nD,
          r.2.mem ((c.tc : Thread Cert.KFfnIdeal.nD Cert.KFfnIdeal.τ).loc Cert.KFfnIdeal.main_v60_0) = v0 c
          ∧ r.2.mem ((c.tc : Thread Cert.KFfnIdeal.nD Cert.KFfnIdeal.τ).loc Cert.KFfnIdeal.main_v60_1) = v1 c
          ∧ r.2.mem ((c.tc : Thread Cert.KFfnIdeal.nD Cert.KFfnIdeal.τ).loc Cert.KFfnIdeal.main_v60_2) = v2 c
          ∧ r.2.mem ((c.tc : Thread Cert.KFfnIdeal.nD Cert.KFfnIdeal.τ).loc Cert.KFfnIdeal.main_v60_3) = v3 c
          ∧ r.2.mem ((c.tc : Thread Cert.KFfnIdeal.nD Cert.KFfnIdeal.τ).loc Cert.KFfnIdeal.main_v60_4) = v4 c
          ∧ r.2.mem ((c.tc : Thread Cert.KFfnIdeal.nD Cert.KFfnIdeal.τ).loc Cert.KFfnIdeal.main_v60_5) = v5 c
          ∧ r.2.mem ((c.tc : Thread Cert.KFfnIdeal.nD Cert.KFfnIdeal.τ).loc Cert.KFfnIdeal.main_arg0) = m ((c.tc : Thread Cert.KFfnIdeal.nD Cert.KFfnIdeal.τ).loc Cert.KFfnIdeal.main_arg0)
          ∧ r.2.mem ((c.tc : Thread Cert.KFfnIdeal.nD Cert.KFfnIdeal.τ).loc Cert.KFfnIdeal.main_arg1) = m ((c.tc : Thread Cert.KFfnIdeal.nD Cert.KFfnIdeal.τ).loc Cert.KFfnIdeal.main_arg1)
          ∧ r.2.mem ((c.tc : Thread Cert.KFfnIdeal.nD Cert.KFfnIdeal.τ).loc Cert.KFfnIdeal.main_arg2) = m ((c.tc : Thread Cert.KFfnIdeal.nD Cert.KFfnIdeal.τ).loc Cert.KFfnIdeal.main_arg2)
          ∧ r.2.mem ((c.tc : Thread Cert.KFfnIdeal.nD Cert.KFfnIdeal.τ).loc Cert.KFfnIdeal.main_arg3) = m ((c.tc : Thread Cert.KFfnIdeal.nD Cert.KFfnIdeal.τ).loc Cert.KFfnIdeal.main_arg3)
          ∧ r.2.mem ((c.tc : Thread Cert.KFfnIdeal.nD Cert.KFfnIdeal.τ).loc Cert.KFfnIdeal.main_arg4) = m ((c.tc : Thread Cert.KFfnIdeal.nD Cert.KFfnIdeal.τ).loc Cert.KFfnIdeal.main_arg4)
          ∧ r.2.mem ((c.tc : Thread Cert.KFfnIdeal.nD Cert.KFfnIdeal.τ).loc Cert.KFfnIdeal.main_arg5) = m ((c.tc : Thread Cert.KFfnIdeal.nD Cert.KFfnIdeal.τ).loc Cert.KFfnIdeal.main_arg5)
          ∧ r.2.mem ((c.tc : Thread Cert.KFfnIdeal.nD Cert.KFfnIdeal.τ).loc Cert.KFfnIdeal.main_arg6) = m ((c.tc : Thread Cert.KFfnIdeal.nD Cert.KFfnIdeal.τ).loc Cert.KFfnIdeal.main_arg6)
          ∧ r.2.mem ((c.tc : Thread Cert.KFfnIdeal.nD Cert.KFfnIdeal.τ).loc Cert.KFfnIdeal.main_arg7) = m ((c.tc : Thread Cert.KFfnIdeal.nD Cert.KFfnIdeal.τ).loc Cert.KFfnIdeal.main_arg7)
          ∧ r.2.mem ((c.tc : Thread Cert.KFfnIdeal.nD Cert.KFfnIdeal.τ).loc Cert.KFfnIdeal.main_arg8) = m ((c.tc : Thread Cert.KFfnIdeal.nD Cert.KFfnIdeal.τ).loc Cert.KFfnIdeal.main_arg8)
          ∧ r.2.mem ((c.tc : Thread Cert.KFfnIdeal.nD Cert.KFfnIdeal.τ).loc Cert.KFfnIdeal.main_arg9) = m ((c.tc : Thread Cert.KFfnIdeal.nD Cert.KFfnIdeal.τ).loc Cert.KFfnIdeal.main_arg9))
      ∧ θ_run (Cert.RFfnIdeal.defs (F := Ideal)) (onTc (τ := Cert.RFfnIdeal.τ) (Cert.RFfnIdeal.main (F := Ideal))) ⟨m', fun _ => 0, g'⟩ (fun r => ∀ c : Dev Cert.RFfnIdeal.nD,
          r.2.mem ((c.tc : Thread Cert.RFfnIdeal.nD Cert.RFfnIdeal.τ).loc Cert.RFfnIdeal.main_v127) = v0 c
          ∧ r.2.mem ((c.tc : Thread Cert.RFfnIdeal.nD Cert.RFfnIdeal.τ).loc Cert.RFfnIdeal.main_v130) = v1 c
          ∧ r.2.mem ((c.tc : Thread Cert.RFfnIdeal.nD Cert.RFfnIdeal.τ).loc Cert.RFfnIdeal.main_v133) = v2 c
          ∧ r.2.mem ((c.tc : Thread Cert.RFfnIdeal.nD Cert.RFfnIdeal.τ).loc Cert.RFfnIdeal.main_v138) = v3 c
          ∧ r.2.mem ((c.tc : Thread Cert.RFfnIdeal.nD Cert.RFfnIdeal.τ).loc Cert.RFfnIdeal.main_v140) = v4 c
          ∧ r.2.mem ((c.tc : Thread Cert.RFfnIdeal.nD Cert.RFfnIdeal.τ).loc Cert.RFfnIdeal.main_v126) = v5 c
          ∧ r.2.mem ((c.tc : Thread Cert.RFfnIdeal.nD Cert.RFfnIdeal.τ).loc Cert.RFfnIdeal.main_arg0) = m' ((c.tc : Thread Cert.RFfnIdeal.nD Cert.RFfnIdeal.τ).loc Cert.RFfnIdeal.main_arg0)
          ∧ r.2.mem ((c.tc : Thread Cert.RFfnIdeal.nD Cert.RFfnIdeal.τ).loc Cert.RFfnIdeal.main_arg1) = m' ((c.tc : Thread Cert.RFfnIdeal.nD Cert.RFfnIdeal.τ).loc Cert.RFfnIdeal.main_arg1)
          ∧ r.2.mem ((c.tc : Thread Cert.RFfnIdeal.nD Cert.RFfnIdeal.τ).loc Cert.RFfnIdeal.main_arg2) = m' ((c.tc : Thread Cert.RFfnIdeal.nD Cert.RFfnIdeal.τ).loc Cert.RFfnIdeal.main_arg2)
          ∧ r.2.mem ((c.tc : Thread Cert.RFfnIdeal.nD Cert.RFfnIdeal.τ).loc Cert.RFfnIdeal.main_arg3) = m' ((c.tc : Thread Cert.RFfnIdeal.nD Cert.RFfnIdeal.τ).loc Cert.RFfnIdeal.main_arg3)
          ∧ r.2.mem ((c.tc : Thread Cert.RFfnIdeal.nD Cert.RFfnIdeal.τ).loc Cert.RFfnIdeal.main_arg4) = m' ((c.tc : Thread Cert.RFfnIdeal.nD Cert.RFfnIdeal.τ).loc Cert.RFfnIdeal.main_arg4)
          ∧ r.2.mem ((c.tc : Thread Cert.RFfnIdeal.nD Cert.RFfnIdeal.τ).loc Cert.RFfnIdeal.main_arg5) = m' ((c.tc : Thread Cert.RFfnIdeal.nD Cert.RFfnIdeal.τ).loc Cert.RFfnIdeal.main_arg5)
          ∧ r.2.mem ((c.tc : Thread Cert.RFfnIdeal.nD Cert.RFfnIdeal.τ).loc Cert.RFfnIdeal.main_arg6) = m' ((c.tc : Thread Cert.RFfnIdeal.nD Cert.RFfnIdeal.τ).loc Cert.RFfnIdeal.main_arg6)
          ∧ r.2.mem ((c.tc : Thread Cert.RFfnIdeal.nD Cert.RFfnIdeal.τ).loc Cert.RFfnIdeal.main_arg7) = m' ((c.tc : Thread Cert.RFfnIdeal.nD Cert.RFfnIdeal.τ).loc Cert.RFfnIdeal.main_arg7)
          ∧ r.2.mem ((c.tc : Thread Cert.RFfnIdeal.nD Cert.RFfnIdeal.τ).loc Cert.RFfnIdeal.main_arg8) = m' ((c.tc : Thread Cert.RFfnIdeal.nD Cert.RFfnIdeal.τ).loc Cert.RFfnIdeal.main_arg8)
          ∧ r.2.mem ((c.tc : Thread Cert.RFfnIdeal.nD Cert.RFfnIdeal.τ).loc Cert.RFfnIdeal.main_arg9) = m' ((c.tc : Thread Cert.RFfnIdeal.nD Cert.RFfnIdeal.τ).loc Cert.RFfnIdeal.main_arg9))

def preserves_KFwd_KFwdIdeal : Prop :=
  True

def algebraic_KFwdIdeal_RFwdIdeal [hKFwdIdeal : Cert.KFwdIdeal.Facts] [hRFwdIdeal : Cert.RFwdIdeal.Facts] : Prop :=
  ∀ (m : (ℓ : Loc Cert.KFwdIdeal.nD Cert.KFwdIdeal.τ Cert.KFwdIdeal.sig) → Buf (Elt Ideal) ℓ) (g : Dev Cert.KFwdIdeal.nD → PrngReg)
    (m' : (ℓ : Loc Cert.RFwdIdeal.nD Cert.RFwdIdeal.τ Cert.RFwdIdeal.sig) → Buf (Elt Ideal) ℓ) (g' : Dev Cert.RFwdIdeal.nD → PrngReg), Pre_KFwdIdeal m →
    (∀ c : Dev Cert.KFwdIdeal.nD,
      m' ((c.tc : Thread Cert.RFwdIdeal.nD Cert.RFwdIdeal.τ).loc Cert.RFwdIdeal.main_arg0) = m ((c.tc : Thread Cert.KFwdIdeal.nD Cert.KFwdIdeal.τ).loc Cert.KFwdIdeal.main_arg0)
      ∧ m' ((c.tc : Thread Cert.RFwdIdeal.nD Cert.RFwdIdeal.τ).loc Cert.RFwdIdeal.main_arg1) = m ((c.tc : Thread Cert.KFwdIdeal.nD Cert.KFwdIdeal.τ).loc Cert.KFwdIdeal.main_arg1)
      ∧ m' ((c.tc : Thread Cert.RFwdIdeal.nD Cert.RFwdIdeal.τ).loc Cert.RFwdIdeal.main_arg2) = m ((c.tc : Thread Cert.KFwdIdeal.nD Cert.KFwdIdeal.τ).loc Cert.KFwdIdeal.main_arg2)
      ∧ m' ((c.tc : Thread Cert.RFwdIdeal.nD Cert.RFwdIdeal.τ).loc Cert.RFwdIdeal.main_arg3) = m ((c.tc : Thread Cert.KFwdIdeal.nD Cert.KFwdIdeal.τ).loc Cert.KFwdIdeal.main_arg3)
      ∧ m' ((c.tc : Thread Cert.RFwdIdeal.nD Cert.RFwdIdeal.τ).loc Cert.RFwdIdeal.main_arg4) = m ((c.tc : Thread Cert.KFwdIdeal.nD Cert.KFwdIdeal.τ).loc Cert.KFwdIdeal.main_arg4)
      ∧ m' ((c.tc : Thread Cert.RFwdIdeal.nD Cert.RFwdIdeal.τ).loc Cert.RFwdIdeal.main_arg5) = m ((c.tc : Thread Cert.KFwdIdeal.nD Cert.KFwdIdeal.τ).loc Cert.KFwdIdeal.main_arg5)
      ∧ m' ((c.tc : Thread Cert.RFwdIdeal.nD Cert.RFwdIdeal.τ).loc Cert.RFwdIdeal.main_arg6) = m ((c.tc : Thread Cert.KFwdIdeal.nD Cert.KFwdIdeal.τ).loc Cert.KFwdIdeal.main_arg6)
      ∧ m' ((c.tc : Thread Cert.RFwdIdeal.nD Cert.RFwdIdeal.τ).loc Cert.RFwdIdeal.main_arg7) = m ((c.tc : Thread Cert.KFwdIdeal.nD Cert.KFwdIdeal.τ).loc Cert.KFwdIdeal.main_arg7)) →
    ∃ (v0 : (c : Dev Cert.KFwdIdeal.nD) → Buf (Elt Ideal) ((c.tc : Thread Cert.KFwdIdeal.nD Cert.KFwdIdeal.τ).loc Cert.KFwdIdeal.main_v13_0)) (v1 : (c : Dev Cert.KFwdIdeal.nD) → Buf (Elt Ideal) ((c.tc : Thread Cert.KFwdIdeal.nD Cert.KFwdIdeal.τ).loc Cert.KFwdIdeal.main_v13_1)) (v2 : (c : Dev Cert.KFwdIdeal.nD) → Buf (Elt Ideal) ((c.tc : Thread Cert.KFwdIdeal.nD Cert.KFwdIdeal.τ).loc Cert.KFwdIdeal.main_v13_2)) (v3 : (c : Dev Cert.KFwdIdeal.nD) → Buf (Elt Ideal) ((c.tc : Thread Cert.KFwdIdeal.nD Cert.KFwdIdeal.τ).loc Cert.KFwdIdeal.main_v13_3)) (v4 : (c : Dev Cert.KFwdIdeal.nD) → Buf (Elt Ideal) ((c.tc : Thread Cert.KFwdIdeal.nD Cert.KFwdIdeal.τ).loc Cert.KFwdIdeal.main_v13_4)),
      θ_run (Cert.KFwdIdeal.defs (F := Ideal)) (onTc (τ := Cert.KFwdIdeal.τ) (Cert.KFwdIdeal.main (F := Ideal))) ⟨m, fun _ => 0, g⟩ (fun r => ∀ c : Dev Cert.KFwdIdeal.nD,
          r.2.mem ((c.tc : Thread Cert.KFwdIdeal.nD Cert.KFwdIdeal.τ).loc Cert.KFwdIdeal.main_v13_0) = v0 c
          ∧ r.2.mem ((c.tc : Thread Cert.KFwdIdeal.nD Cert.KFwdIdeal.τ).loc Cert.KFwdIdeal.main_v13_1) = v1 c
          ∧ r.2.mem ((c.tc : Thread Cert.KFwdIdeal.nD Cert.KFwdIdeal.τ).loc Cert.KFwdIdeal.main_v13_2) = v2 c
          ∧ r.2.mem ((c.tc : Thread Cert.KFwdIdeal.nD Cert.KFwdIdeal.τ).loc Cert.KFwdIdeal.main_v13_3) = v3 c
          ∧ r.2.mem ((c.tc : Thread Cert.KFwdIdeal.nD Cert.KFwdIdeal.τ).loc Cert.KFwdIdeal.main_v13_4) = v4 c
          ∧ r.2.mem ((c.tc : Thread Cert.KFwdIdeal.nD Cert.KFwdIdeal.τ).loc Cert.KFwdIdeal.main_arg0) = m ((c.tc : Thread Cert.KFwdIdeal.nD Cert.KFwdIdeal.τ).loc Cert.KFwdIdeal.main_arg0)
          ∧ r.2.mem ((c.tc : Thread Cert.KFwdIdeal.nD Cert.KFwdIdeal.τ).loc Cert.KFwdIdeal.main_arg1) = m ((c.tc : Thread Cert.KFwdIdeal.nD Cert.KFwdIdeal.τ).loc Cert.KFwdIdeal.main_arg1)
          ∧ r.2.mem ((c.tc : Thread Cert.KFwdIdeal.nD Cert.KFwdIdeal.τ).loc Cert.KFwdIdeal.main_arg2) = m ((c.tc : Thread Cert.KFwdIdeal.nD Cert.KFwdIdeal.τ).loc Cert.KFwdIdeal.main_arg2)
          ∧ r.2.mem ((c.tc : Thread Cert.KFwdIdeal.nD Cert.KFwdIdeal.τ).loc Cert.KFwdIdeal.main_arg3) = m ((c.tc : Thread Cert.KFwdIdeal.nD Cert.KFwdIdeal.τ).loc Cert.KFwdIdeal.main_arg3)
          ∧ r.2.mem ((c.tc : Thread Cert.KFwdIdeal.nD Cert.KFwdIdeal.τ).loc Cert.KFwdIdeal.main_arg4) = m ((c.tc : Thread Cert.KFwdIdeal.nD Cert.KFwdIdeal.τ).loc Cert.KFwdIdeal.main_arg4)
          ∧ r.2.mem ((c.tc : Thread Cert.KFwdIdeal.nD Cert.KFwdIdeal.τ).loc Cert.KFwdIdeal.main_arg5) = m ((c.tc : Thread Cert.KFwdIdeal.nD Cert.KFwdIdeal.τ).loc Cert.KFwdIdeal.main_arg5)
          ∧ r.2.mem ((c.tc : Thread Cert.KFwdIdeal.nD Cert.KFwdIdeal.τ).loc Cert.KFwdIdeal.main_arg6) = m ((c.tc : Thread Cert.KFwdIdeal.nD Cert.KFwdIdeal.τ).loc Cert.KFwdIdeal.main_arg6)
          ∧ r.2.mem ((c.tc : Thread Cert.KFwdIdeal.nD Cert.KFwdIdeal.τ).loc Cert.KFwdIdeal.main_arg7) = m ((c.tc : Thread Cert.KFwdIdeal.nD Cert.KFwdIdeal.τ).loc Cert.KFwdIdeal.main_arg7))
      ∧ θ_run (Cert.RFwdIdeal.defs (F := Ideal)) (onTc (τ := Cert.RFwdIdeal.τ) (Cert.RFwdIdeal.main (F := Ideal))) ⟨m', fun _ => 0, g'⟩ (fun r => ∀ c : Dev Cert.RFwdIdeal.nD,
          r.2.mem ((c.tc : Thread Cert.RFwdIdeal.nD Cert.RFwdIdeal.τ).loc Cert.RFwdIdeal.main_v66) = v0 c
          ∧ r.2.mem ((c.tc : Thread Cert.RFwdIdeal.nD Cert.RFwdIdeal.τ).loc Cert.RFwdIdeal.main_v81) = v1 c
          ∧ r.2.mem ((c.tc : Thread Cert.RFwdIdeal.nD Cert.RFwdIdeal.τ).loc Cert.RFwdIdeal.main_v84) = v2 c
          ∧ r.2.mem ((c.tc : Thread Cert.RFwdIdeal.nD Cert.RFwdIdeal.τ).loc Cert.RFwdIdeal.main_v85) = v3 c
          ∧ r.2.mem ((c.tc : Thread Cert.RFwdIdeal.nD Cert.RFwdIdeal.τ).loc Cert.RFwdIdeal.main_v86) = v4 c
          ∧ r.2.mem ((c.tc : Thread Cert.RFwdIdeal.nD Cert.RFwdIdeal.τ).loc Cert.RFwdIdeal.main_arg0) = m' ((c.tc : Thread Cert.RFwdIdeal.nD Cert.RFwdIdeal.τ).loc Cert.RFwdIdeal.main_arg0)
          ∧ r.2.mem ((c.tc : Thread Cert.RFwdIdeal.nD Cert.RFwdIdeal.τ).loc Cert.RFwdIdeal.main_arg1) = m' ((c.tc : Thread Cert.RFwdIdeal.nD Cert.RFwdIdeal.τ).loc Cert.RFwdIdeal.main_arg1)
          ∧ r.2.mem ((c.tc : Thread Cert.RFwdIdeal.nD Cert.RFwdIdeal.τ).loc Cert.RFwdIdeal.main_arg2) = m' ((c.tc : Thread Cert.RFwdIdeal.nD Cert.RFwdIdeal.τ).loc Cert.RFwdIdeal.main_arg2)
          ∧ r.2.mem ((c.tc : Thread Cert.RFwdIdeal.nD Cert.RFwdIdeal.τ).loc Cert.RFwdIdeal.main_arg3) = m' ((c.tc : Thread Cert.RFwdIdeal.nD Cert.RFwdIdeal.τ).loc Cert.RFwdIdeal.main_arg3)
          ∧ r.2.mem ((c.tc : Thread Cert.RFwdIdeal.nD Cert.RFwdIdeal.τ).loc Cert.RFwdIdeal.main_arg4) = m' ((c.tc : Thread Cert.RFwdIdeal.nD Cert.RFwdIdeal.τ).loc Cert.RFwdIdeal.main_arg4)
          ∧ r.2.mem ((c.tc : Thread Cert.RFwdIdeal.nD Cert.RFwdIdeal.τ).loc Cert.RFwdIdeal.main_arg5) = m' ((c.tc : Thread Cert.RFwdIdeal.nD Cert.RFwdIdeal.τ).loc Cert.RFwdIdeal.main_arg5)
          ∧ r.2.mem ((c.tc : Thread Cert.RFwdIdeal.nD Cert.RFwdIdeal.τ).loc Cert.RFwdIdeal.main_arg6) = m' ((c.tc : Thread Cert.RFwdIdeal.nD Cert.RFwdIdeal.τ).loc Cert.RFwdIdeal.main_arg6)
          ∧ r.2.mem ((c.tc : Thread Cert.RFwdIdeal.nD Cert.RFwdIdeal.τ).loc Cert.RFwdIdeal.main_arg7) = m' ((c.tc : Thread Cert.RFwdIdeal.nD Cert.RFwdIdeal.τ).loc Cert.RFwdIdeal.main_arg7))

def preserves_KAttn_KAttnIdeal : Prop :=
  IdealRules.named_const.Statement Cert.KAttnIdeal.κ "mask" .f32 0xF149F2CA#32 ⊥

def algebraic_KAttnIdeal_RAttnIdeal_pre_attn_finite [hKAttnIdeal : Cert.KAttnIdeal.Facts] [hRAttnIdeal : Cert.RAttnIdeal.Facts] [hPre_attn_finite : Cert.Pre_attn_finite.Facts] : Prop :=
  ∀ (m : (ℓ : Loc Cert.KAttnIdeal.nD Cert.KAttnIdeal.τ Cert.KAttnIdeal.sig) → Buf (Elt Ideal) ℓ) (g : Dev Cert.KAttnIdeal.nD → PrngReg)
    (m' : (ℓ : Loc Cert.RAttnIdeal.nD Cert.RAttnIdeal.τ Cert.RAttnIdeal.sig) → Buf (Elt Ideal) ℓ) (g' : Dev Cert.RAttnIdeal.nD → PrngReg), Pre_KAttnIdeal_attn_finite m →
    (∀ c : Dev Cert.KAttnIdeal.nD,
      m' ((c.tc : Thread Cert.RAttnIdeal.nD Cert.RAttnIdeal.τ).loc Cert.RAttnIdeal.main_arg0) = m ((c.tc : Thread Cert.KAttnIdeal.nD Cert.KAttnIdeal.τ).loc Cert.KAttnIdeal.main_arg0)
      ∧ m' ((c.tc : Thread Cert.RAttnIdeal.nD Cert.RAttnIdeal.τ).loc Cert.RAttnIdeal.main_arg1) = m ((c.tc : Thread Cert.KAttnIdeal.nD Cert.KAttnIdeal.τ).loc Cert.KAttnIdeal.main_arg1)
      ∧ m' ((c.tc : Thread Cert.RAttnIdeal.nD Cert.RAttnIdeal.τ).loc Cert.RAttnIdeal.main_arg2) = m ((c.tc : Thread Cert.KAttnIdeal.nD Cert.KAttnIdeal.τ).loc Cert.KAttnIdeal.main_arg2)
      ∧ m' ((c.tc : Thread Cert.RAttnIdeal.nD Cert.RAttnIdeal.τ).loc Cert.RAttnIdeal.main_arg3) = m ((c.tc : Thread Cert.KAttnIdeal.nD Cert.KAttnIdeal.τ).loc Cert.KAttnIdeal.main_arg3)
      ∧ m' ((c.tc : Thread Cert.RAttnIdeal.nD Cert.RAttnIdeal.τ).loc Cert.RAttnIdeal.main_arg4) = m ((c.tc : Thread Cert.KAttnIdeal.nD Cert.KAttnIdeal.τ).loc Cert.KAttnIdeal.main_arg4)
      ∧ m' ((c.tc : Thread Cert.RAttnIdeal.nD Cert.RAttnIdeal.τ).loc Cert.RAttnIdeal.main_arg5) = m ((c.tc : Thread Cert.KAttnIdeal.nD Cert.KAttnIdeal.τ).loc Cert.KAttnIdeal.main_arg5)
      ∧ m' ((c.tc : Thread Cert.RAttnIdeal.nD Cert.RAttnIdeal.τ).loc Cert.RAttnIdeal.main_arg6) = m ((c.tc : Thread Cert.KAttnIdeal.nD Cert.KAttnIdeal.τ).loc Cert.KAttnIdeal.main_arg6)
      ∧ m' ((c.tc : Thread Cert.RAttnIdeal.nD Cert.RAttnIdeal.τ).loc Cert.RAttnIdeal.main_arg7) = m ((c.tc : Thread Cert.KAttnIdeal.nD Cert.KAttnIdeal.τ).loc Cert.KAttnIdeal.main_arg7)) →
    ∃ (v0 : (c : Dev Cert.KAttnIdeal.nD) → Buf (Elt Ideal) ((c.tc : Thread Cert.KAttnIdeal.nD Cert.KAttnIdeal.τ).loc Cert.KAttnIdeal.main_v63_0)) (v1 : (c : Dev Cert.KAttnIdeal.nD) → Buf (Elt Ideal) ((c.tc : Thread Cert.KAttnIdeal.nD Cert.KAttnIdeal.τ).loc Cert.KAttnIdeal.main_v63_1)) (v2 : (c : Dev Cert.KAttnIdeal.nD) → Buf (Elt Ideal) ((c.tc : Thread Cert.KAttnIdeal.nD Cert.KAttnIdeal.τ).loc Cert.KAttnIdeal.main_v63_2)) (v3 : (c : Dev Cert.KAttnIdeal.nD) → Buf (Elt Ideal) ((c.tc : Thread Cert.KAttnIdeal.nD Cert.KAttnIdeal.τ).loc Cert.KAttnIdeal.main_v63_3)) (v4 : (c : Dev Cert.KAttnIdeal.nD) → Buf (Elt Ideal) ((c.tc : Thread Cert.KAttnIdeal.nD Cert.KAttnIdeal.τ).loc Cert.KAttnIdeal.main_v63_4)),
      θ_run (Cert.KAttnIdeal.defs (F := Ideal)) (onTc (τ := Cert.KAttnIdeal.τ) (Cert.KAttnIdeal.main (F := Ideal))) ⟨m, fun _ => 0, g⟩ (fun r => ∀ c : Dev Cert.KAttnIdeal.nD,
          r.2.mem ((c.tc : Thread Cert.KAttnIdeal.nD Cert.KAttnIdeal.τ).loc Cert.KAttnIdeal.main_v63_0) = v0 c
          ∧ r.2.mem ((c.tc : Thread Cert.KAttnIdeal.nD Cert.KAttnIdeal.τ).loc Cert.KAttnIdeal.main_v63_1) = v1 c
          ∧ r.2.mem ((c.tc : Thread Cert.KAttnIdeal.nD Cert.KAttnIdeal.τ).loc Cert.KAttnIdeal.main_v63_2) = v2 c
          ∧ r.2.mem ((c.tc : Thread Cert.KAttnIdeal.nD Cert.KAttnIdeal.τ).loc Cert.KAttnIdeal.main_v63_3) = v3 c
          ∧ r.2.mem ((c.tc : Thread Cert.KAttnIdeal.nD Cert.KAttnIdeal.τ).loc Cert.KAttnIdeal.main_v63_4) = v4 c
          ∧ r.2.mem ((c.tc : Thread Cert.KAttnIdeal.nD Cert.KAttnIdeal.τ).loc Cert.KAttnIdeal.main_arg0) = m ((c.tc : Thread Cert.KAttnIdeal.nD Cert.KAttnIdeal.τ).loc Cert.KAttnIdeal.main_arg0)
          ∧ r.2.mem ((c.tc : Thread Cert.KAttnIdeal.nD Cert.KAttnIdeal.τ).loc Cert.KAttnIdeal.main_arg1) = m ((c.tc : Thread Cert.KAttnIdeal.nD Cert.KAttnIdeal.τ).loc Cert.KAttnIdeal.main_arg1)
          ∧ r.2.mem ((c.tc : Thread Cert.KAttnIdeal.nD Cert.KAttnIdeal.τ).loc Cert.KAttnIdeal.main_arg2) = m ((c.tc : Thread Cert.KAttnIdeal.nD Cert.KAttnIdeal.τ).loc Cert.KAttnIdeal.main_arg2)
          ∧ r.2.mem ((c.tc : Thread Cert.KAttnIdeal.nD Cert.KAttnIdeal.τ).loc Cert.KAttnIdeal.main_arg3) = m ((c.tc : Thread Cert.KAttnIdeal.nD Cert.KAttnIdeal.τ).loc Cert.KAttnIdeal.main_arg3)
          ∧ r.2.mem ((c.tc : Thread Cert.KAttnIdeal.nD Cert.KAttnIdeal.τ).loc Cert.KAttnIdeal.main_arg4) = m ((c.tc : Thread Cert.KAttnIdeal.nD Cert.KAttnIdeal.τ).loc Cert.KAttnIdeal.main_arg4)
          ∧ r.2.mem ((c.tc : Thread Cert.KAttnIdeal.nD Cert.KAttnIdeal.τ).loc Cert.KAttnIdeal.main_arg5) = m ((c.tc : Thread Cert.KAttnIdeal.nD Cert.KAttnIdeal.τ).loc Cert.KAttnIdeal.main_arg5)
          ∧ r.2.mem ((c.tc : Thread Cert.KAttnIdeal.nD Cert.KAttnIdeal.τ).loc Cert.KAttnIdeal.main_arg6) = m ((c.tc : Thread Cert.KAttnIdeal.nD Cert.KAttnIdeal.τ).loc Cert.KAttnIdeal.main_arg6)
          ∧ r.2.mem ((c.tc : Thread Cert.KAttnIdeal.nD Cert.KAttnIdeal.τ).loc Cert.KAttnIdeal.main_arg7) = m ((c.tc : Thread Cert.KAttnIdeal.nD Cert.KAttnIdeal.τ).loc Cert.KAttnIdeal.main_arg7))
      ∧ θ_run (Cert.RAttnIdeal.defs (F := Ideal)) (onTc (τ := Cert.RAttnIdeal.τ) (Cert.RAttnIdeal.main (F := Ideal))) ⟨m', fun _ => 0, g'⟩ (fun r => ∀ c : Dev Cert.RAttnIdeal.nD,
          r.2.mem ((c.tc : Thread Cert.RAttnIdeal.nD Cert.RAttnIdeal.τ).loc Cert.RAttnIdeal.main_v116) = v0 c
          ∧ r.2.mem ((c.tc : Thread Cert.RAttnIdeal.nD Cert.RAttnIdeal.τ).loc Cert.RAttnIdeal.main_v119) = v1 c
          ∧ r.2.mem ((c.tc : Thread Cert.RAttnIdeal.nD Cert.RAttnIdeal.τ).loc Cert.RAttnIdeal.main_v122) = v2 c
          ∧ r.2.mem ((c.tc : Thread Cert.RAttnIdeal.nD Cert.RAttnIdeal.τ).loc Cert.RAttnIdeal.main_v125) = v3 c
          ∧ r.2.mem ((c.tc : Thread Cert.RAttnIdeal.nD Cert.RAttnIdeal.τ).loc Cert.RAttnIdeal.main_v128) = v4 c
          ∧ r.2.mem ((c.tc : Thread Cert.RAttnIdeal.nD Cert.RAttnIdeal.τ).loc Cert.RAttnIdeal.main_arg0) = m' ((c.tc : Thread Cert.RAttnIdeal.nD Cert.RAttnIdeal.τ).loc Cert.RAttnIdeal.main_arg0)
          ∧ r.2.mem ((c.tc : Thread Cert.RAttnIdeal.nD Cert.RAttnIdeal.τ).loc Cert.RAttnIdeal.main_arg1) = m' ((c.tc : Thread Cert.RAttnIdeal.nD Cert.RAttnIdeal.τ).loc Cert.RAttnIdeal.main_arg1)
          ∧ r.2.mem ((c.tc : Thread Cert.RAttnIdeal.nD Cert.RAttnIdeal.τ).loc Cert.RAttnIdeal.main_arg2) = m' ((c.tc : Thread Cert.RAttnIdeal.nD Cert.RAttnIdeal.τ).loc Cert.RAttnIdeal.main_arg2)
          ∧ r.2.mem ((c.tc : Thread Cert.RAttnIdeal.nD Cert.RAttnIdeal.τ).loc Cert.RAttnIdeal.main_arg3) = m' ((c.tc : Thread Cert.RAttnIdeal.nD Cert.RAttnIdeal.τ).loc Cert.RAttnIdeal.main_arg3)
          ∧ r.2.mem ((c.tc : Thread Cert.RAttnIdeal.nD Cert.RAttnIdeal.τ).loc Cert.RAttnIdeal.main_arg4) = m' ((c.tc : Thread Cert.RAttnIdeal.nD Cert.RAttnIdeal.τ).loc Cert.RAttnIdeal.main_arg4)
          ∧ r.2.mem ((c.tc : Thread Cert.RAttnIdeal.nD Cert.RAttnIdeal.τ).loc Cert.RAttnIdeal.main_arg5) = m' ((c.tc : Thread Cert.RAttnIdeal.nD Cert.RAttnIdeal.τ).loc Cert.RAttnIdeal.main_arg5)
          ∧ r.2.mem ((c.tc : Thread Cert.RAttnIdeal.nD Cert.RAttnIdeal.τ).loc Cert.RAttnIdeal.main_arg6) = m' ((c.tc : Thread Cert.RAttnIdeal.nD Cert.RAttnIdeal.τ).loc Cert.RAttnIdeal.main_arg6)
          ∧ r.2.mem ((c.tc : Thread Cert.RAttnIdeal.nD Cert.RAttnIdeal.τ).loc Cert.RAttnIdeal.main_arg7) = m' ((c.tc : Thread Cert.RAttnIdeal.nD Cert.RAttnIdeal.τ).loc Cert.RAttnIdeal.main_arg7))

def preserves_KAtf_KAtfIdeal : Prop :=
  True

def algebraic_KAtfIdeal_RAtfIdeal_pre_scores_finite [hKAtfIdeal : Cert.KAtfIdeal.Facts] [hRAtfIdeal : Cert.RAtfIdeal.Facts] [hPre_scores_finite : Cert.Pre_scores_finite.Facts] : Prop :=
  ∀ (m : (ℓ : Loc Cert.KAtfIdeal.nD Cert.KAtfIdeal.τ Cert.KAtfIdeal.sig) → Buf (Elt Ideal) ℓ) (g : Dev Cert.KAtfIdeal.nD → PrngReg)
    (m' : (ℓ : Loc Cert.RAtfIdeal.nD Cert.RAtfIdeal.τ Cert.RAtfIdeal.sig) → Buf (Elt Ideal) ℓ) (g' : Dev Cert.RAtfIdeal.nD → PrngReg), Pre_KAtfIdeal_scores_finite m →
    (∀ c : Dev Cert.KAtfIdeal.nD,
      m' ((c.tc : Thread Cert.RAtfIdeal.nD Cert.RAtfIdeal.τ).loc Cert.RAtfIdeal.main_arg0) = m ((c.tc : Thread Cert.KAtfIdeal.nD Cert.KAtfIdeal.τ).loc Cert.KAtfIdeal.main_arg0)
      ∧ m' ((c.tc : Thread Cert.RAtfIdeal.nD Cert.RAtfIdeal.τ).loc Cert.RAtfIdeal.main_arg1) = m ((c.tc : Thread Cert.KAtfIdeal.nD Cert.KAtfIdeal.τ).loc Cert.KAtfIdeal.main_arg1)
      ∧ m' ((c.tc : Thread Cert.RAtfIdeal.nD Cert.RAtfIdeal.τ).loc Cert.RAtfIdeal.main_arg2) = m ((c.tc : Thread Cert.KAtfIdeal.nD Cert.KAtfIdeal.τ).loc Cert.KAtfIdeal.main_arg2)
      ∧ m' ((c.tc : Thread Cert.RAtfIdeal.nD Cert.RAtfIdeal.τ).loc Cert.RAtfIdeal.main_arg3) = m ((c.tc : Thread Cert.KAtfIdeal.nD Cert.KAtfIdeal.τ).loc Cert.KAtfIdeal.main_arg3)
      ∧ m' ((c.tc : Thread Cert.RAtfIdeal.nD Cert.RAtfIdeal.τ).loc Cert.RAtfIdeal.main_arg4) = m ((c.tc : Thread Cert.KAtfIdeal.nD Cert.KAtfIdeal.τ).loc Cert.KAtfIdeal.main_arg4)
      ∧ m' ((c.tc : Thread Cert.RAtfIdeal.nD Cert.RAtfIdeal.τ).loc Cert.RAtfIdeal.main_arg5) = m ((c.tc : Thread Cert.KAtfIdeal.nD Cert.KAtfIdeal.τ).loc Cert.KAtfIdeal.main_arg5)) →
    ∃ (v0 : (c : Dev Cert.KAtfIdeal.nD) → Buf (Elt Ideal) ((c.tc : Thread Cert.KAtfIdeal.nD Cert.KAtfIdeal.τ).loc Cert.KAtfIdeal.main_v24)),
      θ_run (Cert.KAtfIdeal.defs (F := Ideal)) (onTc (τ := Cert.KAtfIdeal.τ) (Cert.KAtfIdeal.main (F := Ideal))) ⟨m, fun _ => 0, g⟩ (fun r => ∀ c : Dev Cert.KAtfIdeal.nD,
          r.2.mem ((c.tc : Thread Cert.KAtfIdeal.nD Cert.KAtfIdeal.τ).loc Cert.KAtfIdeal.main_v24) = v0 c
          ∧ r.2.mem ((c.tc : Thread Cert.KAtfIdeal.nD Cert.KAtfIdeal.τ).loc Cert.KAtfIdeal.main_arg0) = m ((c.tc : Thread Cert.KAtfIdeal.nD Cert.KAtfIdeal.τ).loc Cert.KAtfIdeal.main_arg0)
          ∧ r.2.mem ((c.tc : Thread Cert.KAtfIdeal.nD Cert.KAtfIdeal.τ).loc Cert.KAtfIdeal.main_arg1) = m ((c.tc : Thread Cert.KAtfIdeal.nD Cert.KAtfIdeal.τ).loc Cert.KAtfIdeal.main_arg1)
          ∧ r.2.mem ((c.tc : Thread Cert.KAtfIdeal.nD Cert.KAtfIdeal.τ).loc Cert.KAtfIdeal.main_arg2) = m ((c.tc : Thread Cert.KAtfIdeal.nD Cert.KAtfIdeal.τ).loc Cert.KAtfIdeal.main_arg2)
          ∧ r.2.mem ((c.tc : Thread Cert.KAtfIdeal.nD Cert.KAtfIdeal.τ).loc Cert.KAtfIdeal.main_arg3) = m ((c.tc : Thread Cert.KAtfIdeal.nD Cert.KAtfIdeal.τ).loc Cert.KAtfIdeal.main_arg3)
          ∧ r.2.mem ((c.tc : Thread Cert.KAtfIdeal.nD Cert.KAtfIdeal.τ).loc Cert.KAtfIdeal.main_arg4) = m ((c.tc : Thread Cert.KAtfIdeal.nD Cert.KAtfIdeal.τ).loc Cert.KAtfIdeal.main_arg4)
          ∧ r.2.mem ((c.tc : Thread Cert.KAtfIdeal.nD Cert.KAtfIdeal.τ).loc Cert.KAtfIdeal.main_arg5) = m ((c.tc : Thread Cert.KAtfIdeal.nD Cert.KAtfIdeal.τ).loc Cert.KAtfIdeal.main_arg5))
      ∧ θ_run (Cert.RAtfIdeal.defs (F := Ideal)) (onTc (τ := Cert.RAtfIdeal.τ) (Cert.RAtfIdeal.main (F := Ideal))) ⟨m', fun _ => 0, g'⟩ (fun r => ∀ c : Dev Cert.RAtfIdeal.nD,
          r.2.mem ((c.tc : Thread Cert.RAtfIdeal.nD Cert.RAtfIdeal.τ).loc Cert.RAtfIdeal.main_v35) = v0 c
          ∧ r.2.mem ((c.tc : Thread Cert.RAtfIdeal.nD Cert.RAtfIdeal.τ).loc Cert.RAtfIdeal.main_arg0) = m' ((c.tc : Thread Cert.RAtfIdeal.nD Cert.RAtfIdeal.τ).loc Cert.RAtfIdeal.main_arg0)
          ∧ r.2.mem ((c.tc : Thread Cert.RAtfIdeal.nD Cert.RAtfIdeal.τ).loc Cert.RAtfIdeal.main_arg1) = m' ((c.tc : Thread Cert.RAtfIdeal.nD Cert.RAtfIdeal.τ).loc Cert.RAtfIdeal.main_arg1)
          ∧ r.2.mem ((c.tc : Thread Cert.RAtfIdeal.nD Cert.RAtfIdeal.τ).loc Cert.RAtfIdeal.main_arg2) = m' ((c.tc : Thread Cert.RAtfIdeal.nD Cert.RAtfIdeal.τ).loc Cert.RAtfIdeal.main_arg2)
          ∧ r.2.mem ((c.tc : Thread Cert.RAtfIdeal.nD Cert.RAtfIdeal.τ).loc Cert.RAtfIdeal.main_arg3) = m' ((c.tc : Thread Cert.RAtfIdeal.nD Cert.RAtfIdeal.τ).loc Cert.RAtfIdeal.main_arg3)
          ∧ r.2.mem ((c.tc : Thread Cert.RAtfIdeal.nD Cert.RAtfIdeal.τ).loc Cert.RAtfIdeal.main_arg4) = m' ((c.tc : Thread Cert.RAtfIdeal.nD Cert.RAtfIdeal.τ).loc Cert.RAtfIdeal.main_arg4)
          ∧ r.2.mem ((c.tc : Thread Cert.RAtfIdeal.nD Cert.RAtfIdeal.τ).loc Cert.RAtfIdeal.main_arg5) = m' ((c.tc : Thread Cert.RAtfIdeal.nD Cert.RAtfIdeal.τ).loc Cert.RAtfIdeal.main_arg5))

def preserves_KOut_KOutIdeal : Prop :=
  True

def algebraic_KOutIdeal_ROutIdeal [hKOutIdeal : Cert.KOutIdeal.Facts] [hROutIdeal : Cert.ROutIdeal.Facts] : Prop :=
  ∀ (m : (ℓ : Loc Cert.KOutIdeal.nD Cert.KOutIdeal.τ Cert.KOutIdeal.sig) → Buf (Elt Ideal) ℓ) (g : Dev Cert.KOutIdeal.nD → PrngReg)
    (m' : (ℓ : Loc Cert.ROutIdeal.nD Cert.ROutIdeal.τ Cert.ROutIdeal.sig) → Buf (Elt Ideal) ℓ) (g' : Dev Cert.ROutIdeal.nD → PrngReg), Pre_KOutIdeal m →
    (∀ c : Dev Cert.KOutIdeal.nD,
      m' ((c.tc : Thread Cert.ROutIdeal.nD Cert.ROutIdeal.τ).loc Cert.ROutIdeal.main_arg0) = m ((c.tc : Thread Cert.KOutIdeal.nD Cert.KOutIdeal.τ).loc Cert.KOutIdeal.main_arg0)
      ∧ m' ((c.tc : Thread Cert.ROutIdeal.nD Cert.ROutIdeal.τ).loc Cert.ROutIdeal.main_arg1) = m ((c.tc : Thread Cert.KOutIdeal.nD Cert.KOutIdeal.τ).loc Cert.KOutIdeal.main_arg1)
      ∧ m' ((c.tc : Thread Cert.ROutIdeal.nD Cert.ROutIdeal.τ).loc Cert.ROutIdeal.main_arg2) = m ((c.tc : Thread Cert.KOutIdeal.nD Cert.KOutIdeal.τ).loc Cert.KOutIdeal.main_arg2)
      ∧ m' ((c.tc : Thread Cert.ROutIdeal.nD Cert.ROutIdeal.τ).loc Cert.ROutIdeal.main_arg3) = m ((c.tc : Thread Cert.KOutIdeal.nD Cert.KOutIdeal.τ).loc Cert.KOutIdeal.main_arg3)
      ∧ m' ((c.tc : Thread Cert.ROutIdeal.nD Cert.ROutIdeal.τ).loc Cert.ROutIdeal.main_arg4) = m ((c.tc : Thread Cert.KOutIdeal.nD Cert.KOutIdeal.τ).loc Cert.KOutIdeal.main_arg4)
      ∧ m' ((c.tc : Thread Cert.ROutIdeal.nD Cert.ROutIdeal.τ).loc Cert.ROutIdeal.main_arg5) = m ((c.tc : Thread Cert.KOutIdeal.nD Cert.KOutIdeal.τ).loc Cert.KOutIdeal.main_arg5)
      ∧ m' ((c.tc : Thread Cert.ROutIdeal.nD Cert.ROutIdeal.τ).loc Cert.ROutIdeal.main_arg6) = m ((c.tc : Thread Cert.KOutIdeal.nD Cert.KOutIdeal.τ).loc Cert.KOutIdeal.main_arg6)) →
    ∃ (v0 : (c : Dev Cert.KOutIdeal.nD) → Buf (Elt Ideal) ((c.tc : Thread Cert.KOutIdeal.nD Cert.KOutIdeal.τ).loc Cert.KOutIdeal.main_v10_0)) (v1 : (c : Dev Cert.KOutIdeal.nD) → Buf (Elt Ideal) ((c.tc : Thread Cert.KOutIdeal.nD Cert.KOutIdeal.τ).loc Cert.KOutIdeal.main_v10_1)),
      θ_run (Cert.KOutIdeal.defs (F := Ideal)) (onTc (τ := Cert.KOutIdeal.τ) (Cert.KOutIdeal.main (F := Ideal))) ⟨m, fun _ => 0, g⟩ (fun r => ∀ c : Dev Cert.KOutIdeal.nD,
          r.2.mem ((c.tc : Thread Cert.KOutIdeal.nD Cert.KOutIdeal.τ).loc Cert.KOutIdeal.main_v10_0) = v0 c
          ∧ r.2.mem ((c.tc : Thread Cert.KOutIdeal.nD Cert.KOutIdeal.τ).loc Cert.KOutIdeal.main_v10_1) = v1 c
          ∧ r.2.mem ((c.tc : Thread Cert.KOutIdeal.nD Cert.KOutIdeal.τ).loc Cert.KOutIdeal.main_arg0) = m ((c.tc : Thread Cert.KOutIdeal.nD Cert.KOutIdeal.τ).loc Cert.KOutIdeal.main_arg0)
          ∧ r.2.mem ((c.tc : Thread Cert.KOutIdeal.nD Cert.KOutIdeal.τ).loc Cert.KOutIdeal.main_arg1) = m ((c.tc : Thread Cert.KOutIdeal.nD Cert.KOutIdeal.τ).loc Cert.KOutIdeal.main_arg1)
          ∧ r.2.mem ((c.tc : Thread Cert.KOutIdeal.nD Cert.KOutIdeal.τ).loc Cert.KOutIdeal.main_arg2) = m ((c.tc : Thread Cert.KOutIdeal.nD Cert.KOutIdeal.τ).loc Cert.KOutIdeal.main_arg2)
          ∧ r.2.mem ((c.tc : Thread Cert.KOutIdeal.nD Cert.KOutIdeal.τ).loc Cert.KOutIdeal.main_arg3) = m ((c.tc : Thread Cert.KOutIdeal.nD Cert.KOutIdeal.τ).loc Cert.KOutIdeal.main_arg3)
          ∧ r.2.mem ((c.tc : Thread Cert.KOutIdeal.nD Cert.KOutIdeal.τ).loc Cert.KOutIdeal.main_arg4) = m ((c.tc : Thread Cert.KOutIdeal.nD Cert.KOutIdeal.τ).loc Cert.KOutIdeal.main_arg4)
          ∧ r.2.mem ((c.tc : Thread Cert.KOutIdeal.nD Cert.KOutIdeal.τ).loc Cert.KOutIdeal.main_arg5) = m ((c.tc : Thread Cert.KOutIdeal.nD Cert.KOutIdeal.τ).loc Cert.KOutIdeal.main_arg5)
          ∧ r.2.mem ((c.tc : Thread Cert.KOutIdeal.nD Cert.KOutIdeal.τ).loc Cert.KOutIdeal.main_arg6) = m ((c.tc : Thread Cert.KOutIdeal.nD Cert.KOutIdeal.τ).loc Cert.KOutIdeal.main_arg6))
      ∧ θ_run (Cert.ROutIdeal.defs (F := Ideal)) (onTc (τ := Cert.ROutIdeal.τ) (Cert.ROutIdeal.main (F := Ideal))) ⟨m', fun _ => 0, g'⟩ (fun r => ∀ c : Dev Cert.ROutIdeal.nD,
          r.2.mem ((c.tc : Thread Cert.ROutIdeal.nD Cert.ROutIdeal.τ).loc Cert.ROutIdeal.main_v12) = v0 c
          ∧ r.2.mem ((c.tc : Thread Cert.ROutIdeal.nD Cert.ROutIdeal.τ).loc Cert.ROutIdeal.main_v16) = v1 c
          ∧ r.2.mem ((c.tc : Thread Cert.ROutIdeal.nD Cert.ROutIdeal.τ).loc Cert.ROutIdeal.main_arg0) = m' ((c.tc : Thread Cert.ROutIdeal.nD Cert.ROutIdeal.τ).loc Cert.ROutIdeal.main_arg0)
          ∧ r.2.mem ((c.tc : Thread Cert.ROutIdeal.nD Cert.ROutIdeal.τ).loc Cert.ROutIdeal.main_arg1) = m' ((c.tc : Thread Cert.ROutIdeal.nD Cert.ROutIdeal.τ).loc Cert.ROutIdeal.main_arg1)
          ∧ r.2.mem ((c.tc : Thread Cert.ROutIdeal.nD Cert.ROutIdeal.τ).loc Cert.ROutIdeal.main_arg2) = m' ((c.tc : Thread Cert.ROutIdeal.nD Cert.ROutIdeal.τ).loc Cert.ROutIdeal.main_arg2)
          ∧ r.2.mem ((c.tc : Thread Cert.ROutIdeal.nD Cert.ROutIdeal.τ).loc Cert.ROutIdeal.main_arg3) = m' ((c.tc : Thread Cert.ROutIdeal.nD Cert.ROutIdeal.τ).loc Cert.ROutIdeal.main_arg3)
          ∧ r.2.mem ((c.tc : Thread Cert.ROutIdeal.nD Cert.ROutIdeal.τ).loc Cert.ROutIdeal.main_arg4) = m' ((c.tc : Thread Cert.ROutIdeal.nD Cert.ROutIdeal.τ).loc Cert.ROutIdeal.main_arg4)
          ∧ r.2.mem ((c.tc : Thread Cert.ROutIdeal.nD Cert.ROutIdeal.τ).loc Cert.ROutIdeal.main_arg5) = m' ((c.tc : Thread Cert.ROutIdeal.nD Cert.ROutIdeal.τ).loc Cert.ROutIdeal.main_arg5)
          ∧ r.2.mem ((c.tc : Thread Cert.ROutIdeal.nD Cert.ROutIdeal.τ).loc Cert.ROutIdeal.main_arg6) = m' ((c.tc : Thread Cert.ROutIdeal.nD Cert.ROutIdeal.τ).loc Cert.ROutIdeal.main_arg6))

def preserves_KOub_KOubIdeal : Prop :=
  True

def algebraic_KOubIdeal_ROubIdeal [hKOubIdeal : Cert.KOubIdeal.Facts] [hROubIdeal : Cert.ROubIdeal.Facts] : Prop :=
  ∀ (m : (ℓ : Loc Cert.KOubIdeal.nD Cert.KOubIdeal.τ Cert.KOubIdeal.sig) → Buf (Elt Ideal) ℓ) (g : Dev Cert.KOubIdeal.nD → PrngReg)
    (m' : (ℓ : Loc Cert.ROubIdeal.nD Cert.ROubIdeal.τ Cert.ROubIdeal.sig) → Buf (Elt Ideal) ℓ) (g' : Dev Cert.ROubIdeal.nD → PrngReg), Pre_KOubIdeal m →
    (∀ c : Dev Cert.KOubIdeal.nD,
      m' ((c.tc : Thread Cert.ROubIdeal.nD Cert.ROubIdeal.τ).loc Cert.ROubIdeal.main_arg0) = m ((c.tc : Thread Cert.KOubIdeal.nD Cert.KOubIdeal.τ).loc Cert.KOubIdeal.main_arg0)
      ∧ m' ((c.tc : Thread Cert.ROubIdeal.nD Cert.ROubIdeal.τ).loc Cert.ROubIdeal.main_arg1) = m ((c.tc : Thread Cert.KOubIdeal.nD Cert.KOubIdeal.τ).loc Cert.KOubIdeal.main_arg1)
      ∧ m' ((c.tc : Thread Cert.ROubIdeal.nD Cert.ROubIdeal.τ).loc Cert.ROubIdeal.main_arg2) = m ((c.tc : Thread Cert.KOubIdeal.nD Cert.KOubIdeal.τ).loc Cert.KOubIdeal.main_arg2)
      ∧ m' ((c.tc : Thread Cert.ROubIdeal.nD Cert.ROubIdeal.τ).loc Cert.ROubIdeal.main_arg3) = m ((c.tc : Thread Cert.KOubIdeal.nD Cert.KOubIdeal.τ).loc Cert.KOubIdeal.main_arg3)
      ∧ m' ((c.tc : Thread Cert.ROubIdeal.nD Cert.ROubIdeal.τ).loc Cert.ROubIdeal.main_arg4) = m ((c.tc : Thread Cert.KOubIdeal.nD Cert.KOubIdeal.τ).loc Cert.KOubIdeal.main_arg4)
      ∧ m' ((c.tc : Thread Cert.ROubIdeal.nD Cert.ROubIdeal.τ).loc Cert.ROubIdeal.main_arg5) = m ((c.tc : Thread Cert.KOubIdeal.nD Cert.KOubIdeal.τ).loc Cert.KOubIdeal.main_arg5)
      ∧ m' ((c.tc : Thread Cert.ROubIdeal.nD Cert.ROubIdeal.τ).loc Cert.ROubIdeal.main_arg6) = m ((c.tc : Thread Cert.KOubIdeal.nD Cert.KOubIdeal.τ).loc Cert.KOubIdeal.main_arg6)) →
    ∃ (v0 : (c : Dev Cert.KOubIdeal.nD) → Buf (Elt Ideal) ((c.tc : Thread Cert.KOubIdeal.nD Cert.KOubIdeal.τ).loc Cert.KOubIdeal.main_v11_0)) (v1 : (c : Dev Cert.KOubIdeal.nD) → Buf (Elt Ideal) ((c.tc : Thread Cert.KOubIdeal.nD Cert.KOubIdeal.τ).loc Cert.KOubIdeal.main_v11_1)) (v2 : (c : Dev Cert.KOubIdeal.nD) → Buf (Elt Ideal) ((c.tc : Thread Cert.KOubIdeal.nD Cert.KOubIdeal.τ).loc Cert.KOubIdeal.main_v11_2)),
      θ_run (Cert.KOubIdeal.defs (F := Ideal)) (onTc (τ := Cert.KOubIdeal.τ) (Cert.KOubIdeal.main (F := Ideal))) ⟨m, fun _ => 0, g⟩ (fun r => ∀ c : Dev Cert.KOubIdeal.nD,
          r.2.mem ((c.tc : Thread Cert.KOubIdeal.nD Cert.KOubIdeal.τ).loc Cert.KOubIdeal.main_v11_0) = v0 c
          ∧ r.2.mem ((c.tc : Thread Cert.KOubIdeal.nD Cert.KOubIdeal.τ).loc Cert.KOubIdeal.main_v11_1) = v1 c
          ∧ r.2.mem ((c.tc : Thread Cert.KOubIdeal.nD Cert.KOubIdeal.τ).loc Cert.KOubIdeal.main_v11_2) = v2 c
          ∧ r.2.mem ((c.tc : Thread Cert.KOubIdeal.nD Cert.KOubIdeal.τ).loc Cert.KOubIdeal.main_arg0) = m ((c.tc : Thread Cert.KOubIdeal.nD Cert.KOubIdeal.τ).loc Cert.KOubIdeal.main_arg0)
          ∧ r.2.mem ((c.tc : Thread Cert.KOubIdeal.nD Cert.KOubIdeal.τ).loc Cert.KOubIdeal.main_arg1) = m ((c.tc : Thread Cert.KOubIdeal.nD Cert.KOubIdeal.τ).loc Cert.KOubIdeal.main_arg1)
          ∧ r.2.mem ((c.tc : Thread Cert.KOubIdeal.nD Cert.KOubIdeal.τ).loc Cert.KOubIdeal.main_arg2) = m ((c.tc : Thread Cert.KOubIdeal.nD Cert.KOubIdeal.τ).loc Cert.KOubIdeal.main_arg2)
          ∧ r.2.mem ((c.tc : Thread Cert.KOubIdeal.nD Cert.KOubIdeal.τ).loc Cert.KOubIdeal.main_arg3) = m ((c.tc : Thread Cert.KOubIdeal.nD Cert.KOubIdeal.τ).loc Cert.KOubIdeal.main_arg3)
          ∧ r.2.mem ((c.tc : Thread Cert.KOubIdeal.nD Cert.KOubIdeal.τ).loc Cert.KOubIdeal.main_arg4) = m ((c.tc : Thread Cert.KOubIdeal.nD Cert.KOubIdeal.τ).loc Cert.KOubIdeal.main_arg4)
          ∧ r.2.mem ((c.tc : Thread Cert.KOubIdeal.nD Cert.KOubIdeal.τ).loc Cert.KOubIdeal.main_arg5) = m ((c.tc : Thread Cert.KOubIdeal.nD Cert.KOubIdeal.τ).loc Cert.KOubIdeal.main_arg5)
          ∧ r.2.mem ((c.tc : Thread Cert.KOubIdeal.nD Cert.KOubIdeal.τ).loc Cert.KOubIdeal.main_arg6) = m ((c.tc : Thread Cert.KOubIdeal.nD Cert.KOubIdeal.τ).loc Cert.KOubIdeal.main_arg6))
      ∧ θ_run (Cert.ROubIdeal.defs (F := Ideal)) (onTc (τ := Cert.ROubIdeal.τ) (Cert.ROubIdeal.main (F := Ideal))) ⟨m', fun _ => 0, g'⟩ (fun r => ∀ c : Dev Cert.ROubIdeal.nD,
          r.2.mem ((c.tc : Thread Cert.ROubIdeal.nD Cert.ROubIdeal.τ).loc Cert.ROubIdeal.main_v26) = v0 c
          ∧ r.2.mem ((c.tc : Thread Cert.ROubIdeal.nD Cert.ROubIdeal.τ).loc Cert.ROubIdeal.main_v27) = v1 c
          ∧ r.2.mem ((c.tc : Thread Cert.ROubIdeal.nD Cert.ROubIdeal.τ).loc Cert.ROubIdeal.main_v22) = v2 c
          ∧ r.2.mem ((c.tc : Thread Cert.ROubIdeal.nD Cert.ROubIdeal.τ).loc Cert.ROubIdeal.main_arg0) = m' ((c.tc : Thread Cert.ROubIdeal.nD Cert.ROubIdeal.τ).loc Cert.ROubIdeal.main_arg0)
          ∧ r.2.mem ((c.tc : Thread Cert.ROubIdeal.nD Cert.ROubIdeal.τ).loc Cert.ROubIdeal.main_arg1) = m' ((c.tc : Thread Cert.ROubIdeal.nD Cert.ROubIdeal.τ).loc Cert.ROubIdeal.main_arg1)
          ∧ r.2.mem ((c.tc : Thread Cert.ROubIdeal.nD Cert.ROubIdeal.τ).loc Cert.ROubIdeal.main_arg2) = m' ((c.tc : Thread Cert.ROubIdeal.nD Cert.ROubIdeal.τ).loc Cert.ROubIdeal.main_arg2)
          ∧ r.2.mem ((c.tc : Thread Cert.ROubIdeal.nD Cert.ROubIdeal.τ).loc Cert.ROubIdeal.main_arg3) = m' ((c.tc : Thread Cert.ROubIdeal.nD Cert.ROubIdeal.τ).loc Cert.ROubIdeal.main_arg3)
          ∧ r.2.mem ((c.tc : Thread Cert.ROubIdeal.nD Cert.ROubIdeal.τ).loc Cert.ROubIdeal.main_arg4) = m' ((c.tc : Thread Cert.ROubIdeal.nD Cert.ROubIdeal.τ).loc Cert.ROubIdeal.main_arg4)
          ∧ r.2.mem ((c.tc : Thread Cert.ROubIdeal.nD Cert.ROubIdeal.τ).loc Cert.ROubIdeal.main_arg5) = m' ((c.tc : Thread Cert.ROubIdeal.nD Cert.ROubIdeal.τ).loc Cert.ROubIdeal.main_arg5)
          ∧ r.2.mem ((c.tc : Thread Cert.ROubIdeal.nD Cert.ROubIdeal.τ).loc Cert.ROubIdeal.main_arg6) = m' ((c.tc : Thread Cert.ROubIdeal.nD Cert.ROubIdeal.τ).loc Cert.ROubIdeal.main_arg6))

def preserves_KGwo_KGwoIdeal : Prop :=
  True

def algebraic_KGwoIdeal_RGwoIdeal [hKGwoIdeal : Cert.KGwoIdeal.Facts] [hRGwoIdeal : Cert.RGwoIdeal.Facts] : Prop :=
  ∀ (m : (ℓ : Loc Cert.KGwoIdeal.nD Cert.KGwoIdeal.τ Cert.KGwoIdeal.sig) → Buf (Elt Ideal) ℓ) (g : Dev Cert.KGwoIdeal.nD → PrngReg)
    (m' : (ℓ : Loc Cert.RGwoIdeal.nD Cert.RGwoIdeal.τ Cert.RGwoIdeal.sig) → Buf (Elt Ideal) ℓ) (g' : Dev Cert.RGwoIdeal.nD → PrngReg), Pre_KGwoIdeal m →
    (∀ c : Dev Cert.KGwoIdeal.nD,
      m' ((c.tc : Thread Cert.RGwoIdeal.nD Cert.RGwoIdeal.τ).loc Cert.RGwoIdeal.main_arg0) = m ((c.tc : Thread Cert.KGwoIdeal.nD Cert.KGwoIdeal.τ).loc Cert.KGwoIdeal.main_arg0)
      ∧ m' ((c.tc : Thread Cert.RGwoIdeal.nD Cert.RGwoIdeal.τ).loc Cert.RGwoIdeal.main_arg1) = m ((c.tc : Thread Cert.KGwoIdeal.nD Cert.KGwoIdeal.τ).loc Cert.KGwoIdeal.main_arg1)) →
    ∃ (v0 : (c : Dev Cert.KGwoIdeal.nD) → Buf (Elt Ideal) ((c.tc : Thread Cert.KGwoIdeal.nD Cert.KGwoIdeal.τ).loc Cert.KGwoIdeal.main_v2)),
      θ_run (Cert.KGwoIdeal.defs (F := Ideal)) (onTc (τ := Cert.KGwoIdeal.τ) (Cert.KGwoIdeal.main (F := Ideal))) ⟨m, fun _ => 0, g⟩ (fun r => ∀ c : Dev Cert.KGwoIdeal.nD,
          r.2.mem ((c.tc : Thread Cert.KGwoIdeal.nD Cert.KGwoIdeal.τ).loc Cert.KGwoIdeal.main_v2) = v0 c
          ∧ r.2.mem ((c.tc : Thread Cert.KGwoIdeal.nD Cert.KGwoIdeal.τ).loc Cert.KGwoIdeal.main_arg0) = m ((c.tc : Thread Cert.KGwoIdeal.nD Cert.KGwoIdeal.τ).loc Cert.KGwoIdeal.main_arg0)
          ∧ r.2.mem ((c.tc : Thread Cert.KGwoIdeal.nD Cert.KGwoIdeal.τ).loc Cert.KGwoIdeal.main_arg1) = m ((c.tc : Thread Cert.KGwoIdeal.nD Cert.KGwoIdeal.τ).loc Cert.KGwoIdeal.main_arg1))
      ∧ θ_run (Cert.RGwoIdeal.defs (F := Ideal)) (onTc (τ := Cert.RGwoIdeal.τ) (Cert.RGwoIdeal.main (F := Ideal))) ⟨m', fun _ => 0, g'⟩ (fun r => ∀ c : Dev Cert.RGwoIdeal.nD,
          r.2.mem ((c.tc : Thread Cert.RGwoIdeal.nD Cert.RGwoIdeal.τ).loc Cert.RGwoIdeal.main_v5) = v0 c
          ∧ r.2.mem ((c.tc : Thread Cert.RGwoIdeal.nD Cert.RGwoIdeal.τ).loc Cert.RGwoIdeal.main_arg0) = m' ((c.tc : Thread Cert.RGwoIdeal.nD Cert.RGwoIdeal.τ).loc Cert.RGwoIdeal.main_arg0)
          ∧ r.2.mem ((c.tc : Thread Cert.RGwoIdeal.nD Cert.RGwoIdeal.τ).loc Cert.RGwoIdeal.main_arg1) = m' ((c.tc : Thread Cert.RGwoIdeal.nD Cert.RGwoIdeal.τ).loc Cert.RGwoIdeal.main_arg1))

def preserves_KSci_KSciIdeal : Prop :=
  True

def algebraic_KSciIdeal_RSciIdeal [hKSciIdeal : Cert.KSciIdeal.Facts] [hRSciIdeal : Cert.RSciIdeal.Facts] : Prop :=
  ∀ (m : (ℓ : Loc Cert.KSciIdeal.nD Cert.KSciIdeal.τ Cert.KSciIdeal.sig) → Buf (Elt Ideal) ℓ) (g : Dev Cert.KSciIdeal.nD → PrngReg)
    (m' : (ℓ : Loc Cert.RSciIdeal.nD Cert.RSciIdeal.τ Cert.RSciIdeal.sig) → Buf (Elt Ideal) ℓ) (g' : Dev Cert.RSciIdeal.nD → PrngReg), Pre_KSciIdeal m →
    (∀ c : Dev Cert.KSciIdeal.nD,
      m' ((c.tc : Thread Cert.RSciIdeal.nD Cert.RSciIdeal.τ).loc Cert.RSciIdeal.main_arg0) = m ((c.tc : Thread Cert.KSciIdeal.nD Cert.KSciIdeal.τ).loc Cert.KSciIdeal.main_arg0)
      ∧ m' ((c.tc : Thread Cert.RSciIdeal.nD Cert.RSciIdeal.τ).loc Cert.RSciIdeal.main_arg1) = m ((c.tc : Thread Cert.KSciIdeal.nD Cert.KSciIdeal.τ).loc Cert.KSciIdeal.main_arg1)
      ∧ m' ((c.tc : Thread Cert.RSciIdeal.nD Cert.RSciIdeal.τ).loc Cert.RSciIdeal.main_arg2) = m ((c.tc : Thread Cert.KSciIdeal.nD Cert.KSciIdeal.τ).loc Cert.KSciIdeal.main_arg2)
      ∧ m' ((c.tc : Thread Cert.RSciIdeal.nD Cert.RSciIdeal.τ).loc Cert.RSciIdeal.main_arg3) = m ((c.tc : Thread Cert.KSciIdeal.nD Cert.KSciIdeal.τ).loc Cert.KSciIdeal.main_arg3)
      ∧ m' ((c.tc : Thread Cert.RSciIdeal.nD Cert.RSciIdeal.τ).loc Cert.RSciIdeal.main_arg4) = m ((c.tc : Thread Cert.KSciIdeal.nD Cert.KSciIdeal.τ).loc Cert.KSciIdeal.main_arg4)
      ∧ m' ((c.tc : Thread Cert.RSciIdeal.nD Cert.RSciIdeal.τ).loc Cert.RSciIdeal.main_arg5) = m ((c.tc : Thread Cert.KSciIdeal.nD Cert.KSciIdeal.τ).loc Cert.KSciIdeal.main_arg5)) →
    ∃ (v0 : (c : Dev Cert.KSciIdeal.nD) → Buf (Elt Ideal) ((c.tc : Thread Cert.KSciIdeal.nD Cert.KSciIdeal.τ).loc Cert.KSciIdeal.main_v9_0)) (v1 : (c : Dev Cert.KSciIdeal.nD) → Buf (Elt Ideal) ((c.tc : Thread Cert.KSciIdeal.nD Cert.KSciIdeal.τ).loc Cert.KSciIdeal.main_v9_1)),
      θ_run (Cert.KSciIdeal.defs (F := Ideal)) (onTc (τ := Cert.KSciIdeal.τ) (Cert.KSciIdeal.main (F := Ideal))) ⟨m, fun _ => 0, g⟩ (fun r => ∀ c : Dev Cert.KSciIdeal.nD,
          r.2.mem ((c.tc : Thread Cert.KSciIdeal.nD Cert.KSciIdeal.τ).loc Cert.KSciIdeal.main_v9_0) = v0 c
          ∧ r.2.mem ((c.tc : Thread Cert.KSciIdeal.nD Cert.KSciIdeal.τ).loc Cert.KSciIdeal.main_v9_1) = v1 c
          ∧ r.2.mem ((c.tc : Thread Cert.KSciIdeal.nD Cert.KSciIdeal.τ).loc Cert.KSciIdeal.main_arg0) = m ((c.tc : Thread Cert.KSciIdeal.nD Cert.KSciIdeal.τ).loc Cert.KSciIdeal.main_arg0)
          ∧ r.2.mem ((c.tc : Thread Cert.KSciIdeal.nD Cert.KSciIdeal.τ).loc Cert.KSciIdeal.main_arg1) = m ((c.tc : Thread Cert.KSciIdeal.nD Cert.KSciIdeal.τ).loc Cert.KSciIdeal.main_arg1)
          ∧ r.2.mem ((c.tc : Thread Cert.KSciIdeal.nD Cert.KSciIdeal.τ).loc Cert.KSciIdeal.main_arg2) = m ((c.tc : Thread Cert.KSciIdeal.nD Cert.KSciIdeal.τ).loc Cert.KSciIdeal.main_arg2)
          ∧ r.2.mem ((c.tc : Thread Cert.KSciIdeal.nD Cert.KSciIdeal.τ).loc Cert.KSciIdeal.main_arg3) = m ((c.tc : Thread Cert.KSciIdeal.nD Cert.KSciIdeal.τ).loc Cert.KSciIdeal.main_arg3)
          ∧ r.2.mem ((c.tc : Thread Cert.KSciIdeal.nD Cert.KSciIdeal.τ).loc Cert.KSciIdeal.main_arg4) = m ((c.tc : Thread Cert.KSciIdeal.nD Cert.KSciIdeal.τ).loc Cert.KSciIdeal.main_arg4)
          ∧ r.2.mem ((c.tc : Thread Cert.KSciIdeal.nD Cert.KSciIdeal.τ).loc Cert.KSciIdeal.main_arg5) = m ((c.tc : Thread Cert.KSciIdeal.nD Cert.KSciIdeal.τ).loc Cert.KSciIdeal.main_arg5))
      ∧ θ_run (Cert.RSciIdeal.defs (F := Ideal)) (onTc (τ := Cert.RSciIdeal.τ) (Cert.RSciIdeal.main (F := Ideal))) ⟨m', fun _ => 0, g'⟩ (fun r => ∀ c : Dev Cert.RSciIdeal.nD,
          r.2.mem ((c.tc : Thread Cert.RSciIdeal.nD Cert.RSciIdeal.τ).loc Cert.RSciIdeal.main_v65) = v0 c
          ∧ r.2.mem ((c.tc : Thread Cert.RSciIdeal.nD Cert.RSciIdeal.τ).loc Cert.RSciIdeal.main_v66) = v1 c
          ∧ r.2.mem ((c.tc : Thread Cert.RSciIdeal.nD Cert.RSciIdeal.τ).loc Cert.RSciIdeal.main_arg0) = m' ((c.tc : Thread Cert.RSciIdeal.nD Cert.RSciIdeal.τ).loc Cert.RSciIdeal.main_arg0)
          ∧ r.2.mem ((c.tc : Thread Cert.RSciIdeal.nD Cert.RSciIdeal.τ).loc Cert.RSciIdeal.main_arg1) = m' ((c.tc : Thread Cert.RSciIdeal.nD Cert.RSciIdeal.τ).loc Cert.RSciIdeal.main_arg1)
          ∧ r.2.mem ((c.tc : Thread Cert.RSciIdeal.nD Cert.RSciIdeal.τ).loc Cert.RSciIdeal.main_arg2) = m' ((c.tc : Thread Cert.RSciIdeal.nD Cert.RSciIdeal.τ).loc Cert.RSciIdeal.main_arg2)
          ∧ r.2.mem ((c.tc : Thread Cert.RSciIdeal.nD Cert.RSciIdeal.τ).loc Cert.RSciIdeal.main_arg3) = m' ((c.tc : Thread Cert.RSciIdeal.nD Cert.RSciIdeal.τ).loc Cert.RSciIdeal.main_arg3)
          ∧ r.2.mem ((c.tc : Thread Cert.RSciIdeal.nD Cert.RSciIdeal.τ).loc Cert.RSciIdeal.main_arg4) = m' ((c.tc : Thread Cert.RSciIdeal.nD Cert.RSciIdeal.τ).loc Cert.RSciIdeal.main_arg4)
          ∧ r.2.mem ((c.tc : Thread Cert.RSciIdeal.nD Cert.RSciIdeal.τ).loc Cert.RSciIdeal.main_arg5) = m' ((c.tc : Thread Cert.RSciIdeal.nD Cert.RSciIdeal.τ).loc Cert.RSciIdeal.main_arg5))

def preserves_KGwi_KGwiIdeal : Prop :=
  True

def algebraic_KGwiIdeal_RGwiIdeal [hKGwiIdeal : Cert.KGwiIdeal.Facts] [hRGwiIdeal : Cert.RGwiIdeal.Facts] : Prop :=
  ∀ (m : (ℓ : Loc Cert.KGwiIdeal.nD Cert.KGwiIdeal.τ Cert.KGwiIdeal.sig) → Buf (Elt Ideal) ℓ) (g : Dev Cert.KGwiIdeal.nD → PrngReg)
    (m' : (ℓ : Loc Cert.RGwiIdeal.nD Cert.RGwiIdeal.τ Cert.RGwiIdeal.sig) → Buf (Elt Ideal) ℓ) (g' : Dev Cert.RGwiIdeal.nD → PrngReg), Pre_KGwiIdeal m →
    (∀ c : Dev Cert.KGwiIdeal.nD,
      m' ((c.tc : Thread Cert.RGwiIdeal.nD Cert.RGwiIdeal.τ).loc Cert.RGwiIdeal.main_arg0) = m ((c.tc : Thread Cert.KGwiIdeal.nD Cert.KGwiIdeal.τ).loc Cert.KGwiIdeal.main_arg0)
      ∧ m' ((c.tc : Thread Cert.RGwiIdeal.nD Cert.RGwiIdeal.τ).loc Cert.RGwiIdeal.main_arg1) = m ((c.tc : Thread Cert.KGwiIdeal.nD Cert.KGwiIdeal.τ).loc Cert.KGwiIdeal.main_arg1)) →
    ∃ (v0 : (c : Dev Cert.KGwiIdeal.nD) → Buf (Elt Ideal) ((c.tc : Thread Cert.KGwiIdeal.nD Cert.KGwiIdeal.τ).loc Cert.KGwiIdeal.main_v8)),
      θ_run (Cert.KGwiIdeal.defs (F := Ideal)) (onTc (τ := Cert.KGwiIdeal.τ) (Cert.KGwiIdeal.main (F := Ideal))) ⟨m, fun _ => 0, g⟩ (fun r => ∀ c : Dev Cert.KGwiIdeal.nD,
          r.2.mem ((c.tc : Thread Cert.KGwiIdeal.nD Cert.KGwiIdeal.τ).loc Cert.KGwiIdeal.main_v8) = v0 c
          ∧ r.2.mem ((c.tc : Thread Cert.KGwiIdeal.nD Cert.KGwiIdeal.τ).loc Cert.KGwiIdeal.main_arg0) = m ((c.tc : Thread Cert.KGwiIdeal.nD Cert.KGwiIdeal.τ).loc Cert.KGwiIdeal.main_arg0)
          ∧ r.2.mem ((c.tc : Thread Cert.KGwiIdeal.nD Cert.KGwiIdeal.τ).loc Cert.KGwiIdeal.main_arg1) = m ((c.tc : Thread Cert.KGwiIdeal.nD Cert.KGwiIdeal.τ).loc Cert.KGwiIdeal.main_arg1))
      ∧ θ_run (Cert.RGwiIdeal.defs (F := Ideal)) (onTc (τ := Cert.RGwiIdeal.τ) (Cert.RGwiIdeal.main (F := Ideal))) ⟨m', fun _ => 0, g'⟩ (fun r => ∀ c : Dev Cert.RGwiIdeal.nD,
          r.2.mem ((c.tc : Thread Cert.RGwiIdeal.nD Cert.RGwiIdeal.τ).loc Cert.RGwiIdeal.main_v6) = v0 c
          ∧ r.2.mem ((c.tc : Thread Cert.RGwiIdeal.nD Cert.RGwiIdeal.τ).loc Cert.RGwiIdeal.main_arg0) = m' ((c.tc : Thread Cert.RGwiIdeal.nD Cert.RGwiIdeal.τ).loc Cert.RGwiIdeal.main_arg0)
          ∧ r.2.mem ((c.tc : Thread Cert.RGwiIdeal.nD Cert.RGwiIdeal.τ).loc Cert.RGwiIdeal.main_arg1) = m' ((c.tc : Thread Cert.RGwiIdeal.nD Cert.RGwiIdeal.τ).loc Cert.RGwiIdeal.main_arg1))

def preserves_KScb_KScbIdeal : Prop :=
  True

def algebraic_KScbIdeal_RScbIdeal [hKScbIdeal : Cert.KScbIdeal.Facts] [hRScbIdeal : Cert.RScbIdeal.Facts] : Prop :=
  ∀ (m : (ℓ : Loc Cert.KScbIdeal.nD Cert.KScbIdeal.τ Cert.KScbIdeal.sig) → Buf (Elt Ideal) ℓ) (g : Dev Cert.KScbIdeal.nD → PrngReg)
    (m' : (ℓ : Loc Cert.RScbIdeal.nD Cert.RScbIdeal.τ Cert.RScbIdeal.sig) → Buf (Elt Ideal) ℓ) (g' : Dev Cert.RScbIdeal.nD → PrngReg), Pre_KScbIdeal m →
    (∀ c : Dev Cert.KScbIdeal.nD,
      m' ((c.tc : Thread Cert.RScbIdeal.nD Cert.RScbIdeal.τ).loc Cert.RScbIdeal.main_arg0) = m ((c.tc : Thread Cert.KScbIdeal.nD Cert.KScbIdeal.τ).loc Cert.KScbIdeal.main_arg0)
      ∧ m' ((c.tc : Thread Cert.RScbIdeal.nD Cert.RScbIdeal.τ).loc Cert.RScbIdeal.main_arg1) = m ((c.tc : Thread Cert.KScbIdeal.nD Cert.KScbIdeal.τ).loc Cert.KScbIdeal.main_arg1)
      ∧ m' ((c.tc : Thread Cert.RScbIdeal.nD Cert.RScbIdeal.τ).loc Cert.RScbIdeal.main_arg2) = m ((c.tc : Thread Cert.KScbIdeal.nD Cert.KScbIdeal.τ).loc Cert.KScbIdeal.main_arg2)
      ∧ m' ((c.tc : Thread Cert.RScbIdeal.nD Cert.RScbIdeal.τ).loc Cert.RScbIdeal.main_arg3) = m ((c.tc : Thread Cert.KScbIdeal.nD Cert.KScbIdeal.τ).loc Cert.KScbIdeal.main_arg3)
      ∧ m' ((c.tc : Thread Cert.RScbIdeal.nD Cert.RScbIdeal.τ).loc Cert.RScbIdeal.main_arg4) = m ((c.tc : Thread Cert.KScbIdeal.nD Cert.KScbIdeal.τ).loc Cert.KScbIdeal.main_arg4)
      ∧ m' ((c.tc : Thread Cert.RScbIdeal.nD Cert.RScbIdeal.τ).loc Cert.RScbIdeal.main_arg5) = m ((c.tc : Thread Cert.KScbIdeal.nD Cert.KScbIdeal.τ).loc Cert.KScbIdeal.main_arg5)
      ∧ m' ((c.tc : Thread Cert.RScbIdeal.nD Cert.RScbIdeal.τ).loc Cert.RScbIdeal.main_arg6) = m ((c.tc : Thread Cert.KScbIdeal.nD Cert.KScbIdeal.τ).loc Cert.KScbIdeal.main_arg6)
      ∧ m' ((c.tc : Thread Cert.RScbIdeal.nD Cert.RScbIdeal.τ).loc Cert.RScbIdeal.main_arg7) = m ((c.tc : Thread Cert.KScbIdeal.nD Cert.KScbIdeal.τ).loc Cert.KScbIdeal.main_arg7)
      ∧ m' ((c.tc : Thread Cert.RScbIdeal.nD Cert.RScbIdeal.τ).loc Cert.RScbIdeal.main_arg8) = m ((c.tc : Thread Cert.KScbIdeal.nD Cert.KScbIdeal.τ).loc Cert.KScbIdeal.main_arg8)
      ∧ m' ((c.tc : Thread Cert.RScbIdeal.nD Cert.RScbIdeal.τ).loc Cert.RScbIdeal.main_arg9) = m ((c.tc : Thread Cert.KScbIdeal.nD Cert.KScbIdeal.τ).loc Cert.KScbIdeal.main_arg9)) →
    ∃ (v0 : (c : Dev Cert.KScbIdeal.nD) → Buf (Elt Ideal) ((c.tc : Thread Cert.KScbIdeal.nD Cert.KScbIdeal.τ).loc Cert.KScbIdeal.main_v22_0)) (v1 : (c : Dev Cert.KScbIdeal.nD) → Buf (Elt Ideal) ((c.tc : Thread Cert.KScbIdeal.nD Cert.KScbIdeal.τ).loc Cert.KScbIdeal.main_v22_1)),
      θ_run (Cert.KScbIdeal.defs (F := Ideal)) (onTc (τ := Cert.KScbIdeal.τ) (Cert.KScbIdeal.main (F := Ideal))) ⟨m, fun _ => 0, g⟩ (fun r => ∀ c : Dev Cert.KScbIdeal.nD,
          r.2.mem ((c.tc : Thread Cert.KScbIdeal.nD Cert.KScbIdeal.τ).loc Cert.KScbIdeal.main_v22_0) = v0 c
          ∧ r.2.mem ((c.tc : Thread Cert.KScbIdeal.nD Cert.KScbIdeal.τ).loc Cert.KScbIdeal.main_v22_1) = v1 c
          ∧ r.2.mem ((c.tc : Thread Cert.KScbIdeal.nD Cert.KScbIdeal.τ).loc Cert.KScbIdeal.main_arg0) = m ((c.tc : Thread Cert.KScbIdeal.nD Cert.KScbIdeal.τ).loc Cert.KScbIdeal.main_arg0)
          ∧ r.2.mem ((c.tc : Thread Cert.KScbIdeal.nD Cert.KScbIdeal.τ).loc Cert.KScbIdeal.main_arg1) = m ((c.tc : Thread Cert.KScbIdeal.nD Cert.KScbIdeal.τ).loc Cert.KScbIdeal.main_arg1)
          ∧ r.2.mem ((c.tc : Thread Cert.KScbIdeal.nD Cert.KScbIdeal.τ).loc Cert.KScbIdeal.main_arg2) = m ((c.tc : Thread Cert.KScbIdeal.nD Cert.KScbIdeal.τ).loc Cert.KScbIdeal.main_arg2)
          ∧ r.2.mem ((c.tc : Thread Cert.KScbIdeal.nD Cert.KScbIdeal.τ).loc Cert.KScbIdeal.main_arg3) = m ((c.tc : Thread Cert.KScbIdeal.nD Cert.KScbIdeal.τ).loc Cert.KScbIdeal.main_arg3)
          ∧ r.2.mem ((c.tc : Thread Cert.KScbIdeal.nD Cert.KScbIdeal.τ).loc Cert.KScbIdeal.main_arg4) = m ((c.tc : Thread Cert.KScbIdeal.nD Cert.KScbIdeal.τ).loc Cert.KScbIdeal.main_arg4)
          ∧ r.2.mem ((c.tc : Thread Cert.KScbIdeal.nD Cert.KScbIdeal.τ).loc Cert.KScbIdeal.main_arg5) = m ((c.tc : Thread Cert.KScbIdeal.nD Cert.KScbIdeal.τ).loc Cert.KScbIdeal.main_arg5)
          ∧ r.2.mem ((c.tc : Thread Cert.KScbIdeal.nD Cert.KScbIdeal.τ).loc Cert.KScbIdeal.main_arg6) = m ((c.tc : Thread Cert.KScbIdeal.nD Cert.KScbIdeal.τ).loc Cert.KScbIdeal.main_arg6)
          ∧ r.2.mem ((c.tc : Thread Cert.KScbIdeal.nD Cert.KScbIdeal.τ).loc Cert.KScbIdeal.main_arg7) = m ((c.tc : Thread Cert.KScbIdeal.nD Cert.KScbIdeal.τ).loc Cert.KScbIdeal.main_arg7)
          ∧ r.2.mem ((c.tc : Thread Cert.KScbIdeal.nD Cert.KScbIdeal.τ).loc Cert.KScbIdeal.main_arg8) = m ((c.tc : Thread Cert.KScbIdeal.nD Cert.KScbIdeal.τ).loc Cert.KScbIdeal.main_arg8)
          ∧ r.2.mem ((c.tc : Thread Cert.KScbIdeal.nD Cert.KScbIdeal.τ).loc Cert.KScbIdeal.main_arg9) = m ((c.tc : Thread Cert.KScbIdeal.nD Cert.KScbIdeal.τ).loc Cert.KScbIdeal.main_arg9))
      ∧ θ_run (Cert.RScbIdeal.defs (F := Ideal)) (onTc (τ := Cert.RScbIdeal.τ) (Cert.RScbIdeal.main (F := Ideal))) ⟨m', fun _ => 0, g'⟩ (fun r => ∀ c : Dev Cert.RScbIdeal.nD,
          r.2.mem ((c.tc : Thread Cert.RScbIdeal.nD Cert.RScbIdeal.τ).loc Cert.RScbIdeal.main_v73) = v0 c
          ∧ r.2.mem ((c.tc : Thread Cert.RScbIdeal.nD Cert.RScbIdeal.τ).loc Cert.RScbIdeal.main_v72) = v1 c
          ∧ r.2.mem ((c.tc : Thread Cert.RScbIdeal.nD Cert.RScbIdeal.τ).loc Cert.RScbIdeal.main_arg0) = m' ((c.tc : Thread Cert.RScbIdeal.nD Cert.RScbIdeal.τ).loc Cert.RScbIdeal.main_arg0)
          ∧ r.2.mem ((c.tc : Thread Cert.RScbIdeal.nD Cert.RScbIdeal.τ).loc Cert.RScbIdeal.main_arg1) = m' ((c.tc : Thread Cert.RScbIdeal.nD Cert.RScbIdeal.τ).loc Cert.RScbIdeal.main_arg1)
          ∧ r.2.mem ((c.tc : Thread Cert.RScbIdeal.nD Cert.RScbIdeal.τ).loc Cert.RScbIdeal.main_arg2) = m' ((c.tc : Thread Cert.RScbIdeal.nD Cert.RScbIdeal.τ).loc Cert.RScbIdeal.main_arg2)
          ∧ r.2.mem ((c.tc : Thread Cert.RScbIdeal.nD Cert.RScbIdeal.τ).loc Cert.RScbIdeal.main_arg3) = m' ((c.tc : Thread Cert.RScbIdeal.nD Cert.RScbIdeal.τ).loc Cert.RScbIdeal.main_arg3)
          ∧ r.2.mem ((c.tc : Thread Cert.RScbIdeal.nD Cert.RScbIdeal.τ).loc Cert.RScbIdeal.main_arg4) = m' ((c.tc : Thread Cert.RScbIdeal.nD Cert.RScbIdeal.τ).loc Cert.RScbIdeal.main_arg4)
          ∧ r.2.mem ((c.tc : Thread Cert.RScbIdeal.nD Cert.RScbIdeal.τ).loc Cert.RScbIdeal.main_arg5) = m' ((c.tc : Thread Cert.RScbIdeal.nD Cert.RScbIdeal.τ).loc Cert.RScbIdeal.main_arg5)
          ∧ r.2.mem ((c.tc : Thread Cert.RScbIdeal.nD Cert.RScbIdeal.τ).loc Cert.RScbIdeal.main_arg6) = m' ((c.tc : Thread Cert.RScbIdeal.nD Cert.RScbIdeal.τ).loc Cert.RScbIdeal.main_arg6)
          ∧ r.2.mem ((c.tc : Thread Cert.RScbIdeal.nD Cert.RScbIdeal.τ).loc Cert.RScbIdeal.main_arg7) = m' ((c.tc : Thread Cert.RScbIdeal.nD Cert.RScbIdeal.τ).loc Cert.RScbIdeal.main_arg7)
          ∧ r.2.mem ((c.tc : Thread Cert.RScbIdeal.nD Cert.RScbIdeal.τ).loc Cert.RScbIdeal.main_arg8) = m' ((c.tc : Thread Cert.RScbIdeal.nD Cert.RScbIdeal.τ).loc Cert.RScbIdeal.main_arg8)
          ∧ r.2.mem ((c.tc : Thread Cert.RScbIdeal.nD Cert.RScbIdeal.τ).loc Cert.RScbIdeal.main_arg9) = m' ((c.tc : Thread Cert.RScbIdeal.nD Cert.RScbIdeal.τ).loc Cert.RScbIdeal.main_arg9))

def Claim : Prop :=
  ∃ (hKConv : Cert.KConv.Facts) (hKConvIdeal : Cert.KConvIdeal.Facts) (hRConvIdeal : Cert.RConvIdeal.Facts) (hKGw : Cert.KGw.Facts) (hKGwIdeal : Cert.KGwIdeal.Facts) (hRGwIdeal : Cert.RGwIdeal.Facts) (hKFfn : Cert.KFfn.Facts) (hKFfnIdeal : Cert.KFfnIdeal.Facts) (hRFfnIdeal : Cert.RFfnIdeal.Facts) (hKFwd : Cert.KFwd.Facts) (hKFwdIdeal : Cert.KFwdIdeal.Facts) (hRFwdIdeal : Cert.RFwdIdeal.Facts) (hKAttn : Cert.KAttn.Facts) (hKAttnIdeal : Cert.KAttnIdeal.Facts) (hRAttnIdeal : Cert.RAttnIdeal.Facts) (hKAtf : Cert.KAtf.Facts) (hKAtfIdeal : Cert.KAtfIdeal.Facts) (hRAtfIdeal : Cert.RAtfIdeal.Facts) (hKOut : Cert.KOut.Facts) (hKOutIdeal : Cert.KOutIdeal.Facts) (hROutIdeal : Cert.ROutIdeal.Facts) (hKOub : Cert.KOub.Facts) (hKOubIdeal : Cert.KOubIdeal.Facts) (hROubIdeal : Cert.ROubIdeal.Facts) (hKGwo : Cert.KGwo.Facts) (hKGwoIdeal : Cert.KGwoIdeal.Facts) (hRGwoIdeal : Cert.RGwoIdeal.Facts) (hKSci : Cert.KSci.Facts) (hKSciIdeal : Cert.KSciIdeal.Facts) (hRSciIdeal : Cert.RSciIdeal.Facts) (hKGwi : Cert.KGwi.Facts) (hKGwiIdeal : Cert.KGwiIdeal.Facts) (hRGwiIdeal : Cert.RGwiIdeal.Facts) (hKScb : Cert.KScb.Facts) (hKScbIdeal : Cert.KScbIdeal.Facts) (hRScbIdeal : Cert.RScbIdeal.Facts) (hPre_ffn_finite : Cert.Pre_ffn_finite.Facts) (hPre_attn_finite : Cert.Pre_attn_finite.Facts) (hPre_scores_finite : Cert.Pre_scores_finite.Facts),
    quiescent_KConv (hKConv := hKConv)
    ∧ quiescent_KConvIdeal (hKConvIdeal := hKConvIdeal)
    ∧ quiescent_RConvIdeal (hRConvIdeal := hRConvIdeal)
    ∧ quiescent_KGw (hKGw := hKGw)
    ∧ quiescent_KGwIdeal (hKGwIdeal := hKGwIdeal)
    ∧ quiescent_RGwIdeal (hRGwIdeal := hRGwIdeal)
    ∧ quiescent_KFfn (hKFfn := hKFfn)
    ∧ quiescent_KFfnIdeal (hKFfnIdeal := hKFfnIdeal)
    ∧ quiescent_KFfnIdeal_pre_ffn_finite (hKFfnIdeal := hKFfnIdeal) (hPre_ffn_finite := hPre_ffn_finite)
    ∧ quiescent_RFfnIdeal (hRFfnIdeal := hRFfnIdeal)
    ∧ quiescent_RFfnIdeal_pre_ffn_finite (hRFfnIdeal := hRFfnIdeal) (hPre_ffn_finite := hPre_ffn_finite)
    ∧ quiescent_KFwd (hKFwd := hKFwd)
    ∧ quiescent_KFwdIdeal (hKFwdIdeal := hKFwdIdeal)
    ∧ quiescent_RFwdIdeal (hRFwdIdeal := hRFwdIdeal)
    ∧ quiescent_KAttn (hKAttn := hKAttn)
    ∧ quiescent_KAttnIdeal (hKAttnIdeal := hKAttnIdeal)
    ∧ quiescent_KAttnIdeal_pre_attn_finite (hKAttnIdeal := hKAttnIdeal) (hPre_attn_finite := hPre_attn_finite)
    ∧ quiescent_RAttnIdeal (hRAttnIdeal := hRAttnIdeal)
    ∧ quiescent_RAttnIdeal_pre_attn_finite (hRAttnIdeal := hRAttnIdeal) (hPre_attn_finite := hPre_attn_finite)
    ∧ quiescent_KAtf (hKAtf := hKAtf)
    ∧ quiescent_KAtfIdeal (hKAtfIdeal := hKAtfIdeal)
    ∧ quiescent_KAtfIdeal_pre_scores_finite (hKAtfIdeal := hKAtfIdeal) (hPre_scores_finite := hPre_scores_finite)
    ∧ quiescent_RAtfIdeal (hRAtfIdeal := hRAtfIdeal)
    ∧ quiescent_RAtfIdeal_pre_scores_finite (hRAtfIdeal := hRAtfIdeal) (hPre_scores_finite := hPre_scores_finite)
    ∧ quiescent_KOut (hKOut := hKOut)
    ∧ quiescent_KOutIdeal (hKOutIdeal := hKOutIdeal)
    ∧ quiescent_ROutIdeal (hROutIdeal := hROutIdeal)
    ∧ quiescent_KOub (hKOub := hKOub)
    ∧ quiescent_KOubIdeal (hKOubIdeal := hKOubIdeal)
    ∧ quiescent_ROubIdeal (hROubIdeal := hROubIdeal)
    ∧ quiescent_KGwo (hKGwo := hKGwo)
    ∧ quiescent_KGwoIdeal (hKGwoIdeal := hKGwoIdeal)
    ∧ quiescent_RGwoIdeal (hRGwoIdeal := hRGwoIdeal)
    ∧ quiescent_KSci (hKSci := hKSci)
    ∧ quiescent_KSciIdeal (hKSciIdeal := hKSciIdeal)
    ∧ quiescent_RSciIdeal (hRSciIdeal := hRSciIdeal)
    ∧ quiescent_KGwi (hKGwi := hKGwi)
    ∧ quiescent_KGwiIdeal (hKGwiIdeal := hKGwiIdeal)
    ∧ quiescent_RGwiIdeal (hRGwiIdeal := hRGwiIdeal)
    ∧ quiescent_KScb (hKScb := hKScb)
    ∧ quiescent_KScbIdeal (hKScbIdeal := hKScbIdeal)
    ∧ quiescent_RScbIdeal (hRScbIdeal := hRScbIdeal)
    ∧ preserves_KConv_KConvIdeal
    ∧ algebraic_KConvIdeal_RConvIdeal (hKConvIdeal := hKConvIdeal) (hRConvIdeal := hRConvIdeal)
    ∧ preserves_KGw_KGwIdeal
    ∧ algebraic_KGwIdeal_RGwIdeal (hKGwIdeal := hKGwIdeal) (hRGwIdeal := hRGwIdeal)
    ∧ preserves_KFfn_KFfnIdeal
    ∧ algebraic_KFfnIdeal_RFfnIdeal_pre_ffn_finite (hKFfnIdeal := hKFfnIdeal) (hRFfnIdeal := hRFfnIdeal) (hPre_ffn_finite := hPre_ffn_finite)
    ∧ preserves_KFwd_KFwdIdeal
    ∧ algebraic_KFwdIdeal_RFwdIdeal (hKFwdIdeal := hKFwdIdeal) (hRFwdIdeal := hRFwdIdeal)
    ∧ preserves_KAttn_KAttnIdeal
    ∧ algebraic_KAttnIdeal_RAttnIdeal_pre_attn_finite (hKAttnIdeal := hKAttnIdeal) (hRAttnIdeal := hRAttnIdeal) (hPre_attn_finite := hPre_attn_finite)
    ∧ preserves_KAtf_KAtfIdeal
    ∧ algebraic_KAtfIdeal_RAtfIdeal_pre_scores_finite (hKAtfIdeal := hKAtfIdeal) (hRAtfIdeal := hRAtfIdeal) (hPre_scores_finite := hPre_scores_finite)
    ∧ preserves_KOut_KOutIdeal
    ∧ algebraic_KOutIdeal_ROutIdeal (hKOutIdeal := hKOutIdeal) (hROutIdeal := hROutIdeal)
    ∧ preserves_KOub_KOubIdeal
    ∧ algebraic_KOubIdeal_ROubIdeal (hKOubIdeal := hKOubIdeal) (hROubIdeal := hROubIdeal)
    ∧ preserves_KGwo_KGwoIdeal
    ∧ algebraic_KGwoIdeal_RGwoIdeal (hKGwoIdeal := hKGwoIdeal) (hRGwoIdeal := hRGwoIdeal)
    ∧ preserves_KSci_KSciIdeal
    ∧ algebraic_KSciIdeal_RSciIdeal (hKSciIdeal := hKSciIdeal) (hRSciIdeal := hRSciIdeal)
    ∧ preserves_KGwi_KGwiIdeal
    ∧ algebraic_KGwiIdeal_RGwiIdeal (hKGwiIdeal := hKGwiIdeal) (hRGwiIdeal := hRGwiIdeal)
    ∧ preserves_KScb_KScbIdeal
    ∧ algebraic_KScbIdeal_RScbIdeal (hKScbIdeal := hKScbIdeal) (hRScbIdeal := hRScbIdeal)
-- ==== Pre_attn_finite.lean ====
abbrev S2x8x2048x192 : Shape := ⟨4, ![2, 8, 2048, 192]⟩
abbrev S2x8x256x192 : Shape := ⟨4, ![2, 8, 256, 192]⟩
abbrev S2x8x2048x128 : Shape := ⟨4, ![2, 8, 2048, 128]⟩
abbrev S2x8x256x128 : Shape := ⟨4, ![2, 8, 256, 128]⟩
abbrev S2x2048x1024 : Shape := ⟨3, ![2, 2048, 1024]⟩
abbrev S2x256x1024 : Shape := ⟨3, ![2, 256, 1024]⟩
abbrev S_ : Shape := ⟨0, ![]⟩

class Facts : Prop where
  bcast_S_S2x8x2048x192 : S_.BroadcastsInDim S2x8x2048x192 (![] : Fin 0 → Fin S2x8x2048x192.rank)
  reducesTo_S2x8x2048x192_S_d0_1_2_3 : S2x8x2048x192.ReducesTo [0, 1, 2, 3] S_
  h_S_ : 0 < S_.numel
  bcast_S_S2x8x256x192 : S_.BroadcastsInDim S2x8x256x192 (![] : Fin 0 → Fin S2x8x256x192.rank)
  reducesTo_S2x8x256x192_S_d0_1_2_3 : S2x8x256x192.ReducesTo [0, 1, 2, 3] S_
  bcast_S_S2x8x2048x128 : S_.BroadcastsInDim S2x8x2048x128 (![] : Fin 0 → Fin S2x8x2048x128.rank)
  reducesTo_S2x8x2048x128_S_d0_1_2_3 : S2x8x2048x128.ReducesTo [0, 1, 2, 3] S_
  bcast_S_S2x8x256x128 : S_.BroadcastsInDim S2x8x256x128 (![] : Fin 0 → Fin S2x8x256x128.rank)
  reducesTo_S2x8x256x128_S_d0_1_2_3 : S2x8x256x128.ReducesTo [0, 1, 2, 3] S_
  bcast_S_S2x2048x1024 : S_.BroadcastsInDim S2x2048x1024 (![] : Fin 0 → Fin S2x2048x1024.rank)
  reducesTo_S2x2048x1024_S_d0_1_2 : S2x2048x1024.ReducesTo [0, 1, 2] S_
  bcast_S_S2x256x1024 : S_.BroadcastsInDim S2x256x1024 (![] : Fin 0 → Fin S2x256x1024.rank)
  reducesTo_S2x256x1024_S_d0_1_2 : S2x256x1024.ReducesTo [0, 1, 2] S_

variable [Facts]

def fn_part2 {F : FTy → Type} [FloatOps F] (main_arg7 : FVec F S2x256x1024 .f32) (main_v33 : IVec S_ 1) : IVec S_ 1 :=
  let main_v34 : FVec F S2x256x1024 .f32 := Host.absf main_arg7
  let main_cst_12 : FVec F S_ .f32 := constant S_ .f32 0x7F800000#32
  let main_v35 : FVec F S2x256x1024 .f32 := broadcastInDim S2x256x1024 ![] bcast_S_S2x256x1024 main_cst_12
  let main_v36 : IVec S2x256x1024 1 := cmpf .olt main_v34 main_v35
  let main_c_13 : IVec S_ 1 := constantI S_ 1 1#1
  let main_v37 : IVec S_ 1 := (fun x v => Host.reduce IntOp.andi x v reducesTo_S2x256x1024_S_d0_1_2 h_S_) main_v36 main_c_13
  let main_v38 : IVec S_ 1 := andi main_v33 main_v37
  main_v38

def fn_part1 {F : FTy → Type} [FloatOps F] (main_arg4 : FVec F S2x8x2048x128 .f32) (main_arg5 : FVec F S2x8x256x128 .f32) (main_arg6 : FVec F S2x2048x1024 .f32) (main_arg7 : FVec F S2x256x1024 .f32) (main_v13 : IVec S_ 1) (main_v16 : IVec S2x8x256x192 1) : IVec S_ 1 :=
  let main_c_5 : IVec S_ 1 := constantI S_ 1 1#1
  let main_v17 : IVec S_ 1 := (fun x v => Host.reduce IntOp.andi x v reducesTo_S2x8x256x192_S_d0_1_2_3 h_S_) main_v16 main_c_5
  let main_v18 : IVec S_ 1 := andi main_v13 main_v17
  let main_v19 : FVec F S2x8x2048x128 .f32 := Host.absf main_arg4
  let main_cst_6 : FVec F S_ .f32 := constant S_ .f32 0x7F800000#32
  let main_v20 : FVec F S2x8x2048x128 .f32 := broadcastInDim S2x8x2048x128 ![] bcast_S_S2x8x2048x128 main_cst_6
  let main_v21 : IVec S2x8x2048x128 1 := cmpf .olt main_v19 main_v20
  let main_c_7 : IVec S_ 1 := constantI S_ 1 1#1
  let main_v22 : IVec S_ 1 := (fun x v => Host.reduce IntOp.andi x v reducesTo_S2x8x2048x128_S_d0_1_2_3 h_S_) main_v21 main_c_7
  let main_v23 : IVec S_ 1 := andi main_v18 main_v22
  let main_v24 : FVec F S2x8x256x128 .f32 := Host.absf main_arg5
  let main_cst_8 : FVec F S_ .f32 := constant S_ .f32 0x7F800000#32
  let main_v25 : FVec F S2x8x256x128 .f32 := broadcastInDim S2x8x256x128 ![] bcast_S_S2x8x256x128 main_cst_8
  let main_v26 : IVec S2x8x256x128 1 := cmpf .olt main_v24 main_v25
  let main_c_9 : IVec S_ 1 := constantI S_ 1 1#1
  let main_v27 : IVec S_ 1 := (fun x v => Host.reduce IntOp.andi x v reducesTo_S2x8x256x128_S_d0_1_2_3 h_S_) main_v26 main_c_9
  let main_v28 : IVec S_ 1 := andi main_v23 main_v27
  let main_v29 : FVec F S2x2048x1024 .f32 := Host.absf main_arg6
  let main_cst_10 : FVec F S_ .f32 := constant S_ .f32 0x7F800000#32
  let main_v30 : FVec F S2x2048x1024 .f32 := broadcastInDim S2x2048x1024 ![] bcast_S_S2x2048x1024 main_cst_10
  let main_v31 : IVec S2x2048x1024 1 := cmpf .olt main_v29 main_v30
  let main_c_11 : IVec S_ 1 := constantI S_ 1 1#1
  let main_v32 : IVec S_ 1 := (fun x v => Host.reduce IntOp.andi x v reducesTo_S2x2048x1024_S_d0_1_2 h_S_) main_v31 main_c_11
  let main_v33 : IVec S_ 1 := andi main_v28 main_v32
  fn_part2 (F := F) main_arg7 main_v33

def fn {F : FTy → Type} [FloatOps F] (main_arg0 : FVec F S2x8x2048x192 .f32) (main_arg1 : FVec F S2x8x256x192 .f32) (main_arg2 : FVec F S2x8x2048x192 .f32) (main_arg3 : FVec F S2x8x256x192 .f32) (main_arg4 : FVec F S2x8x2048x128 .f32) (main_arg5 : FVec F S2x8x256x128 .f32) (main_arg6 : FVec F S2x2048x1024 .f32) (main_arg7 : FVec F S2x256x1024 .f32) : IVec S_ 1 :=
  let main_v0 : FVec F S2x8x2048x192 .f32 := Host.absf main_arg0
  let main_cst : FVec F S_ .f32 := constant S_ .f32 0x7F800000#32
  let main_v1 : FVec F S2x8x2048x192 .f32 := broadcastInDim S2x8x2048x192 ![] bcast_S_S2x8x2048x192 main_cst
  let main_v2 : IVec S2x8x2048x192 1 := cmpf .olt main_v0 main_v1
  let main_c : IVec S_ 1 := constantI S_ 1 1#1
  let main_v3 : IVec S_ 1 := (fun x v => Host.reduce IntOp.andi x v reducesTo_S2x8x2048x192_S_d0_1_2_3 h_S_) main_v2 main_c
  let main_v4 : FVec F S2x8x256x192 .f32 := Host.absf main_arg1
  let main_cst_0 : FVec F S_ .f32 := constant S_ .f32 0x7F800000#32
  let main_v5 : FVec F S2x8x256x192 .f32 := broadcastInDim S2x8x256x192 ![] bcast_S_S2x8x256x192 main_cst_0
  let main_v6 : IVec S2x8x256x192 1 := cmpf .olt main_v4 main_v5
  let main_c_1 : IVec S_ 1 := constantI S_ 1 1#1
  let main_v7 : IVec S_ 1 := (fun x v => Host.reduce IntOp.andi x v reducesTo_S2x8x256x192_S_d0_1_2_3 h_S_) main_v6 main_c_1
  let main_v8 : IVec S_ 1 := andi main_v3 main_v7
  let main_v9 : FVec F S2x8x2048x192 .f32 := Host.absf main_arg2
  let main_cst_2 : FVec F S_ .f32 := constant S_ .f32 0x7F800000#32
  let main_v10 : FVec F S2x8x2048x192 .f32 := broadcastInDim S2x8x2048x192 ![] bcast_S_S2x8x2048x192 main_cst_2
  let main_v11 : IVec S2x8x2048x192 1 := cmpf .olt main_v9 main_v10
  let main_c_3 : IVec S_ 1 := constantI S_ 1 1#1
  let main_v12 : IVec S_ 1 := (fun x v => Host.reduce IntOp.andi x v reducesTo_S2x8x2048x192_S_d0_1_2_3 h_S_) main_v11 main_c_3
  let main_v13 : IVec S_ 1 := andi main_v8 main_v12
  let main_v14 : FVec F S2x8x256x192 .f32 := Host.absf main_arg3
  let main_cst_4 : FVec F S_ .f32 := constant S_ .f32 0x7F800000#32
  let main_v15 : FVec F S2x8x256x192 .f32 := broadcastInDim S2x8x256x192 ![] bcast_S_S2x8x256x192 main_cst_4
  let main_v16 : IVec S2x8x256x192 1 := cmpf .olt main_v14 main_v15
  fn_part1 (F := F) main_arg4 main_arg5 main_arg6 main_arg7 main_v13 main_v16
-- ==== Pre_ffn_finite.lean ====
abbrev S2x2048x1024 : Shape := ⟨3, ![2, 2048, 1024]⟩
abbrev S2x256x1024 : Shape := ⟨3, ![2, 256, 1024]⟩
abbrev S2x9x1024 : Shape := ⟨3, ![2, 9, 1024]⟩
abbrev S1x9x1024 : Shape := ⟨3, ![1, 9, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S2x256x1024 : S_.BroadcastsInDim S2x256x1024 (![] : Fin 0 → Fin S2x256x1024.rank)
  reducesTo_S2x256x1024_S_d0_1_2 : S2x256x1024.ReducesTo [0, 1, 2] S_
  bcast_S_S2x9x1024 : S_.BroadcastsInDim S2x9x1024 (![] : Fin 0 → Fin S2x9x1024.rank)
  reducesTo_S2x9x1024_S_d0_1_2 : S2x9x1024.ReducesTo [0, 1, 2] S_
  bcast_S_S1x9x1024 : S_.BroadcastsInDim S1x9x1024 (![] : Fin 0 → Fin S1x9x1024.rank)
  reducesTo_S1x9x1024_S_d0_1_2 : S1x9x1024.ReducesTo [0, 1, 2] S_
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg6 : FVec F S1024 .f32) (main_arg8 : FVec F S1024x2816 .f32) (main_arg9 : FVec F S2816x1024 .f32) (main_v13 : IVec S_ 1) (main_v16 : IVec S1x9x1024 1) : IVec S_ 1 :=
  let main_c_5 : IVec S_ 1 := constantI S_ 1 1#1
  let main_v17 : IVec S_ 1 := (fun x v => Host.reduce IntOp.andi x v reducesTo_S1x9x1024_S_d0_1_2 h_S_) main_v16 main_c_5
  let main_v18 : IVec S_ 1 := andi main_v13 main_v17
  let main_v19 : FVec F S1024 .f32 := Host.absf main_arg6
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x2816 .f32 := Host.absf main_arg8
  let main_cst_8 : FVec F S_ .f32 := constant S_ .f32 0x7F800000#32
  let main_v25 : FVec F S1024x2816 .f32 := broadcastInDim S1024x2816 ![] bcast_S_S1024x2816 main_cst_8
  let main_v26 : IVec S1024x2816 1 := cmpf .olt main_v24 main_v25
  let main_c_9 : IVec S_ 1 := constantI S_ 1 1#1
  let main_v27 : IVec S_ 1 := (fun x v => Host.reduce IntOp.andi x v reducesTo_S1024x2816_S_d0_1 h_S_) main_v26 main_c_9
  let main_v28 : IVec S_ 1 := andi main_v23 main_v27
  let main_v29 : FVec F S2816x1024 .f32 := Host.absf main_arg9
  let main_cst_10 : FVec F S_ .f32 := constant S_ .f32 0x7F800000#32
  let main_v30 : FVec F S2816x1024 .f32 := broadcastInDim S2816x1024 ![] bcast_S_S2816x1024 main_cst_10
  let main_v31 : IVec S2816x1024 1 := cmpf .olt main_v29 main_v30
  let main_c_11 : IVec S_ 1 := constantI S_ 1 1#1
  let main_v32 : IVec S_ 1 := (fun x v => Host.reduce IntOp.andi x v reducesTo_S2816x1024_S_d0_1 h_S_) main_v31 main_c_11
  let main_v33 : IVec S_ 1 := andi main_v28 main_v32
  main_v33

def fn {F : FTy → Type} [FloatOps F] (main_arg0 : FVec F S2x2048x1024 .f32) (main_arg1 : FVec F S2x256x1024 .f32) (main_arg2 : FVec F S2x2048x1024 .f32) (main_arg3 : FVec F S2x256x1024 .f32) (main_arg4 : FVec F S2x9x1024 .f32) (main_arg5 : FVec F S1x9x1024 .f32) (main_arg6 : FVec F S1024 .f32) (main_arg7 : FVec F S1024x2816 .f32) (main_arg8 : FVec F S1024x2816 .f32) (main_arg9 : FVec F S2816x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x256x1024 .f32 := Host.absf main_arg1
  let main_cst_0 : FVec F S_ .f32 := constant S_ .f32 0x7F800000#32
  let main_v5 : FVec F S2x256x1024 .f32 := broadcastInDim S2x256x1024 ![] bcast_S_S2x256x1024 main_cst_0
  let main_v6 : IVec S2x256x1024 1 := cmpf .olt main_v4 main_v5
  let main_c_1 : IVec S_ 1 := constantI S_ 1 1#1
  let main_v7 : IVec S_ 1 := (fun x v => Host.reduce IntOp.andi x v reducesTo_S2x256x1024_S_d0_1_2 h_S_) main_v6 main_c_1
  let main_v8 : IVec S_ 1 := andi main_v3 main_v7
  let main_v9 : FVec F S2x9x1024 .f32 := Host.absf main_arg4
  let main_cst_2 : FVec F S_ .f32 := constant S_ .f32 0x7F800000#32
  let main_v10 : FVec F S2x9x1024 .f32 := broadcastInDim S2x9x1024 ![] bcast_S_S2x9x1024 main_cst_2
  let main_v11 : IVec S2x9x1024 1 := cmpf .olt main_v9 main_v10
  let main_c_3 : IVec S_ 1 := constantI S_ 1 1#1
  let main_v12 : IVec S_ 1 := (fun x v => Host.reduce IntOp.andi x v reducesTo_S2x9x1024_S_d0_1_2 h_S_) main_v11 main_c_3
  let main_v13 : IVec S_ 1 := andi main_v8 main_v12
  let main_v14 : FVec F S1x9x1024 .f32 := Host.absf main_arg5
  let main_cst_4 : FVec F S_ .f32 := constant S_ .f32 0x7F800000#32
  let main_v15 : FVec F S1x9x1024 .f32 := broadcastInDim S1x9x1024 ![] bcast_S_S1x9x1024 main_cst_4
  let main_v16 : IVec S1x9x1024 1 := cmpf .olt main_v14 main_v15
  fn_part1 (F := F) main_arg6 main_arg8 main_arg9 main_v13 main_v16
-- ==== Pre_scores_finite.lean ====
abbrev S2x8x2048x192 : Shape := ⟨4, ![2, 8, 2048, 192]⟩
abbrev S2x8x256x192 : Shape := ⟨4, ![2, 8, 256, 192]⟩
abbrev S2x8x2048x128 : Shape := ⟨4, ![2, 8, 2048, 128]⟩
abbrev S2x8x256x128 : Shape := ⟨4, ![2, 8, 256, 128]⟩
abbrev S_ : Shape := ⟨0, ![]⟩

class Facts : Prop where
  bcast_S_S2x8x2048x192 : S_.BroadcastsInDim S2x8x2048x192 (![] : Fin 0 → Fin S2x8x2048x192.rank)
  reducesTo_S2x8x2048x192_S_d0_1_2_3 : S2x8x2048x192.ReducesTo [0, 1, 2, 3] S_
  h_S_ : 0 < S_.numel
  bcast_S_S2x8x256x192 : S_.BroadcastsInDim S2x8x256x192 (![] : Fin 0 → Fin S2x8x256x192.rank)
  reducesTo_S2x8x256x192_S_d0_1_2_3 : S2x8x256x192.ReducesTo [0, 1, 2, 3] S_

variable [Facts]

def fn_part1 {F : FTy → Type} [FloatOps F] (main_v13 : IVec S_ 1) (main_v16 : IVec S2x8x256x192 1) : IVec S_ 1 :=
  let main_c_5 : IVec S_ 1 := constantI S_ 1 1#1
  let main_v17 : IVec S_ 1 := (fun x v => Host.reduce IntOp.andi x v reducesTo_S2x8x256x192_S_d0_1_2_3 h_S_) main_v16 main_c_5
  let main_v18 : IVec S_ 1 := andi main_v13 main_v17
  main_v18

def fn {F : FTy → Type} [FloatOps F] (main_arg0 : FVec F S2x8x2048x192 .f32) (main_arg1 : FVec F S2x8x256x192 .f32) (main_arg2 : FVec F S2x8x2048x192 .f32) (main_arg3 : FVec F S2x8x256x192 .f32) (main_arg4 : FVec F S2x8x2048x128 .f32) (main_arg5 : FVec F S2x8x256x128 .f32) : IVec S_ 1 :=
  let main_v0 : FVec F S2x8x2048x192 .f32 := Host.absf main_arg0
  let main_cst : FVec F S_ .f32 := constant S_ .f32 0x7F800000#32
  let main_v1 : FVec F S2x8x2048x192 .f32 := broadcastInDim S2x8x2048x192 ![] bcast_S_S2x8x2048x192 main_cst
  let main_v2 : IVec S2x8x2048x192 1 := cmpf .olt main_v0 main_v1
  let main_c : IVec S_ 1 := constantI S_ 1 1#1
  let main_v3 : IVec S_ 1 := (fun x v => Host.reduce IntOp.andi x v reducesTo_S2x8x2048x192_S_d0_1_2_3 h_S_) main_v2 main_c
  let main_v4 : FVec F S2x8x256x192 .f32 := Host.absf main_arg1
  let main_cst_0 : FVec F S_ .f32 := constant S_ .f32 0x7F800000#32
  let main_v5 : FVec F S2x8x256x192 .f32 := broadcastInDim S2x8x256x192 ![] bcast_S_S2x8x256x192 main_cst_0
  let main_v6 : IVec S2x8x256x192 1 := cmpf .olt main_v4 main_v5
  let main_c_1 : IVec S_ 1 := constantI S_ 1 1#1
  let main_v7 : IVec S_ 1 := (fun x v => Host.reduce IntOp.andi x v reducesTo_S2x8x256x192_S_d0_1_2_3 h_S_) main_v6 main_c_1
  let main_v8 : IVec S_ 1 := andi main_v3 main_v7
  let main_v9 : FVec F S2x8x2048x192 .f32 := Host.absf main_arg2
  let main_cst_2 : FVec F S_ .f32 := constant S_ .f32 0x7F800000#32
  let main_v10 : FVec F S2x8x2048x192 .f32 := broadcastInDim S2x8x2048x192 ![] bcast_S_S2x8x2048x192 main_cst_2
  let main_v11 : IVec S2x8x2048x192 1 := cmpf .olt main_v9 main_v10
  let main_c_3 : IVec S_ 1 := constantI S_ 1 1#1
  let main_v12 : IVec S_ 1 := (fun x v => Host.reduce IntOp.andi x v reducesTo_S2x8x2048x192_S_d0_1_2_3 h_S_) main_v11 main_c_3
  let main_v13 : IVec S_ 1 := andi main_v8 main_v12
  let main_v14 : FVec F S2x8x256x192 .f32 := Host.absf main_arg3
  let main_cst_4 : FVec F S_ .f32 := constant S_ .f32 0x7F800000#32
  let main_v15 : FVec F S2x8x256x192 .f32 := broadcastInDim S2x8x256x192 ![] bcast_S_S2x8x256x192 main_cst_4
  let main_v16 : IVec S2x8x256x192 1 := cmpf .olt main_v14 main_v15
  fn_part1 (F := F) main_v13 main_v16
-- ==== KConv.lean ====
abbrev S2x2048x1024 : Shape := ⟨3, ![2, 2048, 1024]⟩
abbrev S2x256x1024 : Shape := ⟨3, ![2, 256, 1024]⟩
abbrev S2x2048x3072 : Shape := ⟨3, ![2, 2048, 3072]⟩
abbrev S2x256x3072 : Shape := ⟨3, ![2, 256, 3072]⟩
abbrev S3x1024 : Shape := ⟨2, ![3, 1024]⟩
abbrev S4096x1024 : Shape := ⟨2, ![4096, 1024]⟩
abbrev S512x1024 : Shape := ⟨2, ![512, 1024]⟩
abbrev S4608x1024 : Shape := ⟨2, ![4608, 1024]⟩
abbrev S4096x3072 : Shape := ⟨2, ![4096, 3072]⟩
abbrev S512x3072 : Shape := ⟨2, ![512, 3072]⟩
abbrev S4608x3072 : Shape := ⟨2, ![4608, 3072]⟩
abbrev S4608x3x1024 : Shape := ⟨3, ![4608, 3, 1024]⟩
abbrev S3x4608x1024 : Shape := ⟨3, ![3, 4608, 1024]⟩
abbrev S512x256 : Shape := ⟨2, ![512, 256]⟩
abbrev S8x256 : Shape := ⟨2, ![8, 256]⟩
abbrev S3x512x256 : Shape := ⟨3, ![3, 512, 256]⟩
abbrev S3x8x256 : Shape := ⟨3, ![3, 8, 256]⟩
abbrev S3x256 : Shape := ⟨2, ![3, 256]⟩
abbrev S1x256 : Shape := ⟨2, ![1, 256]⟩
abbrev S1x512x256 : Shape := ⟨3, ![1, 512, 256]⟩
abbrev S1x1x256 : Shape := ⟨3, ![1, 1, 256]⟩
abbrev S256 : Shape := ⟨1, ![256]⟩

abbrev nBuf : Space → Nat
  | .hbm => 15
  | .vmem => 18
  | .smem => 0
  | _ => 0

abbrev bufTy : (tb : Table) → Fin (tcTables nBuf tb) → BufTy
  | .hbm, ⟨0, _⟩ => ⟨S2x2048x1024, .f32⟩
  | .hbm, ⟨1, _⟩ => ⟨S2x256x1024, .f32⟩
  | .hbm, ⟨2, _⟩ => ⟨S2x2048x3072, .f32⟩
  | .hbm, ⟨3, _⟩ => ⟨S2x256x3072, .f32⟩
  | .hbm, ⟨4, _⟩ => ⟨S3x1024, .f32⟩
  | .hbm, ⟨5, _⟩ => ⟨S4096x1024, .f32⟩
  | .hbm, ⟨6, _⟩ => ⟨S512x1024, .f32⟩
  | .hbm, ⟨7, _⟩ => ⟨S4608x1024, .f32⟩
  | .hbm, ⟨8, _⟩ => ⟨S4096x3072, .f32⟩
  | .hbm, ⟨9, _⟩ => ⟨S512x3072, .f32⟩
  | .hbm, ⟨10, _⟩ => ⟨S4608x3072, .f32⟩
  | .hbm, ⟨11, _⟩ => ⟨S4608x3x1024, .f32⟩
  | .hbm, ⟨12, _⟩ => ⟨S3x4608x1024, .f32⟩
  | .hbm, ⟨13, _⟩ => ⟨S3x4608x1024, .f32⟩
  | .hbm, ⟨14, _⟩ => ⟨S3x1024, .f32⟩
  | .local _ .vmem, ⟨0, _⟩ => ⟨S512x256, .f32⟩
  | .local _ .vmem, ⟨1, _⟩ => ⟨S512x256, .f32⟩
  | .local _ .vmem, ⟨2, _⟩ => ⟨S8x256, .f32⟩
  | .local _ .vmem, ⟨3, _⟩ => ⟨S8x256, .f32⟩
  | .local _ .vmem, ⟨4, _⟩ => ⟨S8x256, .f32⟩
  | .local _ .vmem, ⟨5, _⟩ => ⟨S8x256, .f32⟩
  | .local _ .vmem, ⟨6, _⟩ => ⟨S3x512x256, .f32⟩
  | .local _ .vmem, ⟨7, _⟩ => ⟨S3x512x256, .f32⟩
  | .local _ .vmem, ⟨8, _⟩ => ⟨S3x8x256, .f32⟩
  | .local _ .vmem, ⟨9, _⟩ => ⟨S3x8x256, .f32⟩
  | .local _ .vmem, ⟨10, _⟩ => ⟨S3x8x256, .f32⟩
  | .local _ .vmem, ⟨11, _⟩ => ⟨S3x8x256, .f32⟩
  | .local _ .vmem, ⟨12, _⟩ => ⟨S3x256, .f32⟩
  | .local _ .vmem, ⟨13, _⟩ => ⟨S3x256, .f32⟩
  | .local _ .vmem, ⟨14, _⟩ => ⟨S3x512x256, .f32⟩
  | .local _ .vmem, ⟨15, _⟩ => ⟨S3x512x256, .f32⟩
  | .local _ .vmem, ⟨16, _⟩ => ⟨S3x256, .f32⟩
  | .local _ .vmem, ⟨17, _⟩ => ⟨S3x256, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c575_i32 : BitVec 32 := 575#32
  let v2 : BitVec 32 := Scalar.minsi v1 c575_i32
  let c0_i32 : BitVec 32 := 0#32
  ![v2.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat, arg0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c575_i32 : BitVec 32 := 575#32
  let v2 : BitVec 32 := Scalar.minsi v1 c575_i32
  let c0_i32 : BitVec 32 := 0#32
  let c0_i32_0 : BitVec 32 := 0#32
  ![c0_i32.toNat, v2.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S3x8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S3x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S3x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S3x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== RConvIdeal.lean ====
abbrev S2x2048x1024 : Shape := ⟨3, ![2, 2048, 1024]⟩
abbrev S2x256x1024 : Shape := ⟨3, ![2, 256, 1024]⟩
abbrev S2x2048x3072 : Shape := ⟨3, ![2, 2048, 3072]⟩
abbrev S2x256x3072 : Shape := ⟨3, ![2, 256, 3072]⟩
abbrev S3x1024 : Shape := ⟨2, ![3, 1024]⟩
abbrev S2x1x1024 : Shape := ⟨3, ![2, 1, 1024]⟩
abbrev S_ : Shape := ⟨0, ![]⟩
abbrev S2x2047x1024 : Shape := ⟨3, ![2, 2047, 1024]⟩
abbrev S1x1024 : Shape := ⟨2, ![1, 1024]⟩
abbrev S1024 : Shape := ⟨1, ![1024]⟩
abbrev S1x1x1024 : Shape := ⟨3, ![1, 1, 1024]⟩
abbrev S2x255x1024 : Shape := ⟨3, ![2, 255, 1024]⟩
abbrev S4096x1024 : Shape := ⟨2, ![4096, 1024]⟩
abbrev S512x1024 : Shape := ⟨2, ![512, 1024]⟩
abbrev S4608x1024 : Shape := ⟨2, ![4608, 1024]⟩
abbrev S1x4608x1024 : Shape := ⟨3, ![1, 4608, 1024]⟩
abbrev S3x4608x1024 : Shape := ⟨3, ![3, 4608, 1024]⟩

abbrev nBuf : Space → Nat
  | .hbm => 191
  | .vmem => 0
  | .smem => 0
  | _ => 0

abbrev hbmTy0_0 (i : Nat) : BufTy := match i % 128 with
  | 0 => ⟨S2x2048x1024, .f32⟩
  | 1 => ⟨S2x256x1024, .f32⟩
  | 2 => ⟨S2x2048x3072, .f32⟩
  | 3 => ⟨S2x256x3072, .f32⟩
  | 4 => ⟨S3x1024, .f32⟩
  | 5 => ⟨S2x2048x1024, .f32⟩
  | 6 => ⟨S2x2048x1024, .f32⟩
  | 7 => ⟨S2x2048x1024, .f32⟩
  | 8 => ⟨S2x2048x1024, .f32⟩
  | 9 => ⟨S2x1x1024, .f32⟩
  | 10 => ⟨S_, .f32⟩
  | 11 => ⟨S2x1x1024, .f32⟩
  | 12 => ⟨S2x2047x1024, .f32⟩
  | 13 => ⟨S2x2048x1024, .f32⟩
  | 14 => ⟨S_, .f32⟩
  | 15 => ⟨S2x1x1024, .f32⟩
  | 16 => ⟨S2x2047x1024, .f32⟩
  | 17 => ⟨S2x2048x1024, .f32⟩
  | 18 => ⟨S_, .f32⟩
  | 19 => ⟨S2x1x1024, .f32⟩
  | 20 => ⟨S1x1024, .f32⟩
  | 21 => ⟨S1024, .f32⟩
  | 22 => ⟨S1x1x1024, .f32⟩
  | 23 => ⟨S2x2048x1024, .f32⟩
  | 24 => ⟨S2x2048x1024, .f32⟩
  | 25 => ⟨S1x1024, .f32⟩
  | 26 => ⟨S1024, .f32⟩
  | 27 => ⟨S1x1x1024, .f32⟩
  | 28 => ⟨S2x2048x1024, .f32⟩
  | 29 => ⟨S2x2048x1024, .f32⟩
  | 30 => ⟨S2x2048x1024, .f32⟩
  | 31 => ⟨S1x1024, .f32⟩
  | 32 => ⟨S1024, .f32⟩
  | 33 => ⟨S1x1x1024, .f32⟩
  | 34 => ⟨S2x2048x1024, .f32⟩
  | 35 => ⟨S2x2048x1024, .f32⟩
  | 36 => ⟨S2x2048x1024, .f32⟩
  | 37 => ⟨S2x2048x1024, .f32⟩
  | 38 => ⟨S2x256x1024, .f32⟩
  | 39 => ⟨S2x256x1024, .f32⟩
  | 40 => ⟨S2x256x1024, .f32⟩
  | 41 => ⟨S2x256x1024, .f32⟩
  | 42 => ⟨S2x1x1024, .f32⟩
  | 43 => ⟨S_, .f32⟩
  | 44 => ⟨S2x1x1024, .f32⟩
  | 45 => ⟨S2x255x1024, .f32⟩
  | 46 => ⟨S2x256x1024, .f32⟩
  | 47 => ⟨S_, .f32⟩
  | 48 => ⟨S2x1x1024, .f32⟩
  | 49 => ⟨S2x255x1024, .f32⟩
  | 50 => ⟨S2x256x1024, .f32⟩
  | 51 => ⟨S_, .f32⟩
  | 52 => ⟨S2x1x1024, .f32⟩
  | 53 => ⟨S1x1024, .f32⟩
  | 54 => ⟨S1024, .f32⟩
  | 55 => ⟨S1x1x1024, .f32⟩
  | 56 => ⟨S2x256x1024, .f32⟩
  | 57 => ⟨S2x256x1024, .f32⟩
  | 58 => ⟨S1x1024, .f32⟩
  | 59 => ⟨S1024, .f32⟩
  | 60 => ⟨S1x1x1024, .f32⟩
  | 61 => ⟨S2x256x1024, .f32⟩
  | 62 => ⟨S2x256x1024, .f32⟩
  | 63 => ⟨S2x256x1024, .f32⟩
  | 64 => ⟨S1x1024, .f32⟩
  | 65 => ⟨S1024, .f32⟩
  | 66 => ⟨S1x1x1024, .f32⟩
  | 67 => ⟨S2x256x1024, .f32⟩
  | 68 => ⟨S2x256x1024, .f32⟩
  | 69 => ⟨S2x256x1024, .f32⟩
  | 70 => ⟨S2x256x1024, .f32⟩
  | 71 => ⟨S2x256x1024, .f32⟩
  | 72 => ⟨S2x256x1024, .f32⟩
  | 73 => ⟨S2x256x1024, .f32⟩
  | 74 => ⟨S2x256x1024, .f32⟩
  | 75 => ⟨S2x256x1024, .f32⟩
  | 76 => ⟨S_, .f32⟩
  | 77 => ⟨S1024, .f32⟩
  | 78 => ⟨S1x1x1024, .f32⟩
  | 79 => ⟨S_, .f32⟩
  | 80 => ⟨S1024, .f32⟩
  | 81 => ⟨S1x1024, .f32⟩
  | 82 => ⟨S_, .f32⟩
  | 83 => ⟨S3x1024, .f32⟩
  | 84 => ⟨S2x256x1024, .f32⟩
  | 85 => ⟨S2x256x1024, .f32⟩
  | 86 => ⟨S2x256x1024, .f32⟩
  | 87 => ⟨S_, .f32⟩
  | 88 => ⟨S1024, .f32⟩
  | 89 => ⟨S1x1x1024, .f32⟩
  | 90 => ⟨S_, .f32⟩
  | 91 => ⟨S1024, .f32⟩
  | 92 => ⟨S1x1024, .f32⟩
  | 93 => ⟨S_, .f32⟩
  | 94 => ⟨S3x1024, .f32⟩
  | 95 => ⟨S3x1024, .f32⟩
  | 96 => ⟨S2x256x1024, .f32⟩
  | 97 => ⟨S2x256x1024, .f32⟩
  | 98 => ⟨S2x256x1024, .f32⟩
  | 99 => ⟨S_, .f32⟩
  | 100 => ⟨S1024, .f32⟩
  | 101 => ⟨S1x1x1024, .f32⟩
  | 102 => ⟨S_, .f32⟩
  | 103 => ⟨S1024, .f32⟩
  | 104 => ⟨S1x1024, .f32⟩
  | 105 => ⟨S_, .f32⟩
  | 106 => ⟨S3x1024, .f32⟩
  | 107 => ⟨S3x1024, .f32⟩
  | 108 => ⟨S2x255x1024, .f32⟩
  | 109 => ⟨S2x1x1024, .f32⟩
  | 110 => ⟨S_, .f32⟩
  | 111 => ⟨S2x256x1024, .f32⟩
  | 112 => ⟨S2x256x1024, .f32⟩
  | 113 => ⟨S2x1x1024, .f32⟩
  | 114 => ⟨S2x255x1024, .f32⟩
  | 115 => ⟨S_, .f32⟩
  | 116 => ⟨S2x256x1024, .f32⟩
  | 117 => ⟨S2x256x1024, .f32⟩
  | 118 => ⟨S2x256x1024, .f32⟩
  | 119 => ⟨S2x256x1024, .f32⟩
  | 120 => ⟨S2x256x3072, .f32⟩
  | 121 => ⟨S2x2048x1024, .f32⟩
  | 122 => ⟨S2x2048x1024, .f32⟩
  | 123 => ⟨S2x2048x1024, .f32⟩
  | 124 => ⟨S2x2048x1024, .f32⟩
  | 125 => ⟨S2x2048x1024, .f32⟩
  | 126 => ⟨S_, .f32⟩
  | 127 => ⟨S1024, .f32⟩
  | _ => ⟨S2x2048x1024, .f32⟩

abbrev hbmTy0_1 (i : Nat) : BufTy := match i % 128 with
  | 0 => ⟨S1x1x1024, .f32⟩
  | 1 => ⟨S_, .f32⟩
  | 2 => ⟨S1024, .f32⟩
  | 3 => ⟨S1x1024, .f32⟩
  | 4 => ⟨S_, .f32⟩
  | 5 => ⟨S3x1024, .f32⟩
  | 6 => ⟨S3x1024, .f32⟩
  | 7 => ⟨S2x2048x1024, .f32⟩
  | 8 => ⟨S2x2048x1024, .f32⟩
  | 9 => ⟨S2x2048x1024, .f32⟩
  | 10 => ⟨S_, .f32⟩
  | 11 => ⟨S1024, .f32⟩
  | 12 => ⟨S1x1x1024, .f32⟩
  | 13 => ⟨S_, .f32⟩
  | 14 => ⟨S1024, .f32⟩
  | 15 => ⟨S1x1024, .f32⟩
  | 16 => ⟨S_, .f32⟩
  | 17 => ⟨S3x1024, .f32⟩
  | 18 => ⟨S3x1024, .f32⟩
  | 19 => ⟨S2x2048x1024, .f32⟩
  | 20 => ⟨S2x2048x1024, .f32⟩
  | 21 => ⟨S2x2048x1024, .f32⟩
  | 22 => ⟨S_, .f32⟩
  | 23 => ⟨S1024, .f32⟩
  | 24 => ⟨S1x1x1024, .f32⟩
  | 25 => ⟨S_, .f32⟩
  | 26 => ⟨S1024, .f32⟩
  | 27 => ⟨S1x1024, .f32⟩
  | 28 => ⟨S_, .f32⟩
  | 29 => ⟨S3x1024, .f32⟩
  | 30 => ⟨S3x1024, .f32⟩
  | 31 => ⟨S2x2047x1024, .f32⟩
  | 32 => ⟨S2x1x1024, .f32⟩
  | 33 => ⟨S_, .f32⟩
  | 34 => ⟨S2x2048x1024, .f32⟩
  | 35 => ⟨S2x2048x1024, .f32⟩
  | 36 => ⟨S2x1x1024, .f32⟩
  | 37 => ⟨S2x2047x1024, .f32⟩
  | 38 => ⟨S_, .f32⟩
  | 39 => ⟨S2x2048x1024, .f32⟩
  | 40 => ⟨S2x2048x1024, .f32⟩
  | 41 => ⟨S2x2048x1024, .f32⟩
  | 42 => ⟨S2x2048x1024, .f32⟩
  | 43 => ⟨S2x2048x3072, .f32⟩
  | 44 => ⟨S2x2048x1024, .f32⟩
  | 45 => ⟨S2x2048x1024, .f32⟩
  | 46 => ⟨S2x2048x1024, .f32⟩
  | 47 => ⟨S2x256x1024, .f32⟩
  | 48 => ⟨S2x256x1024, .f32⟩
  | 49 => ⟨S2x256x1024, .f32⟩
  | 50 => ⟨S4096x1024, .f32⟩
  | 51 => ⟨S512x1024, .f32⟩
  | 52 => ⟨S4608x1024, .f32⟩
  | 53 => ⟨S4096x1024, .f32⟩
  | 54 => ⟨S512x1024, .f32⟩
  | 55 => ⟨S4608x1024, .f32⟩
  | 56 => ⟨S4096x1024, .f32⟩
  | 57 => ⟨S512x1024, .f32⟩
  | 58 => ⟨S4608x1024, .f32⟩
  | 59 => ⟨S1x4608x1024, .f32⟩
  | 60 => ⟨S1x4608x1024, .f32⟩
  | 61 => ⟨S1x4608x1024, .f32⟩
  | 62 => ⟨S3x4608x1024, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_2 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_3 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_4 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_cst_5 : Ref sig .tc := ⟨.hbm, 76, rfl⟩
abbrev main_v65 : Ref sig .tc := ⟨.hbm, 77, rfl⟩
abbrev main_v66 : Ref sig .tc := ⟨.hbm, 78, rfl⟩
abbrev main_cst_6 : Ref sig .tc := ⟨.hbm, 79, rfl⟩
abbrev main_v67 : Ref sig .tc := ⟨.hbm, 80, rfl⟩
abbrev main_v68 : Ref sig .tc := ⟨.hbm, 81, rfl⟩
abbrev main_cst_7 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_cst_8 : Ref sig .tc := ⟨.hbm, 87, rfl⟩
abbrev main_v73 : Ref sig .tc := ⟨.hbm, 88, rfl⟩
abbrev main_v74 : Ref sig .tc := ⟨.hbm, 89, rfl⟩
abbrev main_cst_9 : Ref sig .tc := ⟨.hbm, 90, rfl⟩
abbrev main_v75 : Ref sig .tc := ⟨.hbm, 91, rfl⟩
abbrev main_v76 : Ref sig .tc := ⟨.hbm, 92, rfl⟩
abbrev main_cst_10 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_cst_11 : Ref sig .tc := ⟨.hbm, 99, rfl⟩
abbrev main_v82 : Ref sig .tc := ⟨.hbm, 100, rfl⟩
abbrev main_v83 : Ref sig .tc := ⟨.hbm, 101, rfl⟩
abbrev main_cst_12 : Ref sig .tc := ⟨.hbm, 102, rfl⟩
abbrev main_v84 : Ref sig .tc := ⟨.hbm, 103, rfl⟩
abbrev main_v85 : Ref sig .tc := ⟨.hbm, 104, rfl⟩
abbrev main_cst_13 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_cst_14 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_cst_15 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_cst_16 : Ref sig .tc := ⟨.hbm, 126, rfl⟩
abbrev main_v104 : Ref sig .tc := ⟨.hbm, 127, rfl⟩
abbrev main_v105 : Ref sig .tc := ⟨.hbm, 128, rfl⟩
abbrev main_cst_17 : Ref sig .tc := ⟨.hbm, 129, rfl⟩
abbrev main_v106 : Ref sig .tc := ⟨.hbm, 130, rfl⟩
abbrev main_v107 : Ref sig .tc := ⟨.hbm, 131, rfl⟩
abbrev main_cst_18 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_cst_19 : Ref sig .tc := ⟨.hbm, 138, rfl⟩
abbrev main_v113 : Ref sig .tc := ⟨.hbm, 139, rfl⟩
abbrev main_v114 : Ref sig .tc := ⟨.hbm, 140, rfl⟩
abbrev main_cst_20 : Ref sig .tc := ⟨.hbm, 141, rfl⟩
abbrev main_v115 : Ref sig .tc := ⟨.hbm, 142, rfl⟩
abbrev main_v116 : Ref sig .tc := ⟨.hbm, 143, rfl⟩
abbrev main_cst_21 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_cst_22 : Ref sig .tc := ⟨.hbm, 150, rfl⟩
abbrev main_v122 : Ref sig .tc := ⟨.hbm, 151, rfl⟩
abbrev main_v123 : Ref sig .tc := ⟨.hbm, 152, rfl⟩
abbrev main_cst_23 : Ref sig .tc := ⟨.hbm, 153, rfl⟩
abbrev main_v124 : Ref sig .tc := ⟨.hbm, 154, rfl⟩
abbrev main_v125 : Ref sig .tc := ⟨.hbm, 155, rfl⟩
abbrev main_cst_24 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_cst_25 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_cst_26 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩

abbrev nD : Nat := 1
abbrev τ : Topo := Topo.v7x

variable {F : FTy → Type} [FloatOps F]
-- ==== KGw.lean ====
abbrev S4608x1024 : Shape := ⟨2, ![4608, 1024]⟩
abbrev S4608x2816 : Shape := ⟨2, ![4608, 2816]⟩
abbrev S4608x4x704 : Shape := ⟨3, ![4608, 4, 704]⟩
abbrev S4x4608x704 : Shape := ⟨3, ![4, 4608, 704]⟩
abbrev S4x704x1024 : Shape := ⟨3, ![4, 704, 1024]⟩
abbrev S1x1536x704 : Shape := ⟨3, ![1, 1536, 704]⟩
abbrev S1536x1024 : Shape := ⟨2, ![1536, 1024]⟩
abbrev S1x704x1024 : Shape := ⟨3, ![1, 704, 1024]⟩
abbrev S704x1024 : Shape := ⟨2, ![704, 1024]⟩
abbrev S1536x704 : Shape := ⟨2, ![1536, 704]⟩

abbrev nBuf : Space → Nat
  | .hbm => 7
  | .vmem => 7
  | .smem => 0
  | _ => 0

abbrev bufTy : (tb : Table) → Fin (tcTables nBuf tb) → BufTy
  | .hbm, ⟨0, _⟩ => ⟨S4608x1024, .f32⟩
  | .hbm, ⟨1, _⟩ => ⟨S4608x2816, .f32⟩
  | .hbm, ⟨2, _⟩ => ⟨S4608x4x704, .f32⟩
  | .hbm, ⟨3, _⟩ => ⟨S4x4608x704, .f32⟩
  | .hbm, ⟨4, _⟩ => ⟨S4x4608x704, .bf16⟩
  | .hbm, ⟨5, _⟩ => ⟨S4608x1024, .bf16⟩
  | .hbm, ⟨6, _⟩ => ⟨S4x704x1024, .bf16⟩
  | .local _ .vmem, ⟨0, _⟩ => ⟨S1x1536x704, .bf16⟩
  | .local _ .vmem, ⟨1, _⟩ => ⟨S1x1536x704, .bf16⟩
  | .local _ .vmem, ⟨2, _⟩ => ⟨S1536x1024, .bf16⟩
  | .local _ .vmem, ⟨3, _⟩ => ⟨S1536x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S4608x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 3], ![false, false]⟩

def k0_cond2 (i : grid0.Coords) : BitVec 1 :=
  let arg1 : BitVec 32 := BitVec.ofNat 32 (i 1).val
  let c2_i32 : BitVec 32 := 2#32
  let v13 : BitVec 1 := Scalar.cmpi .eq arg1 c2_i32
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1536x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== RGwIdeal.lean ====
abbrev S4608x1024 : Shape := ⟨2, ![4608, 1024]⟩
abbrev S4608x2816 : Shape := ⟨2, ![4608, 2816]⟩
abbrev S_ : Shape := ⟨0, ![]⟩
abbrev S1024x2816 : Shape := ⟨2, ![1024, 2816]⟩
abbrev S2816x1024 : Shape := ⟨2, ![2816, 1024]⟩
abbrev S4x704x1024 : Shape := ⟨3, ![4, 704, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4608x1024, .f32⟩
  | .hbm, ⟨1, _⟩ => ⟨S4608x2816, .f32⟩
  | .hbm, ⟨2, _⟩ => ⟨S_, .f32⟩
  | .hbm, ⟨3, _⟩ => ⟨S1024x2816, .f32⟩
  | .hbm, ⟨4, _⟩ => ⟨S4608x2816, .f32⟩
  | .hbm, ⟨5, _⟩ => ⟨S2816x1024, .f32⟩
  | .hbm, ⟨6, _⟩ => ⟨S1024x2816, .f32⟩
  | .hbm, ⟨7, _⟩ => ⟨S2816x1024, .f32⟩
  | .hbm, ⟨8, _⟩ => ⟨S4x704x1024, .f32⟩
  | .hbm, ⟨9, _⟩ => ⟨S4x704x1024, .bf16⟩
  | _, _ => ⟨S4608x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KFfn.lean ====
abbrev S2x2048x1024 : Shape := ⟨3, ![2, 2048, 1024]⟩
abbrev S2x256x1024 : Shape := ⟨3, ![2, 256, 1024]⟩
abbrev S2x9x1024 : Shape := ⟨3, ![2, 9, 1024]⟩
abbrev S1x9x1024 : Shape := ⟨3, ![1, 9, 1024]⟩
abbrev S1024 : Shape := ⟨1, ![1024]⟩
abbrev S1024x2816 : Shape := ⟨2, ![1024, 2816]⟩
abbrev S2816x1024 : Shape := ⟨2, ![2816, 1024]⟩
abbrev S8x512x1024 : Shape := ⟨3, ![8, 512, 1024]⟩
abbrev S1x512x1024 : Shape := ⟨3, ![1, 512, 1024]⟩
abbrev S9x512x1024 : Shape := ⟨3, ![9, 512, 1024]⟩
abbrev S9x1x1024 : Shape := ⟨3, ![9, 1, 1024]⟩
abbrev S2x1x1024 : Shape := ⟨3, ![2, 1, 1024]⟩
abbrev S2x4x1x1024 : Shape := ⟨4, ![2, 4, 1, 1024]⟩
abbrev S8x1x1024 : Shape := ⟨3, ![8, 1, 1024]⟩
abbrev S1x1x1024 : Shape := ⟨3, ![1, 1, 1024]⟩
abbrev S_ : Shape := ⟨0, ![]⟩
abbrev S9x512 : Shape := ⟨2, ![9, 512]⟩
abbrev S9x512x1 : Shape := ⟨3, ![9, 512, 1]⟩
abbrev S9x512x2816 : Shape := ⟨3, ![9, 512, 2816]⟩
abbrev S3x9x1024 : Shape := ⟨3, ![3, 9, 1024]⟩
abbrev S4608x1024 : Shape := ⟨2, ![4608, 1024]⟩
abbrev S1x1024 : Shape := ⟨2, ![1, 1024]⟩
abbrev S4608x4x704 : Shape := ⟨3, ![4608, 4, 704]⟩
abbrev S4x4608x704 : Shape := ⟨3, ![4, 4608, 704]⟩
abbrev S4x704x1024 : Shape := ⟨3, ![4, 704, 1024]⟩
abbrev S9x8x1024 : Shape := ⟨3, ![9, 8, 1024]⟩
abbrev S512x1024 : Shape := ⟨2, ![512, 1024]⟩
abbrev S1x512x704 : Shape := ⟨3, ![1, 512, 704]⟩
abbrev S1x704x1024 : Shape := ⟨3, ![1, 704, 1024]⟩
abbrev S1x8x1024 : Shape := ⟨3, ![1, 8, 1024]⟩
abbrev S256x1024 : Shape := ⟨2, ![256, 1024]⟩
abbrev S704x1024 : Shape := ⟨2, ![704, 1024]⟩
abbrev S256x704 : Shape := ⟨2, ![256, 704]⟩
abbrev S1x256x704 : Shape := ⟨3, ![1, 256, 704]⟩
abbrev S512 : Shape := ⟨1, ![512]⟩
abbrev S512x1 : Shape := ⟨2, ![512, 1]⟩
abbrev S4x1024 : Shape := ⟨2, ![4, 1024]⟩
abbrev S1x4x1024 : Shape := ⟨3, ![1, 4, 1024]⟩

abbrev nBuf : Space → Nat
  | .hbm => 88
  | .vmem => 33
  | .smem => 0
  | _ => 0

abbrev bufTy : (tb : Table) → Fin (tcTables nBuf tb) → BufTy
  | .hbm, ⟨0, _⟩ => ⟨S2x2048x1024, .f32⟩
  | .hbm, ⟨1, _⟩ => ⟨S2x256x1024, .f32⟩
  | .hbm, ⟨2, _⟩ => ⟨S2x2048x1024, .f32⟩
  | .hbm, ⟨3, _⟩ => ⟨S2x256x1024, .f32⟩
  | .hbm, ⟨4, _⟩ => ⟨S2x9x1024, .f32⟩
  | .hbm, ⟨5, _⟩ => ⟨S1x9x1024, .f32⟩
  | .hbm, ⟨6, _⟩ => ⟨S1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S8x512x1024, .f32⟩
  | .hbm, ⟨11, _⟩ => ⟨S1x512x1024, .f32⟩
  | .hbm, ⟨12, _⟩ => ⟨S9x512x1024, .f32⟩
  | .hbm, ⟨13, _⟩ => ⟨S8x512x1024, .f32⟩
  | .hbm, ⟨14, _⟩ => ⟨S1x512x1024, .f32⟩
  | .hbm, ⟨15, _⟩ => ⟨S9x512x1024, .f32⟩
  | .hbm, ⟨16, _⟩ => ⟨S9x1x1024, .f32⟩
  | .hbm, ⟨17, _⟩ => ⟨S2x1x1024, .f32⟩
  | .hbm, ⟨18, _⟩ => ⟨S2x4x1x1024, .f32⟩
  | .hbm, ⟨19, _⟩ => ⟨S8x1x1024, .f32⟩
  | .hbm, ⟨20, _⟩ => ⟨S1x1x1024, .f32⟩
  | .hbm, ⟨21, _⟩ => ⟨S9x1x1024, .f32⟩
  | .hbm, ⟨22, _⟩ => ⟨S2x1x1024, .f32⟩
  | .hbm, ⟨23, _⟩ => ⟨S2x4x1x1024, .f32⟩
  | .hbm, ⟨24, _⟩ => ⟨S8x1x1024, .f32⟩
  | .hbm, ⟨25, _⟩ => ⟨S1x1x1024, .f32⟩
  | .hbm, ⟨26, _⟩ => ⟨S9x1x1024, .f32⟩
  | .hbm, ⟨27, _⟩ => ⟨S9x512x1024, .f32⟩
  | .hbm, ⟨28, _⟩ => ⟨S_, .f32⟩
  | .hbm, ⟨29, _⟩ => ⟨S9x512, .f32⟩
  | .hbm, ⟨30, _⟩ => ⟨S9x512x1, .f32⟩
  | .hbm, ⟨31, _⟩ => ⟨S_, .f32⟩
  | .hbm, ⟨32, _⟩ => ⟨S9x512x1, .f32⟩
  | .hbm, ⟨33, _⟩ => ⟨S9x512x1, .f32⟩
  | .hbm, ⟨34, _⟩ => ⟨S_, .f32⟩
  | .hbm, ⟨35, _⟩ => ⟨S9x512x1, .f32⟩
  | .hbm, ⟨36, _⟩ => ⟨S9x512x1, .f32⟩
  | .hbm, ⟨37, _⟩ => ⟨S9x512x1, .f32⟩
  | .hbm, ⟨38, _⟩ => ⟨S9x512x1024, .f32⟩
  | .hbm, ⟨39, _⟩ => ⟨S9x512x1024, .f32⟩
  | .hbm, ⟨40, _⟩ => ⟨S9x512x1024, .f32⟩
  | .hbm, ⟨41, _⟩ => ⟨S9x512x1024, .f32⟩
  | .hbm, ⟨42, _⟩ => ⟨S_, .f32⟩
  | .hbm, ⟨43, _⟩ => ⟨S9x1x1024, .f32⟩
  | .hbm, ⟨44, _⟩ => ⟨S9x1x1024, .f32⟩
  | .hbm, ⟨45, _⟩ => ⟨S9x512x1024, .f32⟩
  | .hbm, ⟨46, _⟩ => ⟨S9x512x1024, .f32⟩
  | .hbm, ⟨47, _⟩ => ⟨S9x512x1024, .f32⟩
  | .hbm, ⟨48, _⟩ => ⟨S9x512x1024, .f32⟩
  | .hbm, ⟨49, _⟩ => ⟨S9x512x2816, .f32⟩
  | .hbm, ⟨50, _⟩ => ⟨S9x512x2816, .f32⟩
  | .hbm, ⟨51, _⟩ => ⟨S9x512x2816, .f32⟩
  | .hbm, ⟨52, _⟩ => ⟨S9x512x2816, .f32⟩
  | .hbm, ⟨53, _⟩ => ⟨S_, .f32⟩
  | .hbm, ⟨54, _⟩ => ⟨S9x512x2816, .f32⟩
  | .hbm, ⟨55, _⟩ => ⟨S9x512x2816, .f32⟩
  | .hbm, ⟨56, _⟩ => ⟨S_, .f32⟩
  | .hbm, ⟨57, _⟩ => ⟨S9x512x2816, .f32⟩
  | .hbm, ⟨58, _⟩ => ⟨S9x512x2816, .f32⟩
  | .hbm, ⟨59, _⟩ => ⟨S9x512x2816, .f32⟩
  | .hbm, ⟨60, _⟩ => ⟨S9x512x2816, .f32⟩
  | .hbm, ⟨61, _⟩ => ⟨S9x512x1024, .f32⟩
  | .hbm, ⟨62, _⟩ => ⟨S3x9x1024, .f32⟩
  | .hbm, ⟨63, _⟩ => ⟨S4608x1024, .f32⟩
  | .hbm, ⟨64, _⟩ => ⟨S4608x1024, .f32⟩
  | .hbm, ⟨65, _⟩ => ⟨S1x1024, .f32⟩
  | .hbm, ⟨66, _⟩ => ⟨S4608x1024, .f32⟩
  | .hbm, ⟨67, _⟩ => ⟨S4608x1024, .bf16⟩
  | .hbm, ⟨68, _⟩ => ⟨S4608x4x704, .f32⟩
  | .hbm, ⟨69, _⟩ => ⟨S4x4608x704, .f32⟩
  | .hbm, ⟨70, _⟩ => ⟨S4x4608x704, .bf16⟩
  | .hbm, ⟨71, _⟩ => ⟨S4608x4x704, .f32⟩
  | .hbm, ⟨72, _⟩ => ⟨S4x4608x704, .f32⟩
  | .hbm, ⟨73, _⟩ => ⟨S4x4608x704, .bf16⟩
  | .hbm, ⟨74, _⟩ => ⟨S2816x1024, .f32⟩
  | .hbm, ⟨75, _⟩ => ⟨S4x704x1024, .f32⟩
  | .hbm, ⟨76, _⟩ => ⟨S4x704x1024, .bf16⟩
  | .hbm, ⟨77, _⟩ => ⟨S2816x1024, .f32⟩
  | .hbm, ⟨78, _⟩ => ⟨S4x704x1024, .f32⟩
  | .hbm, ⟨79, _⟩ => ⟨S4x704x1024, .bf16⟩
  | .hbm, ⟨80, _⟩ => ⟨S4x704x1024, .f32⟩
  | .hbm, ⟨81, _⟩ => ⟨S4x704x1024, .bf16⟩
  | .hbm, ⟨82, _⟩ => ⟨S4608x1024, .f32⟩
  | .hbm, ⟨83, _⟩ => ⟨S4x4608x704, .bf16⟩
  | .hbm, ⟨84, _⟩ => ⟨S4x4608x704, .bf16⟩
  | .hbm, ⟨85, _⟩ => ⟨S4x4608x704, .bf16⟩
  | .hbm, ⟨86, _⟩ => ⟨S4608x1024, .bf16⟩
  | .hbm, ⟨87, _⟩ => ⟨S9x8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x9x1024, .f32⟩
  | .local _ .vmem, ⟨5, _⟩ => ⟨S1x9x1024, .f32⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | .local _ .vmem, ⟨9, _⟩ => ⟨S1x512x704, .bf16⟩
  | .local _ .vmem, ⟨10, _⟩ => ⟨S1x512x704, .bf16⟩
  | .local _ .vmem, ⟨11, _⟩ => ⟨S1x512x704, .bf16⟩
  | .local _ .vmem, ⟨12, _⟩ => ⟨S1x512x704, .bf16⟩
  | .local _ .vmem, ⟨13, _⟩ => ⟨S1x704x1024, .bf16⟩
  | .local _ .vmem, ⟨14, _⟩ => ⟨S1x704x1024, .bf16⟩
  | .local _ .vmem, ⟨15, _⟩ => ⟨S1x704x1024, .bf16⟩
  | .local _ .vmem, ⟨16, _⟩ => ⟨S1x704x1024, .bf16⟩
  | .local _ .vmem, ⟨17, _⟩ => ⟨S1x704x1024, .bf16⟩
  | .local _ .vmem, ⟨18, _⟩ => ⟨S1x704x1024, .bf16⟩
  | .local _ .vmem, ⟨19, _⟩ => ⟨S512x1024, .f32⟩
  | .local _ .vmem, ⟨20, _⟩ => ⟨S512x1024, .f32⟩
  | .local _ .vmem, ⟨21, _⟩ => ⟨S1x512x704, .bf16⟩
  | .local _ .vmem, ⟨22, _⟩ => ⟨S1x512x704, .bf16⟩
  | .local _ .vmem, ⟨23, _⟩ => ⟨S1x512x704, .bf16⟩
  | .local _ .vmem, ⟨24, _⟩ => ⟨S1x512x704, .bf16⟩
  | .local _ .vmem, ⟨25, _⟩ => ⟨S1x512x704, .bf16⟩
  | .local _ .vmem, ⟨26, _⟩ => ⟨S1x512x704, .bf16⟩
  | .local _ .vmem, ⟨27, _⟩ => ⟨S512x1024, .bf16⟩
  | .local _ .vmem, ⟨28, _⟩ => ⟨S512x1024, .bf16⟩
  | .local _ .vmem, ⟨29, _⟩ => ⟨S1x8x1024, .f32⟩
  | .local _ .vmem, ⟨30, _⟩ => ⟨S1x8x1024, .f32⟩
  | .local _ .vmem, ⟨31, _⟩ => ⟨S512x1024, .bf16⟩
  | .local _ .vmem, ⟨32, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_v19 : Ref sig .tc := ⟨.hbm, 30, rfl⟩
abbrev main_cst_0 : Ref sig .tc := ⟨.hbm, 31, rfl⟩
abbrev main_v20 : Ref sig .tc := ⟨.hbm, 32, rfl⟩
abbrev main_v21 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60_0 : Ref sig .tc := ⟨.hbm, 82, rfl⟩
abbrev main_v60_1 : Ref sig .tc := ⟨.hbm, 83, rfl⟩
abbrev main_v60_2 : Ref sig .tc := ⟨.hbm, 84, rfl⟩
abbrev main_v60_3 : Ref sig .tc := ⟨.hbm, 85, rfl⟩
abbrev main_v60_4 : Ref sig .tc := ⟨.hbm, 86, rfl⟩
abbrev main_v60_5 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_scratch0 : Ref sig .tc := ⟨.vmem, 31, rfl⟩
abbrev cc0_scratch1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30

abbrev nD : Nat := 1
abbrev τ : Topo := Topo.v7x

variable {F : FTy → Type} [FloatOps F]

abbrev grid0 : Pipeline.Grid := ⟨2, ![9, 4], ![false, false]⟩

def k0_cond2 (i : grid0.Coords) : BitVec 1 :=
  let arg1 : BitVec 32 := BitVec.ofNat 32 (i 1).val
  let c3_i32 : BitVec 32 := 3#32
  let v83 : BitVec 1 := Scalar.cmpi .eq arg1 c3_i32
  let v84 : BitVec 32 := Scalar.extui v83
  let c0_i32_66 : BitVec 32 := 0#32
  let v85 : BitVec 1 := Scalar.cmpi .ne v84 c0_i32_66
  v85

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x9x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x704x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x704x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x704x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x512x704 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x704 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x704 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x8x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== RFfnIdeal.lean ====
abbrev S2x2048x1024 : Shape := ⟨3, ![2, 2048, 1024]⟩
abbrev S2x256x1024 : Shape := ⟨3, ![2, 256, 1024]⟩
abbrev S2x9x1024 : Shape := ⟨3, ![2, 9, 1024]⟩
abbrev S1x9x1024 : Shape := ⟨3, ![1, 9, 1024]⟩
abbrev S1024 : Shape := ⟨1, ![1024]⟩
abbrev S1024x2816 : Shape := ⟨2, ![1024, 2816]⟩
abbrev S2816x1024 : Shape := ⟨2, ![2816, 1024]⟩
abbrev S8x512x1024 : Shape := ⟨3, ![8, 512, 1024]⟩
abbrev S1x512x1024 : Shape := ⟨3, ![1, 512, 1024]⟩
abbrev S9x512x1024 : Shape := ⟨3, ![9, 512, 1024]⟩
abbrev S9x1x1024 : Shape := ⟨3, ![9, 1, 1024]⟩
abbrev S2x1x1024 : Shape := ⟨3, ![2, 1, 1024]⟩
abbrev S2x4x1x1024 : Shape := ⟨4, ![2, 4, 1, 1024]⟩
abbrev S8x1x1024 : Shape := ⟨3, ![8, 1, 1024]⟩
abbrev S1x1x1024 : Shape := ⟨3, ![1, 1, 1024]⟩
abbrev S_ : Shape := ⟨0, ![]⟩
abbrev S9x512 : Shape := ⟨2, ![9, 512]⟩
abbrev S9x512x1 : Shape := ⟨3, ![9, 512, 1]⟩
abbrev S9x512x2816 : Shape := ⟨3, ![9, 512, 2816]⟩
abbrev S9x1024 : Shape := ⟨2, ![9, 1024]⟩
abbrev S9x4x1024 : Shape := ⟨3, ![9, 4, 1024]⟩
abbrev S9x8x1024 : Shape := ⟨3, ![9, 8, 1024]⟩
abbrev S4608x1024 : Shape := ⟨2, ![4608, 1024]⟩
abbrev S4608x4x704 : Shape := ⟨3, ![4608, 4, 704]⟩
abbrev S4x4608x704 : Shape := ⟨3, ![4, 4608, 704]⟩

abbrev nBuf : Space → Nat
  | .hbm => 209
  | .vmem => 0
  | .smem => 0
  | _ => 0

abbrev hbmTy0_0 (i : Nat) : BufTy := match i % 128 with
  | 0 => ⟨S2x2048x1024, .f32⟩
  | 1 => ⟨S2x256x1024, .f32⟩
  | 2 => ⟨S2x2048x1024, .f32⟩
  | 3 => ⟨S2x256x1024, .f32⟩
  | 4 => ⟨S2x9x1024, .f32⟩
  | 5 => ⟨S1x9x1024, .f32⟩
  | 6 => ⟨S1024, .f32⟩
  | 7 => ⟨S1024x2816, .f32⟩
  | 8 => ⟨S1024x2816, .f32⟩
  | 9 => ⟨S2816x1024, .f32⟩
  | 10 => ⟨S8x512x1024, .f32⟩
  | 11 => ⟨S1x512x1024, .f32⟩
  | 12 => ⟨S9x512x1024, .f32⟩
  | 13 => ⟨S8x512x1024, .f32⟩
  | 14 => ⟨S1x512x1024, .f32⟩
  | 15 => ⟨S9x512x1024, .f32⟩
  | 16 => ⟨S9x1x1024, .f32⟩
  | 17 => ⟨S2x1x1024, .f32⟩
  | 18 => ⟨S2x4x1x1024, .f32⟩
  | 19 => ⟨S8x1x1024, .f32⟩
  | 20 => ⟨S1x1x1024, .f32⟩
  | 21 => ⟨S9x1x1024, .f32⟩
  | 22 => ⟨S2x1x1024, .f32⟩
  | 23 => ⟨S2x4x1x1024, .f32⟩
  | 24 => ⟨S8x1x1024, .f32⟩
  | 25 => ⟨S1x1x1024, .f32⟩
  | 26 => ⟨S9x1x1024, .f32⟩
  | 27 => ⟨S2x1x1024, .f32⟩
  | 28 => ⟨S2x4x1x1024, .f32⟩
  | 29 => ⟨S8x1x1024, .f32⟩
  | 30 => ⟨S1x1x1024, .f32⟩
  | 31 => ⟨S9x1x1024, .f32⟩
  | 32 => ⟨S9x512x1024, .f32⟩
  | 33 => ⟨S_, .f32⟩
  | 34 => ⟨S9x512, .f32⟩
  | 35 => ⟨S9x512x1, .f32⟩
  | 36 => ⟨S_, .f32⟩
  | 37 => ⟨S9x512x1, .f32⟩
  | 38 => ⟨S9x512x1, .f32⟩
  | 39 => ⟨S_, .f32⟩
  | 40 => ⟨S9x512x1, .f32⟩
  | 41 => ⟨S9x512x1, .f32⟩
  | 42 => ⟨S9x512x1, .f32⟩
  | 43 => ⟨S9x512x1, .f32⟩
  | 44 => ⟨S_, .f32⟩
  | 45 => ⟨S9x512x1, .f32⟩
  | 46 => ⟨S9x512x1, .f32⟩
  | 47 => ⟨S9x512x1024, .f32⟩
  | 48 => ⟨S9x512x1024, .f32⟩
  | 49 => ⟨S9x512x1024, .f32⟩
  | 50 => ⟨S9x512x1024, .f32⟩
  | 51 => ⟨S_, .f32⟩
  | 52 => ⟨S9x1x1024, .f32⟩
  | 53 => ⟨S9x1x1024, .f32⟩
  | 54 => ⟨S9x512x1024, .f32⟩
  | 55 => ⟨S9x512x1024, .f32⟩
  | 56 => ⟨S9x512x1024, .f32⟩
  | 57 => ⟨S9x512x1024, .f32⟩
  | 58 => ⟨S9x512x2816, .f32⟩
  | 59 => ⟨S9x512x2816, .f32⟩
  | 60 => ⟨S_, .f32⟩
  | 61 => ⟨S9x1x1024, .f32⟩
  | 62 => ⟨S9x1x1024, .f32⟩
  | 63 => ⟨S9x512x2816, .f32⟩
  | 64 => ⟨S9x512x2816, .f32⟩
  | 65 => ⟨S_, .f32⟩
  | 66 => ⟨S9x512x2816, .f32⟩
  | 67 => ⟨S9x512x2816, .f32⟩
  | 68 => ⟨S_, .f32⟩
  | 69 => ⟨S9x512x2816, .f32⟩
  | 70 => ⟨S9x512x2816, .f32⟩
  | 71 => ⟨S_, .f32⟩
  | 72 => ⟨S9x512x2816, .f32⟩
  | 73 => ⟨S9x512x2816, .f32⟩
  | 74 => ⟨S9x512x2816, .f32⟩
  | 75 => ⟨S9x512x2816, .f32⟩
  | 76 => ⟨S9x512x2816, .f32⟩
  | 77 => ⟨S9x512x1024, .f32⟩
  | 78 => ⟨S9x512x1024, .f32⟩
  | 79 => ⟨S9x512x1024, .f32⟩
  | 80 => ⟨S9x512x1024, .f32⟩
  | 81 => ⟨S9x512x1024, .f32⟩
  | 82 => ⟨S9x512x1024, .f32⟩
  | 83 => ⟨S9x512x1024, .f32⟩
  | 84 => ⟨S_, .f32⟩
  | 85 => ⟨S9x1024, .f32⟩
  | 86 => ⟨S9x1x1024, .f32⟩
  | 87 => ⟨S9x512x2816, .f32⟩
  | 88 => ⟨S9x512x2816, .f32⟩
  | 89 => ⟨S9x512x2816, .f32⟩
  | 90 => ⟨S9x512x2816, .f32⟩
  | 91 => ⟨S9x512x2816, .f32⟩
  | 92 => ⟨S9x512x2816, .f32⟩
  | 93 => ⟨S9x512x2816, .f32⟩
  | 94 => ⟨S_, .f32⟩
  | 95 => ⟨S9x1x1024, .f32⟩
  | 96 => ⟨S9x1x1024, .f32⟩
  | 97 => ⟨S9x512x1024, .f32⟩
  | 98 => ⟨S9x512x1024, .f32⟩
  | 99 => ⟨S9x512x1024, .f32⟩
  | 100 => ⟨S_, .f32⟩
  | 101 => ⟨S9x1024, .f32⟩
  | 102 => ⟨S9x1x1024, .f32⟩
  | 103 => ⟨S9x512x1024, .f32⟩
  | 104 => ⟨S_, .f32⟩
  | 105 => ⟨S9x1024, .f32⟩
  | 106 => ⟨S9x1x1024, .f32⟩
  | 107 => ⟨S9x512x1024, .f32⟩
  | 108 => ⟨S9x512x1024, .f32⟩
  | 109 => ⟨S9x512x1024, .f32⟩
  | 110 => ⟨S_, .f32⟩
  | 111 => ⟨S9x1024, .f32⟩
  | 112 => ⟨S9x1x1024, .f32⟩
  | 113 => ⟨S9x512x1024, .f32⟩
  | 114 => ⟨S9x512x1024, .f32⟩
  | 115 => ⟨S9x512x1024, .f32⟩
  | 116 => ⟨S_, .f32⟩
  | 117 => ⟨S9x512, .f32⟩
  | 118 => ⟨S9x512x1, .f32⟩
  | 119 => ⟨S9x512x1024, .f32⟩
  | 120 => ⟨S9x512x1024, .f32⟩
  | 121 => ⟨S9x512x1024, .f32⟩
  | 122 => ⟨S9x512x1, .f32⟩
  | 123 => ⟨S_, .f32⟩
  | 124 => ⟨S9x512x1, .f32⟩
  | 125 => ⟨S9x512x1, .f32⟩
  | 126 => ⟨S_, .f32⟩
  | 127 => ⟨S9x512, .f32⟩
  | _ => ⟨S2x2048x1024, .f32⟩

abbrev hbmTy0_1 (i : Nat) : BufTy := match i % 128 with
  | 0 => ⟨S9x512x1024, .f32⟩
  | 1 => ⟨S9x512x1024, .f32⟩
  | 2 => ⟨S9x512x1024, .f32⟩
  | 3 => ⟨S9x512x1024, .f32⟩
  | 4 => ⟨S9x512x1024, .f32⟩
  | 5 => ⟨S9x512x1024, .f32⟩
  | 6 => ⟨S_, .f32⟩
  | 7 => ⟨S9x512, .f32⟩
  | 8 => ⟨S9x512x1, .f32⟩
  | 9 => ⟨S_, .f32⟩
  | 10 => ⟨S9x512x1, .f32⟩
  | 11 => ⟨S9x512x1, .f32⟩
  | 12 => ⟨S_, .f32⟩
  | 13 => ⟨S9x512x1, .f32⟩
  | 14 => ⟨S9x512x1, .f32⟩
  | 15 => ⟨S9x512x1, .f32⟩
  | 16 => ⟨S9x512x1024, .f32⟩
  | 17 => ⟨S9x512x1024, .f32⟩
  | 18 => ⟨S9x512x1024, .f32⟩
  | 19 => ⟨S9x512x1024, .f32⟩
  | 20 => ⟨S_, .f32⟩
  | 21 => ⟨S9x1x1024, .f32⟩
  | 22 => ⟨S9x1x1024, .f32⟩
  | 23 => ⟨S9x512x1024, .f32⟩
  | 24 => ⟨S9x512x1024, .f32⟩
  | 25 => ⟨S9x512x1024, .f32⟩
  | 26 => ⟨S9x512x1024, .f32⟩
  | 27 => ⟨S9x512x2816, .f32⟩
  | 28 => ⟨S9x512x2816, .f32⟩
  | 29 => ⟨S_, .f32⟩
  | 30 => ⟨S9x1x1024, .f32⟩
  | 31 => ⟨S9x1x1024, .f32⟩
  | 32 => ⟨S9x512x1024, .f32⟩
  | 33 => ⟨S9x512x1024, .f32⟩
  | 34 => ⟨S9x512x2816, .f32⟩
  | 35 => ⟨S9x512x2816, .f32⟩
  | 36 => ⟨S_, .f32⟩
  | 37 => ⟨S9x512x2816, .f32⟩
  | 38 => ⟨S9x512x2816, .f32⟩
  | 39 => ⟨S_, .f32⟩
  | 40 => ⟨S9x512x2816, .f32⟩
  | 41 => ⟨S9x512x2816, .f32⟩
  | 42 => ⟨S_, .f32⟩
  | 43 => ⟨S9x512x2816, .f32⟩
  | 44 => ⟨S9x512x2816, .f32⟩
  | 45 => ⟨S9x512x2816, .f32⟩
  | 46 => ⟨S9x512x2816, .f32⟩
  | 47 => ⟨S9x512x2816, .f32⟩
  | 48 => ⟨S9x512x1024, .f32⟩
  | 49 => ⟨S9x512x2816, .f32⟩
  | 50 => ⟨S9x512x2816, .f32⟩
  | 51 => ⟨S9x512x2816, .f32⟩
  | 52 => ⟨S9x512x2816, .f32⟩
  | 53 => ⟨S9x512x2816, .f32⟩
  | 54 => ⟨S9x512x2816, .f32⟩
  | 55 => ⟨S9x512x2816, .f32⟩
  | 56 => ⟨S_, .f32⟩
  | 57 => ⟨S9x4x1024, .f32⟩
  | 58 => ⟨S9x8x1024, .f32⟩
  | 59 => ⟨S4608x1024, .f32⟩
  | 60 => ⟨S4608x4x704, .f32⟩
  | 61 => ⟨S4x4608x704, .f32⟩
  | 62 => ⟨S4x4608x704, .bf16⟩
  | 63 => ⟨S4608x4x704, .f32⟩
  | 64 => ⟨S4x4608x704, .f32⟩
  | 65 => ⟨S4x4608x704, .bf16⟩
  | 66 => ⟨S9x512x2816, .f32⟩
  | 67 => ⟨S9x512x2816, .f32⟩
  | 68 => ⟨S_, .f32⟩
  | 69 => ⟨S9x512x2816, .f32⟩
  | 70 => ⟨S9x512x2816, .f32⟩
  | 71 => ⟨S_, .f32⟩
  | 72 => ⟨S9x512x2816, .f32⟩
  | 73 => ⟨S9x512x2816, .f32⟩
  | 74 => ⟨S9x512x2816, .f32⟩
  | 75 => ⟨S9x512x2816, .f32⟩
  | 76 => ⟨S4608x4x704, .f32⟩
  | 77 => ⟨S4x4608x704, .f32⟩
  | 78 => ⟨S4x4608x704, .bf16⟩
  | 79 => ⟨S4608x1024, .f32⟩
  | 80 => ⟨S4608x1024, .bf16⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst : Ref sig .tc := ⟨.hbm, 33, rfl⟩
abbrev main_v23 : Ref sig .tc := ⟨.hbm, 34, rfl⟩
abbrev main_v24 : Ref sig .tc := ⟨.hbm, 35, rfl⟩
abbrev main_cst_0 : Ref sig .tc := ⟨.hbm, 36, rfl⟩
abbrev main_v25 : Ref sig .tc := ⟨.hbm, 37, rfl⟩
abbrev main_v26 : Ref sig .tc := ⟨.hbm, 38, rfl⟩
abbrev main_cst_1 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_2 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_3 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_4 : Ref sig .tc := ⟨.hbm, 60, rfl⟩
abbrev main_v45 : Ref sig .tc := ⟨.hbm, 61, rfl⟩
abbrev main_v46 : Ref sig .tc := ⟨.hbm, 62, rfl⟩
abbrev main_call0_v0 : Ref sig .tc := ⟨.hbm, 63, rfl⟩
abbrev main_call0_v1 : Ref sig .tc := ⟨.hbm, 64, rfl⟩
abbrev main_call0_cst : Ref sig .tc := ⟨.hbm, 65, rfl⟩
abbrev main_call0_v2 : Ref sig .tc := ⟨.hbm, 66, rfl⟩
abbrev main_call0_v3 : Ref sig .tc := ⟨.hbm, 67, rfl⟩
abbrev main_call0_cst_0 : Ref sig .tc := ⟨.hbm, 68, rfl⟩
abbrev main_call0_v4 : Ref sig .tc := ⟨.hbm, 69, rfl⟩
abbrev main_v47_2 : Ref sig .tc := ⟨.hbm, 70, rfl⟩
abbrev main_call0_cst_1 : Ref sig .tc := ⟨.hbm, 71, rfl⟩
abbrev main_call0_v6 : Ref sig .tc := ⟨.hbm, 72, rfl⟩
abbrev main_call0_v7 : Ref sig .tc := ⟨.hbm, 73, rfl⟩
abbrev main_v47_1 : Ref sig .tc := ⟨.hbm, 74, rfl⟩
abbrev main_v47_0 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_5 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_call1_v0 : Ref sig .tc := ⟨.hbm, 90, rfl⟩
abbrev main_call1_v1 : Ref sig .tc := ⟨.hbm, 91, rfl⟩
abbrev main_call1_v2 : Ref sig .tc := ⟨.hbm, 92, rfl⟩
abbrev main_v61 : Ref sig .tc := ⟨.hbm, 93, rfl⟩
abbrev main_cst_6 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_7 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_8 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_9 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_cst_10 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_cst_11 : Ref sig .tc := ⟨.hbm, 123, rfl⟩
abbrev main_v86 : Ref sig .tc := ⟨.hbm, 124, rfl⟩
abbrev main_v87 : Ref sig .tc := ⟨.hbm, 125, rfl⟩
abbrev main_cst_12 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_cst_13 : Ref sig .tc := ⟨.hbm, 134, rfl⟩
abbrev main_v95 : Ref sig .tc := ⟨.hbm, 135, rfl⟩
abbrev main_v96 : Ref sig .tc := ⟨.hbm, 136, rfl⟩
abbrev main_cst_14 : Ref sig .tc := ⟨.hbm, 137, rfl⟩
abbrev main_v97 : Ref sig .tc := ⟨.hbm, 138, rfl⟩
abbrev main_v98 : Ref sig .tc := ⟨.hbm, 139, rfl⟩
abbrev main_cst_15 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_cst_16 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_cst_17 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_call2_v0 : Ref sig .tc := ⟨.hbm, 162, rfl⟩
abbrev main_call2_v1 : Ref sig .tc := ⟨.hbm, 163, rfl⟩
abbrev main_call2_cst : Ref sig .tc := ⟨.hbm, 164, rfl⟩
abbrev main_call2_v2 : Ref sig .tc := ⟨.hbm, 165, rfl⟩
abbrev main_call2_v3 : Ref sig .tc := ⟨.hbm, 166, rfl⟩
abbrev main_call2_cst_0 : Ref sig .tc := ⟨.hbm, 167, rfl⟩
abbrev main_call2_v4 : Ref sig .tc := ⟨.hbm, 168, rfl⟩
abbrev main_v118_2 : Ref sig .tc := ⟨.hbm, 169, rfl⟩
abbrev main_call2_cst_1 : Ref sig .tc := ⟨.hbm, 170, rfl⟩
abbrev main_call2_v6 : Ref sig .tc := ⟨.hbm, 171, rfl⟩
abbrev main_call2_v7 : Ref sig .tc := ⟨.hbm, 172, rfl⟩
abbrev main_v118_1 : Ref sig .tc := ⟨.hbm, 173, rfl⟩
abbrev main_v118_0 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_call3_v0 : Ref sig .tc := ⟨.hbm, 180, rfl⟩
abbrev main_call3_v1 : Ref sig .tc := ⟨.hbm, 181, rfl⟩
abbrev main_call3_v2 : Ref sig .tc := ⟨.hbm, 182, rfl⟩
abbrev main_v124 : Ref sig .tc := ⟨.hbm, 183, rfl⟩
abbrev main_cst_18 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_call4_v0 : Ref sig .tc := ⟨.hbm, 194, rfl⟩
abbrev main_call4_v1 : Ref sig .tc := ⟨.hbm, 195, rfl⟩
abbrev main_call4_cst : Ref sig .tc := ⟨.hbm, 196, rfl⟩
abbrev main_call4_v2 : Ref sig .tc := ⟨.hbm, 197, rfl⟩
abbrev main_call4_v3 : Ref sig .tc := ⟨.hbm, 198, rfl⟩
abbrev main_call4_cst_0 : Ref sig .tc := ⟨.hbm, 199, rfl⟩
abbrev main_call4_v4 : Ref sig .tc := ⟨.hbm, 200, rfl⟩
abbrev main_call4_v5 : Ref sig .tc := ⟨.hbm, 201, rfl⟩
abbrev main_v134 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_v138 : Ref sig .tc := ⟨.hbm, 206, rfl⟩
abbrev main_v139 : Ref sig .tc := ⟨.hbm, 207, rfl⟩
abbrev main_v140 : Ref sig .tc := ⟨.hbm, 208, rfl⟩

abbrev nD : Nat := 1
abbrev τ : Topo := Topo.v7x

variable {F : FTy → Type} [FloatOps F]
-- ==== KFwd.lean ====
abbrev S2x2048x1024 : Shape := ⟨3, ![2, 2048, 1024]⟩
abbrev S2x256x1024 : Shape := ⟨3, ![2, 256, 1024]⟩
abbrev S2x9x1024 : Shape := ⟨3, ![2, 9, 1024]⟩
abbrev S1x9x1024 : Shape := ⟨3, ![1, 9, 1024]⟩
abbrev S1024 : Shape := ⟨1, ![1024]⟩
abbrev S1024x2816 : Shape := ⟨2, ![1024, 2816]⟩
abbrev S2816x1024 : Shape := ⟨2, ![2816, 1024]⟩
abbrev S4096x1024 : Shape := ⟨2, ![4096, 1024]⟩
abbrev S512x1024 : Shape := ⟨2, ![512, 1024]⟩
abbrev S4608x1024 : Shape := ⟨2, ![4608, 1024]⟩
abbrev S3x9x1024 : Shape := ⟨3, ![3, 9, 1024]⟩
abbrev S1x1024 : Shape := ⟨2, ![1, 1024]⟩
abbrev S4x704x1024 : Shape := ⟨3, ![4, 704, 1024]⟩
abbrev S4x4608x704 : Shape := ⟨3, ![4, 4608, 704]⟩
abbrev S1x704x1024 : Shape := ⟨3, ![1, 704, 1024]⟩
abbrev S1x512x704 : Shape := ⟨3, ![1, 512, 704]⟩
abbrev S1x1x1024 : Shape := ⟨3, ![1, 1, 1024]⟩
abbrev S512 : Shape := ⟨1, ![512]⟩
abbrev S512x1 : Shape := ⟨2, ![512, 1]⟩
abbrev S704x1024 : Shape := ⟨2, ![704, 1024]⟩
abbrev S512x704 : Shape := ⟨2, ![512, 704]⟩

abbrev nBuf : Space → Nat
  | .hbm => 26
  | .vmem => 23
  | .smem => 0
  | _ => 0

abbrev bufTy : (tb : Table) → Fin (tcTables nBuf tb) → BufTy
  | .hbm, ⟨0, _⟩ => ⟨S2x2048x1024, .f32⟩
  | .hbm, ⟨1, _⟩ => ⟨S2x256x1024, .f32⟩
  | .hbm, ⟨2, _⟩ => ⟨S2x9x1024, .f32⟩
  | .hbm, ⟨3, _⟩ => ⟨S1x9x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S4096x1024, .f32⟩
  | .hbm, ⟨9, _⟩ => ⟨S512x1024, .f32⟩
  | .hbm, ⟨10, _⟩ => ⟨S4608x1024, .f32⟩
  | .hbm, ⟨11, _⟩ => ⟨S3x9x1024, .f32⟩
  | .hbm, ⟨12, _⟩ => ⟨S1x1024, .f32⟩
  | .hbm, ⟨13, _⟩ => ⟨S2816x1024, .f32⟩
  | .hbm, ⟨14, _⟩ => ⟨S4x704x1024, .f32⟩
  | .hbm, ⟨15, _⟩ => ⟨S4x704x1024, .bf16⟩
  | .hbm, ⟨16, _⟩ => ⟨S2816x1024, .f32⟩
  | .hbm, ⟨17, _⟩ => ⟨S4x704x1024, .f32⟩
  | .hbm, ⟨18, _⟩ => ⟨S4x704x1024, .bf16⟩
  | .hbm, ⟨19, _⟩ => ⟨S4x704x1024, .f32⟩
  | .hbm, ⟨20, _⟩ => ⟨S4x704x1024, .bf16⟩
  | .hbm, ⟨21, _⟩ => ⟨S4608x1024, .f32⟩
  | .hbm, ⟨22, _⟩ => ⟨S4x4608x704, .bf16⟩
  | .hbm, ⟨23, _⟩ => ⟨S4x4608x704, .bf16⟩
  | .hbm, ⟨24, _⟩ => ⟨S4608x1024, .bf16⟩
  | .hbm, ⟨25, _⟩ => ⟨S4608x1024, .bf16⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1x704x1024, .bf16⟩
  | .local _ .vmem, ⟨6, _⟩ => ⟨S1x704x1024, .bf16⟩
  | .local _ .vmem, ⟨7, _⟩ => ⟨S1x704x1024, .bf16⟩
  | .local _ .vmem, ⟨8, _⟩ => ⟨S1x704x1024, .bf16⟩
  | .local _ .vmem, ⟨9, _⟩ => ⟨S1x704x1024, .bf16⟩
  | .local _ .vmem, ⟨10, _⟩ => ⟨S1x704x1024, .bf16⟩
  | .local _ .vmem, ⟨11, _⟩ => ⟨S512x1024, .f32⟩
  | .local _ .vmem, ⟨12, _⟩ => ⟨S512x1024, .f32⟩
  | .local _ .vmem, ⟨13, _⟩ => ⟨S1x512x704, .bf16⟩
  | .local _ .vmem, ⟨14, _⟩ => ⟨S1x512x704, .bf16⟩
  | .local _ .vmem, ⟨15, _⟩ => ⟨S1x512x704, .bf16⟩
  | .local _ .vmem, ⟨16, _⟩ => ⟨S1x512x704, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v13_2 : Ref sig .tc := ⟨.hbm, 23, rfl⟩
abbrev main_v13_3 : Ref sig .tc := ⟨.hbm, 24, rfl⟩
abbrev main_v13_4 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![9, 4], ![false, false]⟩

def k0_cond2 (i : grid0.Coords) : BitVec 1 :=
  let arg1 : BitVec 32 := BitVec.ofNat 32 (i 1).val
  let c3_i32 : BitVec 32 := 3#32
  let v30 : BitVec 1 := Scalar.cmpi .eq arg1 c3_i32
  let v31 : BitVec 32 := Scalar.extui v30
  let c0_i32_23 : BitVec 32 := 0#32
  let v32 : BitVec 1 := Scalar.cmpi .ne v31 c0_i32_23
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x704x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== RFwdIdeal.lean ====
abbrev S2x2048x1024 : Shape := ⟨3, ![2, 2048, 1024]⟩
abbrev S2x256x1024 : Shape := ⟨3, ![2, 256, 1024]⟩
abbrev S2x9x1024 : Shape := ⟨3, ![2, 9, 1024]⟩
abbrev S1x9x1024 : Shape := ⟨3, ![1, 9, 1024]⟩
abbrev S1024 : Shape := ⟨1, ![1024]⟩
abbrev S1024x2816 : Shape := ⟨2, ![1024, 2816]⟩
abbrev S2816x1024 : Shape := ⟨2, ![2816, 1024]⟩
abbrev S2x1x1024 : Shape := ⟨3, ![2, 1, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x2816 : Shape := ⟨3, ![2, 2048, 2816]⟩
abbrev S2x256 : Shape := ⟨2, ![2, 256]⟩
abbrev S2x256x1 : Shape := ⟨3, ![2, 256, 1]⟩
abbrev S2x256x2816 : Shape := ⟨3, ![2, 256, 2816]⟩
abbrev S4096x1024 : Shape := ⟨2, ![4096, 1024]⟩
abbrev S512x1024 : Shape := ⟨2, ![512, 1024]⟩
abbrev S4608x1024 : Shape := ⟨2, ![4608, 1024]⟩
abbrev S4096x2816 : Shape := ⟨2, ![4096, 2816]⟩
abbrev S512x2816 : Shape := ⟨2, ![512, 2816]⟩
abbrev S4608x2816 : Shape := ⟨2, ![4608, 2816]⟩
abbrev S4608x4x704 : Shape := ⟨3, ![4608, 4, 704]⟩
abbrev S4x4608x704 : Shape := ⟨3, ![4, 4608, 704]⟩

abbrev nBuf : Space → Nat
  | .hbm => 121
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x256x1024, .f32⟩
  | .hbm, ⟨2, _⟩ => ⟨S2x9x1024, .f32⟩
  | .hbm, ⟨3, _⟩ => ⟨S1x9x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S2x1x1024, .f32⟩
  | .hbm, ⟨9, _⟩ => ⟨S2x1x1024, .f32⟩
  | .hbm, ⟨10, _⟩ => ⟨S2x1x1024, .f32⟩
  | .hbm, ⟨11, _⟩ => ⟨S2x2048x1024, .f32⟩
  | .hbm, ⟨12, _⟩ => ⟨S_, .f32⟩
  | .hbm, ⟨13, _⟩ => ⟨S2x2048, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S2x2048x1, .f32⟩
  | .hbm, ⟨22, _⟩ => ⟨S2x2048x1024, .f32⟩
  | .hbm, ⟨23, _⟩ => ⟨S2x2048x1024, .f32⟩
  | .hbm, ⟨24, _⟩ => ⟨S1x1x1024, .f32⟩
  | .hbm, ⟨25, _⟩ => ⟨S2x2048x1024, .f32⟩
  | .hbm, ⟨26, _⟩ => ⟨S2x2048x1024, .f32⟩
  | .hbm, ⟨27, _⟩ => ⟨S_, .f32⟩
  | .hbm, ⟨28, _⟩ => ⟨S2x1x1024, .f32⟩
  | .hbm, ⟨29, _⟩ => ⟨S2x1x1024, .f32⟩
  | .hbm, ⟨30, _⟩ => ⟨S2x2048x1024, .f32⟩
  | .hbm, ⟨31, _⟩ => ⟨S2x2048x1024, .f32⟩
  | .hbm, ⟨32, _⟩ => ⟨S2x2048x1024, .f32⟩
  | .hbm, ⟨33, _⟩ => ⟨S2x2048x1024, .f32⟩
  | .hbm, ⟨34, _⟩ => ⟨S2x2048x2816, .f32⟩
  | .hbm, ⟨35, _⟩ => ⟨S2x2048x2816, .f32⟩
  | .hbm, ⟨36, _⟩ => ⟨S2x2048x2816, .f32⟩
  | .hbm, ⟨37, _⟩ => ⟨S2x2048x2816, .f32⟩
  | .hbm, ⟨38, _⟩ => ⟨S_, .f32⟩
  | .hbm, ⟨39, _⟩ => ⟨S2x2048x2816, .f32⟩
  | .hbm, ⟨40, _⟩ => ⟨S2x2048x2816, .f32⟩
  | .hbm, ⟨41, _⟩ => ⟨S_, .f32⟩
  | .hbm, ⟨42, _⟩ => ⟨S2x2048x2816, .f32⟩
  | .hbm, ⟨43, _⟩ => ⟨S2x2048x2816, .f32⟩
  | .hbm, ⟨44, _⟩ => ⟨S2x2048x2816, .f32⟩
  | .hbm, ⟨45, _⟩ => ⟨S2x2048x2816, .f32⟩
  | .hbm, ⟨46, _⟩ => ⟨S2x2048x1024, .f32⟩
  | .hbm, ⟨47, _⟩ => ⟨S_, .f32⟩
  | .hbm, ⟨48, _⟩ => ⟨S2x1x1024, .f32⟩
  | .hbm, ⟨49, _⟩ => ⟨S2x1x1024, .f32⟩
  | .hbm, ⟨50, _⟩ => ⟨S2x2048x1024, .f32⟩
  | .hbm, ⟨51, _⟩ => ⟨S2x2048x1024, .f32⟩
  | .hbm, ⟨52, _⟩ => ⟨S2x2048x1024, .f32⟩
  | .hbm, ⟨53, _⟩ => ⟨S1x1x1024, .f32⟩
  | .hbm, ⟨54, _⟩ => ⟨S1x1x1024, .f32⟩
  | .hbm, ⟨55, _⟩ => ⟨S1x1x1024, .f32⟩
  | .hbm, ⟨56, _⟩ => ⟨S2x256x1024, .f32⟩
  | .hbm, ⟨57, _⟩ => ⟨S_, .f32⟩
  | .hbm, ⟨58, _⟩ => ⟨S2x256, .f32⟩
  | .hbm, ⟨59, _⟩ => ⟨S2x256x1, .f32⟩
  | .hbm, ⟨60, _⟩ => ⟨S_, .f32⟩
  | .hbm, ⟨61, _⟩ => ⟨S2x256x1, .f32⟩
  | .hbm, ⟨62, _⟩ => ⟨S2x256x1, .f32⟩
  | .hbm, ⟨63, _⟩ => ⟨S_, .f32⟩
  | .hbm, ⟨64, _⟩ => ⟨S2x256x1, .f32⟩
  | .hbm, ⟨65, _⟩ => ⟨S2x256x1, .f32⟩
  | .hbm, ⟨66, _⟩ => ⟨S2x256x1, .f32⟩
  | .hbm, ⟨67, _⟩ => ⟨S2x256x1024, .f32⟩
  | .hbm, ⟨68, _⟩ => ⟨S2x256x1024, .f32⟩
  | .hbm, ⟨69, _⟩ => ⟨S1x1x1024, .f32⟩
  | .hbm, ⟨70, _⟩ => ⟨S2x256x1024, .f32⟩
  | .hbm, ⟨71, _⟩ => ⟨S2x256x1024, .f32⟩
  | .hbm, ⟨72, _⟩ => ⟨S_, .f32⟩
  | .hbm, ⟨73, _⟩ => ⟨S1x1x1024, .f32⟩
  | .hbm, ⟨74, _⟩ => ⟨S1x1x1024, .f32⟩
  | .hbm, ⟨75, _⟩ => ⟨S2x256x1024, .f32⟩
  | .hbm, ⟨76, _⟩ => ⟨S2x256x1024, .f32⟩
  | .hbm, ⟨77, _⟩ => ⟨S2x256x1024, .f32⟩
  | .hbm, ⟨78, _⟩ => ⟨S2x256x1024, .f32⟩
  | .hbm, ⟨79, _⟩ => ⟨S2x256x2816, .f32⟩
  | .hbm, ⟨80, _⟩ => ⟨S2x256x2816, .f32⟩
  | .hbm, ⟨81, _⟩ => ⟨S2x256x2816, .f32⟩
  | .hbm, ⟨82, _⟩ => ⟨S2x256x2816, .f32⟩
  | .hbm, ⟨83, _⟩ => ⟨S_, .f32⟩
  | .hbm, ⟨84, _⟩ => ⟨S2x256x2816, .f32⟩
  | .hbm, ⟨85, _⟩ => ⟨S2x256x2816, .f32⟩
  | .hbm, ⟨86, _⟩ => ⟨S_, .f32⟩
  | .hbm, ⟨87, _⟩ => ⟨S2x256x2816, .f32⟩
  | .hbm, ⟨88, _⟩ => ⟨S2x256x2816, .f32⟩
  | .hbm, ⟨89, _⟩ => ⟨S2x256x2816, .f32⟩
  | .hbm, ⟨90, _⟩ => ⟨S2x256x2816, .f32⟩
  | .hbm, ⟨91, _⟩ => ⟨S2x256x1024, .f32⟩
  | .hbm, ⟨92, _⟩ => ⟨S_, .f32⟩
  | .hbm, ⟨93, _⟩ => ⟨S1x1x1024, .f32⟩
  | .hbm, ⟨94, _⟩ => ⟨S1x1x1024, .f32⟩
  | .hbm, ⟨95, _⟩ => ⟨S2x256x1024, .f32⟩
  | .hbm, ⟨96, _⟩ => ⟨S2x256x1024, .f32⟩
  | .hbm, ⟨97, _⟩ => ⟨S2x256x1024, .f32⟩
  | .hbm, ⟨98, _⟩ => ⟨S4096x1024, .f32⟩
  | .hbm, ⟨99, _⟩ => ⟨S512x1024, .f32⟩
  | .hbm, ⟨100, _⟩ => ⟨S4608x1024, .f32⟩
  | .hbm, ⟨101, _⟩ => ⟨S4096x2816, .f32⟩
  | .hbm, ⟨102, _⟩ => ⟨S512x2816, .f32⟩
  | .hbm, ⟨103, _⟩ => ⟨S4608x2816, .f32⟩
  | .hbm, ⟨104, _⟩ => ⟨S4096x2816, .f32⟩
  | .hbm, ⟨105, _⟩ => ⟨S512x2816, .f32⟩
  | .hbm, ⟨106, _⟩ => ⟨S4608x2816, .f32⟩
  | .hbm, ⟨107, _⟩ => ⟨S4096x1024, .f32⟩
  | .hbm, ⟨108, _⟩ => ⟨S512x1024, .f32⟩
  | .hbm, ⟨109, _⟩ => ⟨S4608x1024, .f32⟩
  | .hbm, ⟨110, _⟩ => ⟨S4096x1024, .f32⟩
  | .hbm, ⟨111, _⟩ => ⟨S512x1024, .f32⟩
  | .hbm, ⟨112, _⟩ => ⟨S4608x1024, .f32⟩
  | .hbm, ⟨113, _⟩ => ⟨S4608x4x704, .f32⟩
  | .hbm, ⟨114, _⟩ => ⟨S4x4608x704, .f32⟩
  | .hbm, ⟨115, _⟩ => ⟨S4x4608x704, .bf16⟩
  | .hbm, ⟨116, _⟩ => ⟨S4608x4x704, .f32⟩
  | .hbm, ⟨117, _⟩ => ⟨S4x4608x704, .f32⟩
  | .hbm, ⟨118, _⟩ => ⟨S4x4608x704, .bf16⟩
  | .hbm, ⟨119, _⟩ => ⟨S4608x1024, .bf16⟩
  | .hbm, ⟨120, _⟩ => ⟨S4608x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_3 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_4 : Ref sig .tc := ⟨.hbm, 57, rfl⟩
abbrev main_v36 : Ref sig .tc := ⟨.hbm, 58, rfl⟩
abbrev main_v37 : Ref sig .tc := ⟨.hbm, 59, rfl⟩
abbrev main_cst_5 : Ref sig .tc := ⟨.hbm, 60, rfl⟩
abbrev main_v38 : Ref sig .tc := ⟨.hbm, 61, rfl⟩
abbrev main_v39 : Ref sig .tc := ⟨.hbm, 62, rfl⟩
abbrev main_cst_6 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_7 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_call1_v0 : Ref sig .tc := ⟨.hbm, 81, rfl⟩
abbrev main_call1_v1 : Ref sig .tc := ⟨.hbm, 82, rfl⟩
abbrev main_call1_cst : Ref sig .tc := ⟨.hbm, 83, rfl⟩
abbrev main_call1_v2 : Ref sig .tc := ⟨.hbm, 84, rfl⟩
abbrev main_call1_v3 : Ref sig .tc := ⟨.hbm, 85, rfl⟩
abbrev main_call1_cst_0 : Ref sig .tc := ⟨.hbm, 86, rfl⟩
abbrev main_call1_v4 : Ref sig .tc := ⟨.hbm, 87, rfl⟩
abbrev main_call1_v5 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_8 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩

abbrev nD : Nat := 1
abbrev τ : Topo := Topo.v7x

variable {F : FTy → Type} [FloatOps F]
-- ==== KAttn.lean ====
abbrev S2x8x2048x192 : Shape := ⟨4, ![2, 8, 2048, 192]⟩
abbrev S2x8x256x192 : Shape := ⟨4, ![2, 8, 256, 192]⟩
abbrev S2x8x2048x128 : Shape := ⟨4, ![2, 8, 2048, 128]⟩
abbrev S2x8x256x128 : Shape := ⟨4, ![2, 8, 256, 128]⟩
abbrev S2x2048x1024 : Shape := ⟨3, ![2, 2048, 1024]⟩
abbrev S2x256x1024 : Shape := ⟨3, ![2, 256, 1024]⟩
abbrev S2x8x2304x192 : Shape := ⟨4, ![2, 8, 2304, 192]⟩
abbrev S2x8x2304x128 : Shape := ⟨4, ![2, 8, 2304, 128]⟩
abbrev S2x8x2048x2304 : Shape := ⟨4, ![2, 8, 2048, 2304]⟩
abbrev S_ : Shape := ⟨0, ![]⟩
abbrev S2x8x2048 : Shape := ⟨3, ![2, 8, 2048]⟩
abbrev S2x8x2048x1 : Shape := ⟨4, ![2, 8, 2048, 1]⟩
abbrev S2x2048x8x128 : Shape := ⟨4, ![2, 2048, 8, 128]⟩
abbrev S2x8x256x256 : Shape := ⟨4, ![2, 8, 256, 256]⟩
abbrev S2x8x256 : Shape := ⟨3, ![2, 8, 256]⟩
abbrev S2x8x256x1 : Shape := ⟨4, ![2, 8, 256, 1]⟩
abbrev S2x256x8x128 : Shape := ⟨4, ![2, 256, 8, 128]⟩
abbrev S4096x1024 : Shape := ⟨2, ![4096, 1024]⟩
abbrev S512x1024 : Shape := ⟨2, ![512, 1024]⟩
abbrev S4608x1024 : Shape := ⟨2, ![4608, 1024]⟩
abbrev S2x2048x8x192 : Shape := ⟨4, ![2, 2048, 8, 192]⟩
abbrev S2x2048x8x256 : Shape := ⟨4, ![2, 2048, 8, 256]⟩
abbrev S4096x2048 : Shape := ⟨2, ![4096, 2048]⟩
abbrev S2x256x8x192 : Shape := ⟨4, ![2, 256, 8, 192]⟩
abbrev S2x256x8x256 : Shape := ⟨4, ![2, 256, 8, 256]⟩
abbrev S512x2048 : Shape := ⟨2, ![512, 2048]⟩
abbrev S4608x2048 : Shape := ⟨2, ![4608, 2048]⟩
abbrev S256x256 : Shape := ⟨2, ![256, 256]⟩
abbrev S2048x256 : Shape := ⟨2, ![2048, 256]⟩
abbrev S2048x128 : Shape := ⟨2, ![2048, 128]⟩
abbrev S256x128 : Shape := ⟨2, ![256, 128]⟩
abbrev S256 : Shape := ⟨1, ![256]⟩
abbrev S256x1 : Shape := ⟨2, ![256, 1]⟩
abbrev S256x2048 : Shape := ⟨2, ![256, 2048]⟩

abbrev nBuf : Space → Nat
  | .hbm => 94
  | .vmem => 24
  | .smem => 0
  | _ => 0

abbrev bufTy : (tb : Table) → Fin (tcTables nBuf tb) → BufTy
  | .hbm, ⟨0, _⟩ => ⟨S2x8x2048x192, .f32⟩
  | .hbm, ⟨1, _⟩ => ⟨S2x8x256x192, .f32⟩
  | .hbm, ⟨2, _⟩ => ⟨S2x8x2048x192, .f32⟩
  | .hbm, ⟨3, _⟩ => ⟨S2x8x256x192, .f32⟩
  | .hbm, ⟨4, _⟩ => ⟨S2x8x2048x128, .f32⟩
  | .hbm, ⟨5, _⟩ => ⟨S2x8x256x128, .f32⟩
  | .hbm, ⟨6, _⟩ => ⟨S2x2048x1024, .f32⟩
  | .hbm, ⟨7, _⟩ => ⟨S2x256x1024, .f32⟩
  | .hbm, ⟨8, _⟩ => ⟨S2x8x2304x192, .f32⟩
  | .hbm, ⟨9, _⟩ => ⟨S2x8x2304x128, .f32⟩
  | .hbm, ⟨10, _⟩ => ⟨S2x8x2048x2304, .f32⟩
  | .hbm, ⟨11, _⟩ => ⟨S_, .f32⟩
  | .hbm, ⟨12, _⟩ => ⟨S2x8x2048, .f32⟩
  | .hbm, ⟨13, _⟩ => ⟨S_, .f32⟩
  | .hbm, ⟨14, _⟩ => ⟨S2x8x2048, .f32⟩
  | .hbm, ⟨15, _⟩ => ⟨S2x8x2048, .f32⟩
  | .hbm, ⟨16, _⟩ => ⟨S2x8x2048x1, .f32⟩
  | .hbm, ⟨17, _⟩ => ⟨S2x8x2048x2304, .f32⟩
  | .hbm, ⟨18, _⟩ => ⟨S2x8x2048x2304, .f32⟩
  | .hbm, ⟨19, _⟩ => ⟨S2x8x2048x2304, .f32⟩
  | .hbm, ⟨20, _⟩ => ⟨S_, .f32⟩
  | .hbm, ⟨21, _⟩ => ⟨S2x8x2048, .f32⟩
  | .hbm, ⟨22, _⟩ => ⟨S2x8x2048x1, .f32⟩
  | .hbm, ⟨23, _⟩ => ⟨S2x8x2048x2304, .f32⟩
  | .hbm, ⟨24, _⟩ => ⟨S2x8x2048x2304, .f32⟩
  | .hbm, ⟨25, _⟩ => ⟨S2x8x2048x128, .f32⟩
  | .hbm, ⟨26, _⟩ => ⟨S2x2048x8x128, .f32⟩
  | .hbm, ⟨27, _⟩ => ⟨S2x2048x1024, .f32⟩
  | .hbm, ⟨28, _⟩ => ⟨S2x8x256x256, .f32⟩
  | .hbm, ⟨29, _⟩ => ⟨S_, .f32⟩
  | .hbm, ⟨30, _⟩ => ⟨S2x8x256, .f32⟩
  | .hbm, ⟨31, _⟩ => ⟨S_, .f32⟩
  | .hbm, ⟨32, _⟩ => ⟨S2x8x256, .f32⟩
  | .hbm, ⟨33, _⟩ => ⟨S2x8x256, .f32⟩
  | .hbm, ⟨34, _⟩ => ⟨S2x8x256x1, .f32⟩
  | .hbm, ⟨35, _⟩ => ⟨S2x8x256x256, .f32⟩
  | .hbm, ⟨36, _⟩ => ⟨S2x8x256x256, .f32⟩
  | .hbm, ⟨37, _⟩ => ⟨S2x8x256x256, .f32⟩
  | .hbm, ⟨38, _⟩ => ⟨S_, .f32⟩
  | .hbm, ⟨39, _⟩ => ⟨S2x8x256, .f32⟩
  | .hbm, ⟨40, _⟩ => ⟨S2x8x256x1, .f32⟩
  | .hbm, ⟨41, _⟩ => ⟨S2x8x256x256, .f32⟩
  | .hbm, ⟨42, _⟩ => ⟨S2x8x256x256, .f32⟩
  | .hbm, ⟨43, _⟩ => ⟨S2x8x256x128, .f32⟩
  | .hbm, ⟨44, _⟩ => ⟨S2x256x8x128, .f32⟩
  | .hbm, ⟨45, _⟩ => ⟨S2x256x1024, .f32⟩
  | .hbm, ⟨46, _⟩ => ⟨S4096x1024, .f32⟩
  | .hbm, ⟨47, _⟩ => ⟨S512x1024, .f32⟩
  | .hbm, ⟨48, _⟩ => ⟨S4608x1024, .f32⟩
  | .hbm, ⟨49, _⟩ => ⟨S4096x1024, .f32⟩
  | .hbm, ⟨50, _⟩ => ⟨S512x1024, .f32⟩
  | .hbm, ⟨51, _⟩ => ⟨S4608x1024, .f32⟩
  | .hbm, ⟨52, _⟩ => ⟨S2x2048x8x192, .f32⟩
  | .hbm, ⟨53, _⟩ => ⟨S_, .i32⟩
  | .hbm, ⟨54, _⟩ => ⟨S_, .f32⟩
  | .hbm, ⟨55, _⟩ => ⟨S2x2048x8x256, .f32⟩
  | .hbm, ⟨56, _⟩ => ⟨S4096x2048, .f32⟩
  | .hbm, ⟨57, _⟩ => ⟨S2x256x8x192, .f32⟩
  | .hbm, ⟨58, _⟩ => ⟨S_, .i32⟩
  | .hbm, ⟨59, _⟩ => ⟨S_, .f32⟩
  | .hbm, ⟨60, _⟩ => ⟨S2x256x8x256, .f32⟩
  | .hbm, ⟨61, _⟩ => ⟨S512x2048, .f32⟩
  | .hbm, ⟨62, _⟩ => ⟨S4608x2048, .f32⟩
  | .hbm, ⟨63, _⟩ => ⟨S4608x2048, .bf16⟩
  | .hbm, ⟨64, _⟩ => ⟨S2x2048x8x192, .f32⟩
  | .hbm, ⟨65, _⟩ => ⟨S_, .i32⟩
  | .hbm, ⟨66, _⟩ => ⟨S_, .f32⟩
  | .hbm, ⟨67, _⟩ => ⟨S2x2048x8x256, .f32⟩
  | .hbm, ⟨68, _⟩ => ⟨S4096x2048, .f32⟩
  | .hbm, ⟨69, _⟩ => ⟨S2x256x8x192, .f32⟩
  | .hbm, ⟨70, _⟩ => ⟨S_, .i32⟩
  | .hbm, ⟨71, _⟩ => ⟨S_, .f32⟩
  | .hbm, ⟨72, _⟩ => ⟨S2x256x8x256, .f32⟩
  | .hbm, ⟨73, _⟩ => ⟨S512x2048, .f32⟩
  | .hbm, ⟨74, _⟩ => ⟨S4608x2048, .f32⟩
  | .hbm, ⟨75, _⟩ => ⟨S4608x2048, .bf16⟩
  | .hbm, ⟨76, _⟩ => ⟨S2x2048x8x128, .f32⟩
  | .hbm, ⟨77, _⟩ => ⟨S_, .i32⟩
  | .hbm, ⟨78, _⟩ => ⟨S_, .f32⟩
  | .hbm, ⟨79, _⟩ => ⟨S2x2048x8x128, .f32⟩
  | .hbm, ⟨80, _⟩ => ⟨S4096x1024, .f32⟩
  | .hbm, ⟨81, _⟩ => ⟨S2x256x8x128, .f32⟩
  | .hbm, ⟨82, _⟩ => ⟨S_, .i32⟩
  | .hbm, ⟨83, _⟩ => ⟨S_, .f32⟩
  | .hbm, ⟨84, _⟩ => ⟨S2x256x8x128, .f32⟩
  | .hbm, ⟨85, _⟩ => ⟨S512x1024, .f32⟩
  | .hbm, ⟨86, _⟩ => ⟨S4608x1024, .f32⟩
  | .hbm, ⟨87, _⟩ => ⟨S4608x1024, .bf16⟩
  | .hbm, ⟨88, _⟩ => ⟨S4608x1024, .bf16⟩
  | .hbm, ⟨89, _⟩ => ⟨S4608x2048, .f32⟩
  | .hbm, ⟨90, _⟩ => ⟨S4096x2048, .f32⟩
  | .hbm, ⟨91, _⟩ => ⟨S512x2048, .f32⟩
  | .hbm, ⟨92, _⟩ => ⟨S4096x1024, .f32⟩
  | .hbm, ⟨93, _⟩ => ⟨S512x1024, .f32⟩
  | .local _ .vmem, ⟨0, _⟩ => ⟨S256x256, .bf16⟩
  | .local _ .vmem, ⟨1, _⟩ => ⟨S256x256, .bf16⟩
  | .local _ .vmem, ⟨2, _⟩ => ⟨S2048x256, .bf16⟩
  | .local _ .vmem, ⟨3, _⟩ => ⟨S2048x256, .bf16⟩
  | .local _ .vmem, ⟨4, _⟩ => ⟨S256x256, .bf16⟩
  | .local _ .vmem, ⟨5, _⟩ => ⟨S256x256, .bf16⟩
  | .local _ .vmem, ⟨6, _⟩ => ⟨S2048x128, .bf16⟩
  | .local _ .vmem, ⟨7, _⟩ => ⟨S2048x128, .bf16⟩
  | .local _ .vmem, ⟨8, _⟩ => ⟨S256x128, .bf16⟩
  | .local _ .vmem, ⟨9, _⟩ => ⟨S256x128, .bf16⟩
  | .local _ .vmem, ⟨10, _⟩ => ⟨S256x128, .bf16⟩
  | .local _ .vmem, ⟨11, _⟩ => ⟨S256x128, .bf16⟩
  | .local _ .vmem, ⟨12, _⟩ => ⟨S256x128, .f32⟩
  | .local _ .vmem, ⟨13, _⟩ => ⟨S256x128, .f32⟩
  | .local _ .vmem, ⟨14, _⟩ => ⟨S256x256, .f32⟩
  | .local _ .vmem, ⟨15, _⟩ => ⟨S256x256, .f32⟩
  | .local _ .vmem, ⟨16, _⟩ => ⟨S2048x256, .f32⟩
  | .local _ .vmem, ⟨17, _⟩ => ⟨S2048x256, .f32⟩
  | .local _ .vmem, ⟨18, _⟩ => ⟨S256x256, .f32⟩
  | .local _ .vmem, ⟨19, _⟩ => ⟨S256x256, .f32⟩
  | .local _ .vmem, ⟨20, _⟩ => ⟨S2048x128, .f32⟩
  | .local _ .vmem, ⟨21, _⟩ => ⟨S2048x128, .f32⟩
  | .local _ .vmem, ⟨22, _⟩ => ⟨S256x128, .f32⟩
  | .local _ .vmem, ⟨23, _⟩ => ⟨S256x128, .f32⟩
  | _, _ => ⟨S2x8x2048x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c : Ref sig .tc := ⟨.hbm, 53, rfl⟩
abbrev main_call0_v0 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c_5 : Ref sig .tc := ⟨.hbm, 58, rfl⟩
abbrev main_call1_v0 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_6 : Ref sig .tc := ⟨.hbm, 65, rfl⟩
abbrev main_call2_v0 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_7 : Ref sig .tc := ⟨.hbm, 70, rfl⟩
abbrev main_call3_v0 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c_8 : Ref sig .tc := ⟨.hbm, 77, rfl⟩
abbrev main_call4_v0 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_9 : Ref sig .tc := ⟨.hbm, 82, rfl⟩
abbrev main_call5_v0 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63_0 : Ref sig .tc := ⟨.hbm, 89, rfl⟩
abbrev main_v63_1 : Ref sig .tc := ⟨.hbm, 90, rfl⟩
abbrev main_v63_2 : Ref sig .tc := ⟨.hbm, 91, rfl⟩
abbrev main_v63_3 : Ref sig .tc := ⟨.hbm, 92, rfl⟩
abbrev main_v63_4 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨3, ![2, 8, 9], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 1 := Scalar.cmpi .slt arg2 c8_i32
  let c8_i32_0 : BitVec 32 := 8#32
  let v1 : BitVec 32 := Scalar.muli arg0 c8_i32_0
  let v2 : BitVec 32 := Scalar.addi v1 arg2
  let c16_i32 : BitVec 32 := 16#32
  let v3 : BitVec 32 := Scalar.addi c16_i32 arg0
  let v4 : BitVec 32 := Scalar.select v0 v2 v3
  let c0_i32 : BitVec 32 := 0#32
  ![v4.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg0
  let c0_i32 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg0
  let c0_i32 : BitVec 32 := 0#32
  ![v0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 1 := Scalar.cmpi .slt arg2 c8_i32
  let c8_i32_0 : BitVec 32 := 8#32
  let v1 : BitVec 32 := Scalar.muli arg0 c8_i32_0
  let v2 : BitVec 32 := Scalar.addi v1 arg2
  let c16_i32 : BitVec 32 := 16#32
  let v3 : BitVec 32 := Scalar.addi c16_i32 arg0
  let v4 : BitVec 32 := Scalar.select v0 v2 v3
  let c0_i32 : BitVec 32 := 0#32
  ![v4.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 1 := Scalar.cmpi .slt arg2 c8_i32
  let c8_i32_0 : BitVec 32 := 8#32
  let v1 : BitVec 32 := Scalar.muli arg0 c8_i32_0
  let v2 : BitVec 32 := Scalar.addi v1 arg2
  let c16_i32 : BitVec 32 := 16#32
  let v3 : BitVec 32 := Scalar.addi c16_i32 arg0
  let v4 : BitVec 32 := Scalar.select v0 v2 v3
  let c0_i32 : BitVec 32 := 0#32
  ![v4.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 1 := Scalar.cmpi .slt arg2 c8_i32
  let c8_i32_0 : BitVec 32 := 8#32
  let v1 : BitVec 32 := Scalar.muli arg0 c8_i32_0
  let v2 : BitVec 32 := Scalar.addi v1 arg2
  let c16_i32 : BitVec 32 := 16#32
  let v3 : BitVec 32 := Scalar.addi c16_i32 arg0
  let v4 : BitVec 32 := Scalar.select v0 v2 v3
  let c0_i32 : BitVec 32 := 0#32
  ![v4.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]
-- ==== KAttnIdeal.lean ====
variable {F : FTy → Type} [FloatOps F] [Named F]
def κ : String → Option EReal := fun
  | "mask" => some ⊥
  | _ => none
-- ==== RAttnIdeal.lean ====
abbrev S2x8x2048x192 : Shape := ⟨4, ![2, 8, 2048, 192]⟩
abbrev S2x8x256x192 : Shape := ⟨4, ![2, 8, 256, 192]⟩
abbrev S2x8x2048x128 : Shape := ⟨4, ![2, 8, 2048, 128]⟩
abbrev S2x8x256x128 : Shape := ⟨4, ![2, 8, 256, 128]⟩
abbrev S2x2048x1024 : Shape := ⟨3, ![2, 2048, 1024]⟩
abbrev S2x256x1024 : Shape := ⟨3, ![2, 256, 1024]⟩
abbrev S2x8x2304x192 : Shape := ⟨4, ![2, 8, 2304, 192]⟩
abbrev S2x8x2304x128 : Shape := ⟨4, ![2, 8, 2304, 128]⟩
abbrev S2x8x2048x2304 : Shape := ⟨4, ![2, 8, 2048, 2304]⟩
abbrev S_ : Shape := ⟨0, ![]⟩
abbrev S2x8x2048 : Shape := ⟨3, ![2, 8, 2048]⟩
abbrev S2x8x2048x1 : Shape := ⟨4, ![2, 8, 2048, 1]⟩
abbrev S2x2048x8x128 : Shape := ⟨4, ![2, 2048, 8, 128]⟩
abbrev S2x8x256x256 : Shape := ⟨4, ![2, 8, 256, 256]⟩
abbrev S2x8x256 : Shape := ⟨3, ![2, 8, 256]⟩
abbrev S2x8x256x1 : Shape := ⟨4, ![2, 8, 256, 1]⟩
abbrev S2x256x8x128 : Shape := ⟨4, ![2, 256, 8, 128]⟩
abbrev S2x8x128x256 : Shape := ⟨4, ![2, 8, 128, 256]⟩
abbrev S2x8x128x2304 : Shape := ⟨4, ![2, 8, 128, 2304]⟩
abbrev S2x2048x8x192 : Shape := ⟨4, ![2, 2048, 8, 192]⟩
abbrev S2x2048x8x256 : Shape := ⟨4, ![2, 2048, 8, 256]⟩
abbrev S4096x2048 : Shape := ⟨2, ![4096, 2048]⟩
abbrev S2x256x8x192 : Shape := ⟨4, ![2, 256, 8, 192]⟩
abbrev S2x256x8x256 : Shape := ⟨4, ![2, 256, 8, 256]⟩
abbrev S512x2048 : Shape := ⟨2, ![512, 2048]⟩
abbrev S4608x2048 : Shape := ⟨2, ![4608, 2048]⟩
abbrev S4096x1024 : Shape := ⟨2, ![4096, 1024]⟩
abbrev S512x1024 : Shape := ⟨2, ![512, 1024]⟩

abbrev nBuf : Space → Nat
  | .hbm => 173
  | .vmem => 0
  | .smem => 0
  | _ => 0

abbrev hbmTy0_0 (i : Nat) : BufTy := match i % 128 with
  | 0 => ⟨S2x8x2048x192, .f32⟩
  | 1 => ⟨S2x8x256x192, .f32⟩
  | 2 => ⟨S2x8x2048x192, .f32⟩
  | 3 => ⟨S2x8x256x192, .f32⟩
  | 4 => ⟨S2x8x2048x128, .f32⟩
  | 5 => ⟨S2x8x256x128, .f32⟩
  | 6 => ⟨S2x2048x1024, .f32⟩
  | 7 => ⟨S2x256x1024, .f32⟩
  | 8 => ⟨S2x8x2304x192, .f32⟩
  | 9 => ⟨S2x8x2304x128, .f32⟩
  | 10 => ⟨S2x8x2048x2304, .f32⟩
  | 11 => ⟨S_, .f32⟩
  | 12 => ⟨S2x8x2048, .f32⟩
  | 13 => ⟨S2x8x2048x1, .f32⟩
  | 14 => ⟨S2x8x2048x2304, .f32⟩
  | 15 => ⟨S2x8x2048x2304, .i1⟩
  | 16 => ⟨S2x8x2048x2304, .f32⟩
  | 17 => ⟨S_, .f32⟩
  | 18 => ⟨S2x8x2048, .f32⟩
  | 19 => ⟨S_, .f32⟩
  | 20 => ⟨S2x8x2048, .f32⟩
  | 21 => ⟨S2x8x2048, .f32⟩
  | 22 => ⟨S_, .f32⟩
  | 23 => ⟨S2x8x2048, .f32⟩
  | 24 => ⟨S2x8x2048, .i1⟩
  | 25 => ⟨S_, .f32⟩
  | 26 => ⟨S2x8x2048, .f32⟩
  | 27 => ⟨S2x8x2048, .i1⟩
  | 28 => ⟨S_, .f32⟩
  | 29 => ⟨S2x8x2048, .f32⟩
  | 30 => ⟨S_, .f32⟩
  | 31 => ⟨S2x8x2048, .f32⟩
  | 32 => ⟨S_, .f32⟩
  | 33 => ⟨S2x8x2048, .f32⟩
  | 34 => ⟨S2x8x2048, .f32⟩
  | 35 => ⟨S2x8x2048, .f32⟩
  | 36 => ⟨S2x8x2048x1, .f32⟩
  | 37 => ⟨S2x8x2048x2304, .f32⟩
  | 38 => ⟨S2x8x2048x2304, .f32⟩
  | 39 => ⟨S2x8x2048x2304, .f32⟩
  | 40 => ⟨S_, .f32⟩
  | 41 => ⟨S2x8x2048, .f32⟩
  | 42 => ⟨S2x8x2048x1, .f32⟩
  | 43 => ⟨S2x8x2048x2304, .f32⟩
  | 44 => ⟨S2x8x2048x2304, .f32⟩
  | 45 => ⟨S2x8x2048x1, .f32⟩
  | 46 => ⟨S_, .f32⟩
  | 47 => ⟨S2x8x2048x1, .f32⟩
  | 48 => ⟨S2x8x2048x1, .f32⟩
  | 49 => ⟨S2x8x2048x128, .f32⟩
  | 50 => ⟨S2x2048x8x128, .f32⟩
  | 51 => ⟨S2x2048x1024, .f32⟩
  | 52 => ⟨S2x8x256x256, .f32⟩
  | 53 => ⟨S_, .f32⟩
  | 54 => ⟨S2x8x256, .f32⟩
  | 55 => ⟨S2x8x256x1, .f32⟩
  | 56 => ⟨S2x8x256x256, .f32⟩
  | 57 => ⟨S2x8x256x256, .i1⟩
  | 58 => ⟨S2x8x256x256, .f32⟩
  | 59 => ⟨S_, .f32⟩
  | 60 => ⟨S2x8x256, .f32⟩
  | 61 => ⟨S_, .f32⟩
  | 62 => ⟨S2x8x256, .f32⟩
  | 63 => ⟨S2x8x256, .f32⟩
  | 64 => ⟨S_, .f32⟩
  | 65 => ⟨S2x8x256, .f32⟩
  | 66 => ⟨S2x8x256, .i1⟩
  | 67 => ⟨S_, .f32⟩
  | 68 => ⟨S2x8x256, .f32⟩
  | 69 => ⟨S2x8x256, .i1⟩
  | 70 => ⟨S_, .f32⟩
  | 71 => ⟨S2x8x256, .f32⟩
  | 72 => ⟨S_, .f32⟩
  | 73 => ⟨S2x8x256, .f32⟩
  | 74 => ⟨S_, .f32⟩
  | 75 => ⟨S2x8x256, .f32⟩
  | 76 => ⟨S2x8x256, .f32⟩
  | 77 => ⟨S2x8x256, .f32⟩
  | 78 => ⟨S2x8x256x1, .f32⟩
  | 79 => ⟨S2x8x256x256, .f32⟩
  | 80 => ⟨S2x8x256x256, .f32⟩
  | 81 => ⟨S2x8x256x256, .f32⟩
  | 82 => ⟨S_, .f32⟩
  | 83 => ⟨S2x8x256, .f32⟩
  | 84 => ⟨S2x8x256x1, .f32⟩
  | 85 => ⟨S2x8x256x256, .f32⟩
  | 86 => ⟨S2x8x256x256, .f32⟩
  | 87 => ⟨S2x8x256x1, .f32⟩
  | 88 => ⟨S_, .f32⟩
  | 89 => ⟨S2x8x256x1, .f32⟩
  | 90 => ⟨S2x8x256x1, .f32⟩
  | 91 => ⟨S2x8x256x128, .f32⟩
  | 92 => ⟨S2x256x8x128, .f32⟩
  | 93 => ⟨S2x256x1024, .f32⟩
  | 94 => ⟨S2x256x8x128, .f32⟩
  | 95 => ⟨S2x8x256x128, .f32⟩
  | 96 => ⟨S2x8x128x256, .f32⟩
  | 97 => ⟨S2x8x256x128, .f32⟩
  | 98 => ⟨S2x8x256x256, .f32⟩
  | 99 => ⟨S2x8x256x256, .f32⟩
  | 100 => ⟨S2x8x256x256, .f32⟩
  | 101 => ⟨S2x8x256x256, .f32⟩
  | 102 => ⟨S_, .f32⟩
  | 103 => ⟨S2x8x256, .f32⟩
  | 104 => ⟨S2x8x256x1, .f32⟩
  | 105 => ⟨S2x8x256x1, .f32⟩
  | 106 => ⟨S2x8x256x256, .f32⟩
  | 107 => ⟨S2x8x256x256, .f32⟩
  | 108 => ⟨S_, .f32⟩
  | 109 => ⟨S2x8x256, .f32⟩
  | 110 => ⟨S2x8x256x256, .f32⟩
  | 111 => ⟨S2x8x256x256, .f32⟩
  | 112 => ⟨S2x8x256x256, .f32⟩
  | 113 => ⟨S2x8x256x192, .f32⟩
  | 114 => ⟨S2x8x256x192, .f32⟩
  | 115 => ⟨S2x2048x8x128, .f32⟩
  | 116 => ⟨S2x8x2048x128, .f32⟩
  | 117 => ⟨S2x8x128x2304, .f32⟩
  | 118 => ⟨S2x8x2304x128, .f32⟩
  | 119 => ⟨S2x8x2048x2304, .f32⟩
  | 120 => ⟨S2x8x2048x2304, .f32⟩
  | 121 => ⟨S2x8x2048x2304, .f32⟩
  | 122 => ⟨S2x8x2048x2304, .f32⟩
  | 123 => ⟨S_, .f32⟩
  | 124 => ⟨S2x8x2048, .f32⟩
  | 125 => ⟨S2x8x2048x1, .f32⟩
  | 126 => ⟨S2x8x2048x1, .f32⟩
  | 127 => ⟨S2x8x2048x2304, .f32⟩
  | _ => ⟨S2x8x2048x192, .f32⟩

abbrev hbmTy0_1 (i : Nat) : BufTy := match i % 128 with
  | 0 => ⟨S2x8x2048x2304, .f32⟩
  | 1 => ⟨S_, .f32⟩
  | 2 => ⟨S2x8x2048, .f32⟩
  | 3 => ⟨S2x8x2048x2304, .f32⟩
  | 4 => ⟨S2x8x2048x2304, .f32⟩
  | 5 => ⟨S2x8x2048x2304, .f32⟩
  | 6 => ⟨S2x8x2304x192, .f32⟩
  | 7 => ⟨S2x8x2048x192, .f32⟩
  | 8 => ⟨S2x8x256x128, .f32⟩
  | 9 => ⟨S2x8x2048x128, .f32⟩
  | 10 => ⟨S2x8x256x128, .f32⟩
  | 11 => ⟨S2x8x256x192, .f32⟩
  | 12 => ⟨S2x8x2048x192, .f32⟩
  | 13 => ⟨S2x8x256x192, .f32⟩
  | 14 => ⟨S2x2048x8x192, .f32⟩
  | 15 => ⟨S_, .i32⟩
  | 16 => ⟨S_, .f32⟩
  | 17 => ⟨S2x2048x8x256, .f32⟩
  | 18 => ⟨S4096x2048, .f32⟩
  | 19 => ⟨S2x256x8x192, .f32⟩
  | 20 => ⟨S_, .i32⟩
  | 21 => ⟨S_, .f32⟩
  | 22 => ⟨S2x256x8x256, .f32⟩
  | 23 => ⟨S512x2048, .f32⟩
  | 24 => ⟨S4608x2048, .f32⟩
  | 25 => ⟨S2x2048x8x192, .f32⟩
  | 26 => ⟨S_, .i32⟩
  | 27 => ⟨S_, .f32⟩
  | 28 => ⟨S2x2048x8x256, .f32⟩
  | 29 => ⟨S4096x2048, .f32⟩
  | 30 => ⟨S2x256x8x192, .f32⟩
  | 31 => ⟨S_, .i32⟩
  | 32 => ⟨S_, .f32⟩
  | 33 => ⟨S2x256x8x256, .f32⟩
  | 34 => ⟨S512x2048, .f32⟩
  | 35 => ⟨S2x2048x8x128, .f32⟩
  | 36 => ⟨S_, .i32⟩
  | 37 => ⟨S_, .f32⟩
  | 38 => ⟨S2x2048x8x128, .f32⟩
  | 39 => ⟨S4096x1024, .f32⟩
  | 40 => ⟨S2x256x8x128, .f32⟩
  | 41 => ⟨S_, .i32⟩
  | 42 => ⟨S_, .f32⟩
  | 43 => ⟨S2x256x8x128, .f32⟩
  | 44 => ⟨S512x1024, .f32⟩
  | _ => ⟨S2x8x2048x192, .f32⟩

abbrev hbmTy (i : Nat) : BufTy := match i / 128 with
  | 0 => hbmTy0_0 i
  | 1 => hbmTy0_1 i
  | _ => ⟨S2x8x2048x192, .f32⟩

abbrev bufTy : (tb : Table) → Fin (tcTables nBuf tb) → BufTy
  | .hbm, ⟨i, _⟩ => hbmTy i
  | _, _ => ⟨S2x8x2048x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_cst_6 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_9 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_10 : Ref sig .tc := ⟨.hbm, 59, rfl⟩
abbrev main_v40 : Ref sig .tc := ⟨.hbm, 60, rfl⟩
abbrev main_cst_11 : Ref sig .tc := ⟨.hbm, 61, rfl⟩
abbrev main_v41 : Ref sig .tc := ⟨.hbm, 62, rfl⟩
abbrev main_v42 : Ref sig .tc := ⟨.hbm, 63, rfl⟩
abbrev main_cst_12 : Ref sig .tc := ⟨.hbm, 64, rfl⟩
abbrev main_v43 : Ref sig .tc := ⟨.hbm, 65, rfl⟩
abbrev main_v44 : Ref sig .tc := ⟨.hbm, 66, rfl⟩
abbrev main_cst_13 : Ref sig .tc := ⟨.hbm, 67, rfl⟩
abbrev main_v45 : Ref sig .tc := ⟨.hbm, 68, rfl⟩
abbrev main_v46 : Ref sig .tc := ⟨.hbm, 69, rfl⟩
abbrev main_cst_14 : Ref sig .tc := ⟨.hbm, 70, rfl⟩
abbrev main_v47 : Ref sig .tc := ⟨.hbm, 71, rfl⟩
abbrev main_cst_15 : Ref sig .tc := ⟨.hbm, 72, rfl⟩
abbrev main_v48 : Ref sig .tc := ⟨.hbm, 73, rfl⟩
abbrev main_cst_16 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_17 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_18 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_19 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_20 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_cst_21 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_cst_22 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_c : Ref sig .tc := ⟨.hbm, 143, rfl⟩
abbrev main_call0_v0 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_c_23 : Ref sig .tc := ⟨.hbm, 148, rfl⟩
abbrev main_call1_v0 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_c_24 : Ref sig .tc := ⟨.hbm, 154, rfl⟩
abbrev main_call2_v0 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_c_25 : Ref sig .tc := ⟨.hbm, 159, rfl⟩
abbrev main_call3_v0 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_c_26 : Ref sig .tc := ⟨.hbm, 164, rfl⟩
abbrev main_call4_v0 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_c_27 : Ref sig .tc := ⟨.hbm, 169, rfl⟩
abbrev main_call5_v0 : Ref sig .tc := ⟨.hbm, 170, rfl⟩
abbrev main_v127 : Ref sig .tc := ⟨.hbm, 171, rfl⟩
abbrev main_v128 : Ref sig .tc := ⟨.hbm, 172, rfl⟩

abbrev nD : Nat := 1
abbrev τ : Topo := Topo.v7x

variable {F : FTy → Type} [FloatOps F]
-- ==== KAtf.lean ====
abbrev S2x8x2048x192 : Shape := ⟨4, ![2, 8, 2048, 192]⟩
abbrev S2x8x256x192 : Shape := ⟨4, ![2, 8, 256, 192]⟩
abbrev S2x8x2048x128 : Shape := ⟨4, ![2, 8, 2048, 128]⟩
abbrev S2x8x256x128 : Shape := ⟨4, ![2, 8, 256, 128]⟩
abbrev S2x2048x8x192 : Shape := ⟨4, ![2, 2048, 8, 192]⟩
abbrev S_ : Shape := ⟨0, ![]⟩
abbrev S2x2048x8x256 : Shape := ⟨4, ![2, 2048, 8, 256]⟩
abbrev S4096x2048 : Shape := ⟨2, ![4096, 2048]⟩
abbrev S2x256x8x192 : Shape := ⟨4, ![2, 256, 8, 192]⟩
abbrev S2x256x8x256 : Shape := ⟨4, ![2, 256, 8, 256]⟩
abbrev S512x2048 : Shape := ⟨2, ![512, 2048]⟩
abbrev S4608x2048 : Shape := ⟨2, ![4608, 2048]⟩
abbrev S2x2048x8x128 : Shape := ⟨4, ![2, 2048, 8, 128]⟩
abbrev S4096x1024 : Shape := ⟨2, ![4096, 1024]⟩
abbrev S2x256x8x128 : Shape := ⟨4, ![2, 256, 8, 128]⟩
abbrev S512x1024 : Shape := ⟨2, ![512, 1024]⟩
abbrev S4608x1024 : Shape := ⟨2, ![4608, 1024]⟩
abbrev S256x256 : Shape := ⟨2, ![256, 256]⟩
abbrev S2048x256 : Shape := ⟨2, ![2048, 256]⟩
abbrev S2048x128 : Shape := ⟨2, ![2048, 128]⟩
abbrev S256x128 : Shape := ⟨2, ![256, 128]⟩
abbrev S256x2048 : Shape := ⟨2, ![256, 2048]⟩
abbrev S256 : Shape := ⟨1, ![256]⟩
abbrev S256x1 : Shape := ⟨2, ![256, 1]⟩

abbrev nBuf : Space → Nat
  | .hbm => 43
  | .vmem => 12
  | .smem => 0
  | _ => 0

abbrev bufTy : (tb : Table) → Fin (tcTables nBuf tb) → BufTy
  | .hbm, ⟨0, _⟩ => ⟨S2x8x2048x192, .f32⟩
  | .hbm, ⟨1, _⟩ => ⟨S2x8x256x192, .f32⟩
  | .hbm, ⟨2, _⟩ => ⟨S2x8x2048x192, .f32⟩
  | .hbm, ⟨3, _⟩ => ⟨S2x8x256x192, .f32⟩
  | .hbm, ⟨4, _⟩ => ⟨S2x8x2048x128, .f32⟩
  | .hbm, ⟨5, _⟩ => ⟨S2x8x256x128, .f32⟩
  | .hbm, ⟨6, _⟩ => ⟨S2x2048x8x192, .f32⟩
  | .hbm, ⟨7, _⟩ => ⟨S_, .i32⟩
  | .hbm, ⟨8, _⟩ => ⟨S_, .f32⟩
  | .hbm, ⟨9, _⟩ => ⟨S2x2048x8x256, .f32⟩
  | .hbm, ⟨10, _⟩ => ⟨S4096x2048, .f32⟩
  | .hbm, ⟨11, _⟩ => ⟨S2x256x8x192, .f32⟩
  | .hbm, ⟨12, _⟩ => ⟨S_, .i32⟩
  | .hbm, ⟨13, _⟩ => ⟨S_, .f32⟩
  | .hbm, ⟨14, _⟩ => ⟨S2x256x8x256, .f32⟩
  | .hbm, ⟨15, _⟩ => ⟨S512x2048, .f32⟩
  | .hbm, ⟨16, _⟩ => ⟨S4608x2048, .f32⟩
  | .hbm, ⟨17, _⟩ => ⟨S4608x2048, .bf16⟩
  | .hbm, ⟨18, _⟩ => ⟨S2x2048x8x192, .f32⟩
  | .hbm, ⟨19, _⟩ => ⟨S_, .i32⟩
  | .hbm, ⟨20, _⟩ => ⟨S_, .f32⟩
  | .hbm, ⟨21, _⟩ => ⟨S2x2048x8x256, .f32⟩
  | .hbm, ⟨22, _⟩ => ⟨S4096x2048, .f32⟩
  | .hbm, ⟨23, _⟩ => ⟨S2x256x8x192, .f32⟩
  | .hbm, ⟨24, _⟩ => ⟨S_, .i32⟩
  | .hbm, ⟨25, _⟩ => ⟨S_, .f32⟩
  | .hbm, ⟨26, _⟩ => ⟨S2x256x8x256, .f32⟩
  | .hbm, ⟨27, _⟩ => ⟨S512x2048, .f32⟩
  | .hbm, ⟨28, _⟩ => ⟨S4608x2048, .f32⟩
  | .hbm, ⟨29, _⟩ => ⟨S4608x2048, .bf16⟩
  | .hbm, ⟨30, _⟩ => ⟨S2x2048x8x128, .f32⟩
  | .hbm, ⟨31, _⟩ => ⟨S_, .i32⟩
  | .hbm, ⟨32, _⟩ => ⟨S_, .f32⟩
  | .hbm, ⟨33, _⟩ => ⟨S2x2048x8x128, .f32⟩
  | .hbm, ⟨34, _⟩ => ⟨S4096x1024, .f32⟩
  | .hbm, ⟨35, _⟩ => ⟨S2x256x8x128, .f32⟩
  | .hbm, ⟨36, _⟩ => ⟨S_, .i32⟩
  | .hbm, ⟨37, _⟩ => ⟨S_, .f32⟩
  | .hbm, ⟨38, _⟩ => ⟨S2x256x8x128, .f32⟩
  | .hbm, ⟨39, _⟩ => ⟨S512x1024, .f32⟩
  | .hbm, ⟨40, _⟩ => ⟨S4608x1024, .f32⟩
  | .hbm, ⟨41, _⟩ => ⟨S4608x1024, .bf16⟩
  | .hbm, ⟨42, _⟩ => ⟨S4608x1024, .bf16⟩
  | .local _ .vmem, ⟨0, _⟩ => ⟨S256x256, .bf16⟩
  | .local _ .vmem, ⟨1, _⟩ => ⟨S256x256, .bf16⟩
  | .local _ .vmem, ⟨2, _⟩ => ⟨S2048x256, .bf16⟩
  | .local _ .vmem, ⟨3, _⟩ => ⟨S2048x256, .bf16⟩
  | .local _ .vmem, ⟨4, _⟩ => ⟨S256x256, .bf16⟩
  | .local _ .vmem, ⟨5, _⟩ => ⟨S256x256, .bf16⟩
  | .local _ .vmem, ⟨6, _⟩ => ⟨S2048x128, .bf16⟩
  | .local _ .vmem, ⟨7, _⟩ => ⟨S2048x128, .bf16⟩
  | .local _ .vmem, ⟨8, _⟩ => ⟨S256x128, .bf16⟩
  | .local _ .vmem, ⟨9, _⟩ => ⟨S256x128, .bf16⟩
  | .local _ .vmem, ⟨10, _⟩ => ⟨S256x128, .bf16⟩
  | .local _ .vmem, ⟨11, _⟩ => ⟨S256x128, .bf16⟩
  | _, _ => ⟨S2x8x2048x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_call1_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_call2_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_call3_v0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_call4_v0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_call5_v0 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 8, 9], ![false, false, false]⟩

def k0_cond1 (i : grid0.Coords) : BitVec 1 :=
  let arg2 : BitVec 32 := BitVec.ofNat 32 (i 2).val
  let c8_i32 : BitVec 32 := 8#32
  let v0 : BitVec 1 := Scalar.cmpi .slt arg2 c8_i32
  let v1 : BitVec 32 := Scalar.extui v0
  let c0_i32 : BitVec 32 := 0#32
  let v2 : BitVec 1 := Scalar.cmpi .ne v1 c0_i32
  v2

def k0_cond2 (i : grid0.Coords) : BitVec 1 :=
  let arg2 : BitVec 32 := BitVec.ofNat 32 (i 2).val
  let c8_i32_0 : BitVec 32 := 8#32
  let v3 : BitVec 1 := Scalar.cmpi .eq arg2 c8_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 1 := Scalar.cmpi .slt arg2 c8_i32
  let c8_i32_0 : BitVec 32 := 8#32
  let v1 : BitVec 32 := Scalar.muli arg0 c8_i32_0
  let v2 : BitVec 32 := Scalar.addi v1 arg2
  let c16_i32 : BitVec 32 := 16#32
  let v3 : BitVec 32 := Scalar.addi c16_i32 arg0
  let v4 : BitVec 32 := Scalar.select v0 v2 v3
  let c0_i32 : BitVec 32 := 0#32
  ![v4.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg0
  let c0_i32 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg0
  let c0_i32 : BitVec 32 := 0#32
  ![v0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 1 := Scalar.cmpi .slt arg2 c8_i32
  let c8_i32_0 : BitVec 32 := 8#32
  let v1 : BitVec 32 := Scalar.muli arg0 c8_i32_0
  let v2 : BitVec 32 := Scalar.addi v1 arg2
  let c16_i32 : BitVec 32 := 16#32
  let v3 : BitVec 32 := Scalar.addi c16_i32 arg0
  let v4 : BitVec 32 := Scalar.select v0 v2 v3
  let c0_i32 : BitVec 32 := 0#32
  ![v4.toNat, arg1.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== RAtfIdeal.lean ====
abbrev S2x8x2048x192 : Shape := ⟨4, ![2, 8, 2048, 192]⟩
abbrev S2x8x256x192 : Shape := ⟨4, ![2, 8, 256, 192]⟩
abbrev S2x8x2048x128 : Shape := ⟨4, ![2, 8, 2048, 128]⟩
abbrev S2x8x256x128 : Shape := ⟨4, ![2, 8, 256, 128]⟩
abbrev S2x8x2304x192 : Shape := ⟨4, ![2, 8, 2304, 192]⟩
abbrev S2x8x2304x128 : Shape := ⟨4, ![2, 8, 2304, 128]⟩
abbrev S2x8x2048x2304 : Shape := ⟨4, ![2, 8, 2048, 2304]⟩
abbrev S_ : Shape := ⟨0, ![]⟩
abbrev S2x8x2048 : Shape := ⟨3, ![2, 8, 2048]⟩
abbrev S2x8x2048x1 : Shape := ⟨4, ![2, 8, 2048, 1]⟩
abbrev S2x2048x8x128 : Shape := ⟨4, ![2, 2048, 8, 128]⟩
abbrev S2x2048x1024 : Shape := ⟨3, ![2, 2048, 1024]⟩
abbrev S2x8x256x256 : Shape := ⟨4, ![2, 8, 256, 256]⟩
abbrev S2x8x256 : Shape := ⟨3, ![2, 8, 256]⟩
abbrev S2x8x256x1 : Shape := ⟨4, ![2, 8, 256, 1]⟩
abbrev S2x256x8x128 : Shape := ⟨4, ![2, 256, 8, 128]⟩
abbrev S2x256x1024 : Shape := ⟨3, ![2, 256, 1024]⟩
abbrev S4096x1024 : Shape := ⟨2, ![4096, 1024]⟩
abbrev S512x1024 : Shape := ⟨2, ![512, 1024]⟩
abbrev S4608x1024 : Shape := ⟨2, ![4608, 1024]⟩

abbrev nBuf : Space → Nat
  | .hbm => 48
  | .vmem => 0
  | .smem => 0
  | _ => 0

abbrev bufTy : (tb : Table) → Fin (tcTables nBuf tb) → BufTy
  | .hbm, ⟨0, _⟩ => ⟨S2x8x2048x192, .f32⟩
  | .hbm, ⟨1, _⟩ => ⟨S2x8x256x192, .f32⟩
  | .hbm, ⟨2, _⟩ => ⟨S2x8x2048x192, .f32⟩
  | .hbm, ⟨3, _⟩ => ⟨S2x8x256x192, .f32⟩
  | .hbm, ⟨4, _⟩ => ⟨S2x8x2048x128, .f32⟩
  | .hbm, ⟨5, _⟩ => ⟨S2x8x256x128, .f32⟩
  | .hbm, ⟨6, _⟩ => ⟨S2x8x2304x192, .f32⟩
  | .hbm, ⟨7, _⟩ => ⟨S2x8x2304x128, .f32⟩
  | .hbm, ⟨8, _⟩ => ⟨S2x8x2048x2304, .f32⟩
  | .hbm, ⟨9, _⟩ => ⟨S_, .f32⟩
  | .hbm, ⟨10, _⟩ => ⟨S2x8x2048, .f32⟩
  | .hbm, ⟨11, _⟩ => ⟨S_, .f32⟩
  | .hbm, ⟨12, _⟩ => ⟨S2x8x2048, .f32⟩
  | .hbm, ⟨13, _⟩ => ⟨S2x8x2048, .f32⟩
  | .hbm, ⟨14, _⟩ => ⟨S2x8x2048x1, .f32⟩
  | .hbm, ⟨15, _⟩ => ⟨S2x8x2048x2304, .f32⟩
  | .hbm, ⟨16, _⟩ => ⟨S2x8x2048x2304, .f32⟩
  | .hbm, ⟨17, _⟩ => ⟨S2x8x2048x2304, .f32⟩
  | .hbm, ⟨18, _⟩ => ⟨S_, .f32⟩
  | .hbm, ⟨19, _⟩ => ⟨S2x8x2048, .f32⟩
  | .hbm, ⟨20, _⟩ => ⟨S2x8x2048x1, .f32⟩
  | .hbm, ⟨21, _⟩ => ⟨S2x8x2048x2304, .f32⟩
  | .hbm, ⟨22, _⟩ => ⟨S2x8x2048x2304, .f32⟩
  | .hbm, ⟨23, _⟩ => ⟨S2x8x2048x128, .f32⟩
  | .hbm, ⟨24, _⟩ => ⟨S2x2048x8x128, .f32⟩
  | .hbm, ⟨25, _⟩ => ⟨S2x2048x1024, .f32⟩
  | .hbm, ⟨26, _⟩ => ⟨S2x8x256x256, .f32⟩
  | .hbm, ⟨27, _⟩ => ⟨S_, .f32⟩
  | .hbm, ⟨28, _⟩ => ⟨S2x8x256, .f32⟩
  | .hbm, ⟨29, _⟩ => ⟨S_, .f32⟩
  | .hbm, ⟨30, _⟩ => ⟨S2x8x256, .f32⟩
  | .hbm, ⟨31, _⟩ => ⟨S2x8x256, .f32⟩
  | .hbm, ⟨32, _⟩ => ⟨S2x8x256x1, .f32⟩
  | .hbm, ⟨33, _⟩ => ⟨S2x8x256x256, .f32⟩
  | .hbm, ⟨34, _⟩ => ⟨S2x8x256x256, .f32⟩
  | .hbm, ⟨35, _⟩ => ⟨S2x8x256x256, .f32⟩
  | .hbm, ⟨36, _⟩ => ⟨S_, .f32⟩
  | .hbm, ⟨37, _⟩ => ⟨S2x8x256, .f32⟩
  | .hbm, ⟨38, _⟩ => ⟨S2x8x256x1, .f32⟩
  | .hbm, ⟨39, _⟩ => ⟨S2x8x256x256, .f32⟩
  | .hbm, ⟨40, _⟩ => ⟨S2x8x256x256, .f32⟩
  | .hbm, ⟨41, _⟩ => ⟨S2x8x256x128, .f32⟩
  | .hbm, ⟨42, _⟩ => ⟨S2x256x8x128, .f32⟩
  | .hbm, ⟨43, _⟩ => ⟨S2x256x1024, .f32⟩
  | .hbm, ⟨44, _⟩ => ⟨S4096x1024, .f32⟩
  | .hbm, ⟨45, _⟩ => ⟨S512x1024, .f32⟩
  | .hbm, ⟨46, _⟩ => ⟨S4608x1024, .f32⟩
  | .hbm, ⟨47, _⟩ => ⟨S4608x1024, .bf16⟩
  | _, _ => ⟨S2x8x2048x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== KOut.lean ====
abbrev S2x2048x1024 : Shape := ⟨3, ![2, 2048, 1024]⟩
abbrev S2x256x1024 : Shape := ⟨3, ![2, 256, 1024]⟩
abbrev S2x9x1024 : Shape := ⟨3, ![2, 9, 1024]⟩
abbrev S1x9x1024 : Shape := ⟨3, ![1, 9, 1024]⟩
abbrev S1024x1024 : Shape := ⟨2, ![1024, 1024]⟩
abbrev S4096x1024 : Shape := ⟨2, ![4096, 1024]⟩
abbrev S512x1024 : Shape := ⟨2, ![512, 1024]⟩
abbrev S4608x1024 : Shape := ⟨2, ![4608, 1024]⟩
abbrev S1x1024x1024 : Shape := ⟨3, ![1, 1024, 1024]⟩
abbrev S3x9x1024 : Shape := ⟨3, ![3, 9, 1024]⟩
abbrev S1x1x1024 : Shape := ⟨3, ![1, 1, 1024]⟩
abbrev S1x1024 : Shape := ⟨2, ![1, 1024]⟩

abbrev nBuf : Space → Nat
  | .hbm => 19
  | .vmem => 11
  | .smem => 0
  | _ => 0

abbrev bufTy : (tb : Table) → Fin (tcTables nBuf tb) → BufTy
  | .hbm, ⟨0, _⟩ => ⟨S2x2048x1024, .f32⟩
  | .hbm, ⟨1, _⟩ => ⟨S2x256x1024, .f32⟩
  | .hbm, ⟨2, _⟩ => ⟨S2x2048x1024, .f32⟩
  | .hbm, ⟨3, _⟩ => ⟨S2x256x1024, .f32⟩
  | .hbm, ⟨4, _⟩ => ⟨S2x9x1024, .f32⟩
  | .hbm, ⟨5, _⟩ => ⟨S1x9x1024, .f32⟩
  | .hbm, ⟨6, _⟩ => ⟨S1024x1024, .f32⟩
  | .hbm, ⟨7, _⟩ => ⟨S4096x1024, .f32⟩
  | .hbm, ⟨8, _⟩ => ⟨S512x1024, .f32⟩
  | .hbm, ⟨9, _⟩ => ⟨S4608x1024, .f32⟩
  | .hbm, ⟨10, _⟩ => ⟨S4096x1024, .f32⟩
  | .hbm, ⟨11, _⟩ => ⟨S512x1024, .f32⟩
  | .hbm, ⟨12, _⟩ => ⟨S4608x1024, .f32⟩
  | .hbm, ⟨13, _⟩ => ⟨S4608x1024, .bf16⟩
  | .hbm, ⟨14, _⟩ => ⟨S1x1024x1024, .f32⟩
  | .hbm, ⟨15, _⟩ => ⟨S1x1024x1024, .bf16⟩
  | .hbm, ⟨16, _⟩ => ⟨S3x9x1024, .f32⟩
  | .hbm, ⟨17, _⟩ => ⟨S4608x1024, .f32⟩
  | .hbm, ⟨18, _⟩ => ⟨S4608x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x9x1024, .f32⟩
  | .local _ .vmem, ⟨6, _⟩ => ⟨S1x9x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x9x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ROutIdeal.lean ====
abbrev S2x2048x1024 : Shape := ⟨3, ![2, 2048, 1024]⟩
abbrev S2x256x1024 : Shape := ⟨3, ![2, 256, 1024]⟩
abbrev S2x9x1024 : Shape := ⟨3, ![2, 9, 1024]⟩
abbrev S1x9x1024 : Shape := ⟨3, ![1, 9, 1024]⟩
abbrev S1024x1024 : Shape := ⟨2, ![1024, 1024]⟩
abbrev S2x1x1024 : Shape := ⟨3, ![2, 1, 1024]⟩
abbrev S1x1x1024 : Shape := ⟨3, ![1, 1, 1024]⟩
abbrev S4096x1024 : Shape := ⟨2, ![4096, 1024]⟩
abbrev S512x1024 : Shape := ⟨2, ![512, 1024]⟩
abbrev S4608x1024 : Shape := ⟨2, ![4608, 1024]⟩

abbrev nBuf : Space → Nat
  | .hbm => 24
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x256x1024, .f32⟩
  | .hbm, ⟨2, _⟩ => ⟨S2x2048x1024, .f32⟩
  | .hbm, ⟨3, _⟩ => ⟨S2x256x1024, .f32⟩
  | .hbm, ⟨4, _⟩ => ⟨S2x9x1024, .f32⟩
  | .hbm, ⟨5, _⟩ => ⟨S1x9x1024, .f32⟩
  | .hbm, ⟨6, _⟩ => ⟨S1024x1024, .f32⟩
  | .hbm, ⟨7, _⟩ => ⟨S2x2048x1024, .f32⟩
  | .hbm, ⟨8, _⟩ => ⟨S2x1x1024, .f32⟩
  | .hbm, ⟨9, _⟩ => ⟨S2x2048x1024, .f32⟩
  | .hbm, ⟨10, _⟩ => ⟨S2x2048x1024, .f32⟩
  | .hbm, ⟨11, _⟩ => ⟨S2x2048x1024, .f32⟩
  | .hbm, ⟨12, _⟩ => ⟨S2x256x1024, .f32⟩
  | .hbm, ⟨13, _⟩ => ⟨S1x1x1024, .f32⟩
  | .hbm, ⟨14, _⟩ => ⟨S2x256x1024, .f32⟩
  | .hbm, ⟨15, _⟩ => ⟨S2x256x1024, .f32⟩
  | .hbm, ⟨16, _⟩ => ⟨S2x256x1024, .f32⟩
  | .hbm, ⟨17, _⟩ => ⟨S4096x1024, .f32⟩
  | .hbm, ⟨18, _⟩ => ⟨S512x1024, .f32⟩
  | .hbm, ⟨19, _⟩ => ⟨S4608x1024, .f32⟩
  | .hbm, ⟨20, _⟩ => ⟨S4096x1024, .f32⟩
  | .hbm, ⟨21, _⟩ => ⟨S512x1024, .f32⟩
  | .hbm, ⟨22, _⟩ => ⟨S4608x1024, .f32⟩
  | .hbm, ⟨23, _⟩ => ⟨S4608x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== KOub.lean ====
abbrev S2x2048x1024 : Shape := ⟨3, ![2, 2048, 1024]⟩
abbrev S2x256x1024 : Shape := ⟨3, ![2, 256, 1024]⟩
abbrev S2x9x1024 : Shape := ⟨3, ![2, 9, 1024]⟩
abbrev S1x9x1024 : Shape := ⟨3, ![1, 9, 1024]⟩
abbrev S1024x1024 : Shape := ⟨2, ![1024, 1024]⟩
abbrev S4096x1024 : Shape := ⟨2, ![4096, 1024]⟩
abbrev S512x1024 : Shape := ⟨2, ![512, 1024]⟩
abbrev S4608x1024 : Shape := ⟨2, ![4608, 1024]⟩
abbrev S1x1024x1024 : Shape := ⟨3, ![1, 1024, 1024]⟩
abbrev S3x9x1024 : Shape := ⟨3, ![3, 9, 1024]⟩
abbrev S9x8x1024 : Shape := ⟨3, ![9, 8, 1024]⟩
abbrev S1x8x1024 : Shape := ⟨3, ![1, 8, 1024]⟩
abbrev S1x1x1024 : Shape := ⟨3, ![1, 1, 1024]⟩
abbrev S1x1024 : Shape := ⟨2, ![1, 1024]⟩
abbrev S1024 : Shape := ⟨1, ![1024]⟩
abbrev S4x1024 : Shape := ⟨2, ![4, 1024]⟩
abbrev S1x4x1024 : Shape := ⟨3, ![1, 4, 1024]⟩

abbrev nBuf : Space → Nat
  | .hbm => 21
  | .vmem => 13
  | .smem => 0
  | _ => 0

abbrev bufTy : (tb : Table) → Fin (tcTables nBuf tb) → BufTy
  | .hbm, ⟨0, _⟩ => ⟨S2x2048x1024, .f32⟩
  | .hbm, ⟨1, _⟩ => ⟨S2x256x1024, .f32⟩
  | .hbm, ⟨2, _⟩ => ⟨S2x2048x1024, .f32⟩
  | .hbm, ⟨3, _⟩ => ⟨S2x256x1024, .f32⟩
  | .hbm, ⟨4, _⟩ => ⟨S2x9x1024, .f32⟩
  | .hbm, ⟨5, _⟩ => ⟨S1x9x1024, .f32⟩
  | .hbm, ⟨6, _⟩ => ⟨S1024x1024, .f32⟩
  | .hbm, ⟨7, _⟩ => ⟨S4096x1024, .f32⟩
  | .hbm, ⟨8, _⟩ => ⟨S512x1024, .f32⟩
  | .hbm, ⟨9, _⟩ => ⟨S4608x1024, .f32⟩
  | .hbm, ⟨10, _⟩ => ⟨S4096x1024, .f32⟩
  | .hbm, ⟨11, _⟩ => ⟨S512x1024, .f32⟩
  | .hbm, ⟨12, _⟩ => ⟨S4608x1024, .f32⟩
  | .hbm, ⟨13, _⟩ => ⟨S4608x1024, .f32⟩
  | .hbm, ⟨14, _⟩ => ⟨S4608x1024, .bf16⟩
  | .hbm, ⟨15, _⟩ => ⟨S1x1024x1024, .f32⟩
  | .hbm, ⟨16, _⟩ => ⟨S1x1024x1024, .bf16⟩
  | .hbm, ⟨17, _⟩ => ⟨S3x9x1024, .f32⟩
  | .hbm, ⟨18, _⟩ => ⟨S4608x1024, .bf16⟩
  | .hbm, ⟨19, _⟩ => ⟨S4608x1024, .f32⟩
  | .hbm, ⟨20, _⟩ => ⟨S9x8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024x1024, .bf16⟩
  | .local _ .vmem, ⟨5, _⟩ => ⟨S1x9x1024, .f32⟩
  | .local _ .vmem, ⟨6, _⟩ => ⟨S1x9x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | .local _ .vmem, ⟨11, _⟩ => ⟨S1x8x1024, .f32⟩
  | .local _ .vmem, ⟨12, _⟩ => ⟨S1x8x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x9x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ROubIdeal.lean ====
abbrev S2x2048x1024 : Shape := ⟨3, ![2, 2048, 1024]⟩
abbrev S2x256x1024 : Shape := ⟨3, ![2, 256, 1024]⟩
abbrev S2x9x1024 : Shape := ⟨3, ![2, 9, 1024]⟩
abbrev S1x9x1024 : Shape := ⟨3, ![1, 9, 1024]⟩
abbrev S1024x1024 : Shape := ⟨2, ![1024, 1024]⟩
abbrev S8x512x1024 : Shape := ⟨3, ![8, 512, 1024]⟩
abbrev S1x512x1024 : Shape := ⟨3, ![1, 512, 1024]⟩
abbrev S9x512x1024 : Shape := ⟨3, ![9, 512, 1024]⟩
abbrev S2x1x1024 : Shape := ⟨3, ![2, 1, 1024]⟩
abbrev S2x4x1x1024 : Shape := ⟨4, ![2, 4, 1, 1024]⟩
abbrev S8x1x1024 : Shape := ⟨3, ![8, 1, 1024]⟩
abbrev S1x1x1024 : Shape := ⟨3, ![1, 1, 1024]⟩
abbrev S9x1x1024 : Shape := ⟨3, ![9, 1, 1024]⟩
abbrev S_ : Shape := ⟨0, ![]⟩
abbrev S9x1024 : Shape := ⟨2, ![9, 1024]⟩
abbrev S9x2x1024 : Shape := ⟨3, ![9, 2, 1024]⟩
abbrev S9x5x1024 : Shape := ⟨3, ![9, 5, 1024]⟩
abbrev S9x8x1024 : Shape := ⟨3, ![9, 8, 1024]⟩
abbrev S4608x1024 : Shape := ⟨2, ![4608, 1024]⟩

abbrev nBuf : Space → Nat
  | .hbm => 38
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x256x1024, .f32⟩
  | .hbm, ⟨2, _⟩ => ⟨S2x2048x1024, .f32⟩
  | .hbm, ⟨3, _⟩ => ⟨S2x256x1024, .f32⟩
  | .hbm, ⟨4, _⟩ => ⟨S2x9x1024, .f32⟩
  | .hbm, ⟨5, _⟩ => ⟨S1x9x1024, .f32⟩
  | .hbm, ⟨6, _⟩ => ⟨S1024x1024, .f32⟩
  | .hbm, ⟨7, _⟩ => ⟨S8x512x1024, .f32⟩
  | .hbm, ⟨8, _⟩ => ⟨S1x512x1024, .f32⟩
  | .hbm, ⟨9, _⟩ => ⟨S9x512x1024, .f32⟩
  | .hbm, ⟨10, _⟩ => ⟨S8x512x1024, .f32⟩
  | .hbm, ⟨11, _⟩ => ⟨S1x512x1024, .f32⟩
  | .hbm, ⟨12, _⟩ => ⟨S9x512x1024, .f32⟩
  | .hbm, ⟨13, _⟩ => ⟨S2x1x1024, .f32⟩
  | .hbm, ⟨14, _⟩ => ⟨S2x4x1x1024, .f32⟩
  | .hbm, ⟨15, _⟩ => ⟨S8x1x1024, .f32⟩
  | .hbm, ⟨16, _⟩ => ⟨S1x1x1024, .f32⟩
  | .hbm, ⟨17, _⟩ => ⟨S9x1x1024, .f32⟩
  | .hbm, ⟨18, _⟩ => ⟨S9x512x1024, .f32⟩
  | .hbm, ⟨19, _⟩ => ⟨S9x512x1024, .f32⟩
  | .hbm, ⟨20, _⟩ => ⟨S9x512x1024, .f32⟩
  | .hbm, ⟨21, _⟩ => ⟨S9x512x1024, .f32⟩
  | .hbm, ⟨22, _⟩ => ⟨S9x512x1024, .f32⟩
  | .hbm, ⟨23, _⟩ => ⟨S9x512x1024, .f32⟩
  | .hbm, ⟨24, _⟩ => ⟨S_, .f32⟩
  | .hbm, ⟨25, _⟩ => ⟨S9x1024, .f32⟩
  | .hbm, ⟨26, _⟩ => ⟨S9x1x1024, .f32⟩
  | .hbm, ⟨27, _⟩ => ⟨S9x512x1024, .f32⟩
  | .hbm, ⟨28, _⟩ => ⟨S_, .f32⟩
  | .hbm, ⟨29, _⟩ => ⟨S9x2x1024, .f32⟩
  | .hbm, ⟨30, _⟩ => ⟨S_, .f32⟩
  | .hbm, ⟨31, _⟩ => ⟨S9x5x1024, .f32⟩
  | .hbm, ⟨32, _⟩ => ⟨S9x8x1024, .f32⟩
  | .hbm, ⟨33, _⟩ => ⟨S9x512x1024, .f32⟩
  | .hbm, ⟨34, _⟩ => ⟨S9x512x1024, .f32⟩
  | .hbm, ⟨35, _⟩ => ⟨S4608x1024, .f32⟩
  | .hbm, ⟨36, _⟩ => ⟨S4608x1024, .bf16⟩
  | .hbm, ⟨37, _⟩ => ⟨S4608x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_0 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== KGwo.lean ====
abbrev S4608x1024 : Shape := ⟨2, ![4608, 1024]⟩
abbrev S1x1024x1024 : Shape := ⟨3, ![1, 1024, 1024]⟩
abbrev S1536x1024 : Shape := ⟨2, ![1536, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4608x1024, .f32⟩
  | .hbm, ⟨1, _⟩ => ⟨S4608x1024, .f32⟩
  | .hbm, ⟨2, _⟩ => ⟨S4608x1024, .bf16⟩
  | .hbm, ⟨3, _⟩ => ⟨S4608x1024, .bf16⟩
  | .hbm, ⟨4, _⟩ => ⟨S1x1024x1024, .bf16⟩
  | .local _ .vmem, ⟨0, _⟩ => ⟨S1536x1024, .bf16⟩
  | .local _ .vmem, ⟨1, _⟩ => ⟨S1536x1024, .bf16⟩
  | .local _ .vmem, ⟨2, _⟩ => ⟨S1536x1024, .bf16⟩
  | .local _ .vmem, ⟨3, _⟩ => ⟨S1536x1024, .bf16⟩
  | .local _ .vmem, ⟨4, _⟩ => ⟨S1x1024x1024, .bf16⟩
  | .local _ .vmem, ⟨5, _⟩ => ⟨S1024x1024, .f32⟩
  | _, _ => ⟨S4608x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 3], ![false, false]⟩

def k0_cond2 (i : grid0.Coords) : BitVec 1 :=
  let arg1 : BitVec 32 := BitVec.ofNat 32 (i 1).val
  let c2_i32 : BitVec 32 := 2#32
  let v13 : BitVec 1 := Scalar.cmpi .eq arg1 c2_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== RGwoIdeal.lean ====
abbrev S4608x1024 : Shape := ⟨2, ![4608, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4608x1024, .f32⟩
  | .hbm, ⟨1, _⟩ => ⟨S4608x1024, .f32⟩
  | .hbm, ⟨2, _⟩ => ⟨S_, .f32⟩
  | .hbm, ⟨3, _⟩ => ⟨S1024x1024, .f32⟩
  | .hbm, ⟨4, _⟩ => ⟨S4608x1024, .f32⟩
  | .hbm, ⟨5, _⟩ => ⟨S1024x1024, .f32⟩
  | .hbm, ⟨6, _⟩ => ⟨S1024x1024, .f32⟩
  | .hbm, ⟨7, _⟩ => ⟨S1x1024x1024, .f32⟩
  | .hbm, ⟨8, _⟩ => ⟨S1x1024x1024, .bf16⟩
  | _, _ => ⟨S4608x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KSci.lean ====
abbrev S2x2048x1024 : Shape := ⟨3, ![2, 2048, 1024]⟩
abbrev S2x256x1024 : Shape := ⟨3, ![2, 256, 1024]⟩
abbrev S2x9x1024 : Shape := ⟨3, ![2, 9, 1024]⟩
abbrev S1x9x1024 : Shape := ⟨3, ![1, 9, 1024]⟩
abbrev S1024 : Shape := ⟨1, ![1024]⟩
abbrev S1024x3072 : Shape := ⟨2, ![1024, 3072]⟩
abbrev S4096x1024 : Shape := ⟨2, ![4096, 1024]⟩
abbrev S512x1024 : Shape := ⟨2, ![512, 1024]⟩
abbrev S4608x1024 : Shape := ⟨2, ![4608, 1024]⟩
abbrev S1024x4x768 : Shape := ⟨3, ![1024, 4, 768]⟩
abbrev S4x1024x768 : Shape := ⟨3, ![4, 1024, 768]⟩
abbrev S4x1x1024x768 : Shape := ⟨4, ![4, 1, 1024, 768]⟩
abbrev S3x9x1024 : Shape := ⟨3, ![3, 9, 1024]⟩
abbrev S1x1024 : Shape := ⟨2, ![1, 1024]⟩
abbrev S3x4608x1024 : Shape := ⟨3, ![3, 4608, 1024]⟩
abbrev S1x1x1024x256 : Shape := ⟨4, ![1, 1, 1024, 256]⟩
abbrev S3x512x256 : Shape := ⟨3, ![3, 512, 256]⟩
abbrev S1x1x1024 : Shape := ⟨3, ![1, 1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S1x512x256 : Shape := ⟨3, ![1, 512, 256]⟩

abbrev nBuf : Space → Nat
  | .hbm => 17
  | .vmem => 16
  | .smem => 0
  | _ => 0

abbrev bufTy : (tb : Table) → Fin (tcTables nBuf tb) → BufTy
  | .hbm, ⟨0, _⟩ => ⟨S2x2048x1024, .f32⟩
  | .hbm, ⟨1, _⟩ => ⟨S2x256x1024, .f32⟩
  | .hbm, ⟨2, _⟩ => ⟨S2x9x1024, .f32⟩
  | .hbm, ⟨3, _⟩ => ⟨S1x9x1024, .f32⟩
  | .hbm, ⟨4, _⟩ => ⟨S1024, .f32⟩
  | .hbm, ⟨5, _⟩ => ⟨S1024x3072, .f32⟩
  | .hbm, ⟨6, _⟩ => ⟨S4096x1024, .f32⟩
  | .hbm, ⟨7, _⟩ => ⟨S512x1024, .f32⟩
  | .hbm, ⟨8, _⟩ => ⟨S4608x1024, .f32⟩
  | .hbm, ⟨9, _⟩ => ⟨S1024x4x768, .f32⟩
  | .hbm, ⟨10, _⟩ => ⟨S4x1024x768, .f32⟩
  | .hbm, ⟨11, _⟩ => ⟨S4x1x1024x768, .f32⟩
  | .hbm, ⟨12, _⟩ => ⟨S4x1x1024x768, .bf16⟩
  | .hbm, ⟨13, _⟩ => ⟨S3x9x1024, .f32⟩
  | .hbm, ⟨14, _⟩ => ⟨S1x1024, .f32⟩
  | .hbm, ⟨15, _⟩ => ⟨S3x4608x1024, .f32⟩
  | .hbm, ⟨16, _⟩ => ⟨S4608x1024, .bf16⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1x1x1024x256, .bf16⟩
  | .local _ .vmem, ⟨6, _⟩ => ⟨S1x1x1024x256, .bf16⟩
  | .local _ .vmem, ⟨7, _⟩ => ⟨S1x1x1024x256, .bf16⟩
  | .local _ .vmem, ⟨8, _⟩ => ⟨S1x1x1024x256, .bf16⟩
  | .local _ .vmem, ⟨9, _⟩ => ⟨S1x1x1024x256, .bf16⟩
  | .local _ .vmem, ⟨10, _⟩ => ⟨S1x1x1024x256, .bf16⟩
  | .local _ .vmem, ⟨11, _⟩ => ⟨S3x512x256, .f32⟩
  | .local _ .vmem, ⟨12, _⟩ => ⟨S3x512x256, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![9, 4], ![false, false]⟩

def k0_cond2 (i : grid0.Coords) : BitVec 1 :=
  let arg1 : BitVec 32 := BitVec.ofNat 32 (i 1).val
  let c3_i32 : BitVec 32 := 3#32
  let v24 : BitVec 1 := Scalar.cmpi .eq arg1 c3_i32
  let v25 : BitVec 32 := Scalar.extui v24
  let c0_i32_27 : BitVec 32 := 0#32
  let v26 : BitVec 1 := Scalar.cmpi .ne v25 c0_i32_27
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c3_i32 : BitVec 32 := 3#32
  let v1 : BitVec 32 := Scalar.divsi v0 c3_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c3_i32 c0_i32_2
  let v8 : BitVec 32 := Scalar.extui v7
  let c0_i32_3 : BitVec 32 := 0#32
  let v9 : BitVec 1 := Scalar.cmpi .slt c3_i32 c0_i32_3
  let v10 : BitVec 32 := Scalar.extui v9
  let v11 : BitVec 32 := Scalar.subi v8 v10
  let v12 : BitVec 1 := Scalar.cmpi .ne v6 v11
  let v13 : BitVec 32 := Scalar.remsi v0 c3_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let v18 : BitVec 32 := Scalar.addi c0_i32_5 arg1
  let c3_i32_6 : BitVec 32 := 3#32
  let c0_i32_7 : BitVec 32 := 0#32
  let v19 : BitVec 1 := Scalar.cmpi .eq c3_i32_6 c0_i32_7
  let c1_i32_8 : BitVec 32 := 1#32
  let v20 : BitVec 32 := Scalar.select v19 c1_i32_8 c3_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  let c0_i32_14 : BitVec 32 := 0#32
  ![v17.toNat, c0_i32_12.toNat, c0_i32_13.toNat, v28.toNat]

def cc0_transform_4 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c3_i32 : BitVec 32 := 3#32
  let v1 : BitVec 32 := Scalar.divsi v0 c3_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c3_i32 c0_i32_1
  let v8 : BitVec 32 := Scalar.extui v7
  let c0_i32_2 : BitVec 32 := 0#32
  let v9 : BitVec 1 := Scalar.cmpi .slt c3_i32 c0_i32_2
  let v10 : BitVec 32 := Scalar.extui v9
  let v11 : BitVec 32 := Scalar.subi v8 v10
  let v12 : BitVec 1 := Scalar.cmpi .ne v6 v11
  let v13 : BitVec 32 := Scalar.remsi v0 c3_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let v18 : BitVec 32 := Scalar.addi c4_i32_4 arg1
  let c3_i32_5 : BitVec 32 := 3#32
  let c0_i32_6 : BitVec 32 := 0#32
  let v19 : BitVec 1 := Scalar.cmpi .eq c3_i32_5 c0_i32_6
  let c1_i32_7 : BitVec 32 := 1#32
  let v20 : BitVec 32 := Scalar.select v19 c1_i32_7 c3_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  let c0_i32_13 : BitVec 32 := 0#32
  ![v17.toNat, c0_i32_11.toNat, c0_i32_12.toNat, v28.toNat]

def cc0_transform_5 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c3_i32 : BitVec 32 := 3#32
  let v1 : BitVec 32 := Scalar.divsi v0 c3_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c3_i32 c0_i32_1
  let v8 : BitVec 32 := Scalar.extui v7
  let c0_i32_2 : BitVec 32 := 0#32
  let v9 : BitVec 1 := Scalar.cmpi .slt c3_i32 c0_i32_2
  let v10 : BitVec 32 := Scalar.extui v9
  let v11 : BitVec 32 := Scalar.subi v8 v10
  let v12 : BitVec 1 := Scalar.cmpi .ne v6 v11
  let v13 : BitVec 32 := Scalar.remsi v0 c3_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let v18 : BitVec 32 := Scalar.addi c8_i32_4 arg1
  let c3_i32_5 : BitVec 32 := 3#32
  let c0_i32_6 : BitVec 32 := 0#32
  let v19 : BitVec 1 := Scalar.cmpi .eq c3_i32_5 c0_i32_6
  let c1_i32_7 : BitVec 32 := 1#32
  let v20 : BitVec 32 := Scalar.select v19 c1_i32_7 c3_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  let c0_i32_13 : BitVec 32 := 0#32
  ![v17.toNat, c0_i32_11.toNat, c0_i32_12.toNat, v28.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S3x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== RSciIdeal.lean ====
abbrev S2x2048x1024 : Shape := ⟨3, ![2, 2048, 1024]⟩
abbrev S2x256x1024 : Shape := ⟨3, ![2, 256, 1024]⟩
abbrev S2x9x1024 : Shape := ⟨3, ![2, 9, 1024]⟩
abbrev S1x9x1024 : Shape := ⟨3, ![1, 9, 1024]⟩
abbrev S1024 : Shape := ⟨1, ![1024]⟩
abbrev S1024x3072 : Shape := ⟨2, ![1024, 3072]⟩
abbrev S2x1x1024 : Shape := ⟨3, ![2, 1, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x3072 : Shape := ⟨3, ![2, 2048, 3072]⟩
abbrev S2x256 : Shape := ⟨2, ![2, 256]⟩
abbrev S2x256x1 : Shape := ⟨3, ![2, 256, 1]⟩
abbrev S2x256x3072 : Shape := ⟨3, ![2, 256, 3072]⟩
abbrev S4096x1024 : Shape := ⟨2, ![4096, 1024]⟩
abbrev S512x1024 : Shape := ⟨2, ![512, 1024]⟩
abbrev S4608x1024 : Shape := ⟨2, ![4608, 1024]⟩
abbrev S1x4608x1024 : Shape := ⟨3, ![1, 4608, 1024]⟩
abbrev S3x4608x1024 : Shape := ⟨3, ![3, 4608, 1024]⟩

abbrev nBuf : Space → Nat
  | .hbm => 81
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x256x1024, .f32⟩
  | .hbm, ⟨2, _⟩ => ⟨S2x9x1024, .f32⟩
  | .hbm, ⟨3, _⟩ => ⟨S1x9x1024, .f32⟩
  | .hbm, ⟨4, _⟩ => ⟨S1024, .f32⟩
  | .hbm, ⟨5, _⟩ => ⟨S1024x3072, .f32⟩
  | .hbm, ⟨6, _⟩ => ⟨S2x1x1024, .f32⟩
  | .hbm, ⟨7, _⟩ => ⟨S2x1x1024, .f32⟩
  | .hbm, ⟨8, _⟩ => ⟨S2x2048x1024, .f32⟩
  | .hbm, ⟨9, _⟩ => ⟨S_, .f32⟩
  | .hbm, ⟨10, _⟩ => ⟨S2x2048, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S2x2048x1, .f32⟩
  | .hbm, ⟨19, _⟩ => ⟨S2x2048x1024, .f32⟩
  | .hbm, ⟨20, _⟩ => ⟨S2x2048x1024, .f32⟩
  | .hbm, ⟨21, _⟩ => ⟨S1x1x1024, .f32⟩
  | .hbm, ⟨22, _⟩ => ⟨S2x2048x1024, .f32⟩
  | .hbm, ⟨23, _⟩ => ⟨S2x2048x1024, .f32⟩
  | .hbm, ⟨24, _⟩ => ⟨S_, .f32⟩
  | .hbm, ⟨25, _⟩ => ⟨S2x1x1024, .f32⟩
  | .hbm, ⟨26, _⟩ => ⟨S2x1x1024, .f32⟩
  | .hbm, ⟨27, _⟩ => ⟨S2x2048x1024, .f32⟩
  | .hbm, ⟨28, _⟩ => ⟨S2x2048x1024, .f32⟩
  | .hbm, ⟨29, _⟩ => ⟨S2x2048x1024, .f32⟩
  | .hbm, ⟨30, _⟩ => ⟨S2x2048x1024, .f32⟩
  | .hbm, ⟨31, _⟩ => ⟨S2x2048x3072, .f32⟩
  | .hbm, ⟨32, _⟩ => ⟨S2x2048x1024, .f32⟩
  | .hbm, ⟨33, _⟩ => ⟨S2x2048x1024, .f32⟩
  | .hbm, ⟨34, _⟩ => ⟨S2x2048x1024, .f32⟩
  | .hbm, ⟨35, _⟩ => ⟨S1x1x1024, .f32⟩
  | .hbm, ⟨36, _⟩ => ⟨S1x1x1024, .f32⟩
  | .hbm, ⟨37, _⟩ => ⟨S2x256x1024, .f32⟩
  | .hbm, ⟨38, _⟩ => ⟨S_, .f32⟩
  | .hbm, ⟨39, _⟩ => ⟨S2x256, .f32⟩
  | .hbm, ⟨40, _⟩ => ⟨S2x256x1, .f32⟩
  | .hbm, ⟨41, _⟩ => ⟨S_, .f32⟩
  | .hbm, ⟨42, _⟩ => ⟨S2x256x1, .f32⟩
  | .hbm, ⟨43, _⟩ => ⟨S2x256x1, .f32⟩
  | .hbm, ⟨44, _⟩ => ⟨S_, .f32⟩
  | .hbm, ⟨45, _⟩ => ⟨S2x256x1, .f32⟩
  | .hbm, ⟨46, _⟩ => ⟨S2x256x1, .f32⟩
  | .hbm, ⟨47, _⟩ => ⟨S2x256x1, .f32⟩
  | .hbm, ⟨48, _⟩ => ⟨S2x256x1024, .f32⟩
  | .hbm, ⟨49, _⟩ => ⟨S2x256x1024, .f32⟩
  | .hbm, ⟨50, _⟩ => ⟨S1x1x1024, .f32⟩
  | .hbm, ⟨51, _⟩ => ⟨S2x256x1024, .f32⟩
  | .hbm, ⟨52, _⟩ => ⟨S2x256x1024, .f32⟩
  | .hbm, ⟨53, _⟩ => ⟨S_, .f32⟩
  | .hbm, ⟨54, _⟩ => ⟨S1x1x1024, .f32⟩
  | .hbm, ⟨55, _⟩ => ⟨S1x1x1024, .f32⟩
  | .hbm, ⟨56, _⟩ => ⟨S2x256x1024, .f32⟩
  | .hbm, ⟨57, _⟩ => ⟨S2x256x1024, .f32⟩
  | .hbm, ⟨58, _⟩ => ⟨S2x256x1024, .f32⟩
  | .hbm, ⟨59, _⟩ => ⟨S2x256x1024, .f32⟩
  | .hbm, ⟨60, _⟩ => ⟨S2x256x3072, .f32⟩
  | .hbm, ⟨61, _⟩ => ⟨S2x256x1024, .f32⟩
  | .hbm, ⟨62, _⟩ => ⟨S2x256x1024, .f32⟩
  | .hbm, ⟨63, _⟩ => ⟨S2x256x1024, .f32⟩
  | .hbm, ⟨64, _⟩ => ⟨S4096x1024, .f32⟩
  | .hbm, ⟨65, _⟩ => ⟨S512x1024, .f32⟩
  | .hbm, ⟨66, _⟩ => ⟨S4608x1024, .f32⟩
  | .hbm, ⟨67, _⟩ => ⟨S4096x1024, .f32⟩
  | .hbm, ⟨68, _⟩ => ⟨S512x1024, .f32⟩
  | .hbm, ⟨69, _⟩ => ⟨S4608x1024, .f32⟩
  | .hbm, ⟨70, _⟩ => ⟨S4096x1024, .f32⟩
  | .hbm, ⟨71, _⟩ => ⟨S512x1024, .f32⟩
  | .hbm, ⟨72, _⟩ => ⟨S4608x1024, .f32⟩
  | .hbm, ⟨73, _⟩ => ⟨S4096x1024, .f32⟩
  | .hbm, ⟨74, _⟩ => ⟨S512x1024, .f32⟩
  | .hbm, ⟨75, _⟩ => ⟨S4608x1024, .f32⟩
  | .hbm, ⟨76, _⟩ => ⟨S1x4608x1024, .f32⟩
  | .hbm, ⟨77, _⟩ => ⟨S1x4608x1024, .f32⟩
  | .hbm, ⟨78, _⟩ => ⟨S1x4608x1024, .f32⟩
  | .hbm, ⟨79, _⟩ => ⟨S3x4608x1024, .f32⟩
  | .hbm, ⟨80, _⟩ => ⟨S4608x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩

abbrev nD : Nat := 1
abbrev τ : Topo := Topo.v7x

variable {F : FTy → Type} [FloatOps F]
-- ==== KGwi.lean ====
abbrev S4608x1024 : Shape := ⟨2, ![4608, 1024]⟩
abbrev S4608x3072 : Shape := ⟨2, ![4608, 3072]⟩
abbrev S1x4608x1024 : Shape := ⟨3, ![1, 4608, 1024]⟩
abbrev S3x4608x1024 : Shape := ⟨3, ![3, 4608, 1024]⟩
abbrev S3x4x1024x256 : Shape := ⟨4, ![3, 4, 1024, 256]⟩
abbrev S1536x1024 : Shape := ⟨2, ![1536, 1024]⟩
abbrev S3x1536x256 : Shape := ⟨3, ![3, 1536, 256]⟩
abbrev S3x1x1024x256 : Shape := ⟨4, ![3, 1, 1024, 256]⟩
abbrev S3x1024x256 : Shape := ⟨3, ![3, 1024, 256]⟩
abbrev S1x1024x256 : Shape := ⟨3, ![1, 1024, 256]⟩
abbrev S1024x256 : Shape := ⟨2, ![1024, 256]⟩
abbrev S1x1536x256 : Shape := ⟨3, ![1, 1536, 256]⟩
abbrev S1536x256 : Shape := ⟨2, ![1536, 256]⟩

abbrev nBuf : Space → Nat
  | .hbm => 11
  | .vmem => 7
  | .smem => 0
  | _ => 0

abbrev bufTy : (tb : Table) → Fin (tcTables nBuf tb) → BufTy
  | .hbm, ⟨0, _⟩ => ⟨S4608x1024, .f32⟩
  | .hbm, ⟨1, _⟩ => ⟨S4608x3072, .f32⟩
  | .hbm, ⟨2, _⟩ => ⟨S4608x1024, .f32⟩
  | .hbm, ⟨3, _⟩ => ⟨S4608x1024, .f32⟩
  | .hbm, ⟨4, _⟩ => ⟨S4608x1024, .f32⟩
  | .hbm, ⟨5, _⟩ => ⟨S1x4608x1024, .f32⟩
  | .hbm, ⟨6, _⟩ => ⟨S1x4608x1024, .f32⟩
  | .hbm, ⟨7, _⟩ => ⟨S1x4608x1024, .f32⟩
  | .hbm, ⟨8, _⟩ => ⟨S3x4608x1024, .f32⟩
  | .hbm, ⟨9, _⟩ => ⟨S4608x1024, .bf16⟩
  | .hbm, ⟨10, _⟩ => ⟨S3x4x1024x256, .bf16⟩
  | .local _ .vmem, ⟨0, _⟩ => ⟨S1536x1024, .bf16⟩
  | .local _ .vmem, ⟨1, _⟩ => ⟨S1536x1024, .bf16⟩
  | .local _ .vmem, ⟨2, _⟩ => ⟨S3x1536x256, .f32⟩
  | .local _ .vmem, ⟨3, _⟩ => ⟨S3x1536x256, .f32⟩
  | .local _ .vmem, ⟨4, _⟩ => ⟨S3x1x1024x256, .bf16⟩
  | .local _ .vmem, ⟨5, _⟩ => ⟨S3x1x1024x256, .bf16⟩
  | .local _ .vmem, ⟨6, _⟩ => ⟨S3x1024x256, .f32⟩
  | _, _ => ⟨S4608x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 3], ![false, false]⟩

def k0_cond2 (i : grid0.Coords) : BitVec 1 :=
  let arg1 : BitVec 32 := BitVec.ofNat 32 (i 1).val
  let c2_i32 : BitVec 32 := 2#32
  let v35 : BitVec 1 := Scalar.cmpi .eq arg1 c2_i32
  let v36 : BitVec 32 := Scalar.extui v35
  let c0_i32_29 : BitVec 32 := 0#32
  let v37 : BitVec 1 := Scalar.cmpi .ne v36 c0_i32_29
  v37

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S3x1536x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== RGwiIdeal.lean ====
abbrev S4608x1024 : Shape := ⟨2, ![4608, 1024]⟩
abbrev S4608x3072 : Shape := ⟨2, ![4608, 3072]⟩
abbrev S_ : Shape := ⟨0, ![]⟩
abbrev S1024x3072 : Shape := ⟨2, ![1024, 3072]⟩
abbrev S3072x1024 : Shape := ⟨2, ![3072, 1024]⟩
abbrev S1024x3x4x256 : Shape := ⟨4, ![1024, 3, 4, 256]⟩
abbrev S3x4x1024x256 : Shape := ⟨4, ![3, 4, 1024, 256]⟩

abbrev nBuf : Space → Nat
  | .hbm => 10
  | .vmem => 0
  | .smem => 0
  | _ => 0

abbrev bufTy : (tb : Table) → Fin (tcTables nBuf tb) → BufTy
  | .hbm, ⟨0, _⟩ => ⟨S4608x1024, .f32⟩
  | .hbm, ⟨1, _⟩ => ⟨S4608x3072, .f32⟩
  | .hbm, ⟨2, _⟩ => ⟨S_, .f32⟩
  | .hbm, ⟨3, _⟩ => ⟨S1024x3072, .f32⟩
  | .hbm, ⟨4, _⟩ => ⟨S4608x3072, .f32⟩
  | .hbm, ⟨5, _⟩ => ⟨S3072x1024, .f32⟩
  | .hbm, ⟨6, _⟩ => ⟨S1024x3072, .f32⟩
  | .hbm, ⟨7, _⟩ => ⟨S1024x3x4x256, .f32⟩
  | .hbm, ⟨8, _⟩ => ⟨S3x4x1024x256, .f32⟩
  | .hbm, ⟨9, _⟩ => ⟨S3x4x1024x256, .bf16⟩
  | _, _ => ⟨S4608x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KScb.lean ====
abbrev S2x2048x1024 : Shape := ⟨3, ![2, 2048, 1024]⟩
abbrev S2x256x1024 : Shape := ⟨3, ![2, 256, 1024]⟩
abbrev S2x2048x3072 : Shape := ⟨3, ![2, 2048, 3072]⟩
abbrev S2x256x3072 : Shape := ⟨3, ![2, 256, 3072]⟩
abbrev S2x9x1024 : Shape := ⟨3, ![2, 9, 1024]⟩
abbrev S1x9x1024 : Shape := ⟨3, ![1, 9, 1024]⟩
abbrev S1024 : Shape := ⟨1, ![1024]⟩
abbrev S1024x3072 : Shape := ⟨2, ![1024, 3072]⟩
abbrev S4096x1024 : Shape := ⟨2, ![4096, 1024]⟩
abbrev S512x1024 : Shape := ⟨2, ![512, 1024]⟩
abbrev S4608x1024 : Shape := ⟨2, ![4608, 1024]⟩
abbrev S4096x3072 : Shape := ⟨2, ![4096, 3072]⟩
abbrev S512x3072 : Shape := ⟨2, ![512, 3072]⟩
abbrev S4608x3072 : Shape := ⟨2, ![4608, 3072]⟩
abbrev S1x4608x1024 : Shape := ⟨3, ![1, 4608, 1024]⟩
abbrev S3x4608x1024 : Shape := ⟨3, ![3, 4608, 1024]⟩
abbrev S1024x4x768 : Shape := ⟨3, ![1024, 4, 768]⟩
abbrev S4x1024x768 : Shape := ⟨3, ![4, 1024, 768]⟩
abbrev S4x1x1024x768 : Shape := ⟨4, ![4, 1, 1024, 768]⟩
abbrev S3x9x1024 : Shape := ⟨3, ![3, 9, 1024]⟩
abbrev S1x1024 : Shape := ⟨2, ![1, 1024]⟩
abbrev S9x8x1024 : Shape := ⟨3, ![9, 8, 1024]⟩
abbrev S3x512x256 : Shape := ⟨3, ![3, 512, 256]⟩
abbrev S1x1x1024x256 : Shape := ⟨4, ![1, 1, 1024, 256]⟩
abbrev S1x8x1024 : Shape := ⟨3, ![1, 8, 1024]⟩
abbrev S1x512x256 : Shape := ⟨3, ![1, 512, 256]⟩
abbrev S512x256 : Shape := ⟨2, ![512, 256]⟩
abbrev S1024x256 : Shape := ⟨2, ![1024, 256]⟩
abbrev S1x1x1024 : Shape := ⟨3, ![1, 1, 1024]⟩
abbrev S512 : Shape := ⟨1, ![512]⟩
abbrev S512x1 : Shape := ⟨2, ![512, 1]⟩
abbrev S4x1024 : Shape := ⟨2, ![4, 1024]⟩
abbrev S1x4x1024 : Shape := ⟨3, ![1, 4, 1024]⟩

abbrev nBuf : Space → Nat
  | .hbm => 34
  | .vmem => 20
  | .smem => 0
  | _ => 0

abbrev bufTy : (tb : Table) → Fin (tcTables nBuf tb) → BufTy
  | .hbm, ⟨0, _⟩ => ⟨S2x2048x1024, .f32⟩
  | .hbm, ⟨1, _⟩ => ⟨S2x256x1024, .f32⟩
  | .hbm, ⟨2, _⟩ => ⟨S2x2048x3072, .f32⟩
  | .hbm, ⟨3, _⟩ => ⟨S2x256x3072, .f32⟩
  | .hbm, ⟨4, _⟩ => ⟨S2x2048x1024, .f32⟩
  | .hbm, ⟨5, _⟩ => ⟨S2x256x1024, .f32⟩
  | .hbm, ⟨6, _⟩ => ⟨S2x9x1024, .f32⟩
  | .hbm, ⟨7, _⟩ => ⟨S1x9x1024, .f32⟩
  | .hbm, ⟨8, _⟩ => ⟨S1024, .f32⟩
  | .hbm, ⟨9, _⟩ => ⟨S1024x3072, .f32⟩
  | .hbm, ⟨10, _⟩ => ⟨S4096x1024, .f32⟩
  | .hbm, ⟨11, _⟩ => ⟨S512x1024, .f32⟩
  | .hbm, ⟨12, _⟩ => ⟨S4608x1024, .f32⟩
  | .hbm, ⟨13, _⟩ => ⟨S4096x1024, .f32⟩
  | .hbm, ⟨14, _⟩ => ⟨S512x1024, .f32⟩
  | .hbm, ⟨15, _⟩ => ⟨S4608x1024, .f32⟩
  | .hbm, ⟨16, _⟩ => ⟨S4096x3072, .f32⟩
  | .hbm, ⟨17, _⟩ => ⟨S512x3072, .f32⟩
  | .hbm, ⟨18, _⟩ => ⟨S4608x3072, .f32⟩
  | .hbm, ⟨19, _⟩ => ⟨S4608x1024, .f32⟩
  | .hbm, ⟨20, _⟩ => ⟨S4608x1024, .f32⟩
  | .hbm, ⟨21, _⟩ => ⟨S4608x1024, .f32⟩
  | .hbm, ⟨22, _⟩ => ⟨S1x4608x1024, .f32⟩
  | .hbm, ⟨23, _⟩ => ⟨S1x4608x1024, .f32⟩
  | .hbm, ⟨24, _⟩ => ⟨S1x4608x1024, .f32⟩
  | .hbm, ⟨25, _⟩ => ⟨S3x4608x1024, .f32⟩
  | .hbm, ⟨26, _⟩ => ⟨S1024x4x768, .f32⟩
  | .hbm, ⟨27, _⟩ => ⟨S4x1024x768, .f32⟩
  | .hbm, ⟨28, _⟩ => ⟨S4x1x1024x768, .f32⟩
  | .hbm, ⟨29, _⟩ => ⟨S4x1x1024x768, .bf16⟩
  | .hbm, ⟨30, _⟩ => ⟨S3x9x1024, .f32⟩
  | .hbm, ⟨31, _⟩ => ⟨S1x1024, .f32⟩
  | .hbm, ⟨32, _⟩ => ⟨S4608x1024, .f32⟩
  | .hbm, ⟨33, _⟩ => ⟨S9x8x1024, .f32⟩
  | .local _ .vmem, ⟨0, _⟩ => ⟨S512x1024, .f32⟩
  | .local _ .vmem, ⟨1, _⟩ => ⟨S512x1024, .f32⟩
  | .local _ .vmem, ⟨2, _⟩ => ⟨S3x512x256, .f32⟩
  | .local _ .vmem, ⟨3, _⟩ => ⟨S3x512x256, .f32⟩
  | .local _ .vmem, ⟨4, _⟩ => ⟨S512x1024, .f32⟩
  | .local _ .vmem, ⟨5, _⟩ => ⟨S512x1024, .f32⟩
  | .local _ .vmem, ⟨6, _⟩ => ⟨S1x9x1024, .f32⟩
  | .local _ .vmem, ⟨7, _⟩ => ⟨S1x9x1024, .f32⟩
  | .local _ .vmem, ⟨8, _⟩ => ⟨S1x1024, .f32⟩
  | .local _ .vmem, ⟨9, _⟩ => ⟨S1x1x1024x256, .bf16⟩
  | .local _ .vmem, ⟨10, _⟩ => ⟨S1x1x1024x256, .bf16⟩
  | .local _ .vmem, ⟨11, _⟩ => ⟨S1x1x1024x256, .bf16⟩
  | .local _ .vmem, ⟨12, _⟩ => ⟨S1x1x1024x256, .bf16⟩
  | .local _ .vmem, ⟨13, _⟩ => ⟨S1x1x1024x256, .bf16⟩
  | .local _ .vmem, ⟨14, _⟩ => ⟨S1x1x1024x256, .bf16⟩
  | .local _ .vmem, ⟨15, _⟩ => ⟨S512x1024, .f32⟩
  | .local _ .vmem, ⟨16, _⟩ => ⟨S512x1024, .f32⟩
  | .local _ .vmem, ⟨17, _⟩ => ⟨S1x8x1024, .f32⟩
  | .local _ .vmem, ⟨18, _⟩ => ⟨S1x8x1024, .f32⟩
  | .local _ .vmem, ⟨19, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22_0 : Ref sig .tc := ⟨.hbm, 32, rfl⟩
abbrev main_v22_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![9, 4], ![false, false]⟩

def k0_cond2 (i : grid0.Coords) : BitVec 1 :=
  let arg1 : BitVec 32 := BitVec.ofNat 32 (i 1).val
  let c3_i32 : BitVec 32 := 3#32
  let v30 : BitVec 1 := Scalar.cmpi .eq arg1 c3_i32
  let v31 : BitVec 32 := Scalar.extui v30
  let c0_i32_26 : BitVec 32 := 0#32
  let v32 : BitVec 1 := Scalar.cmpi .ne v31 c0_i32_26
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c3_i32 : BitVec 32 := 3#32
  let v1 : BitVec 32 := Scalar.divsi v0 c3_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c3_i32 c0_i32_2
  let v8 : BitVec 32 := Scalar.extui v7
  let c0_i32_3 : BitVec 32 := 0#32
  let v9 : BitVec 1 := Scalar.cmpi .slt c3_i32 c0_i32_3
  let v10 : BitVec 32 := Scalar.extui v9
  let v11 : BitVec 32 := Scalar.subi v8 v10
  let v12 : BitVec 1 := Scalar.cmpi .ne v6 v11
  let v13 : BitVec 32 := Scalar.remsi v0 c3_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let v18 : BitVec 32 := Scalar.addi c0_i32_5 arg1
  let c3_i32_6 : BitVec 32 := 3#32
  let c0_i32_7 : BitVec 32 := 0#32
  let v19 : BitVec 1 := Scalar.cmpi .eq c3_i32_6 c0_i32_7
  let c1_i32_8 : BitVec 32 := 1#32
  let v20 : BitVec 32 := Scalar.select v19 c1_i32_8 c3_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  let c0_i32_14 : BitVec 32 := 0#32
  ![v17.toNat, c0_i32_12.toNat, c0_i32_13.toNat, v28.toNat]

def cc0_transform_6 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c3_i32 : BitVec 32 := 3#32
  let v1 : BitVec 32 := Scalar.divsi v0 c3_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c3_i32 c0_i32_1
  let v8 : BitVec 32 := Scalar.extui v7
  let c0_i32_2 : BitVec 32 := 0#32
  let v9 : BitVec 1 := Scalar.cmpi .slt c3_i32 c0_i32_2
  let v10 : BitVec 32 := Scalar.extui v9
  let v11 : BitVec 32 := Scalar.subi v8 v10
  let v12 : BitVec 1 := Scalar.cmpi .ne v6 v11
  let v13 : BitVec 32 := Scalar.remsi v0 c3_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let v18 : BitVec 32 := Scalar.addi c4_i32_4 arg1
  let c3_i32_5 : BitVec 32 := 3#32
  let c0_i32_6 : BitVec 32 := 0#32
  let v19 : BitVec 1 := Scalar.cmpi .eq c3_i32_5 c0_i32_6
  let c1_i32_7 : BitVec 32 := 1#32
  let v20 : BitVec 32 := Scalar.select v19 c1_i32_7 c3_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  let c0_i32_13 : BitVec 32 := 0#32
  ![v17.toNat, c0_i32_11.toNat, c0_i32_12.toNat, v28.toNat]

def cc0_transform_7 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c3_i32 : BitVec 32 := 3#32
  let v1 : BitVec 32 := Scalar.divsi v0 c3_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c3_i32 c0_i32_1
  let v8 : BitVec 32 := Scalar.extui v7
  let c0_i32_2 : BitVec 32 := 0#32
  let v9 : BitVec 1 := Scalar.cmpi .slt c3_i32 c0_i32_2
  let v10 : BitVec 32 := Scalar.extui v9
  let v11 : BitVec 32 := Scalar.subi v8 v10
  let v12 : BitVec 1 := Scalar.cmpi .ne v6 v11
  let v13 : BitVec 32 := Scalar.remsi v0 c3_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let v18 : BitVec 32 := Scalar.addi c8_i32_4 arg1
  let c3_i32_5 : BitVec 32 := 3#32
  let c0_i32_6 : BitVec 32 := 0#32
  let v19 : BitVec 1 := Scalar.cmpi .eq c3_i32_5 c0_i32_6
  let c1_i32_7 : BitVec 32 := 1#32
  let v20 : BitVec 32 := Scalar.select v19 c1_i32_7 c3_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  let c0_i32_13 : BitVec 32 := 0#32
  ![v17.toNat, c0_i32_11.toNat, c0_i32_12.toNat, v28.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x9x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== RScbIdeal.lean ====
abbrev S2x2048x1024 : Shape := ⟨3, ![2, 2048, 1024]⟩
abbrev S2x256x1024 : Shape := ⟨3, ![2, 256, 1024]⟩
abbrev S2x2048x3072 : Shape := ⟨3, ![2, 2048, 3072]⟩
abbrev S2x256x3072 : Shape := ⟨3, ![2, 256, 3072]⟩
abbrev S2x9x1024 : Shape := ⟨3, ![2, 9, 1024]⟩
abbrev S1x9x1024 : Shape := ⟨3, ![1, 9, 1024]⟩
abbrev S1024 : Shape := ⟨1, ![1024]⟩
abbrev S1024x3072 : Shape := ⟨2, ![1024, 3072]⟩
abbrev S8x512x1024 : Shape := ⟨3, ![8, 512, 1024]⟩
abbrev S1x512x1024 : Shape := ⟨3, ![1, 512, 1024]⟩
abbrev S9x512x1024 : Shape := ⟨3, ![9, 512, 1024]⟩
abbrev S8x512x3072 : Shape := ⟨3, ![8, 512, 3072]⟩
abbrev S1x512x3072 : Shape := ⟨3, ![1, 512, 3072]⟩
abbrev S9x512x3072 : Shape := ⟨3, ![9, 512, 3072]⟩
abbrev S9x1x1024 : Shape := ⟨3, ![9, 1, 1024]⟩
abbrev S2x1x1024 : Shape := ⟨3, ![2, 1, 1024]⟩
abbrev S2x4x1x1024 : Shape := ⟨4, ![2, 4, 1, 1024]⟩
abbrev S8x1x1024 : Shape := ⟨3, ![8, 1, 1024]⟩
abbrev S1x1x1024 : Shape := ⟨3, ![1, 1, 1024]⟩
abbrev S_ : Shape := ⟨0, ![]⟩
abbrev S9x512 : Shape := ⟨2, ![9, 512]⟩
abbrev S9x512x1 : Shape := ⟨3, ![9, 512, 1]⟩
abbrev S9x1024 : Shape := ⟨2, ![9, 1024]⟩
abbrev S9x4x1024 : Shape := ⟨3, ![9, 4, 1024]⟩
abbrev S9x8x1024 : Shape := ⟨3, ![9, 8, 1024]⟩
abbrev S4608x1024 : Shape := ⟨2, ![4608, 1024]⟩

abbrev nBuf : Space → Nat
  | .hbm => 97
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x256x1024, .f32⟩
  | .hbm, ⟨2, _⟩ => ⟨S2x2048x3072, .f32⟩
  | .hbm, ⟨3, _⟩ => ⟨S2x256x3072, .f32⟩
  | .hbm, ⟨4, _⟩ => ⟨S2x2048x1024, .f32⟩
  | .hbm, ⟨5, _⟩ => ⟨S2x256x1024, .f32⟩
  | .hbm, ⟨6, _⟩ => ⟨S2x9x1024, .f32⟩
  | .hbm, ⟨7, _⟩ => ⟨S1x9x1024, .f32⟩
  | .hbm, ⟨8, _⟩ => ⟨S1024, .f32⟩
  | .hbm, ⟨9, _⟩ => ⟨S1024x3072, .f32⟩
  | .hbm, ⟨10, _⟩ => ⟨S8x512x1024, .f32⟩
  | .hbm, ⟨11, _⟩ => ⟨S1x512x1024, .f32⟩
  | .hbm, ⟨12, _⟩ => ⟨S9x512x1024, .f32⟩
  | .hbm, ⟨13, _⟩ => ⟨S8x512x1024, .f32⟩
  | .hbm, ⟨14, _⟩ => ⟨S1x512x1024, .f32⟩
  | .hbm, ⟨15, _⟩ => ⟨S9x512x1024, .f32⟩
  | .hbm, ⟨16, _⟩ => ⟨S8x512x3072, .f32⟩
  | .hbm, ⟨17, _⟩ => ⟨S1x512x3072, .f32⟩
  | .hbm, ⟨18, _⟩ => ⟨S9x512x3072, .f32⟩
  | .hbm, ⟨19, _⟩ => ⟨S9x1x1024, .f32⟩
  | .hbm, ⟨20, _⟩ => ⟨S2x1x1024, .f32⟩
  | .hbm, ⟨21, _⟩ => ⟨S2x4x1x1024, .f32⟩
  | .hbm, ⟨22, _⟩ => ⟨S8x1x1024, .f32⟩
  | .hbm, ⟨23, _⟩ => ⟨S1x1x1024, .f32⟩
  | .hbm, ⟨24, _⟩ => ⟨S9x1x1024, .f32⟩
  | .hbm, ⟨25, _⟩ => ⟨S2x1x1024, .f32⟩
  | .hbm, ⟨26, _⟩ => ⟨S2x4x1x1024, .f32⟩
  | .hbm, ⟨27, _⟩ => ⟨S8x1x1024, .f32⟩
  | .hbm, ⟨28, _⟩ => ⟨S1x1x1024, .f32⟩
  | .hbm, ⟨29, _⟩ => ⟨S9x1x1024, .f32⟩
  | .hbm, ⟨30, _⟩ => ⟨S9x512x1024, .f32⟩
  | .hbm, ⟨31, _⟩ => ⟨S_, .f32⟩
  | .hbm, ⟨32, _⟩ => ⟨S9x512, .f32⟩
  | .hbm, ⟨33, _⟩ => ⟨S9x512x1, .f32⟩
  | .hbm, ⟨34, _⟩ => ⟨S_, .f32⟩
  | .hbm, ⟨35, _⟩ => ⟨S9x512x1, .f32⟩
  | .hbm, ⟨36, _⟩ => ⟨S9x512x1, .f32⟩
  | .hbm, ⟨37, _⟩ => ⟨S_, .f32⟩
  | .hbm, ⟨38, _⟩ => ⟨S9x512x1, .f32⟩
  | .hbm, ⟨39, _⟩ => ⟨S9x512x1, .f32⟩
  | .hbm, ⟨40, _⟩ => ⟨S9x512x1, .f32⟩
  | .hbm, ⟨41, _⟩ => ⟨S9x512x1, .f32⟩
  | .hbm, ⟨42, _⟩ => ⟨S_, .f32⟩
  | .hbm, ⟨43, _⟩ => ⟨S9x512x1, .f32⟩
  | .hbm, ⟨44, _⟩ => ⟨S9x512x1, .f32⟩
  | .hbm, ⟨45, _⟩ => ⟨S9x512x1024, .f32⟩
  | .hbm, ⟨46, _⟩ => ⟨S9x512x1024, .f32⟩
  | .hbm, ⟨47, _⟩ => ⟨S9x512x1024, .f32⟩
  | .hbm, ⟨48, _⟩ => ⟨S9x512x1024, .f32⟩
  | .hbm, ⟨49, _⟩ => ⟨S_, .f32⟩
  | .hbm, ⟨50, _⟩ => ⟨S9x1x1024, .f32⟩
  | .hbm, ⟨51, _⟩ => ⟨S9x1x1024, .f32⟩
  | .hbm, ⟨52, _⟩ => ⟨S9x512x1024, .f32⟩
  | .hbm, ⟨53, _⟩ => ⟨S9x512x1024, .f32⟩
  | .hbm, ⟨54, _⟩ => ⟨S9x512x1024, .f32⟩
  | .hbm, ⟨55, _⟩ => ⟨S9x512x1024, .f32⟩
  | .hbm, ⟨56, _⟩ => ⟨S9x512x3072, .f32⟩
  | .hbm, ⟨57, _⟩ => ⟨S9x512x1024, .f32⟩
  | .hbm, ⟨58, _⟩ => ⟨S_, .f32⟩
  | .hbm, ⟨59, _⟩ => ⟨S9x1024, .f32⟩
  | .hbm, ⟨60, _⟩ => ⟨S9x1x1024, .f32⟩
  | .hbm, ⟨61, _⟩ => ⟨S9x512x1024, .f32⟩
  | .hbm, ⟨62, _⟩ => ⟨S_, .f32⟩
  | .hbm, ⟨63, _⟩ => ⟨S9x1024, .f32⟩
  | .hbm, ⟨64, _⟩ => ⟨S9x1x1024, .f32⟩
  | .hbm, ⟨65, _⟩ => ⟨S9x512x1024, .f32⟩
  | .hbm, ⟨66, _⟩ => ⟨S9x512x1024, .f32⟩
  | .hbm, ⟨67, _⟩ => ⟨S9x512x1024, .f32⟩
  | .hbm, ⟨68, _⟩ => ⟨S_, .f32⟩
  | .hbm, ⟨69, _⟩ => ⟨S9x1024, .f32⟩
  | .hbm, ⟨70, _⟩ => ⟨S9x1x1024, .f32⟩
  | .hbm, ⟨71, _⟩ => ⟨S9x512x1024, .f32⟩
  | .hbm, ⟨72, _⟩ => ⟨S9x512x1024, .f32⟩
  | .hbm, ⟨73, _⟩ => ⟨S9x512x1024, .f32⟩
  | .hbm, ⟨74, _⟩ => ⟨S_, .f32⟩
  | .hbm, ⟨75, _⟩ => ⟨S9x512, .f32⟩
  | .hbm, ⟨76, _⟩ => ⟨S9x512x1, .f32⟩
  | .hbm, ⟨77, _⟩ => ⟨S9x512x1024, .f32⟩
  | .hbm, ⟨78, _⟩ => ⟨S9x512x1024, .f32⟩
  | .hbm, ⟨79, _⟩ => ⟨S9x512x1024, .f32⟩
  | .hbm, ⟨80, _⟩ => ⟨S9x512x1, .f32⟩
  | .hbm, ⟨81, _⟩ => ⟨S_, .f32⟩
  | .hbm, ⟨82, _⟩ => ⟨S9x512x1, .f32⟩
  | .hbm, ⟨83, _⟩ => ⟨S9x512x1, .f32⟩
  | .hbm, ⟨84, _⟩ => ⟨S_, .f32⟩
  | .hbm, ⟨85, _⟩ => ⟨S9x512, .f32⟩
  | .hbm, ⟨86, _⟩ => ⟨S9x512x1024, .f32⟩
  | .hbm, ⟨87, _⟩ => ⟨S9x512x1024, .f32⟩
  | .hbm, ⟨88, _⟩ => ⟨S9x512x1024, .f32⟩
  | .hbm, ⟨89, _⟩ => ⟨S9x512x1024, .f32⟩
  | .hbm, ⟨90, _⟩ => ⟨S9x512x1024, .f32⟩
  | .hbm, ⟨91, _⟩ => ⟨S_, .f32⟩
  | .hbm, ⟨92, _⟩ => ⟨S9x1x1024, .f32⟩
  | .hbm, ⟨93, _⟩ => ⟨S_, .f32⟩
  | .hbm, ⟨94, _⟩ => ⟨S9x4x1024, .f32⟩
  | .hbm, ⟨95, _⟩ => ⟨S9x8x1024, .f32⟩
  | .hbm, ⟨96, _⟩ => ⟨S4608x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst : Ref sig .tc := ⟨.hbm, 31, rfl⟩
abbrev main_v21 : Ref sig .tc := ⟨.hbm, 32, rfl⟩
abbrev main_v22 : Ref sig .tc := ⟨.hbm, 33, rfl⟩
abbrev main_cst_0 : Ref sig .tc := ⟨.hbm, 34, rfl⟩
abbrev main_v23 : Ref sig .tc := ⟨.hbm, 35, rfl⟩
abbrev main_v24 : Ref sig .tc := ⟨.hbm, 36, rfl⟩
abbrev main_cst_1 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_3 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_4 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_5 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_6 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_7 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_8 : Ref sig .tc := ⟨.hbm, 81, rfl⟩
abbrev main_v62 : Ref sig .tc := ⟨.hbm, 82, rfl⟩
abbrev main_v63 : Ref sig .tc := ⟨.hbm, 83, rfl⟩
abbrev main_cst_9 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_10 : Ref sig .tc := ⟨.hbm, 91, rfl⟩
abbrev main_v70 : Ref sig .tc := ⟨.hbm, 92, rfl⟩
abbrev main_cst_11 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩

abbrev nD : Nat := 1
abbrev τ : Topo := Topo.v7x

variable {F : FTy → Type} [FloatOps F]
-- ==== Proof.ConvMask.lean ====
module

public import proofs.«01_k».proof.Proof.Gen.KConvIdeal.Skeleton
public import Idealize.ShloMosaic.Lib.Pointwise

/-! The 0/1 masks of the gated convolution's gradient: a row that begins or ends a sequence takes nothing from the
neighbour outside it. Decided over the nine row blocks and the 512 rows of a block. -/

@[expose] public section
set_option maxRecDepth 16384
noncomputable section
open Idealize.ShloMosaic Idealize.ShloMosaic.TcCoe Idealize.SL.Sem
namespace Cert.KConvIdeal.Rows
open Cert.KConvIdeal Cert.KConvIdeal.Gen

/-- Row `r` is the first one of its sequence: two sequences of 2048 rows, then two of 256. -/
def First (r : ℕ) : Prop := if r < 4096 then r % 2048 = 0 else (r - 4096) % 256 = 0
/-- Row `r` is the last one of its sequence. -/
def Last (r : ℕ) : Prop := if r < 4096 then r % 2048 = 2047 else (r - 4096) % 256 = 255
instance (r : ℕ) : Decidable (First r) := by unfold First; infer_instance
instance (r : ℕ) : Decidable (Last r) := by unfold Last; infer_instance

/-- The offset of row `x` in its sequence. -/
def offWord (x : BitVec 32) : BitVec 32 :=
  Scalar.select (IntOp.cmpi .slt x 4096#32) (IntOp.remsi .vector x 2048#32) (IntOp.remsi .vector (IntOp.subi x 4096#32) 256#32)
/-- Row `x` is one of the 4608. -/
def inWord (x : BitVec 32) : BitVec 1 := IntOp.andi (IntOp.cmpi .sge x 0#32) (IntOp.cmpi .slt x 4608#32)
/-- The word that is 0 on a first row, 1 on the others. -/
def hasPrev (x : BitVec 32) : BitVec 32 := BitVec.setWidth 32 (IntOp.andi (IntOp.cmpi .ne (offWord x) 0#32) (inWord x))
/-- The word that is 0 on a last row, 1 on the others. -/
def hasNext (x : BitVec 32) : BitVec 32 :=
  BitVec.setWidth 32 (IntOp.andi (IntOp.cmpi .ne (offWord x) (IntOp.subi (Scalar.select (IntOp.cmpi .slt x 4096#32) 2048#32 256#32) 1#32)) (inWord x))

theorem hasPrev_row : ∀ (i : Fin 9) (a : Fin 512), hasPrev (IntOp.addi (Scalar.muli (BitVec.ofNat 32 i.val) 512#32) (BitVec.ofNat 32 a.val))
    = if First (i.val * 512 + a.val) then 0#32 else 1#32 := by decide +kernel
theorem hasNext_row : ∀ (i : Fin 9) (a : Fin 512), hasNext (IntOp.addi (Scalar.muli (BitVec.ofNat 32 i.val) 512#32) (BitVec.ofNat 32 a.val))
    = if Last (i.val * 512 + a.val) then 0#32 else 1#32 := by decide +kernel
theorem hasNext_before : ∀ i : Fin 9, hasNext (IntOp.subi (IntOp.addi (Scalar.muli (BitVec.ofNat 32 i.val) 512#32) 0#32) 1#32)
    = if First (i.val * 512) then 0#32 else 1#32 := by decide +kernel
theorem hasPrev_after : ∀ i : Fin 9, hasPrev (IntOp.addi (IntOp.addi (Scalar.muli (BitVec.ofNat 32 i.val) 512#32) 0#32) 512#32)
    = if Last (i.val * 512 + 511) then 0#32 else 1#32 := by decide +kernel

theorem word_real (p : Prop) [Decidable p] : (FloatOps.sitofp (F := Ideal) .f32 (if p then 0#32 else 1#32) : EReal) = if p then 0 else 1 := by
  split
  · show (((0#32).toInt : ℝ) : EReal) = 0
    simp
  · show (((1#32).toInt : ℝ) : EReal) = 1
    simp

theorem mp_at (i : grid0.Coords) (a : Fin 512) (l : Fin 256) :
    k0_pay7 (F := Ideal) i (ix2 a l) = if First ((i 1).val * 512 + a.val) then 0 else 1 := by
  pointwise [k0_pay7, k0_pay6, k0_pay5, k0_pay4, k0_pay3]
  exact (congrArg (FloatOps.sitofp (F := Ideal) .f32) (hasPrev_row (i 1) a)).trans (word_real _)
theorem mn_at (i : grid0.Coords) (a : Fin 512) (l : Fin 256) :
    k0_pay8 (F := Ideal) i (ix2 a l) = if Last ((i 1).val * 512 + a.val) then 0 else 1 := by
  pointwise [k0_pay8, k0_pay6, k0_pay5, k0_pay4, k0_pay3]
  exact (congrArg (FloatOps.sitofp (F := Ideal) .f32) (hasNext_row (i 1) a)).trans (word_real _)
theorem before_at (i : grid0.Coords) (l : Fin 256) :
    k0_pay13 (F := Ideal) (k0_pay10 i) (k0_pay11 i) (k0_pay12 i) 4096#32 (ix2 0 l) = if First ((i 1).val * 512) then 0 else 1 := by
  pointwise [k0_pay13, k0_pay12, k0_pay11, k0_pay10, k0_pay9]
  exact (congrArg (FloatOps.sitofp (F := Ideal) .f32) (hasNext_before (i 1))).trans (word_real _)
theorem after_at (i : grid0.Coords) (l : Fin 256) :
    k0_pay14 (F := Ideal) (k0_pay9 i) (ix2 0 l) = if Last ((i 1).val * 512 + 511) then 0 else 1 := by
  pointwise [k0_pay14, k0_pay9]
  exact (congrArg (FloatOps.sitofp (F := Ideal) .f32) (hasPrev_after (i 1))).trans (word_real _)
end Cert.KConvIdeal.Rows
-- ==== Proof.ConvBlock.lean ====
module

public import proofs.«01_k».proof.Proof.ConvMask

/-! The gradient of the gated three-tap convolution along one lane, row by row, and what the kernel's body computes of it
from the rows of one block and the two neighbouring rows outside it. -/

@[expose] public section
set_option maxRecDepth 16384
noncomputable section
open Idealize.ShloMosaic Idealize.ShloMosaic.TcCoe Idealize.SL.Sem
namespace Cert.KConvIdeal.Rows
open Cert.KConvIdeal Cert.KConvIdeal.Gen

/-- The row before, zero at the start of a sequence. -/
def prv (f : ℕ → EReal) (r : ℕ) : EReal := if First r then 0 else f (r - 1)
/-- The row after, zero at the end of a sequence. -/
def nxt (f : ℕ → EReal) (r : ℕ) : EReal := if Last r then 0 else f (r + 1)

/-- The convolution of `f` with the three taps. -/
def conv (w0 w1 w2 : EReal) (f : ℕ → EReal) (r : ℕ) : EReal := w0 * prv f r + w1 * f r + w2 * nxt f r
/-- The transposed convolution of `f`. -/
def convT (w0 w1 w2 : EReal) (f : ℕ → EReal) (r : ℕ) : EReal := w1 * f r + w0 * nxt f r + w2 * prv f r

theorem first_succ (r : ℕ) : First (r + 1) ↔ Last r := by
  unfold First Last
  split <;> split <;> omega
theorem last_pred (r : ℕ) (h : 0 < r) : Last (r - 1) ↔ First r := by
  obtain ⟨s, rfl⟩ : ∃ s, r = s + 1 := ⟨r - 1, by omega⟩
  exact (first_succ s).symm

variable (i : grid0.Coords) (l : Fin 256) {p1 p2 q : ℕ → EReal}
  {v84 v86 : Vec Ideal S1x512x256 .f32} {x y : Vec Ideal S1x1x256 .f32}

theorem sel_eq (n a : ℕ) (hn : n < 512) (ha : a < 512) (u v : EReal) :
    Scalar.select (IntOp.cmpi .eq (BitVec.ofNat 32 a) (BitVec.ofNat 32 n)) u v = if a = n then u else v := by
  have : (BitVec.ofNat 32 a = BitVec.ofNat 32 n) ↔ a = n := by
    constructor
    · intro h
      have := congrArg BitVec.toNat h
      simp only [BitVec.toNat_ofNat] at this
      omega
    · rintro rfl; rfl
  by_cases h : a = n
  · subst h
    simp [Scalar.select, IntOp.cmpi]
  · have h' := mt this.1 h
    have hb : (BitVec.ofNat 32 a == BitVec.ofNat 32 n) = false := by simpa using h'
    simp [Scalar.select, IntOp.cmpi, h, hb]

/-- The products of the row before. -/
theorem prev_at (h1 : ∀ a : Fin 512, v84 (ix3 0 a l) = p1 ((i 1).val * 512 + a.val))
    (h2 : ∀ a : Fin 512, v86 (ix3 0 a l) = p2 ((i 1).val * 512 + a.val))
    (hx : ¬First ((i 1).val * 512) → x (ix3 0 0 l) = p1 ((i 1).val * 512 - 1))
    (hy : ¬First ((i 1).val * 512) → y (ix3 0 0 l) = p2 ((i 1).val * 512 - 1)) (a : Fin 512) :
    k0_pay19 (F := Ideal) (k0_pay7 i) v84 v86 x y (ix2 a l) = prv (fun r => p1 r * p2 r) ((i 1).val * 512 + a.val) := by
  pointwise [k0_pay19, k0_pay18, k0_pay17, k0_pay16, mp_at, h1, h2]
  unfold prv
  have ha := a.isLt
  rw [sel_eq 0 a.val (by omega) ha]
  by_cases hf : First ((i 1).val * 512 + a.val)
  · simp only [if_pos hf, mul_zero]
  · simp only [if_neg hf, mul_one]
    by_cases h0 : a.val = 0
    · have e : (i 1).val * 512 + a.val = (i 1).val * 512 := by omega
      rw [e] at hf ⊢
      rw [if_pos h0, hx hf, hy hf]
    · rw [if_neg h0]
      have e : (i 1).val * 512 + (a.val + 512 - 1) % 512 = (i 1).val * 512 + a.val - 1 := by omega
      simp only [e]

/-- The products of the row after. -/
theorem next_at (h1 : ∀ a : Fin 512, v84 (ix3 0 a l) = p1 ((i 1).val * 512 + a.val))
    (h2 : ∀ a : Fin 512, v86 (ix3 0 a l) = p2 ((i 1).val * 512 + a.val))
    (hx : ¬Last ((i 1).val * 512 + 511) → x (ix3 0 0 l) = p1 ((i 1).val * 512 + 512))
    (hy : ¬Last ((i 1).val * 512 + 511) → y (ix3 0 0 l) = p2 ((i 1).val * 512 + 512)) (a : Fin 512) :
    k0_pay20 (F := Ideal) (k0_pay8 i) v84 v86 x y (ix2 a l) = nxt (fun r => p1 r * p2 r) ((i 1).val * 512 + a.val) := by
  pointwise [k0_pay20, k0_pay18, k0_pay17, k0_pay16, mn_at, h1, h2]
  unfold nxt
  have ha := a.isLt
  rw [sel_eq 511 a.val (by omega) ha]
  by_cases hf : Last ((i 1).val * 512 + a.val)
  · simp only [if_pos hf, mul_zero]
  · simp only [if_neg hf, mul_one]
    by_cases h0 : a.val = 511
    · rw [h0] at hf ⊢
      rw [if_pos rfl, hx hf, hy hf]
    · rw [if_neg h0]
      have e : (i 1).val * 512 + (a.val + 512 - 511) % 512 = (i 1).val * 512 + a.val + 1 := by omega
      simp only [e]

/-- The transposed convolution of the cotangent `q` (its rows in the block, and one row on each side as a product of two factors). -/
theorem trans_at {v114 v115 v116 : Vec Ideal S1x256 .f32} {v131 : FVec Ideal S512x256 .f32} {v156 v162 : Vec Ideal S1x256 .f32}
    {v158 v164 : Vec Ideal S1x1x256 .f32}
    (h1 : ∀ a : Fin 512, v131 (ix2 a l) = q ((i 1).val * 512 + a.val))
    (hx : ¬First ((i 1).val * 512) → v156 (ix2 0 l) * v158 (ix3 0 0 l) = q ((i 1).val * 512 - 1))
    (hy : ¬Last ((i 1).val * 512 + 511) → v162 (ix2 0 l) * v164 (ix3 0 0 l) = q ((i 1).val * 512 + 512)) (a : Fin 512) :
    k0_pay30 (F := Ideal) (k0_pay7 i) (k0_pay8 i) (k0_pay13 (k0_pay10 i) (k0_pay11 i) (k0_pay12 i) 4096#32) (k0_pay14 (k0_pay9 i))
      v114 v115 v116 v131 v156 v158 v162 v164 (ix2 a l)
      = convT (v114 (ix2 0 l)) (v115 (ix2 0 l)) (v116 (ix2 0 l)) q ((i 1).val * 512 + a.val) := by
  pointwise [k0_pay30, mp_at, mn_at, before_at, after_at, h1]
  unfold convT nxt prv
  have ha := a.isLt
  rw [sel_eq 511 a.val (by omega) ha, sel_eq 0 a.val (by omega) ha]
  refine Ideal.add_congr (Ideal.add_congr rfl (Ideal.mul_congr rfl ?_)) (Ideal.mul_congr rfl ?_)
  · by_cases h0 : a.val = 511
    · rw [if_pos h0, h0]
      by_cases hf : Last ((i 1).val * 512 + 511)
      · simp only [if_pos hf, mul_zero]
      · simp only [if_neg hf, mul_one]
        exact hy hf
    · have e : (i 1).val * 512 + (a.val + 512 - 511) % 512 = (i 1).val * 512 + a.val + 1 := by omega
      rw [if_neg h0]
      simp only [e, first_succ]
      by_cases hf : Last ((i 1).val * 512 + a.val)
      · simp only [if_pos hf, mul_zero]
      · simp only [if_neg hf, mul_one]
  · by_cases h0 : a.val = 0
    · have e : (i 1).val * 512 + a.val = (i 1).val * 512 := by omega
      rw [if_pos h0, e]
      by_cases hf : First ((i 1).val * 512)
      · simp only [if_pos hf, mul_zero]
      · simp only [if_neg hf, mul_one]
        exact hx hf
    · have e : (i 1).val * 512 + (a.val + 512 - 1) % 512 = (i 1).val * 512 + a.val - 1 := by omega
      rw [if_neg h0]
      simp only [e, last_pred _ (show 0 < (i 1).val * 512 + a.val by omega)]
      by_cases hf : First ((i 1).val * 512 + a.val)
      · simp only [if_pos hf, mul_zero]
      · simp only [if_neg hf, mul_one]

/-- The first gate's rows. -/
theorem gate_at {z : ℕ → EReal} {v114 v115 v116 : Vec Ideal S1x256 .f32} {v125 : Vec Ideal S512x256 .f32} {x' y' : Vec Ideal S1x1x256 .f32}
    (hz : ∀ a : Fin 512, v125 (ix2 a l) = z ((i 1).val * 512 + a.val))
    (h1 : ∀ a : Fin 512, v84 (ix3 0 a l) = p1 ((i 1).val * 512 + a.val))
    (h2 : ∀ a : Fin 512, v86 (ix3 0 a l) = p2 ((i 1).val * 512 + a.val))
    (hx : ¬First ((i 1).val * 512) → x (ix3 0 0 l) = p1 ((i 1).val * 512 - 1))
    (hy : ¬First ((i 1).val * 512) → y (ix3 0 0 l) = p2 ((i 1).val * 512 - 1))
    (hx' : ¬Last ((i 1).val * 512 + 511) → x' (ix3 0 0 l) = p1 ((i 1).val * 512 + 512))
    (hy' : ¬Last ((i 1).val * 512 + 511) → y' (ix3 0 0 l) = p2 ((i 1).val * 512 + 512)) (a : Fin 512) :
    k0_pay22 (F := Ideal) (k0_pay18 v84 v86) (k0_pay19 (k0_pay7 i) v84 v86 x y) (k0_pay20 (k0_pay8 i) v84 v86 x' y') v114 v115 v116 v125 (ix3 0 a l)
      = z ((i 1).val * 512 + a.val) * conv (v114 (ix2 0 l)) (v115 (ix2 0 l)) (v116 (ix2 0 l)) (fun r => p1 r * p2 r) ((i 1).val * 512 + a.val) := by
  pointwise [k0_pay22, k0_pay21, prev_at i l h1 h2 hx hy, next_at i l h1 h2 hx' hy', hz, k0_pay18, k0_pay16, k0_pay17, h1, h2]
  rfl

/-- The other two gates' rows: the transposed convolution times the other factor. -/
theorem other_at {z p0 g : ℕ → EReal} {v82 vg : Vec Ideal S1x512x256 .f32} {v114 v115 v116 : Vec Ideal S1x256 .f32} {v125 : Vec Ideal S512x256 .f32}
    {v156 v162 : Vec Ideal S1x256 .f32} {v158 v164 : Vec Ideal S1x1x256 .f32}
    (hz : ∀ a : Fin 512, v125 (ix2 a l) = z ((i 1).val * 512 + a.val))
    (h0 : ∀ a : Fin 512, v82 (ix3 0 a l) = p0 ((i 1).val * 512 + a.val))
    (hg : ∀ a : Fin 512, vg (ix3 0 a l) = g ((i 1).val * 512 + a.val))
    (hx : ¬First ((i 1).val * 512) → v156 (ix2 0 l) = z ((i 1).val * 512 - 1))
    (hy : ¬First ((i 1).val * 512) → v158 (ix3 0 0 l) = p0 ((i 1).val * 512 - 1))
    (hx' : ¬Last ((i 1).val * 512 + 511) → v162 (ix2 0 l) = z ((i 1).val * 512 + 512))
    (hy' : ¬Last ((i 1).val * 512 + 511) → v164 (ix3 0 0 l) = p0 ((i 1).val * 512 + 512)) (a : Fin 512) :
    k0_pay30 (F := Ideal) (k0_pay7 i) (k0_pay8 i) (k0_pay13 (k0_pay10 i) (k0_pay11 i) (k0_pay12 i) 4096#32) (k0_pay14 (k0_pay9 i))
      v114 v115 v116 (k0_pay23 (k0_pay15 v82) v125) v156 v158 v162 v164 (ix2 a l) * vg (ix3 0 a l)
      = convT (v114 (ix2 0 l)) (v115 (ix2 0 l)) (v116 (ix2 0 l)) (fun r => z r * p0 r) ((i 1).val * 512 + a.val) * g ((i 1).val * 512 + a.val) := by
  rw [hg]
  refine Ideal.mul_congr (trans_at i l (fun a => ?_) (fun h => ?_) (fun h => ?_) a) rfl
  · pointwise [k0_pay23, k0_pay21, k0_pay15, hz, h0]
  · rw [hx h, hy h]
  · rw [hx' h, hy' h]

/-- The second gate's gradient row. -/
theorem row1_at {z p0 g : ℕ → EReal} {v82 vg : Vec Ideal S1x512x256 .f32} {v114 v115 v116 : Vec Ideal S1x256 .f32} {v125 : Vec Ideal S512x256 .f32}
    {v156 v162 : Vec Ideal S1x256 .f32} {v158 v164 : Vec Ideal S1x1x256 .f32}
    (hz : ∀ a : Fin 512, v125 (ix2 a l) = z ((i 1).val * 512 + a.val))
    (h0 : ∀ a : Fin 512, v82 (ix3 0 a l) = p0 ((i 1).val * 512 + a.val))
    (hg : ∀ a : Fin 512, vg (ix3 0 a l) = g ((i 1).val * 512 + a.val))
    (hx : ¬First ((i 1).val * 512) → v156 (ix2 0 l) = z ((i 1).val * 512 - 1))
    (hy : ¬First ((i 1).val * 512) → v158 (ix3 0 0 l) = p0 ((i 1).val * 512 - 1))
    (hx' : ¬Last ((i 1).val * 512 + 511) → v162 (ix2 0 l) = z ((i 1).val * 512 + 512))
    (hy' : ¬Last ((i 1).val * 512 + 511) → v164 (ix3 0 0 l) = p0 ((i 1).val * 512 + 512)) (a : Fin 512) :
    k0_pay1 (k0_pay31 (F := Ideal) (k0_pay7 i) (k0_pay8 i) (k0_pay13 (k0_pay10 i) (k0_pay11 i) (k0_pay12 i) 4096#32) (k0_pay14 (k0_pay9 i)) (k0_pay17 vg)
      v114 v115 v116 (k0_pay23 (k0_pay15 v82) v125) v156 v158 v162 v164) (ix3 0 a l)
      = convT (v114 (ix2 0 l)) (v115 (ix2 0 l)) (v116 (ix2 0 l)) (fun r => z r * p0 r) ((i 1).val * 512 + a.val) * g ((i 1).val * 512 + a.val) :=
  Eq.trans (by pointwise [k0_pay1, k0_pay31, k0_pay17]) (other_at i l hz h0 hg hx hy hx' hy' a)

/-- The third gate's gradient row. -/
theorem row2_at {z p0 g : ℕ → EReal} {v82 vg : Vec Ideal S1x512x256 .f32} {v114 v115 v116 : Vec Ideal S1x256 .f32} {v125 : Vec Ideal S512x256 .f32}
    {v156 v162 : Vec Ideal S1x256 .f32} {v158 v164 : Vec Ideal S1x1x256 .f32}
    (hz : ∀ a : Fin 512, v125 (ix2 a l) = z ((i 1).val * 512 + a.val))
    (h0 : ∀ a : Fin 512, v82 (ix3 0 a l) = p0 ((i 1).val * 512 + a.val))
    (hg : ∀ a : Fin 512, vg (ix3 0 a l) = g ((i 1).val * 512 + a.val))
    (hx : ¬First ((i 1).val * 512) → v156 (ix2 0 l) = z ((i 1).val * 512 - 1))
    (hy : ¬First ((i 1).val * 512) → v158 (ix3 0 0 l) = p0 ((i 1).val * 512 - 1))
    (hx' : ¬Last ((i 1).val * 512 + 511) → v162 (ix2 0 l) = z ((i 1).val * 512 + 512))
    (hy' : ¬Last ((i 1).val * 512 + 511) → v164 (ix3 0 0 l) = p0 ((i 1).val * 512 + 512)) (a : Fin 512) :
    k0_pay2 (F := Ideal) (k0_pay16 vg) (k0_pay30 (k0_pay7 i) (k0_pay8 i) (k0_pay13 (k0_pay10 i) (k0_pay11 i) (k0_pay12 i) 4096#32) (k0_pay14 (k0_pay9 i))
      v114 v115 v116 (k0_pay23 (k0_pay15 v82) v125) v156 v158 v162 v164) (ix3 0 a l)
      = convT (v114 (ix2 0 l)) (v115 (ix2 0 l)) (v116 (ix2 0 l)) (fun r => z r * p0 r) ((i 1).val * 512 + a.val) * g ((i 1).val * 512 + a.val) :=
  Eq.trans (by pointwise [k0_pay2, k0_pay16]) (other_at i l hz h0 hg hx hy hx' hy' a)

/-- A block's part of the gradient of the first tap. -/
theorem tap0_at {z p0 : ℕ → EReal} {v82 : Vec Ideal S1x512x256 .f32} {v125 : Vec Ideal S512x256 .f32} {u : Vec Ideal S1x256 .f32} {f : ℕ → EReal} {v : FVec Ideal S512x256 .f32}
    (hz : ∀ a : Fin 512, v125 (ix2 a l) = z ((i 1).val * 512 + a.val))
    (h0 : ∀ a : Fin 512, v82 (ix3 0 a l) = p0 ((i 1).val * 512 + a.val))
    (hv : ∀ a : Fin 512, v (ix2 a l) = f ((i 1).val * 512 + a.val)) :
    k0_pay25 (F := Ideal) (k0_pay15 v82) v v125 u (ix2 0 l)
      = u (ix2 0 l) + ∑ a : Fin 512, z ((i 1).val * 512 + a.val) * p0 ((i 1).val * 512 + a.val) * f ((i 1).val * 512 + a.val) := by
  pointwise [k0_pay25, k0_pay23, k0_pay21, k0_pay15, hz, h0, hv]

/-- A block's part of the gradient of the second tap. -/
theorem tap1_at {z p0 : ℕ → EReal} {v82 : Vec Ideal S1x512x256 .f32} {v125 : Vec Ideal S512x256 .f32} {u : Vec Ideal S1x256 .f32} {f : ℕ → EReal} {v : FVec Ideal S512x256 .f32}
    (hz : ∀ a : Fin 512, v125 (ix2 a l) = z ((i 1).val * 512 + a.val))
    (h0 : ∀ a : Fin 512, v82 (ix3 0 a l) = p0 ((i 1).val * 512 + a.val))
    (hv : ∀ a : Fin 512, v (ix2 a l) = f ((i 1).val * 512 + a.val)) :
    k0_pay26 (F := Ideal) (k0_pay15 v82) v v125 u (ix2 0 l)
      = u (ix2 0 l) + ∑ a : Fin 512, z ((i 1).val * 512 + a.val) * p0 ((i 1).val * 512 + a.val) * f ((i 1).val * 512 + a.val) := by
  pointwise [k0_pay26, k0_pay23, k0_pay21, k0_pay15, hz, h0, hv]

/-- A block's part of the gradient of the third tap. -/
theorem tap2_at {z p0 : ℕ → EReal} {v82 : Vec Ideal S1x512x256 .f32} {v125 : Vec Ideal S512x256 .f32} {u : Vec Ideal S1x256 .f32} {f : ℕ → EReal} {v : FVec Ideal S512x256 .f32}
    (hz : ∀ a : Fin 512, v125 (ix2 a l) = z ((i 1).val * 512 + a.val))
    (h0 : ∀ a : Fin 512, v82 (ix3 0 a l) = p0 ((i 1).val * 512 + a.val))
    (hv : ∀ a : Fin 512, v (ix2 a l) = f ((i 1).val * 512 + a.val)) :
    k0_pay29 (F := Ideal) (k0_pay27 u) (k0_pay28 (k0_pay15 v82) v v125) (ix2 0 l)
      = u (ix2 0 l) + ∑ a : Fin 512, z ((i 1).val * 512 + a.val) * p0 ((i 1).val * 512 + a.val) * f ((i 1).val * 512 + a.val) := by
  pointwise [k0_pay29, k0_pay28, k0_pay27, k0_pay23, k0_pay21, k0_pay15, hz, h0, hv]
end Cert.KConvIdeal.Rows
-- ==== Proof.ConvValue.lean ====
module

public import proofs.«01_k».proof.Proof.ConvBlock
public import proofs.«01_k».proof.Proof.Gen.KConvIdeal.Value
public import Idealize.ShloMosaic.Lib.Pipeline.ValueKit
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.KConvIdeal.Rows
open Cert.KConvIdeal Cert.KConvIdeal.Gen
variable (m : (ℓ : Loc nD τ sig) → Buf (Elt Ideal) ℓ)

theorem conv_congr {w0 w1 w2 v0 v1 v2 : EReal} (h0 : w0 = v0) (h1 : w1 = v1) (h2 : w2 = v2) {f : ℕ → EReal} {r : ℕ} :
    conv w0 w1 w2 f r = conv v0 v1 v2 f r := by subst h0 h1 h2; rfl
theorem convT_congr {w0 w1 w2 v0 v1 v2 : EReal} (h0 : w0 = v0) (h1 : w1 = v1) (h2 : w2 = v2) {f : ℕ → EReal} {r : ℕ} :
    convT w0 w1 w2 f r = convT v0 v1 v2 f r := by subst h0 h1 h2; rfl
/-- The rows of one lane of the cotangent. -/
def zrow (Z : FVec Ideal S4608x1024 .f32) (d : Fin 1024) (r : ℕ) : EReal := Z (ix2 ⟨r % 4608, Nat.mod_lt _ (by decide)⟩ d)
/-- The rows of one lane of one of the three gates. -/
def prow (P : FVec Ideal S3x4608x1024 .f32) (k : Fin 3) (d : Fin 1024) (r : ℕ) : EReal := P (ix3 k ⟨r % 4608, Nat.mod_lt _ (by decide)⟩ d)
/-- The product the convolution reads. -/
def cu (P : FVec Ideal S3x4608x1024 .f32) (d : Fin 1024) (r : ℕ) : EReal := prow P 1 d r * prow P 2 d r
/-- The convolution's own cotangent. -/
def ct (Z : FVec Ideal S4608x1024 .f32) (P : FVec Ideal S3x4608x1024 .f32) (d : Fin 1024) (r : ℕ) : EReal := zrow Z d r * prow P 0 d r

/-- The gradient of the three gates. -/
def dp (Z : FVec Ideal S4608x1024 .f32) (P : FVec Ideal S3x4608x1024 .f32) (W : FVec Ideal S3x1024 .f32) : FVec Ideal S3x4608x1024 .f32 := fun j =>
  if (j 0).val = 0 then zrow Z (j 2) (j 1).val * conv (W (ix2 0 (j 2))) (W (ix2 1 (j 2))) (W (ix2 2 (j 2))) (cu P (j 2)) (j 1).val
  else convT (W (ix2 0 (j 2))) (W (ix2 1 (j 2))) (W (ix2 2 (j 2))) (ct Z P (j 2)) (j 1).val * prow P (if (j 0).val = 1 then 2 else 1) (j 2) (j 1).val

theorem idx : ∀ t : Fin cfg0.N, win0_0.index t = ![t.val % 9, t.val / 9] ∧ win0_1.index t = ![t.val % 9 * 64 - 1, t.val / 9]
    ∧ win0_2.index t = ![min ((t.val % 9 + 1) * 64) 575, t.val / 9] ∧ win0_3.index t = ![0, t.val % 9, t.val / 9]
    ∧ win0_4.index t = ![0, t.val % 9 * 64 - 1, t.val / 9] ∧ win0_5.index t = ![0, min ((t.val % 9 + 1) * 64) 575, t.val / 9]
    ∧ win0_6.index t = ![0, t.val / 9] ∧ win0_7.index t = ![0, t.val % 9, t.val / 9] ∧ win0_8.index t = ![0, t.val / 9]
    ∧ (grid0.coords t 1).val = t.val % 9 ∧ t.val < 36 :=
  (by decide +kernel : ∀ t : Fin grid0.N, _)

/-- The lane of the whole array at lane `l` of point `t`'s block. -/
def lane (t : Fin cfg0.N) (l : Fin 256) : Fin 1024 := ⟨t.val / 9 * 256 + l.val, by have := (idx t).2.2.2.2.2.2.2.2.2.2; omega⟩

section
variable (c : Dev nD) (t : Fin cfg0.N) (l : Fin 256)
theorem blk0 (a : Fin 512) : iblk m c 0 t (ix2 a l) = zrow (V m c main_v2) (lane t l) ((grid0.coords t 1).val * 512 + a.val) := by
  have ht := (idx t).2.2.2.2.2.2.2.2.2
  unfold zrow lane
  blk_ext [iblk, idx t]
theorem blk3 (k : Fin 3) (a : Fin 512) : iblk m c 3 t (ix3 k a l) = prow (V m c main_v7) k (lane t l) ((grid0.coords t 1).val * 512 + a.val) := by
  have ht := (idx t).2.2.2.2.2.2.2.2.2
  unfold prow lane
  blk_ext [iblk, idx t]
theorem blk6 (k : Fin 3) : iblk m c 6 t (ix2 k l) = (show FVec Ideal S3x1024 .f32 from V m c main_arg4) (ix2 k (lane t l)) := by
  unfold lane
  blk_ext [iblk, idx t]
theorem blk1 (h : ¬First ((grid0.coords t 1).val * 512)) : iblk m c 1 t (ix2 7 l) = zrow (V m c main_v2) (lane t l) ((grid0.coords t 1).val * 512 - 1) := by
  have ht := (idx t).2.2.2.2.2.2.2.2.2
  have hp : 0 < (grid0.coords t 1).val := Nat.pos_of_ne_zero fun e => h (by rw [e]; decide)
  unfold zrow lane
  blk_ext [iblk, idx t]
theorem blk4 (k : Fin 3) (h : ¬First ((grid0.coords t 1).val * 512)) : iblk m c 4 t (ix3 k 7 l) = prow (V m c main_v7) k (lane t l) ((grid0.coords t 1).val * 512 - 1) := by
  have ht := (idx t).2.2.2.2.2.2.2.2.2
  have hp : 0 < (grid0.coords t 1).val := Nat.pos_of_ne_zero fun e => h (by rw [e]; decide)
  unfold prow lane
  blk_ext [iblk, idx t]
theorem blk2 (h : ¬Last ((grid0.coords t 1).val * 512 + 511)) : iblk m c 2 t (ix2 0 l) = zrow (V m c main_v2) (lane t l) ((grid0.coords t 1).val * 512 + 512) := by
  have ht := (idx t).2.2.2.2.2.2.2.2.2
  have hp : (grid0.coords t 1).val ≠ 8 := fun e => h (by rw [e]; decide)
  have hq : min ((t.val % 9 + 1) * 64) 575 = (t.val % 9 + 1) * 64 := by omega
  unfold zrow lane
  blk_ext [iblk, idx t, hq]
theorem blk5 (k : Fin 3) (h : ¬Last ((grid0.coords t 1).val * 512 + 511)) : iblk m c 5 t (ix3 k 0 l) = prow (V m c main_v7) k (lane t l) ((grid0.coords t 1).val * 512 + 512) := by
  have ht := (idx t).2.2.2.2.2.2.2.2.2
  have hp : (grid0.coords t 1).val ≠ 8 := fun e => h (by rw [e]; decide)
  have hq : min ((t.val % 9 + 1) * 64) 575 = (t.val % 9 + 1) * 64 := by omega
  unfold prow lane
  blk_ext [iblk, idx t, hq]

/-- What the two cases of the body leave in the gates' gradient block. -/
theorem block7 (k : Fin 3) (a : Fin 512) (j : S3x4608x1024.Idx) (hj0 : (j 0).val = k.val)
    (hj1 : (j 1).val = (grid0.coords t 1).val * 512 + a.val) (hj2 : (j 2).val = (lane t l).val) (e : EReal)
    (h0 : k.val = 0 → e = zrow (V m c main_v2) (lane t l) ((grid0.coords t 1).val * 512 + a.val)
      * conv ((show FVec Ideal S3x1024 .f32 from V m c main_arg4) (ix2 0 (lane t l))) ((show FVec Ideal S3x1024 .f32 from V m c main_arg4) (ix2 1 (lane t l)))
        ((show FVec Ideal S3x1024 .f32 from V m c main_arg4) (ix2 2 (lane t l))) (cu (V m c main_v7) (lane t l)) ((grid0.coords t 1).val * 512 + a.val))
    (h1 : k.val ≠ 0 → e = convT ((show FVec Ideal S3x1024 .f32 from V m c main_arg4) (ix2 0 (lane t l))) ((show FVec Ideal S3x1024 .f32 from V m c main_arg4) (ix2 1 (lane t l)))
        ((show FVec Ideal S3x1024 .f32 from V m c main_arg4) (ix2 2 (lane t l))) (ct (V m c main_v2) (V m c main_v7) (lane t l)) ((grid0.coords t 1).val * 512 + a.val)
      * prow (V m c main_v7) (if k.val = 1 then 2 else 1) (lane t l) ((grid0.coords t 1).val * 512 + a.val)) :
    e = dp (V m c main_v2) (V m c main_v7) (V m c main_arg4) j := by
  have e2 : j 2 = lane t l := Fin.ext hj2
  unfold dp
  rw [hj0, hj1, e2]
  by_cases hk : k.val = 0
  · rw [if_pos hk]; exact h0 hk
  · rw [if_neg hk]; exact h1 hk
end

theorem final7 (c : Dev nD) : (dats m 0 c).arrAt 7 (cfgs 0).N = dp (V m c main_v2) (V m c main_v7) (V m c main_arg4) := by
  refine (dats m 0 c).arrAt_eq_of_covers 7 _ (by decide +kernel) fun t _ y => ?_
  have hc := (idx t).2.2.2.2.2.2.2.2.2.1
  blk_simp
  rw [after0_7]
  by_cases h0 : t.val % 9 = 0
  · rw [outsAt0_A m c t h0]; frame_out
    canon_tiles x h
    · idx_vars x
      obtain rfl : x0 = 0 := Subsingleton.elim _ _
      refine block7 m c t x2 2 x1 _ (by blk_simp [idx t]; omega) (by blk_simp [idx t]; omega) (by show _ = t.val / 9 * 256 + x2.val; blk_simp [idx t]; omega) _ (fun h => absurd h (by decide)) fun _ => ?_
      refine Eq.trans (row2_at (grid0.coords t) x2 (z := zrow (V m c main_v2) (lane t x2)) (p0 := prow (V m c main_v7) 0 (lane t x2)) (g := prow (V m c main_v7) 1 (lane t x2)) (fun a => ?_) (fun a => ?_) (fun a => ?_) (fun h => ?_) (fun h => ?_) (fun h => ?_) (fun h => ?_) x1) ?_
      · exact blk0 m c t x2 a
      · pointwise; exact blk3 m c t x2 0 a
      · pointwise; exact blk3 m c t x2 1 a
      · pointwise; exact blk1 m c t x2 h
      · pointwise; exact blk4 m c t x2 0 h
      · pointwise; exact blk2 m c t x2 h
      · pointwise; exact blk5 m c t x2 0 h
      · exact congrArg (· * _) (convT_congr (by pointwise; exact blk6 m c t x2 0) (by pointwise; exact blk6 m c t x2 1) (by pointwise; exact blk6 m c t x2 2))
    · idx_vars x
      obtain rfl : x0 = 0 := Subsingleton.elim _ _
      refine block7 m c t x2 1 x1 _ (by blk_simp [idx t]; omega) (by blk_simp [idx t]; omega) (by show _ = t.val / 9 * 256 + x2.val; blk_simp [idx t]; omega) _ (fun h => absurd h (by decide)) fun _ => ?_
      refine Eq.trans (row1_at (grid0.coords t) x2 (z := zrow (V m c main_v2) (lane t x2)) (p0 := prow (V m c main_v7) 0 (lane t x2)) (g := prow (V m c main_v7) 2 (lane t x2)) (fun a => ?_) (fun a => ?_) (fun a => ?_) (fun h => ?_) (fun h => ?_) (fun h => ?_) (fun h => ?_) x1) ?_
      · exact blk0 m c t x2 a
      · pointwise; exact blk3 m c t x2 0 a
      · pointwise; exact blk3 m c t x2 2 a
      · pointwise; exact blk1 m c t x2 h
      · pointwise; exact blk4 m c t x2 0 h
      · pointwise; exact blk2 m c t x2 h
      · pointwise; exact blk5 m c t x2 0 h
      · exact congrArg (· * _) (convT_congr (by pointwise; exact blk6 m c t x2 0) (by pointwise; exact blk6 m c t x2 1) (by pointwise; exact blk6 m c t x2 2))
    · idx_vars x
      obtain rfl : x0 = 0 := Subsingleton.elim _ _
      refine block7 m c t x2 0 x1 _ (by blk_simp [idx t]; omega) (by blk_simp [idx t]; omega) (by show _ = t.val / 9 * 256 + x2.val; blk_simp [idx t]; omega) _ (fun _ => ?_) fun h => absurd rfl h
      refine Eq.trans (gate_at (grid0.coords t) x2 (z := zrow (V m c main_v2) (lane t x2)) (p1 := prow (V m c main_v7) 1 (lane t x2)) (p2 := prow (V m c main_v7) 2 (lane t x2)) (fun a => ?_) (fun a => ?_) (fun a => ?_) (fun h => ?_) (fun h => ?_) (fun h => ?_) (fun h => ?_) x1) ?_
      · exact blk0 m c t x2 a
      · pointwise; exact blk3 m c t x2 1 a
      · pointwise; exact blk3 m c t x2 2 a
      · pointwise; exact blk4 m c t x2 1 h
      · pointwise; exact blk4 m c t x2 2 h
      · pointwise; exact blk5 m c t x2 1 h
      · pointwise; exact blk5 m c t x2 2 h
      · exact congrArg (_ * ·) (conv_congr (by pointwise; exact blk6 m c t x2 0) (by pointwise; exact blk6 m c t x2 1) (by pointwise; exact blk6 m c t x2 2))
  · rw [outsAt0_B m c t h0]; frame_out
    canon_tiles x h
    · idx_vars x
      obtain rfl : x0 = 0 := Subsingleton.elim _ _
      refine block7 m c t x2 2 x1 _ (by blk_simp [idx t]; omega) (by blk_simp [idx t]; omega) (by show _ = t.val / 9 * 256 + x2.val; blk_simp [idx t]; omega) _ (fun h => absurd h (by decide)) fun _ => ?_
      refine Eq.trans (row2_at (grid0.coords t) x2 (z := zrow (V m c main_v2) (lane t x2)) (p0 := prow (V m c main_v7) 0 (lane t x2)) (g := prow (V m c main_v7) 1 (lane t x2)) (fun a => ?_) (fun a => ?_) (fun a => ?_) (fun h => ?_) (fun h => ?_) (fun h => ?_) (fun h => ?_) x1) ?_
      · exact blk0 m c t x2 a
      · pointwise; exact blk3 m c t x2 0 a
      · pointwise; exact blk3 m c t x2 1 a
      · pointwise; exact blk1 m c t x2 h
      · pointwise; exact blk4 m c t x2 0 h
      · pointwise; exact blk2 m c t x2 h
      · pointwise; exact blk5 m c t x2 0 h
      · exact congrArg (· * _) (convT_congr (by pointwise; exact blk6 m c t x2 0) (by pointwise; exact blk6 m c t x2 1) (by pointwise; exact blk6 m c t x2 2))
    · idx_vars x
      obtain rfl : x0 = 0 := Subsingleton.elim _ _
      refine block7 m c t x2 1 x1 _ (by blk_simp [idx t]; omega) (by blk_simp [idx t]; omega) (by show _ = t.val / 9 * 256 + x2.val; blk_simp [idx t]; omega) _ (fun h => absurd h (by decide)) fun _ => ?_
      refine Eq.trans (row1_at (grid0.coords t) x2 (z := zrow (V m c main_v2) (lane t x2)) (p0 := prow (V m c main_v7) 0 (lane t x2)) (g := prow (V m c main_v7) 2 (lane t x2)) (fun a => ?_) (fun a => ?_) (fun a => ?_) (fun h => ?_) (fun h => ?_) (fun h => ?_) (fun h => ?_) x1) ?_
      · exact blk0 m c t x2 a
      · pointwise; exact blk3 m c t x2 0 a
      · pointwise; exact blk3 m c t x2 2 a
      · pointwise; exact blk1 m c t x2 h
      · pointwise; exact blk4 m c t x2 0 h
      · pointwise; exact blk2 m c t x2 h
      · pointwise; exact blk5 m c t x2 0 h
      · exact congrArg (· * _) (convT_congr (by pointwise; exact blk6 m c t x2 0) (by pointwise; exact blk6 m c t x2 1) (by pointwise; exact blk6 m c t x2 2))
    · idx_vars x
      obtain rfl : x0 = 0 := Subsingleton.elim _ _
      refine block7 m c t x2 0 x1 _ (by blk_simp [idx t]; omega) (by blk_simp [idx t]; omega) (by show _ = t.val / 9 * 256 + x2.val; blk_simp [idx t]; omega) _ (fun _ => ?_) fun h => absurd rfl h
      refine Eq.trans (gate_at (grid0.coords t) x2 (z := zrow (V m c main_v2) (lane t x2)) (p1 := prow (V m c main_v7) 1 (lane t x2)) (p2 := prow (V m c main_v7) 2 (lane t x2)) (fun a => ?_) (fun a => ?_) (fun a => ?_) (fun h => ?_) (fun h => ?_) (fun h => ?_) (fun h => ?_) x1) ?_
      · exact blk0 m c t x2 a
      · pointwise; exact blk3 m c t x2 1 a
      · pointwise; exact blk3 m c t x2 2 a
      · pointwise; exact blk4 m c t x2 1 h
      · pointwise; exact blk4 m c t x2 2 h
      · pointwise; exact blk5 m c t x2 1 h
      · pointwise; exact blk5 m c t x2 2 h
      · exact congrArg (_ * ·) (conv_congr (by pointwise; exact blk6 m c t x2 0) (by pointwise; exact blk6 m c t x2 1) (by pointwise; exact blk6 m c t x2 2))
end Cert.KConvIdeal.Rows
-- ==== Proof.ConvTaps.lean ====
module

public import proofs.«01_k».proof.Proof.ConvValue
public import Idealize.ShloMosaic.Lib.Pipeline.ReadBack

@[expose] public section
set_option maxRecDepth 16384
noncomputable section
open Idealize.ShloMosaic Idealize.ShloMosaic.TcCoe Idealize.SL.Sem
open Idealize.ShloMosaic.Pipeline (Dat)
namespace Cert.KConvIdeal.Rows
open Cert.KConvIdeal Cert.KConvIdeal.Gen
variable (m : (ℓ : Loc nD τ sig) → Buf (Elt Ideal) ℓ)

/-- The rows the tap `k` of the convolution reads. -/
def tapRow (k : ℕ) (f : ℕ → EReal) (r : ℕ) : EReal := if k = 0 then prv f r else if k = 1 then f r else nxt f r

/-- One row's part of the gradient of tap `k` at lane `d`. -/
def tapAt (Z : FVec Ideal S4608x1024 .f32) (P : FVec Ideal S3x4608x1024 .f32) (k : ℕ) (d : Fin 1024) (r : ℕ) : EReal :=
  ct Z P d r * tapRow k (cu P d) r

theorem tapAt_congr {Z : FVec Ideal S4608x1024 .f32} {P : FVec Ideal S3x4608x1024 .f32} {k k' : ℕ} {d d' : Fin 1024} {r r' : ℕ} (h : k = k') (h' : d = d') (h'' : r = r') :
    tapAt Z P k d r = tapAt Z P k' d' r' := by subst h h' h''; rfl

/-- The gradient of the taps: over every row, the convolution's cotangent times the row the tap reads. -/
def dw (Z : FVec Ideal S4608x1024 .f32) (P : FVec Ideal S3x4608x1024 .f32) : FVec Ideal S3x1024 .f32 := fun j =>
  ∑ r : Fin 4608, tapAt Z P (j 0).val (j 1) r.val

/-- The part of one block of 512 rows. -/
def part (c : Dev nD) (t : Fin cfg0.N) (x : S3x256.Idx) : EReal :=
  ∑ a : Fin 512, tapAt (V m c main_v2) (V m c main_v7) (x 0).val (lane t (x 1)) ((grid0.coords t 1).val * 512 + a.val)

/-- The first three of several stores decide what is read at an index they cover. -/
theorem canon_three {S : Shape} {e : EltTy} (p q r : View.Piece (Elt Ideal) S e) (L : List (View.Piece (Elt Ideal) S e)) (y : S.Idx)
    (h : ∃ s ∈ [p, q, r], y ∈ s.1.set) : View.canon (p :: q :: r :: L) y = View.canon [p, q, r] y := by
  by_cases hp : y ∈ p.1.set
  · obtain ⟨x, rfl⟩ := p.1.exists_idx_of_mem hp
    exact (View.canon_cons_emb p.1 p.2 _ x).trans (View.canon_cons_emb p.1 p.2 _ x).symm
  rw [View.canon_cons_of_not_mem _ _ hp, View.canon_cons_of_not_mem _ _ hp]
  by_cases hq : y ∈ q.1.set
  · obtain ⟨x, rfl⟩ := q.1.exists_idx_of_mem hq
    exact (View.canon_cons_emb q.1 q.2 _ x).trans (View.canon_cons_emb q.1 q.2 _ x).symm
  rw [View.canon_cons_of_not_mem _ _ hq, View.canon_cons_of_not_mem _ _ hq]
  by_cases hr : y ∈ r.1.set
  · obtain ⟨x, rfl⟩ := r.1.exists_idx_of_mem hr
    exact (View.canon_cons_emb r.1 r.2 _ x).trans (View.canon_cons_emb r.1 r.2 _ x).symm
  · obtain ⟨s, hs, hy⟩ := h
    simp only [List.mem_cons, List.not_mem_nil, or_false] at hs
    rcases hs with rfl | rfl | rfl <;> contradiction

/-- One stored row of a block is what was there plus the block's part. -/
theorem block8 (c : Dev nD) (t : Fin cfg0.N) (l : Fin 256) (k : ℕ) (y : S3x256.Idx) (h0 : (y 0).val = k) (h1 : (y 1).val = l.val) (e u : EReal)
    (h : e = u + ∑ a : Fin 512, zrow (V m c main_v2) (lane t l) ((grid0.coords t 1).val * 512 + a.val) * prow (V m c main_v7) 0 (lane t l) ((grid0.coords t 1).val * 512 + a.val)
      * tapRow k (cu (V m c main_v7) (lane t l)) ((grid0.coords t 1).val * 512 + a.val)) : e = u + part m c t y := by
  have e1 : y 1 = l := Fin.ext h1
  rw [h]
  unfold part tapAt ct
  rw [h0, e1]

theorem reset8 (c : Dev nD) (t : Fin cfg0.N) (hz : t.val % 9 = 0) (y : S3x256.Idx) : (outsAt0 m c t.val t.isLt).2 y = 0 + part m c t y := by
  rw [outsAt0_A m c t hz]; frame_out
  rw [canon_three _ _ _ _ _ (View.cover_of_tiled_head _ _ _ (by rfl) y)]
  canon_tiles x h
  · idx_vars x
    obtain rfl : x0 = 0 := Subsingleton.elim _ _
    refine block8 m c t x1 2 y (by omega) h1 _ _ ?_
    refine Eq.trans (tap2_at (grid0.coords t) x1 (z := zrow (V m c main_v2) (lane t x1)) (p0 := prow (V m c main_v7) 0 (lane t x1)) (f := nxt (cu (V m c main_v7) (lane t x1))) (fun a => ?_) (fun a => ?_) (fun a => ?_)) ?_
    · exact blk0 m c t x1 a
    · pointwise; exact blk3 m c t x1 0 a
    · refine next_at (grid0.coords t) x1 (p1 := prow (V m c main_v7) 1 (lane t x1)) (p2 := prow (V m c main_v7) 2 (lane t x1)) (fun a => ?_) (fun a => ?_) (fun h => ?_) (fun h => ?_) a
      · pointwise; exact blk3 m c t x1 1 a
      · pointwise; exact blk3 m c t x1 2 a
      · pointwise; exact blk5 m c t x1 1 h
      · pointwise; exact blk5 m c t x1 2 h
    · refine Ideal.add_congr ?_ rfl
      rw [View.readCov_skip _ _ _ _ _ rfl, View.readCov_skip _ _ _ _ _ rfl, View.readCov_fill _ _ _ _ _ (by decide)]; pointwise [k0_pay24]
  · idx_vars x
    obtain rfl : x0 = 0 := Subsingleton.elim _ _
    refine block8 m c t x1 1 y (by omega) h1 _ _ ?_
    refine Eq.trans (tap1_at (grid0.coords t) x1 (z := zrow (V m c main_v2) (lane t x1)) (p0 := prow (V m c main_v7) 0 (lane t x1)) (f := cu (V m c main_v7) (lane t x1)) (fun a => ?_) (fun a => ?_) (fun a => ?_)) ?_
    · exact blk0 m c t x1 a
    · pointwise; exact blk3 m c t x1 0 a
    · refine Eq.trans (b := prow (V m c main_v7) 1 (lane t x1) ((grid0.coords t 1).val * 512 + a.val) * prow (V m c main_v7) 2 (lane t x1) ((grid0.coords t 1).val * 512 + a.val)) ?_ rfl
      pointwise [k0_pay18, k0_pay16, k0_pay17]
      exact Ideal.mul_congr (blk3 m c t x1 1 a) (blk3 m c t x1 2 a)
    · refine Ideal.add_congr ?_ rfl
      rw [View.readCov_skip _ _ _ _ _ rfl, View.readCov_fill _ _ _ _ _ (by decide)]; pointwise [k0_pay24]
  · idx_vars x
    obtain rfl : x0 = 0 := Subsingleton.elim _ _
    refine block8 m c t x1 0 y (by omega) h1 _ _ ?_
    refine Eq.trans (tap0_at (grid0.coords t) x1 (z := zrow (V m c main_v2) (lane t x1)) (p0 := prow (V m c main_v7) 0 (lane t x1)) (f := prv (cu (V m c main_v7) (lane t x1))) (fun a => ?_) (fun a => ?_) (fun a => ?_)) ?_
    · exact blk0 m c t x1 a
    · pointwise; exact blk3 m c t x1 0 a
    · refine prev_at (grid0.coords t) x1 (p1 := prow (V m c main_v7) 1 (lane t x1)) (p2 := prow (V m c main_v7) 2 (lane t x1)) (fun a => ?_) (fun a => ?_) (fun h => ?_) (fun h => ?_) a
      · pointwise; exact blk3 m c t x1 1 a
      · pointwise; exact blk3 m c t x1 2 a
      · pointwise; exact blk4 m c t x1 1 h
      · pointwise; exact blk4 m c t x1 2 h
    · refine Ideal.add_congr ?_ rfl
      rw [View.readCov_fill _ _ _ _ _ (by decide)]; pointwise [k0_pay24]

theorem step8 (c : Dev nD) (t : Fin cfg0.N) (hz : ¬t.val % 9 = 0) (y : S3x256.Idx) : (outsAt0 m c t.val t.isLt).2 y
    = (outsAt0 m c (t.val - 1) (Nat.lt_of_le_of_lt (Nat.sub_le _ _) t.isLt)).2 y + part m c t y := by
  rw [outsAt0_B m c t hz]; frame_out
  canon_tiles x h
  · idx_vars x
    obtain rfl : x0 = 0 := Subsingleton.elim _ _
    refine block8 m c t x1 2 y (by omega) h1 _ _ ?_
    refine Eq.trans (tap2_at (grid0.coords t) x1 (z := zrow (V m c main_v2) (lane t x1)) (p0 := prow (V m c main_v7) 0 (lane t x1)) (f := nxt (cu (V m c main_v7) (lane t x1))) (fun a => ?_) (fun a => ?_) (fun a => ?_)) ?_
    · exact blk0 m c t x1 a
    · pointwise; exact blk3 m c t x1 0 a
    · refine next_at (grid0.coords t) x1 (p1 := prow (V m c main_v7) 1 (lane t x1)) (p2 := prow (V m c main_v7) 2 (lane t x1)) (fun a => ?_) (fun a => ?_) (fun h => ?_) (fun h => ?_) a
      · pointwise; exact blk3 m c t x1 1 a
      · pointwise; exact blk3 m c t x1 2 a
      · pointwise; exact blk5 m c t x1 1 h
      · pointwise; exact blk5 m c t x1 2 h
    · refine Ideal.add_congr ?_ rfl
      pointwise
      exact congrArg (outsAt0 m c (t.val - 1) _).2 ((eq_ix2 y).trans (congrArg₂ ix2 (Fin.ext (h0.trans rfl)) (Fin.ext h1))).symm
  · idx_vars x
    obtain rfl : x0 = 0 := Subsingleton.elim _ _
    refine block8 m c t x1 1 y (by omega) h1 _ _ ?_
    refine Eq.trans (tap1_at (grid0.coords t) x1 (z := zrow (V m c main_v2) (lane t x1)) (p0 := prow (V m c main_v7) 0 (lane t x1)) (f := cu (V m c main_v7) (lane t x1)) (fun a => ?_) (fun a => ?_) (fun a => ?_)) ?_
    · exact blk0 m c t x1 a
    · pointwise; exact blk3 m c t x1 0 a
    · refine Eq.trans (b := prow (V m c main_v7) 1 (lane t x1) ((grid0.coords t 1).val * 512 + a.val) * prow (V m c main_v7) 2 (lane t x1) ((grid0.coords t 1).val * 512 + a.val)) ?_ rfl
      pointwise [k0_pay18, k0_pay16, k0_pay17]
      exact Ideal.mul_congr (blk3 m c t x1 1 a) (blk3 m c t x1 2 a)
    · refine Ideal.add_congr ?_ rfl
      pointwise
      exact congrArg (outsAt0 m c (t.val - 1) _).2 ((eq_ix2 y).trans (congrArg₂ ix2 (Fin.ext (h0.trans rfl)) (Fin.ext h1))).symm
  · idx_vars x
    obtain rfl : x0 = 0 := Subsingleton.elim _ _
    refine block8 m c t x1 0 y (by omega) h1 _ _ ?_
    refine Eq.trans (tap0_at (grid0.coords t) x1 (z := zrow (V m c main_v2) (lane t x1)) (p0 := prow (V m c main_v7) 0 (lane t x1)) (f := prv (cu (V m c main_v7) (lane t x1))) (fun a => ?_) (fun a => ?_) (fun a => ?_)) ?_
    · exact blk0 m c t x1 a
    · pointwise; exact blk3 m c t x1 0 a
    · refine prev_at (grid0.coords t) x1 (p1 := prow (V m c main_v7) 1 (lane t x1)) (p2 := prow (V m c main_v7) 2 (lane t x1)) (fun a => ?_) (fun a => ?_) (fun h => ?_) (fun h => ?_) a
      · pointwise; exact blk3 m c t x1 1 a
      · pointwise; exact blk3 m c t x1 2 a
      · pointwise; exact blk4 m c t x1 1 h
      · pointwise; exact blk4 m c t x1 2 h
    · refine Ideal.add_congr ?_ rfl
      pointwise
      exact congrArg (outsAt0 m c (t.val - 1) _).2 ((eq_ix2 y).trans (congrArg₂ ix2 (Fin.ext (h0.trans rfl)) (Fin.ext h1))).symm

/-- The taps' gradient written back. -/
theorem final8 (c : Dev nD) : (dats m 0 c).arrAt 8 (cfgs 0).N = dw (V m c main_v2) (V m c main_v7) := by
  refine (dats m 0 c).arrAt_eq_of_covers 8 _ (by decide +kernel) fun t hf y => ?_
  blk_simp
  have hm := (flush0_8 t).mp hf
  rw [after0_8, Pipeline.eq_sum_fin_of_reset_step_apply_of_flush (fun n h => (outsAt0 m c n h).2) 9 (fun _ => 0) _
    (reset8 m c) (step8 m c) t hm _, zero_add]
  unfold dw
  refine Fin.sum_mul_add_congr fun s a hl => ?_
  have hi := idx ⟨_, Pipeline.run_point_lt_of_flush t hm s⟩
  have hc := hi.2.2.2.2.2.2.2.2.2.1
  refine tapAt_congr ?_ (Fin.ext ?_) ?_
  · blk_simp [idx t]
  · show (9 * (t.val / 9) + s.val) / 9 * 256 + (y 1).val = _
    blk_simp [idx t]; omega
  · rw [hc]; show (9 * (t.val / 9) + s.val) % 9 * 512 + a.val = s.val * 512 + a.val
    omega
end Cert.KConvIdeal.Rows
-- ==== Proof.ConvHost.lean ====
module

public import proofs.«01_k».proof.Proof.ConvTaps

@[expose] public section
set_option maxRecDepth 16384
noncomputable section
open Idealize.ShloMosaic Idealize.ShloMosaic.TcCoe Idealize.SL.Sem
open Idealize.ShloMosaic.Pipeline (Dat)
namespace Cert.KConvIdeal.Rows
open Cert.KConvIdeal Cert.KConvIdeal.Gen
variable (m : (ℓ : Loc nD τ sig) → Buf (Elt Ideal) ℓ)

/-- The rows of both streams of the cotangent, one after the other. -/
def zcat (X : FVec Ideal S2x2048x1024 .f32) (Y : FVec Ideal S2x256x1024 .f32) : FVec Ideal S4608x1024 .f32 :=
  concatenate S4608x1024 0 [⟨S4096x1024, shapeCast S4096x1024 X shapeCasts_S2x2048x1024_S4096x1024⟩, ⟨S512x1024, shapeCast S512x1024 Y shapeCasts_S2x256x1024_S512x1024⟩]
    concatenates_S4096x1024_S512x1024_S4608x1024_d0

theorem zcat_x (X Y) (b : Fin 2) (n : Fin 2048) (d : Fin 1024) : zcat X Y (ix2 ⟨b.val * 2048 + n.val, by omega⟩ d) = X (ix3 b n d) := by
  pointwise [zcat]
  exact dif_pos (by omega)
theorem zcat_c (X Y) (b : Fin 2) (n : Fin 256) (d : Fin 1024) : zcat X Y (ix2 ⟨4096 + b.val * 256 + n.val, by omega⟩ d) = Y (ix3 b n d) := by
  pointwise [zcat]
  rw [dif_neg (by omega)]
  blk_ext
theorem host2 (c : Dev nD) : V m c main_v2 = zcat (m ((c : Thread nD τ).loc main_arg0)) (m ((c : Thread nD τ).loc main_arg1)) := by
  unfold V
  entry_read
  rfl

/-- The gates of both streams, one after the other, the gate first. -/
def pcat (X : FVec Ideal S2x2048x3072 .f32) (Y : FVec Ideal S2x256x3072 .f32) : FVec Ideal S3x4608x1024 .f32 :=
  transpose S3x4608x1024 [1, 0, 2] (shapeCast S4608x3x1024 (concatenate S4608x3072 0 [⟨S4096x3072, shapeCast S4096x3072 X shapeCasts_S2x2048x3072_S4096x3072⟩, ⟨S512x3072, shapeCast S512x3072 Y shapeCasts_S2x256x3072_S512x3072⟩]
    concatenates_S4096x3072_S512x3072_S4608x3072_d0) shapeCasts_S4608x3072_S4608x3x1024) transposes_S4608x3x1024_S3x4608x1024_1_0_2

theorem pcat_x (X Y) (k : Fin 3) (b : Fin 2) (n : Fin 2048) (d : Fin 1024) : pcat X Y (ix3 k ⟨b.val * 2048 + n.val, by omega⟩ d) = X (ix3 b n ⟨k.val * 1024 + d.val, by omega⟩) := by
  pointwise [pcat]
  exact dif_pos (by omega)
theorem pcat_c (X Y) (k : Fin 3) (b : Fin 2) (n : Fin 256) (d : Fin 1024) : pcat X Y (ix3 k ⟨4096 + b.val * 256 + n.val, by omega⟩ d) = Y (ix3 b n ⟨k.val * 1024 + d.val, by omega⟩) := by
  pointwise [pcat]
  rw [dif_neg (by omega)]
  blk_ext
theorem host7 (c : Dev nD) : V m c main_v7 = pcat (m ((c : Thread nD τ).loc main_arg2)) (m ((c : Thread nD τ).loc main_arg3)) := by
  unfold V
  entry_read
  rfl
theorem host4 (c : Dev nD) : V m c main_arg4 = m ((c : Thread nD τ).loc main_arg4) := by
  unfold V
  entry_read
  rfl

theorem zrow_x (X Y) (b : Fin 2) (n : Fin 2048) (d : Fin 1024) : zrow (zcat X Y) d (b.val * 2048 + n.val) = X (ix3 b n d) :=
  Eq.trans (congrArg (fun r => zcat X Y (ix2 r d)) (Fin.ext (Nat.mod_eq_of_lt (by omega)))) (zcat_x X Y b n d)
theorem zrow_c (X Y) (b : Fin 2) (n : Fin 256) (d : Fin 1024) : zrow (zcat X Y) d (4096 + b.val * 256 + n.val) = Y (ix3 b n d) :=
  Eq.trans (congrArg (fun r => zcat X Y (ix2 r d)) (Fin.ext (Nat.mod_eq_of_lt (by omega)))) (zcat_c X Y b n d)
theorem prow_x (X Y) (k : Fin 3) (b : Fin 2) (n : Fin 2048) (d : Fin 1024) : prow (pcat X Y) k d (b.val * 2048 + n.val) = X (ix3 b n ⟨k.val * 1024 + d.val, by omega⟩) :=
  Eq.trans (congrArg (fun r => pcat X Y (ix3 k r d)) (Fin.ext (Nat.mod_eq_of_lt (by omega)))) (pcat_x X Y k b n d)
theorem prow_c (X Y) (k : Fin 3) (b : Fin 2) (n : Fin 256) (d : Fin 1024) : prow (pcat X Y) k d (4096 + b.val * 256 + n.val) = Y (ix3 b n ⟨k.val * 1024 + d.val, by omega⟩) :=
  Eq.trans (congrArg (fun r => pcat X Y (ix3 k r d)) (Fin.ext (Nat.mod_eq_of_lt (by omega)))) (pcat_c X Y k b n d)
end Cert.KConvIdeal.Rows
-- ==== Proof.ConvRef.lean ====
module

public import proofs.«01_k».proof.Proof.ConvBlock
public import proofs.«01_k».proof.Proof.Gen.RConvIdeal.Read
public import Idealize.ShloMosaic.Lib.Pipeline.ValueKit
public import Idealize.ShloMosaic.Lib.Pointwise

/-! The reference's gradient of the gated convolution, read row by row on both streams. `z`, `p0`, `p1`, `p2` are the rows of
one lane of the cotangent and of the three gates, `base` the place of the sequence's first row among all rows. -/

@[expose] public section
set_option maxRecDepth 16384
noncomputable section
open Idealize.ShloMosaic Idealize.ShloMosaic.TcCoe Idealize.SL.Sem
namespace Cert.RConvIdeal.Rows
open Cert.RConvIdeal Cert.RConvIdeal.Read Cert.KConvIdeal.Rows

theorem lt_g0 (d : Fin 1024) : d.val < 3072 := by omega
theorem lt_g1 (d : Fin 1024) : 1024 + d.val < 3072 := by omega
theorem lt_g2 (d : Fin 1024) : 2048 + d.val < 3072 := by omega

/-- A sum over the first two of three axes. -/
theorem sum_lead {n0 n1 n2 : ℕ} (h : (⟨3, ![n0, n1, n2]⟩ : Shape).ReducesTo [0, 1] ⟨1, ![n2]⟩) (v : (⟨3, ![n0, n1, n2]⟩ : Shape).Idx → EReal) (init : EReal) (d : Fin n2) :
    Ideal.hostReduceAdd h v init (ix1 d) = init + ∑ k0 : Fin n0, ∑ k1 : Fin n1, v (ix3 k0 k1 d) := by
  refine congrArg (init + ·) ((Finset.sum_filter_eq_sum_of_fiber _ (fun k : Fin n0 × Fin n1 => ix3 k.1 k.2 d)
    (fun _ _ e => Prod.ext (congrFun e 0) (congrFun e 1)) (fun i => ?_) v).trans ?_)
  · constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨k, rfl⟩
      funext b
      apply Fin.ext
      match b with
      | ⟨0, _⟩ => rfl
      | ⟨_ + 1, hb⟩ => exact absurd hb (by show ¬(_ + 1 < 1); omega)
  · simp only [Fintype.sum_prod_type]

theorem eq_at {f : ℕ → EReal} {r s : ℕ} (h : r = s) : f r = f s := by subst h; rfl

section xs
variable {X : FVec Ideal S2x2048x1024 .f32} {P : FVec Ideal S2x2048x3072 .f32} (W : FVec Ideal S3x1024 .f32) {z p0 p1 p2 : ℕ → EReal} {base : ℕ} (b : Fin 2) (d : Fin 1024)
  (hb : base = b.val * 2048) (hz : ∀ n : Fin 2048, X (ix3 b n d) = z (base + n.val))
  (h0 : ∀ n : Fin 2048, P (ix3 b n ⟨d.val, lt_g0 d⟩) = p0 (base + n.val))
  (h1 : ∀ n : Fin 2048, P (ix3 b n ⟨1024 + d.val, lt_g1 d⟩) = p1 (base + n.val))
  (h2 : ∀ n : Fin 2048, P (ix3 b n ⟨2048 + d.val, lt_g2 d⟩) = p2 (base + n.val))
include hb hz h0 h1 h2

theorem xs_first (n : Fin 2048) : First (base + n.val) ↔ n.val = 0 := by have := b.isLt; have := n.isLt; unfold First; split <;> omega
theorem xs_last (n : Fin 2048) : Last (base + n.val) ↔ n.val = 2047 := by have := b.isLt; have := n.isLt; unfold Last; split <;> omega

theorem xs_mid (n : Fin 2048) : val_main_v3 (F := Ideal) P (ix3 b n d) = p1 (base + n.val) * p2 (base + n.val) := by
  pointwise [val_main_v3, val_main_v1, val_main_v2, h1, h2]

theorem xs_prev (n : Fin 2048) : val_main_v7 (F := Ideal) P (ix3 b n d) = prv (fun r => p1 r * p2 r) (base + n.val) := by
  unfold prv
  by_cases hn : n.val = 0
  · rw [if_pos ((xs_first b d hb hz h0 h1 h2 n).mpr hn)]
    pointwise [val_main_v7, val_main_v5, val_main_cst, hn]
  · rw [if_neg fun h => hn ((xs_first b d hb hz h0 h1 h2 n).mp h)]
    pointwise [val_main_v7, val_main_v6, hn]
    rw [dif_neg (by omega)]
    exact (xs_mid b d hb hz h0 h1 h2 ⟨n.val - 1, by omega⟩).trans (eq_at (f := fun r => p1 r * p2 r) (by show base + (n.val - 1) = _; omega))

theorem xs_next (n : Fin 2048) : val_main_v10 (F := Ideal) P (ix3 b n d) = nxt (fun r => p1 r * p2 r) (base + n.val) := by
  unfold nxt
  by_cases hn : n.val = 2047
  · rw [if_pos ((xs_last b d hb hz h0 h1 h2 n).mpr hn)]
    pointwise [val_main_v10, val_main_v5, val_main_cst, hn]
  · rw [if_neg fun h => hn ((xs_last b d hb hz h0 h1 h2 n).mp h)]
    pointwise [val_main_v10, val_main_v9, hn]
    rw [dif_pos (by omega)]
    exact (xs_mid b d hb hz h0 h1 h2 ⟨1 + n.val, by omega⟩).trans (eq_at (f := fun r => p1 r * p2 r) (by show base + (1 + n.val) = _; omega))

theorem xs_conv (n : Fin 2048) : val_main_v28 (F := Ideal) P W (ix3 b n d)
    = conv (W (ix2 0 d)) (W (ix2 1 d)) (W (ix2 2 d)) (fun r => p1 r * p2 r) (base + n.val) := by
  pointwise [val_main_v28, val_main_v22, val_main_v16, val_main_v21, val_main_v27, val_main_v12, val_main_v13, val_main_v14, val_main_v15, val_main_v17, val_main_v18, val_main_v19, val_main_v20, val_main_v23, val_main_v24, val_main_v25, val_main_v26, xs_prev b d hb hz h0 h1 h2, xs_next b d hb hz h0 h1 h2, xs_mid b d hb hz h0 h1 h2]
  rfl

theorem xs_ct (n : Fin 2048) : val_main_v99 (F := Ideal) X P (ix3 b n d) = z (base + n.val) * p0 (base + n.val) := by
  pointwise [val_main_v99, val_main_v0, h0, hz]
  exact mul_comm _ _

theorem xs_u0 (n : Fin 2048) : val_main_v120 (F := Ideal) X P W (ix3 b n d) = W (ix2 0 d) * (z (base + n.val) * p0 (base + n.val)) := by
  pointwise [val_main_v120, val_main_v119, val_main_v12, val_main_v13, val_main_v14, xs_ct b d hb hz h0 h1 h2]
theorem xs_u2 (n : Fin 2048) : val_main_v102 (F := Ideal) X P W (ix3 b n d) = W (ix2 2 d) * (z (base + n.val) * p0 (base + n.val)) := by
  pointwise [val_main_v102, val_main_v101, val_main_v23, val_main_v24, val_main_v25, xs_ct b d hb hz h0 h1 h2]

theorem xs_up (n : Fin 2048) : val_main_v134 (F := Ideal) X P W (ix3 b n d) = W (ix2 0 d) * nxt (fun r => z r * p0 r) (base + n.val) := by
  unfold nxt
  by_cases hn : n.val = 2047
  · rw [if_pos ((xs_last b d hb hz h0 h1 h2 n).mpr hn), mul_zero]
    pointwise [val_main_v134, val_main_cst_26, hn]
  · rw [if_neg fun h => hn ((xs_last b d hb hz h0 h1 h2 n).mp h)]
    pointwise [val_main_v134, val_main_v133, hn]
    rw [dif_pos (by omega)]
    exact (xs_u0 W b d hb hz h0 h1 h2 ⟨1 + n.val, by omega⟩).trans (congrArg (_ * ·) (eq_at (f := fun r => z r * p0 r) (by show base + (1 + n.val) = _; omega)))

theorem xs_down (n : Fin 2048) : val_main_v130 (F := Ideal) X P W (ix3 b n d) = W (ix2 2 d) * prv (fun r => z r * p0 r) (base + n.val) := by
  unfold prv
  by_cases hn : n.val = 0
  · rw [if_pos ((xs_first b d hb hz h0 h1 h2 n).mpr hn), mul_zero]
    pointwise [val_main_v130, val_main_cst_25, hn]
  · rw [if_neg fun h => hn ((xs_first b d hb hz h0 h1 h2 n).mp h)]
    pointwise [val_main_v130, val_main_v128, hn]
    rw [dif_pos (by omega)]
    exact (xs_u2 W b d hb hz h0 h1 h2 ⟨n.val - 1, by omega⟩).trans (congrArg (_ * ·) (eq_at (f := fun r => z r * p0 r) (by show base + (n.val - 1) = _; omega)))

theorem xs_convT (n : Fin 2048) : val_main_v135 (F := Ideal) X P W (ix3 b n d)
    = convT (W (ix2 0 d)) (W (ix2 1 d)) (W (ix2 2 d)) (fun r => z r * p0 r) (base + n.val) := by
  pointwise [val_main_v135, val_main_v131, val_main_v111, val_main_v110, val_main_v17, val_main_v18, val_main_v19, xs_up W b d hb hz h0 h1 h2, xs_down W b d hb hz h0 h1 h2, xs_ct b d hb hz h0 h1 h2]
  unfold convT
  exact add_right_comm _ _ _

theorem xs_g0 (n : Fin 2048) : val_main_v100 (F := Ideal) X P W (ix3 b n d)
    = z (base + n.val) * conv (W (ix2 0 d)) (W (ix2 1 d)) (W (ix2 2 d)) (fun r => p1 r * p2 r) (base + n.val) := by
  pointwise [val_main_v100, hz, xs_conv W b d hb hz h0 h1 h2]
theorem xs_g1 (n : Fin 2048) : val_main_v137 (F := Ideal) X P W (ix3 b n d)
    = convT (W (ix2 0 d)) (W (ix2 1 d)) (W (ix2 2 d)) (fun r => z r * p0 r) (base + n.val) * p2 (base + n.val) := by
  pointwise [val_main_v137, val_main_v2, h2, xs_convT W b d hb hz h0 h1 h2]
theorem xs_g2 (n : Fin 2048) : val_main_v136 (F := Ideal) X P W (ix3 b n d)
    = convT (W (ix2 0 d)) (W (ix2 1 d)) (W (ix2 2 d)) (fun r => z r * p0 r) (base + n.val) * p1 (base + n.val) := by
  pointwise [val_main_v136, val_main_v1, h1, xs_convT W b d hb hz h0 h1 h2]
  exact mul_comm _ _

theorem xs_t0 (n : Fin 2048) : val_main_v121 (F := Ideal) X P (ix3 b n d) = z (base + n.val) * p0 (base + n.val) * prv (fun r => p1 r * p2 r) (base + n.val) := by
  pointwise [val_main_v121, xs_ct b d hb hz h0 h1 h2, xs_prev b d hb hz h0 h1 h2]
theorem xs_t1 (n : Fin 2048) : val_main_v112 (F := Ideal) X P (ix3 b n d) = z (base + n.val) * p0 (base + n.val) * (p1 (base + n.val) * p2 (base + n.val)) := by
  pointwise [val_main_v112, xs_ct b d hb hz h0 h1 h2, xs_mid b d hb hz h0 h1 h2]
theorem xs_t2 (n : Fin 2048) : val_main_v103 (F := Ideal) X P (ix3 b n d) = z (base + n.val) * p0 (base + n.val) * nxt (fun r => p1 r * p2 r) (base + n.val) := by
  pointwise [val_main_v103, xs_ct b d hb hz h0 h1 h2, xs_next b d hb hz h0 h1 h2]
end xs

section cs
variable {X : FVec Ideal S2x256x1024 .f32} {P : FVec Ideal S2x256x3072 .f32} (W : FVec Ideal S3x1024 .f32) {z p0 p1 p2 : ℕ → EReal} {base : ℕ} (b : Fin 2) (d : Fin 1024)
  (hb : base = 4096 + b.val * 256) (hz : ∀ n : Fin 256, X (ix3 b n d) = z (base + n.val))
  (h0 : ∀ n : Fin 256, P (ix3 b n ⟨d.val, lt_g0 d⟩) = p0 (base + n.val))
  (h1 : ∀ n : Fin 256, P (ix3 b n ⟨1024 + d.val, lt_g1 d⟩) = p1 (base + n.val))
  (h2 : ∀ n : Fin 256, P (ix3 b n ⟨2048 + d.val, lt_g2 d⟩) = p2 (base + n.val))
include hb hz h0 h1 h2

theorem cs_first (n : Fin 256) : First (base + n.val) ↔ n.val = 0 := by have := b.isLt; have := n.isLt; unfold First; split <;> omega
theorem cs_last (n : Fin 256) : Last (base + n.val) ↔ n.val = 255 := by have := b.isLt; have := n.isLt; unfold Last; split <;> omega

theorem cs_mid (n : Fin 256) : val_main_v33 (F := Ideal) P (ix3 b n d) = p1 (base + n.val) * p2 (base + n.val) := by
  pointwise [val_main_v33, val_main_v31, val_main_v32, h1, h2]

theorem cs_prev (n : Fin 256) : val_main_v37 (F := Ideal) P (ix3 b n d) = prv (fun r => p1 r * p2 r) (base + n.val) := by
  unfold prv
  by_cases hn : n.val = 0
  · rw [if_pos ((cs_first b d hb hz h0 h1 h2 n).mpr hn)]
    pointwise [val_main_v37, val_main_v35, val_main_cst_2, hn]
  · rw [if_neg fun h => hn ((cs_first b d hb hz h0 h1 h2 n).mp h)]
    pointwise [val_main_v37, val_main_v36, hn]
    rw [dif_neg (by omega)]
    exact (cs_mid b d hb hz h0 h1 h2 ⟨n.val - 1, by omega⟩).trans (eq_at (f := fun r => p1 r * p2 r) (by show base + (n.val - 1) = _; omega))

theorem cs_next (n : Fin 256) : val_main_v40 (F := Ideal) P (ix3 b n d) = nxt (fun r => p1 r * p2 r) (base + n.val) := by
  unfold nxt
  by_cases hn : n.val = 255
  · rw [if_pos ((cs_last b d hb hz h0 h1 h2 n).mpr hn)]
    pointwise [val_main_v40, val_main_v35, val_main_cst_2, hn]
  · rw [if_neg fun h => hn ((cs_last b d hb hz h0 h1 h2 n).mp h)]
    pointwise [val_main_v40, val_main_v39, hn]
    rw [dif_pos (by omega)]
    exact (cs_mid b d hb hz h0 h1 h2 ⟨1 + n.val, by omega⟩).trans (eq_at (f := fun r => p1 r * p2 r) (by show base + (1 + n.val) = _; omega))

theorem cs_conv (n : Fin 256) : val_main_v58 (F := Ideal) P W (ix3 b n d)
    = conv (W (ix2 0 d)) (W (ix2 1 d)) (W (ix2 2 d)) (fun r => p1 r * p2 r) (base + n.val) := by
  pointwise [val_main_v58, val_main_v52, val_main_v46, val_main_v51, val_main_v57, val_main_v42, val_main_v43, val_main_v44, val_main_v45, val_main_v47, val_main_v48, val_main_v49, val_main_v50, val_main_v53, val_main_v54, val_main_v55, val_main_v56, cs_prev b d hb hz h0 h1 h2, cs_next b d hb hz h0 h1 h2, cs_mid b d hb hz h0 h1 h2]
  rfl

theorem cs_ct (n : Fin 256) : val_main_v60 (F := Ideal) X P (ix3 b n d) = z (base + n.val) * p0 (base + n.val) := by
  pointwise [val_main_v60, val_main_v30, h0, hz]
  exact mul_comm _ _

theorem cs_u0 (n : Fin 256) : val_main_v80 (F := Ideal) X P W (ix3 b n d) = W (ix2 0 d) * (z (base + n.val) * p0 (base + n.val)) := by
  pointwise [val_main_v80, val_main_v79, val_main_v42, val_main_v43, val_main_v44, cs_ct b d hb hz h0 h1 h2]
theorem cs_u2 (n : Fin 256) : val_main_v63 (F := Ideal) X P W (ix3 b n d) = W (ix2 2 d) * (z (base + n.val) * p0 (base + n.val)) := by
  pointwise [val_main_v63, val_main_v62, val_main_v53, val_main_v54, val_main_v55, cs_ct b d hb hz h0 h1 h2]

theorem cs_up (n : Fin 256) : val_main_v94 (F := Ideal) X P W (ix3 b n d) = W (ix2 0 d) * nxt (fun r => z r * p0 r) (base + n.val) := by
  unfold nxt
  by_cases hn : n.val = 255
  · rw [if_pos ((cs_last b d hb hz h0 h1 h2 n).mpr hn), mul_zero]
    pointwise [val_main_v94, val_main_cst_15, hn]
  · rw [if_neg fun h => hn ((cs_last b d hb hz h0 h1 h2 n).mp h)]
    pointwise [val_main_v94, val_main_v93, hn]
    rw [dif_pos (by omega)]
    exact (cs_u0 W b d hb hz h0 h1 h2 ⟨1 + n.val, by omega⟩).trans (congrArg (_ * ·) (eq_at (f := fun r => z r * p0 r) (by show base + (1 + n.val) = _; omega)))

theorem cs_down (n : Fin 256) : val_main_v90 (F := Ideal) X P W (ix3 b n d) = W (ix2 2 d) * prv (fun r => z r * p0 r) (base + n.val) := by
  unfold prv
  by_cases hn : n.val = 0
  · rw [if_pos ((cs_first b d hb hz h0 h1 h2 n).mpr hn), mul_zero]
    pointwise [val_main_v90, val_main_cst_14, hn]
  · rw [if_neg fun h => hn ((cs_first b d hb hz h0 h1 h2 n).mp h)]
    pointwise [val_main_v90, val_main_v88, hn]
    rw [dif_pos (by omega)]
    exact (cs_u2 W b d hb hz h0 h1 h2 ⟨n.val - 1, by omega⟩).trans (congrArg (_ * ·) (eq_at (f := fun r => z r * p0 r) (by show base + (n.val - 1) = _; omega)))

theorem cs_convT (n : Fin 256) : val_main_v95 (F := Ideal) X P W (ix3 b n d)
    = convT (W (ix2 0 d)) (W (ix2 1 d)) (W (ix2 2 d)) (fun r => z r * p0 r) (base + n.val) := by
  pointwise [val_main_v95, val_main_v91, val_main_v71, val_main_v70, val_main_v47, val_main_v48, val_main_v49, cs_up W b d hb hz h0 h1 h2, cs_down W b d hb hz h0 h1 h2, cs_ct b d hb hz h0 h1 h2]
  unfold convT
  exact add_right_comm _ _ _

theorem cs_g0 (n : Fin 256) : val_main_v61 (F := Ideal) X P W (ix3 b n d)
    = z (base + n.val) * conv (W (ix2 0 d)) (W (ix2 1 d)) (W (ix2 2 d)) (fun r => p1 r * p2 r) (base + n.val) := by
  pointwise [val_main_v61, hz, cs_conv W b d hb hz h0 h1 h2]
theorem cs_g1 (n : Fin 256) : val_main_v97 (F := Ideal) X P W (ix3 b n d)
    = convT (W (ix2 0 d)) (W (ix2 1 d)) (W (ix2 2 d)) (fun r => z r * p0 r) (base + n.val) * p2 (base + n.val) := by
  pointwise [val_main_v97, val_main_v32, h2, cs_convT W b d hb hz h0 h1 h2]
theorem cs_g2 (n : Fin 256) : val_main_v96 (F := Ideal) X P W (ix3 b n d)
    = convT (W (ix2 0 d)) (W (ix2 1 d)) (W (ix2 2 d)) (fun r => z r * p0 r) (base + n.val) * p1 (base + n.val) := by
  pointwise [val_main_v96, val_main_v31, h1, cs_convT W b d hb hz h0 h1 h2]
  exact mul_comm _ _

theorem cs_t0 (n : Fin 256) : val_main_v81 (F := Ideal) X P (ix3 b n d) = z (base + n.val) * p0 (base + n.val) * prv (fun r => p1 r * p2 r) (base + n.val) := by
  pointwise [val_main_v81, cs_ct b d hb hz h0 h1 h2, cs_prev b d hb hz h0 h1 h2]
theorem cs_t1 (n : Fin 256) : val_main_v72 (F := Ideal) X P (ix3 b n d) = z (base + n.val) * p0 (base + n.val) * (p1 (base + n.val) * p2 (base + n.val)) := by
  pointwise [val_main_v72, cs_ct b d hb hz h0 h1 h2, cs_mid b d hb hz h0 h1 h2]
theorem cs_t2 (n : Fin 256) : val_main_v64 (F := Ideal) X P (ix3 b n d) = z (base + n.val) * p0 (base + n.val) * nxt (fun r => p1 r * p2 r) (base + n.val) := by
  pointwise [val_main_v64, cs_ct b d hb hz h0 h1 h2, cs_next b d hb hz h0 h1 h2]
end cs
end Cert.RConvIdeal.Rows
-- ==== Proof.Conv.lean ====
module

public import proofs.«01_k».proof.Proof.ConvHost
public import proofs.«01_k».proof.Proof.ConvRef
public import proofs.«01_k».proof.Proof.Gen.RConvIdeal.Run
public import proofs.«01_k».proof.Defs
public import Idealize.ShloMosaic.Lib.Claim

@[expose] public section
set_option maxRecDepth 16384
noncomputable section
open Idealize.ShloMosaic Idealize.ShloMosaic.TcCoe Idealize.SL.Sem
namespace Cert.KConvIdeal.Rows
open Cert.RConvIdeal.Read

section
variable (X0 : FVec Ideal Cert.RConvIdeal.S2x2048x1024 .f32) (X1 : FVec Ideal Cert.RConvIdeal.S2x256x1024 .f32) (X2 : FVec Ideal Cert.RConvIdeal.S2x2048x3072 .f32)
  (X3 : FVec Ideal Cert.RConvIdeal.S2x256x3072 .f32) (X4 : FVec Ideal Cert.RConvIdeal.S3x1024 .f32)

theorem third_x0 (b : Fin 2) (n : Fin 2048) (d : Fin 1024) :
    val_main_v139 (F := Ideal) X0 X2 X4 (ix3 b n d) = val_main_v100 (F := Ideal) X0 X2 X4 (ix3 b n d) := by
  pointwise [val_main_v139, val_main_v138]
theorem third_c0 (b : Fin 2) (n : Fin 256) (d : Fin 1024) :
    val_main_v142 (F := Ideal) X1 X3 X4 (ix3 b n d) = val_main_v61 (F := Ideal) X1 X3 X4 (ix3 b n d) := by
  pointwise [val_main_v142, val_main_v98]
theorem row_x0 (b : Fin 2) (n : Fin 2048) (d : Fin 1024) :
    val_main_v147 (F := Ideal) X0 X1 X2 X3 X4 (ix2 ⟨b.val * 2048 + n.val, by omega⟩ d) = val_main_v100 (F := Ideal) X0 X2 X4 (ix3 b n d) := by
  refine Eq.trans ?_ (third_x0 X0 X2 X4 b n d)
  pointwise [val_main_v147, val_main_v145]
  rw [dif_pos (by omega)]
theorem row_c0 (b : Fin 2) (n : Fin 256) (d : Fin 1024) :
    val_main_v147 (F := Ideal) X0 X1 X2 X3 X4 (ix2 ⟨4096 + b.val * 256 + n.val, by omega⟩ d) = val_main_v61 (F := Ideal) X1 X3 X4 (ix3 b n d) := by
  refine Eq.trans ?_ (third_c0 X1 X3 X4 b n d)
  pointwise [val_main_v147, val_main_v146]
  rw [dif_neg (by omega)]
  blk_ext
theorem third_x1 (b : Fin 2) (n : Fin 2048) (d : Fin 1024) :
    val_main_v140 (F := Ideal) X0 X2 X4 (ix3 b n d) = val_main_v137 (F := Ideal) X0 X2 X4 (ix3 b n d) := by
  pointwise [val_main_v140, val_main_v138]
  blk_ext
theorem third_c1 (b : Fin 2) (n : Fin 256) (d : Fin 1024) :
    val_main_v143 (F := Ideal) X1 X3 X4 (ix3 b n d) = val_main_v97 (F := Ideal) X1 X3 X4 (ix3 b n d) := by
  pointwise [val_main_v143, val_main_v98]
  blk_ext
theorem row_x1 (b : Fin 2) (n : Fin 2048) (d : Fin 1024) :
    val_main_v150 (F := Ideal) X0 X1 X2 X3 X4 (ix2 ⟨b.val * 2048 + n.val, by omega⟩ d) = val_main_v137 (F := Ideal) X0 X2 X4 (ix3 b n d) := by
  refine Eq.trans ?_ (third_x1 X0 X2 X4 b n d)
  pointwise [val_main_v150, val_main_v148]
  rw [dif_pos (by omega)]
theorem row_c1 (b : Fin 2) (n : Fin 256) (d : Fin 1024) :
    val_main_v150 (F := Ideal) X0 X1 X2 X3 X4 (ix2 ⟨4096 + b.val * 256 + n.val, by omega⟩ d) = val_main_v97 (F := Ideal) X1 X3 X4 (ix3 b n d) := by
  refine Eq.trans ?_ (third_c1 X1 X3 X4 b n d)
  pointwise [val_main_v150, val_main_v149]
  rw [dif_neg (by omega)]
  blk_ext
theorem third_x2 (b : Fin 2) (n : Fin 2048) (d : Fin 1024) :
    val_main_v141 (F := Ideal) X0 X2 X4 (ix3 b n d) = val_main_v136 (F := Ideal) X0 X2 X4 (ix3 b n d) := by
  pointwise [val_main_v141, val_main_v138]
  rw [dif_neg (by omega), dif_neg (by omega)]
  blk_ext
theorem third_c2 (b : Fin 2) (n : Fin 256) (d : Fin 1024) :
    val_main_v144 (F := Ideal) X1 X3 X4 (ix3 b n d) = val_main_v96 (F := Ideal) X1 X3 X4 (ix3 b n d) := by
  pointwise [val_main_v144, val_main_v98]
  rw [dif_neg (by omega), dif_neg (by omega)]
  blk_ext
theorem row_x2 (b : Fin 2) (n : Fin 2048) (d : Fin 1024) :
    val_main_v153 (F := Ideal) X0 X1 X2 X3 X4 (ix2 ⟨b.val * 2048 + n.val, by omega⟩ d) = val_main_v136 (F := Ideal) X0 X2 X4 (ix3 b n d) := by
  refine Eq.trans ?_ (third_x2 X0 X2 X4 b n d)
  pointwise [val_main_v153, val_main_v151]
  rw [dif_pos (by omega)]
theorem row_c2 (b : Fin 2) (n : Fin 256) (d : Fin 1024) :
    val_main_v153 (F := Ideal) X0 X1 X2 X3 X4 (ix2 ⟨4096 + b.val * 256 + n.val, by omega⟩ d) = val_main_v96 (F := Ideal) X1 X3 X4 (ix3 b n d) := by
  refine Eq.trans ?_ (third_c2 X1 X3 X4 b n d)
  pointwise [val_main_v153, val_main_v152]
  rw [dif_neg (by omega)]
  blk_ext
theorem stack (r : Fin 4608) (d : Fin 1024) (k : Fin 3) :
    val_main_v157 (F := Ideal) X0 X1 X2 X3 X4 (ix3 k r d) = if k.val = 0 then val_main_v147 (F := Ideal) X0 X1 X2 X3 X4 (ix2 r d)
      else if k.val = 1 then val_main_v150 (F := Ideal) X0 X1 X2 X3 X4 (ix2 r d) else val_main_v153 (F := Ideal) X0 X1 X2 X3 X4 (ix2 r d) := by
  pointwise [val_main_v157, val_main_v156, val_main_v155, val_main_v154]
  by_cases h0 : k.val = 0
  · rw [dif_pos (by omega), if_pos h0]
  · rw [dif_neg (by omega), if_neg h0]
    by_cases h1 : k.val = 1
    · rw [dif_pos (by omega), if_pos h1]
    · rw [dif_neg (by omega), if_neg h1]

/-- Rows of both streams, one after the other. -/
theorem row_cases (Q : Fin 4608 → Prop) (hx : ∀ (b : Fin 2) (n : Fin 2048), Q ⟨b.val * 2048 + n.val, by omega⟩)
    (hc : ∀ (b : Fin 2) (n : Fin 256), Q ⟨4096 + b.val * 256 + n.val, by omega⟩) (r : Fin 4608) : Q r := by
  by_cases h : r.val < 4096
  · have e : r = ⟨(⟨r.val / 2048, by omega⟩ : Fin 2).val * 2048 + (⟨r.val % 2048, Nat.mod_lt _ (by decide)⟩ : Fin 2048).val, by show r.val / 2048 * 2048 + r.val % 2048 < _; omega⟩ :=
      Fin.ext (by show r.val = r.val / 2048 * 2048 + r.val % 2048; omega)
    rw [e]; exact hx _ _
  · have e : r = ⟨4096 + (⟨(r.val - 4096) / 256, by omega⟩ : Fin 2).val * 256 + (⟨(r.val - 4096) % 256, Nat.mod_lt _ (by decide)⟩ : Fin 256).val, by show 4096 + (r.val - 4096) / 256 * 256 + (r.val - 4096) % 256 < _; omega⟩ :=
      Fin.ext (by show r.val = 4096 + (r.val - 4096) / 256 * 256 + (r.val - 4096) % 256; omega)
    rw [e]; exact hc _ _

theorem ref7 : val_main_v157 (F := Ideal) X0 X1 X2 X3 X4 = dp (zcat X0 X1) (pcat X2 X3) X4 := by
  funext j
  rw [eq_ix3 j]
  generalize hd : j 2 = d
  generalize hk : j 0 = k
  refine row_cases (fun r => val_main_v157 (F := Ideal) X0 X1 X2 X3 X4 (ix3 k r d) = dp (zcat X0 X1) (pcat X2 X3) X4 (ix3 k r d)) (fun b n => ?_) (fun b n => ?_) (j 1)
  · refine (stack X0 X1 X2 X3 X4 _ d k).trans ?_
    unfold dp
    show _ = if k.val = 0 then zrow (zcat X0 X1) d (b.val * 2048 + n.val) * conv (X4 (ix2 0 d)) (X4 (ix2 1 d)) (X4 (ix2 2 d)) (cu (pcat X2 X3) d) (b.val * 2048 + n.val)
      else convT (X4 (ix2 0 d)) (X4 (ix2 1 d)) (X4 (ix2 2 d)) (ct (zcat X0 X1) (pcat X2 X3) d) (b.val * 2048 + n.val) * prow (pcat X2 X3) (if k.val = 1 then 2 else 1) d (b.val * 2048 + n.val)
    by_cases h0 : k.val = 0
    · rw [if_pos h0, if_pos h0]
      exact (row_x0 X0 X1 X2 X3 X4 b n d).trans (Cert.RConvIdeal.Rows.xs_g0 (z := zrow (zcat X0 X1) d) (p0 := prow (pcat X2 X3) 0 d) (p1 := prow (pcat X2 X3) 1 d) (p2 := prow (pcat X2 X3) 2 d) X4 b d rfl (fun n => (zrow_x X0 X1 b n d).symm)
        (fun n => Eq.trans (congrArg (fun q => X2 (ix3 b n q)) (Fin.ext (by show d.val = 0 * 1024 + d.val; omega))) (prow_x X2 X3 0 b n d).symm) (fun n => Eq.trans (congrArg (fun q => X2 (ix3 b n q)) (Fin.ext (by show 1024 + d.val = 1 * 1024 + d.val; omega))) (prow_x X2 X3 1 b n d).symm) (fun n => Eq.trans (congrArg (fun q => X2 (ix3 b n q)) (Fin.ext (by show 2048 + d.val = 2 * 1024 + d.val; omega))) (prow_x X2 X3 2 b n d).symm) n)
    · rw [if_neg h0, if_neg h0]
      by_cases h1 : k.val = 1
      · rw [if_pos h1, if_pos h1]
        exact (row_x1 X0 X1 X2 X3 X4 b n d).trans (Cert.RConvIdeal.Rows.xs_g1 (z := zrow (zcat X0 X1) d) (p0 := prow (pcat X2 X3) 0 d) (p1 := prow (pcat X2 X3) 1 d) (p2 := prow (pcat X2 X3) 2 d) X4 b d rfl (fun n => (zrow_x X0 X1 b n d).symm)
        (fun n => Eq.trans (congrArg (fun q => X2 (ix3 b n q)) (Fin.ext (by show d.val = 0 * 1024 + d.val; omega))) (prow_x X2 X3 0 b n d).symm) (fun n => Eq.trans (congrArg (fun q => X2 (ix3 b n q)) (Fin.ext (by show 1024 + d.val = 1 * 1024 + d.val; omega))) (prow_x X2 X3 1 b n d).symm) (fun n => Eq.trans (congrArg (fun q => X2 (ix3 b n q)) (Fin.ext (by show 2048 + d.val = 2 * 1024 + d.val; omega))) (prow_x X2 X3 2 b n d).symm) n)
      · rw [if_neg h1, if_neg h1]
        exact (row_x2 X0 X1 X2 X3 X4 b n d).trans (Cert.RConvIdeal.Rows.xs_g2 (z := zrow (zcat X0 X1) d) (p0 := prow (pcat X2 X3) 0 d) (p1 := prow (pcat X2 X3) 1 d) (p2 := prow (pcat X2 X3) 2 d) X4 b d rfl (fun n => (zrow_x X0 X1 b n d).symm)
        (fun n => Eq.trans (congrArg (fun q => X2 (ix3 b n q)) (Fin.ext (by show d.val = 0 * 1024 + d.val; omega))) (prow_x X2 X3 0 b n d).symm) (fun n => Eq.trans (congrArg (fun q => X2 (ix3 b n q)) (Fin.ext (by show 1024 + d.val = 1 * 1024 + d.val; omega))) (prow_x X2 X3 1 b n d).symm) (fun n => Eq.trans (congrArg (fun q => X2 (ix3 b n q)) (Fin.ext (by show 2048 + d.val = 2 * 1024 + d.val; omega))) (prow_x X2 X3 2 b n d).symm) n)
  · refine (stack X0 X1 X2 X3 X4 _ d k).trans ?_
    unfold dp
    show _ = if k.val = 0 then zrow (zcat X0 X1) d (4096 + b.val * 256 + n.val) * conv (X4 (ix2 0 d)) (X4 (ix2 1 d)) (X4 (ix2 2 d)) (cu (pcat X2 X3) d) (4096 + b.val * 256 + n.val)
      else convT (X4 (ix2 0 d)) (X4 (ix2 1 d)) (X4 (ix2 2 d)) (ct (zcat X0 X1) (pcat X2 X3) d) (4096 + b.val * 256 + n.val) * prow (pcat X2 X3) (if k.val = 1 then 2 else 1) d (4096 + b.val * 256 + n.val)
    by_cases h0 : k.val = 0
    · rw [if_pos h0, if_pos h0]
      exact (row_c0 X0 X1 X2 X3 X4 b n d).trans (Cert.RConvIdeal.Rows.cs_g0 (z := zrow (zcat X0 X1) d) (p0 := prow (pcat X2 X3) 0 d) (p1 := prow (pcat X2 X3) 1 d) (p2 := prow (pcat X2 X3) 2 d) X4 b d rfl (fun n => (zrow_c X0 X1 b n d).symm)
        (fun n => Eq.trans (congrArg (fun q => X3 (ix3 b n q)) (Fin.ext (by show d.val = 0 * 1024 + d.val; omega))) (prow_c X2 X3 0 b n d).symm) (fun n => Eq.trans (congrArg (fun q => X3 (ix3 b n q)) (Fin.ext (by show 1024 + d.val = 1 * 1024 + d.val; omega))) (prow_c X2 X3 1 b n d).symm) (fun n => Eq.trans (congrArg (fun q => X3 (ix3 b n q)) (Fin.ext (by show 2048 + d.val = 2 * 1024 + d.val; omega))) (prow_c X2 X3 2 b n d).symm) n)
    · rw [if_neg h0, if_neg h0]
      by_cases h1 : k.val = 1
      · rw [if_pos h1, if_pos h1]
        exact (row_c1 X0 X1 X2 X3 X4 b n d).trans (Cert.RConvIdeal.Rows.cs_g1 (z := zrow (zcat X0 X1) d) (p0 := prow (pcat X2 X3) 0 d) (p1 := prow (pcat X2 X3) 1 d) (p2 := prow (pcat X2 X3) 2 d) X4 b d rfl (fun n => (zrow_c X0 X1 b n d).symm)
        (fun n => Eq.trans (congrArg (fun q => X3 (ix3 b n q)) (Fin.ext (by show d.val = 0 * 1024 + d.val; omega))) (prow_c X2 X3 0 b n d).symm) (fun n => Eq.trans (congrArg (fun q => X3 (ix3 b n q)) (Fin.ext (by show 1024 + d.val = 1 * 1024 + d.val; omega))) (prow_c X2 X3 1 b n d).symm) (fun n => Eq.trans (congrArg (fun q => X3 (ix3 b n q)) (Fin.ext (by show 2048 + d.val = 2 * 1024 + d.val; omega))) (prow_c X2 X3 2 b n d).symm) n)
      · rw [if_neg h1, if_neg h1]
        exact (row_c2 X0 X1 X2 X3 X4 b n d).trans (Cert.RConvIdeal.Rows.cs_g2 (z := zrow (zcat X0 X1) d) (p0 := prow (pcat X2 X3) 0 d) (p1 := prow (pcat X2 X3) 1 d) (p2 := prow (pcat X2 X3) 2 d) X4 b d rfl (fun n => (zrow_c X0 X1 b n d).symm)
        (fun n => Eq.trans (congrArg (fun q => X3 (ix3 b n q)) (Fin.ext (by show d.val = 0 * 1024 + d.val; omega))) (prow_c X2 X3 0 b n d).symm) (fun n => Eq.trans (congrArg (fun q => X3 (ix3 b n q)) (Fin.ext (by show 1024 + d.val = 1 * 1024 + d.val; omega))) (prow_c X2 X3 1 b n d).symm) (fun n => Eq.trans (congrArg (fun q => X3 (ix3 b n q)) (Fin.ext (by show 2048 + d.val = 2 * 1024 + d.val; omega))) (prow_c X2 X3 2 b n d).symm) n)

theorem sum_x (v : FVec Ideal Cert.RConvIdeal.S2x2048x1024 .f32) (i1 i2 : FVec Ideal Cert.RConvIdeal.S_ .f32) (d : Fin 1024) (h1 h2 hs u1 u2) (e1 : i1 (Shape.Idx.first u1) = 0) (e2 : i2 (Shape.Idx.first u2) = 0) :
    Ideal.hostReduceAdd (t := Cert.RConvIdeal.S1024) (axes := [0, 1]) h1 (shapeCast Cert.RConvIdeal.S1x1x1024
      (Host.reduceAdd (t := Cert.RConvIdeal.S1024) (axes := [0, 1]) v i1 h2 u1) hs) (i2 (Shape.Idx.first u2)) (ix1 d) = ∑ b : Fin 2, ∑ n : Fin 2048, v (ix3 b n d) := by
  rw [Cert.RConvIdeal.Rows.sum_lead, e2]
  pointwise
  simp only [Finset.univ_unique, Finset.sum_singleton]
  rw [Cert.RConvIdeal.Rows.sum_lead, e1, zero_add]
theorem sum_c (v : FVec Ideal Cert.RConvIdeal.S2x256x1024 .f32) (i1 i2 : FVec Ideal Cert.RConvIdeal.S_ .f32) (d : Fin 1024) (h1 h2 hs u1 u2) (e1 : i1 (Shape.Idx.first u1) = 0) (e2 : i2 (Shape.Idx.first u2) = 0) :
    Ideal.hostReduceAdd (t := Cert.RConvIdeal.S1024) (axes := [0, 1]) h1 (shapeCast Cert.RConvIdeal.S1x1x1024
      (Host.reduceAdd (t := Cert.RConvIdeal.S1024) (axes := [0, 1]) v i1 h2 u1) hs) (i2 (Shape.Idx.first u2)) (ix1 d) = ∑ b : Fin 2, ∑ n : Fin 256, v (ix3 b n d) := by
  rw [Cert.RConvIdeal.Rows.sum_lead, e2]
  pointwise
  simp only [Finset.univ_unique, Finset.sum_singleton]
  rw [Cert.RConvIdeal.Rows.sum_lead, e1, zero_add]
theorem tap_x2 (z : Fin 1) (d : Fin 1024) : val_main_v107 (F := Ideal) X0 X2 (ix2 z d) = ∑ b : Fin 2, ∑ n : Fin 2048, val_main_v103 (F := Ideal) X0 X2 (ix3 b n d) := by
  obtain rfl : z = 0 := Subsingleton.elim _ _
  pointwise [val_main_v107, val_main_v106, val_main_v105, val_main_v104]
  exact sum_x _ _ _ d _ _ _ _ _ (by pointwise [val_main_cst_16]) (by pointwise [val_main_cst_17])
theorem tap_x1 (z : Fin 1) (d : Fin 1024) : val_main_v116 (F := Ideal) X0 X2 (ix2 z d) = ∑ b : Fin 2, ∑ n : Fin 2048, val_main_v112 (F := Ideal) X0 X2 (ix3 b n d) := by
  obtain rfl : z = 0 := Subsingleton.elim _ _
  pointwise [val_main_v116, val_main_v115, val_main_v114, val_main_v113]
  exact sum_x _ _ _ d _ _ _ _ _ (by pointwise [val_main_cst_19]) (by pointwise [val_main_cst_20])
theorem tap_x0 (z : Fin 1) (d : Fin 1024) : val_main_v125 (F := Ideal) X0 X2 (ix2 z d) = ∑ b : Fin 2, ∑ n : Fin 2048, val_main_v121 (F := Ideal) X0 X2 (ix3 b n d) := by
  obtain rfl : z = 0 := Subsingleton.elim _ _
  pointwise [val_main_v125, val_main_v124, val_main_v123, val_main_v122]
  exact sum_x _ _ _ d _ _ _ _ _ (by pointwise [val_main_cst_22]) (by pointwise [val_main_cst_23])
theorem tap_c2 (z : Fin 1) (d : Fin 1024) : val_main_v68 (F := Ideal) X1 X3 (ix2 z d) = ∑ b : Fin 2, ∑ n : Fin 256, val_main_v64 (F := Ideal) X1 X3 (ix3 b n d) := by
  obtain rfl : z = 0 := Subsingleton.elim _ _
  pointwise [val_main_v68, val_main_v67, val_main_v66, val_main_v65]
  exact sum_c _ _ _ d _ _ _ _ _ (by pointwise [val_main_cst_5]) (by pointwise [val_main_cst_6])
theorem tap_c1 (z : Fin 1) (d : Fin 1024) : val_main_v76 (F := Ideal) X1 X3 (ix2 z d) = ∑ b : Fin 2, ∑ n : Fin 256, val_main_v72 (F := Ideal) X1 X3 (ix3 b n d) := by
  obtain rfl : z = 0 := Subsingleton.elim _ _
  pointwise [val_main_v76, val_main_v75, val_main_v74, val_main_v73]
  exact sum_c _ _ _ d _ _ _ _ _ (by pointwise [val_main_cst_8]) (by pointwise [val_main_cst_9])
theorem tap_c0 (z : Fin 1) (d : Fin 1024) : val_main_v85 (F := Ideal) X1 X3 (ix2 z d) = ∑ b : Fin 2, ∑ n : Fin 256, val_main_v81 (F := Ideal) X1 X3 (ix3 b n d) := by
  obtain rfl : z = 0 := Subsingleton.elim _ _
  pointwise [val_main_v85, val_main_v84, val_main_v83, val_main_v82]
  exact sum_c _ _ _ d _ _ _ _ _ (by pointwise [val_main_cst_11]) (by pointwise [val_main_cst_12])

theorem split_rows (f : ℕ → EReal) : ∑ r : Fin 4608, f r.val = (∑ b : Fin 2, ∑ n : Fin 2048, f (b.val * 2048 + n.val)) + ∑ b : Fin 2, ∑ n : Fin 256, f (4096 + b.val * 256 + n.val) := by
  refine (Fin.sum_univ_add (a := 4096) (b := 512) fun r => f r.val).trans (congrArg₂ (· + ·) ?_ ?_)
  · exact Fin.sum_univ_tiles 2 2048 rfl fun r : Fin 4096 => f r.val
  · refine (Fin.sum_univ_tiles 2 256 rfl fun r : Fin 512 => f (4096 + r.val)).trans ?_
    simp only [Nat.add_assoc]

theorem ref8_at (k : Fin 3) (d : Fin 1024) : val_main_v127 (F := Ideal) X0 X1 X2 X3 (ix2 k d) =
    (∑ b : Fin 2, ∑ n : Fin 2048, (if k.val = 0 then val_main_v121 (F := Ideal) X0 X2 (ix3 b n d) else if k.val = 1 then val_main_v112 (F := Ideal) X0 X2 (ix3 b n d) else val_main_v103 (F := Ideal) X0 X2 (ix3 b n d)))
    + ∑ b : Fin 2, ∑ n : Fin 256, (if k.val = 0 then val_main_v81 (F := Ideal) X1 X3 (ix3 b n d) else if k.val = 1 then val_main_v72 (F := Ideal) X1 X3 (ix3 b n d) else val_main_v64 (F := Ideal) X1 X3 (ix3 b n d)) := by
  pointwise [val_main_v127, val_main_v126, val_main_v118, val_main_v117, val_main_v109, val_main_v108, val_main_v87, val_main_v86, val_main_v78, val_main_v77, val_main_v69,
    val_main_cst_7, val_main_cst_10, val_main_cst_13, val_main_cst_18, val_main_cst_21, val_main_cst_24]
  simp only [tap_x0, tap_x1, tap_x2, tap_c0, tap_c1, tap_c2]
  by_cases h0 : k.val = 0
  · simp [h0, add_comm]
  · by_cases h1 : k.val = 1
    · simp [h1, add_comm]
    · have h2 : k.val = 2 := by omega
      simp [h2, add_comm]

theorem dw_at (Z : FVec Ideal Cert.KConvIdeal.S4608x1024 .f32) (P : FVec Ideal Cert.KConvIdeal.S3x4608x1024 .f32) (k : Fin 3) (d : Fin 1024) :
    dw Z P (ix2 k d) = (∑ b : Fin 2, ∑ n : Fin 2048, tapAt Z P k.val d (b.val * 2048 + n.val)) + ∑ b : Fin 2, ∑ n : Fin 256, tapAt Z P k.val d (4096 + b.val * 256 + n.val) :=
  split_rows fun r => tapAt Z P k.val d r
theorem tap_row_x (k : Fin 3) (b : Fin 2) (n : Fin 2048) (d : Fin 1024) :
    (if k.val = 0 then val_main_v121 (F := Ideal) X0 X2 (ix3 b n d) else if k.val = 1 then val_main_v112 (F := Ideal) X0 X2 (ix3 b n d) else val_main_v103 (F := Ideal) X0 X2 (ix3 b n d))
      = tapAt (zcat X0 X1) (pcat X2 X3) k.val d (b.val * 2048 + n.val) := by
  unfold tapAt tapRow
  by_cases h0 : k.val = 0
  · rw [if_pos h0, if_pos h0]
    exact Cert.RConvIdeal.Rows.xs_t0 (z := zrow (zcat X0 X1) d) (p0 := prow (pcat X2 X3) 0 d) (p1 := prow (pcat X2 X3) 1 d) (p2 := prow (pcat X2 X3) 2 d) b d rfl (fun n => (zrow_x X0 X1 b n d).symm) (fun n => Eq.trans (congrArg (fun q => X2 (ix3 b n q)) (Fin.ext (by show d.val = 0 * 1024 + d.val; omega))) (prow_x X2 X3 0 b n d).symm) (fun n => Eq.trans (congrArg (fun q => X2 (ix3 b n q)) (Fin.ext (by show 1024 + d.val = 1 * 1024 + d.val; omega))) (prow_x X2 X3 1 b n d).symm) (fun n => Eq.trans (congrArg (fun q => X2 (ix3 b n q)) (Fin.ext (by show 2048 + d.val = 2 * 1024 + d.val; omega))) (prow_x X2 X3 2 b n d).symm) n
  · rw [if_neg h0, if_neg h0]
    by_cases h1 : k.val = 1
    · rw [if_pos h1, if_pos h1]
      exact Cert.RConvIdeal.Rows.xs_t1 (z := zrow (zcat X0 X1) d) (p0 := prow (pcat X2 X3) 0 d) (p1 := prow (pcat X2 X3) 1 d) (p2 := prow (pcat X2 X3) 2 d) b d rfl (fun n => (zrow_x X0 X1 b n d).symm) (fun n => Eq.trans (congrArg (fun q => X2 (ix3 b n q)) (Fin.ext (by show d.val = 0 * 1024 + d.val; omega))) (prow_x X2 X3 0 b n d).symm) (fun n => Eq.trans (congrArg (fun q => X2 (ix3 b n q)) (Fin.ext (by show 1024 + d.val = 1 * 1024 + d.val; omega))) (prow_x X2 X3 1 b n d).symm) (fun n => Eq.trans (congrArg (fun q => X2 (ix3 b n q)) (Fin.ext (by show 2048 + d.val = 2 * 1024 + d.val; omega))) (prow_x X2 X3 2 b n d).symm) n
    · rw [if_neg h1, if_neg h1]
      exact Cert.RConvIdeal.Rows.xs_t2 (z := zrow (zcat X0 X1) d) (p0 := prow (pcat X2 X3) 0 d) (p1 := prow (pcat X2 X3) 1 d) (p2 := prow (pcat X2 X3) 2 d) b d rfl (fun n => (zrow_x X0 X1 b n d).symm) (fun n => Eq.trans (congrArg (fun q => X2 (ix3 b n q)) (Fin.ext (by show d.val = 0 * 1024 + d.val; omega))) (prow_x X2 X3 0 b n d).symm) (fun n => Eq.trans (congrArg (fun q => X2 (ix3 b n q)) (Fin.ext (by show 1024 + d.val = 1 * 1024 + d.val; omega))) (prow_x X2 X3 1 b n d).symm) (fun n => Eq.trans (congrArg (fun q => X2 (ix3 b n q)) (Fin.ext (by show 2048 + d.val = 2 * 1024 + d.val; omega))) (prow_x X2 X3 2 b n d).symm) n
theorem tap_row_c (k : Fin 3) (b : Fin 2) (n : Fin 256) (d : Fin 1024) :
    (if k.val = 0 then val_main_v81 (F := Ideal) X1 X3 (ix3 b n d) else if k.val = 1 then val_main_v72 (F := Ideal) X1 X3 (ix3 b n d) else val_main_v64 (F := Ideal) X1 X3 (ix3 b n d))
      = tapAt (zcat X0 X1) (pcat X2 X3) k.val d (4096 + b.val * 256 + n.val) := by
  unfold tapAt tapRow
  by_cases h0 : k.val = 0
  · rw [if_pos h0, if_pos h0]
    exact Cert.RConvIdeal.Rows.cs_t0 (z := zrow (zcat X0 X1) d) (p0 := prow (pcat X2 X3) 0 d) (p1 := prow (pcat X2 X3) 1 d) (p2 := prow (pcat X2 X3) 2 d) b d rfl (fun n => (zrow_c X0 X1 b n d).symm) (fun n => Eq.trans (congrArg (fun q => X3 (ix3 b n q)) (Fin.ext (by show d.val = 0 * 1024 + d.val; omega))) (prow_c X2 X3 0 b n d).symm) (fun n => Eq.trans (congrArg (fun q => X3 (ix3 b n q)) (Fin.ext (by show 1024 + d.val = 1 * 1024 + d.val; omega))) (prow_c X2 X3 1 b n d).symm) (fun n => Eq.trans (congrArg (fun q => X3 (ix3 b n q)) (Fin.ext (by show 2048 + d.val = 2 * 1024 + d.val; omega))) (prow_c X2 X3 2 b n d).symm) n
  · rw [if_neg h0, if_neg h0]
    by_cases h1 : k.val = 1
    · rw [if_pos h1, if_pos h1]
      exact Cert.RConvIdeal.Rows.cs_t1 (z := zrow (zcat X0 X1) d) (p0 := prow (pcat X2 X3) 0 d) (p1 := prow (pcat X2 X3) 1 d) (p2 := prow (pcat X2 X3) 2 d) b d rfl (fun n => (zrow_c X0 X1 b n d).symm) (fun n => Eq.trans (congrArg (fun q => X3 (ix3 b n q)) (Fin.ext (by show d.val = 0 * 1024 + d.val; omega))) (prow_c X2 X3 0 b n d).symm) (fun n => Eq.trans (congrArg (fun q => X3 (ix3 b n q)) (Fin.ext (by show 1024 + d.val = 1 * 1024 + d.val; omega))) (prow_c X2 X3 1 b n d).symm) (fun n => Eq.trans (congrArg (fun q => X3 (ix3 b n q)) (Fin.ext (by show 2048 + d.val = 2 * 1024 + d.val; omega))) (prow_c X2 X3 2 b n d).symm) n
    · rw [if_neg h1, if_neg h1]
      exact Cert.RConvIdeal.Rows.cs_t2 (z := zrow (zcat X0 X1) d) (p0 := prow (pcat X2 X3) 0 d) (p1 := prow (pcat X2 X3) 1 d) (p2 := prow (pcat X2 X3) 2 d) b d rfl (fun n => (zrow_c X0 X1 b n d).symm) (fun n => Eq.trans (congrArg (fun q => X3 (ix3 b n q)) (Fin.ext (by show d.val = 0 * 1024 + d.val; omega))) (prow_c X2 X3 0 b n d).symm) (fun n => Eq.trans (congrArg (fun q => X3 (ix3 b n q)) (Fin.ext (by show 1024 + d.val = 1 * 1024 + d.val; omega))) (prow_c X2 X3 1 b n d).symm) (fun n => Eq.trans (congrArg (fun q => X3 (ix3 b n q)) (Fin.ext (by show 2048 + d.val = 2 * 1024 + d.val; omega))) (prow_c X2 X3 2 b n d).symm) n

theorem ref8 : val_main_v127 (F := Ideal) X0 X1 X2 X3 = dw (zcat X0 X1) (pcat X2 X3) := by
  funext j
  rw [eq_ix2 j]
  generalize j 0 = k
  generalize j 1 = d
  refine (ref8_at X0 X1 X2 X3 k d).trans (Eq.trans (congrArg₂ (· + ·) ?_ ?_) (dw_at _ _ k d).symm)
  · exact Finset.sum_congr rfl fun b _ => Finset.sum_congr rfl fun n _ => tap_row_x X0 X1 X2 X3 k b n d
  · exact Finset.sum_congr rfl fun b _ => Finset.sum_congr rfl fun n _ => tap_row_c X0 X1 X2 X3 k b n d
end

/-- Both results of the kernel, the gradients of the gates and of the taps, are those of the reference. -/
theorem algebraic : Cert.algebraic_KConvIdeal_RConvIdeal := by
  pair_intro
  · run_from Cert.KConvIdeal.Gen.run_main m g
  · run_from Cert.RConvIdeal.Value.run m' g'
    · refine (val_main_v157_eq (StableHlo.launchContents m' c)).symm.trans ?_
      refine Eq.trans ?_ (final7 m c).symm
      rw [host2, host7, host4, ← ref7]
      show val_main_v157 (m' (c.tc.loc Cert.RConvIdeal.main_arg0)) (m' (c.tc.loc Cert.RConvIdeal.main_arg1)) (m' (c.tc.loc Cert.RConvIdeal.main_arg2)) (m' (c.tc.loc Cert.RConvIdeal.main_arg3)) (m' (c.tc.loc Cert.RConvIdeal.main_arg4)) = _
      rw [(hagree c).1, (hagree c).2.1, (hagree c).2.2.1, (hagree c).2.2.2.1, (hagree c).2.2.2.2]
    · refine (val_main_v127_eq (StableHlo.launchContents m' c)).symm.trans ?_
      refine Eq.trans ?_ (final8 m c).symm
      rw [host2, host7, ← ref8]
      show val_main_v127 (m' (c.tc.loc Cert.RConvIdeal.main_arg0)) (m' (c.tc.loc Cert.RConvIdeal.main_arg1)) (m' (c.tc.loc Cert.RConvIdeal.main_arg2)) (m' (c.tc.loc Cert.RConvIdeal.main_arg3)) = _
      rw [(hagree c).1, (hagree c).2.1, (hagree c).2.2.1, (hagree c).2.2.2.1]
end Cert.KConvIdeal.Rows
-- ==== Proof.GwValue.lean ====
module

public import proofs.«01_k».proof.Proof.Gen.KGwIdeal.Value
public import proofs.«01_k».proof.Proof.Gen.RGwIdeal.Read
public import proofs.«01_k».proof.Defs
public import Idealize.ShloMosaic.Lib.Pipeline.ValueKit
public import Idealize.ShloMosaic.Lib.Claim

/-! The up-projection weight gradient, summed over three tiles of 1536 rows, against the whole contraction over 4608 rows. -/

@[expose] public section
set_option maxRecDepth 16384
noncomputable section
open Idealize.ShloMosaic Idealize.ShloMosaic.TcCoe Idealize.SL.Sem
open Idealize.ShloMosaic.Pipeline (Dat)
namespace Cert.KGwIdeal.Tiles
open Cert.KGwIdeal Cert.KGwIdeal.Gen
variable (m : (ℓ : Loc nD τ sig) → Buf (Elt Ideal) ℓ)

/-- The block index of every window at every grid point. -/
theorem idx : ∀ t : Fin cfg0.N, win0_0.index t = ![t.val / 3, t.val % 3, 0]
    ∧ win0_1.index t = ![t.val % 3, 0] ∧ win0_2.index t = ![t.val / 3, 0, 0] :=
  (by decide +kernel : ∀ t : Fin grid0.N, _)

/-- The accumulator starts at zero. -/
theorem zero_at (j) : k0_pay1 (F := Ideal) j = 0 := by pointwise [k0_pay1]

/-- One step adds the product of one tile of rows. -/
theorem step_at (x : Vec Ideal S1x1536x704 .bf16) (acc : Vec Ideal S704x1024 .f32) (y : Vec Ideal S1536x1024 .bf16) (j) :
    k0_pay2 (F := Ideal) x acc y j = acc j + ∑ k : Fin 1536, x (ix3 0 k (j 0)) * y (ix2 k (j 1)) := by
  pointwise [k0_pay2]

/-- The stored block is the accumulator. -/
theorem store_at (acc : Vec Ideal S704x1024 .f32) (j) :
    k0_pay3 (F := Ideal) acc j = acc (ix2 (j 1) (j 2)) := by
  pointwise [k0_pay3]

/-- What the reference returns at an index: the contraction over all rows. -/
def ref (hn : FVec Ideal S4608x1024 .f32) (ct : FVec Ideal S4608x2816 .f32) : FVec Ideal S4x704x1024 .bf16 :=
  Cert.RGwIdeal.Read.val_main_v6 (F := Ideal) hn ct

/-- The reference at an index: the contraction over all rows. -/
theorem ref_at (hn : FVec Ideal S4608x1024 .f32) (ct : FVec Ideal S4608x2816 .f32) (s : Fin 4) (f : Fin 704) (d : Fin 1024) :
    ref hn ct (ix3 s f d) = ∑ r : Fin 4608, ct (ix2 r ⟨s.val * 704 + f.val, by omega⟩) * hn (ix2 r d) := by
  unfold ref
  pointwise [Cert.RGwIdeal.Read.val_main_v6, Cert.RGwIdeal.Read.val_main_v5, Cert.RGwIdeal.Read.val_main_v4, Cert.RGwIdeal.Read.val_main_v3, Cert.RGwIdeal.Read.val_main_v2]

/-- The array written back is the reference's. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t hf y => ?_
  blk_simp
  have hm := (flush0_2 t).mp hf
  have ho : (outsAt0 m c t.val t.isLt).1 y = (outsAt0 m c t.val t.isLt).2 (ix2 (y 1) (y 2)) := by
    rw [outsAt0_C m c t (by omega) hm]; frame_out; rw [store_at]
  rw [after0_2, ho, Pipeline.eq_sum_fin_of_reset_step_apply_of_flush (fun n h => (outsAt0 m c n h).2) 3 (fun _ => 0) _
    (fun t h j => by rw [outsAt0_A m c t h (by omega)]; frame_out; rw [step_at, zero_at])
    (fun t h j => by
      by_cases h1 : t.val % 3 = 2
      · rw [outsAt0_C m c t h h1]; frame_out; rw [step_at]; exact Ideal.add_congr (congrFun (Memref.IsWhole.read_unread _ _) j) rfl
      · rw [outsAt0_B m c t h h1]; frame_out; rw [step_at]; exact Ideal.add_congr (congrFun (Memref.IsWhole.read_unread _ _) j) rfl)
    t hm _, zero_add]
  rw [eq_ix3 ((win0_2.blk t).view.emb y)]
  refine Eq.trans ?_ (ref_at _ _ _ _ _).symm
  refine Fin.sum_mul_add_congr fun s k hl => ?_
  blk_point [iblk, V, idx t, idx ⟨_, Pipeline.run_point_lt_of_flush t ((flush0_2 t).mp hf) s⟩]

/-- Both programs end with the same array. -/
theorem algebraic : Cert.algebraic_KGwIdeal_RGwIdeal := by
  pair_intro
  · run_from Cert.KGwIdeal.Gen.run_main m g
  · run_from Cert.RGwIdeal.Value.run m' g'
    exact (final m c).symm

end Cert.KGwIdeal.Tiles
-- ==== Proof.FfnBlock.lean ====
module

public import proofs.«01_k».proof.Proof.Gen.KFfnIdeal.Frame
public import Idealize.ShloMosaic.Lib.Pipeline.ValueKit
public import Idealize.ShloMosaic.Lib.Pipeline.ReadBack
public import Idealize.ShloMosaic.Lib.Claim

/-! What one step of the feed-forward gradient's body computes, at one index. -/

@[expose] public section
set_option maxRecDepth 16384
noncomputable section
open Idealize.ShloMosaic Idealize.ShloMosaic.TcCoe Idealize.SL.Sem
open Idealize.ShloMosaic.Pipeline (Dat)
namespace Cert.KFfnIdeal.Rows
open Cert.KFfnIdeal Cert.KFfnIdeal.Gen

/-- One half. -/
abbrev half : EReal := Scalar.ofBits (F := Ideal) .f32 0x3F000000#32
/-- One over the number of lanes. -/
abbrev inv : EReal := Scalar.ofBits (F := Ideal) .f32 0x3A800000#32
/-- The small constant of the norm. -/
abbrev eps : EReal := Scalar.ofBits (F := Ideal) .f32 0x358637BD#32

/-- The derivative of the gated product in its first factor, times the cotangent. -/
def dgate (ds a b : EReal) : EReal := ds * b * (Ideal.logistic a + a * Ideal.logistic a * (1 - Ideal.logistic a))

theorem zero_at (j) : k0_pay23 (F := Ideal) j = 0 := by pointwise [k0_pay23]
theorem dy_at (g : Vec Ideal S1x1x1024 .f32) (x : Vec Ideal S512x1024 .f32) (r : Fin 512) (d : Fin 1024) :
    k0_pay22 (F := Ideal) g x (ix2 r d) = half * g (ix3 0 0 d) * x (ix2 r d) := by
  pointwise [k0_pay22]
theorem ds_at (x : Vec Ideal S256x1024 .bf16) (w : Vec Ideal S1x704x1024 .bf16) (r : Fin 256) (f : Fin 704) :
    k0_pay24 (F := Ideal) x w (ix2 r f) = ∑ d : Fin 1024, x (ix2 r d) * w (ix3 0 f d) := by
  pointwise [k0_pay24]
theorem sw_at (a b : Vec Ideal S1x256x704 .bf16) (z : Fin 1) (r : Fin 256) (f : Fin 704) :
    k0_pay29 (F := Ideal) a b (ix3 z r f) = a (ix3 0 r f) * Ideal.logistic (a (ix3 0 r f)) * b (ix3 0 r f) := by
  pointwise [k0_pay29, k0_pay28, k0_pay27, k0_pay26, k0_pay25]
theorem db_at (x : Vec Ideal S256x1024 .bf16) (w : Vec Ideal S1x704x1024 .bf16) (a : Vec Ideal S1x256x704 .bf16) (r : Fin 256) (f : Fin 704) :
    k0_pay30 (F := Ideal) x w a (ix2 r f) = (∑ d : Fin 1024, x (ix2 r d) * w (ix3 0 f d)) * (a (ix3 0 r f) * Ideal.logistic (a (ix3 0 r f))) := by
  pointwise [k0_pay30, k0_pay28, k0_pay27, k0_pay25, ds_at]
theorem da_at (x : Vec Ideal S256x1024 .bf16) (w : Vec Ideal S1x704x1024 .bf16) (a b : Vec Ideal S1x256x704 .bf16) (r : Fin 256) (f : Fin 704) :
    k0_pay31 (F := Ideal) x w a b (ix2 r f) = dgate (∑ d : Fin 1024, x (ix2 r d) * w (ix3 0 f d)) (a (ix3 0 r f)) (b (ix3 0 r f)) := by
  unfold dgate
  pointwise [k0_pay31, k0_pay28, k0_pay27, k0_pay26, k0_pay25, ds_at]
theorem acc_at (db da : FVec Ideal S256x704 .bf16) (acc : Vec Ideal S256x1024 .f32) (w1 w3 : Vec Ideal S1x704x1024 .bf16) (r : Fin 256) (d : Fin 1024) :
    k0_pay34 (F := Ideal) db da acc w1 w3 (ix2 r d) = acc (ix2 r d) + ((∑ f : Fin 704, da (ix2 r f) * w1 (ix3 0 f d)) + ∑ f : Fin 704, db (ix2 r f) * w3 (ix3 0 f d)) := by
  pointwise [k0_pay34]
theorem r_at (h : Vec Ideal S512x1024 .f32) (r : Fin 512) (z : Fin 1) :
    k0_pay8 (F := Ideal) h (ix2 r z) = Ideal.rsqrt ((∑ d : Fin 1024, h (ix2 r d) * h (ix2 r d)) * inv + eps) := by
  pointwise [k0_pay8, k0_pay6]
theorem shift_at (acc : Vec Ideal S512x1024 .f32) (z : Fin 1) (d : Fin 1024) :
    k0_pay10 (F := Ideal) acc (ix2 z d) = ∑ r : Fin 512, acc (ix2 r d) := by
  pointwise [k0_pay10]
theorem scale_at (acc h : Vec Ideal S512x1024 .f32) (g : Vec Ideal S1x1024 .f32) (z : Fin 1) (d : Fin 1024) :
    k0_pay11 (F := Ideal) acc h g (ix2 z d) = ∑ r : Fin 512, acc (ix2 r d) * (h (ix2 r d) * Ideal.rsqrt ((∑ d : Fin 1024, h (ix2 r d) * h (ix2 r d)) * inv + eps) * g (ix2 0 d)) := by
  pointwise [k0_pay11, k0_pay9, k0_pay7, k0_pay6, r_at]
theorem gain_at (acc h : Vec Ideal S512x1024 .f32) (s : Vec Ideal S1x1x1024 .f32) (z : Fin 1) (d : Fin 1024) :
    k0_pay13 (F := Ideal) acc h s (ix2 z d) = ∑ r : Fin 512, acc (ix2 r d) * (1 + s (ix3 0 0 d)) * (h (ix2 r d) * Ideal.rsqrt ((∑ d : Fin 1024, h (ix2 r d) * h (ix2 r d)) * inv + eps)) := by
  pointwise [k0_pay13, k0_pay12, k0_pay9, k0_pay7, k0_pay6, r_at]
theorem gate_at (dh : FVec Ideal S512x1024 .f32) (y : Vec Ideal S512x1024 .bf16) (z z' : Fin 1) (d : Fin 1024) :
    k0_pay19 (F := Ideal) dh y (ix3 z z' d) = half * ∑ r : Fin 512, dh (ix2 r d) * y (ix2 r d) := by
  pointwise [k0_pay19]
theorem dx_at (dh acc h : Vec Ideal S512x1024 .f32) (g : Vec Ideal S1x1024 .f32) (s : Vec Ideal S1x1x1024 .f32) (r : Fin 512) (d : Fin 1024) :
    k0_pay16 (F := Ideal) (k0_pay5 dh) (k0_pay8 h) (k0_pay9 h) (k0_pay14 acc g s) (k0_pay15 acc h g s) (ix2 r d)
      = dh (ix2 r d) + Ideal.rsqrt ((∑ d : Fin 1024, h (ix2 r d) * h (ix2 r d)) * inv + eps) * (acc (ix2 r d) * (1 + s (ix3 0 0 d)) * g (ix2 0 d)
        - h (ix2 r d) * Ideal.rsqrt ((∑ d : Fin 1024, h (ix2 r d) * h (ix2 r d)) * inv + eps)
          * ((∑ d : Fin 1024, acc (ix2 r d) * (1 + s (ix3 0 0 d)) * g (ix2 0 d) * (h (ix2 r d) * Ideal.rsqrt ((∑ d : Fin 1024, h (ix2 r d) * h (ix2 r d)) * inv + eps))) * inv)) := by
  pointwise [k0_pay16, k0_pay15, k0_pay14, k0_pay12, k0_pay9, k0_pay7, k0_pay6, k0_pay5, r_at]
/-- The second half of a block's rows goes the same way as the first. -/
theorem second (x : Vec Ideal S256x1024 .bf16) (w : Vec Ideal S1x704x1024 .bf16) (a b : Vec Ideal S1x256x704 .bf16) :
    k0_pay1 (F := Ideal) (k0_pay38 a) (k0_pay39 a) (k0_pay42 x w b) (Scalar.ofBits .bf16 0x3F80#16) = k0_pay31 x w a b := rfl
theorem second_acc (x : Vec Ideal S256x1024 .bf16) (w : Vec Ideal S1x704x1024 .bf16) (a b : Vec Ideal S1x256x704 .bf16) (acc : Vec Ideal S256x1024 .f32) (w1 w3 : Vec Ideal S1x704x1024 .bf16) :
    k0_pay4 (F := Ideal) (k0_pay38 a) (k0_pay39 a) (k0_pay41 x w a) (k0_pay42 x w b) (Scalar.ofBits .bf16 0x3F80#16) acc w1 w3 = k0_pay34 (k0_pay30 x w a) (k0_pay31 x w a b) acc w1 w3 := rfl

theorem second_da (x : Vec Ideal S256x1024 .bf16) (w : Vec Ideal S1x704x1024 .bf16) (a b : Vec Ideal S1x256x704 .bf16) :
    k0_pay2 (F := Ideal) (k0_pay38 a) (k0_pay39 a) (k0_pay42 x w b) (Scalar.ofBits .bf16 0x3F80#16) = k0_pay32 x w a b := rfl
theorem second_db (x : Vec Ideal S256x1024 .bf16) (w : Vec Ideal S1x704x1024 .bf16) (a : Vec Ideal S1x256x704 .bf16) :
    k0_pay3 (F := Ideal) (k0_pay41 x w a) = k0_pay33 x w a := rfl
theorem second_sw (a b : Vec Ideal S1x256x704 .bf16) : k0_pay40 (F := Ideal) a b = k0_pay29 a b := rfl
theorem store_da (x : Vec Ideal S256x1024 .bf16) (w : Vec Ideal S1x704x1024 .bf16) (a b : Vec Ideal S1x256x704 .bf16) (z : Fin 1) (r : Fin 256) (f : Fin 704) :
    k0_pay32 (F := Ideal) x w a b (ix3 z r f) = k0_pay31 x w a b (ix2 r f) := by pointwise [k0_pay32]
theorem store_db (x : Vec Ideal S256x1024 .bf16) (w : Vec Ideal S1x704x1024 .bf16) (a : Vec Ideal S1x256x704 .bf16) (z : Fin 1) (r : Fin 256) (f : Fin 704) :
    k0_pay33 (F := Ideal) x w a (ix3 z r f) = k0_pay30 x w a (ix2 r f) := by pointwise [k0_pay33]
theorem store_17 (x : FVec Ideal S1x1024 .f32) (z z' : Fin 1) (d : Fin 1024) : k0_pay17 (F := Ideal) x (ix3 z z' d) = x (ix2 0 d) := by pointwise [k0_pay17]
theorem store_18 (x : FVec Ideal S1x1024 .f32) (z z' : Fin 1) (d : Fin 1024) : k0_pay18 (F := Ideal) x (ix3 z z' d) = x (ix2 0 d) := by pointwise [k0_pay18]
theorem store_20 (x : FVec Ideal S1x1024 .f32) (z z' : Fin 1) (d : Fin 1024) : k0_pay20 (F := Ideal) x (ix3 z z' d) = x (ix2 0 d) := by pointwise [k0_pay20]
theorem store_21 (j) : k0_pay21 (F := Ideal) j = 0 := by pointwise [k0_pay21]

/-- The stream a row belongs to: the two halves of the batch, then the context. -/
def grp (r : Fin 4608) : Fin 3 := ⟨r.val / 2048, by omega⟩

/-- The arrays the kernel reads. -/
structure Arrs where
  DH : FVec Ideal S4608x1024 .f32
  H : FVec Ideal S4608x1024 .f32
  M : FVec Ideal S3x9x1024 .f32
  G : FVec Ideal S1x1024 .f32
  Y : FVec Ideal S4608x1024 .bf16
  A : FVec Ideal S4x4608x704 .bf16
  B : FVec Ideal S4x4608x704 .bf16
  W1 : FVec Ideal S4x704x1024 .bf16
  W3 : FVec Ideal S4x704x1024 .bf16
  W2 : FVec Ideal S4x704x1024 .bf16

namespace Arrs
variable (X : Arrs)
/-- The cotangent of the block's product. -/
def dy (r : Fin 4608) (d : Fin 1024) : EReal := half * X.M (ix3 (grp r) 8 d) * X.DH (ix2 r d)
/-- The cotangent of the gated hidden value. -/
def ds (s : Fin 4) (r : Fin 4608) (f : Fin 704) : EReal := ∑ d : Fin 1024, X.dy r d * X.W2 (ix3 s f d)
/-- The gated hidden value. -/
def sw (s : Fin 4) (r : Fin 4608) (f : Fin 704) : EReal := X.A (ix3 s r f) * Ideal.logistic (X.A (ix3 s r f)) * X.B (ix3 s r f)
def db (s : Fin 4) (r : Fin 4608) (f : Fin 704) : EReal := X.ds s r f * (X.A (ix3 s r f) * Ideal.logistic (X.A (ix3 s r f)))
def da (s : Fin 4) (r : Fin 4608) (f : Fin 704) : EReal := dgate (X.ds s r f) (X.A (ix3 s r f)) (X.B (ix3 s r f))
/-- One slot's part of the cotangent of the modulated input. -/
def part (s : Fin 4) (r : Fin 4608) (d : Fin 1024) : EReal :=
  (∑ f : Fin 704, X.da s r f * X.W1 (ix3 s f d)) + ∑ f : Fin 704, X.db s r f * X.W3 (ix3 s f d)
/-- The cotangent of the modulated input. -/
def dm (r : Fin 4608) (d : Fin 1024) : EReal := ∑ s : Fin 4, X.part s r d
/-- The norm's factor of a row. -/
def rn (r : Fin 4608) : EReal := Ideal.rsqrt ((∑ d : Fin 1024, X.H (ix2 r d) * X.H (ix2 r d)) * inv + eps)
/-- The cotangent of the normed row, before the norm. -/
def dn (r : Fin 4608) (d : Fin 1024) : EReal := X.dm r d * (1 + X.M (ix3 (grp r) 7 d)) * X.G (ix2 0 d)
def dx (r : Fin 4608) (d : Fin 1024) : EReal :=
  X.DH (ix2 r d) + X.rn r * (X.dn r d - X.H (ix2 r d) * X.rn r * ((∑ d : Fin 1024, X.dn r d * (X.H (ix2 r d) * X.rn r)) * inv))
/-- The row `a` of block `i`. -/
def _root_.Cert.KFfnIdeal.Rows.brow (i : Fin 9) (a : Fin 512) : Fin 4608 := ⟨i.val * 512 + a.val, by omega⟩
def outDx : FVec Ideal S4608x1024 .f32 := fun j => X.dx (j 0) (j 1)
def outDa : FVec Ideal S4x4608x704 .bf16 := fun j => X.da (j 0) (j 1) (j 2)
def outDb : FVec Ideal S4x4608x704 .bf16 := fun j => X.db (j 0) (j 1) (j 2)
def outSw : FVec Ideal S4x4608x704 .bf16 := fun j => X.sw (j 0) (j 1) (j 2)
def outDy : FVec Ideal S4608x1024 .bf16 := fun j => X.dy (j 0) (j 1)
/-- The sums over a block's rows: shift, scale, gate and gain. -/
def sums (i : Fin 9) (k : ℕ) (d : Fin 1024) : EReal :=
  if k = 0 then ∑ a : Fin 512, X.dm (brow i a) d
  else if k = 1 then ∑ a : Fin 512, X.dm (brow i a) d * (X.H (ix2 (brow i a) d) * X.rn (brow i a) * X.G (ix2 0 d))
  else if k = 2 then half * ∑ a : Fin 512, X.DH (ix2 (brow i a) d) * X.Y (ix2 (brow i a) d)
  else if k = 3 then ∑ a : Fin 512, X.dm (brow i a) d * (1 + X.M (ix3 (grp (brow i a)) 7 d)) * (X.H (ix2 (brow i a) d) * X.rn (brow i a))
  else 0
def outSums : FVec Ideal S9x8x1024 .f32 := fun j => X.sums (j 0) (j 1).val (j 2)
end Arrs

section
variable (X : Arrs) {s : Fin 4} {R : Fin 4608}
theorem ds_row {x : Vec Ideal S256x1024 .bf16} {w : Vec Ideal S1x704x1024 .bf16} {r : Fin 256} (hx : ∀ d, x (ix2 r d) = X.dy R d)
    (hw : ∀ f d, w (ix3 0 f d) = X.W2 (ix3 s f d)) (f : Fin 704) : (∑ d : Fin 1024, x (ix2 r d) * w (ix3 0 f d)) = X.ds s R f :=
  Finset.sum_congr rfl fun d _ => by rw [hx, hw]
theorem da_row {x : Vec Ideal S256x1024 .bf16} {w : Vec Ideal S1x704x1024 .bf16} {a b : Vec Ideal S1x256x704 .bf16} {r : Fin 256}
    (hx : ∀ d, x (ix2 r d) = X.dy R d) (hw : ∀ f d, w (ix3 0 f d) = X.W2 (ix3 s f d)) (ha : ∀ f, a (ix3 0 r f) = X.A (ix3 s R f))
    (hb : ∀ f, b (ix3 0 r f) = X.B (ix3 s R f)) (f : Fin 704) : k0_pay31 (F := Ideal) x w a b (ix2 r f) = X.da s R f := by
  rw [da_at, ds_row X hx hw, ha, hb]; rfl
theorem db_row {x : Vec Ideal S256x1024 .bf16} {w : Vec Ideal S1x704x1024 .bf16} {a : Vec Ideal S1x256x704 .bf16} {r : Fin 256}
    (hx : ∀ d, x (ix2 r d) = X.dy R d) (hw : ∀ f d, w (ix3 0 f d) = X.W2 (ix3 s f d)) (ha : ∀ f, a (ix3 0 r f) = X.A (ix3 s R f))
    (f : Fin 704) : k0_pay30 (F := Ideal) x w a (ix2 r f) = X.db s R f := by
  rw [db_at, ds_row X hx hw, ha]; rfl
theorem sw_row {a b : Vec Ideal S1x256x704 .bf16} {r : Fin 256} (ha : ∀ f, a (ix3 0 r f) = X.A (ix3 s R f))
    (hb : ∀ f, b (ix3 0 r f) = X.B (ix3 s R f)) (z : Fin 1) (f : Fin 704) : k0_pay29 (F := Ideal) a b (ix3 z r f) = X.sw s R f := by
  rw [sw_at, ha, hb]; rfl
theorem acc_row {x : Vec Ideal S256x1024 .bf16} {w w1 w3 : Vec Ideal S1x704x1024 .bf16} {a b : Vec Ideal S1x256x704 .bf16} {r : Fin 256} {acc : Vec Ideal S256x1024 .f32} {d : Fin 1024} {e : EReal}
    (hx : ∀ d, x (ix2 r d) = X.dy R d) (hw : ∀ f d, w (ix3 0 f d) = X.W2 (ix3 s f d)) (ha : ∀ f, a (ix3 0 r f) = X.A (ix3 s R f))
    (hb : ∀ f, b (ix3 0 r f) = X.B (ix3 s R f)) (h1 : ∀ f d, w1 (ix3 0 f d) = X.W1 (ix3 s f d)) (h3 : ∀ f d, w3 (ix3 0 f d) = X.W3 (ix3 s f d))
    (he : acc (ix2 r d) = e) :
    k0_pay34 (F := Ideal) (k0_pay30 x w a) (k0_pay31 x w a b) acc w1 w3 (ix2 r d) = e + X.part s R d := by
  rw [acc_at, he]
  refine congrArg (e + ·) (Ideal.add_congr (Finset.sum_congr rfl fun f _ => ?_) (Finset.sum_congr rfl fun f _ => ?_))
  · rw [da_row X hx hw ha hb, h1]
  · rw [db_row X hx hw ha, h3]
theorem dx_row {dh acc h : Vec Ideal S512x1024 .f32} {g : Vec Ideal S1x1024 .f32} {s : Vec Ideal S1x1x1024 .f32} {r : Fin 512}
    (hdh : ∀ d, dh (ix2 r d) = X.DH (ix2 R d)) (hacc : ∀ d, acc (ix2 r d) = X.dm R d) (hh : ∀ d, h (ix2 r d) = X.H (ix2 R d))
    (hg : ∀ d, g (ix2 0 d) = X.G (ix2 0 d)) (hs : ∀ d, s (ix3 0 0 d) = X.M (ix3 (grp R) 7 d)) (d : Fin 1024) :
    k0_pay16 (F := Ideal) (k0_pay5 dh) (k0_pay8 h) (k0_pay9 h) (k0_pay14 acc g s) (k0_pay15 acc h g s) (ix2 r d) = X.dx R d := by
  rw [dx_at]
  simp only [hdh, hacc, hh, hg, hs]
  rfl
theorem shift_row {acc : Vec Ideal S512x1024 .f32} {i : Fin 9} (hacc : ∀ r d, acc (ix2 r d) = X.dm (brow i r) d) (z z' : Fin 1) (d : Fin 1024) :
    k0_pay17 (F := Ideal) (k0_pay10 acc) (ix3 z z' d) = X.sums i 0 d := by
  rw [store_17, shift_at]; simp only [hacc]; rfl
theorem scale_row {acc h : Vec Ideal S512x1024 .f32} {g : Vec Ideal S1x1024 .f32} {i : Fin 9} (hacc : ∀ r d, acc (ix2 r d) = X.dm (brow i r) d)
    (hh : ∀ r d, h (ix2 r d) = X.H (ix2 (brow i r) d)) (hg : ∀ d, g (ix2 0 d) = X.G (ix2 0 d)) (z z' : Fin 1) (d : Fin 1024) :
    k0_pay18 (F := Ideal) (k0_pay11 acc h g) (ix3 z z' d) = X.sums i 1 d := by
  rw [store_18, scale_at]; simp only [hacc, hh, hg]; rfl
theorem gate_row {dh : Vec Ideal S512x1024 .f32} {y : Vec Ideal S512x1024 .bf16} {i : Fin 9} (hdh : ∀ r d, dh (ix2 r d) = X.DH (ix2 (brow i r) d))
    (hy : ∀ r d, y (ix2 r d) = X.Y (ix2 (brow i r) d)) (z z' : Fin 1) (d : Fin 1024) :
    k0_pay19 (F := Ideal) (k0_pay5 dh) y (ix3 z z' d) = X.sums i 2 d := by
  have e : k0_pay5 (F := Ideal) dh = dh := by funext j; pointwise [k0_pay5]
  rw [gate_at, e]; simp only [hdh, hy]; rfl
theorem gain_row {acc h : Vec Ideal S512x1024 .f32} {s : Vec Ideal S1x1x1024 .f32} {i : Fin 9} (hacc : ∀ r d, acc (ix2 r d) = X.dm (brow i r) d)
    (hh : ∀ r d, h (ix2 r d) = X.H (ix2 (brow i r) d)) (hs : ∀ r d, s (ix3 0 0 d) = X.M (ix3 (grp (brow i r)) 7 d)) (z z' : Fin 1) (d : Fin 1024) :
    k0_pay20 (F := Ideal) (k0_pay13 acc h s) (ix3 z z' d) = X.sums i 3 d := by
  rw [store_20, gain_at]
  refine Eq.trans (Finset.sum_congr rfl fun r _ => ?_) (b := ∑ a : Fin 512, X.dm (brow i a) d * (1 + X.M (ix3 (grp (brow i a)) 7 d)) * (X.H (ix2 (brow i a) d) * X.rn (brow i a))) rfl
  simp only [hacc, hh]; rw [hs r]; rfl
end
end Cert.KFfnIdeal.Rows
-- ==== Proof.FfnValue.lean ====
module

public import proofs.«01_k».proof.Proof.FfnBlock

@[expose] public section
set_option maxRecDepth 16384
noncomputable section
open Idealize.ShloMosaic Idealize.ShloMosaic.TcCoe Idealize.SL.Sem
open Idealize.ShloMosaic.Pipeline (Dat)
namespace Cert.KFfnIdeal.Rows
open Cert.KFfnIdeal Cert.KFfnIdeal.Gen
variable (m : (ℓ : Loc nD τ sig) → Buf (Elt Ideal) ℓ)

/-- The arrays the call reads. -/
def arrs (c : Dev nD) : Arrs where
  DH := V m c main_v41
  H := V m c main_v42
  M := V m c main_v40
  G := V m c main_v43
  Y := V m c main_v45
  A := V m c main_v48
  B := V m c main_v51
  W1 := V m c main_v54
  W3 := V m c main_v57
  W2 := V m c main_v59

theorem idx : ∀ t : Fin cfg0.N, win0_0.index t = ![t.val / 4, 0] ∧ win0_1.index t = ![t.val / 4, 0]
    ∧ win0_2.index t = ![t.val / 16, 0, 0] ∧ win0_3.index t = ![0, 0] ∧ win0_4.index t = ![t.val / 4, 0]
    ∧ win0_5.index t = ![t.val % 4, t.val / 4, 0] ∧ win0_6.index t = ![t.val % 4, t.val / 4, 0]
    ∧ win0_7.index t = ![t.val % 4, 0, 0] ∧ win0_8.index t = ![t.val % 4, 0, 0] ∧ win0_9.index t = ![t.val % 4, 0, 0]
    ∧ win0_10.index t = ![t.val / 4, 0] ∧ win0_11.index t = ![t.val % 4, t.val / 4, 0] ∧ win0_12.index t = ![t.val % 4, t.val / 4, 0]
    ∧ win0_13.index t = ![t.val % 4, t.val / 4, 0] ∧ win0_14.index t = ![t.val / 4, 0] ∧ win0_15.index t = ![t.val / 4, 0, 0] ∧ t.val < 36 :=
  (by decide +kernel : ∀ t : Fin grid0.N, _)
theorem lt (t : Fin cfg0.N) : t.val < 36 := (idx t).2.2.2.2.2.2.2.2.2.2.2.2.2.2.2.2
/-- The row of the whole array at row `a` of point `t`'s block. -/
def row (t : Fin cfg0.N) (a : Fin 512) : Fin 4608 := ⟨t.val / 4 * 512 + a.val, by have := lt t; omega⟩
/-- The slot of a point. -/
def slot (t : Fin cfg0.N) : Fin 4 := ⟨t.val % 4, by omega⟩
theorem grp_row (t : Fin cfg0.N) (a : Fin 512) : grp (row t a) = ⟨t.val / 16, by have := lt t; omega⟩ := by
  apply Fin.ext; simp only [grp, row]; omega

/-- The first two of several stores decide what is read at an index they cover. -/
theorem canon_two {S : Shape} {e : EltTy} (p q : View.Piece (Elt Ideal) S e) (L : List (View.Piece (Elt Ideal) S e)) (y : S.Idx)
    (h : ∃ s ∈ [p, q], y ∈ s.1.set) : View.canon (p :: q :: L) y = View.canon [p, q] y := by
  by_cases hp : y ∈ p.1.set
  · obtain ⟨x, rfl⟩ := p.1.exists_idx_of_mem hp
    exact (View.canon_cons_emb p.1 p.2 _ x).trans (View.canon_cons_emb p.1 p.2 _ x).symm
  rw [View.canon_cons_of_not_mem _ _ hp, View.canon_cons_of_not_mem _ _ hp]
  by_cases hq : y ∈ q.1.set
  · obtain ⟨x, rfl⟩ := q.1.exists_idx_of_mem hq
    exact (View.canon_cons_emb q.1 q.2 _ x).trans (View.canon_cons_emb q.1 q.2 _ x).symm
  · obtain ⟨s, hs, hy⟩ := h
    simp only [List.mem_cons, List.not_mem_nil, or_false] at hs
    rcases hs with rfl | rfl <;> contradiction

section
variable (c : Dev nD) (t : Fin cfg0.N)
theorem blk0 (a : Fin 512) (d : Fin 1024) : iblk m c 0 t (ix2 a d) = (arrs m c).DH (ix2 (row t a) d) := by
  unfold row; simp only [arrs]; blk_ext [iblk, idx t]
theorem blk1 (a : Fin 512) (d : Fin 1024) : iblk m c 1 t (ix2 a d) = (arrs m c).H (ix2 (row t a) d) := by
  unfold row; simp only [arrs]; blk_ext [iblk, idx t]
theorem blk2 (a : Fin 512) (k : Fin 9) (d : Fin 1024) : iblk m c 2 t (ix3 0 k d) = (arrs m c).M (ix3 (grp (row t a)) k d) := by
  rw [grp_row]; simp only [arrs]; blk_ext [iblk, idx t]
theorem blk3 (d : Fin 1024) : iblk m c 3 t (ix2 0 d) = (arrs m c).G (ix2 0 d) := by
  simp only [arrs]; blk_ext [iblk, idx t]
theorem blk4 (a : Fin 512) (d : Fin 1024) : iblk m c 4 t (ix2 a d) = (arrs m c).Y (ix2 (row t a) d) := by
  unfold row; simp only [arrs]; blk_ext [iblk, idx t]
theorem blk5 (a : Fin 512) (f : Fin 704) : iblk m c 5 t (ix3 0 a f) = (arrs m c).A (ix3 (slot t) (row t a) f) := by
  unfold row slot; simp only [arrs]; blk_ext [iblk, idx t]
theorem blk6 (a : Fin 512) (f : Fin 704) : iblk m c 6 t (ix3 0 a f) = (arrs m c).B (ix3 (slot t) (row t a) f) := by
  unfold row slot; simp only [arrs]; blk_ext [iblk, idx t]
theorem blk7 (f : Fin 704) (d : Fin 1024) : iblk m c 7 t (ix3 0 f d) = (arrs m c).W1 (ix3 (slot t) f d) := by
  unfold slot; simp only [arrs]; blk_ext [iblk, idx t]
theorem blk8 (f : Fin 704) (d : Fin 1024) : iblk m c 8 t (ix3 0 f d) = (arrs m c).W3 (ix3 (slot t) f d) := by
  unfold slot; simp only [arrs]; blk_ext [iblk, idx t]
theorem blk9 (f : Fin 704) (d : Fin 1024) : iblk m c 9 t (ix3 0 f d) = (arrs m c).W2 (ix3 (slot t) f d) := by
  unfold slot; simp only [arrs]; blk_ext [iblk, idx t]

/-- The first part of a block's point: what the cotangent scratch holds. -/
theorem dy_start (h0 : t.val % 4 = 0) (y : S512x1024.Idx) : (outsAt0 m c t.val t.isLt).2.2.2.2.2.2.1 y = (arrs m c).dy (row t (y 0)) (y 1) := by
  rw [outsAt0_A m c t h0 (by omega)]; frame_out
  idx_vars y
  rw [dy_at]
  refine Ideal.mul_congr (congrArg (half * ·) ?_) (blk0 m c t _ _)
  refine Eq.trans ?_ (blk2 m c t y0 8 y1)
  pointwise
end
theorem dy_all (c : Dev nD) : ∀ (n : ℕ) (h : n < cfg0.N) (y : S512x1024.Idx),
    (outsAt0 m c n h).2.2.2.2.2.2.1 y = (arrs m c).dy (row ⟨n, h⟩ (y 0)) (y 1) := by
  intro n
  induction n with
  | zero => exact fun h y => dy_start m c ⟨0, h⟩ rfl y
  | succ n ih =>
    intro h y
    by_cases h0 : (n + 1) % 4 = 0
    · exact dy_start m c ⟨n + 1, h⟩ h0 y
    · have hr : row ⟨n + 1, h⟩ (y 0) = row ⟨n, Nat.lt_of_succ_lt h⟩ (y 0) := by
        apply Fin.ext; simp only [row]; omega
      rw [hr]
      refine Eq.trans ?_ (ih (Nat.lt_of_succ_lt h) y)
      by_cases h1 : (n + 1) % 4 = 3
      · rw [outsAt0_C m c ⟨n + 1, h⟩ h0 h1]; frame_out
        rfl
      · rw [outsAt0_B m c ⟨n + 1, h⟩ h0 h1]; frame_out
        rfl

/-- The cotangent scratch after a point that is not the first of its block: the one before. -/
theorem dy_before (c : Dev nD) (t : Fin cfg0.N) (h0 : ¬t.val % 4 = 0) (a : Fin 512) (d : Fin 1024) :
    (outsAt0 m c (t.val - 1) (by have := t.isLt; omega)).2.2.2.2.2.2.1 (ix2 a d) = (arrs m c).dy (row t a) d := by
  refine (dy_all m c (t.val - 1) _ _).trans ?_
  refine congrArg (fun r => (arrs m c).dy r d) (Fin.ext ?_)
  simp only [row]
  show (t.val - 1) / 4 * 512 + a.val = _
  omega

theorem lt_lo (x : Fin 256) : x.val < 512 := by omega
theorem lt_hi (x : Fin 256) : 256 + x.val < 512 := by omega
section
variable (c : Dev nD) (t : Fin cfg0.N) (k : Fin 512) (x0 : Fin 256)
theorem lo5 (hk : k.val = x0.val) (f : Fin 704) : View.ld (iblk m c 5 t) (Rect.unit ![0, 0, 0] ![1, 256, 704] inb_S1x512x704_S1x256x704_0_0_0) (ix3 0 x0 f)
    = (arrs m c).A (ix3 (slot t) (row t k) f) := by
  obtain rfl : k = ⟨x0.val, lt_lo x0⟩ := Fin.ext hk
  refine Eq.trans ?_ (blk5 m c t _ f); pointwise
theorem hi5 (hk : k.val = 256 + x0.val) (f : Fin 704) : View.ld (iblk m c 5 t) (Rect.unit ![0, 256, 0] ![1, 256, 704] inb_S1x512x704_S1x256x704_0_256_0) (ix3 0 x0 f)
    = (arrs m c).A (ix3 (slot t) (row t k) f) := by
  obtain rfl : k = ⟨256 + x0.val, lt_hi x0⟩ := Fin.ext hk
  refine Eq.trans ?_ (blk5 m c t _ f); pointwise
theorem lo6 (hk : k.val = x0.val) (f : Fin 704) : View.ld (iblk m c 6 t) (Rect.unit ![0, 0, 0] ![1, 256, 704] inb_S1x512x704_S1x256x704_0_0_0) (ix3 0 x0 f)
    = (arrs m c).B (ix3 (slot t) (row t k) f) := by
  obtain rfl : k = ⟨x0.val, lt_lo x0⟩ := Fin.ext hk
  refine Eq.trans ?_ (blk6 m c t _ f); pointwise
theorem hi6 (hk : k.val = 256 + x0.val) (f : Fin 704) : View.ld (iblk m c 6 t) (Rect.unit ![0, 256, 0] ![1, 256, 704] inb_S1x512x704_S1x256x704_0_256_0) (ix3 0 x0 f)
    = (arrs m c).B (ix3 (slot t) (row t k) f) := by
  obtain rfl : k = ⟨256 + x0.val, lt_hi x0⟩ := Fin.ext hk
  refine Eq.trans ?_ (blk6 m c t _ f); pointwise
/-- The lower half of a buffer of a block's rows. -/
theorem lo {φ : EltTy} {u : Vec Ideal S512x1024 φ} (hk : k.val = x0.val) (d : Fin 1024) :
    View.ld (Val := Elt Ideal) u (Rect.unit ![0, 0] ![256, 1024] inb_S512x1024_S256x1024_0_0) (ix2 x0 d) = u (ix2 k d) := by
  obtain rfl : k = ⟨x0.val, lt_lo x0⟩ := Fin.ext hk
  pointwise
theorem hi {φ : EltTy} {u : Vec Ideal S512x1024 φ} (hk : k.val = 256 + x0.val) (d : Fin 1024) :
    View.ld (Val := Elt Ideal) u (Rect.unit ![256, 0] ![256, 1024] inb_S512x1024_S256x1024_256_0) (ix2 x0 d) = u (ix2 k d) := by
  obtain rfl : k = ⟨256 + x0.val, lt_hi x0⟩ := Fin.ext hk
  pointwise
/-- The cotangent block at the first point of a block. -/
theorem dy_new (d : Fin 1024) : k0_pay22 (F := Ideal) (View.ld (iblk m c 2 t) (Rect.unit ![0, 8, 0] ![1, 1, 1024] inb_S1x9x1024_S1x1x1024_0_8_0)) (iblk m c 0 t) (ix2 k d)
    = (arrs m c).dy (row t k) d := by
  rw [dy_at]
  refine Ideal.mul_congr (congrArg (half * ·) ?_) (blk0 m c t _ _)
  refine Eq.trans ?_ (blk2 m c t k 8 d)
  pointwise
end

set_option maxHeartbeats 1000000 in
theorem acc_start (c : Dev nD) (t : Fin cfg0.N) (h0 : t.val % 4 = 0) (y : S512x1024.Idx) :
    (outsAt0 m c t.val t.isLt).2.2.2.2.2.2.2 y = 0 + (arrs m c).part (slot t) (row t (y 0)) (y 1) := by
  rw [outsAt0_A m c t h0 (by omega)]; frame_out
  rw [canon_two _ _ _ _ (View.cover_of_tiled_head _ _ _ (by rfl) y)]
  idx_vars y
  canon_tiles x h
  · idx_vars x
    obtain rfl : y1 = x1 := Fin.ext h1
    refine (congrFun (second_acc _ _ _ _ _ _ _) _).trans ?_
    refine acc_row (arrs m c) (s := slot t) (R := row t y0) (fun d => ?_) (blk9 m c t) (hi5 m c t y0 x0 h0) (hi6 m c t y0 x0 h0) (blk7 m c t) (blk8 m c t) ?_
    · rw [View.readCov_fill _ _ _ _ _ (by decide)]
      exact (hi y0 x0 h0 d).trans (dy_new m c t y0 d)
    · rw [View.readCov_skip _ _ _ _ _ rfl, View.readCov_fill _ _ _ _ _ (by decide)]
      exact (hi y0 x0 h0 y1).trans (zero_at _)
  · idx_vars x
    obtain rfl : y1 = x1 := Fin.ext h1
    refine acc_row (arrs m c) (s := slot t) (R := row t y0) (fun d => ?_) (blk9 m c t) (lo5 m c t y0 x0 h0) (lo6 m c t y0 x0 h0) (blk7 m c t) (blk8 m c t) ?_
    · rw [View.readCov_fill _ _ _ _ _ (by decide)]
      exact (lo y0 x0 h0 d).trans (dy_new m c t y0 d)
    · rw [View.readCov_fill _ _ _ _ _ (by decide)]
      exact (lo y0 x0 h0 y1).trans (zero_at _)

theorem acc_step (c : Dev nD) (t : Fin cfg0.N) (hz : ¬t.val % 4 = 0) (y : S512x1024.Idx) :
    (outsAt0 m c t.val t.isLt).2.2.2.2.2.2.2 y = (outsAt0 m c (t.val - 1) (by have := t.isLt; omega)).2.2.2.2.2.2.2 y + (arrs m c).part (slot t) (row t (y 0)) (y 1) := by
  idx_vars y
  by_cases h3 : t.val % 4 = 3
  · rw [outsAt0_C m c t hz h3]; frame_out
    canon_tiles x h
    · idx_vars x
      obtain rfl : y1 = x1 := Fin.ext h1
      refine (congrFun (second_acc _ _ _ _ _ _ _) _).trans ?_
      refine acc_row (arrs m c) (s := slot t) (R := row t y0) (fun d => ?_) (blk9 m c t) (hi5 m c t y0 x0 h0) (hi6 m c t y0 x0 h0) (blk7 m c t) (blk8 m c t) ?_
      · exact (hi y0 x0 h0 d).trans ((congrFun (Memref.IsWhole.read_unread _ _) _).trans (dy_before m c t hz y0 d))
      · exact (hi y0 x0 h0 y1).trans (congrFun (Memref.IsWhole.read_unread _ _) _)
    · idx_vars x
      obtain rfl : y1 = x1 := Fin.ext h1
      refine acc_row (arrs m c) (s := slot t) (R := row t y0) (fun d => ?_) (blk9 m c t) (lo5 m c t y0 x0 h0) (lo6 m c t y0 x0 h0) (blk7 m c t) (blk8 m c t) ?_
      · exact (lo y0 x0 h0 d).trans ((congrFun (Memref.IsWhole.read_unread _ _) _).trans (dy_before m c t hz y0 d))
      · exact (lo y0 x0 h0 y1).trans (congrFun (Memref.IsWhole.read_unread _ _) _)
  · rw [outsAt0_B m c t hz h3]; frame_out
    canon_tiles x h
    · idx_vars x
      obtain rfl : y1 = x1 := Fin.ext h1
      refine (congrFun (second_acc _ _ _ _ _ _ _) _).trans ?_
      refine acc_row (arrs m c) (s := slot t) (R := row t y0) (fun d => ?_) (blk9 m c t) (hi5 m c t y0 x0 h0) (hi6 m c t y0 x0 h0) (blk7 m c t) (blk8 m c t) ?_
      · exact (hi y0 x0 h0 d).trans ((congrFun (Memref.IsWhole.read_unread _ _) _).trans (dy_before m c t hz y0 d))
      · exact (hi y0 x0 h0 y1).trans (congrFun (Memref.IsWhole.read_unread _ _) _)
    · idx_vars x
      obtain rfl : y1 = x1 := Fin.ext h1
      refine acc_row (arrs m c) (s := slot t) (R := row t y0) (fun d => ?_) (blk9 m c t) (lo5 m c t y0 x0 h0) (lo6 m c t y0 x0 h0) (blk7 m c t) (blk8 m c t) ?_
      · exact (lo y0 x0 h0 d).trans ((congrFun (Memref.IsWhole.read_unread _ _) _).trans (dy_before m c t hz y0 d))
      · exact (lo y0 x0 h0 y1).trans (congrFun (Memref.IsWhole.read_unread _ _) _)

/-- At the last point of a block the accumulator holds the whole cotangent of the modulated input. -/
theorem acc_end (c : Dev nD) (t : Fin cfg0.N) (h1 : t.val % 4 = 3) (y : S512x1024.Idx) :
    (outsAt0 m c t.val t.isLt).2.2.2.2.2.2.2 y = (arrs m c).dm (row t (y 0)) (y 1) := by
  rw [Pipeline.eq_sum_fin_of_reset_step_apply_of_flush (fun n h => (outsAt0 m c n h).2.2.2.2.2.2.2) 4 (fun _ => 0) _ (acc_start m c) (acc_step m c) t h1 y, zero_add]
  unfold Arrs.dm
  refine Finset.sum_congr rfl fun s _ => ?_
  have hs : slot ⟨4 * (t.val / 4) + s.val, by have := lt t; show _ < 36; omega⟩ = s := by apply Fin.ext; simp only [slot]; omega
  have hr : row ⟨4 * (t.val / 4) + s.val, by have := lt t; show _ < 36; omega⟩ (y 0) = row t (y 0) := by apply Fin.ext; simp only [row]; omega
  rw [hs, hr]
end Cert.KFfnIdeal.Rows
-- ==== Proof.FfnFinal.lean ====
module

public import proofs.«01_k».proof.Proof.FfnValue

/-! What the feed-forward gradient's call writes back. -/

@[expose] public section
set_option maxRecDepth 16384
noncomputable section
open Idealize.ShloMosaic Idealize.ShloMosaic.TcCoe Idealize.SL.Sem
open Idealize.ShloMosaic.Pipeline (Dat)
namespace Cert.KFfnIdeal.Rows
open Cert.KFfnIdeal Cert.KFfnIdeal.Gen
variable (m : (ℓ : Loc nD τ sig) → Buf (Elt Ideal) ℓ)

theorem da_pt (c : Dev nD) (t : Fin cfg0.N) (y : S1x512x704.Idx) :
    (outsAt0 m c t.val t.isLt).2.1 y = (arrs m c).da (slot t) (row t (y 1)) (y 2) := by
  idx_vars y
  by_cases hz : t.val % 4 = 0
  · rw [outsAt0_A m c t hz (by omega)]; frame_out
    canon_tiles x h
    · idx_vars x
      obtain rfl : y2 = x2 := Fin.ext h2
      refine (congrFun (second_da _ _ _ _) _).trans ?_
      refine (store_da _ _ _ _ _ _ _).trans ((da_row (arrs m c) (s := slot t) (R := row t y1) (fun d => ?_) (blk9 m c t) (hi5 m c t y1 x1 h1) (hi6 m c t y1 x1 h1) _))
      rw [View.readCov_fill _ _ _ _ _ (by decide)]
      exact (hi y1 x1 h1 d).trans (dy_new m c t y1 d)
    · idx_vars x
      obtain rfl : y2 = x2 := Fin.ext h2
      refine (store_da _ _ _ _ _ _ _).trans ((da_row (arrs m c) (s := slot t) (R := row t y1) (fun d => ?_) (blk9 m c t) (lo5 m c t y1 x1 h1) (lo6 m c t y1 x1 h1) _))
      rw [View.readCov_fill _ _ _ _ _ (by decide)]
      exact (lo y1 x1 h1 d).trans (dy_new m c t y1 d)
  by_cases h3 : t.val % 4 = 3
  · rw [outsAt0_C m c t hz h3]; frame_out
    canon_tiles x h
    · idx_vars x
      obtain rfl : y2 = x2 := Fin.ext h2
      refine (congrFun (second_da _ _ _ _) _).trans ?_
      refine (store_da _ _ _ _ _ _ _).trans ((da_row (arrs m c) (s := slot t) (R := row t y1) (fun d => ?_) (blk9 m c t) (hi5 m c t y1 x1 h1) (hi6 m c t y1 x1 h1) _))
      exact (hi y1 x1 h1 d).trans ((congrFun (Memref.IsWhole.read_unread _ _) _).trans (dy_before m c t hz y1 d))
    · idx_vars x
      obtain rfl : y2 = x2 := Fin.ext h2
      refine (store_da _ _ _ _ _ _ _).trans ((da_row (arrs m c) (s := slot t) (R := row t y1) (fun d => ?_) (blk9 m c t) (lo5 m c t y1 x1 h1) (lo6 m c t y1 x1 h1) _))
      exact (lo y1 x1 h1 d).trans ((congrFun (Memref.IsWhole.read_unread _ _) _).trans (dy_before m c t hz y1 d))
  · rw [outsAt0_B m c t hz h3]; frame_out
    canon_tiles x h
    · idx_vars x
      obtain rfl : y2 = x2 := Fin.ext h2
      refine (congrFun (second_da _ _ _ _) _).trans ?_
      refine (store_da _ _ _ _ _ _ _).trans ((da_row (arrs m c) (s := slot t) (R := row t y1) (fun d => ?_) (blk9 m c t) (hi5 m c t y1 x1 h1) (hi6 m c t y1 x1 h1) _))
      exact (hi y1 x1 h1 d).trans ((congrFun (Memref.IsWhole.read_unread _ _) _).trans (dy_before m c t hz y1 d))
    · idx_vars x
      obtain rfl : y2 = x2 := Fin.ext h2
      refine (store_da _ _ _ _ _ _ _).trans ((da_row (arrs m c) (s := slot t) (R := row t y1) (fun d => ?_) (blk9 m c t) (lo5 m c t y1 x1 h1) (lo6 m c t y1 x1 h1) _))
      exact (lo y1 x1 h1 d).trans ((congrFun (Memref.IsWhole.read_unread _ _) _).trans (dy_before m c t hz y1 d))

theorem db_pt (c : Dev nD) (t : Fin cfg0.N) (y : S1x512x704.Idx) :
    (outsAt0 m c t.val t.isLt).2.2.1 y = (arrs m c).db (slot t) (row t (y 1)) (y 2) := by
  idx_vars y
  by_cases hz : t.val % 4 = 0
  · rw [outsAt0_A m c t hz (by omega)]; frame_out
    canon_tiles x h
    · idx_vars x
      obtain rfl : y2 = x2 := Fin.ext h2
      refine (congrFun (second_db _ _ _) _).trans ?_
      refine (store_db _ _ _ _ _ _).trans ((db_row (arrs m c) (s := slot t) (R := row t y1) (fun d => ?_) (blk9 m c t) (hi5 m c t y1 x1 h1) _))
      rw [View.readCov_fill _ _ _ _ _ (by decide)]
      exact (hi y1 x1 h1 d).trans (dy_new m c t y1 d)
    · idx_vars x
      obtain rfl : y2 = x2 := Fin.ext h2
      refine (store_db _ _ _ _ _ _).trans ((db_row (arrs m c) (s := slot t) (R := row t y1) (fun d => ?_) (blk9 m c t) (lo5 m c t y1 x1 h1) _))
      rw [View.readCov_fill _ _ _ _ _ (by decide)]
      exact (lo y1 x1 h1 d).trans (dy_new m c t y1 d)
  by_cases h3 : t.val % 4 = 3
  · rw [outsAt0_C m c t hz h3]; frame_out
    canon_tiles x h
    · idx_vars x
      obtain rfl : y2 = x2 := Fin.ext h2
      refine (congrFun (second_db _ _ _) _).trans ?_
      refine (store_db _ _ _ _ _ _).trans ((db_row (arrs m c) (s := slot t) (R := row t y1) (fun d => ?_) (blk9 m c t) (hi5 m c t y1 x1 h1) _))
      exact (hi y1 x1 h1 d).trans ((congrFun (Memref.IsWhole.read_unread _ _) _).trans (dy_before m c t hz y1 d))
    · idx_vars x
      obtain rfl : y2 = x2 := Fin.ext h2
      refine (store_db _ _ _ _ _ _).trans ((db_row (arrs m c) (s := slot t) (R := row t y1) (fun d => ?_) (blk9 m c t) (lo5 m c t y1 x1 h1) _))
      exact (lo y1 x1 h1 d).trans ((congrFun (Memref.IsWhole.read_unread _ _) _).trans (dy_before m c t hz y1 d))
  · rw [outsAt0_B m c t hz h3]; frame_out
    canon_tiles x h
    · idx_vars x
      obtain rfl : y2 = x2 := Fin.ext h2
      refine (congrFun (second_db _ _ _) _).trans ?_
      refine (store_db _ _ _ _ _ _).trans ((db_row (arrs m c) (s := slot t) (R := row t y1) (fun d => ?_) (blk9 m c t) (hi5 m c t y1 x1 h1) _))
      exact (hi y1 x1 h1 d).trans ((congrFun (Memref.IsWhole.read_unread _ _) _).trans (dy_before m c t hz y1 d))
    · idx_vars x
      obtain rfl : y2 = x2 := Fin.ext h2
      refine (store_db _ _ _ _ _ _).trans ((db_row (arrs m c) (s := slot t) (R := row t y1) (fun d => ?_) (blk9 m c t) (lo5 m c t y1 x1 h1) _))
      exact (lo y1 x1 h1 d).trans ((congrFun (Memref.IsWhole.read_unread _ _) _).trans (dy_before m c t hz y1 d))

theorem sw_pt (c : Dev nD) (t : Fin cfg0.N) (y : S1x512x704.Idx) :
    (outsAt0 m c t.val t.isLt).2.2.2.1 y = (arrs m c).sw (slot t) (row t (y 1)) (y 2) := by
  idx_vars y
  by_cases hz : t.val % 4 = 0
  · rw [outsAt0_A m c t hz (by omega)]; frame_out
    canon_tiles x h
    · idx_vars x
      obtain rfl : y2 = x2 := Fin.ext h2
      refine (congrFun (second_sw _ _) _).trans ?_
      exact sw_row (arrs m c) (s := slot t) (R := row t y1) (hi5 m c t y1 x1 h1) (hi6 m c t y1 x1 h1) _ _
    · idx_vars x
      obtain rfl : y2 = x2 := Fin.ext h2
      exact sw_row (arrs m c) (s := slot t) (R := row t y1) (lo5 m c t y1 x1 h1) (lo6 m c t y1 x1 h1) _ _
  by_cases h3 : t.val % 4 = 3
  · rw [outsAt0_C m c t hz h3]; frame_out
    canon_tiles x h
    · idx_vars x
      obtain rfl : y2 = x2 := Fin.ext h2
      refine (congrFun (second_sw _ _) _).trans ?_
      exact sw_row (arrs m c) (s := slot t) (R := row t y1) (hi5 m c t y1 x1 h1) (hi6 m c t y1 x1 h1) _ _
    · idx_vars x
      obtain rfl : y2 = x2 := Fin.ext h2
      exact sw_row (arrs m c) (s := slot t) (R := row t y1) (lo5 m c t y1 x1 h1) (lo6 m c t y1 x1 h1) _ _
  · rw [outsAt0_B m c t hz h3]; frame_out
    canon_tiles x h
    · idx_vars x
      obtain rfl : y2 = x2 := Fin.ext h2
      refine (congrFun (second_sw _ _) _).trans ?_
      exact sw_row (arrs m c) (s := slot t) (R := row t y1) (hi5 m c t y1 x1 h1) (hi6 m c t y1 x1 h1) _ _
    · idx_vars x
      obtain rfl : y2 = x2 := Fin.ext h2
      exact sw_row (arrs m c) (s := slot t) (R := row t y1) (lo5 m c t y1 x1 h1) (lo6 m c t y1 x1 h1) _ _

theorem app3 {a b e : ℕ} (f : Fin a → Fin b → Fin e → EReal) {i i' : Fin a} {j j' : Fin b} {k k' : Fin e} (hi : i.val = i'.val) (hj : j.val = j'.val) (hk : k.val = k'.val) :
    f i j k = f i' j' k' := by rw [Fin.ext hi, Fin.ext hj, Fin.ext hk]
theorem app2 {a b : ℕ} (f : Fin a → Fin b → EReal) {i i' : Fin a} {j j' : Fin b} (hi : i.val = i'.val) (hj : j.val = j'.val) :
    f i j = f i' j' := by rw [Fin.ext hi, Fin.ext hj]

theorem final11 (c : Dev nD) : (dats m 0 c).arrAt 11 (cfgs 0).N = (arrs m c).outDa := by
  refine (dats m 0 c).arrAt_eq_of_covers 11 _ (by decide +kernel) fun t _ y => ?_
  blk_simp
  rw [after0_11]
  refine (da_pt m c t y).trans ?_
  exact app3 (arrs m c).da (by show t.val % 4 = _; blk_simp [idx t]) (by show t.val / 4 * 512 + (y 1).val = _; blk_simp [idx t]) (by blk_simp [idx t])

theorem final12 (c : Dev nD) : (dats m 0 c).arrAt 12 (cfgs 0).N = (arrs m c).outDb := by
  refine (dats m 0 c).arrAt_eq_of_covers 12 _ (by decide +kernel) fun t _ y => ?_
  blk_simp
  rw [after0_12]
  refine (db_pt m c t y).trans ?_
  exact app3 (arrs m c).db (by show t.val % 4 = _; blk_simp [idx t]) (by show t.val / 4 * 512 + (y 1).val = _; blk_simp [idx t]) (by blk_simp [idx t])

theorem final13 (c : Dev nD) : (dats m 0 c).arrAt 13 (cfgs 0).N = (arrs m c).outSw := by
  refine (dats m 0 c).arrAt_eq_of_covers 13 _ (by decide +kernel) fun t _ y => ?_
  blk_simp
  rw [after0_13]
  refine (sw_pt m c t y).trans ?_
  exact app3 (arrs m c).sw (by show t.val % 4 = _; blk_simp [idx t]) (by show t.val / 4 * 512 + (y 1).val = _; blk_simp [idx t]) (by blk_simp [idx t])

/-- Reading the accumulator back as a whole reads what its stores left. -/
theorem acc_read {L : List (View.Piece (Elt Ideal) S512x1024 .f32)} {F : Fin 512 → Fin 1024 → EReal} (h : View.canon L = fun y => F (y 0) (y 1))
    {A : Vec Ideal S512x1024 .f32} (hA : A = (View.whole cc0_scratch1).readCov (Val := Elt Ideal) L (Rect.unit ![0, 0] ![512, 1024] inb_S512x1024_S512x1024_0_0).toLoadRect) (r : Fin 512) (d : Fin 1024) :
    A (ix2 r d) = F r d := by
  rw [hA, View.readCov_eq_canon', h]
  exact app2 F ((Rect.idx_unit_val _ _ _ _ _).trans (Nat.zero_add _)) ((Rect.idx_unit_val _ _ _ _ _).trans (Nat.zero_add _))
/-- The block of a point. -/
def blk (t : Fin cfg0.N) : Fin 9 := ⟨t.val / 4, by have := lt t; omega⟩

theorem final14 (c : Dev nD) : (dats m 0 c).arrAt 14 (cfgs 0).N = (arrs m c).outDy := by
  refine (dats m 0 c).arrAt_eq_of_covers 14 _ (by decide +kernel) fun t hf y => ?_
  blk_simp
  have h3 := (flush0_14 t).mp hf
  rw [after0_14]
  refine Eq.trans (b := (outsAt0 m c (t.val - 1) (by have := t.isLt; omega)).2.2.2.2.2.2.1 y) ?_ ?_
  · rw [outsAt0_C m c t (by omega) h3]; frame_out
    exact congrFun (Memref.IsWhole.read_unread _ _) y
  · refine ((congrArg _ (eq_ix2 y)).trans (dy_before m c t (by omega) (y 0) (y 1))).trans ?_
    exact app2 (arrs m c).dy (by show t.val / 4 * 512 + (y 0).val = _; blk_simp [idx t]) (by blk_simp [idx t])

set_option maxHeartbeats 1000000 in
theorem final10 (c : Dev nD) : (dats m 0 c).arrAt 10 (cfgs 0).N = (arrs m c).outDx := by
  refine (dats m 0 c).arrAt_eq_of_covers 10 _ (by decide +kernel) fun t hf y => ?_
  blk_simp
  have h3 := (flush0_10 t).mp hf
  rw [after0_10]
  have hacc : (outsAt0 m c t.val t.isLt).2.2.2.2.2.2.2 = fun y => (arrs m c).dm (row t (y 0)) (y 1) := funext (acc_end m c t h3)
  rw [outsAt0_C m c t (by omega) h3] at hacc ⊢
  frame_out at hacc
  frame_out
  obtain ⟨a, d, rfl⟩ : ∃ (a : Fin 512) (d : Fin 1024), y = ix2 a d := ⟨y 0, y 1, eq_ix2 y⟩
  refine (dx_row (arrs m c) (R := row t a) (blk0 m c t a) (fun d => acc_read (F := fun a d => (arrs m c).dm (row t a) d) hacc rfl a d) (blk1 m c t a) (blk3 m c t) (fun d => ?_) d).trans ?_
  · refine Eq.trans ?_ (blk2 m c t a 7 d)
    pointwise
  · exact app2 (arrs m c).dx (by show t.val / 4 * 512 + a.val = _; blk_simp [idx t]) (by blk_simp [idx t])

theorem sums_congr {X : Arrs} {i i' : Fin 9} {k k' : ℕ} {d d' : Fin 1024} (hi : i.val = i'.val) (hk : k = k') (hd : d.val = d'.val) :
    X.sums i k d = X.sums i' k' d' := by rw [Fin.ext hi, hk, Fin.ext hd]

theorem sums_zero {X : Arrs} {i : Fin 9} {k : ℕ} {d : Fin 1024} (hk : 4 ≤ k) : X.sums i k d = 0 := by
  unfold Arrs.sums
  rw [if_neg (by omega), if_neg (by omega), if_neg (by omega), if_neg (by omega)]

set_option maxHeartbeats 1000000 in
theorem final15 (c : Dev nD) : (dats m 0 c).arrAt 15 (cfgs 0).N = (arrs m c).outSums := by
  refine (dats m 0 c).arrAt_eq_of_covers 15 _ (by decide +kernel) fun t hf y => ?_
  blk_simp
  have h3 := (flush0_15 t).mp hf
  rw [after0_15]
  have hacc : (outsAt0 m c t.val t.isLt).2.2.2.2.2.2.2 = fun y => (arrs m c).dm (row t (y 0)) (y 1) := funext (acc_end m c t h3)
  rw [outsAt0_C m c t (by omega) h3] at hacc ⊢
  frame_out at hacc
  frame_out
  generalize hA : (View.whole cc0_scratch1).readCov (Val := Elt Ideal) _ (Rect.unit ![0, 0] ![512, 1024] inb_S512x1024_S512x1024_0_0).toLoadRect = A
  replace hacc := acc_read (F := fun a d => (arrs m c).dm (brow (blk t) a) d) hacc hA.symm
  clear hA
  have hs : ∀ (r : Fin 512) (d : Fin 1024), View.ld (iblk m c 2 t) (Rect.unit ![0, 7, 0] ![1, 1, 1024] inb_S1x9x1024_S1x1x1024_0_7_0) (ix3 0 0 d) = (arrs m c).M (ix3 (grp (brow (blk t) r)) 7 d) := fun r d => by
    refine Eq.trans ?_ (blk2 m c t r 7 d)
    pointwise
  canon_tiles x h using (View.cover_of_tiledBy _ ![1, 1, 1024] (by sl_kernel_rfl) y)
  · refine (store_21 x).trans (sums_zero ?_).symm
    blk_simp [idx t]; omega
  · idx_vars x
    refine (gain_row (arrs m c) (i := blk t) hacc (blk1 m c t) hs _ _ _).trans ?_
    exact sums_congr (by show t.val / 4 = _; blk_simp [idx t]) (by blk_simp [idx t]; omega) (by blk_simp [idx t]; omega)
  · idx_vars x
    refine (gate_row (arrs m c) (i := blk t) (blk0 m c t) (blk4 m c t) _ _ _).trans ?_
    exact sums_congr (by show t.val / 4 = _; blk_simp [idx t]) (by blk_simp [idx t]; omega) (by blk_simp [idx t]; omega)
  · idx_vars x
    refine (scale_row (arrs m c) (i := blk t) hacc (blk1 m c t) (blk3 m c t) _ _ _).trans ?_
    exact sums_congr (by show t.val / 4 = _; blk_simp [idx t]) (by blk_simp [idx t]; omega) (by blk_simp [idx t]; omega)
  · idx_vars x
    refine (shift_row (arrs m c) (i := blk t) hacc _ _ _).trans ?_
    exact sums_congr (by show t.val / 4 = _; blk_simp [idx t]) (by blk_simp [idx t]; omega) (by blk_simp [idx t]; omega)
end Cert.KFfnIdeal.Rows
-- ==== Proof.FfnHost.lean ====
module

public import proofs.«01_k».proof.Proof.FfnFinal
public import proofs.«01_k».proof.Proof.Gen.RFfnIdeal.Read
public import Idealize.ShloMosaic.Lib.Pointwise

/-! What the feed-forward gradient's call is handed, as functions of the arguments: the rows of both streams, the modulation, and the
saved values of the forward pass in four slots of 704 hidden lanes. -/

@[expose] public section
set_option maxRecDepth 16384
noncomputable section
open Idealize.ShloMosaic Idealize.ShloMosaic.TcCoe Idealize.SL.Sem
open Idealize.ShloMosaic.Pipeline (Dat)
namespace Cert.KFfnIdeal.Rows
open Cert.KFfnIdeal Cert.KFfnIdeal.Gen

/-- The rows of nine blocks, one after the other. -/
def flat (x : FVec Ideal S9x512x1024 .f32) : FVec Ideal S4608x1024 .f32 := shapeCast S4608x1024 x shapeCasts_S9x512x1024_S4608x1024
/-- The hidden lanes in four slots, the slot first. -/
def slots (x : FVec Ideal S9x512x2816 .f32) : FVec Ideal S4x4608x704 .bf16 :=
  truncf .bf16 (transpose S4x4608x704 [1, 0, 2] (shapeCast S4608x4x704 x shapeCasts_S9x512x2816_S4608x4x704) transposes_S4608x4x704_S4x4608x704_1_0_2) bitsLt_bf16_f32
/-- A weight whose columns are hidden lanes, transposed, in four slots. -/
def wcols (x : FVec Ideal S1024x2816 .f32) : FVec Ideal S4x704x1024 .bf16 :=
  truncf .bf16 (shapeCast S4x704x1024 (transpose S2816x1024 [1, 0] x transposes_S1024x2816_S2816x1024_1_0) shapeCasts_S2816x1024_S4x704x1024) bitsLt_bf16_f32
/-- A weight whose rows are hidden lanes, in four slots. -/
def wrows (x : FVec Ideal S2816x1024 .f32) : FVec Ideal S4x704x1024 .bf16 :=
  truncf .bf16 (shapeCast S4x704x1024 x shapeCasts_S2816x1024_S4x704x1024) bitsLt_bf16_f32
/-- The modulation of the two sequences and of the context. -/
def mods (x : FVec Ideal S2x9x1024 .f32) (y : FVec Ideal S1x9x1024 .f32) : FVec Ideal S3x9x1024 .f32 :=
  concatenate S3x9x1024 0 [⟨S2x9x1024, x⟩, ⟨S1x9x1024, y⟩] concatenates_S2x9x1024_S1x9x1024_S3x9x1024_d0

theorem lt_hid (s : Fin 4) (f : Fin 704) : s.val * 704 + f.val < 2816 := by omega
/-- The hidden lane `f` of slot `s`. -/
def hid (s : Fin 4) (f : Fin 704) : Fin 2816 := ⟨s.val * 704 + f.val, lt_hid s f⟩

theorem flat_at (x) (i : Fin 9) (a : Fin 512) (d : Fin 1024) : flat x (ix2 (brow i a) d) = x (ix3 i a d) := by
  unfold brow
  pointwise [flat]
theorem slots_at (x) (s : Fin 4) (i : Fin 9) (a : Fin 512) (f : Fin 704) : slots x (ix3 s (brow i a) f) = x (ix3 i a (hid s f)) := by
  unfold brow hid
  pointwise [slots]
theorem wcols_at (x) (s : Fin 4) (f : Fin 704) (d : Fin 1024) : wcols x (ix3 s f d) = x (ix2 d (hid s f)) := by
  unfold hid
  pointwise [wcols]
theorem wrows_at (x) (s : Fin 4) (f : Fin 704) (d : Fin 1024) : wrows x (ix3 s f d) = x (ix2 (hid s f) d) := by
  unfold hid
  pointwise [wrows]

/-- The arrays of the call from the arguments. -/
def ofArgs (x0 : FVec Ideal S2x2048x1024 .f32) (x1 : FVec Ideal S2x256x1024 .f32) (x2 : FVec Ideal S2x2048x1024 .f32) (x3 : FVec Ideal S2x256x1024 .f32)
    (x4 : FVec Ideal S2x9x1024 .f32) (x5 : FVec Ideal S1x9x1024 .f32) (x6 : FVec Ideal S1024 .f32) (x7 x8 : FVec Ideal S1024x2816 .f32) (x9 : FVec Ideal S2816x1024 .f32) : Arrs where
  DH := flat (Cert.RFfnIdeal.Read.val_main_v5 (F := Ideal) x0 x1)
  H := flat (Cert.RFfnIdeal.Read.val_main_v2 (F := Ideal) x2 x3)
  M := mods x4 x5
  G := shapeCast S1x1024 x6 shapeCasts_S1024_S1x1024
  Y := truncf .bf16 (flat (Cert.RFfnIdeal.Read.val_main_v49 (F := Ideal) x2 x3 x4 x5 x6 x7 x8 x9)) bitsLt_bf16_f32
  A := slots (Cert.RFfnIdeal.Read.val_main_v43 (F := Ideal) x2 x3 x4 x5 x6 x7)
  B := slots (Cert.RFfnIdeal.Read.val_main_v44 (F := Ideal) x2 x3 x4 x5 x6 x8)
  W1 := wcols x7
  W3 := wcols x8
  W2 := wrows x9

section
variable (m : (ℓ : Loc nD τ sig) → Buf (Elt Ideal) ℓ) (c : Dev nD)
theorem hostDH : V m c main_v41 = flat (Cert.RFfnIdeal.Read.val_main_v5 (F := Ideal) (m ((c : Thread nD τ).loc main_arg0)) (m ((c : Thread nD τ).loc main_arg1))) := by
  unfold V; entry_read; rfl
theorem hostH : V m c main_v42 = flat (Cert.RFfnIdeal.Read.val_main_v2 (F := Ideal) (m ((c : Thread nD τ).loc main_arg2)) (m ((c : Thread nD τ).loc main_arg3))) := by
  unfold V; entry_read; rfl
theorem hostM : V m c main_v40 = mods (m ((c : Thread nD τ).loc main_arg4)) (m ((c : Thread nD τ).loc main_arg5)) := by
  unfold V; entry_read; rfl
theorem hostG : V m c main_v43 = shapeCast S1x1024 (m ((c : Thread nD τ).loc main_arg6)) shapeCasts_S1024_S1x1024 := by
  unfold V; entry_read; rfl
theorem hostW1 : V m c main_v54 = wcols (m ((c : Thread nD τ).loc main_arg7)) := by
  unfold V; entry_read; rfl
theorem hostW3 : V m c main_v57 = wcols (m ((c : Thread nD τ).loc main_arg8)) := by
  unfold V; entry_read; rfl
theorem hostW2 : V m c main_v59 = wrows (m ((c : Thread nD τ).loc main_arg9)) := by
  unfold V; entry_read; rfl
theorem hostA : V m c main_v48 = slots (Cert.RFfnIdeal.Read.val_main_v43 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  unfold V; entry_read; rfl
theorem hostB : V m c main_v51 = slots (Cert.RFfnIdeal.Read.val_main_v44 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8))) := by
  unfold V; entry_read; rfl
theorem hostY : V m c main_v45 = truncf .bf16 (flat (Cert.RFfnIdeal.Read.val_main_v49 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))) bitsLt_bf16_f32 := by
  unfold V; entry_read; rfl
theorem arrs_eq : arrs m c = ofArgs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  unfold arrs ofArgs
  rw [hostDH, hostH, hostM, hostG, hostY, hostA, hostB, hostW1, hostW3, hostW2]
end
end Cert.KFfnIdeal.Rows
-- ==== Proof.Reals.lean ====
module

public import Idealize.ShloMosaic.PureOps.Ideal.Laws
public import Idealize.ShloMosaic.Lib.IdealHost
public import Idealize.ShloMosaic.Lib.Pointwise

/-! Extended reals that are real numbers, and what keeps them so. -/

@[expose] public section
noncomputable section
open Idealize.ShloMosaic
namespace Cert.Reals

/-- The value is a real number, not one of the infinities. -/
def IsR (x : EReal) : Prop := ∃ r : ℝ, x = r

theorem isR_coe (r : ℝ) : IsR (r : EReal) := ⟨r, rfl⟩
theorem isR_zero : IsR 0 := ⟨0, rfl⟩
theorem isR_one : IsR 1 := ⟨1, rfl⟩
theorem isR_add {x y : EReal} : IsR x → IsR y → IsR (x + y) := by
  rintro ⟨a, rfl⟩ ⟨b, rfl⟩; exact ⟨a + b, (EReal.coe_add a b).symm⟩
theorem isR_sub {x y : EReal} : IsR x → IsR y → IsR (x - y) := by
  rintro ⟨a, rfl⟩ ⟨b, rfl⟩; exact ⟨a - b, (EReal.coe_sub a b).symm⟩
theorem isR_mul {x y : EReal} : IsR x → IsR y → IsR (x * y) := by
  rintro ⟨a, rfl⟩ ⟨b, rfl⟩; exact ⟨a * b, (EReal.coe_mul a b).symm⟩
theorem isR_neg {x : EReal} : IsR x → IsR (-x) := by
  rintro ⟨a, rfl⟩; exact ⟨-a, (EReal.coe_neg a).symm⟩
theorem isR_sum {ι : Type} (s : Finset ι) (f : ι → EReal) (h : ∀ i ∈ s, IsR (f i)) : IsR (∑ i ∈ s, f i) := by
  classical
  induction s using Finset.induction_on with
  | empty => exact isR_zero
  | insert a s ha ih =>
    rw [Finset.sum_insert ha]
    exact isR_add (h a (Finset.mem_insert_self _ _)) (ih fun i hi => h i (Finset.mem_insert_of_mem hi))
theorem coe_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]
theorem isR_logistic {x : EReal} : IsR x → IsR (Ideal.logistic x) := by
  rintro ⟨a, rfl⟩; exact ⟨_, Ideal.logistic_coe a⟩
theorem isR_exp {x : EReal} : IsR x → IsR (Ideal.exp x) := by
  rintro ⟨a, rfl⟩; exact ⟨_, Ideal.exp_coe a⟩
theorem rsqrt_pos {r : ℝ} (h : 0 < r) : Ideal.rsqrt (r : EReal) = (((Real.sqrt r)⁻¹ : ℝ) : EReal) := by
  rw [Ideal.rsqrt_coe, if_neg (not_lt.2 h.le), if_neg h.ne']
theorem isR_lt_top {x : EReal} (h : max x (-x) < ⊤) : IsR x := by
  induction x using EReal.rec with
  | bot => simp at h
  | coe r => exact ⟨r, rfl⟩
  | top => simp at h

/-- A positive real factor is taken out of a real sum. -/
theorem sum_mul_isR {ι : Type} (s : Finset ι) (f : ι → EReal) (c : EReal) (hf : ∀ i, IsR (f i)) (hc : IsR c) :
    ∑ i ∈ s, f i * c = (∑ i ∈ s, f i) * c := by
  choose g hg using hf
  obtain ⟨r, rfl⟩ := hc
  simp only [hg, ← EReal.coe_mul, ← coe_sum, Finset.sum_mul]

theorem bits_half : Ideal.ofBits .f32 0x3F000000#32 = (((1 : ℝ) / 2 : ℝ) : EReal) := by
  simp [Ideal.ofBits, Ideal.ieee]; rw [← EReal.coe_mul]; norm_num
theorem bits_neg_half : Ideal.ofBits .f32 0xBF000000#32 = ((-((1 : ℝ) / 2) : ℝ) : EReal) := by
  simp [Ideal.ofBits, Ideal.ieee]; rw [← EReal.coe_mul]; norm_num
theorem bits_inv : Ideal.ofBits .f32 0x3A800000#32 = (((1 : ℝ) / 1024 : ℝ) : EReal) := by
  simp [Ideal.ofBits, Ideal.ieee]; rw [← EReal.coe_mul]; norm_num
theorem bits_1024 : Ideal.ofBits .f32 0x44800000#32 = ((1024 : ℝ) : EReal) := by
  simp [Ideal.ofBits, Ideal.ieee]; rw [← EReal.coe_mul]; norm_num
theorem bits_eps : ∃ e : ℝ, 0 < e ∧ Ideal.ofBits .f32 0x358637BD#32 = (e : EReal) := by
  refine ⟨_, ?_, by simp [Ideal.ofBits, Ideal.ieee]; rfl⟩
  positivity
theorem bits_top : Ideal.ofBits .f32 0x7F800000#32 = ⊤ := by
  simp [Ideal.ofBits, Ideal.ieee]
end Cert.Reals
-- ==== Proof.NormGrad.lean ====
module

public import proofs.«01_k».proof.Proof.Reals

/-! The gradient of the normalisation in its two spellings. They agree on every row: a row with an infinite element has its factor zero, and on a real row only the cotangent may be infinite, which is multiplied by real numbers alone. -/

@[expose] public section
noncomputable section
open Idealize.ShloMosaic
namespace Cert.Reals

theorem sum_mul_nonneg {ι : Type} (s : Finset ι) (f : ι → EReal) {r : ℝ} (hr : 0 ≤ r) : ∑ i ∈ s, f i * (r : EReal) = (∑ i ∈ s, f i) * (r : EReal) := by
  classical
  induction s using Finset.induction_on with
  | empty => simp
  | insert a s ha ih =>
    rw [Finset.sum_insert ha, Finset.sum_insert ha, ih, EReal.right_distrib_of_nonneg_of_ne_top (EReal.coe_nonneg.2 hr) (EReal.coe_ne_top r)]
theorem twice (x : EReal) (a : ℝ) : x * (a : EReal) + x * (a : EReal) = x * ((a + a : ℝ) : EReal) := by
  induction x using EReal.rec with
  | coe x => rw [← EReal.coe_mul, ← EReal.coe_mul, ← EReal.coe_add]; congr 1; ring
  | top =>
    rcases lt_trichotomy a 0 with h | h | h
    · rw [EReal.top_mul_coe_of_neg h, EReal.top_mul_coe_of_neg (by linarith)]; rfl
    · subst h; simp
    · rw [EReal.top_mul_coe_of_pos h, EReal.top_mul_coe_of_pos (by linarith)]; rfl
  | bot =>
    rcases lt_trichotomy a 0 with h | h | h
    · rw [EReal.bot_mul_coe_of_neg h, EReal.bot_mul_coe_of_neg (by linarith)]; rfl
    · subst h; simp
    · rw [EReal.bot_mul_coe_of_pos h, EReal.bot_mul_coe_of_pos (by linarith)]; rfl
theorem sq_nonneg' (x : EReal) : 0 ≤ x * x := by
  induction x using EReal.rec with
  | coe x => rw [← EReal.coe_mul]; exact EReal.coe_nonneg.2 (mul_self_nonneg x)
  | top => rw [EReal.top_mul_top]; exact le_top
  | bot => rw [EReal.bot_mul_bot]; exact le_top
theorem sq_top {x : EReal} (h : ¬IsR x) : x * x = ⊤ := by
  induction x using EReal.rec with
  | coe x => exact absurd (isR_coe x) h
  | top => exact EReal.top_mul_top
  | bot => exact EReal.bot_mul_bot
theorem ms_top {h : Fin 1024 → EReal} {d0 : Fin 1024} (hd : ¬IsR (h d0)) : (∑ d : Fin 1024, h d * h d) * Ideal.ofBits .f32 0x3A800000#32 + Ideal.ofBits .f32 0x358637BD#32 = ⊤ := by
  have hs : ∑ d : Fin 1024, h d * h d = ⊤ :=
    top_le_iff.1 ((sq_top hd).symm.le.trans (Finset.single_le_sum (f := fun d => h d * h d) (fun d _ => sq_nonneg' (h d)) (Finset.mem_univ d0)))
  obtain ⟨e, _, he⟩ := bits_eps
  rw [hs, he, bits_inv, EReal.top_mul_coe_of_pos (by norm_num), EReal.top_add_coe]
/-- The two spellings of the norm's gradient agree on any row. -/
theorem norm_eq (dh h dn : Fin 1024 → EReal) {ms : EReal} (hms : ms = (∑ d : Fin 1024, h d * h d) * Ideal.ofBits .f32 0x3A800000#32 + Ideal.ofBits .f32 0x358637BD#32) (d : Fin 1024) :
    dh d + dn d * Ideal.rsqrt ms + h d * Ideal.div ((∑ x, h x * dn x) * (Ideal.ofBits .f32 0xBF000000#32 * Ideal.div (Ideal.rsqrt ms) ms)) (Ideal.ofBits .f32 0x44800000#32)
      + Ideal.div ((∑ x, h x * dn x) * (Ideal.ofBits .f32 0xBF000000#32 * Ideal.div (Ideal.rsqrt ms) ms)) (Ideal.ofBits .f32 0x44800000#32) * h d
    = dh d + Ideal.rsqrt ms * (dn d - h d * Ideal.rsqrt ms * ((∑ x, dn x * (h x * Ideal.rsqrt ms)) * Ideal.ofBits .f32 0x3A800000#32)) := by
  by_cases hr : ∀ d, IsR (h d)
  · choose h' hh using hr
    obtain ⟨ε, hε, he⟩ := bits_eps
    have h0 : 0 < (∑ d, h' d * h' d) * (1 / 1024) + ε := by
      have : 0 ≤ ∑ d, h' d * h' d := Finset.sum_nonneg fun d _ => mul_self_nonneg _
      positivity
    have hm : ms = (((∑ d, h' d * h' d) * (1 / 1024) + ε : ℝ) : EReal) := by
      rw [hms, he, bits_inv]
      simp only [hh, ← EReal.coe_mul, ← coe_sum, ← EReal.coe_add]
    generalize (∑ d, h' d * h' d) * (1 / 1024) + ε = e at h0 hm
    subst hm
    have hq : ∑ x, dn x * (h x * (((√e)⁻¹ : ℝ) : EReal)) = (∑ x, h x * dn x) * (((√e)⁻¹ : ℝ) : EReal) := by
      rw [← sum_mul_nonneg _ _ (by positivity)]
      exact Finset.sum_congr rfl fun x _ => by rw [← mul_assoc, mul_comm (dn x)]
    have hs : 1 / e = (√e)⁻¹ * (√e)⁻¹ := by
      rw [← mul_inv, Real.mul_self_sqrt h0.le, one_div]
    rw [bits_1024, Ideal.div_coe (by norm_num), rsqrt_pos h0, Ideal.div_coe h0.ne', bits_neg_half, bits_inv, hq, hh d, hs]
    generalize ∑ x, h x * dn x = S
    have hρ : (0 : ℝ) ≤ (√e)⁻¹ := by positivity
    generalize (√e)⁻¹ = ρ at hρ
    have e1 : S * (((-(1 / 2) : ℝ) : EReal) * ((ρ : EReal) * ((ρ * ρ : ℝ) : EReal))) * (((1 : ℝ) / 1024 : ℝ) : EReal)
        = S * ((-(1 / 2) * (ρ * (ρ * ρ)) * (1 / 1024) : ℝ) : EReal) := by
      rw [mul_assoc]; simp only [← EReal.coe_mul]
    rw [e1, mul_comm ((h' d : ℝ) : EReal) (S * _), mul_assoc S, ← EReal.coe_mul, add_assoc, twice, sub_eq_add_neg, ← mul_neg, ← EReal.coe_mul]
    have e2 : ((h' d * ρ : ℝ) : EReal) * -(S * (ρ : EReal) * (((1 : ℝ) / 1024 : ℝ) : EReal)) = S * ((-(h' d * ρ * (ρ * (1 / 1024))) : ℝ) : EReal) := by
      rw [mul_neg, mul_assoc S, ← EReal.coe_mul, mul_left_comm, ← EReal.coe_mul, ← mul_neg, ← EReal.coe_neg]
    rw [e2, EReal.left_distrib_of_nonneg_of_ne_top (EReal.coe_nonneg.2 hρ) (EReal.coe_ne_top ρ), mul_left_comm (ρ : EReal) S, ← EReal.coe_mul, add_assoc, mul_comm (dn d)]
    congr 5
    ring
  · obtain ⟨d0, hd⟩ := not_forall.1 hr
    rw [ms_top hd] at hms
    subst hms
    have hd0 : Ideal.div 0 ⊤ = 0 := by simp [Ideal.div]
    rw [bits_1024, Ideal.div_coe (by norm_num), Ideal.rsqrt_top, hd0]
    simp only [mul_zero, zero_mul, add_zero]
/-- A normed row is real, whatever the row. -/
theorem isR_norm (h : Fin 1024 → EReal) (d : Fin 1024) : IsR (h d * Ideal.rsqrt ((∑ d : Fin 1024, h d * h d) * Ideal.ofBits .f32 0x3A800000#32 + Ideal.ofBits .f32 0x358637BD#32)) := by
  by_cases hr : ∀ d, IsR (h d)
  · choose h' hh using hr
    obtain ⟨ε, hε, he⟩ := bits_eps
    have h0 : 0 < (∑ d, h' d * h' d) * (1 / 1024) + ε := by
      have : 0 ≤ ∑ d, h' d * h' d := Finset.sum_nonneg fun d _ => mul_self_nonneg _
      positivity
    have hm : (∑ d : Fin 1024, h d * h d) * Ideal.ofBits .f32 0x3A800000#32 + Ideal.ofBits .f32 0x358637BD#32 = (((∑ d, h' d * h' d) * (1 / 1024) + ε : ℝ) : EReal) := by
      rw [he, bits_inv]
      simp only [hh, ← EReal.coe_mul, ← coe_sum, ← EReal.coe_add]
    rw [hm, rsqrt_pos h0, hh]
    exact isR_mul (isR_coe _) (isR_coe _)
  · obtain ⟨d0, hd⟩ := not_forall.1 hr
    rw [ms_top hd, Ideal.rsqrt_top, mul_zero]
    exact isR_zero
end Cert.Reals
-- ==== Proof.FfnRef.lean ====
module

public import proofs.«01_k».proof.Proof.FfnHost
public import proofs.«01_k».proof.Proof.NormGrad

/-! The reference's feed-forward gradient, read at one index and written over the same arrays. -/

@[expose] public section
set_option maxRecDepth 16384
noncomputable section
open Idealize.ShloMosaic Idealize.ShloMosaic.TcCoe Idealize.SL.Sem
namespace Cert.KFfnIdeal.Rows
open Cert.KFfnIdeal Cert.RFfnIdeal.Read Cert.Reals

section
variable (x0 : FVec Ideal S2x2048x1024 .f32) (x1 : FVec Ideal S2x256x1024 .f32) (x2 : FVec Ideal S2x2048x1024 .f32) (x3 : FVec Ideal S2x256x1024 .f32)
    (x4 : FVec Ideal S2x9x1024 .f32) (x5 : FVec Ideal S1x9x1024 .f32) (x6 : FVec Ideal S1024 .f32) (x7 x8 : FVec Ideal S1024x2816 .f32) (x9 : FVec Ideal S2816x1024 .f32)
  (i : Fin 9) (a : Fin 512)

theorem lt_blk (i : Fin 9) : i.val / 4 < 3 := by omega
theorem grp_brow : grp (brow i a) = ⟨i.val / 4, lt_blk i⟩ := by unfold grp brow; apply Fin.ext; simp only; omega
theorem mods_at (k : Fin 9) (d : Fin 1024) : mods x4 x5 (ix3 (grp (brow i a)) k d)
    = if h : i.val < 8 then x4 (ix3 ⟨i.val / 4, by omega⟩ k d) else x5 (ix3 ⟨i.val - 8, by omega⟩ k d) := by
  rw [grp_brow]
  pointwise [mods]
  by_cases h : i.val < 8
  · rw [dif_pos (by omega), dif_pos h]
  · rw [dif_neg (by omega), dif_neg h]; blk_ext
theorem mod7 (d : Fin 1024) : val_main_v16 (F := Ideal) x4 x5 (ix3 i 0 d) = mods x4 x5 (ix3 (grp (brow i a)) 7 d) := by
  rw [mods_at]
  pointwise [val_main_v16, val_main_v15, val_main_v14, val_main_v13, val_main_v12]
theorem mod8 (d : Fin 1024) : val_main_v21 (F := Ideal) x4 x5 (ix3 i 0 d) = mods x4 x5 (ix3 (grp (brow i a)) 8 d) := by
  rw [mods_at]
  pointwise [val_main_v21, val_main_v20, val_main_v19, val_main_v18, val_main_v17]
theorem mod6 (d : Fin 1024) : val_main_v11 (F := Ideal) x4 x5 (ix3 i 0 d) = mods x4 x5 (ix3 (grp (brow i a)) 6 d) := by
  rw [mods_at]
  pointwise [val_main_v11, val_main_v10, val_main_v9, val_main_v8, val_main_v7]

theorem ref_dy (d : Fin 1024) : val_main_v117 (F := Ideal) x0 x1 x4 x5 (ix3 i a d) = (ofArgs x0 x1 x2 x3 x4 x5 x6 x7 x8 x9).dy (brow i a) d := by
  simp only [Arrs.dy, ofArgs, flat_at, ← mod8]
  pointwise [val_main_v117, val_main_v116, val_main_v115, val_main_v114, val_main_cst_17]
theorem ref_ds (s : Fin 4) (f : Fin 704) : val_main_v121 (F := Ideal) x0 x1 x4 x5 x9 (ix3 i a (hid s f)) = (ofArgs x0 x1 x2 x3 x4 x5 x6 x7 x8 x9).ds s (brow i a) f := by
  simp only [Arrs.ds, ← ref_dy]
  simp only [ofArgs, wrows_at]
  pointwise [val_main_v121]
theorem same_a : val_main_v112 (F := Ideal) x2 x3 x4 x5 x6 x7 = val_main_v43 (F := Ideal) x2 x3 x4 x5 x6 x7 := rfl
theorem same_b : val_main_v113 (F := Ideal) x2 x3 x4 x5 x6 x8 = val_main_v44 (F := Ideal) x2 x3 x4 x5 x6 x8 := rfl
theorem same_ds : val_main_v58 (F := Ideal) x0 x1 x4 x5 x9 = val_main_v121 (F := Ideal) x0 x1 x4 x5 x9 := rfl
theorem same_db : val_main_v59 (F := Ideal) x0 x1 x2 x3 x4 x5 x6 x7 x9 = val_main_v122 (F := Ideal) x0 x1 x2 x3 x4 x5 x6 x7 x9 := rfl
theorem same_da : val_main_v61 (F := Ideal) x0 x1 x2 x3 x4 x5 x6 x7 x8 x9 = val_main_v124 (F := Ideal) x0 x1 x2 x3 x4 x5 x6 x7 x8 x9 := rfl
theorem arrs_a (s : Fin 4) (f : Fin 704) : (ofArgs x0 x1 x2 x3 x4 x5 x6 x7 x8 x9).A (ix3 s (brow i a) f) = val_main_v43 (F := Ideal) x2 x3 x4 x5 x6 x7 (ix3 i a (hid s f)) := slots_at _ s i a f
theorem arrs_b (s : Fin 4) (f : Fin 704) : (ofArgs x0 x1 x2 x3 x4 x5 x6 x7 x8 x9).B (ix3 s (brow i a) f) = val_main_v44 (F := Ideal) x2 x3 x4 x5 x6 x8 (ix3 i a (hid s f)) := slots_at _ s i a f
theorem ref_silu (j) : val_main_v118_0 (F := Ideal) x2 x3 x4 x5 x6 x7 j = val_main_v43 (F := Ideal) x2 x3 x4 x5 x6 x7 j * Ideal.logistic (val_main_v43 (F := Ideal) x2 x3 x4 x5 x6 x7 j) := by
  pointwise [val_main_v118_0, val_main_v118_2, val_main_call2_v4, val_main_call2_v3, val_main_call2_v2, val_main_call2_v1, val_main_call2_v0, val_main_call2_cst, val_main_call2_cst_0]
  rfl
theorem ref_silu' (j) : val_main_v134 (F := Ideal) x2 x3 x4 x5 x6 x7 j = val_main_v43 (F := Ideal) x2 x3 x4 x5 x6 x7 j * Ideal.logistic (val_main_v43 (F := Ideal) x2 x3 x4 x5 x6 x7 j) := by
  refine Eq.trans ?_ (ref_silu x2 x3 x4 x5 x6 x7 j)
  rfl
theorem ref_db (s : Fin 4) (f : Fin 704) : val_main_v122 (F := Ideal) x0 x1 x2 x3 x4 x5 x6 x7 x9 (ix3 i a (hid s f)) = (ofArgs x0 x1 x2 x3 x4 x5 x6 x7 x8 x9).db s (brow i a) f := by
  pointwise [val_main_v122, ref_silu]
  rw [ref_ds x0 x1 x2 x3 x4 x5 x6 x7 x8 x9, Arrs.db, arrs_a, mul_comm]
theorem ref_sw (s : Fin 4) (f : Fin 704) : val_main_v135 (F := Ideal) x2 x3 x4 x5 x6 x7 x8 (ix3 i a (hid s f)) = (ofArgs x0 x1 x2 x3 x4 x5 x6 x7 x8 x9).sw s (brow i a) f := by
  pointwise [val_main_v135, ref_silu']
  rw [Arrs.sw, arrs_a, arrs_b, same_b]

theorem ref_h (d : Fin 1024) : val_main_v2 (F := Ideal) x2 x3 (ix3 i a d) = (ofArgs x0 x1 x2 x3 x4 x5 x6 x7 x8 x9).H (ix2 (brow i a) d) := (flat_at _ i a d).symm
theorem ref_dh (d : Fin 1024) : val_main_v5 (F := Ideal) x0 x1 (ix3 i a d) = (ofArgs x0 x1 x2 x3 x4 x5 x6 x7 x8 x9).DH (ix2 (brow i a) d) := (flat_at _ i a d).symm
theorem ref_y (d : Fin 1024) : val_main_v49 (F := Ideal) x2 x3 x4 x5 x6 x7 x8 x9 (ix3 i a d) = (ofArgs x0 x1 x2 x3 x4 x5 x6 x7 x8 x9).Y (ix2 (brow i a) d) := (flat_at _ i a d).symm
theorem ref_g (d : Fin 1024) : x6 (ix1 d) = (ofArgs x0 x1 x2 x3 x4 x5 x6 x7 x8 x9).G (ix2 0 d) := by
  refine Eq.symm ?_
  show shapeCast S1x1024 x6 Cert.KFfnIdeal.Gen.shapeCasts_S1024_S1x1024 (ix2 0 d) = _
  pointwise []
theorem ref_ms : val_main_v28 (F := Ideal) x2 x3 (ix3 i a 0) = (∑ d : Fin 1024, (ofArgs x0 x1 x2 x3 x4 x5 x6 x7 x8 x9).H (ix2 (brow i a) d) * (ofArgs x0 x1 x2 x3 x4 x5 x6 x7 x8 x9).H (ix2 (brow i a) d)) * inv + eps := by
  simp only [← ref_h]
  pointwise [val_main_v28, val_main_v27, val_main_v26, val_main_v25, val_main_v24, val_main_v23, val_main_v22, val_main_cst, val_main_cst_0, val_main_cst_1]
  rw [bits_1024, Ideal.div_coe (by norm_num), ← bits_inv]
theorem ref_rn : val_main_v29 (F := Ideal) x2 x3 (ix3 i a 0) = (ofArgs x0 x1 x2 x3 x4 x5 x6 x7 x8 x9).rn (brow i a) := by
  rw [Arrs.rn, ← ref_ms]
  pointwise [val_main_v29]

theorem dgate_eq {ds u v : EReal} (hp : IsR (ds * v)) :
    ds * v * Ideal.logistic u + u * (ds * v) * (Ideal.logistic u * (1 - Ideal.logistic u)) = dgate ds u v := by
  unfold dgate
  generalize ds * v = p at hp
  obtain ⟨p, rfl⟩ := hp
  have h1 : (1 : EReal) = ((1 : ℝ) : EReal) := rfl
  induction u using EReal.rec with
  | coe u =>
    obtain ⟨l, hl⟩ := isR_logistic (isR_coe u)
    rw [hl, h1]
    simp only [← EReal.coe_mul, ← EReal.coe_add, ← EReal.coe_sub]
    congr 1
    ring
  | top =>
    have h0 : (1 : EReal) - 1 = 0 := by rw [h1, ← EReal.coe_sub, sub_self, EReal.coe_zero]
    rw [Ideal.logistic_top, h0]
    simp only [mul_zero, add_zero]
  | bot =>
    rw [Ideal.logistic_bot]
    simp only [mul_zero, zero_mul, add_zero]

/-- Every argument is real except the rows and the first weight. -/
structure RealArgs : Prop where
  r0 : ∀ j, IsR (x0 j)
  r1 : ∀ j, IsR (x1 j)
  r4 : ∀ j, IsR (x4 j)
  r5 : ∀ j, IsR (x5 j)
  r6 : ∀ j, IsR (x6 j)
  r8 : ∀ j, IsR (x8 j)
  r9 : ∀ j, IsR (x9 j)

variable (hr : RealArgs x0 x1 x4 x5 x6 x8 x9)
include hr
theorem real_dh (d : Fin 1024) : IsR (val_main_v5 (F := Ideal) x0 x1 (ix3 i a d)) := by
  pointwise [val_main_v5, val_main_v4, val_main_v3]
  split
  · exact hr.r0 _
  · exact hr.r1 _
theorem real_mod (k : Fin 9) (d : Fin 1024) : IsR (mods x4 x5 (ix3 (grp (brow i a)) k d)) := by
  rw [mods_at]
  split
  · exact hr.r4 _
  · exact hr.r5 _
omit hr in
theorem real_xh (d : Fin 1024) : IsR (val_main_v2 (F := Ideal) x2 x3 (ix3 i a d) * val_main_v29 (F := Ideal) x2 x3 (ix3 i a 0)) := by
  refine Eq.subst (motive := fun e => IsR (val_main_v2 (F := Ideal) x2 x3 (ix3 i a d) * e)) ?_ (isR_norm (fun d => val_main_v2 (F := Ideal) x2 x3 (ix3 i a d)) d)
  pointwise [val_main_v29, val_main_v28, val_main_v27, val_main_v26, val_main_v25, val_main_v24, val_main_v23, val_main_v22, val_main_cst, val_main_cst_0, val_main_cst_1]
  rw [bits_1024, Ideal.div_coe (by norm_num), ← bits_inv]
theorem real_m (d : Fin 1024) : IsR (val_main_v42 (F := Ideal) x2 x3 x4 x5 x6 (ix3 i a d)) := by
  pointwise [val_main_v42, val_main_v41, val_main_v40, val_main_v39, val_main_v38, val_main_v37, val_main_v36, val_main_v35, val_main_v34, val_main_v33, val_main_v6, val_main_cst_3]
  rw [mod7 x4 x5 i a, mod6 x4 x5 i a]
  exact isR_add (isR_mul (isR_mul (real_xh x2 x3 i a d) (hr.r6 _)) (isR_add isR_one (real_mod x0 x1 x4 x5 x6 x8 x9 i a hr 7 d)))
    (real_mod x0 x1 x4 x5 x6 x8 x9 i a hr 6 d)
theorem real_b (f : Fin 2816) : IsR (val_main_v44 (F := Ideal) x2 x3 x4 x5 x6 x8 (ix3 i a f)) := by
  pointwise [val_main_v44]
  exact isR_sum _ _ fun d _ => isR_mul (real_m x0 x1 x2 x3 x4 x5 x6 x8 x9 i a hr d) (hr.r8 _)
theorem real_ds (f : Fin 2816) : IsR (val_main_v121 (F := Ideal) x0 x1 x4 x5 x9 (ix3 i a f)) := by
  pointwise [val_main_v121, val_main_v117, val_main_v116, val_main_v115, val_main_v114, val_main_cst_17]
  rw [bits_half]
  refine isR_sum _ _ fun d _ => isR_mul (isR_mul (isR_mul (isR_coe _) ?_) (real_dh x0 x1 x4 x5 x6 x8 x9 i a hr d)) (hr.r9 _)
  rw [mod8 x4 x5 i a]
  exact real_mod x0 x1 x4 x5 x6 x8 x9 i a hr 8 d
theorem ref_da (s : Fin 4) (f : Fin 704) : val_main_v124 (F := Ideal) x0 x1 x2 x3 x4 x5 x6 x7 x8 x9 (ix3 i a (hid s f)) = (ofArgs x0 x1 x2 x3 x4 x5 x6 x7 x8 x9).da s (brow i a) f := by
  rw [Arrs.da, arrs_a, arrs_b, ← ref_ds, ← dgate_eq (isR_mul (real_ds x0 x1 x4 x5 x6 x8 x9 i a hr _) (real_b x0 x1 x2 x3 x4 x5 x6 x8 x9 i a hr _))]
  pointwise [val_main_v124, val_main_v123, val_main_call3_v0, val_main_call3_v1, val_main_call3_v2, val_main_v118_1, val_main_v118_2, val_main_call2_v7, val_main_call2_v6, val_main_call2_cst_1, val_main_call2_v4, val_main_call2_v3, val_main_call2_v2, val_main_call2_v1, val_main_call2_v0, val_main_call2_cst, val_main_call2_cst_0]
  rw [same_a, same_b]
  rfl
theorem ref_dm (d : Fin 1024) : val_main_v66 (F := Ideal) x0 x1 x2 x3 x4 x5 x6 x7 x8 x9 (ix3 i a d) = (ofArgs x0 x1 x2 x3 x4 x5 x6 x7 x8 x9).dm (brow i a) d := by
  pointwise [val_main_v66, val_main_v65, val_main_v64]
  rw [same_db, same_da, Fin.sum_univ_tiles 4 704 rfl, Fin.sum_univ_tiles 4 704 rfl]
  unfold Arrs.dm Arrs.part
  rw [Finset.sum_add_distrib, add_comm]
  refine congrArg₂ (· + ·) ?_ ?_
  · refine Finset.sum_congr rfl fun s _ => Finset.sum_congr rfl fun f _ => ?_
    rw [← ref_da x0 x1 x2 x3 x4 x5 x6 x7 x8 x9 i a hr s f]
    exact congrArg₂ (· * ·) rfl (wcols_at x7 s f d).symm
  · refine Finset.sum_congr rfl fun s _ => Finset.sum_congr rfl fun f _ => ?_
    rw [← ref_db x0 x1 x2 x3 x4 x5 x6 x7 x8 x9 i a s f]
    exact congrArg₂ (· * ·) rfl (wcols_at x8 s f d).symm
theorem ref_dscaled (d : Fin 1024) : val_main_v73 (F := Ideal) x0 x1 x2 x3 x4 x5 x6 x7 x8 x9 (ix3 i a d)
    = (ofArgs x0 x1 x2 x3 x4 x5 x6 x7 x8 x9).dm (brow i a) d * (1 + (ofArgs x0 x1 x2 x3 x4 x5 x6 x7 x8 x9).M (ix3 (grp (brow i a)) 7 d)) := by
  pointwise [val_main_v73, val_main_v72, val_main_v38, val_main_v37, val_main_cst_3]
  rw [ref_dm x0 x1 x2 x3 x4 x5 x6 x7 x8 x9 i a hr, mod7 x4 x5 i a]
  rfl
theorem ref_dn (d : Fin 1024) : val_main_v78 (F := Ideal) x0 x1 x2 x3 x4 x5 x6 x7 x8 x9 (ix3 i a d) = (ofArgs x0 x1 x2 x3 x4 x5 x6 x7 x8 x9).dn (brow i a) d := by
  pointwise [val_main_v78, val_main_v77, val_main_v6]
  rw [ref_dscaled x0 x1 x2 x3 x4 x5 x6 x7 x8 x9 i a hr, ref_g x0 x1 x2 x3 x4 x5 x6 x7 x8 x9, Arrs.dn]

theorem ref_dx (d : Fin 1024) : val_main_v93 (F := Ideal) x0 x1 x2 x3 x4 x5 x6 x7 x8 x9 (ix3 i a d) = (ofArgs x0 x1 x2 x3 x4 x5 x6 x7 x8 x9).dx (brow i a) d := by
  refine Eq.trans ?_ (norm_eq (fun d => (ofArgs x0 x1 x2 x3 x4 x5 x6 x7 x8 x9).DH (ix2 (brow i a) d)) (fun d => (ofArgs x0 x1 x2 x3 x4 x5 x6 x7 x8 x9).H (ix2 (brow i a) d)) (fun d => (ofArgs x0 x1 x2 x3 x4 x5 x6 x7 x8 x9).dn (brow i a) d) rfl d)
  pointwise [val_main_v93, val_main_v92, val_main_v91, val_main_v90, val_main_v89, val_main_v88, val_main_v87, val_main_v86, val_main_v85, val_main_v84, val_main_v83, val_main_v82, val_main_v81, val_main_v80, val_main_v79, val_main_v32, val_main_v31, val_main_v30, val_main_cst_2, val_main_cst_10, val_main_cst_11, val_main_cst_12]
  simp only [Fin.sum_univ_one, ref_dn x0 x1 x2 x3 x4 x5 x6 x7 x8 x9 i a hr, ref_h x0 x1 x2 x3 x4 x5 x6 x7 x8 x9, ref_dh x0 x1 x2 x3 x4 x5 x6 x7 x8 x9]
  rw [ref_rn x0 x1 x2 x3 x4 x5 x6 x7 x8 x9, ref_ms x0 x1 x2 x3 x4 x5 x6 x7 x8 x9, Arrs.rn]
  rfl
theorem ref_sums (k : Fin 8) (d : Fin 1024) : val_main_v126 (F := Ideal) x0 x1 x2 x3 x4 x5 x6 x7 x8 x9 (ix3 i k d) = (ofArgs x0 x1 x2 x3 x4 x5 x6 x7 x8 x9).sums i k.val d := by
  have hdm := fun a d => ref_dm x0 x1 x2 x3 x4 x5 x6 x7 x8 x9 i a hr d
  have hds := fun a d => ref_dscaled x0 x1 x2 x3 x4 x5 x6 x7 x8 x9 i a hr d
  unfold Arrs.sums
  pointwise [val_main_v126]
  by_cases h0 : k.val = 0
  · rw [if_pos h0, dif_pos (by omega)]
    pointwise [val_main_v68, val_main_v67, val_main_cst_7]
    exact Finset.sum_congr rfl fun a _ => hdm a d
  by_cases h1 : k.val = 1
  · rw [if_neg h0, if_pos h1, dif_neg (by omega), dif_pos (by omega)]
    pointwise [val_main_v71, val_main_v70, val_main_v69, val_main_cst_8, val_main_v36, val_main_v35, val_main_v34, val_main_v33, val_main_v6]
    refine Finset.sum_congr rfl fun a _ => ?_
    rw [hdm, ref_h x0 x1 x2 x3 x4 x5 x6 x7 x8 x9, ref_rn x0 x1 x2 x3 x4 x5 x6 x7 x8 x9, ref_g x0 x1 x2 x3 x4 x5 x6 x7 x8 x9, mul_comm]
  by_cases h2 : k.val = 2
  · rw [if_neg h0, if_neg h1, if_pos h2, dif_neg (by omega), dif_neg (by omega), dif_pos (by omega)]
    pointwise [val_main_v63, val_main_v62, val_main_v57, val_main_v56, val_main_v55, val_main_cst_5, val_main_cst_6]
    refine congrArg₂ (· * ·) rfl (Finset.sum_congr rfl fun a _ => ?_)
    rw [ref_dh x0 x1 x2 x3 x4 x5 x6 x7 x8 x9, ref_y x0 x1 x2 x3 x4 x5 x6 x7 x8 x9]
  by_cases h3 : k.val = 3
  · rw [if_neg h0, if_neg h1, if_neg h2, if_pos h3, dif_neg (by omega), dif_neg (by omega), dif_neg (by omega), dif_pos (by omega)]
    pointwise [val_main_v76, val_main_v75, val_main_v74, val_main_cst_9, val_main_v34, val_main_v33]
    refine Finset.sum_congr rfl fun a _ => ?_
    rw [hds, ref_h x0 x1 x2 x3 x4 x5 x6 x7 x8 x9, ref_rn x0 x1 x2 x3 x4 x5 x6 x7 x8 x9, mul_comm]
  · rw [if_neg h0, if_neg h1, if_neg h2, if_neg h3, dif_neg (by omega), dif_neg (by omega), dif_neg (by omega), dif_neg (by omega)]
    pointwise [val_main_v125, val_main_cst_18]
end
end Cert.KFfnIdeal.Rows
-- ==== Proof.Ffn.lean ====
module

public import proofs.«01_k».proof.Proof.FfnRef
public import proofs.«01_k».proof.Defs
public import Idealize.ShloMosaic.Lib.ReduceAll

/-! The feed-forward gradient: all six results of the kernel are those of the reference. -/

@[expose] public section
set_option maxRecDepth 16384
noncomputable section
open Idealize.ShloMosaic Idealize.ShloMosaic.TcCoe Idealize.SL.Sem
open Idealize.ShloMosaic.Pipeline (Dat)
namespace Cert.KFfnIdeal.Rows
open Cert.KFfnIdeal Cert.RFfnIdeal.Read Cert.Reals

theorem isR_of_cmp {x : EReal} (h : Ideal.cmp .olt (max x (-x)) (Ideal.ofBits .f32 0x7F800000#32) = 1#1) : IsR x := by
  rw [bits_top] at h
  refine isR_lt_top ?_
  by_contra hc
  simp [Ideal.cmp, hc] at h

section
variable (x0 : FVec Ideal S2x2048x1024 .f32) (x1 : FVec Ideal S2x256x1024 .f32) (x2 : FVec Ideal S2x2048x1024 .f32) (x3 : FVec Ideal S2x256x1024 .f32)
    (x4 : FVec Ideal S2x9x1024 .f32) (x5 : FVec Ideal S1x9x1024 .f32) (x6 : FVec Ideal S1024 .f32) (x7 x8 : FVec Ideal S1024x2816 .f32) (x9 : FVec Ideal S2816x1024 .f32)

instance : Subsingleton (Cert.Pre_ffn_finite.S_).Idx := ⟨fun a b => funext fun i => i.elim0⟩

theorem real_of_pre [Cert.Pre_ffn_finite.Facts] (h : Cert.Pre_ffn_finite.fn (F := Ideal) x0 x1 x2 x3 x4 x5 x6 x7 x8 x9 = fun _ => 1#1) : RealArgs x0 x1 x4 x5 x6 x8 x9 := by
  have h := congrFun h (fun a => a.elim0)
  dsimp only [Cert.Pre_ffn_finite.fn, Cert.Pre_ffn_finite.fn_part1] at h
  obtain ⟨h, h9⟩ := IntOp.andi_eq_one.1 h
  obtain ⟨h, h8⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h0, h1⟩ := IntOp.andi_eq_one.1 h
  exact ⟨fun j => isR_of_cmp (Host.reduce_andi_all _ _ _ _ _ h0 j), fun j => isR_of_cmp (Host.reduce_andi_all _ _ _ _ _ h1 j), fun j => isR_of_cmp (Host.reduce_andi_all _ _ _ _ _ h4 j), fun j => isR_of_cmp (Host.reduce_andi_all _ _ _ _ _ h5 j),
    fun j => isR_of_cmp (Host.reduce_andi_all _ _ _ _ _ h6 j), fun j => isR_of_cmp (Host.reduce_andi_all _ _ _ _ _ h8 j), fun j => isR_of_cmp (Host.reduce_andi_all _ _ _ _ _ h9 j)⟩

theorem lt_q (r : Fin 4608) : r.val / 512 < 9 := by omega
theorem lt_m (r : Fin 4608) : r.val % 512 < 512 := by omega
theorem brow_split (r : Fin 4608) : brow ⟨r.val / 512, lt_q r⟩ ⟨r.val % 512, lt_m r⟩ = r := by
  unfold brow; apply Fin.ext; simp only; omega

theorem rows_eq {A B : FVec Ideal S4608x1024 .f32} (h : ∀ i a d, A (ix2 (brow i a) d) = B (ix2 (brow i a) d)) : A = B := by
  funext j
  rw [eq_ix2 j, ← brow_split (j 0)]
  exact h _ _ _
theorem slots_eq {A B : FVec Ideal S4x4608x704 .bf16} (h : ∀ s i a f, A (ix3 s (brow i a) f) = B (ix3 s (brow i a) f)) : A = B := by
  funext j
  rw [eq_ix3 j, ← brow_split (j 1)]
  exact h _ _ _ _

variable (hr : RealArgs x0 x1 x4 x5 x6 x8 x9)
theorem res_dy : val_main_v140 (F := Ideal) x0 x1 x4 x5 = (ofArgs x0 x1 x2 x3 x4 x5 x6 x7 x8 x9).outDy :=
  rows_eq fun i a d => (flat_at _ i a d).trans (ref_dy x0 x1 x2 x3 x4 x5 x6 x7 x8 x9 i a d)
theorem res_sw : val_main_v138 (F := Ideal) x2 x3 x4 x5 x6 x7 x8 = (ofArgs x0 x1 x2 x3 x4 x5 x6 x7 x8 x9).outSw :=
  slots_eq fun s i a f => (slots_at _ s i a f).trans (ref_sw x0 x1 x2 x3 x4 x5 x6 x7 x8 x9 i a s f)
theorem res_db : val_main_v133 (F := Ideal) x0 x1 x2 x3 x4 x5 x6 x7 x9 = (ofArgs x0 x1 x2 x3 x4 x5 x6 x7 x8 x9).outDb :=
  slots_eq fun s i a f => (slots_at _ s i a f).trans (ref_db x0 x1 x2 x3 x4 x5 x6 x7 x8 x9 i a s f)
include hr
theorem res_da : val_main_v130 (F := Ideal) x0 x1 x2 x3 x4 x5 x6 x7 x8 x9 = (ofArgs x0 x1 x2 x3 x4 x5 x6 x7 x8 x9).outDa :=
  slots_eq fun s i a f => (slots_at _ s i a f).trans (ref_da x0 x1 x2 x3 x4 x5 x6 x7 x8 x9 i a hr s f)
theorem res_dx : val_main_v127 (F := Ideal) x0 x1 x2 x3 x4 x5 x6 x7 x8 x9 = (ofArgs x0 x1 x2 x3 x4 x5 x6 x7 x8 x9).outDx :=
  rows_eq fun i a d => (flat_at _ i a d).trans (ref_dx x0 x1 x2 x3 x4 x5 x6 x7 x8 x9 i a hr d)
theorem res_sums : val_main_v126 (F := Ideal) x0 x1 x2 x3 x4 x5 x6 x7 x8 x9 = (ofArgs x0 x1 x2 x3 x4 x5 x6 x7 x8 x9).outSums := by
  funext j
  rw [eq_ix3 j]
  exact ref_sums x0 x1 x2 x3 x4 x5 x6 x7 x8 x9 (j 0) hr (j 1) (j 2)
end

set_option maxHeartbeats 2000000 in
/-- All six results of the kernel are those of the reference where every argument but the rows and the first weight is real. -/
theorem algebraic [Cert.Pre_ffn_finite.Facts] : Cert.algebraic_KFfnIdeal_RFfnIdeal_pre_ffn_finite := by
  intro m g m' g' hpre hagree
  refine ⟨fun c => (arrs m c).outDx, fun c => (arrs m c).outDa, fun c => (arrs m c).outDb, fun c => (arrs m c).outSw, fun c => (arrs m c).outDy, fun c => (arrs m c).outSums, ?_, ?_⟩
  · exact θ_run_mono (θ_run_and (Cert.KFfnIdeal.Gen.run_main m g) (Cert.KFfnIdeal.Gen.unchanged m g)) fun r h c =>
      ⟨((h.1 c).1 10).trans (final10 m c), ((h.1 c).1 11).trans (final11 m c), ((h.1 c).1 12).trans (final12 m c), ((h.1 c).1 13).trans (final13 m c), ((h.1 c).1 14).trans (final14 m c), ((h.1 c).1 15).trans (final15 m c), h.2 c⟩
  · refine θ_run_mono (Cert.RFfnIdeal.Value.run m' g') fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩
    · refine (val_main_v127_eq (StableHlo.launchContents m' c)).symm.trans ?_
      show val_main_v127 (m' (c.tc.loc Cert.RFfnIdeal.main_arg0)) (m' (c.tc.loc Cert.RFfnIdeal.main_arg1)) (m' (c.tc.loc Cert.RFfnIdeal.main_arg2)) (m' (c.tc.loc Cert.RFfnIdeal.main_arg3)) (m' (c.tc.loc Cert.RFfnIdeal.main_arg4)) (m' (c.tc.loc Cert.RFfnIdeal.main_arg5)) (m' (c.tc.loc Cert.RFfnIdeal.main_arg6)) (m' (c.tc.loc Cert.RFfnIdeal.main_arg7)) (m' (c.tc.loc Cert.RFfnIdeal.main_arg8)) (m' (c.tc.loc Cert.RFfnIdeal.main_arg9)) = (arrs m c).outDx
      rw [arrs_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
      exact res_dx _ _ _ _ _ _ _ _ _ _ (real_of_pre _ _ _ _ _ _ _ _ _ _ (hpre c))
    · refine (val_main_v130_eq (StableHlo.launchContents m' c)).symm.trans ?_
      show val_main_v130 (m' (c.tc.loc Cert.RFfnIdeal.main_arg0)) (m' (c.tc.loc Cert.RFfnIdeal.main_arg1)) (m' (c.tc.loc Cert.RFfnIdeal.main_arg2)) (m' (c.tc.loc Cert.RFfnIdeal.main_arg3)) (m' (c.tc.loc Cert.RFfnIdeal.main_arg4)) (m' (c.tc.loc Cert.RFfnIdeal.main_arg5)) (m' (c.tc.loc Cert.RFfnIdeal.main_arg6)) (m' (c.tc.loc Cert.RFfnIdeal.main_arg7)) (m' (c.tc.loc Cert.RFfnIdeal.main_arg8)) (m' (c.tc.loc Cert.RFfnIdeal.main_arg9)) = (arrs m c).outDa
      rw [arrs_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
      exact res_da _ _ _ _ _ _ _ _ _ _ (real_of_pre _ _ _ _ _ _ _ _ _ _ (hpre c))
    · refine (val_main_v133_eq (StableHlo.launchContents m' c)).symm.trans ?_
      show val_main_v133 (m' (c.tc.loc Cert.RFfnIdeal.main_arg0)) (m' (c.tc.loc Cert.RFfnIdeal.main_arg1)) (m' (c.tc.loc Cert.RFfnIdeal.main_arg2)) (m' (c.tc.loc Cert.RFfnIdeal.main_arg3)) (m' (c.tc.loc Cert.RFfnIdeal.main_arg4)) (m' (c.tc.loc Cert.RFfnIdeal.main_arg5)) (m' (c.tc.loc Cert.RFfnIdeal.main_arg6)) (m' (c.tc.loc Cert.RFfnIdeal.main_arg7)) (m' (c.tc.loc Cert.RFfnIdeal.main_arg9)) = (arrs m c).outDb
      rw [arrs_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.2]
      exact res_db _ _ _ _ _ _ _ _ _ _
    · refine (val_main_v138_eq (StableHlo.launchContents m' c)).symm.trans ?_
      show val_main_v138 (m' (c.tc.loc Cert.RFfnIdeal.main_arg2)) (m' (c.tc.loc Cert.RFfnIdeal.main_arg3)) (m' (c.tc.loc Cert.RFfnIdeal.main_arg4)) (m' (c.tc.loc Cert.RFfnIdeal.main_arg5)) (m' (c.tc.loc Cert.RFfnIdeal.main_arg6)) (m' (c.tc.loc Cert.RFfnIdeal.main_arg7)) (m' (c.tc.loc Cert.RFfnIdeal.main_arg8)) = (arrs m c).outSw
      rw [arrs_eq, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1]
      exact res_sw _ _ _ _ _ _ _ _ _ _
    · refine (val_main_v140_eq (StableHlo.launchContents m' c)).symm.trans ?_
      show val_main_v140 (m' (c.tc.loc Cert.RFfnIdeal.main_arg0)) (m' (c.tc.loc Cert.RFfnIdeal.main_arg1)) (m' (c.tc.loc Cert.RFfnIdeal.main_arg4)) (m' (c.tc.loc Cert.RFfnIdeal.main_arg5)) = (arrs m c).outDy
      rw [arrs_eq, (hagree c).1, (hagree c).2.1, (hagree c).2.2.2.2.1, (hagree c).2.2.2.2.2.1]
      exact res_dy _ _ _ _ _ _ _ _ _ _
    · refine (val_main_v126_eq (StableHlo.launchContents m' c)).symm.trans ?_
      show val_main_v126 (m' (c.tc.loc Cert.RFfnIdeal.main_arg0)) (m' (c.tc.loc Cert.RFfnIdeal.main_arg1)) (m' (c.tc.loc Cert.RFfnIdeal.main_arg2)) (m' (c.tc.loc Cert.RFfnIdeal.main_arg3)) (m' (c.tc.loc Cert.RFfnIdeal.main_arg4)) (m' (c.tc.loc Cert.RFfnIdeal.main_arg5)) (m' (c.tc.loc Cert.RFfnIdeal.main_arg6)) (m' (c.tc.loc Cert.RFfnIdeal.main_arg7)) (m' (c.tc.loc Cert.RFfnIdeal.main_arg8)) (m' (c.tc.loc Cert.RFfnIdeal.main_arg9)) = (arrs m c).outSums
      rw [arrs_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
      exact res_sums _ _ _ _ _ _ _ _ _ _ (real_of_pre _ _ _ _ _ _ _ _ _ _ (hpre c))
end Cert.KFfnIdeal.Rows
-- ==== Proof.FwdValue.lean ====
module

public import proofs.«01_k».proof.Proof.Gen.KFwdIdeal.Frame
public import Idealize.ShloMosaic.Lib.Pipeline.ValueKit
public import Idealize.ShloMosaic.Lib.Pipeline.ReadBack
public import Idealize.ShloMosaic.Lib.Claim

/-! What the feed-forward half-step's call writes back, as functions of the arrays it reads. -/

@[expose] public section
set_option maxRecDepth 16384
noncomputable section
open Idealize.ShloMosaic Idealize.ShloMosaic.TcCoe Idealize.SL.Sem
open Idealize.ShloMosaic.Pipeline (Dat)
namespace Cert.KFwdIdeal.Rows
open Cert.KFwdIdeal Cert.KFwdIdeal.Gen

/-- One half. -/
abbrev half : EReal := Scalar.ofBits (F := Ideal) .f32 0x3F000000#32
/-- One over the number of lanes. -/
abbrev inv : EReal := Scalar.ofBits (F := Ideal) .f32 0x3A800000#32
/-- The small constant of the norm. -/
abbrev eps : EReal := Scalar.ofBits (F := Ideal) .f32 0x358637BD#32

theorem zero_at (j) : k0_pay5 (F := Ideal) j = 0 := by pointwise [k0_pay5]
theorem hn_at (h : Vec Ideal S512x1024 .f32) (g : Vec Ideal S1x1024 .f32) (p q : Vec Ideal S1x1x1024 .f32) (r : Fin 512) (d : Fin 1024) :
    k0_pay4 (F := Ideal) h g p q (ix2 r d)
      = h (ix2 r d) * Ideal.rsqrt ((∑ d : Fin 1024, h (ix2 r d) * h (ix2 r d)) * inv + eps) * g (ix2 0 d) * (1 + q (ix3 0 0 d)) + p (ix3 0 0 d) := by
  pointwise [k0_pay4]
theorem a_at (x : Vec Ideal S512x1024 .bf16) (w : Vec Ideal S1x704x1024 .bf16) (r : Fin 512) (f : Fin 704) :
    k0_pay6 (F := Ideal) x w (ix2 r f) = ∑ d : Fin 1024, x (ix2 r d) * w (ix3 0 f d) := by
  pointwise [k0_pay6]
theorem b_at (x : Vec Ideal S512x1024 .bf16) (w : Vec Ideal S1x704x1024 .bf16) (r : Fin 512) (f : Fin 704) :
    k0_pay7 (F := Ideal) x w (ix2 r f) = ∑ d : Fin 1024, x (ix2 r d) * w (ix3 0 f d) := by
  pointwise [k0_pay7]
theorem store_a (x : Vec Ideal S512x1024 .bf16) (w : Vec Ideal S1x704x1024 .bf16) (z : Fin 1) (r : Fin 512) (f : Fin 704) :
    k0_pay8 (F := Ideal) x w (ix3 z r f) = ∑ d : Fin 1024, x (ix2 r d) * w (ix3 0 f d) := by
  pointwise [k0_pay8, a_at]
theorem store_b (x : Vec Ideal S512x1024 .bf16) (w : Vec Ideal S1x704x1024 .bf16) (z : Fin 1) (r : Fin 512) (f : Fin 704) :
    k0_pay9 (F := Ideal) x w (ix3 z r f) = ∑ d : Fin 1024, x (ix2 r d) * w (ix3 0 f d) := by
  pointwise [k0_pay9, b_at]
theorem acc_at (x : Vec Ideal S512x1024 .bf16) (w1 w3 : Vec Ideal S1x704x1024 .bf16) (acc : Vec Ideal S512x1024 .f32) (w2 : Vec Ideal S1x704x1024 .bf16) (r : Fin 512) (d : Fin 1024) :
    k0_pay1 (F := Ideal) (k0_pay10 x w1 w3 acc w2) (ix2 r d) = acc (ix2 r d) + ∑ f : Fin 704,
      k0_pay6 (F := Ideal) x w1 (ix2 r f) * Ideal.logistic (k0_pay6 (F := Ideal) x w1 (ix2 r f)) * k0_pay7 (F := Ideal) x w3 (ix2 r f) * w2 (ix3 0 f d) := by
  pointwise [k0_pay1, k0_pay10]
theorem y_at (y : Vec Ideal S512x1024 .f32) (j) : k0_pay2 (F := Ideal) y j = y j := by pointwise [k0_pay2]
theorem out_at (y h : Vec Ideal S512x1024 .f32) (g : Vec Ideal S1x1x1024 .f32) (r : Fin 512) (d : Fin 1024) :
    k0_pay3 (F := Ideal) y h g (ix2 r d) = h (ix2 r d) + half * g (ix3 0 0 d) * y (ix2 r d) := by
  pointwise [k0_pay3]

/-- The stream a row belongs to: the two sequences of the batch, then the context. -/
def grp (r : Fin 4608) : Fin 3 := ⟨r.val / 2048, by omega⟩

/-- The arrays the call reads. -/
structure Arrs where
  H : FVec Ideal S4608x1024 .f32
  M : FVec Ideal S3x9x1024 .f32
  G : FVec Ideal S1x1024 .f32
  W1 : FVec Ideal S4x704x1024 .bf16
  W3 : FVec Ideal S4x704x1024 .bf16
  W2 : FVec Ideal S4x704x1024 .bf16

namespace Arrs
variable (X : Arrs)
/-- The normed and modulated row. -/
def hn (r : Fin 4608) (d : Fin 1024) : EReal :=
  X.H (ix2 r d) * Ideal.rsqrt ((∑ d : Fin 1024, X.H (ix2 r d) * X.H (ix2 r d)) * inv + eps) * X.G (ix2 0 d) * (1 + X.M (ix3 (grp r) 7 d)) + X.M (ix3 (grp r) 6 d)
/-- The two hidden products. -/
def a (s : Fin 4) (r : Fin 4608) (f : Fin 704) : EReal := ∑ d : Fin 1024, X.hn r d * X.W1 (ix3 s f d)
def b (s : Fin 4) (r : Fin 4608) (f : Fin 704) : EReal := ∑ d : Fin 1024, X.hn r d * X.W3 (ix3 s f d)
/-- One slot's part of the product. -/
def part (s : Fin 4) (r : Fin 4608) (d : Fin 1024) : EReal :=
  ∑ f : Fin 704, X.a s r f * Ideal.logistic (X.a s r f) * X.b s r f * X.W2 (ix3 s f d)
/-- The product. -/
def y (r : Fin 4608) (d : Fin 1024) : EReal := ∑ s : Fin 4, X.part s r d
/-- The row after the half-step. -/
def out (r : Fin 4608) (d : Fin 1024) : EReal := X.H (ix2 r d) + half * X.M (ix3 (grp r) 8 d) * X.y r d
def outH : FVec Ideal S4608x1024 .f32 := fun j => X.out (j 0) (j 1)
def outA : FVec Ideal S4x4608x704 .bf16 := fun j => X.a (j 0) (j 1) (j 2)
def outB : FVec Ideal S4x4608x704 .bf16 := fun j => X.b (j 0) (j 1) (j 2)
def outN : FVec Ideal S4608x1024 .bf16 := fun j => X.hn (j 0) (j 1)
def outY : FVec Ideal S4608x1024 .bf16 := fun j => X.y (j 0) (j 1)
end Arrs

section
variable (X : Arrs) {s : Fin 4} {R : Fin 4608}
theorem hn_row {h : Vec Ideal S512x1024 .f32} {g : Vec Ideal S1x1024 .f32} {p q : Vec Ideal S1x1x1024 .f32} {r : Fin 512}
    (hh : ∀ d, h (ix2 r d) = X.H (ix2 R d)) (hg : ∀ d, g (ix2 0 d) = X.G (ix2 0 d)) (hp : ∀ d, p (ix3 0 0 d) = X.M (ix3 (grp R) 6 d))
    (hq : ∀ d, q (ix3 0 0 d) = X.M (ix3 (grp R) 7 d)) (d : Fin 1024) : k0_pay4 (F := Ideal) h g p q (ix2 r d) = X.hn R d := by
  rw [hn_at]; simp only [hh, hg, hp, hq]; rfl
theorem a_row {x : Vec Ideal S512x1024 .bf16} {w : Vec Ideal S1x704x1024 .bf16} {r : Fin 512} (hx : ∀ d, x (ix2 r d) = X.hn R d)
    (hw : ∀ f d, w (ix3 0 f d) = X.W1 (ix3 s f d)) (f : Fin 704) : (∑ d : Fin 1024, x (ix2 r d) * w (ix3 0 f d)) = X.a s R f :=
  Finset.sum_congr rfl fun d _ => by rw [hx, hw]
theorem b_row {x : Vec Ideal S512x1024 .bf16} {w : Vec Ideal S1x704x1024 .bf16} {r : Fin 512} (hx : ∀ d, x (ix2 r d) = X.hn R d)
    (hw : ∀ f d, w (ix3 0 f d) = X.W3 (ix3 s f d)) (f : Fin 704) : (∑ d : Fin 1024, x (ix2 r d) * w (ix3 0 f d)) = X.b s R f :=
  Finset.sum_congr rfl fun d _ => by rw [hx, hw]
theorem acc_row {x : Vec Ideal S512x1024 .bf16} {w1 w3 w2 : Vec Ideal S1x704x1024 .bf16} {acc : Vec Ideal S512x1024 .f32} {r : Fin 512} {d : Fin 1024} {e : EReal}
    (hx : ∀ d, x (ix2 r d) = X.hn R d) (h1 : ∀ f d, w1 (ix3 0 f d) = X.W1 (ix3 s f d)) (h3 : ∀ f d, w3 (ix3 0 f d) = X.W3 (ix3 s f d))
    (h2 : ∀ f d, w2 (ix3 0 f d) = X.W2 (ix3 s f d)) (he : acc (ix2 r d) = e) :
    k0_pay1 (F := Ideal) (k0_pay10 x w1 w3 acc w2) (ix2 r d) = e + X.part s R d := by
  rw [acc_at, he]
  refine congrArg (e + ·) (Finset.sum_congr rfl fun f _ => ?_)
  rw [a_at, b_at, a_row X hx h1, b_row X hx h3, h2]
end

variable (m : (ℓ : Loc nD τ sig) → Buf (Elt Ideal) ℓ)

/-- The arrays the call reads. -/
def arrs (c : Dev nD) : Arrs where
  H := V m c main_v2
  M := V m c main_v3
  G := V m c main_v4
  W1 := V m c main_v7
  W3 := V m c main_v10
  W2 := V m c main_v12

theorem idx : ∀ t : Fin cfg0.N, win0_0.index t = ![t.val / 4, 0] ∧ win0_1.index t = ![t.val / 16, 0, 0] ∧ win0_2.index t = ![0, 0]
    ∧ win0_3.index t = ![t.val % 4, 0, 0] ∧ win0_4.index t = ![t.val % 4, 0, 0] ∧ win0_5.index t = ![t.val % 4, 0, 0]
    ∧ win0_6.index t = ![t.val / 4, 0] ∧ win0_7.index t = ![t.val % 4, t.val / 4, 0] ∧ win0_8.index t = ![t.val % 4, t.val / 4, 0]
    ∧ win0_9.index t = ![t.val / 4, 0] ∧ win0_10.index t = ![t.val / 4, 0] ∧ t.val < 36 :=
  (by decide +kernel : ∀ t : Fin grid0.N, _)
theorem lt (t : Fin cfg0.N) : t.val < 36 := (idx t).2.2.2.2.2.2.2.2.2.2.2
/-- The row of the whole array at row `a` of point `t`'s block. -/
def row (t : Fin cfg0.N) (a : Fin 512) : Fin 4608 := ⟨t.val / 4 * 512 + a.val, by have := lt t; omega⟩
/-- The slot of a point. -/
def slot (t : Fin cfg0.N) : Fin 4 := ⟨t.val % 4, by omega⟩
theorem grp_row (t : Fin cfg0.N) (a : Fin 512) : grp (row t a) = ⟨t.val / 16, by have := lt t; omega⟩ := by
  apply Fin.ext; simp only [grp, row]; omega

section
variable (c : Dev nD) (t : Fin cfg0.N)
theorem blk0 (a : Fin 512) (d : Fin 1024) : iblk m c 0 t (ix2 a d) = (arrs m c).H (ix2 (row t a) d) := by
  unfold row; simp only [arrs]; blk_ext [iblk, idx t]
theorem blk1 (a : Fin 512) (k : Fin 9) (d : Fin 1024) : iblk m c 1 t (ix3 0 k d) = (arrs m c).M (ix3 (grp (row t a)) k d) := by
  rw [grp_row]; simp only [arrs]; blk_ext [iblk, idx t]
theorem blk2 (d : Fin 1024) : iblk m c 2 t (ix2 0 d) = (arrs m c).G (ix2 0 d) := by
  simp only [arrs]; blk_ext [iblk, idx t]
theorem blk3 (f : Fin 704) (d : Fin 1024) : iblk m c 3 t (ix3 0 f d) = (arrs m c).W1 (ix3 (slot t) f d) := by
  unfold slot; simp only [arrs]; blk_ext [iblk, idx t]
theorem blk4 (f : Fin 704) (d : Fin 1024) : iblk m c 4 t (ix3 0 f d) = (arrs m c).W3 (ix3 (slot t) f d) := by
  unfold slot; simp only [arrs]; blk_ext [iblk, idx t]
theorem blk5 (f : Fin 704) (d : Fin 1024) : iblk m c 5 t (ix3 0 f d) = (arrs m c).W2 (ix3 (slot t) f d) := by
  unfold slot; simp only [arrs]; blk_ext [iblk, idx t]
theorem shift_blk (a : Fin 512) (d : Fin 1024) : View.ld (iblk m c 1 t) (Rect.unit ![0, 6, 0] ![1, 1, 1024] inb_S1x9x1024_S1x1x1024_0_6_0) (ix3 0 0 d)
    = (arrs m c).M (ix3 (grp (row t a)) 6 d) := by
  refine Eq.trans ?_ (blk1 m c t a 6 d); pointwise
theorem scale_blk (a : Fin 512) (d : Fin 1024) : View.ld (iblk m c 1 t) (Rect.unit ![0, 7, 0] ![1, 1, 1024] inb_S1x9x1024_S1x1x1024_0_7_0) (ix3 0 0 d)
    = (arrs m c).M (ix3 (grp (row t a)) 7 d) := by
  refine Eq.trans ?_ (blk1 m c t a 7 d); pointwise
theorem gate_blk (a : Fin 512) (d : Fin 1024) : View.ld (iblk m c 1 t) (Rect.unit ![0, 8, 0] ![1, 1, 1024] inb_S1x9x1024_S1x1x1024_0_8_0) (ix3 0 0 d)
    = (arrs m c).M (ix3 (grp (row t a)) 8 d) := by
  refine Eq.trans ?_ (blk1 m c t a 8 d); pointwise
/-- The normed rows at the first point of a block. -/
theorem hn_new (a : Fin 512) (d : Fin 1024) :
    k0_pay4 (F := Ideal) (iblk m c 0 t) (iblk m c 2 t) (View.ld (iblk m c 1 t) (Rect.unit ![0, 6, 0] ![1, 1, 1024] inb_S1x9x1024_S1x1x1024_0_6_0))
      (View.ld (iblk m c 1 t) (Rect.unit ![0, 7, 0] ![1, 1, 1024] inb_S1x9x1024_S1x1x1024_0_7_0)) (ix2 a d) = (arrs m c).hn (row t a) d :=
  hn_row (arrs m c) (blk0 m c t a) (blk2 m c t) (shift_blk m c t a) (scale_blk m c t a) d
theorem hn_start (h0 : t.val % 4 = 0) (y : S512x1024.Idx) : (outsAt0 m c t.val t.isLt).2.2.2.2.2.1 y = (arrs m c).hn (row t (y 0)) (y 1) := by
  rw [outsAt0_A m c t h0 (by omega)]; frame_out
  idx_vars y
  exact hn_new m c t y0 y1
end

theorem hn_all (c : Dev nD) : ∀ (n : ℕ) (h : n < cfg0.N) (y : S512x1024.Idx),
    (outsAt0 m c n h).2.2.2.2.2.1 y = (arrs m c).hn (row ⟨n, h⟩ (y 0)) (y 1) := by
  intro n
  induction n with
  | zero => exact fun h y => hn_start m c ⟨0, h⟩ rfl y
  | succ n ih =>
    intro h y
    by_cases h0 : (n + 1) % 4 = 0
    · exact hn_start m c ⟨n + 1, h⟩ h0 y
    · have hr : row ⟨n + 1, h⟩ (y 0) = row ⟨n, Nat.lt_of_succ_lt h⟩ (y 0) := by
        apply Fin.ext; simp only [row]; omega
      rw [hr]
      refine Eq.trans ?_ (ih (Nat.lt_of_succ_lt h) y)
      by_cases h1 : (n + 1) % 4 = 3
      · rw [outsAt0_C m c ⟨n + 1, h⟩ h0 h1]; frame_out
        rfl
      · rw [outsAt0_B m c ⟨n + 1, h⟩ h0 h1]; frame_out
        rfl

/-- The normed rows held after a point that is not the first of its block: the ones before. -/
theorem hn_before (c : Dev nD) (t : Fin cfg0.N) (h0 : ¬t.val % 4 = 0) (a : Fin 512) (d : Fin 1024) :
    (outsAt0 m c (t.val - 1) (by have := t.isLt; omega)).2.2.2.2.2.1 (ix2 a d) = (arrs m c).hn (row t a) d := by
  refine (hn_all m c (t.val - 1) _ _).trans ?_
  refine congrArg (fun r => (arrs m c).hn r d) (Fin.ext ?_)
  simp only [row]
  show (t.val - 1) / 4 * 512 + a.val = _
  omega

theorem acc_start (c : Dev nD) (t : Fin cfg0.N) (h0 : t.val % 4 = 0) (y : S512x1024.Idx) :
    (outsAt0 m c t.val t.isLt).2.2.2.2.2.2 y = 0 + (arrs m c).part (slot t) (row t (y 0)) (y 1) := by
  rw [outsAt0_A m c t h0 (by omega)]; frame_out
  idx_vars y
  exact acc_row (arrs m c) (s := slot t) (R := row t y0) (hn_new m c t y0) (blk3 m c t) (blk4 m c t) (blk5 m c t) (zero_at _)

theorem acc_step (c : Dev nD) (t : Fin cfg0.N) (hz : ¬t.val % 4 = 0) (y : S512x1024.Idx) :
    (outsAt0 m c t.val t.isLt).2.2.2.2.2.2 y = (outsAt0 m c (t.val - 1) (by have := t.isLt; omega)).2.2.2.2.2.2 y + (arrs m c).part (slot t) (row t (y 0)) (y 1) := by
  idx_vars y
  by_cases h3 : t.val % 4 = 3
  · rw [outsAt0_C m c t hz h3]; frame_out
    exact acc_row (arrs m c) (s := slot t) (R := row t y0) (fun d => (congrFun (Memref.IsWhole.read_unread _ _) _).trans (hn_before m c t hz y0 d)) (blk3 m c t) (blk4 m c t) (blk5 m c t) (congrFun (Memref.IsWhole.read_unread _ _) _)
  · rw [outsAt0_B m c t hz h3]; frame_out
    exact acc_row (arrs m c) (s := slot t) (R := row t y0) (fun d => (congrFun (Memref.IsWhole.read_unread _ _) _).trans (hn_before m c t hz y0 d)) (blk3 m c t) (blk4 m c t) (blk5 m c t) (congrFun (Memref.IsWhole.read_unread _ _) _)

/-- At the last point of a block the accumulator holds the whole product. -/
theorem acc_end (c : Dev nD) (t : Fin cfg0.N) (h1 : t.val % 4 = 3) (y : S512x1024.Idx) :
    (outsAt0 m c t.val t.isLt).2.2.2.2.2.2 y = (arrs m c).y (row t (y 0)) (y 1) := by
  rw [Pipeline.eq_sum_fin_of_reset_step_apply_of_flush (fun n h => (outsAt0 m c n h).2.2.2.2.2.2) 4 (fun _ => 0) _ (acc_start m c) (acc_step m c) t h1 y, zero_add]
  unfold Arrs.y
  refine Finset.sum_congr rfl fun s _ => ?_
  have hs : slot ⟨4 * (t.val / 4) + s.val, by have := lt t; show _ < 36; omega⟩ = s := by apply Fin.ext; simp only [slot]; omega
  have hr : row ⟨4 * (t.val / 4) + s.val, by have := lt t; show _ < 36; omega⟩ (y 0) = row t (y 0) := by apply Fin.ext; simp only [row]; omega
  rw [hs, hr]

theorem a_pt (c : Dev nD) (t : Fin cfg0.N) (y : S1x512x704.Idx) : (outsAt0 m c t.val t.isLt).2.1 y = (arrs m c).a (slot t) (row t (y 1)) (y 2) := by
  idx_vars y
  by_cases hz : t.val % 4 = 0
  · rw [outsAt0_A m c t hz (by omega)]; frame_out
    exact (store_a _ _ _ _ _).trans (a_row (arrs m c) (hn_new m c t y1) (blk3 m c t) y2)
  by_cases h3 : t.val % 4 = 3
  · rw [outsAt0_C m c t hz h3]; frame_out
    exact (store_a _ _ _ _ _).trans (a_row (arrs m c) (fun d => (congrFun (Memref.IsWhole.read_unread _ _) _).trans (hn_before m c t hz y1 d)) (blk3 m c t) y2)
  · rw [outsAt0_B m c t hz h3]; frame_out
    exact (store_a _ _ _ _ _).trans (a_row (arrs m c) (fun d => (congrFun (Memref.IsWhole.read_unread _ _) _).trans (hn_before m c t hz y1 d)) (blk3 m c t) y2)
theorem b_pt (c : Dev nD) (t : Fin cfg0.N) (y : S1x512x704.Idx) : (outsAt0 m c t.val t.isLt).2.2.1 y = (arrs m c).b (slot t) (row t (y 1)) (y 2) := by
  idx_vars y
  by_cases hz : t.val % 4 = 0
  · rw [outsAt0_A m c t hz (by omega)]; frame_out
    exact (store_b _ _ _ _ _).trans (b_row (arrs m c) (hn_new m c t y1) (blk4 m c t) y2)
  by_cases h3 : t.val % 4 = 3
  · rw [outsAt0_C m c t hz h3]; frame_out
    exact (store_b _ _ _ _ _).trans (b_row (arrs m c) (fun d => (congrFun (Memref.IsWhole.read_unread _ _) _).trans (hn_before m c t hz y1 d)) (blk4 m c t) y2)
  · rw [outsAt0_B m c t hz h3]; frame_out
    exact (store_b _ _ _ _ _).trans (b_row (arrs m c) (fun d => (congrFun (Memref.IsWhole.read_unread _ _) _).trans (hn_before m c t hz y1 d)) (blk4 m c t) y2)

theorem app3 {a b e : ℕ} (f : Fin a → Fin b → Fin e → EReal) {i i' : Fin a} {j j' : Fin b} {k k' : Fin e} (hi : i.val = i'.val) (hj : j.val = j'.val) (hk : k.val = k'.val) :
    f i j k = f i' j' k' := by rw [Fin.ext hi, Fin.ext hj, Fin.ext hk]
theorem app2 {a b : ℕ} (f : Fin a → Fin b → EReal) {i i' : Fin a} {j j' : Fin b} (hi : i.val = i'.val) (hj : j.val = j'.val) :
    f i j = f i' j' := by rw [Fin.ext hi, Fin.ext hj]

theorem final7 (c : Dev nD) : (dats m 0 c).arrAt 7 (cfgs 0).N = (arrs m c).outA := by
  refine (dats m 0 c).arrAt_eq_of_covers 7 _ (by decide +kernel) fun t _ y => ?_
  blk_simp
  rw [after0_7]
  refine (a_pt m c t y).trans ?_
  exact app3 (arrs m c).a (by show t.val % 4 = _; blk_simp [idx t]) (by show t.val / 4 * 512 + (y 1).val = _; blk_simp [idx t]) (by blk_simp [idx t])
theorem final8 (c : Dev nD) : (dats m 0 c).arrAt 8 (cfgs 0).N = (arrs m c).outB := by
  refine (dats m 0 c).arrAt_eq_of_covers 8 _ (by decide +kernel) fun t _ y => ?_
  blk_simp
  rw [after0_8]
  refine (b_pt m c t y).trans ?_
  exact app3 (arrs m c).b (by show t.val % 4 = _; blk_simp [idx t]) (by show t.val / 4 * 512 + (y 1).val = _; blk_simp [idx t]) (by blk_simp [idx t])
theorem final9 (c : Dev nD) : (dats m 0 c).arrAt 9 (cfgs 0).N = (arrs m c).outN := by
  refine (dats m 0 c).arrAt_eq_of_covers 9 _ (by decide +kernel) fun t hf y => ?_
  blk_simp
  have h3 := (flush0_9 t).mp hf
  rw [after0_9]
  refine Eq.trans (b := (outsAt0 m c (t.val - 1) (by have := t.isLt; omega)).2.2.2.2.2.1 y) ?_ ?_
  · rw [outsAt0_C m c t (by omega) h3]; frame_out
    exact congrFun (Memref.IsWhole.read_unread _ _) y
  · refine ((congrArg _ (eq_ix2 y)).trans (hn_before m c t (by omega) (y 0) (y 1))).trans ?_
    exact app2 (arrs m c).hn (by show t.val / 4 * 512 + (y 0).val = _; blk_simp [idx t]) (by blk_simp [idx t])
theorem final10 (c : Dev nD) : (dats m 0 c).arrAt 10 (cfgs 0).N = (arrs m c).outY := by
  refine (dats m 0 c).arrAt_eq_of_covers 10 _ (by decide +kernel) fun t hf y => ?_
  blk_simp
  have h3 := (flush0_10 t).mp hf
  rw [after0_10]
  refine Eq.trans (b := (outsAt0 m c t.val t.isLt).2.2.2.2.2.2 y) ?_ ?_
  · rw [outsAt0_C m c t (by omega) h3]; frame_out
    exact y_at _ _
  · refine (acc_end m c t h3 y).trans ?_
    exact app2 (arrs m c).y (by show t.val / 4 * 512 + (y 0).val = _; blk_simp [idx t]) (by blk_simp [idx t])
theorem final6 (c : Dev nD) : (dats m 0 c).arrAt 6 (cfgs 0).N = (arrs m c).outH := by
  refine (dats m 0 c).arrAt_eq_of_covers 6 _ (by decide +kernel) fun t hf y => ?_
  blk_simp
  have h3 := (flush0_6 t).mp hf
  rw [after0_6]
  obtain ⟨a, d, rfl⟩ : ∃ (a : Fin 512) (d : Fin 1024), y = ix2 a d := ⟨y 0, y 1, eq_ix2 y⟩
  have hacc := acc_end m c t h3 (ix2 a d)
  rw [outsAt0_C m c t (by omega) h3] at hacc ⊢
  frame_out at hacc
  frame_out
  rw [out_at]
  refine Eq.trans (b := (arrs m c).out (row t a) d) ?_ ?_
  · unfold Arrs.out
    exact Ideal.add_congr (blk0 m c t a d) (Ideal.mul_congr (congrArg (half * ·) (gate_blk m c t a d)) hacc)
  · exact app2 (arrs m c).out (by show t.val / 4 * 512 + a.val = _; blk_simp [idx t]) (by blk_simp [idx t])
end Cert.KFwdIdeal.Rows
-- ==== Proof.FwdRef.lean ====
module

public import proofs.«01_k».proof.Proof.FwdValue
public import proofs.«01_k».proof.Proof.Gen.RFwdIdeal.Read
public import proofs.«01_k».proof.Proof.Reals

/-! What the forward half-step's call is handed, as functions of the arguments, and the reference's results over the same arrays, one
stream after the other. -/

@[expose] public section
set_option maxRecDepth 16384
noncomputable section
open Idealize.ShloMosaic Idealize.ShloMosaic.TcCoe Idealize.SL.Sem
open Idealize.ShloMosaic.Pipeline (Dat)
namespace Cert.KFwdIdeal.Rows
open Cert.KFwdIdeal Cert.KFwdIdeal.Gen Cert.RFwdIdeal.Read Cert.Reals

/-- The rows of the latent stream, then those of the context. -/
def join (x : FVec Ideal S2x2048x1024 .f32) (y : FVec Ideal S2x256x1024 .f32) : FVec Ideal S4608x1024 .f32 :=
  concatenate S4608x1024 0 [⟨S4096x1024, shapeCast S4096x1024 x shapeCasts_S2x2048x1024_S4096x1024⟩, ⟨S512x1024, shapeCast S512x1024 y shapeCasts_S2x256x1024_S512x1024⟩] concatenates_S4096x1024_S512x1024_S4608x1024_d0
/-- The modulation of the two sequences and of the context. -/
def mods (x : FVec Ideal S2x9x1024 .f32) (y : FVec Ideal S1x9x1024 .f32) : FVec Ideal S3x9x1024 .f32 :=
  concatenate S3x9x1024 0 [⟨S2x9x1024, x⟩, ⟨S1x9x1024, y⟩] concatenates_S2x9x1024_S1x9x1024_S3x9x1024_d0
/-- A weight whose columns are hidden lanes, transposed, in four slots. -/
def wcols (x : FVec Ideal S1024x2816 .f32) : FVec Ideal S4x704x1024 .bf16 :=
  truncf .bf16 (shapeCast S4x704x1024 (transpose S2816x1024 [1, 0] x transposes_S1024x2816_S2816x1024_1_0) shapeCasts_S2816x1024_S4x704x1024) bitsLt_bf16_f32
/-- A weight whose rows are hidden lanes, in four slots. -/
def wrows (x : FVec Ideal S2816x1024 .f32) : FVec Ideal S4x704x1024 .bf16 :=
  truncf .bf16 (shapeCast S4x704x1024 x shapeCasts_S2816x1024_S4x704x1024) bitsLt_bf16_f32

theorem lt_rx (b : Fin 2) (n : Fin 2048) : b.val * 2048 + n.val < 4608 := by omega
theorem lt_rc (b : Fin 2) (n : Fin 256) : 4096 + (b.val * 256 + n.val) < 4608 := by omega
/-- The row of position `n` of sequence `b` of the latent stream. -/
def rx (b : Fin 2) (n : Fin 2048) : Fin 4608 := ⟨b.val * 2048 + n.val, lt_rx b n⟩
/-- The row of position `n` of sequence `b` of the context. -/
def rc (b : Fin 2) (n : Fin 256) : Fin 4608 := ⟨4096 + (b.val * 256 + n.val), lt_rc b n⟩
theorem lt_hid (s : Fin 4) (f : Fin 704) : s.val * 704 + f.val < 2816 := by omega
/-- The hidden lane `f` of slot `s`. -/
def hid (s : Fin 4) (f : Fin 704) : Fin 2816 := ⟨s.val * 704 + f.val, lt_hid s f⟩

theorem row_cases {P : Fin 4608 → Prop} (hx : ∀ b n, P (rx b n)) (hc : ∀ b n, P (rc b n)) (r : Fin 4608) : P r := by
  by_cases h : r.val < 4096
  · have e : rx ⟨r.val / 2048, by omega⟩ ⟨r.val % 2048, by omega⟩ = r := by apply Fin.ext; simp only [rx]; omega
    exact e ▸ hx _ _
  · have e : rc ⟨(r.val - 4096) / 256, by omega⟩ ⟨(r.val - 4096) % 256, by omega⟩ = r := by apply Fin.ext; simp only [rc]; omega
    exact e ▸ hc _ _
theorem hid_cases {P : Fin 2816 → Prop} (h : ∀ s f, P (hid s f)) (r : Fin 2816) : P r := by
  have e : hid ⟨r.val / 704, by omega⟩ ⟨r.val % 704, by omega⟩ = r := by apply Fin.ext; simp only [hid]; omega
  exact e ▸ h _ _

theorem join_x (x y) (b : Fin 2) (n : Fin 2048) (d : Fin 1024) : join x y (ix2 (rx b n) d) = x (ix3 b n d) := by
  unfold rx
  pointwise [join]
  rw [dif_pos (by omega)]
  blk_ext
theorem lt_low (r : Fin 512) : 4096 + r.val < 4608 := by omega
theorem low_at (A : FVec Ideal S4096x1024 .f32) (B : FVec Ideal S512x1024 .f32) (r : Fin 512) (d : Fin 1024) :
    concatenate S4608x1024 0 [⟨S4096x1024, A⟩, ⟨S512x1024, B⟩] concatenates_S4096x1024_S512x1024_S4608x1024_d0 (ix2 ⟨4096 + r.val, lt_low r⟩ d) = B (ix2 r d) := by
  pointwise
theorem lt_c (b : Fin 2) (n : Fin 256) : b.val * 256 + n.val < 512 := by omega
theorem ctx_at (y : FVec Ideal S2x256x1024 .f32) (b : Fin 2) (n : Fin 256) (d : Fin 1024) :
    shapeCast S512x1024 y shapeCasts_S2x256x1024_S512x1024 (ix2 ⟨b.val * 256 + n.val, lt_c b n⟩ d) = y (ix3 b n d) := by
  pointwise
theorem join_c (x y) (b : Fin 2) (n : Fin 256) (d : Fin 1024) : join x y (ix2 (rc b n) d) = y (ix3 b n d) :=
  (low_at _ _ ⟨b.val * 256 + n.val, lt_c b n⟩ d).trans (ctx_at y b n d)
theorem wcols_at (x) (s : Fin 4) (f : Fin 704) (d : Fin 1024) : wcols x (ix3 s f d) = x (ix2 d (hid s f)) := by
  unfold hid
  pointwise [wcols]
theorem wrows_at (x) (s : Fin 4) (f : Fin 704) (d : Fin 1024) : wrows x (ix3 s f d) = x (ix2 (hid s f) d) := by
  unfold hid
  pointwise [wrows]
theorem lt_b (b : Fin 2) : b.val < 3 := by omega
theorem grp_x (b : Fin 2) (n : Fin 2048) : grp (rx b n) = ⟨b.val, lt_b b⟩ := by apply Fin.ext; simp only [grp, rx]; omega
theorem grp_c (b : Fin 2) (n : Fin 256) : grp (rc b n) = 2 := by apply Fin.ext; simp only [grp, rc]; show _ = 2; omega
theorem mods_x (x y) (b : Fin 2) (n : Fin 2048) (k : Fin 9) (d : Fin 1024) : mods x y (ix3 (grp (rx b n)) k d) = x (ix3 b k d) := by
  rw [grp_x]
  pointwise [mods]
theorem mods_c (x y) (b : Fin 2) (n : Fin 256) (k : Fin 9) (d : Fin 1024) : mods x y (ix3 (grp (rc b n)) k d) = y (ix3 0 k d) := by
  rw [grp_c]
  pointwise [mods]

/-- The arrays of the call from the arguments. -/
def ofArgs (x0 : FVec Ideal S2x2048x1024 .f32) (x1 : FVec Ideal S2x256x1024 .f32) (x2 : FVec Ideal S2x9x1024 .f32) (x3 : FVec Ideal S1x9x1024 .f32)
    (x4 : FVec Ideal S1024 .f32) (x5 x6 : FVec Ideal S1024x2816 .f32) (x7 : FVec Ideal S2816x1024 .f32) : Arrs where
  H := join x0 x1
  M := mods x2 x3
  G := shapeCast S1x1024 x4 shapeCasts_S1024_S1x1024
  W1 := wcols x5
  W3 := wcols x6
  W2 := wrows x7

section
variable (m : (ℓ : Loc nD τ sig) → Buf (Elt Ideal) ℓ) (c : Dev nD)
theorem hostH : V m c main_v2 = join (m ((c : Thread nD τ).loc main_arg0)) (m ((c : Thread nD τ).loc main_arg1)) := by
  unfold V; entry_read; rfl
theorem hostM : V m c main_v3 = mods (m ((c : Thread nD τ).loc main_arg2)) (m ((c : Thread nD τ).loc main_arg3)) := by
  unfold V; entry_read; rfl
theorem hostG : V m c main_v4 = shapeCast S1x1024 (m ((c : Thread nD τ).loc main_arg4)) shapeCasts_S1024_S1x1024 := by
  unfold V; entry_read; rfl
theorem hostW1 : V m c main_v7 = wcols (m ((c : Thread nD τ).loc main_arg5)) := by
  unfold V; entry_read; rfl
theorem hostW3 : V m c main_v10 = wcols (m ((c : Thread nD τ).loc main_arg6)) := by
  unfold V; entry_read; rfl
theorem hostW2 : V m c main_v12 = wrows (m ((c : Thread nD τ).loc main_arg7)) := by
  unfold V; entry_read; rfl
theorem arrs_eq : arrs m c = ofArgs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  unfold arrs ofArgs
  rw [hostH, hostM, hostG, hostW1, hostW3, hostW2]
end

section
variable (x0 : FVec Ideal S2x2048x1024 .f32) (x1 : FVec Ideal S2x256x1024 .f32) (x2 : FVec Ideal S2x9x1024 .f32) (x3 : FVec Ideal S1x9x1024 .f32)
    (x4 : FVec Ideal S1024 .f32) (x5 x6 : FVec Ideal S1024x2816 .f32) (x7 : FVec Ideal S2816x1024 .f32)

theorem gain_at (d : Fin 1024) : shapeCast S1x1024 x4 shapeCasts_S1024_S1x1024 (ix2 0 d) = x4 (ix1 d) := by pointwise

/-! The latent stream. -/
section
variable (b : Fin 2) (n : Fin 2048)
theorem hn_x (d : Fin 1024) : val_main_v21 (F := Ideal) x0 x2 x4 (ix3 b n d) = (ofArgs x0 x1 x2 x3 x4 x5 x6 x7).hn (rx b n) d := by
  simp only [Arrs.hn, ofArgs, join_x, mods_x, gain_at]
  pointwise [val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v1, val_main_v0, val_main_cst, val_main_cst_0, val_main_cst_1, val_main_cst_2]
  rw [bits_1024, Ideal.div_coe (by norm_num), ← bits_inv]
theorem a_x (s : Fin 4) (f : Fin 704) : val_main_v22 (F := Ideal) x0 x2 x4 x5 (ix3 b n (hid s f)) = (ofArgs x0 x1 x2 x3 x4 x5 x6 x7).a s (rx b n) f := by
  simp only [Arrs.a, ← hn_x]
  simp only [ofArgs, wcols_at]
  pointwise [val_main_v22]
theorem b_x (s : Fin 4) (f : Fin 704) : val_main_v23 (F := Ideal) x0 x2 x4 x6 (ix3 b n (hid s f)) = (ofArgs x0 x1 x2 x3 x4 x5 x6 x7).b s (rx b n) f := by
  simp only [Arrs.b, ← hn_x]
  simp only [ofArgs, wcols_at]
  pointwise [val_main_v23]
theorem silu_x (j) : val_main_v24 (F := Ideal) x0 x2 x4 x5 j = val_main_v22 (F := Ideal) x0 x2 x4 x5 j * Ideal.logistic (val_main_v22 (F := Ideal) x0 x2 x4 x5 j) := by
  pointwise [val_main_v24, val_main_call0_v5, val_main_call0_v4, val_main_call0_v3, val_main_call0_v2, val_main_call0_v1, val_main_call0_v0, val_main_call0_cst, val_main_call0_cst_0]
  rfl
theorem y_x (d : Fin 1024) : val_main_v26 (F := Ideal) x0 x2 x4 x5 x6 x7 (ix3 b n d) = (ofArgs x0 x1 x2 x3 x4 x5 x6 x7).y (rx b n) d := by
  simp only [Arrs.y, Arrs.part, ← a_x, ← b_x]
  simp only [ofArgs, wrows_at]
  pointwise [val_main_v26, val_main_v25, silu_x]
  rw [Fin.sum_univ_tiles 4 704 rfl]
  rfl
theorem out_x (d : Fin 1024) : val_main_v31 (F := Ideal) x0 x2 x4 x5 x6 x7 (ix3 b n d) = (ofArgs x0 x1 x2 x3 x4 x5 x6 x7).out (rx b n) d := by
  simp only [Arrs.out, ← y_x]
  simp only [ofArgs, join_x, mods_x]
  pointwise [val_main_v31, val_main_v30, val_main_v29, val_main_v28, val_main_v27, val_main_v2, val_main_cst_3]
end

/-! The context. -/
section
variable (b : Fin 2) (n : Fin 256)
theorem hn_c (d : Fin 1024) : val_main_v53 (F := Ideal) x1 x3 x4 (ix3 b n d) = (ofArgs x0 x1 x2 x3 x4 x5 x6 x7).hn (rc b n) d := by
  simp only [Arrs.hn, ofArgs, join_c, mods_c, gain_at]
  pointwise [val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v33, val_main_v32, val_main_cst_4, val_main_cst_5, val_main_cst_6, val_main_cst_7]
  rw [bits_1024, Ideal.div_coe (by norm_num), ← bits_inv]
theorem a_c (s : Fin 4) (f : Fin 704) : val_main_v54 (F := Ideal) x1 x3 x4 x5 (ix3 b n (hid s f)) = (ofArgs x0 x1 x2 x3 x4 x5 x6 x7).a s (rc b n) f := by
  simp only [Arrs.a, ← hn_c]
  simp only [ofArgs, wcols_at]
  pointwise [val_main_v54]
theorem b_c (s : Fin 4) (f : Fin 704) : val_main_v55 (F := Ideal) x1 x3 x4 x6 (ix3 b n (hid s f)) = (ofArgs x0 x1 x2 x3 x4 x5 x6 x7).b s (rc b n) f := by
  simp only [Arrs.b, ← hn_c]
  simp only [ofArgs, wcols_at]
  pointwise [val_main_v55]
theorem silu_c (j) : val_main_v56 (F := Ideal) x1 x3 x4 x5 j = val_main_v54 (F := Ideal) x1 x3 x4 x5 j * Ideal.logistic (val_main_v54 (F := Ideal) x1 x3 x4 x5 j) := by
  pointwise [val_main_v56, val_main_call1_v5, val_main_call1_v4, val_main_call1_v3, val_main_call1_v2, val_main_call1_v1, val_main_call1_v0, val_main_call1_cst, val_main_call1_cst_0]
  rfl
theorem y_c (d : Fin 1024) : val_main_v58 (F := Ideal) x1 x3 x4 x5 x6 x7 (ix3 b n d) = (ofArgs x0 x1 x2 x3 x4 x5 x6 x7).y (rc b n) d := by
  simp only [Arrs.y, Arrs.part, ← a_c, ← b_c]
  simp only [ofArgs, wrows_at]
  pointwise [val_main_v58, val_main_v57, silu_c]
  rw [Fin.sum_univ_tiles 4 704 rfl]
  rfl
theorem out_c (d : Fin 1024) : val_main_v63 (F := Ideal) x1 x3 x4 x5 x6 x7 (ix3 b n d) = (ofArgs x0 x1 x2 x3 x4 x5 x6 x7).out (rc b n) d := by
  simp only [Arrs.out, ← y_c]
  simp only [ofArgs, join_c, mods_c]
  pointwise [val_main_v63, val_main_v62, val_main_v61, val_main_v60, val_main_v59, val_main_v34, val_main_cst_8]
end
end
end Cert.KFwdIdeal.Rows
-- ==== Proof.Fwd.lean ====
module

public import proofs.«01_k».proof.Proof.FwdRef
public import proofs.«01_k».proof.Defs

/-! The forward half-step: all five results of the kernel are those of the reference. -/

@[expose] public section
set_option maxRecDepth 16384
noncomputable section
open Idealize.ShloMosaic Idealize.ShloMosaic.TcCoe Idealize.SL.Sem
open Idealize.ShloMosaic.Pipeline (Dat)
namespace Cert.KFwdIdeal.Rows
open Cert.KFwdIdeal Cert.RFwdIdeal.Read

/-- The hidden lanes of both streams' rows, one stream after the other, in four slots. -/
def wide (x : FVec Ideal Cert.RFwdIdeal.S2x2048x2816 .f32) (y : FVec Ideal Cert.RFwdIdeal.S2x256x2816 .f32) : FVec Ideal Cert.RFwdIdeal.S4608x2816 .f32 :=
  concatenate Cert.RFwdIdeal.S4608x2816 0 [⟨Cert.RFwdIdeal.S4096x2816, shapeCast Cert.RFwdIdeal.S4096x2816 x Cert.RFwdIdeal.Gen.shapeCasts_S2x2048x2816_S4096x2816⟩, ⟨Cert.RFwdIdeal.S512x2816, shapeCast Cert.RFwdIdeal.S512x2816 y Cert.RFwdIdeal.Gen.shapeCasts_S2x256x2816_S512x2816⟩] Cert.RFwdIdeal.Gen.concatenates_S4096x2816_S512x2816_S4608x2816_d0
def slots (x : FVec Ideal Cert.RFwdIdeal.S4608x2816 .f32) : FVec Ideal S4x4608x704 .bf16 :=
  truncf .bf16 (transpose S4x4608x704 [1, 0, 2] (shapeCast Cert.RFwdIdeal.S4608x4x704 x Cert.RFwdIdeal.Gen.shapeCasts_S4608x2816_S4608x4x704) Cert.RFwdIdeal.Gen.transposes_S4608x4x704_S4x4608x704_1_0_2) Cert.RFwdIdeal.Gen.bitsLt_bf16_f32
theorem slots_at (x) (s : Fin 4) (r : Fin 4608) (f : Fin 704) : slots x (ix3 s r f) = x (ix2 r (hid s f)) := by
  unfold hid
  pointwise [slots]
theorem wide_x (x y) (b : Fin 2) (n : Fin 2048) (d : Fin 2816) : wide x y (ix2 (rx b n) d) = x (ix3 b n d) := by
  unfold rx
  pointwise [wide]
  rw [dif_pos (by omega)]
  blk_ext
theorem wide_low (A : FVec Ideal Cert.RFwdIdeal.S4096x2816 .f32) (B : FVec Ideal Cert.RFwdIdeal.S512x2816 .f32) (r : Fin 512) (d : Fin 2816) :
    concatenate Cert.RFwdIdeal.S4608x2816 0 [⟨Cert.RFwdIdeal.S4096x2816, A⟩, ⟨Cert.RFwdIdeal.S512x2816, B⟩] Cert.RFwdIdeal.Gen.concatenates_S4096x2816_S512x2816_S4608x2816_d0 (ix2 ⟨4096 + r.val, lt_low r⟩ d) = B (ix2 r d) := by
  pointwise
theorem wide_ctx (y : FVec Ideal Cert.RFwdIdeal.S2x256x2816 .f32) (b : Fin 2) (n : Fin 256) (d : Fin 2816) :
    shapeCast Cert.RFwdIdeal.S512x2816 y Cert.RFwdIdeal.Gen.shapeCasts_S2x256x2816_S512x2816 (ix2 ⟨b.val * 256 + n.val, lt_c b n⟩ d) = y (ix3 b n d) := by
  pointwise
theorem wide_c (x y) (b : Fin 2) (n : Fin 256) (d : Fin 2816) : wide x y (ix2 (rc b n) d) = y (ix3 b n d) :=
  (wide_low _ _ ⟨b.val * 256 + n.val, lt_c b n⟩ d).trans (wide_ctx y b n d)

theorem join_eq {x y} {f : Fin 4608 → Fin 1024 → EReal} (hx : ∀ b n d, x (ix3 b n d) = f (rx b n) d) (hc : ∀ b n d, y (ix3 b n d) = f (rc b n) d) :
    join x y = fun j => f (j 0) (j 1) := by
  funext j
  rw [eq_ix2 j]
  exact row_cases (P := fun r => join x y (ix2 r (j 1)) = f r (j 1)) (fun b n => (join_x x y b n _).trans (hx b n _)) (fun b n => (join_c x y b n _).trans (hc b n _)) (j 0)
theorem wide_eq {x y} {f : Fin 4 → Fin 4608 → Fin 704 → EReal} (hx : ∀ b n s e, x (ix3 b n (hid s e)) = f s (rx b n) e) (hc : ∀ b n s e, y (ix3 b n (hid s e)) = f s (rc b n) e) :
    slots (wide x y) = fun j => f (j 0) (j 1) (j 2) := by
  funext j
  rw [eq_ix3 j]
  refine (slots_at _ _ _ _).trans ?_
  exact row_cases (P := fun r => wide x y (ix2 r (hid (j 0) (j 2))) = f (j 0) r (j 2)) (fun b n => (wide_x x y b n _).trans (hx b n _ _)) (fun b n => (wide_c x y b n _).trans (hc b n _ _)) (j 1)

section
variable (x0 : FVec Ideal S2x2048x1024 .f32) (x1 : FVec Ideal S2x256x1024 .f32) (x2 : FVec Ideal S2x9x1024 .f32) (x3 : FVec Ideal S1x9x1024 .f32)
    (x4 : FVec Ideal S1024 .f32) (x5 x6 : FVec Ideal S1024x2816 .f32) (x7 : FVec Ideal S2816x1024 .f32)
theorem res_h : val_main_v66 (F := Ideal) x0 x1 x2 x3 x4 x5 x6 x7 = (ofArgs x0 x1 x2 x3 x4 x5 x6 x7).outH :=
  join_eq (out_x x0 x1 x2 x3 x4 x5 x6 x7) (out_c x0 x1 x2 x3 x4 x5 x6 x7)
theorem res_a : val_main_v81 (F := Ideal) x0 x1 x2 x3 x4 x5 = (ofArgs x0 x1 x2 x3 x4 x5 x6 x7).outA :=
  wide_eq (a_x x0 x1 x2 x3 x4 x5 x6 x7) (a_c x0 x1 x2 x3 x4 x5 x6 x7)
theorem res_b : val_main_v84 (F := Ideal) x0 x1 x2 x3 x4 x6 = (ofArgs x0 x1 x2 x3 x4 x5 x6 x7).outB :=
  wide_eq (b_x x0 x1 x2 x3 x4 x5 x6 x7) (b_c x0 x1 x2 x3 x4 x5 x6 x7)
theorem res_n : val_main_v85 (F := Ideal) x0 x1 x2 x3 x4 = (ofArgs x0 x1 x2 x3 x4 x5 x6 x7).outN :=
  join_eq (hn_x x0 x1 x2 x3 x4 x5 x6 x7) (hn_c x0 x1 x2 x3 x4 x5 x6 x7)
theorem res_y : val_main_v86 (F := Ideal) x0 x1 x2 x3 x4 x5 x6 x7 = (ofArgs x0 x1 x2 x3 x4 x5 x6 x7).outY :=
  join_eq (y_x x0 x1 x2 x3 x4 x5 x6 x7) (y_c x0 x1 x2 x3 x4 x5 x6 x7)
end

set_option maxHeartbeats 2000000 in
/-- All five results of the kernel are those of the reference. -/
theorem algebraic : Cert.algebraic_KFwdIdeal_RFwdIdeal := by
  intro m g m' g' hpre hagree
  refine ⟨fun c => (arrs m c).outH, fun c => (arrs m c).outA, fun c => (arrs m c).outB, fun c => (arrs m c).outN, fun c => (arrs m c).outY, ?_, ?_⟩
  · exact θ_run_mono (θ_run_and (Cert.KFwdIdeal.Gen.run_main m g) (Cert.KFwdIdeal.Gen.unchanged m g)) fun r h c =>
      ⟨((h.1 c).1 6).trans (final6 m c), ((h.1 c).1 7).trans (final7 m c), ((h.1 c).1 8).trans (final8 m c), ((h.1 c).1 9).trans (final9 m c), ((h.1 c).1 10).trans (final10 m c), h.2 c⟩
  · refine θ_run_mono (Cert.RFwdIdeal.Value.run m' g') fun r h c => ⟨(h c).1.trans ?_, (h c).2.1.trans ?_, (h c).2.2.1.trans ?_, (h c).2.2.2.1.trans ?_, (h c).2.2.2.2.1.trans ?_, (h c).2.2.2.2.2⟩
    · refine (val_main_v66_eq m' c).trans ?_
      show val_main_v66 (m' (c.tc.loc Cert.RFwdIdeal.main_arg0)) (m' (c.tc.loc Cert.RFwdIdeal.main_arg1)) (m' (c.tc.loc Cert.RFwdIdeal.main_arg2)) (m' (c.tc.loc Cert.RFwdIdeal.main_arg3)) (m' (c.tc.loc Cert.RFwdIdeal.main_arg4)) (m' (c.tc.loc Cert.RFwdIdeal.main_arg5)) (m' (c.tc.loc Cert.RFwdIdeal.main_arg6)) (m' (c.tc.loc Cert.RFwdIdeal.main_arg7)) = (arrs m c).outH
      rw [arrs_eq, (hagree c).1, (hagree c).2.1, (hagree c).2.2.1, (hagree c).2.2.2.1, (hagree c).2.2.2.2.1, (hagree c).2.2.2.2.2.1, (hagree c).2.2.2.2.2.2.1, (hagree c).2.2.2.2.2.2.2]
      exact res_h _ _ _ _ _ _ _ _
    · refine (val_main_v81_eq (m' (c.tc.loc Cert.RFwdIdeal.main_arg0)) (m' (c.tc.loc Cert.RFwdIdeal.main_arg1)) (m' (c.tc.loc Cert.RFwdIdeal.main_arg2)) (m' (c.tc.loc Cert.RFwdIdeal.main_arg3)) (m' (c.tc.loc Cert.RFwdIdeal.main_arg4)) (m' (c.tc.loc Cert.RFwdIdeal.main_arg5))).trans ?_
      show val_main_v81 (m' (c.tc.loc Cert.RFwdIdeal.main_arg0)) (m' (c.tc.loc Cert.RFwdIdeal.main_arg1)) (m' (c.tc.loc Cert.RFwdIdeal.main_arg2)) (m' (c.tc.loc Cert.RFwdIdeal.main_arg3)) (m' (c.tc.loc Cert.RFwdIdeal.main_arg4)) (m' (c.tc.loc Cert.RFwdIdeal.main_arg5)) = (arrs m c).outA
      rw [arrs_eq, (hagree c).1, (hagree c).2.1, (hagree c).2.2.1, (hagree c).2.2.2.1, (hagree c).2.2.2.2.1, (hagree c).2.2.2.2.2.1]
      exact res_a _ _ _ _ _ _ _ _
    · refine (val_main_v84_eq (m' (c.tc.loc Cert.RFwdIdeal.main_arg0)) (m' (c.tc.loc Cert.RFwdIdeal.main_arg1)) (m' (c.tc.loc Cert.RFwdIdeal.main_arg2)) (m' (c.tc.loc Cert.RFwdIdeal.main_arg3)) (m' (c.tc.loc Cert.RFwdIdeal.main_arg4)) (m' (c.tc.loc Cert.RFwdIdeal.main_arg6))).trans ?_
      show val_main_v84 (m' (c.tc.loc Cert.RFwdIdeal.main_arg0)) (m' (c.tc.loc Cert.RFwdIdeal.main_arg1)) (m' (c.tc.loc Cert.RFwdIdeal.main_arg2)) (m' (c.tc.loc Cert.RFwdIdeal.main_arg3)) (m' (c.tc.loc Cert.RFwdIdeal.main_arg4)) (m' (c.tc.loc Cert.RFwdIdeal.main_arg6)) = (arrs m c).outB
      rw [arrs_eq, (hagree c).1, (hagree c).2.1, (hagree c).2.2.1, (hagree c).2.2.2.1, (hagree c).2.2.2.2.1, (hagree c).2.2.2.2.2.2.1]
      exact res_b _ _ _ _ _ _ _ _
    · refine (val_main_v85_eq (m' (c.tc.loc Cert.RFwdIdeal.main_arg0)) (m' (c.tc.loc Cert.RFwdIdeal.main_arg1)) (m' (c.tc.loc Cert.RFwdIdeal.main_arg2)) (m' (c.tc.loc Cert.RFwdIdeal.main_arg3)) (m' (c.tc.loc Cert.RFwdIdeal.main_arg4))).trans ?_
      show val_main_v85 (m' (c.tc.loc Cert.RFwdIdeal.main_arg0)) (m' (c.tc.loc Cert.RFwdIdeal.main_arg1)) (m' (c.tc.loc Cert.RFwdIdeal.main_arg2)) (m' (c.tc.loc Cert.RFwdIdeal.main_arg3)) (m' (c.tc.loc Cert.RFwdIdeal.main_arg4)) = (arrs m c).outN
      rw [arrs_eq, (hagree c).1, (hagree c).2.1, (hagree c).2.2.1, (hagree c).2.2.2.1, (hagree c).2.2.2.2.1]
      exact res_n _ _ _ _ _ _ _ _
    · refine (val_main_v86_eq m' c).trans ?_
      show val_main_v86 (m' (c.tc.loc Cert.RFwdIdeal.main_arg0)) (m' (c.tc.loc Cert.RFwdIdeal.main_arg1)) (m' (c.tc.loc Cert.RFwdIdeal.main_arg2)) (m' (c.tc.loc Cert.RFwdIdeal.main_arg3)) (m' (c.tc.loc Cert.RFwdIdeal.main_arg4)) (m' (c.tc.loc Cert.RFwdIdeal.main_arg5)) (m' (c.tc.loc Cert.RFwdIdeal.main_arg6)) (m' (c.tc.loc Cert.RFwdIdeal.main_arg7)) = (arrs m c).outY
      rw [arrs_eq, (hagree c).1, (hagree c).2.1, (hagree c).2.2.1, (hagree c).2.2.2.1, (hagree c).2.2.2.2.1, (hagree c).2.2.2.2.2.1, (hagree c).2.2.2.2.2.2.1, (hagree c).2.2.2.2.2.2.2]
      exact res_y _ _ _ _ _ _ _ _
end Cert.KFwdIdeal.Rows
-- ==== Proof.AttnRow.lean ====
module

public import proofs.«01_k».proof.Proof.Reals

/-! One query row of the attention and of its gradient, for one head: as the kernel computes it, from two sets of keys (the latent ones, with
an offset that shuts them out for a context query, and the context ones), and as real numbers. -/

@[expose] public section
noncomputable section
open Idealize.ShloMosaic Cert.Reals
namespace Cert.Attn

/-- What one query row reads. -/
structure Row where
  /-- The offset added to the scores of the latent keys. -/
  off : EReal
  q : Fin 256 → EReal
  kl : Fin 2048 → Fin 256 → EReal
  kc : Fin 256 → Fin 256 → EReal
  vl : Fin 2048 → Fin 128 → EReal
  vc : Fin 256 → Fin 128 → EReal
  /-- The row's own output. -/
  o : Fin 128 → EReal
  /-- The cotangent of the output. -/
  g : Fin 128 → EReal

namespace Row
variable (X : Row)
/-- The scores. -/
def sl (j : Fin 2048) : EReal := (∑ d : Fin 256, X.q d * X.kl j d) + X.off
def sc (j : Fin 256) : EReal := ∑ d : Fin 256, X.q d * X.kc j d
/-- The largest score. -/
def top : EReal := max (Finset.univ.fold max ⊥ X.sl) (Finset.univ.fold max ⊥ X.sc)
def el (j : Fin 2048) : EReal := Ideal.exp (X.sl j - X.top)
def ec (j : Fin 256) : EReal := Ideal.exp (X.sc j - X.top)
def inv : EReal := Ideal.div 1 (0 + (∑ j : Fin 2048, X.el j) + ∑ j : Fin 256, X.ec j)
/-- The probabilities. -/
def pl (j : Fin 2048) : EReal := X.el j * X.inv
def pc (j : Fin 256) : EReal := X.ec j * X.inv
/-- The cotangent against the row's own output. -/
def dot : EReal := ∑ d : Fin 128, X.g d * X.o d
/-- The scores' gradients. -/
def dl (j : Fin 2048) : EReal := X.pl j * ((∑ d : Fin 128, X.g d * X.vl j d) - X.dot)
def dc (j : Fin 256) : EReal := X.pc j * ((∑ d : Fin 128, X.g d * X.vc j d) - X.dot)
/-- The query's gradient. -/
def dq (d : Fin 256) : EReal := (∑ j : Fin 2048, X.dl j * X.kl j d) + ∑ j : Fin 256, X.dc j * X.kc j d
end Row

/-! The same as real numbers. -/

/-- The softmax of real scores. -/
def soft {n : ℕ} (S : Fin n → ℝ) (k : Fin n) : ℝ := Real.exp (S k) / ∑ j, Real.exp (S j)
/-- The gradient of the scores, from the cotangents of the probabilities. -/
def dsoft {n : ℕ} (S D : Fin n → ℝ) (k : Fin n) : ℝ := soft S k * (D k - ∑ j, soft S j * D j)

theorem soft_shift {n : ℕ} (S : Fin n → ℝ) (m : ℝ) (k : Fin n) :
    Real.exp (S k - m) * (1 / ∑ j, Real.exp (S j - m)) = soft S k := by
  simp only [Real.exp_sub, ← Finset.sum_div, soft]
  have h := Real.exp_ne_zero m
  rw [one_div_div, div_mul_div_comm, mul_comm (Real.exp m), mul_div_mul_right _ _ h]

theorem fold_max {n : ℕ} (S : Fin n → ℝ) (s : Finset (Fin n)) :
    (s = ∅ ∧ s.fold max ⊥ (fun k => (S k : EReal)) = ⊥) ∨ IsR (s.fold max ⊥ (fun k => (S k : EReal))) := by
  classical
  induction s using Finset.induction_on with
  | empty => exact Or.inl ⟨rfl, rfl⟩
  | insert a s ha ih =>
    right
    rw [Finset.fold_insert ha]
    rcases ih with ⟨_, h⟩ | h
    · rw [h, max_eq_left bot_le]; exact isR_coe _
    · rcases max_choice (S a : EReal) (s.fold max ⊥ (fun k => (S k : EReal))) with e | e
      · rw [e]; exact isR_coe _
      · rw [e]; exact h
/-- The largest of finitely many real numbers is one. -/
theorem isR_fold {n : ℕ} [NeZero n] (S : Fin n → ℝ) : IsR (Finset.univ.fold max ⊥ (fun k => (S k : EReal))) := by
  rcases fold_max S Finset.univ with ⟨h, _⟩ | h
  · exact absurd h (Finset.univ_nonempty (α := Fin n)).ne_empty
  · exact h
theorem isR_max {x y : EReal} (hx : IsR x) (hy : IsR y) : IsR (max x y) := by
  rcases max_choice x y with e | e <;> rw [e] <;> assumption
theorem fold_bot {n : ℕ} (s : Finset (Fin n)) : s.fold max ⊥ (fun _ => (⊥ : EReal)) = ⊥ := by
  classical
  induction s using Finset.induction_on with
  | empty => rfl
  | insert a s ha ih => rw [Finset.fold_insert ha, ih, max_self]

theorem lt_cx (j : Fin 256) : j.val < 2304 := by omega
theorem lt_lx (j : Fin 2048) : 256 + j.val < 2304 := by omega
/-- The keys of the context come first, then the latent ones. -/
def cx (j : Fin 256) : Fin 2304 := ⟨j.val, lt_cx j⟩
def lx (j : Fin 2048) : Fin 2304 := ⟨256 + j.val, lt_lx j⟩
theorem sum_keys {M : Type} [AddCommMonoid M] (f : Fin 2304 → M) : ∑ k, f k = ∑ j : Fin 256, f (cx j) + ∑ j : Fin 2048, f (lx j) :=
  Fin.sum_univ_add (a := 256) (b := 2048) f

theorem exp_pos_sum {n : ℕ} [NeZero n] (S : Fin n → ℝ) : (∑ j, Real.exp (S j)) ≠ 0 :=
  (Finset.sum_pos (fun j _ => Real.exp_pos _) Finset.univ_nonempty).ne'

section latent
variable (X : Row) (S D : Fin 2304 → ℝ) (hl : ∀ j, X.sl j = (S (lx j) : EReal)) (hc : ∀ j, X.sc j = (S (cx j) : EReal))
include hl hc
theorem top_l : IsR X.top := by
  unfold Row.top
  rw [funext hl, funext hc]
  exact isR_max (isR_fold _) (isR_fold _)
theorem prob_l : (∀ j, X.pl j = (soft S (lx j) : EReal)) ∧ ∀ j, X.pc j = (soft S (cx j) : EReal) := by
  obtain ⟨t, ht⟩ := top_l X S hl hc
  have el : ∀ j, X.el j = (Real.exp (S (lx j) - t) : EReal) := fun j => by
    unfold Row.el; rw [hl, ht, ← EReal.coe_sub, Ideal.exp_coe]
  have ec : ∀ j, X.ec j = (Real.exp (S (cx j) - t) : EReal) := fun j => by
    unfold Row.ec; rw [hc, ht, ← EReal.coe_sub, Ideal.exp_coe]
  have inv : X.inv = ((1 / ∑ j, Real.exp (S j - t) : ℝ) : EReal) := by
    unfold Row.inv
    rw [zero_add, Finset.sum_congr rfl fun j _ => el j, Finset.sum_congr rfl fun j _ => ec j, ← coe_sum, ← coe_sum, ← EReal.coe_add,
      add_comm, ← sum_keys fun k => Real.exp (S k - t), Ideal.div_coe (exp_pos_sum _), one_mul]
  constructor
  · intro j; unfold Row.pl; rw [el, inv, ← EReal.coe_mul, soft_shift]
  · intro j; unfold Row.pc; rw [ec, inv, ← EReal.coe_mul, soft_shift]
theorem grad_l (hdot : X.dot = ((∑ k, soft S k * D k : ℝ) : EReal)) (dl : ∀ j, (∑ d : Fin 128, X.g d * X.vl j d) = (D (lx j) : EReal))
    (dc : ∀ j, (∑ d : Fin 128, X.g d * X.vc j d) = (D (cx j) : EReal)) :
    (∀ j, X.dl j = (dsoft S D (lx j) : EReal)) ∧ ∀ j, X.dc j = (dsoft S D (cx j) : EReal) := by
  obtain ⟨pl, pc⟩ := prob_l X S hl hc
  constructor
  · intro j; unfold Row.dl; rw [pl, dl, hdot, ← EReal.coe_sub, ← EReal.coe_mul]; rfl
  · intro j; unfold Row.dc; rw [pc, dc, hdot, ← EReal.coe_sub, ← EReal.coe_mul]; rfl
end latent

section context
variable (X : Row) (S D : Fin 256 → ℝ) (hl : ∀ j, X.sl j = ⊥) (hc : ∀ j, X.sc j = (S j : EReal))
include hl hc
theorem top_c : IsR X.top := by
  unfold Row.top
  rw [funext hl, funext hc, fold_bot, max_eq_right bot_le]
  exact isR_fold _
theorem prob_c : (∀ j, X.pl j = 0) ∧ ∀ j, X.pc j = (soft S j : EReal) := by
  obtain ⟨t, ht⟩ := top_c X S hl hc
  have el : ∀ j, X.el j = 0 := fun j => by
    unfold Row.el; rw [hl, ht, EReal.bot_sub]; rfl
  have ec : ∀ j, X.ec j = (Real.exp (S j - t) : EReal) := fun j => by
    unfold Row.ec; rw [hc, ht, ← EReal.coe_sub, Ideal.exp_coe]
  have inv : X.inv = ((1 / ∑ j, Real.exp (S j - t) : ℝ) : EReal) := by
    unfold Row.inv
    rw [zero_add, Finset.sum_congr rfl fun j _ => el j, Finset.sum_congr rfl fun j _ => ec j, Finset.sum_const_zero, zero_add, ← coe_sum,
      Ideal.div_coe (exp_pos_sum _), one_mul]
  constructor
  · intro j; unfold Row.pl; rw [el, zero_mul]
  · intro j; unfold Row.pc; rw [ec, inv, ← EReal.coe_mul, soft_shift]
theorem grad_c (hdot : X.dot = ((∑ k, soft S k * D k : ℝ) : EReal)) (dc : ∀ j, (∑ d : Fin 128, X.g d * X.vc j d) = (D j : EReal)) :
    (∀ j, X.dl j = 0) ∧ ∀ j, X.dc j = (dsoft S D j : EReal) := by
  obtain ⟨pl, pc⟩ := prob_c X S hl hc
  constructor
  · intro j; unfold Row.dl; rw [pl, zero_mul]
  · intro j; unfold Row.dc; rw [pc, dc, hdot, ← EReal.coe_sub, ← EReal.coe_mul]; rfl
end context

/-! The reference's softmax and its gradient, over one set of keys. -/
section plain
variable {n : ℕ} [NeZero n] (S D : Fin n → ℝ)
/-- The reference's largest score. -/
def rtop {n : ℕ} (s : Fin n → EReal) : EReal := max ⊥ (Finset.univ.fold max ⊥ s)
theorem isR_rtop : IsR (rtop fun k => (S k : EReal)) := by
  unfold rtop; rw [max_eq_right bot_le]; exact isR_fold _
theorem plain_soft (k : Fin n) : Ideal.div (Ideal.exp ((S k : EReal) - rtop fun k => (S k : EReal))) (∑ j, Ideal.exp ((S j : EReal) - rtop fun k => (S k : EReal)))
    = (soft S k : EReal) := by
  obtain ⟨t, ht⟩ := isR_rtop S
  simp only [ht, ← EReal.coe_sub, Ideal.exp_coe, ← coe_sum]
  rw [Ideal.div_coe (exp_pos_sum _), ← EReal.coe_mul, soft_shift]
theorem plain_grad (k : Fin n) :
    (Ideal.div (D k : EReal) (∑ j, Ideal.exp ((S j : EReal) - rtop fun k => (S k : EReal)))
      + -(∑ l, (D l : EReal) * Ideal.div 1 ((∑ j, Ideal.exp ((S j : EReal) - rtop fun k => (S k : EReal))) * (∑ j, Ideal.exp ((S j : EReal) - rtop fun k => (S k : EReal))))
          * Ideal.exp ((S l : EReal) - rtop fun k => (S k : EReal))))
      * Ideal.exp ((S k : EReal) - rtop fun k => (S k : EReal)) = (dsoft S D k : EReal) := by
  obtain ⟨t, ht⟩ := isR_rtop S
  have hz := exp_pos_sum fun j => S j - t
  simp only [ht, ← EReal.coe_sub, Ideal.exp_coe, ← coe_sum, ← EReal.coe_mul, Ideal.div_coe hz, Ideal.div_coe (mul_ne_zero hz hz), one_mul, ← EReal.coe_neg, ← EReal.coe_add]
  refine congrArg _ ?_
  unfold dsoft
  simp only [← soft_shift S t]
  rw [Finset.sum_congr rfl fun l _ => show D l * (1 / ((∑ j, Real.exp (S j - t)) * ∑ j, Real.exp (S j - t))) * Real.exp (S l - t)
    = (1 / ∑ j, Real.exp (S j - t)) * (Real.exp (S l - t) * (1 / ∑ j, Real.exp (S j - t)) * D l) by field_simp, ← Finset.mul_sum]
  ring
end plain
end Cert.Attn
-- ==== Proof.AttnValue.lean ====
module

public import proofs.«01_k».proof.Proof.Gen.KAttnIdeal.Frame
public import proofs.«01_k».proof.Proof.AttnRow
public import Idealize.ShloMosaic.Lib.Pipeline.ValueKit
public import Idealize.ShloMosaic.Lib.Pipeline.ReadBack
public import Idealize.ShloMosaic.Lib.Claim

/-! What the attention gradient's call writes back, as functions of the arrays it reads. -/

@[expose] public section
set_option maxRecDepth 16384
noncomputable section
open Idealize.ShloMosaic Idealize.ShloMosaic.TcCoe Idealize.SL.Sem
open Idealize.ShloMosaic.Pipeline (Dat)
namespace Cert.KAttnIdeal.Rows
open Cert.KAttnIdeal Cert.KAttnIdeal.Gen Cert.Attn

theorem bits_bot : Ideal.ofBits .f32 0xFF800000#32 = ⊥ := by
  simp [Ideal.ofBits, Ideal.ieee]
theorem bits_one : Ideal.ofBits .f32 0x3F800000#32 = 1 := by
  simp [Ideal.ofBits, Ideal.ieee]; rw [← EReal.coe_mul]; norm_num

theorem zero4 (j) : k0_pay4 (F := Ideal) j = 0 := by pointwise [k0_pay4]
theorem zero5 (j) : k0_pay5 (F := Ideal) j = 0 := by pointwise [k0_pay5]
theorem zero6 (j) : k0_pay6 (F := Ideal) j = 0 := by pointwise [k0_pay6]
theorem zero7 (j) : k0_pay7 (F := Ideal) j = 0 := by pointwise [k0_pay7]

/-- The offset of the latent keys' scores: it shuts them out at the last block of a head's rows. -/
def offs (i : grid0.Coords) : EReal := if (i 2).val = 8 then ⊥ else 0

/-- One row of a block. -/
def rowOf (i : grid0.Coords) (q : Vec Ideal S256x256 .bf16) (kl : Vec Ideal S2048x256 .bf16) (kc : Vec Ideal S256x256 .bf16)
    (vl : Vec Ideal S2048x128 .bf16) (vc : Vec Ideal S256x128 .bf16) (o : Vec Ideal S256x128 .bf16) (g : Vec Ideal S256x128 .f32) (r : Fin 256) : Row where
  off := offs i
  q := fun d => q (ix2 r d)
  kl := fun j d => kl (ix2 j d)
  kc := fun j d => kc (ix2 j d)
  vl := fun j d => vl (ix2 j d)
  vc := fun j d => vc (ix2 j d)
  o := fun d => o (ix2 r d)
  g := fun d => g (ix2 r d)

theorem mask_at (i : grid0.Coords) : Scalar.select (Scalar.cmpi .eq (BitVec.ofNat 32 (i 2).val) 8#32) (Named.named (F := Ideal) (φ := .f32) κ "mask" 0xF149F2CA#32) (0 : EReal) = offs i := by
  have h : ∀ n : Fin 9, Scalar.select (Scalar.cmpi .eq (BitVec.ofNat 32 n.val) 8#32) (⊥ : EReal) 0 = if n.val = 8 then ⊥ else 0 := by
    intro n; fin_cases n <;> rfl
  exact h (i 2)

section
variable (i : grid0.Coords) (q : Vec Ideal S256x256 .bf16) (kl : Vec Ideal S2048x256 .bf16) (kc : Vec Ideal S256x256 .bf16)
    (vl : Vec Ideal S2048x128 .bf16) (vc : Vec Ideal S256x128 .bf16) (o : Vec Ideal S256x128 .bf16) (g : Vec Ideal S256x128 .f32) (r : Fin 256)
theorem dot_at : k0_pay11 (F := Ideal) g o (ix2 r 0) = (rowOf i q kl kc vl vc o g r).dot := by
  pointwise [k0_pay11, k0_pay9]
  rfl
theorem sc_at (j : Fin 256) : k0_pay12 (F := Ideal) q kc (ix2 r j) = (rowOf i q kl kc vl vc o g r).sc j := by
  pointwise [k0_pay12, k0_pay8]
  rfl
theorem sl_at (j : Fin 2048) : k0_pay13 (F := Ideal) i q kl (ix2 r j) = (rowOf i q kl kc vl vc o g r).sl j := by
  pointwise [k0_pay13, k0_pay8]
  rw [mask_at]
  rfl
theorem top_at : k0_pay14 (F := Ideal) i q kl kc (ix2 r 0) = (rowOf i q kl kc vl vc o g r).top := by
  unfold Row.top
  simp only [← sl_at, ← sc_at]
  pointwise [k0_pay14]
  rw [bits_bot]
theorem el_at (j : Fin 2048) : k0_pay15 (F := Ideal) i q kl kc (ix2 r j) = (rowOf i q kl kc vl vc o g r).el j := by
  unfold Row.el
  simp only [← sl_at, ← top_at]
  pointwise [k0_pay15]
theorem ec_at (j : Fin 256) : k0_pay16 (F := Ideal) i q kl kc (ix2 r j) = (rowOf i q kl kc vl vc o g r).ec j := by
  unfold Row.ec
  simp only [← sc_at, ← top_at]
  pointwise [k0_pay16]
theorem inv_at : k0_pay17 (F := Ideal) (k0_pay15 i q kl kc) (k0_pay16 i q kl kc) (ix2 r 0) = (rowOf i q kl kc vl vc o g r).inv := by
  unfold Row.inv
  simp only [← el_at, ← ec_at]
  pointwise [k0_pay17]
theorem pl_at (j : Fin 2048) : k0_pay18 (F := Ideal) (k0_pay15 i q kl kc) (k0_pay16 i q kl kc) (ix2 r j) = (rowOf i q kl kc vl vc o g r).pl j := by
  unfold Row.pl
  simp only [← el_at, ← inv_at]
  pointwise [k0_pay18]
theorem pc_at (j : Fin 256) : k0_pay19 (F := Ideal) (k0_pay15 i q kl kc) (k0_pay16 i q kl kc) (ix2 r j) = (rowOf i q kl kc vl vc o g r).pc j := by
  unfold Row.pc
  simp only [← ec_at, ← inv_at]
  pointwise [k0_pay19]
theorem dl_at (j : Fin 2048) : k0_pay20 (F := Ideal) (k0_pay10 g) (k0_pay11 g o) (k0_pay15 i q kl kc) (k0_pay16 i q kl kc) vl (ix2 r j) = (rowOf i q kl kc vl vc o g r).dl j := by
  unfold Row.dl
  simp only [← pl_at, ← dot_at]
  pointwise [k0_pay20, k0_pay10, k0_pay9]
  rfl
theorem dc_at (j : Fin 256) : k0_pay21 (F := Ideal) (k0_pay10 g) (k0_pay11 g o) (k0_pay15 i q kl kc) (k0_pay16 i q kl kc) vc (ix2 r j) = (rowOf i q kl kc vl vc o g r).dc j := by
  unfold Row.dc
  simp only [← pc_at, ← dot_at]
  pointwise [k0_pay21, k0_pay10, k0_pay9]
  rfl
theorem dq_at (d : Fin 256) : k0_pay22 (F := Ideal) (k0_pay10 g) (k0_pay11 g o) (k0_pay15 i q kl kc) (k0_pay16 i q kl kc) vl vc kl kc (ix2 r d) = (rowOf i q kl kc vl vc o g r).dq d := by
  unfold Row.dq
  simp only [← dl_at, ← dc_at]
  pointwise [k0_pay22]
  rfl
theorem dkl_at (acc : Vec Ideal S2048x256 .f32) (j : Fin 2048) (d : Fin 256) :
    k0_pay23 (F := Ideal) (k0_pay8 q) (k0_pay10 g) (k0_pay11 g o) (k0_pay15 i q kl kc) (k0_pay16 i q kl kc) vl acc (ix2 j d)
      = acc (ix2 j d) + ∑ r : Fin 256, (rowOf i q kl kc vl vc o g r).dl j * q (ix2 r d) := by
  simp only [← dl_at]
  pointwise [k0_pay23, k0_pay8]
theorem dkc_at (acc : Vec Ideal S256x256 .f32) (j : Fin 256) (d : Fin 256) :
    k0_pay1 (F := Ideal) (k0_pay8 q) (k0_pay21 (k0_pay10 g) (k0_pay11 g o) (k0_pay15 i q kl kc) (k0_pay16 i q kl kc) vc) acc (ix2 j d)
      = acc (ix2 j d) + ∑ r : Fin 256, (rowOf i q kl kc vl vc o g r).dc j * q (ix2 r d) := by
  simp only [← dc_at]
  pointwise [k0_pay1, k0_pay8]
theorem dvl_at (acc : Vec Ideal S2048x128 .f32) (j : Fin 2048) (d : Fin 128) :
    k0_pay2 (F := Ideal) (k0_pay10 g) (k0_pay18 (k0_pay15 i q kl kc) (k0_pay16 i q kl kc)) acc (ix2 j d)
      = acc (ix2 j d) + ∑ r : Fin 256, (rowOf i q kl kc vl vc o g r).pl j * g (ix2 r d) := by
  simp only [← pl_at]
  pointwise [k0_pay2, k0_pay10, k0_pay9]
theorem dvc_at (acc : Vec Ideal S256x128 .f32) (j : Fin 256) (d : Fin 128) :
    k0_pay3 (F := Ideal) (k0_pay10 g) (k0_pay19 (k0_pay15 i q kl kc) (k0_pay16 i q kl kc)) acc (ix2 j d)
      = acc (ix2 j d) + ∑ r : Fin 256, (rowOf i q kl kc vl vc o g r).pc j * g (ix2 r d) := by
  simp only [← pc_at]
  pointwise [k0_pay3, k0_pay10, k0_pay9]
end

/-! The rows of the whole arrays. -/

theorem lt_rx (b : Fin 2) (n : Fin 2048) : b.val * 2048 + n.val < 4608 := by omega
theorem lt_rc (b : Fin 2) (n : Fin 256) : 4096 + (b.val * 256 + n.val) < 4608 := by omega
/-- The row of position `n` of sequence `b` of the latent stream. -/
def rx (b : Fin 2) (n : Fin 2048) : Fin 4608 := ⟨b.val * 2048 + n.val, lt_rx b n⟩
/-- The row of position `n` of sequence `b` of the context. -/
def rc (b : Fin 2) (n : Fin 256) : Fin 4608 := ⟨4096 + (b.val * 256 + n.val), lt_rc b n⟩
theorem lt_cq (h : Fin 8) (d : Fin 256) : h.val * 256 + d.val < 2048 := by omega
theorem lt_cv (h : Fin 8) (d : Fin 128) : h.val * 128 + d.val < 1024 := by omega
/-- Lane `d` of head `h`, among the padded lanes and among those of the values. -/
def cq (h : Fin 8) (d : Fin 256) : Fin 2048 := ⟨h.val * 256 + d.val, lt_cq h d⟩
def cv (h : Fin 8) (d : Fin 128) : Fin 1024 := ⟨h.val * 128 + d.val, lt_cv h d⟩
theorem lt_gr (b : Fin 2) (i : Fin 9) (r : Fin 256) : (if i.val < 8 then b.val * 8 + i.val else 16 + b.val) * 256 + r.val < 4608 := by
  split <;> omega
/-- Row `r` of block `i` of sequence `b`: eight blocks of the latent stream, then one of the context. -/
def gr (b : Fin 2) (i : Fin 9) (r : Fin 256) : Fin 4608 := ⟨(if i.val < 8 then b.val * 8 + i.val else 16 + b.val) * 256 + r.val, lt_gr b i r⟩

/-- The arrays the call reads. -/
structure Arrs where
  Q : FVec Ideal S4608x2048 .bf16
  K : FVec Ideal S4608x2048 .bf16
  W : FVec Ideal S4608x1024 .bf16
  O : FVec Ideal S4608x1024 .bf16
  G : FVec Ideal S4608x1024 .f32

namespace Arrs
variable (X : Arrs)
/-- One query row of one head. -/
def row (b : Fin 2) (h : Fin 8) (R : Fin 4608) : Row where
  off := if R.val < 4096 then 0 else ⊥
  q := fun d => X.Q (ix2 R (cq h d))
  kl := fun j d => X.K (ix2 (rx b j) (cq h d))
  kc := fun j d => X.K (ix2 (rc b j) (cq h d))
  vl := fun j d => X.W (ix2 (rx b j) (cv h d))
  vc := fun j d => X.W (ix2 (rc b j) (cv h d))
  o := fun d => X.O (ix2 R (cv h d))
  g := fun d => X.G (ix2 R (cv h d))
/-- The sequence a row belongs to. -/
def seq (R : Fin 4608) : Fin 2 := ⟨if R.val < 4096 then R.val / 2048 else (R.val - 4096) / 256, by split <;> omega⟩
def dq (R : Fin 4608) (h : Fin 8) (d : Fin 256) : EReal := (X.row (seq R) h R).dq d
def dkl (b : Fin 2) (h : Fin 8) (j : Fin 2048) (d : Fin 256) : EReal :=
  ∑ i : Fin 9, ∑ r : Fin 256, (X.row b h (gr b i r)).dl j * X.Q (ix2 (gr b i r) (cq h d))
def dkc (b : Fin 2) (h : Fin 8) (j : Fin 256) (d : Fin 256) : EReal :=
  ∑ i : Fin 9, ∑ r : Fin 256, (X.row b h (gr b i r)).dc j * X.Q (ix2 (gr b i r) (cq h d))
def dvl (b : Fin 2) (h : Fin 8) (j : Fin 2048) (d : Fin 128) : EReal :=
  ∑ i : Fin 9, ∑ r : Fin 256, (X.row b h (gr b i r)).pl j * X.G (ix2 (gr b i r) (cv h d))
def dvc (b : Fin 2) (h : Fin 8) (j : Fin 256) (d : Fin 128) : EReal :=
  ∑ i : Fin 9, ∑ r : Fin 256, (X.row b h (gr b i r)).pc j * X.G (ix2 (gr b i r) (cv h d))
def outQ : FVec Ideal S4608x2048 .f32 := fun j => X.dq (j 0) ⟨(j 1).val / 256, by have : (j 1).val < 2048 := (j 1).isLt; omega⟩ ⟨(j 1).val % 256, by omega⟩
def outKL : FVec Ideal S4096x2048 .f32 := fun j => X.dkl ⟨(j 0).val / 2048, by have : (j 0).val < 4096 := (j 0).isLt; omega⟩ ⟨(j 1).val / 256, by have : (j 1).val < 2048 := (j 1).isLt; omega⟩ ⟨(j 0).val % 2048, by omega⟩ ⟨(j 1).val % 256, by omega⟩
def outKC : FVec Ideal S512x2048 .f32 := fun j => X.dkc ⟨(j 0).val / 256, by have : (j 0).val < 512 := (j 0).isLt; omega⟩ ⟨(j 1).val / 256, by have : (j 1).val < 2048 := (j 1).isLt; omega⟩ ⟨(j 0).val % 256, by omega⟩ ⟨(j 1).val % 256, by omega⟩
def outVL : FVec Ideal S4096x1024 .f32 := fun j => X.dvl ⟨(j 0).val / 2048, by have : (j 0).val < 4096 := (j 0).isLt; omega⟩ ⟨(j 1).val / 128, by have : (j 1).val < 1024 := (j 1).isLt; omega⟩ ⟨(j 0).val % 2048, by omega⟩ ⟨(j 1).val % 128, by omega⟩
def outVC : FVec Ideal S512x1024 .f32 := fun j => X.dvc ⟨(j 0).val / 256, by have : (j 0).val < 512 := (j 0).isLt; omega⟩ ⟨(j 1).val / 128, by have : (j 1).val < 1024 := (j 1).isLt; omega⟩ ⟨(j 0).val % 256, by omega⟩ ⟨(j 1).val % 128, by omega⟩
end Arrs

variable (m : (ℓ : Loc nD τ sig) → Buf (Elt Ideal) ℓ)

/-- The arrays the call reads. -/
def arrs (c : Dev nD) : Arrs where
  Q := V m c main_v45
  K := V m c main_v53
  W := V m c main_v61
  O := V m c main_v62
  G := V m c main_v37

theorem idx : ∀ t : Fin cfg0.N, win0_0.index t = ![if t.val % 9 < 8 then t.val / 72 * 8 + t.val % 9 else 16 + t.val / 72, t.val / 9 % 8]
    ∧ win0_1.index t = ![t.val / 72, t.val / 9 % 8] ∧ win0_2.index t = ![16 + t.val / 72, t.val / 9 % 8]
    ∧ win0_3.index t = ![t.val / 72, t.val / 9 % 8] ∧ win0_4.index t = ![16 + t.val / 72, t.val / 9 % 8]
    ∧ win0_5.index t = ![if t.val % 9 < 8 then t.val / 72 * 8 + t.val % 9 else 16 + t.val / 72, t.val / 9 % 8]
    ∧ win0_6.index t = ![if t.val % 9 < 8 then t.val / 72 * 8 + t.val % 9 else 16 + t.val / 72, t.val / 9 % 8]
    ∧ win0_7.index t = ![if t.val % 9 < 8 then t.val / 72 * 8 + t.val % 9 else 16 + t.val / 72, t.val / 9 % 8]
    ∧ win0_8.index t = ![t.val / 72, t.val / 9 % 8] ∧ win0_9.index t = ![t.val / 72, t.val / 9 % 8]
    ∧ win0_10.index t = ![t.val / 72, t.val / 9 % 8] ∧ win0_11.index t = ![t.val / 72, t.val / 9 % 8] ∧ ((grid0.coords t) 2).val = t.val % 9 ∧ t.val < 144 :=
  (by decide +kernel : ∀ t : Fin grid0.N, _)
theorem lt (t : Fin cfg0.N) : t.val < 144 := (idx t).2.2.2.2.2.2.2.2.2.2.2.2.2
theorem crd (t : Fin cfg0.N) : ((grid0.coords t) 2).val = t.val % 9 := (idx t).2.2.2.2.2.2.2.2.2.2.2.2.1
/-- The sequence, the head and the block of rows of a point. -/
def pb (t : Fin cfg0.N) : Fin 2 := ⟨t.val / 72, by have := lt t; omega⟩
def ph (t : Fin cfg0.N) : Fin 8 := ⟨t.val / 9 % 8, by omega⟩
def pi (t : Fin cfg0.N) : Fin 9 := ⟨t.val % 9, by omega⟩

section
variable (c : Dev nD) (t : Fin cfg0.N)
theorem blk0 (a : Fin 256) (d : Fin 256) : iblk m c 0 t (ix2 a d) = (arrs m c).Q (ix2 (gr (pb t) (pi t) a) (cq (ph t) d)) := by
  unfold gr pb pi cq ph; simp only [arrs]; blk_ext [iblk, idx t]
theorem blk1 (a : Fin 2048) (d : Fin 256) : X0_1 m c t (ix2 a d) = (arrs m c).K (ix2 (rx (pb t) a) (cq (ph t) d)) := by
  unfold X0_1 Pipeline.Window.fill
  rw [dif_pos (moved0_1 t _)]
  unfold rx pb cq ph; simp only [arrs]; blk_ext [iblk, idx t]
theorem blk2 (a : Fin 256) (d : Fin 256) : iblk m c 2 t (ix2 a d) = (arrs m c).K (ix2 (rc (pb t) a) (cq (ph t) d)) := by
  unfold rc pb cq ph; simp only [arrs]; blk_ext [iblk, idx t]
theorem blk3 (a : Fin 2048) (d : Fin 128) : X0_3 m c t (ix2 a d) = (arrs m c).W (ix2 (rx (pb t) a) (cv (ph t) d)) := by
  unfold X0_3 Pipeline.Window.fill
  rw [dif_pos (moved0_3 t _)]
  unfold rx pb cv ph; simp only [arrs]; blk_ext [iblk, idx t]
theorem blk4 (a : Fin 256) (d : Fin 128) : iblk m c 4 t (ix2 a d) = (arrs m c).W (ix2 (rc (pb t) a) (cv (ph t) d)) := by
  unfold rc pb cv ph; simp only [arrs]; blk_ext [iblk, idx t]
theorem blk5 (a : Fin 256) (d : Fin 128) : iblk m c 5 t (ix2 a d) = (arrs m c).O (ix2 (gr (pb t) (pi t) a) (cv (ph t) d)) := by
  unfold gr pb pi cv ph; simp only [arrs]; blk_ext [iblk, idx t]
theorem blk6 (a : Fin 256) (d : Fin 128) : iblk m c 6 t (ix2 a d) = (arrs m c).G (ix2 (gr (pb t) (pi t) a) (cv (ph t) d)) := by
  unfold gr pb pi cv ph; simp only [arrs]; blk_ext [iblk, idx t]
theorem offs_at (a : Fin 256) : offs (grid0.coords t) = if (gr (pb t) (pi t) a).val < 4096 then 0 else ⊥ := by
  unfold offs
  rw [crd]
  have key : (gr (pb t) (pi t) a).val < 4096 ↔ ¬t.val % 9 = 8 := by
    have := lt t
    have := a.isLt
    show (if t.val % 9 < 8 then t.val / 72 * 8 + t.val % 9 else 16 + t.val / 72) * 256 + a.val < 4096 ↔ _
    split <;> omega
  by_cases h : t.val % 9 = 8
  · rw [if_pos h, if_neg fun e => key.mp e h]
  · rw [if_neg h, if_pos (key.mpr h)]
/-- A row of a point's blocks is a row of the arrays. -/
theorem row_at (a : Fin 256) : rowOf (grid0.coords t) (iblk m c 0 t) (X0_1 m c t) (iblk m c 2 t) (X0_3 m c t) (iblk m c 4 t) (iblk m c 5 t) (iblk m c 6 t) a
    = (arrs m c).row (pb t) (ph t) (gr (pb t) (pi t) a) := by
  unfold rowOf Arrs.row
  rw [Row.mk.injEq]
  exact ⟨offs_at t a, funext (blk0 m c t a), funext fun j => funext (blk1 m c t j), funext fun j => funext (blk2 m c t j), funext fun j => funext (blk3 m c t j),
    funext fun j => funext (blk4 m c t j), funext (blk5 m c t a), funext (blk6 m c t a)⟩
end
end Cert.KAttnIdeal.Rows
-- ==== Proof.AttnFinal.lean ====
module

public import proofs.«01_k».proof.Proof.AttnValue
public import Idealize.ShloMosaic.Lib.Pipeline.ValueKit
public import Idealize.ShloMosaic.Lib.Pipeline.ReadBack
public import Idealize.ShloMosaic.Lib.Claim

/-! The five arrays the attention gradient's call writes back. -/

@[expose] public section
set_option maxRecDepth 16384
noncomputable section
open Idealize.ShloMosaic Idealize.ShloMosaic.TcCoe Idealize.SL.Sem
open Idealize.ShloMosaic.Pipeline (Dat)
namespace Cert.KAttnIdeal.Rows
open Cert.KAttnIdeal Cert.KAttnIdeal.Gen Cert.Attn
variable (m : (ℓ : Loc nD τ sig) → Buf (Elt Ideal) ℓ) (c : Dev nD) (t : Fin cfg0.N)

theorem q_pt (y : S256x256.Idx) : (outsAt0 m c t.val t.isLt).1 y = ((arrs m c).row (pb t) (ph t) (gr (pb t) (pi t) (y 0))).dq (y 1) := by
  idx_vars y
  by_cases hz : t.val % 9 = 0
  · rw [outsAt0_A m c t hz]; frame_out
    refine (dq_at (grid0.coords t) (iblk m c 0 t) (X0_1 m c t) (iblk m c 2 t) (X0_3 m c t) (iblk m c 4 t) (iblk m c 5 t) (iblk m c 6 t) y0 y1).trans ?_
    rw [row_at]
  · rw [outsAt0_B m c t hz]; frame_out
    refine (dq_at (grid0.coords t) (iblk m c 0 t) (X0_1 m c t) (iblk m c 2 t) (X0_3 m c t) (iblk m c 4 t) (iblk m c 5 t) (iblk m c 6 t) y0 y1).trans ?_
    rw [row_at]
/-- One block of rows' part of each of the keys' and values' gradients. -/
def tkl (y : S2048x256.Idx) : EReal := ∑ r : Fin 256, ((arrs m c).row (pb t) (ph t) (gr (pb t) (pi t) r)).dl (y 0) * (arrs m c).Q (ix2 (gr (pb t) (pi t) r) (cq (ph t) (y 1)))
def tkc (y : S256x256.Idx) : EReal := ∑ r : Fin 256, ((arrs m c).row (pb t) (ph t) (gr (pb t) (pi t) r)).dc (y 0) * (arrs m c).Q (ix2 (gr (pb t) (pi t) r) (cq (ph t) (y 1)))
def tvl (y : S2048x128.Idx) : EReal := ∑ r : Fin 256, ((arrs m c).row (pb t) (ph t) (gr (pb t) (pi t) r)).pl (y 0) * (arrs m c).G (ix2 (gr (pb t) (pi t) r) (cv (ph t) (y 1)))
def tvc (y : S256x128.Idx) : EReal := ∑ r : Fin 256, ((arrs m c).row (pb t) (ph t) (gr (pb t) (pi t) r)).pc (y 0) * (arrs m c).G (ix2 (gr (pb t) (pi t) r) (cv (ph t) (y 1)))

theorem kl_start (hz : t.val % 9 = 0) (y : S2048x256.Idx) : (outsAt0 m c t.val t.isLt).2.1 y = 0 + tkl m c t y := by
  idx_vars y
  rw [outsAt0_A m c t hz]; frame_out
  refine (dkl_at (grid0.coords t) (iblk m c 0 t) (X0_1 m c t) (iblk m c 2 t) (X0_3 m c t) (iblk m c 4 t) (iblk m c 5 t) (iblk m c 6 t) _ y0 y1).trans ?_
  unfold tkl
  simp only [row_at, blk0]
  exact Ideal.add_congr (zero4 _) rfl
theorem kl_step (hz : ¬t.val % 9 = 0) (y : S2048x256.Idx) :
    (outsAt0 m c t.val t.isLt).2.1 y = (outsAt0 m c (t.val - 1) (Nat.lt_of_le_of_lt (Nat.sub_le _ _) t.isLt)).2.1 y + tkl m c t y := by
  idx_vars y
  rw [outsAt0_B m c t hz]; frame_out
  refine (dkl_at (grid0.coords t) (iblk m c 0 t) (X0_1 m c t) (iblk m c 2 t) (X0_3 m c t) (iblk m c 4 t) (iblk m c 5 t) (iblk m c 6 t) _ y0 y1).trans ?_
  unfold tkl
  simp only [row_at, blk0]
  rfl
theorem kc_start (hz : t.val % 9 = 0) (y : S256x256.Idx) : (outsAt0 m c t.val t.isLt).2.2.1 y = 0 + tkc m c t y := by
  idx_vars y
  rw [outsAt0_A m c t hz]; frame_out
  refine (dkc_at (grid0.coords t) (iblk m c 0 t) (X0_1 m c t) (iblk m c 2 t) (X0_3 m c t) (iblk m c 4 t) (iblk m c 5 t) (iblk m c 6 t) _ y0 y1).trans ?_
  unfold tkc
  simp only [row_at, blk0]
  exact Ideal.add_congr (zero5 _) rfl
theorem kc_step (hz : ¬t.val % 9 = 0) (y : S256x256.Idx) :
    (outsAt0 m c t.val t.isLt).2.2.1 y = (outsAt0 m c (t.val - 1) (Nat.lt_of_le_of_lt (Nat.sub_le _ _) t.isLt)).2.2.1 y + tkc m c t y := by
  idx_vars y
  rw [outsAt0_B m c t hz]; frame_out
  refine (dkc_at (grid0.coords t) (iblk m c 0 t) (X0_1 m c t) (iblk m c 2 t) (X0_3 m c t) (iblk m c 4 t) (iblk m c 5 t) (iblk m c 6 t) _ y0 y1).trans ?_
  unfold tkc
  simp only [row_at, blk0]
  rfl
theorem vl_start (hz : t.val % 9 = 0) (y : S2048x128.Idx) : (outsAt0 m c t.val t.isLt).2.2.2.1 y = 0 + tvl m c t y := by
  idx_vars y
  rw [outsAt0_A m c t hz]; frame_out
  refine (dvl_at (grid0.coords t) (iblk m c 0 t) (X0_1 m c t) (iblk m c 2 t) (X0_3 m c t) (iblk m c 4 t) (iblk m c 5 t) (iblk m c 6 t) _ y0 y1).trans ?_
  unfold tvl
  simp only [row_at, blk6]
  exact Ideal.add_congr (zero6 _) rfl
theorem vl_step (hz : ¬t.val % 9 = 0) (y : S2048x128.Idx) :
    (outsAt0 m c t.val t.isLt).2.2.2.1 y = (outsAt0 m c (t.val - 1) (Nat.lt_of_le_of_lt (Nat.sub_le _ _) t.isLt)).2.2.2.1 y + tvl m c t y := by
  idx_vars y
  rw [outsAt0_B m c t hz]; frame_out
  refine (dvl_at (grid0.coords t) (iblk m c 0 t) (X0_1 m c t) (iblk m c 2 t) (X0_3 m c t) (iblk m c 4 t) (iblk m c 5 t) (iblk m c 6 t) _ y0 y1).trans ?_
  unfold tvl
  simp only [row_at, blk6]
  rfl
theorem vc_start (hz : t.val % 9 = 0) (y : S256x128.Idx) : (outsAt0 m c t.val t.isLt).2.2.2.2 y = 0 + tvc m c t y := by
  idx_vars y
  rw [outsAt0_A m c t hz]; frame_out
  refine (dvc_at (grid0.coords t) (iblk m c 0 t) (X0_1 m c t) (iblk m c 2 t) (X0_3 m c t) (iblk m c 4 t) (iblk m c 5 t) (iblk m c 6 t) _ y0 y1).trans ?_
  unfold tvc
  simp only [row_at, blk6]
  exact Ideal.add_congr (zero7 _) rfl
theorem vc_step (hz : ¬t.val % 9 = 0) (y : S256x128.Idx) :
    (outsAt0 m c t.val t.isLt).2.2.2.2 y = (outsAt0 m c (t.val - 1) (Nat.lt_of_le_of_lt (Nat.sub_le _ _) t.isLt)).2.2.2.2 y + tvc m c t y := by
  idx_vars y
  rw [outsAt0_B m c t hz]; frame_out
  refine (dvc_at (grid0.coords t) (iblk m c 0 t) (X0_1 m c t) (iblk m c 2 t) (X0_3 m c t) (iblk m c 4 t) (iblk m c 5 t) (iblk m c 6 t) _ y0 y1).trans ?_
  unfold tvc
  simp only [row_at, blk6]
  rfl

/-! The nine points of one head of one sequence. -/
section
variable (s : Fin 9)
theorem lt_run : 9 * (t.val / 9) + s.val < cfg0.N := by have := lt t; show _ < 144; omega
theorem run_b : pb ⟨9 * (t.val / 9) + s.val, lt_run t s⟩ = pb t := by apply Fin.ext; simp only [pb]; omega
theorem run_h : ph ⟨9 * (t.val / 9) + s.val, lt_run t s⟩ = ph t := by apply Fin.ext; simp only [ph]; omega
theorem run_i : pi ⟨9 * (t.val / 9) + s.val, lt_run t s⟩ = s := by apply Fin.ext; simp only [pi]; omega
end
theorem kl_end (hr : t.val % 9 = 8) (y : S2048x256.Idx) : (outsAt0 m c t.val t.isLt).2.1 y = (arrs m c).dkl (pb t) (ph t) (y 0) (y 1) := by
  rw [Pipeline.eq_sum_fin_of_reset_step_apply_of_flush (fun n h => (outsAt0 m c n h).2.1) 9 (fun _ => 0) _ (kl_start m c) (kl_step m c) t hr y, zero_add]
  unfold Arrs.dkl
  refine Finset.sum_congr rfl fun s _ => ?_
  unfold tkl
  rw [run_b t s, run_h t s, run_i t s]
theorem kc_end (hr : t.val % 9 = 8) (y : S256x256.Idx) : (outsAt0 m c t.val t.isLt).2.2.1 y = (arrs m c).dkc (pb t) (ph t) (y 0) (y 1) := by
  rw [Pipeline.eq_sum_fin_of_reset_step_apply_of_flush (fun n h => (outsAt0 m c n h).2.2.1) 9 (fun _ => 0) _ (kc_start m c) (kc_step m c) t hr y, zero_add]
  unfold Arrs.dkc
  refine Finset.sum_congr rfl fun s _ => ?_
  unfold tkc
  rw [run_b t s, run_h t s, run_i t s]
theorem vl_end (hr : t.val % 9 = 8) (y : S2048x128.Idx) : (outsAt0 m c t.val t.isLt).2.2.2.1 y = (arrs m c).dvl (pb t) (ph t) (y 0) (y 1) := by
  rw [Pipeline.eq_sum_fin_of_reset_step_apply_of_flush (fun n h => (outsAt0 m c n h).2.2.2.1) 9 (fun _ => 0) _ (vl_start m c) (vl_step m c) t hr y, zero_add]
  unfold Arrs.dvl
  refine Finset.sum_congr rfl fun s _ => ?_
  unfold tvl
  rw [run_b t s, run_h t s, run_i t s]
theorem vc_end (hr : t.val % 9 = 8) (y : S256x128.Idx) : (outsAt0 m c t.val t.isLt).2.2.2.2 y = (arrs m c).dvc (pb t) (ph t) (y 0) (y 1) := by
  rw [Pipeline.eq_sum_fin_of_reset_step_apply_of_flush (fun n h => (outsAt0 m c n h).2.2.2.2) 9 (fun _ => 0) _ (vc_start m c) (vc_step m c) t hr y, zero_add]
  unfold Arrs.dvc
  refine Finset.sum_congr rfl fun s _ => ?_
  unfold tvc
  rw [run_b t s, run_h t s, run_i t s]

theorem app4 {a b e g : ℕ} (f : Fin a → Fin b → Fin e → Fin g → EReal) {i i' : Fin a} {j j' : Fin b} {k k' : Fin e} {l l' : Fin g} (hi : i.val = i'.val) (hj : j.val = j'.val) (hk : k.val = k'.val) (hl : l.val = l'.val) :
    f i j k l = f i' j' k' l' := by rw [Fin.ext hi, Fin.ext hj, Fin.ext hk, Fin.ext hl]
theorem app3 {a b e : ℕ} (f : Fin a → Fin b → Fin e → EReal) {i i' : Fin a} {j j' : Fin b} {k k' : Fin e} (hi : i.val = i'.val) (hj : j.val = j'.val) (hk : k.val = k'.val) :
    f i j k = f i' j' k' := by rw [Fin.ext hi, Fin.ext hj, Fin.ext hk]
theorem seq_gr (b : Fin 2) (i : Fin 9) (r : Fin 256) : Arrs.seq (gr b i r) = b := by
  apply Fin.ext
  show (if (if i.val < 8 then b.val * 8 + i.val else 16 + b.val) * 256 + r.val < 4096 then ((if i.val < 8 then b.val * 8 + i.val else 16 + b.val) * 256 + r.val) / 2048
    else ((if i.val < 8 then b.val * 8 + i.val else 16 + b.val) * 256 + r.val - 4096) / 256) = b.val
  have := i.isLt
  split <;> split at * <;> omega

theorem final7 : (dats m 0 c).arrAt 7 (cfgs 0).N = (arrs m c).outQ := by
  refine (dats m 0 c).arrAt_eq_of_covers 7 _ (by decide +kernel) fun t _ y => ?_
  blk_simp
  rw [after0_7]
  have e := (q_pt m c t y).trans (congrArg (fun b => ((arrs m c).row b (ph t) (gr (pb t) (pi t) (y 0))).dq (y 1)) (seq_gr (pb t) (pi t) (y 0)).symm)
  refine e.trans ?_
  have h0 : (y 0).val < 256 := (y 0).isLt
  have h1 : (y 1).val < 256 := (y 1).isLt
  have ht := lt t
  exact app3 (arrs m c).dq (by show (if t.val % 9 < 8 then t.val / 72 * 8 + t.val % 9 else 16 + t.val / 72) * 256 + (y 0).val = _; blk_simp [idx t]) (by show t.val / 9 % 8 = _; blk_simp [idx t]; dsimp only; omega) (by blk_simp [idx t]; dsimp only; omega)
theorem final8 : (dats m 0 c).arrAt 8 (cfgs 0).N = (arrs m c).outKL := by
  refine (dats m 0 c).arrAt_eq_of_covers 8 _ (by decide +kernel) fun t hf y => ?_
  blk_simp
  rw [after0_8]
  refine (kl_end m c t ((flush0_8 t).mp hf) y).trans ?_
  have h0 : (y 0).val < 2048 := (y 0).isLt
  have h1 : (y 1).val < 256 := (y 1).isLt
  have ht := lt t
  exact app4 (arrs m c).dkl (by show t.val / 72 = _; blk_simp [idx t]; dsimp only; omega) (by show t.val / 9 % 8 = _; blk_simp [idx t]; dsimp only; omega) (by blk_simp [idx t]; dsimp only; omega) (by blk_simp [idx t]; dsimp only; omega)
theorem final9 : (dats m 0 c).arrAt 9 (cfgs 0).N = (arrs m c).outKC := by
  refine (dats m 0 c).arrAt_eq_of_covers 9 _ (by decide +kernel) fun t hf y => ?_
  blk_simp
  rw [after0_9]
  refine (kc_end m c t ((flush0_9 t).mp hf) y).trans ?_
  have h0 : (y 0).val < 256 := (y 0).isLt
  have h1 : (y 1).val < 256 := (y 1).isLt
  have ht := lt t
  exact app4 (arrs m c).dkc (by show t.val / 72 = _; blk_simp [idx t]; dsimp only; omega) (by show t.val / 9 % 8 = _; blk_simp [idx t]; dsimp only; omega) (by blk_simp [idx t]; dsimp only; omega) (by blk_simp [idx t]; dsimp only; omega)
theorem final10 : (dats m 0 c).arrAt 10 (cfgs 0).N = (arrs m c).outVL := by
  refine (dats m 0 c).arrAt_eq_of_covers 10 _ (by decide +kernel) fun t hf y => ?_
  blk_simp
  rw [after0_10]
  refine (vl_end m c t ((flush0_10 t).mp hf) y).trans ?_
  have h0 : (y 0).val < 2048 := (y 0).isLt
  have h1 : (y 1).val < 128 := (y 1).isLt
  have ht := lt t
  exact app4 (arrs m c).dvl (by show t.val / 72 = _; blk_simp [idx t]; dsimp only; omega) (by show t.val / 9 % 8 = _; blk_simp [idx t]; dsimp only; omega) (by blk_simp [idx t]; dsimp only; omega) (by blk_simp [idx t]; dsimp only; omega)
theorem final11 : (dats m 0 c).arrAt 11 (cfgs 0).N = (arrs m c).outVC := by
  refine (dats m 0 c).arrAt_eq_of_covers 11 _ (by decide +kernel) fun t hf y => ?_
  blk_simp
  rw [after0_11]
  refine (vc_end m c t ((flush0_11 t).mp hf) y).trans ?_
  have h0 : (y 0).val < 256 := (y 0).isLt
  have h1 : (y 1).val < 128 := (y 1).isLt
  have ht := lt t
  exact app4 (arrs m c).dvc (by show t.val / 72 = _; blk_simp [idx t]; dsimp only; omega) (by show t.val / 9 % 8 = _; blk_simp [idx t]; dsimp only; omega) (by blk_simp [idx t]; dsimp only; omega) (by blk_simp [idx t]; dsimp only; omega)
end Cert.KAttnIdeal.Rows
-- ==== Proof.AttnHost.lean ====
module

public import proofs.«01_k».proof.Proof.AttnFinal
public import proofs.«01_k».proof.Proof.Gen.RAttnIdeal.Read
public import proofs.«01_k».proof.Proof.Reals

/-! What the attention gradient's call is handed, as functions of the arguments. -/

@[expose] public section
set_option maxRecDepth 16384
noncomputable section
open Idealize.ShloMosaic Idealize.ShloMosaic.TcCoe Idealize.SL.Sem
open Idealize.ShloMosaic.Pipeline (Dat)
namespace Cert.KAttnIdeal.Rows
open Cert.KAttnIdeal Cert.KAttnIdeal.Gen Cert.RAttnIdeal.Read Cert.Reals Cert.Attn

/-- The zero the padding writes. -/
def pz : FVec Ideal S_ .f32 := sitofp .f32 (constantI S_ 32 0#32)
/-- The heads of the latent stream as rows of tokens, each head padded to 256 lanes. -/
def packX (x : FVec Ideal S2x8x2048x192 .f32) : FVec Ideal S4096x2048 .f32 :=
  shapeCast S4096x2048 (pad S2x2048x8x256 ![0, 0, 0, 0] ![0, 0, 0, 64] ![0, 0, 0, 0] (transpose S2x2048x8x192 [0, 2, 1, 3] x transposes_S2x8x2048x192_S2x2048x8x192_0_2_1_3) pz pads_S2x2048x8x192_S2x2048x8x256_000_000_000_0640 h_S_) shapeCasts_S2x2048x8x256_S4096x2048
def packC (x : FVec Ideal S2x8x256x192 .f32) : FVec Ideal S512x2048 .f32 :=
  shapeCast S512x2048 (pad S2x256x8x256 ![0, 0, 0, 0] ![0, 0, 0, 64] ![0, 0, 0, 0] (transpose S2x256x8x192 [0, 2, 1, 3] x transposes_S2x8x256x192_S2x256x8x192_0_2_1_3) pz pads_S2x256x8x192_S2x256x8x256_000_000_000_0640 h_S_) shapeCasts_S2x256x8x256_S512x2048
def valX (x : FVec Ideal S2x8x2048x128 .f32) : FVec Ideal S4096x1024 .f32 :=
  shapeCast S4096x1024 (pad S2x2048x8x128 ![0, 0, 0, 0] ![0, 0, 0, 0] ![0, 0, 0, 0] (transpose S2x2048x8x128 [0, 2, 1, 3] x transposes_S2x8x2048x128_S2x2048x8x128_0_2_1_3) pz pads_S2x2048x8x128_S2x2048x8x128_000_000_000_000 h_S_) shapeCasts_S2x2048x8x128_S4096x1024
def valC (x : FVec Ideal S2x8x256x128 .f32) : FVec Ideal S512x1024 .f32 :=
  shapeCast S512x1024 (pad S2x256x8x128 ![0, 0, 0, 0] ![0, 0, 0, 0] ![0, 0, 0, 0] (transpose S2x256x8x128 [0, 2, 1, 3] x transposes_S2x8x256x128_S2x256x8x128_0_2_1_3) pz pads_S2x256x8x128_S2x256x8x128_000_000_000_000 h_S_) shapeCasts_S2x256x8x128_S512x1024
/-- The rows of the latent stream, then those of the context. -/
def wide (x : FVec Ideal S4096x2048 .f32) (y : FVec Ideal S512x2048 .f32) : FVec Ideal S4608x2048 .f32 :=
  concatenate S4608x2048 0 [⟨S4096x2048, x⟩, ⟨S512x2048, y⟩] concatenates_S4096x2048_S512x2048_S4608x2048_d0
def slim (x : FVec Ideal S4096x1024 .f32) (y : FVec Ideal S512x1024 .f32) : FVec Ideal S4608x1024 .f32 :=
  concatenate S4608x1024 0 [⟨S4096x1024, x⟩, ⟨S512x1024, y⟩] concatenates_S4096x1024_S512x1024_S4608x1024_d0
/-- Tokens of 1024 lanes as rows. -/
def tokX (x : FVec Ideal S2x2048x1024 .f32) : FVec Ideal S4096x1024 .f32 := shapeCast S4096x1024 x shapeCasts_S2x2048x1024_S4096x1024
def tokC (x : FVec Ideal S2x256x1024 .f32) : FVec Ideal S512x1024 .f32 := shapeCast S512x1024 x shapeCasts_S2x256x1024_S512x1024

theorem lt_x (b : Fin 2) (n : Fin 2048) : b.val * 2048 + n.val < 4096 := by omega
theorem lt_c (b : Fin 2) (n : Fin 256) : b.val * 256 + n.val < 512 := by omega
def fx (b : Fin 2) (n : Fin 2048) : Fin 4096 := ⟨b.val * 2048 + n.val, lt_x b n⟩
def fc (b : Fin 2) (n : Fin 256) : Fin 512 := ⟨b.val * 256 + n.val, lt_c b n⟩

theorem pz_at (j) : pz j = 0 := by
  show (((0#32 : BitVec 32).toInt : ℝ) : EReal) = 0
  simp
/-- A head's 192 lanes padded with zeros to 256. -/
def padF (f : Fin 192 → EReal) (d : Fin 256) : EReal := if h : d.val < 192 then f ⟨d.val, h⟩ else 0

theorem packX_at (x) (b : Fin 2) (n : Fin 2048) (h : Fin 8) (d : Fin 256) : packX x (ix2 (fx b n) (cq h d)) = padF (fun e => x (ix4 b h n e)) d := by
  unfold fx cq padF
  pointwise [packX]
  rw [pz_at]
theorem packC_at (x) (b : Fin 2) (n : Fin 256) (h : Fin 8) (d : Fin 256) : packC x (ix2 (fc b n) (cq h d)) = padF (fun e => x (ix4 b h n e)) d := by
  unfold fc cq padF
  pointwise [packC]
  rw [pz_at]
theorem valX_at (x) (b : Fin 2) (n : Fin 2048) (h : Fin 8) (d : Fin 128) : valX x (ix2 (fx b n) (cv h d)) = x (ix4 b h n d) := by
  unfold fx cv
  pointwise [valX]
theorem valC_at (x) (b : Fin 2) (n : Fin 256) (h : Fin 8) (d : Fin 128) : valC x (ix2 (fc b n) (cv h d)) = x (ix4 b h n d) := by
  unfold fc cv
  pointwise [valC]
theorem tokX_at (x) (b : Fin 2) (n : Fin 2048) (d : Fin 1024) : tokX x (ix2 (fx b n) d) = x (ix3 b n d) := by
  unfold fx
  pointwise [tokX]
theorem tokC_at (x) (b : Fin 2) (n : Fin 256) (d : Fin 1024) : tokC x (ix2 (fc b n) d) = x (ix3 b n d) := by
  unfold fc
  pointwise [tokC]
theorem lt_low (r : Fin 512) : 4096 + r.val < 4608 := by omega
theorem wide_low (A B) (r : Fin 512) (d : Fin 2048) : wide A B (ix2 ⟨4096 + r.val, lt_low r⟩ d) = B (ix2 r d) := by
  pointwise [wide]
theorem slim_low (A B) (r : Fin 512) (d : Fin 1024) : slim A B (ix2 ⟨4096 + r.val, lt_low r⟩ d) = B (ix2 r d) := by
  pointwise [slim]
theorem wide_x (A B) (b : Fin 2) (n : Fin 2048) (d : Fin 2048) : wide A B (ix2 (rx b n) d) = A (ix2 (fx b n) d) := by
  unfold rx fx
  pointwise [wide]
  rw [dif_pos (by omega)]
theorem slim_x (A B) (b : Fin 2) (n : Fin 2048) (d : Fin 1024) : slim A B (ix2 (rx b n) d) = A (ix2 (fx b n) d) := by
  unfold rx fx
  pointwise [slim]
  rw [dif_pos (by omega)]
theorem wide_c (A B) (b : Fin 2) (n : Fin 256) (d : Fin 2048) : wide A B (ix2 (rc b n) d) = B (ix2 (fc b n) d) := wide_low A B (fc b n) d
theorem slim_c (A B) (b : Fin 2) (n : Fin 256) (d : Fin 1024) : slim A B (ix2 (rc b n) d) = B (ix2 (fc b n) d) := slim_low A B (fc b n) d

/-- The arrays of the call from the arguments. -/
def ofArgs (x0 : FVec Ideal S2x8x2048x192 .f32) (x1 : FVec Ideal S2x8x256x192 .f32) (x2 : FVec Ideal S2x8x2048x192 .f32) (x3 : FVec Ideal S2x8x256x192 .f32)
    (x4 : FVec Ideal S2x8x2048x128 .f32) (x5 : FVec Ideal S2x8x256x128 .f32) (x6 : FVec Ideal S2x2048x1024 .f32) (x7 : FVec Ideal S2x256x1024 .f32) : Arrs where
  Q := truncf .bf16 (wide (packX x0) (packC x1)) bitsLt_bf16_f32
  K := truncf .bf16 (wide (packX x2) (packC x3)) bitsLt_bf16_f32
  W := truncf .bf16 (slim (valX x4) (valC x5)) bitsLt_bf16_f32
  O := truncf .bf16 (slim (tokX (val_main_v33 (F := Ideal) x0 x2 x3 x4 x5)) (tokC (val_main_v65 (F := Ideal) x1 x3 x5))) bitsLt_bf16_f32
  G := slim (tokX x6) (tokC x7)

section
variable (m : (ℓ : Loc nD τ sig) → Buf (Elt Ideal) ℓ) (c : Dev nD)
theorem hostQ : V m c main_v45 = truncf .bf16 (wide (packX (m ((c : Thread nD τ).loc main_arg0))) (packC (m ((c : Thread nD τ).loc main_arg1)))) bitsLt_bf16_f32 := by
  unfold V; entry_read; rfl
theorem hostK : V m c main_v53 = truncf .bf16 (wide (packX (m ((c : Thread nD τ).loc main_arg2))) (packC (m ((c : Thread nD τ).loc main_arg3)))) bitsLt_bf16_f32 := by
  unfold V; entry_read; rfl
theorem hostW : V m c main_v61 = truncf .bf16 (slim (valX (m ((c : Thread nD τ).loc main_arg4))) (valC (m ((c : Thread nD τ).loc main_arg5)))) bitsLt_bf16_f32 := by
  unfold V; entry_read; rfl
theorem hostG : V m c main_v37 = slim (tokX (m ((c : Thread nD τ).loc main_arg6))) (tokC (m ((c : Thread nD τ).loc main_arg7))) := by
  unfold V; entry_read; rfl
set_option maxHeartbeats 2000000 in
theorem hostO : V m c main_v62 = truncf .bf16 (slim (tokX (val_main_v33 (F := Ideal) (m ((c : Thread nD τ).loc main_arg0)) (m ((c : Thread nD τ).loc main_arg2)) (m ((c : Thread nD τ).loc main_arg3)) (m ((c : Thread nD τ).loc main_arg4)) (m ((c : Thread nD τ).loc main_arg5))))
    (tokC (val_main_v65 (F := Ideal) (m ((c : Thread nD τ).loc main_arg1)) (m ((c : Thread nD τ).loc main_arg3)) (m ((c : Thread nD τ).loc main_arg5))))) bitsLt_bf16_f32 := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.cons_append, List.nil_append, List.append_nil]
  after_results_simp
  after_results_loop
  rfl
theorem arrs_eq : arrs m c = ofArgs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  unfold arrs ofArgs
  rw [hostQ, hostK, hostW, hostO, hostG]
end
end Cert.KAttnIdeal.Rows
-- ==== Proof.AttnRef.lean ====
module

public import proofs.«01_k».proof.Proof.AttnHost

/-! The reference's attention gradient, and the kernel's rows, as real numbers. -/

@[expose] public section
set_option maxRecDepth 16384
noncomputable section
open Idealize.ShloMosaic Idealize.ShloMosaic.TcCoe Idealize.SL.Sem
namespace Cert.KAttnIdeal.Rows
open Cert.KAttnIdeal Cert.KAttnIdeal.Gen Cert.RAttnIdeal.Read Cert.Reals Cert.Attn

/-- The largest along the last of four axes, whatever the sizes. -/
theorem max_last {n0 n1 n2 n3 : ℕ} (h : (⟨4, ![n0, n1, n2, n3]⟩ : Shape).ReducesTo [3] ⟨3, ![n0, n1, n2]⟩) {u : Shape} (hu : 0 < u.numel)
    (y : FVec Ideal ⟨4, ![n0, n1, n2, n3]⟩ .f32) (z : FVec Ideal u .f32) (hz : ∀ j, z j = ⊥) (i : Fin n0) (j : Fin n1) (k : Fin n2) :
    max ⊥ (Host.reduce FloatOps.maximumf y z h hu (ix3 i j k)) = rtop fun l => y (ix4 i j k l) := by
  rw [Host.reduce_eq_fold, h.fold_fiber_r4_a3, hz]
  rfl
theorem cst_bot (u : Shape) (j) : constant (F := Ideal) u .f32 0xFF800000#32 j = ⊥ := bits_bot

section
variable (x0 : FVec Ideal S2x8x2048x192 .f32) (x1 : FVec Ideal S2x8x256x192 .f32) (x2 : FVec Ideal S2x8x2048x192 .f32) (x3 : FVec Ideal S2x8x256x192 .f32)
    (x4 : FVec Ideal S2x8x2048x128 .f32) (x5 : FVec Ideal S2x8x256x128 .f32) (x6 : FVec Ideal S2x2048x1024 .f32) (x7 : FVec Ideal S2x256x1024 .f32)
variable (b : Fin 2) (h : Fin 8)

/-! Keys and values of both streams, the context first. -/
theorem keys_c (j : Fin 256) (d : Fin 192) : val_main_v0 (F := Ideal) x2 x3 (ix4 b h (cx j) d) = x3 (ix4 b h j d) := by
  unfold cx
  pointwise [val_main_v0]
theorem keys_l (j : Fin 2048) (d : Fin 192) : val_main_v0 (F := Ideal) x2 x3 (ix4 b h (lx j) d) = x2 (ix4 b h j d) := by
  unfold lx
  pointwise [val_main_v0]
theorem vals_c (j : Fin 256) (d : Fin 128) : val_main_v1 (F := Ideal) x4 x5 (ix4 b h (cx j) d) = x5 (ix4 b h j d) := by
  unfold cx
  pointwise [val_main_v1]
theorem vals_l (j : Fin 2048) (d : Fin 128) : val_main_v1 (F := Ideal) x4 x5 (ix4 b h (lx j) d) = x4 (ix4 b h j d) := by
  unfold lx
  pointwise [val_main_v1]

/-! The latent queries. -/
section
variable (n : Fin 2048)
theorem rs_x (k : Fin 2304) : val_main_v2 (F := Ideal) x0 x2 x3 (ix4 b h n k) = ∑ d : Fin 192, x0 (ix4 b h n d) * val_main_v0 (F := Ideal) x2 x3 (ix4 b h k d) := by
  pointwise [val_main_v2]
theorem rtop_x : val_main_v10 (F := Ideal) x0 x2 x3 (ix3 b h n) = rtop fun k => val_main_v2 (F := Ideal) x0 x2 x3 (ix4 b h n k) := by
  have e : val_main_v9 (F := Ideal) (ix3 b h n) = ⊥ := by
    pointwise [val_main_v9, val_main_cst_1]
    exact bits_bot
  rw [val_main_v10_apply, e]
  exact max_last _ h_S_ (val_main_v2 (F := Ideal) x0 x2 x3) (val_main_cst (F := Ideal)) (cst_bot _) b h n
theorem re_x (k : Fin 2304) : val_main_v23 (F := Ideal) x0 x2 x3 (ix4 b h n k)
    = Ideal.exp (val_main_v2 (F := Ideal) x0 x2 x3 (ix4 b h n k) - rtop fun k => val_main_v2 (F := Ideal) x0 x2 x3 (ix4 b h n k)) := by
  rw [← rtop_x]
  pointwise [val_main_v23, val_main_v22, val_main_v21, val_main_v20]
theorem rz_x : val_main_v25 (F := Ideal) x0 x2 x3 (ix4 b h n 0) = ∑ k : Fin 2304, val_main_v23 (F := Ideal) x0 x2 x3 (ix4 b h n k) := by
  pointwise [val_main_v25, val_main_v24, val_main_cst_7]
theorem rp_x (k : Fin 2304) : val_main_v27 (F := Ideal) x0 x2 x3 (ix4 b h n k) = Ideal.div (val_main_v23 (F := Ideal) x0 x2 x3 (ix4 b h n k)) (val_main_v25 (F := Ideal) x0 x2 x3 (ix4 b h n 0)) := by
  pointwise [val_main_v27, val_main_v26]
theorem ro_x (d : Fin 128) : val_main_v33 (F := Ideal) x0 x2 x3 x4 x5 (ix3 b n (cv h d)) = ∑ k : Fin 2304, val_main_v27 (F := Ideal) x0 x2 x3 (ix4 b h n k) * val_main_v1 (F := Ideal) x4 x5 (ix4 b h k d) := by
  unfold cv
  pointwise [val_main_v33, val_main_v32, val_main_v31]
theorem rd_x (k : Fin 2304) : val_main_v89 (F := Ideal) x4 x5 x6 (ix4 b h n k) = ∑ d : Fin 128, x6 (ix3 b n (cv h d)) * val_main_v1 (F := Ideal) x4 x5 (ix4 b h k d) := by
  unfold cv
  pointwise [val_main_v89, val_main_v86, val_main_v85]
theorem rg_x (k : Fin 2304) : val_main_v101 (F := Ideal) x0 x2 x3 x4 x5 x6 (ix4 b h n k)
    = (Ideal.div (val_main_v89 (F := Ideal) x4 x5 x6 (ix4 b h n k)) (val_main_v25 (F := Ideal) x0 x2 x3 (ix4 b h n 0))
      + -(∑ l : Fin 2304, val_main_v89 (F := Ideal) x4 x5 x6 (ix4 b h n l) * Ideal.div 1 (val_main_v25 (F := Ideal) x0 x2 x3 (ix4 b h n 0) * val_main_v25 (F := Ideal) x0 x2 x3 (ix4 b h n 0))
        * val_main_v23 (F := Ideal) x0 x2 x3 (ix4 b h n l))) * val_main_v23 (F := Ideal) x0 x2 x3 (ix4 b h n k) := by
  pointwise [val_main_v101, val_main_v100, val_main_v99, val_main_v98, val_main_v97, val_main_v96, val_main_v95, val_main_v94, val_main_v93, val_main_v92, val_main_v91, val_main_v90, val_main_v30, val_main_v29, val_main_v28, val_main_cst_21, val_main_cst_22, val_main_cst_8]
  rw [Fin.sum_univ_one]
theorem rq_x (d : Fin 192) : val_main_v103 (F := Ideal) x0 x2 x3 x4 x5 x6 (ix4 b h n d)
    = ∑ k : Fin 2304, val_main_v101 (F := Ideal) x0 x2 x3 x4 x5 x6 (ix4 b h n k) * val_main_v0 (F := Ideal) x2 x3 (ix4 b h k d) := by
  pointwise [val_main_v103]
end
theorem rk_x (k : Fin 2304) (d : Fin 192) : val_main_v102 (F := Ideal) x0 x2 x3 x4 x5 x6 (ix4 b h k d)
    = ∑ n : Fin 2048, val_main_v101 (F := Ideal) x0 x2 x3 x4 x5 x6 (ix4 b h n k) * x0 (ix4 b h n d) := by
  pointwise [val_main_v102]
theorem rv_x (k : Fin 2304) (d : Fin 128) : val_main_v88 (F := Ideal) x0 x2 x3 x6 (ix4 b h k d)
    = ∑ n : Fin 2048, x6 (ix3 b n (cv h d)) * val_main_v27 (F := Ideal) x0 x2 x3 (ix4 b h n k) := by
  unfold cv
  pointwise [val_main_v88, val_main_v87, val_main_v86, val_main_v85]

/-! The context's queries, over the context's keys alone. -/
section
variable (n : Fin 256)
theorem rs_c (k : Fin 256) : val_main_v34 (F := Ideal) x1 x3 (ix4 b h n k) = ∑ d : Fin 192, x1 (ix4 b h n d) * x3 (ix4 b h k d) := by
  pointwise [val_main_v34]
theorem rtop_c : val_main_v42 (F := Ideal) x1 x3 (ix3 b h n) = rtop fun k => val_main_v34 (F := Ideal) x1 x3 (ix4 b h n k) := by
  have e : val_main_v41 (F := Ideal) (ix3 b h n) = ⊥ := by
    pointwise [val_main_v41, val_main_cst_11]
    exact bits_bot
  rw [val_main_v42_apply, e]
  exact max_last _ h_S_ (val_main_v34 (F := Ideal) x1 x3) (val_main_cst_9 (F := Ideal)) (cst_bot _) b h n
theorem re_c (k : Fin 256) : val_main_v55 (F := Ideal) x1 x3 (ix4 b h n k)
    = Ideal.exp (val_main_v34 (F := Ideal) x1 x3 (ix4 b h n k) - rtop fun k => val_main_v34 (F := Ideal) x1 x3 (ix4 b h n k)) := by
  rw [← rtop_c]
  pointwise [val_main_v55, val_main_v54, val_main_v53, val_main_v52]
theorem rz_c : val_main_v57 (F := Ideal) x1 x3 (ix4 b h n 0) = ∑ k : Fin 256, val_main_v55 (F := Ideal) x1 x3 (ix4 b h n k) := by
  pointwise [val_main_v57, val_main_v56, val_main_cst_17]
theorem rp_c (k : Fin 256) : val_main_v59 (F := Ideal) x1 x3 (ix4 b h n k) = Ideal.div (val_main_v55 (F := Ideal) x1 x3 (ix4 b h n k)) (val_main_v57 (F := Ideal) x1 x3 (ix4 b h n 0)) := by
  pointwise [val_main_v59, val_main_v58]
theorem ro_c (d : Fin 128) : val_main_v65 (F := Ideal) x1 x3 x5 (ix3 b n (cv h d)) = ∑ k : Fin 256, val_main_v59 (F := Ideal) x1 x3 (ix4 b h n k) * x5 (ix4 b h k d) := by
  unfold cv
  pointwise [val_main_v65, val_main_v64, val_main_v63]
theorem rd_c (k : Fin 256) : val_main_v70 (F := Ideal) x5 x7 (ix4 b h n k) = ∑ d : Fin 128, x7 (ix3 b n (cv h d)) * x5 (ix4 b h k d) := by
  unfold cv
  pointwise [val_main_v70, val_main_v67, val_main_v66]
theorem rg_c (k : Fin 256) : val_main_v82 (F := Ideal) x1 x3 x5 x7 (ix4 b h n k)
    = (Ideal.div (val_main_v70 (F := Ideal) x5 x7 (ix4 b h n k)) (val_main_v57 (F := Ideal) x1 x3 (ix4 b h n 0))
      + -(∑ l : Fin 256, val_main_v70 (F := Ideal) x5 x7 (ix4 b h n l) * Ideal.div 1 (val_main_v57 (F := Ideal) x1 x3 (ix4 b h n 0) * val_main_v57 (F := Ideal) x1 x3 (ix4 b h n 0))
        * val_main_v55 (F := Ideal) x1 x3 (ix4 b h n l))) * val_main_v55 (F := Ideal) x1 x3 (ix4 b h n k) := by
  pointwise [val_main_v82, val_main_v81, val_main_v80, val_main_v79, val_main_v78, val_main_v77, val_main_v76, val_main_v75, val_main_v74, val_main_v73, val_main_v72, val_main_v71, val_main_v62, val_main_v61, val_main_v60, val_main_cst_18, val_main_cst_19, val_main_cst_20]
  rw [Fin.sum_univ_one]
theorem rq_c (d : Fin 192) : val_main_v84 (F := Ideal) x1 x3 x5 x7 (ix4 b h n d)
    = ∑ k : Fin 256, val_main_v82 (F := Ideal) x1 x3 x5 x7 (ix4 b h n k) * x3 (ix4 b h k d) := by
  pointwise [val_main_v84]
end
theorem rk_c (k : Fin 256) (d : Fin 192) : val_main_v83 (F := Ideal) x1 x3 x5 x7 (ix4 b h k d)
    = ∑ n : Fin 256, val_main_v82 (F := Ideal) x1 x3 x5 x7 (ix4 b h n k) * x1 (ix4 b h n d) := by
  pointwise [val_main_v83]
theorem rv_c (k : Fin 256) (d : Fin 128) : val_main_v69 (F := Ideal) x1 x3 x7 (ix4 b h k d)
    = ∑ n : Fin 256, x7 (ix3 b n (cv h d)) * val_main_v59 (F := Ideal) x1 x3 (ix4 b h n k) := by
  unfold cv
  pointwise [val_main_v69, val_main_v68, val_main_v67, val_main_v66]

/-! The keys' and values' gradients, parted by stream. -/
theorem rkl (j : Fin 2048) (d : Fin 192) : val_main_v108 (F := Ideal) x0 x2 x3 x4 x5 x6 (ix4 b h j d)
    = ∑ n : Fin 2048, val_main_v101 (F := Ideal) x0 x2 x3 x4 x5 x6 (ix4 b h n (lx j)) * x0 (ix4 b h n d) := by
  rw [← rk_x]
  unfold lx
  pointwise [val_main_v108]
theorem rkc (j : Fin 256) (d : Fin 192) : val_main_v109 (F := Ideal) x0 x1 x2 x3 x4 x5 x6 x7 (ix4 b h j d)
    = (∑ n : Fin 256, val_main_v82 (F := Ideal) x1 x3 x5 x7 (ix4 b h n j) * x1 (ix4 b h n d))
      + ∑ n : Fin 2048, val_main_v101 (F := Ideal) x0 x2 x3 x4 x5 x6 (ix4 b h n (cx j)) * x0 (ix4 b h n d) := by
  rw [← rk_x, ← rk_c]
  unfold cx
  pointwise [val_main_v109, val_main_v107]
theorem rvl (j : Fin 2048) (d : Fin 128) : val_main_v105 (F := Ideal) x0 x2 x3 x6 (ix4 b h j d)
    = ∑ n : Fin 2048, x6 (ix3 b n (cv h d)) * val_main_v27 (F := Ideal) x0 x2 x3 (ix4 b h n (lx j)) := by
  rw [← rv_x]
  unfold lx
  pointwise [val_main_v105]
theorem rvc (j : Fin 256) (d : Fin 128) : val_main_v106 (F := Ideal) x0 x1 x2 x3 x6 x7 (ix4 b h j d)
    = (∑ n : Fin 256, x7 (ix3 b n (cv h d)) * val_main_v59 (F := Ideal) x1 x3 (ix4 b h n j))
      + ∑ n : Fin 2048, x6 (ix3 b n (cv h d)) * val_main_v27 (F := Ideal) x0 x2 x3 (ix4 b h n (cx j)) := by
  rw [← rv_x, ← rv_c]
  unfold cx
  pointwise [val_main_v106, val_main_v104]

/-! The five results. -/
theorem res_q : val_main_v116 (F := Ideal) x0 x1 x2 x3 x4 x5 x6 x7 = wide (packX (val_main_v103 (F := Ideal) x0 x2 x3 x4 x5 x6)) (packC (val_main_v84 (F := Ideal) x1 x3 x5 x7)) := rfl
theorem res_kl : val_main_v119 (F := Ideal) x0 x2 x3 x4 x5 x6 = packX (val_main_v108 (F := Ideal) x0 x2 x3 x4 x5 x6) := rfl
theorem res_kc : val_main_v122 (F := Ideal) x0 x1 x2 x3 x4 x5 x6 x7 = packC (val_main_v109 (F := Ideal) x0 x1 x2 x3 x4 x5 x6 x7) := rfl
theorem res_vl : val_main_v125 (F := Ideal) x0 x2 x3 x6 = valX (val_main_v105 (F := Ideal) x0 x2 x3 x6) := rfl
theorem res_vc : val_main_v128 (F := Ideal) x0 x1 x2 x3 x6 x7 = valC (val_main_v106 (F := Ideal) x0 x1 x2 x3 x6 x7) := rfl
end
end Cert.KAttnIdeal.Rows
-- ==== Proof.AttnSum.lean ====
module

public import proofs.«01_k».proof.Proof.AttnRef

/-! The rows of the kernel's attention gradient against the reference's, and the five results, on real arguments. -/

@[expose] public section
set_option maxRecDepth 16384
noncomputable section
open Idealize.ShloMosaic Idealize.ShloMosaic.TcCoe Idealize.SL.Sem
namespace Cert.KAttnIdeal.Rows
open Cert.KAttnIdeal Cert.RAttnIdeal.Read Cert.Reals Cert.Attn

/-! Padded lanes. -/
theorem padF_in (f : Fin 192 → EReal) (d : Fin 192) : padF f (Fin.castAdd 64 d) = f d := dif_pos d.isLt
theorem padF_out (f : Fin 192 → EReal) (d : Fin 64) : padF f (Fin.natAdd 192 d) = 0 := dif_neg (by show ¬192 + d.val < 192; omega)
/-- The padding lanes add nothing to a product. -/
theorem sum_pad (f g : Fin 192 → EReal) : ∑ d : Fin 256, padF f d * padF g d = ∑ d : Fin 192, f d * g d := by
  refine (Fin.sum_univ_add (a := 192) (b := 64) _).trans ?_
  have h1 : (∑ d : Fin 192, padF f (Fin.castAdd 64 d) * padF g (Fin.castAdd 64 d)) = ∑ d : Fin 192, f d * g d :=
    Finset.sum_congr rfl fun d _ => by rw [padF_in, padF_in]
  have h2 : (∑ d : Fin 64, padF f (Fin.natAdd 192 d) * padF g (Fin.natAdd 192 d)) = 0 :=
    Finset.sum_eq_zero fun d _ => by rw [padF_out, zero_mul]
  exact (congrArg₂ (· + ·) h1 h2).trans (add_zero _)
theorem padF_sum {n : ℕ} (P : Fin n → EReal) (f : Fin n → Fin 192 → EReal) (d : Fin 256) :
    padF (fun e => ∑ k, P k * f k e) d = ∑ k, P k * padF (f k) d := by
  unfold padF
  by_cases h : d.val < 192
  · simp only [dif_pos h]
  · simp only [dif_neg h, mul_zero, Finset.sum_const_zero]
theorem padF_add (f g : Fin 192 → EReal) (d : Fin 256) : padF (fun e => f e + g e) d = padF f d + padF g d := by
  unfold padF
  by_cases h : d.val < 192
  · simp only [dif_pos h]
  · simp only [dif_neg h, add_zero]

/-- The cotangent against the output is the probabilities' cotangents against the probabilities. -/
theorem dot_swap {n l : ℕ} (P D : Fin n → ℝ) (g : Fin l → EReal) (v : Fin n → Fin l → EReal) (hg : ∀ d, IsR (g d)) (hv : ∀ k d, IsR (v k d))
    (hD : ∀ k, ∑ d, g d * v k d = (D k : EReal)) : ∑ d, g d * ∑ k, (P k : EReal) * v k d = ((∑ k, P k * D k : ℝ) : EReal) := by
  choose g' hg' using hg
  choose v' hv' using hv
  have e : ∀ k, D k = ∑ d, g' d * v' k d := fun k => by
    have h := hD k
    simp only [hg', hv', ← EReal.coe_mul, ← coe_sum] at h
    exact (EReal.coe_injective h).symm
  simp only [hg', hv', ← EReal.coe_mul, ← coe_sum]
  refine congrArg _ ?_
  simp only [e, Finset.mul_sum]
  rw [Finset.sum_comm]
  exact Finset.sum_congr rfl fun k _ => Finset.sum_congr rfl fun d _ => by ring

/-! Rows, lanes and keys by number. -/
theorem lt_tile (i : Fin 8) : i.val < 9 := by omega
theorem gr_low (b : Fin 2) (i : Fin 8) (r : Fin 256) (h) : gr b (Fin.castSucc i) r = rx b ⟨i.val * 256 + r.val, h⟩ := by
  apply Fin.ext
  show (if i.val < 8 then b.val * 8 + i.val else 16 + b.val) * 256 + r.val = b.val * 2048 + (i.val * 256 + r.val)
  rw [if_pos i.isLt]
  omega
theorem gr_high (b : Fin 2) (r : Fin 256) : gr b (Fin.last 8) r = rc b r := by
  apply Fin.ext
  show (if 8 < 8 then b.val * 8 + 8 else 16 + b.val) * 256 + r.val = 4096 + (b.val * 256 + r.val)
  rw [if_neg (lt_irrefl 8)]
  omega
/-- A sequence's rows, by blocks and by streams. -/
theorem sum_rows (f : Fin 4608 → EReal) (b : Fin 2) : ∑ i : Fin 9, ∑ r : Fin 256, f (gr b i r) = ∑ n : Fin 2048, f (rx b n) + ∑ n : Fin 256, f (rc b n) := by
  rw [Fin.sum_univ_castSucc, Finset.sum_congr rfl fun r _ => congrArg f (gr_high b r)]
  refine congrArg (· + _) ?_
  refine Eq.trans ?_ (Fin.sum_univ_tiles 8 256 rfl fun n : Fin 2048 => f (rx b n)).symm
  exact Finset.sum_congr rfl fun i _ => Finset.sum_congr rfl fun r _ => congrArg f (gr_low b i r _)
theorem row_cases (R : Fin 4608) : (∃ b n, R = rx b n) ∨ ∃ b n, R = rc b n := by
  by_cases h : R.val < 4096
  · refine Or.inl ⟨⟨R.val / 2048, by omega⟩, ⟨R.val % 2048, by omega⟩, Fin.ext ?_⟩
    show R.val = R.val / 2048 * 2048 + R.val % 2048
    omega
  · refine Or.inr ⟨⟨(R.val - 4096) / 256, by omega⟩, ⟨(R.val - 4096) % 256, by omega⟩, Fin.ext ?_⟩
    show R.val = 4096 + ((R.val - 4096) / 256 * 256 + (R.val - 4096) % 256)
    omega
theorem fx_cases (R : Fin 4096) : ∃ b n, R = fx b n := by
  refine ⟨⟨R.val / 2048, by omega⟩, ⟨R.val % 2048, by omega⟩, Fin.ext ?_⟩
  show R.val = R.val / 2048 * 2048 + R.val % 2048
  omega
theorem fc_cases (R : Fin 512) : ∃ b n, R = fc b n := by
  refine ⟨⟨R.val / 256, by omega⟩, ⟨R.val % 256, by omega⟩, Fin.ext ?_⟩
  show R.val = R.val / 256 * 256 + R.val % 256
  omega
theorem cq_cases (R : Fin 2048) : ∃ h d, R = cq h d := by
  refine ⟨⟨R.val / 256, by omega⟩, ⟨R.val % 256, by omega⟩, Fin.ext ?_⟩
  show R.val = R.val / 256 * 256 + R.val % 256
  omega
theorem cv_cases (R : Fin 1024) : ∃ h d, R = cv h d := by
  refine ⟨⟨R.val / 128, by omega⟩, ⟨R.val % 128, by omega⟩, Fin.ext ?_⟩
  show R.val = R.val / 128 * 128 + R.val % 128
  omega
theorem key_cases (k : Fin 2304) : (∃ j, k = cx j) ∨ ∃ j, k = lx j := by
  by_cases h : k.val < 256
  · exact Or.inl ⟨⟨k.val, h⟩, rfl⟩
  · refine Or.inr ⟨⟨k.val - 256, by omega⟩, Fin.ext ?_⟩
    show k.val = 256 + (k.val - 256)
    omega
theorem rx_lt (b : Fin 2) (n : Fin 2048) : (rx b n).val < 4096 := by show b.val * 2048 + n.val < 4096; omega
theorem rc_ge (b : Fin 2) (n : Fin 256) : ¬(rc b n).val < 4096 := by show ¬4096 + (b.val * 256 + n.val) < 4096; omega
theorem seq_rx (b : Fin 2) (n : Fin 2048) : Arrs.seq (rx b n) = b := by
  apply Fin.ext
  show (if (rx b n).val < 4096 then (rx b n).val / 2048 else ((rx b n).val - 4096) / 256) = b.val
  rw [if_pos (rx_lt b n)]
  show (b.val * 2048 + n.val) / 2048 = b.val
  omega
theorem seq_rc (b : Fin 2) (n : Fin 256) : Arrs.seq (rc b n) = b := by
  apply Fin.ext
  show (if (rc b n).val < 4096 then (rc b n).val / 2048 else ((rc b n).val - 4096) / 256) = b.val
  rw [if_neg (rc_ge b n)]
  show (4096 + (b.val * 256 + n.val) - 4096) / 256 = b.val
  omega

section
variable (X : Arrs) (b : Fin 2) (h : Fin 8)
theorem outQ_at (R : Fin 4608) (d : Fin 256) : X.outQ (ix2 R (cq h d)) = X.dq R h d :=
  app3 X.dq rfl (show (h.val * 256 + d.val) / 256 = h.val by omega) (show (h.val * 256 + d.val) % 256 = d.val by omega)
theorem outKL_at (j : Fin 2048) (d : Fin 256) : X.outKL (ix2 (fx b j) (cq h d)) = X.dkl b h j d :=
  app4 X.dkl (show (b.val * 2048 + j.val) / 2048 = b.val by omega) (show (h.val * 256 + d.val) / 256 = h.val by omega)
    (show (b.val * 2048 + j.val) % 2048 = j.val by omega) (show (h.val * 256 + d.val) % 256 = d.val by omega)
theorem outKC_at (j : Fin 256) (d : Fin 256) : X.outKC (ix2 (fc b j) (cq h d)) = X.dkc b h j d :=
  app4 X.dkc (show (b.val * 256 + j.val) / 256 = b.val by omega) (show (h.val * 256 + d.val) / 256 = h.val by omega)
    (show (b.val * 256 + j.val) % 256 = j.val by omega) (show (h.val * 256 + d.val) % 256 = d.val by omega)
theorem outVL_at (j : Fin 2048) (d : Fin 128) : X.outVL (ix2 (fx b j) (cv h d)) = X.dvl b h j d :=
  app4 X.dvl (show (b.val * 2048 + j.val) / 2048 = b.val by omega) (show (h.val * 128 + d.val) / 128 = h.val by omega)
    (show (b.val * 2048 + j.val) % 2048 = j.val by omega) (show (h.val * 128 + d.val) % 128 = d.val by omega)
theorem outVC_at (j : Fin 256) (d : Fin 128) : X.outVC (ix2 (fc b j) (cv h d)) = X.dvc b h j d :=
  app4 X.dvc (show (b.val * 256 + j.val) / 256 = b.val by omega) (show (h.val * 128 + d.val) / 128 = h.val by omega)
    (show (b.val * 256 + j.val) % 256 = j.val by omega) (show (h.val * 128 + d.val) % 128 = d.val by omega)
end

section
variable (x0 : FVec Ideal S2x8x2048x192 .f32) (x1 : FVec Ideal S2x8x256x192 .f32) (x2 : FVec Ideal S2x8x2048x192 .f32) (x3 : FVec Ideal S2x8x256x192 .f32)
    (x4 : FVec Ideal S2x8x2048x128 .f32) (x5 : FVec Ideal S2x8x256x128 .f32) (x6 : FVec Ideal S2x2048x1024 .f32) (x7 : FVec Ideal S2x256x1024 .f32)

/-- Every argument is real. -/
structure RealArgs : Prop where
  h0 : ∀ j, IsR (x0 j)
  h1 : ∀ j, IsR (x1 j)
  h2 : ∀ j, IsR (x2 j)
  h3 : ∀ j, IsR (x3 j)
  h4 : ∀ j, IsR (x4 j)
  h5 : ∀ j, IsR (x5 j)
  h6 : ∀ j, IsR (x6 j)
  h7 : ∀ j, IsR (x7 j)

variable (b : Fin 2) (h : Fin 8)
theorem atQ_x (n : Fin 2048) (d : Fin 256) : (ofArgs x0 x1 x2 x3 x4 x5 x6 x7).Q (ix2 (rx b n) (cq h d)) = padF (fun e => x0 (ix4 b h n e)) d :=
  (wide_x _ _ b n (cq h d)).trans (packX_at x0 b n h d)
theorem atQ_c (n : Fin 256) (d : Fin 256) : (ofArgs x0 x1 x2 x3 x4 x5 x6 x7).Q (ix2 (rc b n) (cq h d)) = padF (fun e => x1 (ix4 b h n e)) d :=
  (wide_c _ _ b n (cq h d)).trans (packC_at x1 b n h d)
theorem atK_x (n : Fin 2048) (d : Fin 256) : (ofArgs x0 x1 x2 x3 x4 x5 x6 x7).K (ix2 (rx b n) (cq h d)) = padF (fun e => x2 (ix4 b h n e)) d :=
  (wide_x _ _ b n (cq h d)).trans (packX_at x2 b n h d)
theorem atK_c (n : Fin 256) (d : Fin 256) : (ofArgs x0 x1 x2 x3 x4 x5 x6 x7).K (ix2 (rc b n) (cq h d)) = padF (fun e => x3 (ix4 b h n e)) d :=
  (wide_c _ _ b n (cq h d)).trans (packC_at x3 b n h d)
theorem atW_x (n : Fin 2048) (d : Fin 128) : (ofArgs x0 x1 x2 x3 x4 x5 x6 x7).W (ix2 (rx b n) (cv h d)) = x4 (ix4 b h n d) :=
  (slim_x _ _ b n (cv h d)).trans (valX_at x4 b n h d)
theorem atW_c (n : Fin 256) (d : Fin 128) : (ofArgs x0 x1 x2 x3 x4 x5 x6 x7).W (ix2 (rc b n) (cv h d)) = x5 (ix4 b h n d) :=
  (slim_c _ _ b n (cv h d)).trans (valC_at x5 b n h d)
theorem atG_x (n : Fin 2048) (d : Fin 128) : (ofArgs x0 x1 x2 x3 x4 x5 x6 x7).G (ix2 (rx b n) (cv h d)) = x6 (ix3 b n (cv h d)) :=
  (slim_x _ _ b n (cv h d)).trans (tokX_at x6 b n (cv h d))
theorem atG_c (n : Fin 256) (d : Fin 128) : (ofArgs x0 x1 x2 x3 x4 x5 x6 x7).G (ix2 (rc b n) (cv h d)) = x7 (ix3 b n (cv h d)) :=
  (slim_c _ _ b n (cv h d)).trans (tokC_at x7 b n (cv h d))
theorem atO_x (n : Fin 2048) (d : Fin 128) : (ofArgs x0 x1 x2 x3 x4 x5 x6 x7).O (ix2 (rx b n) (cv h d)) = val_main_v33 (F := Ideal) x0 x2 x3 x4 x5 (ix3 b n (cv h d)) :=
  (slim_x _ _ b n (cv h d)).trans (tokX_at _ b n (cv h d))
theorem atO_c (n : Fin 256) (d : Fin 128) : (ofArgs x0 x1 x2 x3 x4 x5 x6 x7).O (ix2 (rc b n) (cv h d)) = val_main_v65 (F := Ideal) x1 x3 x5 (ix3 b n (cv h d)) :=
  (slim_c _ _ b n (cv h d)).trans (tokC_at _ b n (cv h d))

/-! The latent queries' rows. -/
section
variable (n : Fin 2048)
theorem sl_x (j : Fin 2048) : ((ofArgs x0 x1 x2 x3 x4 x5 x6 x7).row b h (rx b n)).sl j = val_main_v2 (F := Ideal) x0 x2 x3 (ix4 b h n (lx j)) := by
  show (∑ d : Fin 256, (ofArgs x0 x1 x2 x3 x4 x5 x6 x7).Q (ix2 (rx b n) (cq h d)) * (ofArgs x0 x1 x2 x3 x4 x5 x6 x7).K (ix2 (rx b j) (cq h d))) + (if (rx b n).val < 4096 then 0 else ⊥) = _
  rw [if_pos (rx_lt b n), add_zero, rs_x, Finset.sum_congr rfl fun d _ => by rw [atQ_x, atK_x], sum_pad]
  exact Finset.sum_congr rfl fun d _ => by rw [keys_l]
theorem sc_x (j : Fin 256) : ((ofArgs x0 x1 x2 x3 x4 x5 x6 x7).row b h (rx b n)).sc j = val_main_v2 (F := Ideal) x0 x2 x3 (ix4 b h n (cx j)) := by
  show (∑ d : Fin 256, (ofArgs x0 x1 x2 x3 x4 x5 x6 x7).Q (ix2 (rx b n) (cq h d)) * (ofArgs x0 x1 x2 x3 x4 x5 x6 x7).K (ix2 (rc b j) (cq h d))) = _
  rw [rs_x, Finset.sum_congr rfl fun d _ => by rw [atQ_x, atK_c], sum_pad]
  exact Finset.sum_congr rfl fun d _ => by rw [keys_c]
theorem vl_x (j : Fin 2048) : (∑ d : Fin 128, ((ofArgs x0 x1 x2 x3 x4 x5 x6 x7).row b h (rx b n)).g d * ((ofArgs x0 x1 x2 x3 x4 x5 x6 x7).row b h (rx b n)).vl j d) = val_main_v89 (F := Ideal) x4 x5 x6 (ix4 b h n (lx j)) := by
  show (∑ d : Fin 128, (ofArgs x0 x1 x2 x3 x4 x5 x6 x7).G (ix2 (rx b n) (cv h d)) * (ofArgs x0 x1 x2 x3 x4 x5 x6 x7).W (ix2 (rx b j) (cv h d))) = _
  rw [rd_x]
  exact Finset.sum_congr rfl fun d _ => by rw [atG_x, atW_x, vals_l]
theorem vc_x (j : Fin 256) : (∑ d : Fin 128, ((ofArgs x0 x1 x2 x3 x4 x5 x6 x7).row b h (rx b n)).g d * ((ofArgs x0 x1 x2 x3 x4 x5 x6 x7).row b h (rx b n)).vc j d) = val_main_v89 (F := Ideal) x4 x5 x6 (ix4 b h n (cx j)) := by
  show (∑ d : Fin 128, (ofArgs x0 x1 x2 x3 x4 x5 x6 x7).G (ix2 (rx b n) (cv h d)) * (ofArgs x0 x1 x2 x3 x4 x5 x6 x7).W (ix2 (rc b j) (cv h d))) = _
  rw [rd_x]
  exact Finset.sum_congr rfl fun d _ => by rw [atG_x, atW_c, vals_c]
theorem dot_x : ((ofArgs x0 x1 x2 x3 x4 x5 x6 x7).row b h (rx b n)).dot = ∑ d : Fin 128, x6 (ix3 b n (cv h d)) * ∑ k : Fin 2304, val_main_v27 (F := Ideal) x0 x2 x3 (ix4 b h n k) * val_main_v1 (F := Ideal) x4 x5 (ix4 b h k d) := by
  show (∑ d : Fin 128, (ofArgs x0 x1 x2 x3 x4 x5 x6 x7).G (ix2 (rx b n) (cv h d)) * (ofArgs x0 x1 x2 x3 x4 x5 x6 x7).O (ix2 (rx b n) (cv h d))) = _
  exact Finset.sum_congr rfl fun d _ => by rw [atG_x, atO_x, ro_x]
/-- A latent query's row is the reference's. -/
theorem row_x (hr : RealArgs x0 x1 x2 x3 x4 x5 x6 x7) : (∀ j, ((ofArgs x0 x1 x2 x3 x4 x5 x6 x7).row b h (rx b n)).dl j = val_main_v101 (F := Ideal) x0 x2 x3 x4 x5 x6 (ix4 b h n (lx j))) ∧ (∀ j, ((ofArgs x0 x1 x2 x3 x4 x5 x6 x7).row b h (rx b n)).dc j = val_main_v101 (F := Ideal) x0 x2 x3 x4 x5 x6 (ix4 b h n (cx j)))
    ∧ (∀ j, ((ofArgs x0 x1 x2 x3 x4 x5 x6 x7).row b h (rx b n)).pl j = val_main_v27 (F := Ideal) x0 x2 x3 (ix4 b h n (lx j))) ∧ ∀ j, ((ofArgs x0 x1 x2 x3 x4 x5 x6 x7).row b h (rx b n)).pc j = val_main_v27 (F := Ideal) x0 x2 x3 (ix4 b h n (cx j)) := by
  have rk : ∀ k d, IsR (val_main_v0 (F := Ideal) x2 x3 (ix4 b h k d)) := fun k d => by
    rcases key_cases k with ⟨j, rfl⟩ | ⟨j, rfl⟩
    · rw [keys_c]; exact hr.h3 _
    · rw [keys_l]; exact hr.h2 _
  have rv : ∀ k d, IsR (val_main_v1 (F := Ideal) x4 x5 (ix4 b h k d)) := fun k d => by
    rcases key_cases k with ⟨j, rfl⟩ | ⟨j, rfl⟩
    · rw [vals_c]; exact hr.h5 _
    · rw [vals_l]; exact hr.h4 _
  have hS : ∀ k, IsR (val_main_v2 (F := Ideal) x0 x2 x3 (ix4 b h n k)) := fun k => by
    rw [rs_x]; exact isR_sum _ _ fun d _ => isR_mul (hr.h0 _) (rk k d)
  have hD : ∀ k, IsR (val_main_v89 (F := Ideal) x4 x5 x6 (ix4 b h n k)) := fun k => by
    rw [rd_x]; exact isR_sum _ _ fun d _ => isR_mul (hr.h6 _) (rv k d)
  choose S hS using hS
  choose D hD using hD
  have hE : ∀ k, val_main_v23 (F := Ideal) x0 x2 x3 (ix4 b h n k) = Ideal.exp ((S k : EReal) - rtop fun k => (S k : EReal)) := fun k => by
    rw [re_x]; simp only [hS]
  have hZ : val_main_v25 (F := Ideal) x0 x2 x3 (ix4 b h n 0) = ∑ k, Ideal.exp ((S k : EReal) - rtop fun k => (S k : EReal)) := by
    rw [rz_x]; exact Finset.sum_congr rfl fun k _ => hE k
  have hP : ∀ k, val_main_v27 (F := Ideal) x0 x2 x3 (ix4 b h n k) = (soft S k : EReal) := fun k => by
    rw [rp_x, hE, hZ]; exact plain_soft S k
  have hG : ∀ k, val_main_v101 (F := Ideal) x0 x2 x3 x4 x5 x6 (ix4 b h n k) = (dsoft S D k : EReal) := fun k => by
    rw [rg_x, hZ]; simp only [hE, hD]; exact plain_grad S D k
  have hl : ∀ j, ((ofArgs x0 x1 x2 x3 x4 x5 x6 x7).row b h (rx b n)).sl j = (S (lx j) : EReal) := fun j => by rw [sl_x, hS]
  have hc : ∀ j, ((ofArgs x0 x1 x2 x3 x4 x5 x6 x7).row b h (rx b n)).sc j = (S (cx j) : EReal) := fun j => by rw [sc_x, hS]
  have hdot : ((ofArgs x0 x1 x2 x3 x4 x5 x6 x7).row b h (rx b n)).dot = ((∑ k, soft S k * D k : ℝ) : EReal) := by
    rw [dot_x]
    simp only [hP]
    exact dot_swap (soft S) D _ _ (fun d => hr.h6 _) rv fun k => by rw [← hD, rd_x]
  obtain ⟨dl, dc⟩ := grad_l _ S D hl hc hdot (fun j => by rw [vl_x, hD]) (fun j => by rw [vc_x, hD])
  obtain ⟨pl, pc⟩ := prob_l _ S hl hc
  exact ⟨fun j => (dl j).trans (hG _).symm, fun j => (dc j).trans (hG _).symm, fun j => (pl j).trans (hP _).symm, fun j => (pc j).trans (hP _).symm⟩
end

/-! The context's queries' rows. -/
section
variable (n : Fin 256)
theorem sl_c (j : Fin 2048) : ((ofArgs x0 x1 x2 x3 x4 x5 x6 x7).row b h (rc b n)).sl j = ⊥ := by
  show (∑ d : Fin 256, (ofArgs x0 x1 x2 x3 x4 x5 x6 x7).Q (ix2 (rc b n) (cq h d)) * (ofArgs x0 x1 x2 x3 x4 x5 x6 x7).K (ix2 (rx b j) (cq h d))) + (if (rc b n).val < 4096 then 0 else ⊥) = _
  rw [if_neg (rc_ge b n), EReal.add_bot]
theorem sc_c (j : Fin 256) : ((ofArgs x0 x1 x2 x3 x4 x5 x6 x7).row b h (rc b n)).sc j = val_main_v34 (F := Ideal) x1 x3 (ix4 b h n j) := by
  show (∑ d : Fin 256, (ofArgs x0 x1 x2 x3 x4 x5 x6 x7).Q (ix2 (rc b n) (cq h d)) * (ofArgs x0 x1 x2 x3 x4 x5 x6 x7).K (ix2 (rc b j) (cq h d))) = _
  rw [rs_c, Finset.sum_congr rfl fun d _ => by rw [atQ_c, atK_c], sum_pad]
theorem vc_c (j : Fin 256) : (∑ d : Fin 128, ((ofArgs x0 x1 x2 x3 x4 x5 x6 x7).row b h (rc b n)).g d * ((ofArgs x0 x1 x2 x3 x4 x5 x6 x7).row b h (rc b n)).vc j d) = val_main_v70 (F := Ideal) x5 x7 (ix4 b h n j) := by
  show (∑ d : Fin 128, (ofArgs x0 x1 x2 x3 x4 x5 x6 x7).G (ix2 (rc b n) (cv h d)) * (ofArgs x0 x1 x2 x3 x4 x5 x6 x7).W (ix2 (rc b j) (cv h d))) = _
  rw [rd_c]
  exact Finset.sum_congr rfl fun d _ => by rw [atG_c, atW_c]
theorem dot_c : ((ofArgs x0 x1 x2 x3 x4 x5 x6 x7).row b h (rc b n)).dot = ∑ d : Fin 128, x7 (ix3 b n (cv h d)) * ∑ k : Fin 256, val_main_v59 (F := Ideal) x1 x3 (ix4 b h n k) * x5 (ix4 b h k d) := by
  show (∑ d : Fin 128, (ofArgs x0 x1 x2 x3 x4 x5 x6 x7).G (ix2 (rc b n) (cv h d)) * (ofArgs x0 x1 x2 x3 x4 x5 x6 x7).O (ix2 (rc b n) (cv h d))) = _
  exact Finset.sum_congr rfl fun d _ => by rw [atG_c, atO_c, ro_c]
/-- A context query's row is the reference's: the latent keys have no part in it. -/
theorem row_c (hr : RealArgs x0 x1 x2 x3 x4 x5 x6 x7) : (∀ j, ((ofArgs x0 x1 x2 x3 x4 x5 x6 x7).row b h (rc b n)).dl j = 0) ∧ (∀ j, ((ofArgs x0 x1 x2 x3 x4 x5 x6 x7).row b h (rc b n)).dc j = val_main_v82 (F := Ideal) x1 x3 x5 x7 (ix4 b h n j))
    ∧ (∀ j, ((ofArgs x0 x1 x2 x3 x4 x5 x6 x7).row b h (rc b n)).pl j = 0) ∧ ∀ j, ((ofArgs x0 x1 x2 x3 x4 x5 x6 x7).row b h (rc b n)).pc j = val_main_v59 (F := Ideal) x1 x3 (ix4 b h n j) := by
  have hS : ∀ k, IsR (val_main_v34 (F := Ideal) x1 x3 (ix4 b h n k)) := fun k => by
    rw [rs_c]; exact isR_sum _ _ fun d _ => isR_mul (hr.h1 _) (hr.h3 _)
  have hD : ∀ k, IsR (val_main_v70 (F := Ideal) x5 x7 (ix4 b h n k)) := fun k => by
    rw [rd_c]; exact isR_sum _ _ fun d _ => isR_mul (hr.h7 _) (hr.h5 _)
  choose S hS using hS
  choose D hD using hD
  have hE : ∀ k, val_main_v55 (F := Ideal) x1 x3 (ix4 b h n k) = Ideal.exp ((S k : EReal) - rtop fun k => (S k : EReal)) := fun k => by
    rw [re_c]; simp only [hS]
  have hZ : val_main_v57 (F := Ideal) x1 x3 (ix4 b h n 0) = ∑ k, Ideal.exp ((S k : EReal) - rtop fun k => (S k : EReal)) := by
    rw [rz_c]; exact Finset.sum_congr rfl fun k _ => hE k
  have hP : ∀ k, val_main_v59 (F := Ideal) x1 x3 (ix4 b h n k) = (soft S k : EReal) := fun k => by
    rw [rp_c, hE, hZ]; exact plain_soft S k
  have hG : ∀ k, val_main_v82 (F := Ideal) x1 x3 x5 x7 (ix4 b h n k) = (dsoft S D k : EReal) := fun k => by
    rw [rg_c, hZ]; simp only [hE, hD]; exact plain_grad S D k
  have hl : ∀ j, ((ofArgs x0 x1 x2 x3 x4 x5 x6 x7).row b h (rc b n)).sl j = ⊥ := fun j => by rw [sl_c]
  have hc : ∀ j, ((ofArgs x0 x1 x2 x3 x4 x5 x6 x7).row b h (rc b n)).sc j = (S j : EReal) := fun j => by rw [sc_c, hS]
  have hdot : ((ofArgs x0 x1 x2 x3 x4 x5 x6 x7).row b h (rc b n)).dot = ((∑ k, soft S k * D k : ℝ) : EReal) := by
    rw [dot_c]
    simp only [hP]
    exact dot_swap (soft S) D _ _ (fun d => hr.h7 _) (fun k d => hr.h5 _) fun k => by rw [← hD, rd_c]
  obtain ⟨dl, dc⟩ := grad_c _ S D hl hc hdot (fun j => by rw [vc_c, hD])
  obtain ⟨pl, pc⟩ := prob_c _ S hl hc
  exact ⟨dl, fun j => (dc j).trans (hG _).symm, pl, fun j => (pc j).trans (hP _).symm⟩
end

/-! The five results. -/
variable (hr : RealArgs x0 x1 x2 x3 x4 x5 x6 x7)
include hr
theorem q_x (n : Fin 2048) (d : Fin 256) : padF (fun e => val_main_v103 (F := Ideal) x0 x2 x3 x4 x5 x6 (ix4 b h n e)) d = (ofArgs x0 x1 x2 x3 x4 x5 x6 x7).dq (rx b n) h d := by
  obtain ⟨dl, dc, -, -⟩ := row_x x0 x1 x2 x3 x4 x5 x6 x7 b h n hr
  unfold Arrs.dq
  rw [seq_rx]
  show _ = (∑ j : Fin 2048, ((ofArgs x0 x1 x2 x3 x4 x5 x6 x7).row b h (rx b n)).dl j * (ofArgs x0 x1 x2 x3 x4 x5 x6 x7).K (ix2 (rx b j) (cq h d))) + ∑ j : Fin 256, ((ofArgs x0 x1 x2 x3 x4 x5 x6 x7).row b h (rx b n)).dc j * (ofArgs x0 x1 x2 x3 x4 x5 x6 x7).K (ix2 (rc b j) (cq h d))
  rw [show (fun e => val_main_v103 (F := Ideal) x0 x2 x3 x4 x5 x6 (ix4 b h n e)) = fun e => ∑ k : Fin 2304, val_main_v101 (F := Ideal) x0 x2 x3 x4 x5 x6 (ix4 b h n k) * val_main_v0 (F := Ideal) x2 x3 (ix4 b h k e) from funext fun e => rq_x _ _ _ _ _ _ _ _ _ _,
    padF_sum, sum_keys, add_comm]
  refine congrArg₂ (· + ·) (Finset.sum_congr rfl fun j _ => ?_) (Finset.sum_congr rfl fun j _ => ?_)
  · rw [dl, atK_x]; simp only [keys_l]
  · rw [dc, atK_c]; simp only [keys_c]
theorem q_c (n : Fin 256) (d : Fin 256) : padF (fun e => val_main_v84 (F := Ideal) x1 x3 x5 x7 (ix4 b h n e)) d = (ofArgs x0 x1 x2 x3 x4 x5 x6 x7).dq (rc b n) h d := by
  obtain ⟨dl, dc, -, -⟩ := row_c x0 x1 x2 x3 x4 x5 x6 x7 b h n hr
  unfold Arrs.dq
  rw [seq_rc]
  show _ = (∑ j : Fin 2048, ((ofArgs x0 x1 x2 x3 x4 x5 x6 x7).row b h (rc b n)).dl j * (ofArgs x0 x1 x2 x3 x4 x5 x6 x7).K (ix2 (rx b j) (cq h d))) + ∑ j : Fin 256, ((ofArgs x0 x1 x2 x3 x4 x5 x6 x7).row b h (rc b n)).dc j * (ofArgs x0 x1 x2 x3 x4 x5 x6 x7).K (ix2 (rc b j) (cq h d))
  rw [show (fun e => val_main_v84 (F := Ideal) x1 x3 x5 x7 (ix4 b h n e)) = fun e => ∑ k : Fin 256, val_main_v82 (F := Ideal) x1 x3 x5 x7 (ix4 b h n k) * x3 (ix4 b h k e) from funext fun e => rq_c _ _ _ _ _ _ _ _,
    padF_sum, Finset.sum_eq_zero (f := fun j => ((ofArgs x0 x1 x2 x3 x4 x5 x6 x7).row b h (rc b n)).dl j * _) fun j _ => by rw [dl, zero_mul], zero_add]
  exact Finset.sum_congr rfl fun j _ => by rw [dc, atK_c]
theorem k_l (j : Fin 2048) (d : Fin 256) : padF (fun e => val_main_v108 (F := Ideal) x0 x2 x3 x4 x5 x6 (ix4 b h j e)) d = (ofArgs x0 x1 x2 x3 x4 x5 x6 x7).dkl b h j d := by
  refine Eq.trans ?_ (sum_rows (fun R => ((ofArgs x0 x1 x2 x3 x4 x5 x6 x7).row b h R).dl j * (ofArgs x0 x1 x2 x3 x4 x5 x6 x7).Q (ix2 R (cq h d))) b).symm
  rw [show (fun e => val_main_v108 (F := Ideal) x0 x2 x3 x4 x5 x6 (ix4 b h j e)) = fun e => ∑ n : Fin 2048, val_main_v101 (F := Ideal) x0 x2 x3 x4 x5 x6 (ix4 b h n (lx j)) * x0 (ix4 b h n e) from funext fun e => rkl _ _ _ _ _ _ _ _ _ _,
    padF_sum, Finset.sum_congr (f := fun n => ((ofArgs x0 x1 x2 x3 x4 x5 x6 x7).row b h (rc b n)).dl j * _) rfl fun n _ => by rw [(row_c x0 x1 x2 x3 x4 x5 x6 x7 b h n hr).1, zero_mul], Finset.sum_const_zero, add_zero]
  exact Finset.sum_congr rfl fun n _ => by rw [(row_x x0 x1 x2 x3 x4 x5 x6 x7 b h n hr).1, atQ_x]
theorem k_c (j : Fin 256) (d : Fin 256) : padF (fun e => val_main_v109 (F := Ideal) x0 x1 x2 x3 x4 x5 x6 x7 (ix4 b h j e)) d = (ofArgs x0 x1 x2 x3 x4 x5 x6 x7).dkc b h j d := by
  refine Eq.trans ?_ (sum_rows (fun R => ((ofArgs x0 x1 x2 x3 x4 x5 x6 x7).row b h R).dc j * (ofArgs x0 x1 x2 x3 x4 x5 x6 x7).Q (ix2 R (cq h d))) b).symm
  rw [show (fun e => val_main_v109 (F := Ideal) x0 x1 x2 x3 x4 x5 x6 x7 (ix4 b h j e)) = fun e => (∑ n : Fin 256, val_main_v82 (F := Ideal) x1 x3 x5 x7 (ix4 b h n j) * x1 (ix4 b h n e))
      + ∑ n : Fin 2048, val_main_v101 (F := Ideal) x0 x2 x3 x4 x5 x6 (ix4 b h n (cx j)) * x0 (ix4 b h n e) from funext fun e => rkc _ _ _ _ _ _ _ _ _ _ _ _,
    padF_add, padF_sum, padF_sum, add_comm]
  refine congrArg₂ (· + ·) (Finset.sum_congr rfl fun n _ => ?_) (Finset.sum_congr rfl fun n _ => ?_)
  · rw [(row_x x0 x1 x2 x3 x4 x5 x6 x7 b h n hr).2.1, atQ_x]
  · rw [(row_c x0 x1 x2 x3 x4 x5 x6 x7 b h n hr).2.1, atQ_c]
theorem v_l (j : Fin 2048) (d : Fin 128) : val_main_v105 (F := Ideal) x0 x2 x3 x6 (ix4 b h j d) = (ofArgs x0 x1 x2 x3 x4 x5 x6 x7).dvl b h j d := by
  refine Eq.trans ?_ (sum_rows (fun R => ((ofArgs x0 x1 x2 x3 x4 x5 x6 x7).row b h R).pl j * (ofArgs x0 x1 x2 x3 x4 x5 x6 x7).G (ix2 R (cv h d))) b).symm
  rw [rvl, Finset.sum_congr (f := fun n => ((ofArgs x0 x1 x2 x3 x4 x5 x6 x7).row b h (rc b n)).pl j * _) rfl fun n _ => by rw [(row_c x0 x1 x2 x3 x4 x5 x6 x7 b h n hr).2.2.1, zero_mul], Finset.sum_const_zero, add_zero]
  exact Finset.sum_congr rfl fun n _ => by rw [(row_x x0 x1 x2 x3 x4 x5 x6 x7 b h n hr).2.2.1, atG_x, mul_comm]
theorem v_c (j : Fin 256) (d : Fin 128) : val_main_v106 (F := Ideal) x0 x1 x2 x3 x6 x7 (ix4 b h j d) = (ofArgs x0 x1 x2 x3 x4 x5 x6 x7).dvc b h j d := by
  refine Eq.trans ?_ (sum_rows (fun R => ((ofArgs x0 x1 x2 x3 x4 x5 x6 x7).row b h R).pc j * (ofArgs x0 x1 x2 x3 x4 x5 x6 x7).G (ix2 R (cv h d))) b).symm
  rw [rvc, add_comm]
  refine congrArg₂ (· + ·) (Finset.sum_congr rfl fun n _ => ?_) (Finset.sum_congr rfl fun n _ => ?_)
  · rw [(row_x x0 x1 x2 x3 x4 x5 x6 x7 b h n hr).2.2.2, atG_x, mul_comm]
  · rw [(row_c x0 x1 x2 x3 x4 x5 x6 x7 b h n hr).2.2.2, atG_c, mul_comm]

omit b h in
theorem same_q : val_main_v116 (F := Ideal) x0 x1 x2 x3 x4 x5 x6 x7 = (ofArgs x0 x1 x2 x3 x4 x5 x6 x7).outQ := by
  funext j
  rw [eq_ix2 j]
  obtain ⟨h, d, e1⟩ := cq_cases (j 1)
  rw [res_q, e1]
  rcases row_cases (j 0) with ⟨b, n, e0⟩ | ⟨b, n, e0⟩
  · rw [e0, wide_x, packX_at, outQ_at]; exact q_x x0 x1 x2 x3 x4 x5 x6 x7 b h hr n d
  · rw [e0, wide_c, packC_at, outQ_at]; exact q_c x0 x1 x2 x3 x4 x5 x6 x7 b h hr n d
omit b h in
theorem same_kl : val_main_v119 (F := Ideal) x0 x2 x3 x4 x5 x6 = (ofArgs x0 x1 x2 x3 x4 x5 x6 x7).outKL := by
  funext j
  rw [eq_ix2 j]
  obtain ⟨h, d, e1⟩ := cq_cases (j 1)
  obtain ⟨b, n, e0⟩ := fx_cases (j 0)
  rw [res_kl, e0, e1, packX_at, outKL_at]; exact k_l x0 x1 x2 x3 x4 x5 x6 x7 b h hr n d
omit b h in
theorem same_kc : val_main_v122 (F := Ideal) x0 x1 x2 x3 x4 x5 x6 x7 = (ofArgs x0 x1 x2 x3 x4 x5 x6 x7).outKC := by
  funext j
  rw [eq_ix2 j]
  obtain ⟨h, d, e1⟩ := cq_cases (j 1)
  obtain ⟨b, n, e0⟩ := fc_cases (j 0)
  rw [res_kc, e0, e1, packC_at, outKC_at]; exact k_c x0 x1 x2 x3 x4 x5 x6 x7 b h hr n d
omit b h in
theorem same_vl : val_main_v125 (F := Ideal) x0 x2 x3 x6 = (ofArgs x0 x1 x2 x3 x4 x5 x6 x7).outVL := by
  funext j
  rw [eq_ix2 j]
  obtain ⟨h, d, e1⟩ := cv_cases (j 1)
  obtain ⟨b, n, e0⟩ := fx_cases (j 0)
  rw [res_vl, e0, e1, valX_at, outVL_at]; exact v_l x0 x1 x2 x3 x4 x5 x6 x7 b h hr n d
omit b h in
theorem same_vc : val_main_v128 (F := Ideal) x0 x1 x2 x3 x6 x7 = (ofArgs x0 x1 x2 x3 x4 x5 x6 x7).outVC := by
  funext j
  rw [eq_ix2 j]
  obtain ⟨h, d, e1⟩ := cv_cases (j 1)
  obtain ⟨b, n, e0⟩ := fc_cases (j 0)
  rw [res_vc, e0, e1, valC_at, outVC_at]; exact v_c x0 x1 x2 x3 x4 x5 x6 x7 b h hr n d
end
end Cert.KAttnIdeal.Rows
-- ==== Proof.Attn.lean ====
module

public import proofs.«01_k».proof.Proof.AttnSum
public import proofs.«01_k».proof.Proof.AttnFinal
public import proofs.«01_k».proof.Defs
public import Idealize.ShloMosaic.Lib.ReduceAll

/-! The attention gradient: all five results of the kernel are those of the reference. -/

@[expose] public section
set_option maxRecDepth 16384
noncomputable section
open Idealize.ShloMosaic Idealize.ShloMosaic.TcCoe Idealize.SL.Sem
open Idealize.ShloMosaic.Pipeline (Dat)
namespace Cert.KAttnIdeal.Rows
open Cert.KAttnIdeal Cert.RAttnIdeal.Read Cert.Reals Cert.Attn

/-- The idealized kernel differs from the kernel in its mask alone, which is minus infinity there. -/
theorem preserves : Cert.preserves_KAttn_KAttnIdeal :=
  IdealRules.named_const.statement Cert.KAttnIdeal.κ "mask" .f32 0xF149F2CA#32 ⊥ rfl

/-- What is below infinity in absolute value is real. -/
theorem isR_of_abs {x : EReal} (h : Ideal.cmp .olt (max x (-x)) (Ideal.ofBits .f32 0x7F800000#32) = 1#1) : IsR x := by
  rw [bits_top] at h
  refine isR_lt_top ?_
  by_contra hc
  simp [Ideal.cmp, hc] at h

section
variable (x0 : FVec Ideal S2x8x2048x192 .f32) (x1 : FVec Ideal S2x8x256x192 .f32) (x2 : FVec Ideal S2x8x2048x192 .f32) (x3 : FVec Ideal S2x8x256x192 .f32)
    (x4 : FVec Ideal S2x8x2048x128 .f32) (x5 : FVec Ideal S2x8x256x128 .f32) (x6 : FVec Ideal S2x2048x1024 .f32) (x7 : FVec Ideal S2x256x1024 .f32)

instance : Subsingleton (Cert.Pre_attn_finite.S_).Idx := ⟨fun a b => funext fun i => i.elim0⟩

/-- The precondition says that every argument is real. -/
theorem real_of_pre [Cert.Pre_attn_finite.Facts] (h : Cert.Pre_attn_finite.fn (F := Ideal) x0 x1 x2 x3 x4 x5 x6 x7 = fun _ => 1#1) : RealArgs x0 x1 x2 x3 x4 x5 x6 x7 := by
  have h := congrFun h (fun a => a.elim0)
  dsimp only [Cert.Pre_attn_finite.fn, Cert.Pre_attn_finite.fn_part1, Cert.Pre_attn_finite.fn_part2] at h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨fun j => isR_of_abs (Host.reduce_andi_all _ _ _ _ _ h0 j),
    fun j => isR_of_abs (Host.reduce_andi_all _ _ _ _ _ h1 j),
    fun j => isR_of_abs (Host.reduce_andi_all _ _ _ _ _ h2 j),
    fun j => isR_of_abs (Host.reduce_andi_all _ _ _ _ _ h3 j),
    fun j => isR_of_abs (Host.reduce_andi_all _ _ _ _ _ h4 j),
    fun j => isR_of_abs (Host.reduce_andi_all _ _ _ _ _ h5 j),
    fun j => isR_of_abs (Host.reduce_andi_all _ _ _ _ _ h6 j),
    fun j => isR_of_abs (Host.reduce_andi_all _ _ _ _ _ h7 j)⟩
end

set_option maxHeartbeats 2000000 in
/-- All five results of the kernel are those of the reference on real arguments. -/
theorem algebraic [Cert.Pre_attn_finite.Facts] : Cert.algebraic_KAttnIdeal_RAttnIdeal_pre_attn_finite := by
  intro m g m' g' hpre hagree
  refine ⟨fun c => (arrs m c).outQ, fun c => (arrs m c).outKL, fun c => (arrs m c).outKC, fun c => (arrs m c).outVL, fun c => (arrs m c).outVC, ?_, ?_⟩
  · exact θ_run_mono (θ_run_and (Cert.KAttnIdeal.Gen.run_main m g) (Cert.KAttnIdeal.Gen.unchanged m g)) fun r h c =>
      ⟨((h.1 c).1 7).trans (final7 m c), ((h.1 c).1 8).trans (final8 m c), ((h.1 c).1 9).trans (final9 m c), ((h.1 c).1 10).trans (final10 m c), ((h.1 c).1 11).trans (final11 m c), h.2 c⟩
  · refine θ_run_mono (Cert.RAttnIdeal.Value.run m' g') fun r h c => ⟨(h c).1.trans ?_, (h c).2.1.trans ?_, (h c).2.2.1.trans ?_, (h c).2.2.2.1.trans ?_, (h c).2.2.2.2.1.trans ?_, (h c).2.2.2.2.2⟩
    · refine (val_main_v116_eq m' c).trans ?_
      show val_main_v116 (m' (c.tc.loc Cert.RAttnIdeal.main_arg0)) (m' (c.tc.loc Cert.RAttnIdeal.main_arg1)) (m' (c.tc.loc Cert.RAttnIdeal.main_arg2)) (m' (c.tc.loc Cert.RAttnIdeal.main_arg3)) (m' (c.tc.loc Cert.RAttnIdeal.main_arg4)) (m' (c.tc.loc Cert.RAttnIdeal.main_arg5)) (m' (c.tc.loc Cert.RAttnIdeal.main_arg6)) (m' (c.tc.loc Cert.RAttnIdeal.main_arg7)) = (arrs m c).outQ
      rw [arrs_eq, (hagree c).1, (hagree c).2.1, (hagree c).2.2.1, (hagree c).2.2.2.1, (hagree c).2.2.2.2.1, (hagree c).2.2.2.2.2.1, (hagree c).2.2.2.2.2.2.1, (hagree c).2.2.2.2.2.2.2]
      exact same_q _ _ _ _ _ _ _ _ (real_of_pre _ _ _ _ _ _ _ _ (hpre c))
    · refine (val_main_v119_eq m' c).trans ?_
      show val_main_v119 (m' (c.tc.loc Cert.RAttnIdeal.main_arg0)) (m' (c.tc.loc Cert.RAttnIdeal.main_arg2)) (m' (c.tc.loc Cert.RAttnIdeal.main_arg3)) (m' (c.tc.loc Cert.RAttnIdeal.main_arg4)) (m' (c.tc.loc Cert.RAttnIdeal.main_arg5)) (m' (c.tc.loc Cert.RAttnIdeal.main_arg6)) = (arrs m c).outKL
      rw [arrs_eq, (hagree c).1, (hagree c).2.2.1, (hagree c).2.2.2.1, (hagree c).2.2.2.2.1, (hagree c).2.2.2.2.2.1, (hagree c).2.2.2.2.2.2.1]
      exact same_kl _ _ _ _ _ _ _ _ (real_of_pre _ _ _ _ _ _ _ _ (hpre c))
    · refine (val_main_v122_eq m' c).trans ?_
      show val_main_v122 (m' (c.tc.loc Cert.RAttnIdeal.main_arg0)) (m' (c.tc.loc Cert.RAttnIdeal.main_arg1)) (m' (c.tc.loc Cert.RAttnIdeal.main_arg2)) (m' (c.tc.loc Cert.RAttnIdeal.main_arg3)) (m' (c.tc.loc Cert.RAttnIdeal.main_arg4)) (m' (c.tc.loc Cert.RAttnIdeal.main_arg5)) (m' (c.tc.loc Cert.RAttnIdeal.main_arg6)) (m' (c.tc.loc Cert.RAttnIdeal.main_arg7)) = (arrs m c).outKC
      rw [arrs_eq, (hagree c).1, (hagree c).2.1, (hagree c).2.2.1, (hagree c).2.2.2.1, (hagree c).2.2.2.2.1, (hagree c).2.2.2.2.2.1, (hagree c).2.2.2.2.2.2.1, (hagree c).2.2.2.2.2.2.2]
      exact same_kc _ _ _ _ _ _ _ _ (real_of_pre _ _ _ _ _ _ _ _ (hpre c))
    · refine (val_main_v125_eq (m' (c.tc.loc Cert.RAttnIdeal.main_arg0)) (m' (c.tc.loc Cert.RAttnIdeal.main_arg2)) (m' (c.tc.loc Cert.RAttnIdeal.main_arg3)) (m' (c.tc.loc Cert.RAttnIdeal.main_arg6))).trans ?_
      show val_main_v125 (m' (c.tc.loc Cert.RAttnIdeal.main_arg0)) (m' (c.tc.loc Cert.RAttnIdeal.main_arg2)) (m' (c.tc.loc Cert.RAttnIdeal.main_arg3)) (m' (c.tc.loc Cert.RAttnIdeal.main_arg6)) = (arrs m c).outVL
      rw [arrs_eq, (hagree c).1, (hagree c).2.2.1, (hagree c).2.2.2.1, (hagree c).2.2.2.2.2.2.1]
      exact same_vl _ _ _ _ _ _ _ _ (real_of_pre _ _ _ _ _ _ _ _ (hpre c))
    · refine (val_main_v128_eq m' c).trans ?_
      show val_main_v128 (m' (c.tc.loc Cert.RAttnIdeal.main_arg0)) (m' (c.tc.loc Cert.RAttnIdeal.main_arg1)) (m' (c.tc.loc Cert.RAttnIdeal.main_arg2)) (m' (c.tc.loc Cert.RAttnIdeal.main_arg3)) (m' (c.tc.loc Cert.RAttnIdeal.main_arg6)) (m' (c.tc.loc Cert.RAttnIdeal.main_arg7)) = (arrs m c).outVC
      rw [arrs_eq, (hagree c).1, (hagree c).2.1, (hagree c).2.2.1, (hagree c).2.2.2.1, (hagree c).2.2.2.2.2.2.1, (hagree c).2.2.2.2.2.2.2]
      exact same_vc _ _ _ _ _ _ _ _ (real_of_pre _ _ _ _ _ _ _ _ (hpre c))
end Cert.KAttnIdeal.Rows
-- ==== Proof.AtfValue.lean ====
module

public import proofs.«01_k».proof.Proof.Gen.KAtfIdeal.Frame
public import proofs.«01_k».proof.Proof.AttnSum
public import Idealize.ShloMosaic.Lib.Pipeline.ValueKit
public import Idealize.ShloMosaic.Lib.Pipeline.ReadBack
public import Idealize.ShloMosaic.Lib.Claim

/-! What the attention's call writes back, as functions of the arrays it reads. -/

@[expose] public section
set_option maxRecDepth 16384
noncomputable section
open Idealize.ShloMosaic Idealize.ShloMosaic.TcCoe Idealize.SL.Sem
open Idealize.ShloMosaic.Pipeline (Dat)
namespace Cert.KAtfIdeal.Rows
open Cert.KAtfIdeal Cert.KAtfIdeal.Gen Cert.Attn Cert.Reals
open Cert.KAttnIdeal.Rows (rx rc cq cv gr lt_rx lt_rc lt_cq lt_cv bits_bot bits_one)

/-- The values weighed by the softmax of the scores, over the keys of both streams. -/
def mixL (sl : Fin 2048 → EReal) (sc : Fin 256 → EReal) (vl : Fin 2048 → EReal) (vc : Fin 256 → EReal) : EReal :=
  ((∑ j, Ideal.exp (sl j - max (Finset.univ.fold max ⊥ sl) (Finset.univ.fold max ⊥ sc)) * vl j)
    + ∑ j, Ideal.exp (sc j - max (Finset.univ.fold max ⊥ sl) (Finset.univ.fold max ⊥ sc)) * vc j)
  * Ideal.div 1 ((∑ j, Ideal.exp (sl j - max (Finset.univ.fold max ⊥ sl) (Finset.univ.fold max ⊥ sc)))
    + ∑ j, Ideal.exp (sc j - max (Finset.univ.fold max ⊥ sl) (Finset.univ.fold max ⊥ sc)))
/-- The same over the keys of the context alone. -/
def mixC (sc : Fin 256 → EReal) (vc : Fin 256 → EReal) : EReal :=
  (∑ j, Ideal.exp (sc j - Finset.univ.fold max ⊥ sc) * vc j) * Ideal.div 1 (∑ j, Ideal.exp (sc j - Finset.univ.fold max ⊥ sc))

/-- A real number that is not negative multiplies a sum term by term. -/
theorem sum_scale {n : ℕ} (f : Fin n → EReal) (i : ℝ) (hi : 0 ≤ i) (s : Finset (Fin n)) : (∑ k ∈ s, f k) * (i : EReal) = ∑ k ∈ s, f k * (i : EReal) := by
  classical
  induction s using Finset.induction_on with
  | empty => simp
  | insert a s ha ih =>
    rw [Finset.sum_insert ha, Finset.sum_insert ha, EReal.right_distrib_of_nonneg_of_ne_top (EReal.coe_nonneg.mpr hi) (EReal.coe_ne_top i), ih]
theorem inv_nonneg {n : ℕ} (E : Fin n → ℝ) : 0 ≤ 1 / ∑ k, Real.exp (E k) := div_nonneg zero_le_one (Finset.sum_nonneg fun k _ => (Real.exp_pos _).le)
theorem soft_mix {n : ℕ} (S : Fin n → ℝ) (t : ℝ) (v : Fin n → EReal) :
    (∑ k, ((Real.exp (S k - t) : ℝ) : EReal) * v k) * ((1 / ∑ k, Real.exp (S k - t) : ℝ) : EReal) = ∑ k, (soft S k : EReal) * v k := by
  rw [sum_scale _ _ (inv_nonneg fun k => S k - t)]
  refine Finset.sum_congr rfl fun k _ => ?_
  rw [mul_right_comm, ← EReal.coe_mul, soft_shift]
theorem mixL_eq (S : Fin 2304 → ℝ) (v : Fin 2304 → EReal) :
    mixL (fun j => S (lx j)) (fun j => S (cx j)) (fun j => v (lx j)) (fun j => v (cx j)) = ∑ k, (soft S k : EReal) * v k := by
  obtain ⟨t, ht⟩ := isR_max (isR_fold fun j => S (lx j)) (isR_fold fun j => S (cx j))
  unfold mixL
  simp only [ht, ← EReal.coe_sub, Ideal.exp_coe]
  rw [← coe_sum, ← coe_sum, ← EReal.coe_add, add_comm (∑ j, Real.exp (S (lx j) - t)), ← sum_keys fun k => Real.exp (S k - t),
    Ideal.div_coe (exp_pos_sum _), one_mul, add_comm, ← sum_keys fun k => ((Real.exp (S k - t) : ℝ) : EReal) * v k, soft_mix]
theorem mixC_eq (S : Fin 256 → ℝ) (v : Fin 256 → EReal) : mixC (fun j => S j) v = ∑ k, (soft S k : EReal) * v k := by
  obtain ⟨t, ht⟩ := isR_fold S
  unfold mixC
  simp only [ht, ← EReal.coe_sub, Ideal.exp_coe]
  rw [← coe_sum, Ideal.div_coe (exp_pos_sum _), one_mul, soft_mix]

section
variable (q : Vec Ideal S256x256 .bf16) (kl : Vec Ideal S2048x256 .bf16) (kc : Vec Ideal S256x256 .bf16)
    (vl : Vec Ideal S2048x128 .bf16) (vc : Vec Ideal S256x128 .bf16) (r : Fin 256) (d : Fin 128)
theorem pay1_at : k0_pay1 (F := Ideal) q kc vc (ix2 r d) = mixC (fun j => ∑ e : Fin 256, q (ix2 r e) * kc (ix2 j e)) (fun j => vc (ix2 j d)) := by
  pointwise [k0_pay1]
  rw [bits_bot]
  rfl
theorem pay2_at : k0_pay2 (F := Ideal) q kl kc vl vc (ix2 r d)
    = mixL (fun j => ∑ e : Fin 256, q (ix2 r e) * kl (ix2 j e)) (fun j => ∑ e : Fin 256, q (ix2 r e) * kc (ix2 j e)) (fun j => vl (ix2 j d)) (fun j => vc (ix2 j d)) := by
  pointwise [k0_pay2]
  rw [bits_bot]
  rfl
end
end Cert.KAtfIdeal.Rows
-- ==== Proof.AtfFinal.lean ====
module

public import proofs.«01_k».proof.Proof.AtfValue
public import Idealize.ShloMosaic.Lib.Pipeline.ValueKit
public import Idealize.ShloMosaic.Lib.Pipeline.ReadBack
public import Idealize.ShloMosaic.Lib.Claim

/-! The array the attention's call writes back. -/

@[expose] public section
set_option maxRecDepth 16384
noncomputable section
open Idealize.ShloMosaic Idealize.ShloMosaic.TcCoe Idealize.SL.Sem
open Idealize.ShloMosaic.Pipeline (Dat)
namespace Cert.KAtfIdeal.Rows
open Cert.KAtfIdeal Cert.KAtfIdeal.Gen Cert.Attn Cert.Reals
open Cert.KAttnIdeal.Rows (rx rc cq cv gr seq_gr app3)
open Cert.KAttnIdeal.Rows.Arrs (seq)

/-- The arrays the call reads. -/
structure Arrs where
  Q : FVec Ideal S4608x2048 .bf16
  K : FVec Ideal S4608x2048 .bf16
  W : FVec Ideal S4608x1024 .bf16

namespace Arrs
variable (X : Arrs)
/-- A row's score on a row of keys. -/
def score (h : Fin 8) (R S : Fin 4608) : EReal := ∑ e : Fin 256, X.Q (ix2 R (cq h e)) * X.K (ix2 S (cq h e))
/-- One lane of one row of the output, of a latent row and of a row of the context. -/
def oX (b : Fin 2) (h : Fin 8) (R : Fin 4608) (d : Fin 128) : EReal :=
  mixL (fun j => X.score h R (rx b j)) (fun j => X.score h R (rc b j)) (fun j => X.W (ix2 (rx b j) (cv h d))) (fun j => X.W (ix2 (rc b j) (cv h d)))
def oC (b : Fin 2) (h : Fin 8) (R : Fin 4608) (d : Fin 128) : EReal :=
  mixC (fun j => X.score h R (rc b j)) (fun j => X.W (ix2 (rc b j) (cv h d)))
def o (R : Fin 4608) (h : Fin 8) (d : Fin 128) : EReal := if R.val < 4096 then X.oX (seq R) h R d else X.oC (seq R) h R d
def out : FVec Ideal S4608x1024 .bf16 := fun j => X.o (j 0) ⟨(j 1).val / 128, by have : (j 1).val < 1024 := (j 1).isLt; omega⟩ ⟨(j 1).val % 128, by omega⟩
end Arrs

variable (m : (ℓ : Loc nD τ sig) → Buf (Elt Ideal) ℓ)

/-- The arrays the call reads. -/
def arrs (c : Dev nD) : Arrs where
  Q := V m c main_v7
  K := V m c main_v15
  W := V m c main_v23

theorem idx : ∀ t : Fin cfg0.N, win0_0.index t = ![if t.val % 9 < 8 then t.val / 72 * 8 + t.val % 9 else 16 + t.val / 72, t.val / 9 % 8]
    ∧ win0_1.index t = ![t.val / 72, t.val / 9 % 8] ∧ win0_2.index t = ![16 + t.val / 72, t.val / 9 % 8]
    ∧ win0_3.index t = ![t.val / 72, t.val / 9 % 8] ∧ win0_4.index t = ![16 + t.val / 72, t.val / 9 % 8]
    ∧ win0_5.index t = ![if t.val % 9 < 8 then t.val / 72 * 8 + t.val % 9 else 16 + t.val / 72, t.val / 9 % 8] ∧ t.val < 144 :=
  (by decide +kernel : ∀ t : Fin grid0.N, _)
theorem lt (t : Fin cfg0.N) : t.val < 144 := (idx t).2.2.2.2.2.2
/-- The sequence, the head and the block of rows of a point. -/
def pb (t : Fin cfg0.N) : Fin 2 := ⟨t.val / 72, by have := lt t; omega⟩
def ph (t : Fin cfg0.N) : Fin 8 := ⟨t.val / 9 % 8, by omega⟩
def pi (t : Fin cfg0.N) : Fin 9 := ⟨t.val % 9, by omega⟩

variable (c : Dev nD) (t : Fin cfg0.N)
theorem blk0 (a : Fin 256) (d : Fin 256) : iblk m c 0 t (ix2 a d) = (arrs m c).Q (ix2 (gr (pb t) (pi t) a) (cq (ph t) d)) := by
  unfold gr pb pi cq ph; simp only [arrs]; blk_ext [iblk, idx t]
theorem blk1 (a : Fin 2048) (d : Fin 256) : X0_1 m c t (ix2 a d) = (arrs m c).K (ix2 (rx (pb t) a) (cq (ph t) d)) := by
  unfold X0_1 Pipeline.Window.fill
  rw [dif_pos (moved0_1 t _)]
  unfold rx pb cq ph; simp only [arrs]; blk_ext [iblk, idx t]
theorem blk2 (a : Fin 256) (d : Fin 256) : iblk m c 2 t (ix2 a d) = (arrs m c).K (ix2 (rc (pb t) a) (cq (ph t) d)) := by
  unfold rc pb cq ph; simp only [arrs]; blk_ext [iblk, idx t]
theorem blk3 (a : Fin 2048) (d : Fin 128) : X0_3 m c t (ix2 a d) = (arrs m c).W (ix2 (rx (pb t) a) (cv (ph t) d)) := by
  unfold X0_3 Pipeline.Window.fill
  rw [dif_pos (moved0_3 t _)]
  unfold rx pb cv ph; simp only [arrs]; blk_ext [iblk, idx t]
theorem blk4 (a : Fin 256) (d : Fin 128) : iblk m c 4 t (ix2 a d) = (arrs m c).W (ix2 (rc (pb t) a) (cv (ph t) d)) := by
  unfold rc pb cv ph; simp only [arrs]; blk_ext [iblk, idx t]
theorem low (a : Fin 256) : (gr (pb t) (pi t) a).val < 4096 ↔ t.val % 9 ≤ 7 := by
  have := lt t
  have := a.isLt
  show (if t.val % 9 < 8 then t.val / 72 * 8 + t.val % 9 else 16 + t.val / 72) * 256 + a.val < 4096 ↔ _
  split <;> omega
/-- What a point writes back. -/
theorem o_pt (y : S256x128.Idx) : outsAt0 m c t.val t.isLt y = (arrs m c).o (gr (pb t) (pi t) (y 0)) (ph t) (y 1) := by
  idx_vars y
  unfold Arrs.o
  rw [seq_gr]
  by_cases h : t.val % 9 ≤ 7
  · rw [outsAt0_A m c t h (by omega), if_pos ((low t y0).mpr h)]; frame_out
    refine (pay2_at (iblk m c 0 t) (X0_1 m c t) (iblk m c 2 t) (X0_3 m c t) (iblk m c 4 t) y0 y1).trans ?_
    simp only [blk0, blk1, blk2, blk3, blk4]
    rfl
  · rw [outsAt0_B m c t h (by omega), if_neg fun e => h ((low t y0).mp e)]; frame_out
    refine (pay1_at (iblk m c 0 t) (iblk m c 2 t) (iblk m c 4 t) y0 y1).trans ?_
    simp only [blk0, blk2, blk4]
    rfl
theorem final5 : (dats m 0 c).arrAt 5 (cfgs 0).N = (arrs m c).out := by
  refine (dats m 0 c).arrAt_eq_of_covers 5 _ (by decide +kernel) fun t _ y => ?_
  blk_simp
  rw [after0_5]
  refine (o_pt m c t y).trans ?_
  have h0 : (y 0).val < 256 := (y 0).isLt
  have h1 : (y 1).val < 128 := (y 1).isLt
  have ht := lt t
  exact app3 (arrs m c).o (by show (if t.val % 9 < 8 then t.val / 72 * 8 + t.val % 9 else 16 + t.val / 72) * 256 + (y 0).val = _; blk_simp [idx t]) (by show t.val / 9 % 8 = _; blk_simp [idx t]; dsimp only; omega) (by blk_simp [idx t]; dsimp only; omega)
end Cert.KAtfIdeal.Rows
-- ==== Proof.Atf.lean ====
module

public import proofs.«01_k».proof.Proof.AtfFinal
public import proofs.«01_k».proof.Proof.Gen.RAtfIdeal.Read
public import proofs.«01_k».proof.Defs
public import Idealize.ShloMosaic.Lib.ReduceAll

/-! The attention: the result of the kernel is that of the reference. -/

@[expose] public section
set_option maxRecDepth 16384
noncomputable section
open Idealize.ShloMosaic Idealize.ShloMosaic.TcCoe Idealize.SL.Sem
open Idealize.ShloMosaic.Pipeline (Dat)
namespace Cert.KAtfIdeal.Rows
open Cert.KAtfIdeal Cert.KAtfIdeal.Gen Cert.RAttnIdeal.Read Cert.Reals Cert.Attn
open Cert.KAttnIdeal.Rows (rx rc cq cv packX packC valX valC wide slim tokX tokC fx fc padF sum_pad wide_x wide_c slim_x slim_c packX_at packC_at valX_at valC_at tokX_at tokC_at
  rs_x rtop_x re_x rz_x rp_x ro_x rs_c re_c rz_c rp_c ro_c keys_l keys_c vals_l vals_c key_cases row_cases cv_cases seq_rx seq_rc rx_lt rc_ge app3)

theorem isR_of_abs {x : EReal} (h : Ideal.cmp .olt (max x (-x)) (Ideal.ofBits .f32 0x7F800000#32) = 1#1) : IsR x := by
  rw [bits_top] at h
  refine isR_lt_top ?_
  by_contra hc
  simp [Ideal.cmp, hc] at h

section
variable (x0 : FVec Ideal S2x8x2048x192 .f32) (x1 : FVec Ideal S2x8x256x192 .f32) (x2 : FVec Ideal S2x8x2048x192 .f32) (x3 : FVec Ideal S2x8x256x192 .f32)
    (x4 : FVec Ideal S2x8x2048x128 .f32) (x5 : FVec Ideal S2x8x256x128 .f32)

/-- Every query and every key is real. -/
structure RealScores : Prop where
  h0 : ∀ j, IsR (x0 j)
  h1 : ∀ j, IsR (x1 j)
  h2 : ∀ j, IsR (x2 j)
  h3 : ∀ j, IsR (x3 j)

instance : Subsingleton (Cert.Pre_scores_finite.S_).Idx := ⟨fun a b => funext fun i => i.elim0⟩

/-- The precondition says that every query and every key is real. -/
theorem real_of_pre [Cert.Pre_scores_finite.Facts] (h : Cert.Pre_scores_finite.fn (F := Ideal) x0 x1 x2 x3 x4 x5 = fun _ => 1#1) : RealScores x0 x1 x2 x3 := by
  have h := congrFun h (fun a => a.elim0)
  dsimp only [Cert.Pre_scores_finite.fn, Cert.Pre_scores_finite.fn_part1] at h
  obtain ⟨h, h3⟩ := IntOp.andi_eq_one.1 h
  obtain ⟨h, h2⟩ := IntOp.andi_eq_one.1 h
  obtain ⟨h0, h1⟩ := IntOp.andi_eq_one.1 h
  exact ⟨fun j => isR_of_abs (Host.reduce_andi_all _ _ _ _ _ h0 j), fun j => isR_of_abs (Host.reduce_andi_all _ _ _ _ _ h1 j),
    fun j => isR_of_abs (Host.reduce_andi_all _ _ _ _ _ h2 j), fun j => isR_of_abs (Host.reduce_andi_all _ _ _ _ _ h3 j)⟩

/-- The arrays of the call from the arguments. -/
def ofArgs : Arrs where
  Q := truncf .bf16 (wide (packX x0) (packC x1)) bitsLt_bf16_f32
  K := truncf .bf16 (wide (packX x2) (packC x3)) bitsLt_bf16_f32
  W := truncf .bf16 (slim (valX x4) (valC x5)) bitsLt_bf16_f32

/-- The reference's result, by the values of the attention. -/
theorem ref_out : Cert.RAtfIdeal.Read.val_main_v35 (F := Ideal) x0 x1 x2 x3 x4 x5
    = truncf .bf16 (slim (tokX (val_main_v33 (F := Ideal) x0 x2 x3 x4 x5)) (tokC (val_main_v65 (F := Ideal) x1 x3 x5))) bitsLt_bf16_f32 := rfl

variable (b : Fin 2) (h : Fin 8)
theorem atQ_x (n : Fin 2048) (d : Fin 256) : (ofArgs x0 x1 x2 x3 x4 x5).Q (ix2 (rx b n) (cq h d)) = padF (fun e => x0 (ix4 b h n e)) d :=
  (wide_x _ _ b n (cq h d)).trans (packX_at x0 b n h d)
theorem atQ_c (n : Fin 256) (d : Fin 256) : (ofArgs x0 x1 x2 x3 x4 x5).Q (ix2 (rc b n) (cq h d)) = padF (fun e => x1 (ix4 b h n e)) d :=
  (wide_c _ _ b n (cq h d)).trans (packC_at x1 b n h d)
theorem atK_x (n : Fin 2048) (d : Fin 256) : (ofArgs x0 x1 x2 x3 x4 x5).K (ix2 (rx b n) (cq h d)) = padF (fun e => x2 (ix4 b h n e)) d :=
  (wide_x _ _ b n (cq h d)).trans (packX_at x2 b n h d)
theorem atK_c (n : Fin 256) (d : Fin 256) : (ofArgs x0 x1 x2 x3 x4 x5).K (ix2 (rc b n) (cq h d)) = padF (fun e => x3 (ix4 b h n e)) d :=
  (wide_c _ _ b n (cq h d)).trans (packC_at x3 b n h d)
theorem atW_x (n : Fin 2048) (d : Fin 128) : (ofArgs x0 x1 x2 x3 x4 x5).W (ix2 (rx b n) (cv h d)) = x4 (ix4 b h n d) :=
  (slim_x _ _ b n (cv h d)).trans (valX_at x4 b n h d)
theorem atW_c (n : Fin 256) (d : Fin 128) : (ofArgs x0 x1 x2 x3 x4 x5).W (ix2 (rc b n) (cv h d)) = x5 (ix4 b h n d) :=
  (slim_c _ _ b n (cv h d)).trans (valC_at x5 b n h d)

theorem sl_x (n j : Fin 2048) : (ofArgs x0 x1 x2 x3 x4 x5).score h (rx b n) (rx b j) = val_main_v2 (F := Ideal) x0 x2 x3 (ix4 b h n (lx j)) := by
  unfold Arrs.score
  rw [rs_x, Finset.sum_congr rfl fun d _ => by rw [atQ_x, atK_x], sum_pad]
  exact Finset.sum_congr rfl fun d _ => by rw [keys_l]
theorem sc_x (n : Fin 2048) (j : Fin 256) : (ofArgs x0 x1 x2 x3 x4 x5).score h (rx b n) (rc b j) = val_main_v2 (F := Ideal) x0 x2 x3 (ix4 b h n (cx j)) := by
  unfold Arrs.score
  rw [rs_x, Finset.sum_congr rfl fun d _ => by rw [atQ_x, atK_c], sum_pad]
  exact Finset.sum_congr rfl fun d _ => by rw [keys_c]
theorem sc_c (n j : Fin 256) : (ofArgs x0 x1 x2 x3 x4 x5).score h (rc b n) (rc b j) = val_main_v34 (F := Ideal) x1 x3 (ix4 b h n j) := by
  unfold Arrs.score
  rw [rs_c, Finset.sum_congr rfl fun d _ => by rw [atQ_c, atK_c], sum_pad]

variable (hr : RealScores x0 x1 x2 x3)
include hr
theorem o_x (n : Fin 2048) (d : Fin 128) : val_main_v33 (F := Ideal) x0 x2 x3 x4 x5 (ix3 b n (cv h d)) = (ofArgs x0 x1 x2 x3 x4 x5).oX b h (rx b n) d := by
  have rk : ∀ k d, IsR (val_main_v0 (F := Ideal) x2 x3 (ix4 b h k d)) := fun k d => by
    rcases key_cases k with ⟨j, rfl⟩ | ⟨j, rfl⟩
    · rw [keys_c]; exact hr.h3 _
    · rw [keys_l]; exact hr.h2 _
  have hS : ∀ k, IsR (val_main_v2 (F := Ideal) x0 x2 x3 (ix4 b h n k)) := fun k => by
    rw [rs_x]; exact isR_sum _ _ fun d _ => isR_mul (hr.h0 _) (rk k d)
  choose S hS using hS
  have hE : ∀ k, val_main_v23 (F := Ideal) x0 x2 x3 (ix4 b h n k) = Ideal.exp ((S k : EReal) - rtop fun k => (S k : EReal)) := fun k => by
    rw [re_x]; simp only [hS]
  have hZ : val_main_v25 (F := Ideal) x0 x2 x3 (ix4 b h n 0) = ∑ k, Ideal.exp ((S k : EReal) - rtop fun k => (S k : EReal)) := by
    rw [rz_x]; exact Finset.sum_congr rfl fun k _ => hE k
  have hP : ∀ k, val_main_v27 (F := Ideal) x0 x2 x3 (ix4 b h n k) = (soft S k : EReal) := fun k => by
    rw [rp_x, hE, hZ]; exact plain_soft S k
  rw [ro_x, Finset.sum_congr rfl fun k _ => by rw [hP], ← mixL_eq S fun k => val_main_v1 (F := Ideal) x4 x5 (ix4 b h k d)]
  unfold Arrs.oX
  simp only [sl_x, sc_x, hS, atW_x, atW_c, vals_l, vals_c]
theorem o_c (n : Fin 256) (d : Fin 128) : val_main_v65 (F := Ideal) x1 x3 x5 (ix3 b n (cv h d)) = (ofArgs x0 x1 x2 x3 x4 x5).oC b h (rc b n) d := by
  have hS : ∀ k, IsR (val_main_v34 (F := Ideal) x1 x3 (ix4 b h n k)) := fun k => by
    rw [rs_c]; exact isR_sum _ _ fun d _ => isR_mul (hr.h1 _) (hr.h3 _)
  choose S hS using hS
  have hE : ∀ k, val_main_v55 (F := Ideal) x1 x3 (ix4 b h n k) = Ideal.exp ((S k : EReal) - rtop fun k => (S k : EReal)) := fun k => by
    rw [re_c]; simp only [hS]
  have hZ : val_main_v57 (F := Ideal) x1 x3 (ix4 b h n 0) = ∑ k, Ideal.exp ((S k : EReal) - rtop fun k => (S k : EReal)) := by
    rw [rz_c]; exact Finset.sum_congr rfl fun k _ => hE k
  have hP : ∀ k, val_main_v59 (F := Ideal) x1 x3 (ix4 b h n k) = (soft S k : EReal) := fun k => by
    rw [rp_c, hE, hZ]; exact plain_soft S k
  rw [ro_c, Finset.sum_congr rfl fun k _ => by rw [hP], ← mixC_eq S fun k => x5 (ix4 b h k d)]
  unfold Arrs.oC
  simp only [sc_c, hS, atW_c]
omit b h in
theorem same_o : Cert.RAtfIdeal.Read.val_main_v35 (F := Ideal) x0 x1 x2 x3 x4 x5 = (ofArgs x0 x1 x2 x3 x4 x5).out := by
  rw [ref_out]
  funext j
  rw [eq_ix2 j]
  obtain ⟨h, d, e1⟩ := cv_cases (j 1)
  rw [e1]
  have e : ∀ R, (ofArgs x0 x1 x2 x3 x4 x5).out (ix2 R (cv h d)) = (ofArgs x0 x1 x2 x3 x4 x5).o R h d := fun R =>
    app3 (ofArgs x0 x1 x2 x3 x4 x5).o rfl (show (h.val * 128 + d.val) / 128 = h.val by omega) (show (h.val * 128 + d.val) % 128 = d.val by omega)
  refine Eq.trans ?_ (e _).symm
  unfold Arrs.o
  rcases row_cases (j 0) with ⟨b, n, e0⟩ | ⟨b, n, e0⟩
  · rw [e0, if_pos (rx_lt b n), seq_rx]
    exact ((slim_x _ _ b n (cv h d)).trans (tokX_at _ b n (cv h d))).trans (o_x x0 x1 x2 x3 x4 x5 b h hr n d)
  · rw [e0, if_neg (rc_ge b n), seq_rc]
    exact ((slim_c _ _ b n (cv h d)).trans (tokC_at _ b n (cv h d))).trans (o_c x0 x1 x2 x3 x4 x5 b h hr n d)
end

section
variable (m : (ℓ : Loc nD τ sig) → Buf (Elt Ideal) ℓ) (c : Dev nD)
theorem hostQ : V m c main_v7 = truncf .bf16 (wide (packX (m ((c : Thread nD τ).loc main_arg0))) (packC (m ((c : Thread nD τ).loc main_arg1)))) bitsLt_bf16_f32 := by
  unfold V; entry_read; rfl
theorem hostK : V m c main_v15 = truncf .bf16 (wide (packX (m ((c : Thread nD τ).loc main_arg2))) (packC (m ((c : Thread nD τ).loc main_arg3)))) bitsLt_bf16_f32 := by
  unfold V; entry_read; rfl
theorem hostW : V m c main_v23 = truncf .bf16 (slim (valX (m ((c : Thread nD τ).loc main_arg4))) (valC (m ((c : Thread nD τ).loc main_arg5)))) bitsLt_bf16_f32 := by
  unfold V; entry_read; rfl
theorem arrs_eq : arrs m c = ofArgs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  unfold arrs ofArgs
  rw [hostQ, hostK, hostW]
end

set_option maxHeartbeats 2000000 in
/-- The result of the kernel is that of the reference where queries and keys are real. -/
theorem algebraic [Cert.Pre_scores_finite.Facts] : Cert.algebraic_KAtfIdeal_RAtfIdeal_pre_scores_finite := by
  intro m g m' g' hpre hagree
  refine ⟨fun c => (arrs m c).out, ?_, ?_⟩
  · exact θ_run_mono (θ_run_and (Cert.KAtfIdeal.Gen.run_main m g) (Cert.KAtfIdeal.Gen.unchanged m g)) fun r h c =>
      ⟨((h.1 c).1 5).trans (final5 m c), h.2 c⟩
  · refine θ_run_mono (Cert.RAtfIdeal.Value.run m' g') fun r h c => ⟨(h c).1.trans ?_, (h c).2⟩
    refine (Cert.RAtfIdeal.Read.val_main_v35_eq m' c).trans ?_
    show Cert.RAtfIdeal.Read.val_main_v35 (m' (c.tc.loc Cert.RAtfIdeal.main_arg0)) (m' (c.tc.loc Cert.RAtfIdeal.main_arg1)) (m' (c.tc.loc Cert.RAtfIdeal.main_arg2)) (m' (c.tc.loc Cert.RAtfIdeal.main_arg3)) (m' (c.tc.loc Cert.RAtfIdeal.main_arg4)) (m' (c.tc.loc Cert.RAtfIdeal.main_arg5)) = (arrs m c).out
    rw [arrs_eq, (hagree c).1, (hagree c).2.1, (hagree c).2.2.1, (hagree c).2.2.2.1, (hagree c).2.2.2.2.1, (hagree c).2.2.2.2.2]
    exact same_o _ _ _ _ _ _ (real_of_pre _ _ _ _ _ _ (hpre c))
end Cert.KAtfIdeal.Rows
-- ==== Proof.OutValue.lean ====
module

public import proofs.«01_k».proof.Proof.Gen.KOutIdeal.Frame
public import proofs.«01_k».proof.Proof.Gen.ROutIdeal.Read
public import proofs.«01_k».proof.Defs
public import Idealize.ShloMosaic.Lib.Pipeline.ValueKit
public import Idealize.ShloMosaic.Lib.Pipeline.ReadBack
public import Idealize.ShloMosaic.Lib.Claim

/-! The projection out of a block: the product of the rows with the weight, and the rows of the residual with the gated product added. -/

@[expose] public section
set_option maxRecDepth 16384
noncomputable section
open Idealize.ShloMosaic Idealize.ShloMosaic.TcCoe Idealize.SL.Sem
open Idealize.ShloMosaic.Pipeline (Dat)
namespace Cert.KOutIdeal.Rows
open Cert.KOutIdeal Cert.KOutIdeal.Gen

theorem prod_at (z : Vec Ideal S512x1024 .bf16) (w : Vec Ideal S1x1024x1024 .bf16) (r : Fin 512) (d : Fin 1024) :
    k0_pay1 (F := Ideal) z w (ix2 r d) = ∑ k : Fin 1024, z (ix2 r k) * w (ix3 0 k d) := by
  pointwise [k0_pay1]
theorem y_at (z : Vec Ideal S512x1024 .bf16) (w : Vec Ideal S1x1024x1024 .bf16) (j) : k0_pay2 (F := Ideal) z w j = k0_pay1 (F := Ideal) z w j := by
  pointwise [k0_pay2]
theorem out_at (z : Vec Ideal S512x1024 .bf16) (w : Vec Ideal S1x1024x1024 .bf16) (h : Vec Ideal S512x1024 .f32) (g : Vec Ideal S1x1x1024 .f32) (r : Fin 512) (d : Fin 1024) :
    k0_pay3 (F := Ideal) z w h g (ix2 r d) = h (ix2 r d) + g (ix3 0 0 d) * k0_pay1 (F := Ideal) z w (ix2 r d) := by
  pointwise [k0_pay3]

/-- The stream a row belongs to: the two sequences of the batch, then the context. -/
def grp (r : Fin 4608) : Fin 3 := ⟨r.val / 2048, by omega⟩

/-- The arrays the call reads. -/
structure Arrs where
  Z : FVec Ideal S4608x1024 .bf16
  W : FVec Ideal S1x1024x1024 .bf16
  H : FVec Ideal S4608x1024 .f32
  M : FVec Ideal S3x9x1024 .f32

namespace Arrs
variable (X : Arrs)
/-- The product. -/
def y (r : Fin 4608) (d : Fin 1024) : EReal := ∑ k : Fin 1024, X.Z (ix2 r k) * X.W (ix3 0 k d)
/-- The row after the step. -/
def out (r : Fin 4608) (d : Fin 1024) : EReal := X.H (ix2 r d) + X.M (ix3 (grp r) 5 d) * X.y r d
def outH : FVec Ideal S4608x1024 .f32 := fun j => X.out (j 0) (j 1)
def outY : FVec Ideal S4608x1024 .bf16 := fun j => X.y (j 0) (j 1)
end Arrs

variable (m : (ℓ : Loc nD τ sig) → Buf (Elt Ideal) ℓ)

/-- The arrays the call reads. -/
def arrs (c : Dev nD) : Arrs where
  Z := V m c main_v6
  W := V m c main_v8
  H := V m c main_v5
  M := V m c main_v9

theorem idx : ∀ t : Fin cfg0.N, win0_0.index t = ![t.val, 0] ∧ win0_1.index t = ![0, 0, 0] ∧ win0_2.index t = ![t.val, 0]
    ∧ win0_3.index t = ![t.val / 4, 0, 0] ∧ win0_4.index t = ![t.val, 0] ∧ win0_5.index t = ![t.val, 0] ∧ t.val < 9 :=
  (by decide +kernel : ∀ t : Fin grid0.N, _)
theorem lt (t : Fin cfg0.N) : t.val < 9 := (idx t).2.2.2.2.2.2
/-- The row of the whole array at row `a` of point `t`'s block. -/
def row (t : Fin cfg0.N) (a : Fin 512) : Fin 4608 := ⟨t.val * 512 + a.val, by have := lt t; omega⟩
theorem grp_row (t : Fin cfg0.N) (a : Fin 512) : grp (row t a) = ⟨t.val / 4, by have := lt t; omega⟩ := by
  apply Fin.ext; simp only [grp, row]; omega

section
variable (c : Dev nD) (t : Fin cfg0.N)
theorem blk0 (a : Fin 512) (d : Fin 1024) : iblk m c 0 t (ix2 a d) = (arrs m c).Z (ix2 (row t a) d) := by
  unfold row; simp only [arrs]; blk_ext [iblk, idx t]
theorem blk1 (k d : Fin 1024) : iblk m c 1 t (ix3 0 k d) = (arrs m c).W (ix3 0 k d) := by
  simp only [arrs]; blk_ext [iblk, idx t]
theorem blk2 (a : Fin 512) (d : Fin 1024) : iblk m c 2 t (ix2 a d) = (arrs m c).H (ix2 (row t a) d) := by
  unfold row; simp only [arrs]; blk_ext [iblk, idx t]
theorem blk3 (a : Fin 512) (k : Fin 9) (d : Fin 1024) : iblk m c 3 t (ix3 0 k d) = (arrs m c).M (ix3 (grp (row t a)) k d) := by
  rw [grp_row]; simp only [arrs]; blk_ext [iblk, idx t]
theorem gate_blk (a : Fin 512) (d : Fin 1024) : View.ld (iblk m c 3 t) (Rect.unit ![0, 5, 0] ![1, 1, 1024] inb_S1x9x1024_S1x1x1024_0_5_0) (ix3 0 0 d)
    = (arrs m c).M (ix3 (grp (row t a)) 5 d) := by
  refine Eq.trans ?_ (blk3 m c t a 5 d); pointwise
theorem prod_row (a : Fin 512) (d : Fin 1024) : k0_pay1 (F := Ideal) (iblk m c 0 t) (iblk m c 1 t) (ix2 a d) = (arrs m c).y (row t a) d := by
  rw [prod_at]
  exact Finset.sum_congr rfl fun k _ => Ideal.mul_congr (blk0 m c t a k) (blk1 m c t k d)
end

theorem app2 {a b : ℕ} (f : Fin a → Fin b → EReal) {i i' : Fin a} {j j' : Fin b} (hi : i.val = i'.val) (hj : j.val = j'.val) :
    f i j = f i' j' := by rw [Fin.ext hi, Fin.ext hj]

theorem final4 (c : Dev nD) : (dats m 0 c).arrAt 4 (cfgs 0).N = (arrs m c).outH := by
  refine (dats m 0 c).arrAt_eq_of_covers 4 _ (by decide +kernel) fun t hf y => ?_
  blk_simp
  rw [after0_4]
  frame_out
  obtain ⟨a, d, rfl⟩ : ∃ (a : Fin 512) (d : Fin 1024), y = ix2 a d := ⟨y 0, y 1, eq_ix2 y⟩
  rw [out_at]
  refine Eq.trans (b := (arrs m c).out (row t a) d) ?_ ?_
  · unfold Arrs.out
    exact Ideal.add_congr (blk2 m c t a d) (Ideal.mul_congr (gate_blk m c t a d) (prod_row m c t a d))
  · exact app2 (arrs m c).out (by show t.val * 512 + a.val = _; blk_simp [idx t]) (by blk_simp [idx t])
theorem final5 (c : Dev nD) : (dats m 0 c).arrAt 5 (cfgs 0).N = (arrs m c).outY := by
  refine (dats m 0 c).arrAt_eq_of_covers 5 _ (by decide +kernel) fun t hf y => ?_
  blk_simp
  rw [after0_5]
  frame_out
  obtain ⟨a, d, rfl⟩ : ∃ (a : Fin 512) (d : Fin 1024), y = ix2 a d := ⟨y 0, y 1, eq_ix2 y⟩
  refine ((y_at _ _ _).trans (prod_row m c t a d)).trans ?_
  exact app2 (arrs m c).y (by show t.val * 512 + a.val = _; blk_simp [idx t]) (by blk_simp [idx t])

/-! What the call is handed, as functions of the arguments. -/

/-- The rows of the latent stream, then those of the context. -/
def join (x : FVec Ideal S2x2048x1024 .f32) (y : FVec Ideal S2x256x1024 .f32) : FVec Ideal S4608x1024 .f32 :=
  concatenate S4608x1024 0 [⟨S4096x1024, shapeCast S4096x1024 x shapeCasts_S2x2048x1024_S4096x1024⟩, ⟨S512x1024, shapeCast S512x1024 y shapeCasts_S2x256x1024_S512x1024⟩] concatenates_S4096x1024_S512x1024_S4608x1024_d0
/-- The modulation of the two sequences and of the context. -/
def mods (x : FVec Ideal S2x9x1024 .f32) (y : FVec Ideal S1x9x1024 .f32) : FVec Ideal S3x9x1024 .f32 :=
  concatenate S3x9x1024 0 [⟨S2x9x1024, x⟩, ⟨S1x9x1024, y⟩] concatenates_S2x9x1024_S1x9x1024_S3x9x1024_d0
def narrow (x : FVec Ideal S4608x1024 .f32) : FVec Ideal S4608x1024 .bf16 := truncf .bf16 x bitsLt_bf16_f32
def weight (x : FVec Ideal S1024x1024 .f32) : FVec Ideal S1x1024x1024 .bf16 :=
  truncf .bf16 (broadcastInDim S1x1024x1024 ![1, 2] bcast_S1024x1024_S1x1024x1024_1_2 x) bitsLt_bf16_f32

theorem lt_rx (b : Fin 2) (n : Fin 2048) : b.val * 2048 + n.val < 4608 := by omega
theorem lt_rc (b : Fin 2) (n : Fin 256) : 4096 + (b.val * 256 + n.val) < 4608 := by omega
/-- The row of position `n` of sequence `b` of the latent stream. -/
def rx (b : Fin 2) (n : Fin 2048) : Fin 4608 := ⟨b.val * 2048 + n.val, lt_rx b n⟩
/-- The row of position `n` of sequence `b` of the context. -/
def rc (b : Fin 2) (n : Fin 256) : Fin 4608 := ⟨4096 + (b.val * 256 + n.val), lt_rc b n⟩
theorem row_cases {P : Fin 4608 → Prop} (hx : ∀ b n, P (rx b n)) (hc : ∀ b n, P (rc b n)) (r : Fin 4608) : P r := by
  by_cases h : r.val < 4096
  · have e : rx ⟨r.val / 2048, by omega⟩ ⟨r.val % 2048, by omega⟩ = r := by apply Fin.ext; simp only [rx]; omega
    exact e ▸ hx _ _
  · have e : rc ⟨(r.val - 4096) / 256, by omega⟩ ⟨(r.val - 4096) % 256, by omega⟩ = r := by apply Fin.ext; simp only [rc]; omega
    exact e ▸ hc _ _
theorem join_x (x y) (b : Fin 2) (n : Fin 2048) (d : Fin 1024) : join x y (ix2 (rx b n) d) = x (ix3 b n d) := by
  unfold rx
  pointwise [join]
  rw [dif_pos (by omega)]
  blk_ext
theorem lt_low (r : Fin 512) : 4096 + r.val < 4608 := by omega
theorem low_at (A : FVec Ideal S4096x1024 .f32) (B : FVec Ideal S512x1024 .f32) (r : Fin 512) (d : Fin 1024) :
    concatenate S4608x1024 0 [⟨S4096x1024, A⟩, ⟨S512x1024, B⟩] concatenates_S4096x1024_S512x1024_S4608x1024_d0 (ix2 ⟨4096 + r.val, lt_low r⟩ d) = B (ix2 r d) := by
  pointwise
theorem lt_c (b : Fin 2) (n : Fin 256) : b.val * 256 + n.val < 512 := by omega
theorem ctx_at (y : FVec Ideal S2x256x1024 .f32) (b : Fin 2) (n : Fin 256) (d : Fin 1024) :
    shapeCast S512x1024 y shapeCasts_S2x256x1024_S512x1024 (ix2 ⟨b.val * 256 + n.val, lt_c b n⟩ d) = y (ix3 b n d) := by
  pointwise
theorem join_c (x y) (b : Fin 2) (n : Fin 256) (d : Fin 1024) : join x y (ix2 (rc b n) d) = y (ix3 b n d) :=
  (low_at _ _ ⟨b.val * 256 + n.val, lt_c b n⟩ d).trans (ctx_at y b n d)
theorem narrow_at (x j) : narrow x j = x j := by pointwise [narrow]
theorem weight_at (x) (k d : Fin 1024) : weight x (ix3 0 k d) = x (ix2 k d) := by pointwise [weight]
theorem lt_b (b : Fin 2) : b.val < 3 := by omega
theorem grp_x (b : Fin 2) (n : Fin 2048) : grp (rx b n) = ⟨b.val, lt_b b⟩ := by apply Fin.ext; simp only [grp, rx]; omega
theorem grp_c (b : Fin 2) (n : Fin 256) : grp (rc b n) = 2 := by apply Fin.ext; simp only [grp, rc]; show _ = 2; omega
theorem mods_x (x y) (b : Fin 2) (n : Fin 2048) (k : Fin 9) (d : Fin 1024) : mods x y (ix3 (grp (rx b n)) k d) = x (ix3 b k d) := by
  rw [grp_x]
  pointwise [mods]
theorem mods_c (x y) (b : Fin 2) (n : Fin 256) (k : Fin 9) (d : Fin 1024) : mods x y (ix3 (grp (rc b n)) k d) = y (ix3 0 k d) := by
  rw [grp_c]
  pointwise [mods]
theorem join_eq {x y} {f : Fin 4608 → Fin 1024 → EReal} (hx : ∀ b n d, x (ix3 b n d) = f (rx b n) d) (hc : ∀ b n d, y (ix3 b n d) = f (rc b n) d) :
    join x y = fun j => f (j 0) (j 1) := by
  funext j
  rw [eq_ix2 j]
  exact row_cases (P := fun r => join x y (ix2 r (j 1)) = f r (j 1)) (fun b n => (join_x x y b n _).trans (hx b n _)) (fun b n => (join_c x y b n _).trans (hc b n _)) (j 0)

/-- The arrays of the call from the arguments. -/
def ofArgs (x0 : FVec Ideal S2x2048x1024 .f32) (x1 : FVec Ideal S2x256x1024 .f32) (x2 : FVec Ideal S2x2048x1024 .f32) (x3 : FVec Ideal S2x256x1024 .f32)
    (x4 : FVec Ideal S2x9x1024 .f32) (x5 : FVec Ideal S1x9x1024 .f32) (x6 : FVec Ideal S1024x1024 .f32) : Arrs where
  Z := narrow (join x0 x1)
  W := weight x6
  H := join x2 x3
  M := mods x4 x5

section
variable (c : Dev nD)
theorem hostZ : V m c main_v6 = narrow (join (m ((c : Thread nD τ).loc main_arg0)) (m ((c : Thread nD τ).loc main_arg1))) := by
  unfold V; entry_read; rfl
theorem hostH : V m c main_v5 = join (m ((c : Thread nD τ).loc main_arg2)) (m ((c : Thread nD τ).loc main_arg3)) := by
  unfold V; entry_read; rfl
theorem hostM : V m c main_v9 = mods (m ((c : Thread nD τ).loc main_arg4)) (m ((c : Thread nD τ).loc main_arg5)) := by
  unfold V; entry_read; rfl
theorem hostW : V m c main_v8 = weight (m ((c : Thread nD τ).loc main_arg6)) := by
  unfold V; entry_read; rfl
theorem arrs_eq : arrs m c = ofArgs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  unfold arrs ofArgs
  rw [hostZ, hostH, hostM, hostW]
end

/-! The reference over the same arrays. -/
section
open Cert.ROutIdeal.Read
variable (x0 : FVec Ideal S2x2048x1024 .f32) (x1 : FVec Ideal S2x256x1024 .f32) (x2 : FVec Ideal S2x2048x1024 .f32) (x3 : FVec Ideal S2x256x1024 .f32)
    (x4 : FVec Ideal S2x9x1024 .f32) (x5 : FVec Ideal S1x9x1024 .f32) (x6 : FVec Ideal S1024x1024 .f32)

theorem y_x (b : Fin 2) (n : Fin 2048) (d : Fin 1024) : val_main_v0 (F := Ideal) x0 x6 (ix3 b n d) = (ofArgs x0 x1 x2 x3 x4 x5 x6).y (rx b n) d := by
  simp only [Arrs.y, ofArgs, narrow_at, weight_at, join_x]
  pointwise [val_main_v0]
theorem y_c (b : Fin 2) (n : Fin 256) (d : Fin 1024) : val_main_v5 (F := Ideal) x1 x6 (ix3 b n d) = (ofArgs x0 x1 x2 x3 x4 x5 x6).y (rc b n) d := by
  simp only [Arrs.y, ofArgs, narrow_at, weight_at, join_c]
  pointwise [val_main_v5]
theorem out_x (b : Fin 2) (n : Fin 2048) (d : Fin 1024) : val_main_v4 (F := Ideal) x0 x2 x4 x6 (ix3 b n d) = (ofArgs x0 x1 x2 x3 x4 x5 x6).out (rx b n) d := by
  simp only [Arrs.out, ← y_x]
  simp only [ofArgs, join_x, mods_x]
  pointwise [val_main_v4, val_main_v3, val_main_v2, val_main_v1]
theorem out_c (b : Fin 2) (n : Fin 256) (d : Fin 1024) : val_main_v9 (F := Ideal) x1 x3 x5 x6 (ix3 b n d) = (ofArgs x0 x1 x2 x3 x4 x5 x6).out (rc b n) d := by
  simp only [Arrs.out, ← y_c]
  simp only [ofArgs, join_c, mods_c]
  pointwise [val_main_v9, val_main_v8, val_main_v7, val_main_v6]
theorem res_h : val_main_v12 (F := Ideal) x0 x1 x2 x3 x4 x5 x6 = (ofArgs x0 x1 x2 x3 x4 x5 x6).outH :=
  join_eq (out_x x0 x1 x2 x3 x4 x5 x6) (out_c x0 x1 x2 x3 x4 x5 x6)
theorem res_y : val_main_v16 (F := Ideal) x0 x1 x6 = (ofArgs x0 x1 x2 x3 x4 x5 x6).outY :=
  join_eq (y_x x0 x1 x2 x3 x4 x5 x6) (y_c x0 x1 x2 x3 x4 x5 x6)
end

/-- Both results of the kernel are those of the reference. -/
theorem algebraic : Cert.algebraic_KOutIdeal_ROutIdeal := by
  intro m g m' g' hpre hagree
  refine ⟨fun c => (arrs m c).outH, fun c => (arrs m c).outY, ?_, ?_⟩
  · exact θ_run_mono (θ_run_and (Cert.KOutIdeal.Gen.run_main m g) (Cert.KOutIdeal.Gen.unchanged m g)) fun r h c =>
      ⟨((h.1 c).1 4).trans (final4 m c), ((h.1 c).1 5).trans (final5 m c), h.2 c⟩
  · refine θ_run_mono (Cert.ROutIdeal.Value.run m' g') fun r h c => ⟨(h c).1.trans ?_, (h c).2.1.trans ?_, (h c).2.2⟩
    · refine (Cert.ROutIdeal.Read.val_main_v12_eq (m' (c.tc.loc Cert.ROutIdeal.main_arg0)) (m' (c.tc.loc Cert.ROutIdeal.main_arg1)) (m' (c.tc.loc Cert.ROutIdeal.main_arg2)) (m' (c.tc.loc Cert.ROutIdeal.main_arg3)) (m' (c.tc.loc Cert.ROutIdeal.main_arg4)) (m' (c.tc.loc Cert.ROutIdeal.main_arg5)) (m' (c.tc.loc Cert.ROutIdeal.main_arg6))).trans ?_
      show _ = (arrs m c).outH
      rw [arrs_eq, (hagree c).1, (hagree c).2.1, (hagree c).2.2.1, (hagree c).2.2.2.1, (hagree c).2.2.2.2.1, (hagree c).2.2.2.2.2.1, (hagree c).2.2.2.2.2.2]
      exact res_h _ _ _ _ _ _ _
    · refine (Cert.ROutIdeal.Read.val_main_v16_eq (m' (c.tc.loc Cert.ROutIdeal.main_arg0)) (m' (c.tc.loc Cert.ROutIdeal.main_arg1)) (m' (c.tc.loc Cert.ROutIdeal.main_arg6))).trans ?_
      show _ = (arrs m c).outY
      rw [arrs_eq, (hagree c).1, (hagree c).2.1, (hagree c).2.2.2.2.2.2]
      exact res_y _ _ _ _ _ _ _

end Cert.KOutIdeal.Rows
-- ==== Proof.OubValue.lean ====
module

public import proofs.«01_k».proof.Proof.Gen.KOubIdeal.Frame
public import proofs.«01_k».proof.Proof.Gen.ROubIdeal.Read
public import proofs.«01_k».proof.Defs
public import Idealize.ShloMosaic.Lib.Pipeline.ValueKit
public import Idealize.ShloMosaic.Lib.Pipeline.ReadBack
public import Idealize.ShloMosaic.Lib.Claim

/-! The gradient of the projection out of a block: the gated cotangent, its product with the transposed weight, and the sums for the gate. -/

@[expose] public section
set_option maxRecDepth 16384
noncomputable section
open Idealize.ShloMosaic Idealize.ShloMosaic.TcCoe Idealize.SL.Sem
open Idealize.ShloMosaic.Pipeline (Dat)
namespace Cert.KOubIdeal.Rows
open Cert.KOubIdeal Cert.KOubIdeal.Gen

theorem store_dy (h : Vec Ideal S512x1024 .f32) (g : Vec Ideal S1x1x1024 .f32) (r : Fin 512) (d : Fin 1024) :
    k0_pay4 (F := Ideal) h g (ix2 r d) = g (ix3 0 0 d) * h (ix2 r d) := by
  pointwise [k0_pay4, k0_pay3]
theorem store_dz (h : Vec Ideal S512x1024 .f32) (g : Vec Ideal S1x1x1024 .f32) (w : Vec Ideal S1x1024x1024 .bf16) (r : Fin 512) (d : Fin 1024) :
    k0_pay5 (F := Ideal) h g w (ix2 r d) = ∑ k : Fin 1024, k0_pay4 (F := Ideal) h g (ix2 r k) * w (ix3 0 d k) := by
  pointwise [k0_pay5]
theorem store_sum (h : Vec Ideal S512x1024 .f32) (y : Vec Ideal S512x1024 .bf16) (z z' : Fin 1) (d : Fin 1024) :
    k0_pay9 (F := Ideal) h y (ix3 z z' d) = ∑ r : Fin 512, h (ix2 r d) * y (ix2 r d) := by
  pointwise [k0_pay9, k0_pay3]
theorem store_0 (j) : k0_pay7 (F := Ideal) j = 0 := by pointwise [k0_pay7, k0_pay6]
theorem store_1 (j) : k0_pay8 (F := Ideal) j = 0 := by pointwise [k0_pay8, k0_pay6]
theorem store_3 (j) : k0_pay1 (F := Ideal) (k0_pay6 (F := Ideal)) j = 0 := by pointwise [k0_pay1, k0_pay6]
theorem store_4 (j) : k0_pay2 (F := Ideal) j = 0 := by pointwise [k0_pay2]

/-- The stream a row belongs to: the two sequences of the batch, then the context. -/
def grp (r : Fin 4608) : Fin 3 := ⟨r.val / 2048, by omega⟩
/-- The row `a` of block `i`. -/
def brow (i : Fin 9) (a : Fin 512) : Fin 4608 := ⟨i.val * 512 + a.val, by omega⟩

/-- The arrays the call reads. -/
structure Arrs where
  DH : FVec Ideal S4608x1024 .f32
  Y : FVec Ideal S4608x1024 .bf16
  W : FVec Ideal S1x1024x1024 .bf16
  M : FVec Ideal S3x9x1024 .f32

namespace Arrs
variable (X : Arrs)
/-- The cotangent of the product. -/
def dy (r : Fin 4608) (d : Fin 1024) : EReal := X.M (ix3 (grp r) 5 d) * X.DH (ix2 r d)
/-- The cotangent of the rows. -/
def dz (r : Fin 4608) (d : Fin 1024) : EReal := ∑ k : Fin 1024, X.dy r k * X.W (ix3 0 d k)
/-- The sums over a block's rows: only the gate's row is not zero. -/
def sums (i : Fin 9) (k : ℕ) (d : Fin 1024) : EReal :=
  if k = 2 then ∑ a : Fin 512, X.DH (ix2 (brow i a) d) * X.Y (ix2 (brow i a) d) else 0
def outDy : FVec Ideal S4608x1024 .bf16 := fun j => X.dy (j 0) (j 1)
def outDz : FVec Ideal S4608x1024 .f32 := fun j => X.dz (j 0) (j 1)
def outSums : FVec Ideal S9x8x1024 .f32 := fun j => X.sums (j 0) (j 1).val (j 2)
end Arrs

variable (m : (ℓ : Loc nD τ sig) → Buf (Elt Ideal) ℓ)

/-- The arrays the call reads. -/
def arrs (c : Dev nD) : Arrs where
  DH := V m c main_v5
  Y := V m c main_v7
  W := V m c main_v9
  M := V m c main_v10

theorem idx : ∀ t : Fin cfg0.N, win0_0.index t = ![t.val, 0] ∧ win0_1.index t = ![t.val, 0] ∧ win0_2.index t = ![0, 0, 0]
    ∧ win0_3.index t = ![t.val / 4, 0, 0] ∧ win0_4.index t = ![t.val, 0] ∧ win0_5.index t = ![t.val, 0] ∧ win0_6.index t = ![t.val, 0, 0] ∧ t.val < 9 :=
  (by decide +kernel : ∀ t : Fin grid0.N, _)
theorem lt (t : Fin cfg0.N) : t.val < 9 := (idx t).2.2.2.2.2.2.2
/-- The block of a point. -/
def blk (t : Fin cfg0.N) : Fin 9 := ⟨t.val, lt t⟩
/-- The row of the whole array at row `a` of point `t`'s block. -/
def row (t : Fin cfg0.N) (a : Fin 512) : Fin 4608 := brow (blk t) a
theorem grp_row (t : Fin cfg0.N) (a : Fin 512) : grp (row t a) = ⟨t.val / 4, by have := lt t; omega⟩ := by
  apply Fin.ext; simp only [grp, row, brow, blk]; omega

section
variable (c : Dev nD) (t : Fin cfg0.N)
theorem blk0 (a : Fin 512) (d : Fin 1024) : iblk m c 0 t (ix2 a d) = (arrs m c).DH (ix2 (row t a) d) := by
  unfold row brow blk; simp only [arrs]; blk_ext [iblk, idx t]
theorem blk1 (a : Fin 512) (d : Fin 1024) : iblk m c 1 t (ix2 a d) = (arrs m c).Y (ix2 (row t a) d) := by
  unfold row brow blk; simp only [arrs]; blk_ext [iblk, idx t]
theorem blk2 (k d : Fin 1024) : iblk m c 2 t (ix3 0 k d) = (arrs m c).W (ix3 0 k d) := by
  simp only [arrs]; blk_ext [iblk, idx t]
theorem blk3 (a : Fin 512) (k : Fin 9) (d : Fin 1024) : iblk m c 3 t (ix3 0 k d) = (arrs m c).M (ix3 (grp (row t a)) k d) := by
  rw [grp_row]; simp only [arrs]; blk_ext [iblk, idx t]
theorem gate_blk (a : Fin 512) (d : Fin 1024) : View.ld (iblk m c 3 t) (Rect.unit ![0, 5, 0] ![1, 1, 1024] inb_S1x9x1024_S1x1x1024_0_5_0) (ix3 0 0 d)
    = (arrs m c).M (ix3 (grp (row t a)) 5 d) := by
  refine Eq.trans ?_ (blk3 m c t a 5 d); pointwise
theorem dy_row (a : Fin 512) (d : Fin 1024) :
    k0_pay4 (F := Ideal) (iblk m c 0 t) (View.ld (iblk m c 3 t) (Rect.unit ![0, 5, 0] ![1, 1, 1024] inb_S1x9x1024_S1x1x1024_0_5_0)) (ix2 a d) = (arrs m c).dy (row t a) d :=
  (store_dy _ _ _ _).trans (Ideal.mul_congr (gate_blk m c t a d) (blk0 m c t a d))
end

theorem app2 {a b : ℕ} (f : Fin a → Fin b → EReal) {i i' : Fin a} {j j' : Fin b} (hi : i.val = i'.val) (hj : j.val = j'.val) :
    f i j = f i' j' := by rw [Fin.ext hi, Fin.ext hj]

theorem final4 (c : Dev nD) : (dats m 0 c).arrAt 4 (cfgs 0).N = (arrs m c).outDy := by
  refine (dats m 0 c).arrAt_eq_of_covers 4 _ (by decide +kernel) fun t hf y => ?_
  blk_simp
  rw [after0_4]
  unfold outsAt0
  frame_out
  obtain ⟨a, d, rfl⟩ : ∃ (a : Fin 512) (d : Fin 1024), y = ix2 a d := ⟨y 0, y 1, eq_ix2 y⟩
  refine (dy_row m c t a d).trans ?_
  exact app2 (arrs m c).dy (by show t.val * 512 + a.val = _; blk_simp [idx t]) (by blk_simp [idx t])
theorem final5 (c : Dev nD) : (dats m 0 c).arrAt 5 (cfgs 0).N = (arrs m c).outDz := by
  refine (dats m 0 c).arrAt_eq_of_covers 5 _ (by decide +kernel) fun t hf y => ?_
  blk_simp
  rw [after0_5]
  unfold outsAt0
  frame_out
  obtain ⟨a, d, rfl⟩ : ∃ (a : Fin 512) (d : Fin 1024), y = ix2 a d := ⟨y 0, y 1, eq_ix2 y⟩
  refine Eq.trans (b := (arrs m c).dz (row t a) d) ?_ ?_
  · rw [store_dz]
    exact Finset.sum_congr rfl fun k _ => Ideal.mul_congr (dy_row m c t a k) (blk2 m c t d k)
  · exact app2 (arrs m c).dz (by show t.val * 512 + a.val = _; blk_simp [idx t]) (by blk_simp [idx t])

theorem sums_congr {X : Arrs} {i i' : Fin 9} {k k' : ℕ} {d d' : Fin 1024} (hi : i.val = i'.val) (hk : k = k') (hd : d.val = d'.val) :
    X.sums i k d = X.sums i' k' d' := by rw [Fin.ext hi, hk, Fin.ext hd]
theorem sums_zero {X : Arrs} {i : Fin 9} {k : ℕ} {d : Fin 1024} (hk : k ≠ 2) : X.sums i k d = 0 := if_neg hk

theorem final6 (c : Dev nD) : (dats m 0 c).arrAt 6 (cfgs 0).N = (arrs m c).outSums := by
  refine (dats m 0 c).arrAt_eq_of_covers 6 _ (by decide +kernel) fun t hf y => ?_
  blk_simp
  rw [after0_6]
  unfold outsAt0
  frame_out
  canon_tiles x h using (View.cover_of_tiledBy _ ![1, 1, 1024] (by sl_kernel_rfl) y)
  · refine (store_4 x).trans (sums_zero ?_).symm
    blk_simp [idx t]; omega
  · refine (store_3 x).trans (sums_zero ?_).symm
    blk_simp [idx t]; omega
  · idx_vars x
    refine Eq.trans (b := (arrs m c).sums (blk t) 2 x2) ?_ ?_
    · rw [store_sum]
      exact Finset.sum_congr rfl fun r _ => Ideal.mul_congr (blk0 m c t r x2) (blk1 m c t r x2)
    · exact sums_congr (by show t.val = _; blk_simp [idx t]) (by blk_simp [idx t]; omega) (by blk_simp [idx t]; omega)
  · refine (store_1 x).trans (sums_zero ?_).symm
    blk_simp [idx t]; omega
  · refine (store_0 x).trans (sums_zero ?_).symm
    blk_simp [idx t]; omega

/-! What the call is handed, as functions of the arguments. -/

/-- The rows of the latent stream, then those of the context. -/
def join (x : FVec Ideal S2x2048x1024 .f32) (y : FVec Ideal S2x256x1024 .f32) : FVec Ideal S4608x1024 .f32 :=
  concatenate S4608x1024 0 [⟨S4096x1024, shapeCast S4096x1024 x shapeCasts_S2x2048x1024_S4096x1024⟩, ⟨S512x1024, shapeCast S512x1024 y shapeCasts_S2x256x1024_S512x1024⟩] concatenates_S4096x1024_S512x1024_S4608x1024_d0
/-- The modulation of the two sequences and of the context. -/
def mods (x : FVec Ideal S2x9x1024 .f32) (y : FVec Ideal S1x9x1024 .f32) : FVec Ideal S3x9x1024 .f32 :=
  concatenate S3x9x1024 0 [⟨S2x9x1024, x⟩, ⟨S1x9x1024, y⟩] concatenates_S2x9x1024_S1x9x1024_S3x9x1024_d0
def weight (x : FVec Ideal S1024x1024 .f32) : FVec Ideal S1x1024x1024 .bf16 :=
  truncf .bf16 (broadcastInDim S1x1024x1024 ![1, 2] bcast_S1024x1024_S1x1024x1024_1_2 x) bitsLt_bf16_f32

/-- The product of the forward pass, narrowed. -/
def saved (x : FVec Ideal S4608x1024 .f32) (w : FVec Ideal S1024x1024 .f32) : FVec Ideal S4608x1024 .bf16 :=
  truncf .bf16 (Host.dotGeneral dot_S4608x1024_S1024x1024_S4608x1024_1_0_0_1_n_n none x w) bitsLt_bf16_f32
theorem weight_at (x) (k d : Fin 1024) : weight x (ix3 0 k d) = x (ix2 k d) := by pointwise [weight]
theorem saved_at (x w) (r : Fin 4608) (d : Fin 1024) : saved x w (ix2 r d) = ∑ k : Fin 1024, x (ix2 r k) * w (ix2 k d) := by
  pointwise [saved]

/-- The arrays of the call from the arguments. -/
def ofArgs (x0 : FVec Ideal S2x2048x1024 .f32) (x1 : FVec Ideal S2x256x1024 .f32) (x2 : FVec Ideal S2x2048x1024 .f32) (x3 : FVec Ideal S2x256x1024 .f32)
    (x4 : FVec Ideal S2x9x1024 .f32) (x5 : FVec Ideal S1x9x1024 .f32) (x6 : FVec Ideal S1024x1024 .f32) : Arrs where
  DH := join x2 x3
  Y := saved (join x0 x1) x6
  W := weight x6
  M := mods x4 x5

section
variable (c : Dev nD)
theorem hostDH : V m c main_v5 = join (m ((c : Thread nD τ).loc main_arg2)) (m ((c : Thread nD τ).loc main_arg3)) := by
  unfold V; entry_read; rfl
theorem hostY : V m c main_v7 = saved (join (m ((c : Thread nD τ).loc main_arg0)) (m ((c : Thread nD τ).loc main_arg1))) (m ((c : Thread nD τ).loc main_arg6)) := by
  unfold V; entry_read; rfl
theorem hostM : V m c main_v10 = mods (m ((c : Thread nD τ).loc main_arg4)) (m ((c : Thread nD τ).loc main_arg5)) := by
  unfold V; entry_read; rfl
theorem hostW : V m c main_v9 = weight (m ((c : Thread nD τ).loc main_arg6)) := by
  unfold V; entry_read; rfl
theorem arrs_eq : arrs m c = ofArgs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  unfold arrs ofArgs
  rw [hostDH, hostY, hostM, hostW]
end

/-! The reference over the same arrays. -/
section
open Cert.ROubIdeal.Read
theorem lt_blk (i : Fin 9) : i.val / 4 < 3 := by omega
theorem grp_brow (i : Fin 9) (a : Fin 512) : grp (brow i a) = ⟨i.val / 4, lt_blk i⟩ := by unfold grp brow; apply Fin.ext; simp only; omega
theorem join_z (x y) (i : Fin 9) (a : Fin 512) (d : Fin 1024) : join x y (ix2 (brow i a) d) = val_main_v2 (F := Ideal) x y (ix3 i a d) := by
  unfold brow
  pointwise [join, val_main_v2, val_main_v1, val_main_v0]
  by_cases h : i.val < 8
  · rw [dif_pos (by omega), dif_pos (by omega)]; blk_ext
  · rw [dif_neg (by omega), dif_neg (by omega)]; blk_ext
theorem join_dh (x y) (i : Fin 9) (a : Fin 512) (d : Fin 1024) : join x y (ix2 (brow i a) d) = val_main_v5 (F := Ideal) x y (ix3 i a d) := join_z x y i a d
theorem mod5 (x4 x5) (i : Fin 9) (a : Fin 512) (d : Fin 1024) : mods x4 x5 (ix3 (grp (brow i a)) 5 d) = val_main_v10 (F := Ideal) x4 x5 (ix3 i 0 d) := by
  rw [grp_brow]
  pointwise [mods, val_main_v10, val_main_v9, val_main_v8, val_main_v7, val_main_v6]
  by_cases h : i.val < 8
  · rw [dif_pos (by omega), dif_pos (by omega)]
  · rw [dif_neg (by omega), dif_neg (by omega)]; blk_ext

variable (x0 : FVec Ideal S2x2048x1024 .f32) (x1 : FVec Ideal S2x256x1024 .f32) (x2 : FVec Ideal S2x2048x1024 .f32) (x3 : FVec Ideal S2x256x1024 .f32)
    (x4 : FVec Ideal S2x9x1024 .f32) (x5 : FVec Ideal S1x9x1024 .f32) (x6 : FVec Ideal S1024x1024 .f32) (i : Fin 9) (a : Fin 512)

theorem ref_dy (d : Fin 1024) : val_main_v15 (F := Ideal) x2 x3 x4 x5 (ix3 i a d) = (ofArgs x0 x1 x2 x3 x4 x5 x6).dy (brow i a) d := by
  simp only [Arrs.dy, ofArgs, join_dh, mod5]
  pointwise [val_main_v15, val_main_v14]
theorem ref_dz (d : Fin 1024) : val_main_v19 (F := Ideal) x2 x3 x4 x5 x6 (ix3 i a d) = (ofArgs x0 x1 x2 x3 x4 x5 x6).dz (brow i a) d := by
  simp only [Arrs.dz, ← ref_dy]
  simp only [ofArgs, weight_at]
  pointwise [val_main_v19]
theorem ref_y (d : Fin 1024) : val_main_v11 (F := Ideal) x0 x1 x6 (ix3 i a d) = (ofArgs x0 x1 x2 x3 x4 x5 x6).Y (ix2 (brow i a) d) := by
  simp only [ofArgs, saved_at, join_z]
  pointwise [val_main_v11]
theorem ref_sums (k : Fin 8) (d : Fin 1024) : val_main_v22 (F := Ideal) x0 x1 x2 x3 x6 (ix3 i k d) = (ofArgs x0 x1 x2 x3 x4 x5 x6).sums i k.val d := by
  unfold Arrs.sums
  pointwise [val_main_v22]
  by_cases h0 : k.val < 2
  · refine (dif_pos h0).trans ?_
    rw [if_neg (show ¬k.val = 2 by omega)]
    pointwise [val_main_v20, val_main_cst_0]
  refine (dif_neg h0).trans ?_
  by_cases h2 : k.val = 2
  · refine (dif_pos (show k.val - 2 < 1 by omega)).trans ?_
    rw [if_pos h2]
    pointwise [val_main_v18, val_main_v17, val_main_v16, val_main_cst]
    refine Finset.sum_congr rfl fun a _ => ?_
    rw [ref_y x0 x1 x2 x3 x4 x5 x6, ← join_dh]; rfl
  · refine (dif_neg (show ¬k.val - 2 < 1 by omega)).trans ?_
    rw [if_neg h2]
    pointwise [val_main_v21, val_main_cst_1]

theorem lt_q (r : Fin 4608) : r.val / 512 < 9 := by omega
theorem lt_m (r : Fin 4608) : r.val % 512 < 512 := by omega
theorem brow_split (r : Fin 4608) : brow ⟨r.val / 512, lt_q r⟩ ⟨r.val % 512, lt_m r⟩ = r := by
  unfold brow; apply Fin.ext; simp only; omega
theorem rows_eq {A B : FVec Ideal S4608x1024 .f32} (h : ∀ i a d, A (ix2 (brow i a) d) = B (ix2 (brow i a) d)) : A = B := by
  funext j
  rw [eq_ix2 j, ← brow_split (j 0)]
  exact h _ _ _
theorem flat_dy (d : Fin 1024) : val_main_v25 (F := Ideal) x2 x3 x4 x5 (ix2 (brow i a) d) = val_main_v15 (F := Ideal) x2 x3 x4 x5 (ix3 i a d) := by
  unfold brow
  pointwise [val_main_v25, val_main_v24, val_main_v23, val_main_v15, val_main_v14]
theorem flat_dz (d : Fin 1024) : val_main_v27 (F := Ideal) x2 x3 x4 x5 x6 (ix2 (brow i a) d) = val_main_v19 (F := Ideal) x2 x3 x4 x5 x6 (ix3 i a d) := by
  unfold brow
  pointwise [val_main_v27]
theorem res_dy : val_main_v26 (F := Ideal) x2 x3 x4 x5 = (ofArgs x0 x1 x2 x3 x4 x5 x6).outDy :=
  rows_eq (A := val_main_v25 (F := Ideal) x2 x3 x4 x5) (B := (ofArgs x0 x1 x2 x3 x4 x5 x6).outDy) fun i a d => (flat_dy x2 x3 x4 x5 i a d).trans (ref_dy x0 x1 x2 x3 x4 x5 x6 i a d)
theorem res_dz : val_main_v27 (F := Ideal) x2 x3 x4 x5 x6 = (ofArgs x0 x1 x2 x3 x4 x5 x6).outDz :=
  rows_eq fun i a d => (flat_dz x2 x3 x4 x5 x6 i a d).trans (ref_dz x0 x1 x2 x3 x4 x5 x6 i a d)
theorem res_sums : val_main_v22 (F := Ideal) x0 x1 x2 x3 x6 = (ofArgs x0 x1 x2 x3 x4 x5 x6).outSums := by
  funext j
  rw [eq_ix3 j]
  exact ref_sums x0 x1 x2 x3 x4 x5 x6 (j 0) (j 1) (j 2)
end

/-- The three results of the kernel are those of the reference. -/
theorem algebraic : Cert.algebraic_KOubIdeal_ROubIdeal := by
  intro m g m' g' hpre hagree
  refine ⟨fun c => (arrs m c).outDy, fun c => (arrs m c).outDz, fun c => (arrs m c).outSums, ?_, ?_⟩
  · exact θ_run_mono (θ_run_and (Cert.KOubIdeal.Gen.run_main m g) (Cert.KOubIdeal.Gen.unchanged m g)) fun r h c =>
      ⟨((h.1 c).1 4).trans (final4 m c), ((h.1 c).1 5).trans (final5 m c), ((h.1 c).1 6).trans (final6 m c), h.2 c⟩
  · refine θ_run_mono (Cert.ROubIdeal.Value.run m' g') fun r h c => ⟨(h c).1.trans ?_, (h c).2.1.trans ?_, (h c).2.2.1.trans ?_, (h c).2.2.2⟩
    · refine (Cert.ROubIdeal.Read.val_main_v26_eq (m' (c.tc.loc Cert.ROubIdeal.main_arg2)) (m' (c.tc.loc Cert.ROubIdeal.main_arg3)) (m' (c.tc.loc Cert.ROubIdeal.main_arg4)) (m' (c.tc.loc Cert.ROubIdeal.main_arg5))).trans ?_
      show _ = (arrs m c).outDy
      rw [arrs_eq, (hagree c).2.2.1, (hagree c).2.2.2.1, (hagree c).2.2.2.2.1, (hagree c).2.2.2.2.2.1]
      exact res_dy _ _ _ _ _ _ _
    · refine (Cert.ROubIdeal.Read.val_main_v27_eq (m' (c.tc.loc Cert.ROubIdeal.main_arg2)) (m' (c.tc.loc Cert.ROubIdeal.main_arg3)) (m' (c.tc.loc Cert.ROubIdeal.main_arg4)) (m' (c.tc.loc Cert.ROubIdeal.main_arg5)) (m' (c.tc.loc Cert.ROubIdeal.main_arg6))).trans ?_
      show _ = (arrs m c).outDz
      rw [arrs_eq, (hagree c).2.2.1, (hagree c).2.2.2.1, (hagree c).2.2.2.2.1, (hagree c).2.2.2.2.2.1, (hagree c).2.2.2.2.2.2]
      exact res_dz _ _ _ _ _ _ _
    · refine (Cert.ROubIdeal.Read.val_main_v22_eq (m' (c.tc.loc Cert.ROubIdeal.main_arg0)) (m' (c.tc.loc Cert.ROubIdeal.main_arg1)) (m' (c.tc.loc Cert.ROubIdeal.main_arg2)) (m' (c.tc.loc Cert.ROubIdeal.main_arg3)) (m' (c.tc.loc Cert.ROubIdeal.main_arg6))).trans ?_
      show _ = (arrs m c).outSums
      rw [arrs_eq, (hagree c).1, (hagree c).2.1, (hagree c).2.2.1, (hagree c).2.2.2.1, (hagree c).2.2.2.2.2.2]
      exact res_sums _ _ _ _ _ _ _

end Cert.KOubIdeal.Rows
-- ==== Proof.GwoValue.lean ====
module

public import proofs.«01_k».proof.Proof.Gen.KGwoIdeal.Frame
public import proofs.«01_k».proof.Proof.Gen.RGwoIdeal.Read
public import proofs.«01_k».proof.Defs
public import Idealize.ShloMosaic.Lib.Pipeline.ValueKit
public import Idealize.ShloMosaic.Lib.Pipeline.ReadBack
public import Idealize.ShloMosaic.Lib.Claim

/-! The weight gradient of the projection out of a mixer, summed over three tiles of 1536 rows, against the whole contraction over 4608 rows. -/

@[expose] public section
set_option maxRecDepth 16384
noncomputable section
open Idealize.ShloMosaic Idealize.ShloMosaic.TcCoe Idealize.SL.Sem
open Idealize.ShloMosaic.Pipeline (Dat)
namespace Cert.KGwoIdeal.Tiles
open Cert.KGwoIdeal Cert.KGwoIdeal.Gen
variable (m : (ℓ : Loc nD τ sig) → Buf (Elt Ideal) ℓ)

/-- The block index of every window at every grid point. -/
theorem idx : ∀ t : Fin cfg0.N, win0_0.index t = ![t.val % 3, 0]
    ∧ win0_1.index t = ![t.val % 3, 0] ∧ win0_2.index t = ![0, 0, 0] ∧ t.val < 3 :=
  (by decide +kernel : ∀ t : Fin grid0.N, _)

/-- The accumulator starts at zero. -/
theorem zero_at (j) : k0_pay1 (F := Ideal) j = 0 := by pointwise [k0_pay1]

/-- One step adds the product of one tile of rows. -/
theorem step_at (x : Vec Ideal S1536x1024 .bf16) (acc : Vec Ideal S1024x1024 .f32) (y : Vec Ideal S1536x1024 .bf16) (j) :
    k0_pay2 (F := Ideal) x acc y j = acc j + ∑ k : Fin 1536, x (ix2 k (j 0)) * y (ix2 k (j 1)) := by
  pointwise [k0_pay2]

/-- The stored block is the accumulator. -/
theorem store_at (acc : Vec Ideal S1024x1024 .f32) (j) :
    k0_pay3 (F := Ideal) acc j = acc (ix2 (j 1) (j 2)) := by
  pointwise [k0_pay3]

/-- What the reference returns. -/
def ref (z ct : FVec Ideal S4608x1024 .f32) : FVec Ideal S1x1024x1024 .bf16 :=
  Cert.RGwoIdeal.Read.val_main_v5 (F := Ideal) z ct

/-- The reference at an index: the contraction over all rows. -/
theorem ref_at (z ct : FVec Ideal S4608x1024 .f32) (s : Fin 1) (f d : Fin 1024) :
    ref z ct (ix3 s f d) = ∑ r : Fin 4608, z (ix2 r f) * ct (ix2 r d) := by
  have h : ref z ct (ix3 s f d) = ∑ r : Fin 4608, ct (ix2 r d) * z (ix2 r f) := by
    unfold ref
    pointwise [Cert.RGwoIdeal.Read.val_main_v5, Cert.RGwoIdeal.Read.val_main_v4, Cert.RGwoIdeal.Read.val_main_v3, Cert.RGwoIdeal.Read.val_main_v2]
  rw [h]
  exact Finset.sum_congr rfl fun r _ => mul_comm _ _

/-- The array written back is the reference's. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t hf y => ?_
  blk_simp
  have hm := (flush0_2 t).mp hf
  have ho : (outsAt0 m c t.val t.isLt).1 y = (outsAt0 m c t.val t.isLt).2 (ix2 (y 1) (y 2)) := by
    rw [outsAt0_C m c t (by omega) hm]; frame_out; rw [store_at]
  rw [after0_2, ho, Pipeline.eq_sum_fin_of_reset_step_apply_of_flush (fun n h => (outsAt0 m c n h).2) 3 (fun _ => 0) _
    (fun t h j => by rw [outsAt0_A m c t h (by omega)]; frame_out; rw [step_at, zero_at])
    (fun t h j => by
      by_cases h1 : t.val % 3 = 2
      · rw [outsAt0_C m c t h h1]; frame_out; rw [step_at]; exact Ideal.add_congr (congrFun (Memref.IsWhole.read_unread _ _) j) rfl
      · rw [outsAt0_B m c t h h1]; frame_out; rw [step_at]; exact Ideal.add_congr (congrFun (Memref.IsWhole.read_unread _ _) j) rfl)
    t hm _, zero_add]
  rw [eq_ix3 ((win0_2.blk t).view.emb y)]
  refine Eq.trans ?_ (ref_at _ _ _ _ _).symm
  refine Fin.sum_mul_add_congr fun s k hl => ?_
  blk_point [iblk, V, idx t, idx ⟨_, Pipeline.run_point_lt_of_flush t ((flush0_2 t).mp hf) s⟩]

/-- Both programs end with the same array. -/
theorem algebraic : Cert.algebraic_KGwoIdeal_RGwoIdeal := by
  intro m g m' g' hpre hagree
  refine ⟨fun c => ref (m ((c : Thread nD τ).loc main_arg0)) (m ((c : Thread nD τ).loc main_arg1)), ?_, ?_⟩
  · exact θ_run_mono (θ_run_and (Cert.KGwoIdeal.Gen.run_main m g) (Cert.KGwoIdeal.Gen.unchanged m g)) fun r h c =>
      ⟨((h.1 c).1 2).trans (final m c), h.2 c⟩
  · refine θ_run_mono (Cert.RGwoIdeal.Value.run m' g') fun r h c => ⟨(h c).1.trans ?_, (h c).2⟩
    refine (Cert.RGwoIdeal.Read.val_main_v5_eq _ _).trans ?_
    show ref (m' (c.tc.loc Cert.RGwoIdeal.main_arg0)) (m' (c.tc.loc Cert.RGwoIdeal.main_arg1)) = _
    rw [(hagree c).1, (hagree c).2]

end Cert.KGwoIdeal.Tiles
-- ==== Proof.SciValue.lean ====
module

public import proofs.«01_k».proof.Proof.Gen.KSciIdeal.Frame
public import Idealize.ShloMosaic.Lib.Pipeline.ValueKit
public import Idealize.ShloMosaic.Lib.Pipeline.ReadBack
public import Idealize.ShloMosaic.Lib.Claim

/-! The projection in: the rows are normed and modulated, and their product with the weight is written in three pieces of four column blocks each. -/

@[expose] public section
set_option maxRecDepth 16384
noncomputable section
open Idealize.ShloMosaic Idealize.ShloMosaic.TcCoe Idealize.SL.Sem
open Idealize.ShloMosaic.Pipeline (Dat)
namespace Cert.KSciIdeal.Rows
open Cert.KSciIdeal Cert.KSciIdeal.Gen

/-- One over the number of lanes. -/
abbrev inv : EReal := Scalar.ofBits (F := Ideal) .f32 0x3A800000#32
/-- The small constant of the norm. -/
abbrev eps : EReal := Scalar.ofBits (F := Ideal) .f32 0x358637BD#32

theorem hn_at (h : Vec Ideal S512x1024 .f32) (g : Vec Ideal S1x1024 .f32) (p q : Vec Ideal S1x1x1024 .f32) (r : Fin 512) (d : Fin 1024) :
    k0_pay2 (F := Ideal) h g p q (ix2 r d)
      = h (ix2 r d) * Ideal.rsqrt ((∑ d : Fin 1024, h (ix2 r d) * h (ix2 r d)) * inv + eps) * g (ix2 0 d) * (1 + q (ix3 0 0 d)) + p (ix3 0 0 d) := by
  pointwise [k0_pay2]
theorem store_0 (x : Vec Ideal S512x1024 .bf16) (w : Vec Ideal S1x1x1024x256 .bf16) (z : Fin 1) (r : Fin 512) (f : Fin 256) :
    k0_pay3 (F := Ideal) x w (ix3 z r f) = ∑ k : Fin 1024, x (ix2 r k) * w (ix4 0 0 k f) := by
  pointwise [k0_pay3]
theorem store_1 (x : Vec Ideal S512x1024 .bf16) (w : Vec Ideal S1x1x1024x256 .bf16) (z : Fin 1) (r : Fin 512) (f : Fin 256) :
    k0_pay4 (F := Ideal) x w (ix3 z r f) = ∑ k : Fin 1024, x (ix2 r k) * w (ix4 0 0 k f) := by
  pointwise [k0_pay4]
theorem store_2 (x : Vec Ideal S512x1024 .bf16) (w : Vec Ideal S1x1x1024x256 .bf16) (z : Fin 1) (r : Fin 512) (f : Fin 256) :
    k0_pay1 (F := Ideal) (k0_pay5 x w) (ix3 z r f) = ∑ k : Fin 1024, x (ix2 r k) * w (ix4 0 0 k f) := by
  pointwise [k0_pay1, k0_pay5]

/-- The stream a row belongs to: the two sequences of the batch, then the context. -/
def grp (r : Fin 4608) : Fin 3 := ⟨r.val / 2048, by omega⟩
theorem lt_sl (s : Fin 3) (d : Fin 1024) : (4 * s.val + d.val / 256) / 3 < 4 := by omega
theorem lt_ln (s : Fin 3) (d : Fin 1024) : (4 * s.val + d.val / 256) % 3 * 256 + d.val % 256 < 768 := by omega
/-- The slot and the lane of column `d` of piece `s` of the weight. -/
def sl (s : Fin 3) (d : Fin 1024) : Fin 4 := ⟨(4 * s.val + d.val / 256) / 3, lt_sl s d⟩
def ln (s : Fin 3) (d : Fin 1024) : Fin 768 := ⟨(4 * s.val + d.val / 256) % 3 * 256 + d.val % 256, lt_ln s d⟩

/-- The arrays the call reads. -/
structure Arrs where
  H : FVec Ideal S4608x1024 .f32
  M : FVec Ideal S3x9x1024 .f32
  G : FVec Ideal S1x1024 .f32
  W : FVec Ideal S4x1x1024x768 .bf16

namespace Arrs
variable (X : Arrs)
/-- The normed and modulated row. -/
def hn (r : Fin 4608) (d : Fin 1024) : EReal :=
  X.H (ix2 r d) * Ideal.rsqrt ((∑ d : Fin 1024, X.H (ix2 r d) * X.H (ix2 r d)) * inv + eps) * X.G (ix2 0 d) * (1 + X.M (ix3 (grp r) 4 d)) + X.M (ix3 (grp r) 3 d)
/-- One piece of the product. -/
def p (s : Fin 3) (r : Fin 4608) (d : Fin 1024) : EReal := ∑ k : Fin 1024, X.hn r k * X.W (ix4 (sl s d) 0 k (ln s d))
def outP : FVec Ideal S3x4608x1024 .f32 := fun j => X.p (j 0) (j 1) (j 2)
def outN : FVec Ideal S4608x1024 .bf16 := fun j => X.hn (j 0) (j 1)
end Arrs

section
variable (X : Arrs) {R : Fin 4608}
theorem hn_row {h : Vec Ideal S512x1024 .f32} {g : Vec Ideal S1x1024 .f32} {p q : Vec Ideal S1x1x1024 .f32} {r : Fin 512}
    (hh : ∀ d, h (ix2 r d) = X.H (ix2 R d)) (hg : ∀ d, g (ix2 0 d) = X.G (ix2 0 d)) (hp : ∀ d, p (ix3 0 0 d) = X.M (ix3 (grp R) 3 d))
    (hq : ∀ d, q (ix3 0 0 d) = X.M (ix3 (grp R) 4 d)) (d : Fin 1024) : k0_pay2 (F := Ideal) h g p q (ix2 r d) = X.hn R d := by
  rw [hn_at]; simp only [hh, hg, hp, hq]; rfl
theorem p_row {x : Vec Ideal S512x1024 .bf16} {w : Vec Ideal S1x1x1024x256 .bf16} {r : Fin 512} {s : Fin 3} {f : Fin 256} {d : Fin 1024} (hx : ∀ d, x (ix2 r d) = X.hn R d)
    (hw : ∀ k, w (ix4 0 0 k f) = X.W (ix4 (sl s d) 0 k (ln s d))) : (∑ k : Fin 1024, x (ix2 r k) * w (ix4 0 0 k f)) = X.p s R d :=
  Finset.sum_congr rfl fun d _ => by rw [hx, hw]
end

variable (m : (ℓ : Loc nD τ sig) → Buf (Elt Ideal) ℓ)

/-- The arrays the call reads. -/
def arrs (c : Dev nD) : Arrs where
  H := V m c main_v2
  M := V m c main_v7
  G := V m c main_v8
  W := V m c main_v6

theorem idx : ∀ t : Fin cfg0.N, win0_0.index t = ![t.val / 4, 0] ∧ win0_1.index t = ![t.val / 16, 0, 0] ∧ win0_2.index t = ![0, 0]
    ∧ win0_3.index t = ![t.val % 4 / 3, 0, 0, t.val % 4 % 3] ∧ win0_4.index t = ![(4 + t.val % 4) / 3, 0, 0, (4 + t.val % 4) % 3]
    ∧ win0_5.index t = ![(8 + t.val % 4) / 3, 0, 0, (8 + t.val % 4) % 3]
    ∧ win0_6.index t = ![0, t.val / 4, t.val % 4] ∧ win0_7.index t = ![t.val / 4, 0] ∧ t.val < 36 :=
  (by decide +kernel : ∀ t : Fin grid0.N, _)
theorem lt (t : Fin cfg0.N) : t.val < 36 := (idx t).2.2.2.2.2.2.2.2
/-- The row of the whole array at row `a` of point `t`'s block. -/
def row (t : Fin cfg0.N) (a : Fin 512) : Fin 4608 := ⟨t.val / 4 * 512 + a.val, by have := lt t; omega⟩
theorem lt_lane (t : Fin cfg0.N) (f : Fin 256) : t.val % 4 * 256 + f.val < 1024 := by omega
/-- The column of a piece at lane `f` of point `t`'s block. -/
def lane (t : Fin cfg0.N) (f : Fin 256) : Fin 1024 := ⟨t.val % 4 * 256 + f.val, lt_lane t f⟩
theorem lt_sl' (s : Fin 3) (t : Fin cfg0.N) : (4 * s.val + t.val % 4) / 3 < 4 := by omega
theorem lt_ln' (s : Fin 3) (t : Fin cfg0.N) (f : Fin 256) : (4 * s.val + t.val % 4) % 3 * 256 + f.val < 768 := by omega
theorem sl_lane (s : Fin 3) (t : Fin cfg0.N) (f : Fin 256) : sl s (lane t f) = ⟨(4 * s.val + t.val % 4) / 3, lt_sl' s t⟩ := by
  apply Fin.ext; simp only [sl, lane]; omega
theorem ln_lane (s : Fin 3) (t : Fin cfg0.N) (f : Fin 256) : ln s (lane t f) = ⟨(4 * s.val + t.val % 4) % 3 * 256 + f.val, lt_ln' s t f⟩ := by
  apply Fin.ext; simp only [ln, lane]; omega
theorem grp_row (t : Fin cfg0.N) (a : Fin 512) : grp (row t a) = ⟨t.val / 16, by have := lt t; omega⟩ := by
  apply Fin.ext; simp only [grp, row]; omega

section
variable (c : Dev nD) (t : Fin cfg0.N)
theorem blk0 (a : Fin 512) (d : Fin 1024) : iblk m c 0 t (ix2 a d) = (arrs m c).H (ix2 (row t a) d) := by
  unfold row; simp only [arrs]; blk_ext [iblk, idx t]
theorem blk1 (a : Fin 512) (k : Fin 9) (d : Fin 1024) : iblk m c 1 t (ix3 0 k d) = (arrs m c).M (ix3 (grp (row t a)) k d) := by
  rw [grp_row]; simp only [arrs]; blk_ext [iblk, idx t]
theorem blk2 (d : Fin 1024) : iblk m c 2 t (ix2 0 d) = (arrs m c).G (ix2 0 d) := by
  simp only [arrs]; blk_ext [iblk, idx t]
theorem blk3 (k : Fin 1024) (f : Fin 256) : iblk m c 3 t (ix4 0 0 k f) = (arrs m c).W (ix4 (sl 0 (lane t f)) 0 k (ln 0 (lane t f))) := by
  rw [sl_lane, ln_lane]; simp only [arrs]; blk_ext [iblk, idx t]
theorem blk4 (k : Fin 1024) (f : Fin 256) : iblk m c 4 t (ix4 0 0 k f) = (arrs m c).W (ix4 (sl 1 (lane t f)) 0 k (ln 1 (lane t f))) := by
  rw [sl_lane, ln_lane]; simp only [arrs]; blk_ext [iblk, idx t]
theorem blk5 (k : Fin 1024) (f : Fin 256) : iblk m c 5 t (ix4 0 0 k f) = (arrs m c).W (ix4 (sl 2 (lane t f)) 0 k (ln 2 (lane t f))) := by
  rw [sl_lane, ln_lane]; simp only [arrs]; blk_ext [iblk, idx t]
theorem shift_blk (a : Fin 512) (d : Fin 1024) : View.ld (iblk m c 1 t) (Rect.unit ![0, 3, 0] ![1, 1, 1024] inb_S1x9x1024_S1x1x1024_0_3_0) (ix3 0 0 d)
    = (arrs m c).M (ix3 (grp (row t a)) 3 d) := by
  refine Eq.trans ?_ (blk1 m c t a 3 d); pointwise
theorem scale_blk (a : Fin 512) (d : Fin 1024) : View.ld (iblk m c 1 t) (Rect.unit ![0, 4, 0] ![1, 1, 1024] inb_S1x9x1024_S1x1x1024_0_4_0) (ix3 0 0 d)
    = (arrs m c).M (ix3 (grp (row t a)) 4 d) := by
  refine Eq.trans ?_ (blk1 m c t a 4 d); pointwise
/-- The normed rows at the first point of a block. -/
theorem hn_new (a : Fin 512) (d : Fin 1024) :
    k0_pay2 (F := Ideal) (iblk m c 0 t) (iblk m c 2 t) (View.ld (iblk m c 1 t) (Rect.unit ![0, 3, 0] ![1, 1, 1024] inb_S1x9x1024_S1x1x1024_0_3_0))
      (View.ld (iblk m c 1 t) (Rect.unit ![0, 4, 0] ![1, 1, 1024] inb_S1x9x1024_S1x1x1024_0_4_0)) (ix2 a d) = (arrs m c).hn (row t a) d :=
  hn_row (arrs m c) (blk0 m c t a) (blk2 m c t) (shift_blk m c t a) (scale_blk m c t a) d
theorem hn_start (h0 : t.val % 4 = 0) (y : S512x1024.Idx) : (outsAt0 m c t.val t.isLt).2.2 y = (arrs m c).hn (row t (y 0)) (y 1) := by
  rw [outsAt0_A m c t h0 (by omega)]; frame_out
  idx_vars y
  exact hn_new m c t y0 y1
end

theorem hn_all (c : Dev nD) : ∀ (n : ℕ) (h : n < cfg0.N) (y : S512x1024.Idx),
    (outsAt0 m c n h).2.2 y = (arrs m c).hn (row ⟨n, h⟩ (y 0)) (y 1) := by
  intro n
  induction n with
  | zero => exact fun h y => hn_start m c ⟨0, h⟩ rfl y
  | succ n ih =>
    intro h y
    by_cases h0 : (n + 1) % 4 = 0
    · exact hn_start m c ⟨n + 1, h⟩ h0 y
    · have hr : row ⟨n + 1, h⟩ (y 0) = row ⟨n, Nat.lt_of_succ_lt h⟩ (y 0) := by
        apply Fin.ext; simp only [row]; omega
      rw [hr]
      refine Eq.trans ?_ (ih (Nat.lt_of_succ_lt h) y)
      by_cases h1 : (n + 1) % 4 = 3
      · rw [outsAt0_C m c ⟨n + 1, h⟩ h0 h1]; frame_out
        rfl
      · rw [outsAt0_B m c ⟨n + 1, h⟩ h0 h1]; frame_out
        rfl

/-- The normed rows held after a point that is not the first of its block: the ones before. -/
theorem hn_before (c : Dev nD) (t : Fin cfg0.N) (h0 : ¬t.val % 4 = 0) (a : Fin 512) (d : Fin 1024) :
    (outsAt0 m c (t.val - 1) (by have := t.isLt; omega)).2.2 (ix2 a d) = (arrs m c).hn (row t a) d := by
  refine (hn_all m c (t.val - 1) _ _).trans ?_
  refine congrArg (fun r => (arrs m c).hn r d) (Fin.ext ?_)
  simp only [row]
  show (t.val - 1) / 4 * 512 + a.val = _
  omega

theorem app3 {a b e : ℕ} (f : Fin a → Fin b → Fin e → EReal) {i i' : Fin a} {j j' : Fin b} {k k' : Fin e} (hi : i.val = i'.val) (hj : j.val = j'.val) (hk : k.val = k'.val) :
    f i j k = f i' j' k' := by rw [Fin.ext hi, Fin.ext hj, Fin.ext hk]
theorem app2 {a b : ℕ} (f : Fin a → Fin b → EReal) {i i' : Fin a} {j j' : Fin b} (hi : i.val = i'.val) (hj : j.val = j'.val) :
    f i j = f i' j' := by rw [Fin.ext hi, Fin.ext hj]

/-- The three pieces a point writes. -/
theorem p_pt (c : Dev nD) (t : Fin cfg0.N) (y : S3x512x256.Idx) : (outsAt0 m c t.val t.isLt).1 y = (arrs m c).p (y 0) (row t (y 1)) (lane t (y 2)) := by
  by_cases hz : t.val % 4 = 0
  · rw [outsAt0_A m c t hz (by omega)]; frame_out
    canon_tiles x h using (View.cover_of_tiledBy _ ![1, 512, 256] (by sl_kernel_rfl) y)
    · idx_vars x
      refine Eq.trans (b := (arrs m c).p 2 (row t x1) (lane t x2)) ((store_2 _ _ _ _ _).trans (p_row (arrs m c) (hn_new m c t x1) (blk5 m c t · x2))) ?_
      exact app3 (arrs m c).p (by show 2 = (y 0).val; omega) (congrArg (fun a => (row t a).val) (Fin.ext h1.symm)) (congrArg (fun f => (lane t f).val) (Fin.ext h2.symm))
    · idx_vars x
      refine Eq.trans (b := (arrs m c).p 1 (row t x1) (lane t x2)) ((store_1 _ _ _ _ _).trans (p_row (arrs m c) (hn_new m c t x1) (blk4 m c t · x2))) ?_
      exact app3 (arrs m c).p (by show 1 = (y 0).val; omega) (congrArg (fun a => (row t a).val) (Fin.ext h1.symm)) (congrArg (fun f => (lane t f).val) (Fin.ext h2.symm))
    · idx_vars x
      refine Eq.trans (b := (arrs m c).p 0 (row t x1) (lane t x2)) ((store_0 _ _ _ _ _).trans (p_row (arrs m c) (hn_new m c t x1) (blk3 m c t · x2))) ?_
      exact app3 (arrs m c).p (by show 0 = (y 0).val; omega) (congrArg (fun a => (row t a).val) (Fin.ext h1.symm)) (congrArg (fun f => (lane t f).val) (Fin.ext h2.symm))
  by_cases h3 : t.val % 4 = 3
  · rw [outsAt0_C m c t hz h3]; frame_out
    canon_tiles x h using (View.cover_of_tiledBy _ ![1, 512, 256] (by sl_kernel_rfl) y)
    · idx_vars x
      refine Eq.trans (b := (arrs m c).p 2 (row t x1) (lane t x2)) ((store_2 _ _ _ _ _).trans (p_row (arrs m c) (fun d => (congrFun (Memref.IsWhole.read_unread _ _) _).trans (hn_before m c t hz x1 d)) (blk5 m c t · x2))) ?_
      exact app3 (arrs m c).p (by show 2 = (y 0).val; omega) (congrArg (fun a => (row t a).val) (Fin.ext h1.symm)) (congrArg (fun f => (lane t f).val) (Fin.ext h2.symm))
    · idx_vars x
      refine Eq.trans (b := (arrs m c).p 1 (row t x1) (lane t x2)) ((store_1 _ _ _ _ _).trans (p_row (arrs m c) (fun d => (congrFun (Memref.IsWhole.read_unread _ _) _).trans (hn_before m c t hz x1 d)) (blk4 m c t · x2))) ?_
      exact app3 (arrs m c).p (by show 1 = (y 0).val; omega) (congrArg (fun a => (row t a).val) (Fin.ext h1.symm)) (congrArg (fun f => (lane t f).val) (Fin.ext h2.symm))
    · idx_vars x
      refine Eq.trans (b := (arrs m c).p 0 (row t x1) (lane t x2)) ((store_0 _ _ _ _ _).trans (p_row (arrs m c) (fun d => (congrFun (Memref.IsWhole.read_unread _ _) _).trans (hn_before m c t hz x1 d)) (blk3 m c t · x2))) ?_
      exact app3 (arrs m c).p (by show 0 = (y 0).val; omega) (congrArg (fun a => (row t a).val) (Fin.ext h1.symm)) (congrArg (fun f => (lane t f).val) (Fin.ext h2.symm))
  · rw [outsAt0_B m c t hz h3]; frame_out
    canon_tiles x h using (View.cover_of_tiledBy _ ![1, 512, 256] (by sl_kernel_rfl) y)
    · idx_vars x
      refine Eq.trans (b := (arrs m c).p 2 (row t x1) (lane t x2)) ((store_2 _ _ _ _ _).trans (p_row (arrs m c) (fun d => (congrFun (Memref.IsWhole.read_unread _ _) _).trans (hn_before m c t hz x1 d)) (blk5 m c t · x2))) ?_
      exact app3 (arrs m c).p (by show 2 = (y 0).val; omega) (congrArg (fun a => (row t a).val) (Fin.ext h1.symm)) (congrArg (fun f => (lane t f).val) (Fin.ext h2.symm))
    · idx_vars x
      refine Eq.trans (b := (arrs m c).p 1 (row t x1) (lane t x2)) ((store_1 _ _ _ _ _).trans (p_row (arrs m c) (fun d => (congrFun (Memref.IsWhole.read_unread _ _) _).trans (hn_before m c t hz x1 d)) (blk4 m c t · x2))) ?_
      exact app3 (arrs m c).p (by show 1 = (y 0).val; omega) (congrArg (fun a => (row t a).val) (Fin.ext h1.symm)) (congrArg (fun f => (lane t f).val) (Fin.ext h2.symm))
    · idx_vars x
      refine Eq.trans (b := (arrs m c).p 0 (row t x1) (lane t x2)) ((store_0 _ _ _ _ _).trans (p_row (arrs m c) (fun d => (congrFun (Memref.IsWhole.read_unread _ _) _).trans (hn_before m c t hz x1 d)) (blk3 m c t · x2))) ?_
      exact app3 (arrs m c).p (by show 0 = (y 0).val; omega) (congrArg (fun a => (row t a).val) (Fin.ext h1.symm)) (congrArg (fun f => (lane t f).val) (Fin.ext h2.symm))

theorem final6 (c : Dev nD) : (dats m 0 c).arrAt 6 (cfgs 0).N = (arrs m c).outP := by
  refine (dats m 0 c).arrAt_eq_of_covers 6 _ (by decide +kernel) fun t _ y => ?_
  blk_simp
  rw [after0_6]
  refine (p_pt m c t y).trans ?_
  exact app3 (arrs m c).p (by blk_simp [idx t]) (by show t.val / 4 * 512 + (y 1).val = _; blk_simp [idx t]) (by show t.val % 4 * 256 + (y 2).val = _; blk_simp [idx t])
theorem final7 (c : Dev nD) : (dats m 0 c).arrAt 7 (cfgs 0).N = (arrs m c).outN := by
  refine (dats m 0 c).arrAt_eq_of_covers 7 _ (by decide +kernel) fun t hf y => ?_
  blk_simp
  have h3 := (flush0_7 t).mp hf
  rw [after0_7]
  refine Eq.trans (b := (outsAt0 m c (t.val - 1) (by have := t.isLt; omega)).2.2 y) ?_ ?_
  · rw [outsAt0_C m c t (by omega) h3]; frame_out
    exact congrFun (Memref.IsWhole.read_unread _ _) y
  · refine ((congrArg _ (eq_ix2 y)).trans (hn_before m c t (by omega) (y 0) (y 1))).trans ?_
    exact app2 (arrs m c).hn (by show t.val / 4 * 512 + (y 0).val = _; blk_simp [idx t]) (by blk_simp [idx t])

end Cert.KSciIdeal.Rows
-- ==== Proof.Sci.lean ====
module

public import proofs.«01_k».proof.Proof.SciValue
public import proofs.«01_k».proof.Proof.Gen.RSciIdeal.Read
public import proofs.«01_k».proof.Proof.Reals
public import proofs.«01_k».proof.Defs

/-! The projection in: what the call is handed, the reference over the same arrays, and the two results. -/

@[expose] public section
set_option maxRecDepth 16384
noncomputable section
open Idealize.ShloMosaic Idealize.ShloMosaic.TcCoe Idealize.SL.Sem
open Idealize.ShloMosaic.Pipeline (Dat)
namespace Cert.KSciIdeal.Rows
open Cert.KSciIdeal Cert.KSciIdeal.Gen Cert.RSciIdeal.Read Cert.Reals

/-- The rows of the latent stream, then those of the context. -/
def join (x : FVec Ideal S2x2048x1024 .f32) (y : FVec Ideal S2x256x1024 .f32) : FVec Ideal S4608x1024 .f32 :=
  concatenate S4608x1024 0 [⟨S4096x1024, shapeCast S4096x1024 x shapeCasts_S2x2048x1024_S4096x1024⟩, ⟨S512x1024, shapeCast S512x1024 y shapeCasts_S2x256x1024_S512x1024⟩] concatenates_S4096x1024_S512x1024_S4608x1024_d0
/-- The modulation of the two sequences and of the context. -/
def mods (x : FVec Ideal S2x9x1024 .f32) (y : FVec Ideal S1x9x1024 .f32) : FVec Ideal S3x9x1024 .f32 :=
  concatenate S3x9x1024 0 [⟨S2x9x1024, x⟩, ⟨S1x9x1024, y⟩] concatenates_S2x9x1024_S1x9x1024_S3x9x1024_d0
/-- The weight, its columns in four slots. -/
def wts (x : FVec Ideal S1024x3072 .f32) : FVec Ideal S4x1x1024x768 .bf16 :=
  truncf .bf16 (broadcastInDim S4x1x1024x768 ![0, 2, 3] bcast_S4x1024x768_S4x1x1024x768_0_2_3 (transpose S4x1024x768 [1, 0, 2] (shapeCast S1024x4x768 x shapeCasts_S1024x3072_S1024x4x768) transposes_S1024x4x768_S4x1024x768_1_0_2)) bitsLt_bf16_f32

theorem lt_rx (b : Fin 2) (n : Fin 2048) : b.val * 2048 + n.val < 4608 := by omega
theorem lt_rc (b : Fin 2) (n : Fin 256) : 4096 + (b.val * 256 + n.val) < 4608 := by omega
/-- The row of position `n` of sequence `b` of the latent stream. -/
def rx (b : Fin 2) (n : Fin 2048) : Fin 4608 := ⟨b.val * 2048 + n.val, lt_rx b n⟩
/-- The row of position `n` of sequence `b` of the context. -/
def rc (b : Fin 2) (n : Fin 256) : Fin 4608 := ⟨4096 + (b.val * 256 + n.val), lt_rc b n⟩
theorem row_cases {P : Fin 4608 → Prop} (hx : ∀ b n, P (rx b n)) (hc : ∀ b n, P (rc b n)) (r : Fin 4608) : P r := by
  by_cases h : r.val < 4096
  · have e : rx ⟨r.val / 2048, by omega⟩ ⟨r.val % 2048, by omega⟩ = r := by apply Fin.ext; simp only [rx]; omega
    exact e ▸ hx _ _
  · have e : rc ⟨(r.val - 4096) / 256, by omega⟩ ⟨(r.val - 4096) % 256, by omega⟩ = r := by apply Fin.ext; simp only [rc]; omega
    exact e ▸ hc _ _
theorem join_x (x y) (b : Fin 2) (n : Fin 2048) (d : Fin 1024) : join x y (ix2 (rx b n) d) = x (ix3 b n d) := by
  unfold rx
  pointwise [join]
  rw [dif_pos (by omega)]
  blk_ext
theorem lt_low (r : Fin 512) : 4096 + r.val < 4608 := by omega
theorem low_at (A : FVec Ideal S4096x1024 .f32) (B : FVec Ideal S512x1024 .f32) (r : Fin 512) (d : Fin 1024) :
    concatenate S4608x1024 0 [⟨S4096x1024, A⟩, ⟨S512x1024, B⟩] concatenates_S4096x1024_S512x1024_S4608x1024_d0 (ix2 ⟨4096 + r.val, lt_low r⟩ d) = B (ix2 r d) := by
  pointwise
theorem lt_c (b : Fin 2) (n : Fin 256) : b.val * 256 + n.val < 512 := by omega
theorem ctx_at (y : FVec Ideal S2x256x1024 .f32) (b : Fin 2) (n : Fin 256) (d : Fin 1024) :
    shapeCast S512x1024 y shapeCasts_S2x256x1024_S512x1024 (ix2 ⟨b.val * 256 + n.val, lt_c b n⟩ d) = y (ix3 b n d) := by
  pointwise
theorem join_c (x y) (b : Fin 2) (n : Fin 256) (d : Fin 1024) : join x y (ix2 (rc b n) d) = y (ix3 b n d) :=
  (low_at _ _ ⟨b.val * 256 + n.val, lt_c b n⟩ d).trans (ctx_at y b n d)
theorem lt_col (s : Fin 3) (d : Fin 1024) : s.val * 1024 + d.val < 3072 := by omega
/-- Column `d` of piece `s`. -/
def col (s : Fin 3) (d : Fin 1024) : Fin 3072 := ⟨s.val * 1024 + d.val, lt_col s d⟩
theorem lt_wts (s : Fin 4) (e : Fin 768) : s.val * 768 + e.val < 3072 := by omega
theorem wts_read (x) (s : Fin 4) (k : Fin 1024) (e : Fin 768) : wts x (ix4 s 0 k e) = x (ix2 k ⟨s.val * 768 + e.val, lt_wts s e⟩) := by
  pointwise [wts]
theorem wts_at (x) (s : Fin 3) (k d : Fin 1024) : wts x (ix4 (sl s d) 0 k (ln s d)) = x (ix2 k (col s d)) := by
  refine (wts_read x _ _ _).trans (congrArg (fun e => x (ix2 k e)) (Fin.ext ?_))
  simp only [sl, ln, col]; omega
theorem lt_b (b : Fin 2) : b.val < 3 := by omega
theorem grp_x (b : Fin 2) (n : Fin 2048) : grp (rx b n) = ⟨b.val, lt_b b⟩ := by apply Fin.ext; simp only [grp, rx]; omega
theorem grp_c (b : Fin 2) (n : Fin 256) : grp (rc b n) = 2 := by apply Fin.ext; simp only [grp, rc]; show _ = 2; omega
theorem mods_x (x y) (b : Fin 2) (n : Fin 2048) (k : Fin 9) (d : Fin 1024) : mods x y (ix3 (grp (rx b n)) k d) = x (ix3 b k d) := by
  rw [grp_x]
  pointwise [mods]
theorem mods_c (x y) (b : Fin 2) (n : Fin 256) (k : Fin 9) (d : Fin 1024) : mods x y (ix3 (grp (rc b n)) k d) = y (ix3 0 k d) := by
  rw [grp_c]
  pointwise [mods]

/-- The arrays of the call from the arguments. -/
def ofArgs (x0 : FVec Ideal S2x2048x1024 .f32) (x1 : FVec Ideal S2x256x1024 .f32) (x2 : FVec Ideal S2x9x1024 .f32) (x3 : FVec Ideal S1x9x1024 .f32)
    (x4 : FVec Ideal S1024 .f32) (x5 : FVec Ideal S1024x3072 .f32) : Arrs where
  H := join x0 x1
  M := mods x2 x3
  G := shapeCast S1x1024 x4 shapeCasts_S1024_S1x1024
  W := wts x5

section
variable (m : (ℓ : Loc nD τ sig) → Buf (Elt Ideal) ℓ) (c : Dev nD)
theorem hostH : V m c main_v2 = join (m ((c : Thread nD τ).loc main_arg0)) (m ((c : Thread nD τ).loc main_arg1)) := by
  unfold V; entry_read; rfl
theorem hostM : V m c main_v7 = mods (m ((c : Thread nD τ).loc main_arg2)) (m ((c : Thread nD τ).loc main_arg3)) := by
  unfold V; entry_read; rfl
theorem hostG : V m c main_v8 = shapeCast S1x1024 (m ((c : Thread nD τ).loc main_arg4)) shapeCasts_S1024_S1x1024 := by
  unfold V; entry_read; rfl
theorem hostW : V m c main_v6 = wts (m ((c : Thread nD τ).loc main_arg5)) := by
  unfold V; entry_read; rfl
theorem arrs_eq : arrs m c = ofArgs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  unfold arrs ofArgs
  rw [hostH, hostM, hostG, hostW]
end

section
variable (x0 : FVec Ideal S2x2048x1024 .f32) (x1 : FVec Ideal S2x256x1024 .f32) (x2 : FVec Ideal S2x9x1024 .f32) (x3 : FVec Ideal S1x9x1024 .f32)
    (x4 : FVec Ideal S1024 .f32) (x5 : FVec Ideal S1024x3072 .f32)

theorem gain_at (d : Fin 1024) : shapeCast S1x1024 x4 shapeCasts_S1024_S1x1024 (ix2 0 d) = x4 (ix1 d) := by pointwise

/-! The latent stream. -/
section
variable (b : Fin 2) (n : Fin 2048)
theorem hn_x (d : Fin 1024) : val_main_v20 (F := Ideal) x0 x2 x4 (ix3 b n d) = (ofArgs x0 x1 x2 x3 x4 x5).hn (rx b n) d := by
  simp only [Arrs.hn, ofArgs, join_x, mods_x, gain_at]
  pointwise [val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  rw [bits_1024, Ideal.div_coe (by norm_num), ← bits_inv]
theorem all_x (s : Fin 3) (d : Fin 1024) : val_main_v21 (F := Ideal) x0 x2 x4 x5 (ix3 b n (col s d)) = (ofArgs x0 x1 x2 x3 x4 x5).p s (rx b n) d := by
  simp only [Arrs.p, ← hn_x]
  simp only [ofArgs, wts_at]
  pointwise [val_main_v21]
theorem p0_x (d : Fin 1024) : val_main_v22 (F := Ideal) x0 x2 x4 x5 (ix3 b n d) = (ofArgs x0 x1 x2 x3 x4 x5).p 0 (rx b n) d := by
  rw [← all_x]; pointwise [val_main_v22]; blk_ext [col]
theorem p1_x (d : Fin 1024) : val_main_v23 (F := Ideal) x0 x2 x4 x5 (ix3 b n d) = (ofArgs x0 x1 x2 x3 x4 x5).p 1 (rx b n) d := by
  rw [← all_x]; pointwise [val_main_v23]; blk_ext [col]
theorem p2_x (d : Fin 1024) : val_main_v24 (F := Ideal) x0 x2 x4 x5 (ix3 b n d) = (ofArgs x0 x1 x2 x3 x4 x5).p 2 (rx b n) d := by
  rw [← all_x]; pointwise [val_main_v24]; blk_ext [col]
end

/-! The context. -/
section
variable (b : Fin 2) (n : Fin 256)
theorem hn_c (d : Fin 1024) : val_main_v45 (F := Ideal) x1 x3 x4 (ix3 b n d) = (ofArgs x0 x1 x2 x3 x4 x5).hn (rc b n) d := by
  simp only [Arrs.hn, ofArgs, join_c, mods_c, gain_at]
  pointwise [val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_cst_3, val_main_cst_4, val_main_cst_5, val_main_cst_6]
  rw [bits_1024, Ideal.div_coe (by norm_num), ← bits_inv]
theorem all_c (s : Fin 3) (d : Fin 1024) : val_main_v46 (F := Ideal) x1 x3 x4 x5 (ix3 b n (col s d)) = (ofArgs x0 x1 x2 x3 x4 x5).p s (rc b n) d := by
  simp only [Arrs.p, ← hn_c]
  simp only [ofArgs, wts_at]
  pointwise [val_main_v46]
theorem p0_c (d : Fin 1024) : val_main_v47 (F := Ideal) x1 x3 x4 x5 (ix3 b n d) = (ofArgs x0 x1 x2 x3 x4 x5).p 0 (rc b n) d := by
  rw [← all_c]; pointwise [val_main_v47]; blk_ext [col]
theorem p1_c (d : Fin 1024) : val_main_v48 (F := Ideal) x1 x3 x4 x5 (ix3 b n d) = (ofArgs x0 x1 x2 x3 x4 x5).p 1 (rc b n) d := by
  rw [← all_c]; pointwise [val_main_v48]; blk_ext [col]
theorem p2_c (d : Fin 1024) : val_main_v49 (F := Ideal) x1 x3 x4 x5 (ix3 b n d) = (ofArgs x0 x1 x2 x3 x4 x5).p 2 (rc b n) d := by
  rw [← all_c]; pointwise [val_main_v49]; blk_ext [col]
end

theorem join_row {x y} {f : Fin 4608 → Fin 1024 → EReal} (hx : ∀ b n d, x (ix3 b n d) = f (rx b n) d) (hc : ∀ b n d, y (ix3 b n d) = f (rc b n) d) (r d) :
    join x y (ix2 r d) = f r d :=
  row_cases (P := fun r => join x y (ix2 r d) = f r d) (fun b n => (join_x x y b n _).trans (hx b n _)) (fun b n => (join_c x y b n _).trans (hc b n _)) r
theorem join_eq {x y} {f : Fin 4608 → Fin 1024 → EReal} (hx : ∀ b n d, x (ix3 b n d) = f (rx b n) d) (hc : ∀ b n d, y (ix3 b n d) = f (rc b n) d) :
    join x y = fun j => f (j 0) (j 1) := by
  funext j
  rw [eq_ix2 j]
  exact join_row hx hc _ _

theorem res_0 (r d) : val_main_v65 (F := Ideal) x0 x1 x2 x3 x4 x5 (ix3 0 r d) = (ofArgs x0 x1 x2 x3 x4 x5).p 0 r d := by
  refine Eq.trans ?_ (join_row (p0_x x0 x1 x2 x3 x4 x5) (p0_c x0 x1 x2 x3 x4 x5) r d)
  show _ = val_main_v52 (F := Ideal) x0 x1 x2 x3 x4 x5 (ix2 r d)
  pointwise [val_main_v65, val_main_v62]
theorem res_1 (r d) : val_main_v65 (F := Ideal) x0 x1 x2 x3 x4 x5 (ix3 1 r d) = (ofArgs x0 x1 x2 x3 x4 x5).p 1 r d := by
  refine Eq.trans ?_ (join_row (p1_x x0 x1 x2 x3 x4 x5) (p1_c x0 x1 x2 x3 x4 x5) r d)
  show _ = val_main_v55 (F := Ideal) x0 x1 x2 x3 x4 x5 (ix2 r d)
  pointwise [val_main_v65, val_main_v63]
theorem res_2 (r d) : val_main_v65 (F := Ideal) x0 x1 x2 x3 x4 x5 (ix3 2 r d) = (ofArgs x0 x1 x2 x3 x4 x5).p 2 r d := by
  refine Eq.trans ?_ (join_row (p2_x x0 x1 x2 x3 x4 x5) (p2_c x0 x1 x2 x3 x4 x5) r d)
  show _ = val_main_v58 (F := Ideal) x0 x1 x2 x3 x4 x5 (ix2 r d)
  pointwise [val_main_v65, val_main_v64]
theorem piece_cases {P : Fin 3 → Prop} (h0 : P 0) (h1 : P 1) (h2 : P 2) : ∀ s, P s
  | 0 => h0
  | 1 => h1
  | 2 => h2
theorem res_p : val_main_v65 (F := Ideal) x0 x1 x2 x3 x4 x5 = (ofArgs x0 x1 x2 x3 x4 x5).outP := by
  funext j
  rw [eq_ix3 j]
  exact piece_cases (P := fun s => val_main_v65 (F := Ideal) x0 x1 x2 x3 x4 x5 (ix3 s (j 1) (j 2)) = (ofArgs x0 x1 x2 x3 x4 x5).p s (j 1) (j 2))
    (res_0 x0 x1 x2 x3 x4 x5 _ _) (res_1 x0 x1 x2 x3 x4 x5 _ _) (res_2 x0 x1 x2 x3 x4 x5 _ _) (j 0)
theorem res_n : val_main_v66 (F := Ideal) x0 x1 x2 x3 x4 = (ofArgs x0 x1 x2 x3 x4 x5).outN :=
  join_eq (hn_x x0 x1 x2 x3 x4 x5) (hn_c x0 x1 x2 x3 x4 x5)
end

/-- Both results of the kernel are those of the reference. -/
theorem algebraic : Cert.algebraic_KSciIdeal_RSciIdeal := by
  intro m g m' g' hpre hagree
  refine ⟨fun c => (arrs m c).outP, fun c => (arrs m c).outN, ?_, ?_⟩
  · exact θ_run_mono (θ_run_and (Cert.KSciIdeal.Gen.run_main m g) (Cert.KSciIdeal.Gen.unchanged m g)) fun r h c =>
      ⟨((h.1 c).1 6).trans (final6 m c), ((h.1 c).1 7).trans (final7 m c), h.2 c⟩
  · refine θ_run_mono (Cert.RSciIdeal.Value.run m' g') fun r h c => ⟨(h c).1.trans ?_, (h c).2.1.trans ?_, (h c).2.2⟩
    · refine (val_main_v65_eq m' c).trans ?_
      show val_main_v65 (F := Ideal) (m' (c.tc.loc Cert.RSciIdeal.main_arg0)) (m' (c.tc.loc Cert.RSciIdeal.main_arg1)) (m' (c.tc.loc Cert.RSciIdeal.main_arg2)) (m' (c.tc.loc Cert.RSciIdeal.main_arg3)) (m' (c.tc.loc Cert.RSciIdeal.main_arg4)) (m' (c.tc.loc Cert.RSciIdeal.main_arg5)) = (arrs m c).outP
      rw [arrs_eq, (hagree c).1, (hagree c).2.1, (hagree c).2.2.1, (hagree c).2.2.2.1, (hagree c).2.2.2.2.1, (hagree c).2.2.2.2.2]
      exact res_p _ _ _ _ _ _
    · refine (val_main_v66_eq (m' (c.tc.loc Cert.RSciIdeal.main_arg0)) (m' (c.tc.loc Cert.RSciIdeal.main_arg1)) (m' (c.tc.loc Cert.RSciIdeal.main_arg2)) (m' (c.tc.loc Cert.RSciIdeal.main_arg3)) (m' (c.tc.loc Cert.RSciIdeal.main_arg4))).trans ?_
      show _ = (arrs m c).outN
      rw [arrs_eq, (hagree c).1, (hagree c).2.1, (hagree c).2.2.1, (hagree c).2.2.2.1, (hagree c).2.2.2.2.1]
      exact res_n _ _ _ _ _ _
end Cert.KSciIdeal.Rows
-- ==== Proof.GwiValue.lean ====
module

public import proofs.«01_k».proof.Proof.Gen.KGwiIdeal.Frame
public import proofs.«01_k».proof.Proof.Gen.RGwiIdeal.Read
public import proofs.«01_k».proof.Defs
public import Idealize.ShloMosaic.Lib.Pipeline.ValueKit
public import Idealize.ShloMosaic.Lib.Pipeline.ReadBack
public import Idealize.ShloMosaic.Lib.Claim

/-! The weight gradient of the projection into the short convolution, summed over three tiles of 1536 rows, against the whole contraction
over 4608 rows. -/

@[expose] public section
set_option maxRecDepth 16384
noncomputable section
open Idealize.ShloMosaic Idealize.ShloMosaic.TcCoe Idealize.SL.Sem
open Idealize.ShloMosaic.Pipeline (Dat)
namespace Cert.KGwiIdeal.Tiles
open Cert.KGwiIdeal Cert.KGwiIdeal.Gen
variable (m : (ℓ : Loc nD τ sig) → Buf (Elt Ideal) ℓ)

/-- The block index of every window at every grid point. -/
theorem idx : ∀ t : Fin cfg0.N, win0_0.index t = ![t.val % 3, 0]
    ∧ win0_1.index t = ![0, t.val % 3, t.val / 3] ∧ win0_2.index t = ![0, t.val / 3, 0, 0] ∧ t.val < 12 :=
  (by decide +kernel : ∀ t : Fin grid0.N, _)

/-- The accumulator starts at zero. -/
theorem zero_at (j) : k0_pay3 (F := Ideal) j = 0 := by pointwise [k0_pay3]

/-- One step adds the product of one tile of rows, piece by piece. -/
theorem step0_at (x : Vec Ideal S1536x1024 .bf16) (acc : Vec Ideal S1x1024x256 .f32) (y : Vec Ideal S1x1536x256 .f32) (z : Fin 1) (f : Fin 1024) (d : Fin 256) :
    k0_pay5 (F := Ideal) x acc y (ix3 z f d) = acc (ix3 0 f d) + ∑ k : Fin 1536, x (ix2 k f) * y (ix3 0 k d) := by
  pointwise [k0_pay5, k0_pay4]
theorem step1_at (x : Vec Ideal S1536x1024 .bf16) (acc : Vec Ideal S1x1024x256 .f32) (y : Vec Ideal S1x1536x256 .f32) (z : Fin 1) (f : Fin 1024) (d : Fin 256) :
    k0_pay6 (F := Ideal) x acc y (ix3 z f d) = acc (ix3 0 f d) + ∑ k : Fin 1536, x (ix2 k f) * y (ix3 0 k d) := by
  pointwise [k0_pay6, k0_pay4]
theorem step2_at (x : Vec Ideal S1536x1024 .bf16) (acc : Vec Ideal S1x1024x256 .f32) (y : Vec Ideal S1x1536x256 .f32) (z : Fin 1) (f : Fin 1024) (d : Fin 256) :
    k0_pay1 (F := Ideal) (k0_pay4 x) (k0_pay7 acc) y (ix3 z f d) = acc (ix3 0 f d) + ∑ k : Fin 1536, x (ix2 k f) * y (ix3 0 k d) := by
  pointwise [k0_pay1, k0_pay4, k0_pay7]

/-- The stored block is the accumulator. -/
theorem store_at (acc : Vec Ideal S3x1024x256 .f32) (p : Fin 3) (z : Fin 1) (f : Fin 1024) (d : Fin 256) :
    k0_pay2 (F := Ideal) acc (ix4 p z f d) = acc (ix3 p f d) := by
  pointwise [k0_pay2]

/-- What the reference returns. -/
def ref (hn : FVec Ideal S4608x1024 .f32) (ct : FVec Ideal S4608x3072 .f32) : FVec Ideal S3x4x1024x256 .bf16 :=
  Cert.RGwiIdeal.Read.val_main_v6 (F := Ideal) hn ct
theorem lt_col (p : Fin 3) (q : Fin 4) (d : Fin 256) : p.val * 1024 + q.val * 256 + d.val < 3072 := by omega
/-- Column `d` of quarter `q` of piece `p`. -/
def col (p : Fin 3) (q : Fin 4) (d : Fin 256) : Fin 3072 := ⟨p.val * 1024 + q.val * 256 + d.val, lt_col p q d⟩

/-- The reference at an index: the contraction over all rows. -/
theorem ref_at (hn : FVec Ideal S4608x1024 .f32) (ct : FVec Ideal S4608x3072 .f32) (p : Fin 3) (q : Fin 4) (f : Fin 1024) (d : Fin 256) :
    ref hn ct (ix4 p q f d) = ∑ r : Fin 4608, hn (ix2 r f) * ct (ix2 r (col p q d)) := by
  have h : ref hn ct (ix4 p q f d) = ∑ r : Fin 4608, ct (ix2 r (col p q d)) * hn (ix2 r f) := by
    unfold ref col
    pointwise [Cert.RGwiIdeal.Read.val_main_v6, Cert.RGwiIdeal.Read.val_main_v5, Cert.RGwiIdeal.Read.val_main_v4, Cert.RGwiIdeal.Read.val_main_v3, Cert.RGwiIdeal.Read.val_main_v2]
  rw [h]
  exact Finset.sum_congr rfl fun r _ => mul_comm _ _

/-- The three pieces of the cotangent, one after the other. -/
def pieces (x : FVec Ideal S4608x3072 .f32) : FVec Ideal S3x4608x1024 .f32 :=
  concatenate S3x4608x1024 0 [⟨S1x4608x1024, broadcastInDim S1x4608x1024 ![1, 2] bcast_S4608x1024_S1x4608x1024_1_2 (extractStridedSlice S4608x1024 ![0, 0] x slices_S4608x3072_S4608x1024_0_0)⟩,
    ⟨S1x4608x1024, broadcastInDim S1x4608x1024 ![1, 2] bcast_S4608x1024_S1x4608x1024_1_2 (extractStridedSlice S4608x1024 ![0, 1024] x slices_S4608x3072_S4608x1024_0_1024)⟩,
    ⟨S1x4608x1024, broadcastInDim S1x4608x1024 ![1, 2] bcast_S4608x1024_S1x4608x1024_1_2 (extractStridedSlice S4608x1024 ![0, 2048] x slices_S4608x3072_S4608x1024_0_2048)⟩]
    concatenates_S1x4608x1024_S1x4608x1024_S1x4608x1024_S3x4608x1024_d0
theorem lt_lane (p : Fin 3) (e : Fin 1024) : p.val * 1024 + e.val < 3072 := by omega
theorem pieces_at (x) (p : Fin 3) (r : Fin 4608) (e : Fin 1024) : pieces x (ix3 p r e) = x (ix2 r ⟨p.val * 1024 + e.val, lt_lane p e⟩) := by
  fin_cases p <;> pointwise [pieces]

/-- The narrowed rows. -/
def narrow (x : FVec Ideal S4608x1024 .f32) : FVec Ideal S4608x1024 .bf16 := truncf .bf16 x bitsLt_bf16_f32
theorem hostX (c : Dev nD) : V m c main_v7 = narrow (m ((c : Thread nD τ).loc main_arg0)) := by
  unfold V; entry_read; rfl
set_option maxHeartbeats 4000000 in
theorem hostY (c : Dev nD) : V m c main_v6 = pieces (m ((c : Thread nD τ).loc main_arg1)) := by
  unfold V; rfl

/-- The first three of several stores decide what is read at an index they cover. -/
theorem canon_three {S : Shape} {e : EltTy} (p q r : View.Piece (Elt Ideal) S e) (L : List (View.Piece (Elt Ideal) S e)) (y : S.Idx)
    (h : ∃ s ∈ [p, q, r], y ∈ s.1.set) : View.canon (p :: q :: r :: L) y = View.canon [p, q, r] y := by
  by_cases hp : y ∈ p.1.set
  · obtain ⟨x, rfl⟩ := p.1.exists_idx_of_mem hp
    exact (View.canon_cons_emb p.1 p.2 _ x).trans (View.canon_cons_emb p.1 p.2 _ x).symm
  rw [View.canon_cons_of_not_mem _ _ hp, View.canon_cons_of_not_mem _ _ hp]
  by_cases hq : y ∈ q.1.set
  · obtain ⟨x, rfl⟩ := q.1.exists_idx_of_mem hq
    exact (View.canon_cons_emb q.1 q.2 _ x).trans (View.canon_cons_emb q.1 q.2 _ x).symm
  rw [View.canon_cons_of_not_mem _ _ hq, View.canon_cons_of_not_mem _ _ hq]
  by_cases hr : y ∈ r.1.set
  · obtain ⟨x, rfl⟩ := r.1.exists_idx_of_mem hr
    exact (View.canon_cons_emb r.1 r.2 _ x).trans (View.canon_cons_emb r.1 r.2 _ x).symm
  · obtain ⟨s, hs, hy⟩ := h
    simp only [List.mem_cons, List.not_mem_nil, or_false] at hs
    rcases hs with rfl | rfl | rfl <;> contradiction

/-- The product of one tile of rows, at one entry of the accumulator. -/
def prod (x : Vec Ideal S1536x1024 .bf16) (y : Vec Ideal S3x1536x256 .f32) (p : Fin 3) (f : Fin 1024) (d : Fin 256) : Ideal .f32 :=
  ∑ k : Fin 1536, x (ix2 k f) * y (ix3 p k d)
theorem prod_to {x : Vec Ideal S1536x1024 .bf16} {y : Vec Ideal S3x1536x256 .f32} {y' : Vec Ideal S1x1536x256 .f32} (p : Fin 3) (f : Fin 1024) (d : Fin 256)
    (h : ∀ k, y' (ix3 0 k d) = y (ix3 p k d)) : (∑ k : Fin 1536, x (ix2 k f) * y' (ix3 0 k d)) = prod x y p f d :=
  Finset.sum_congr rfl fun k _ => by rw [h k]

theorem lt_row (t : Fin cfg0.N) (k : Fin 1536) : t.val % 3 * 1536 + k.val < 4608 := by omega
theorem lt_quarter (t : Fin cfg0.N) (p : Fin 3) (d : Fin 256) : p.val * 1024 + (t.val / 3 * 256 + d.val) < 3072 := by
  have := (idx t).2.2.2; omega
theorem lt_lanes (t : Fin cfg0.N) (d : Fin 256) : t.val / 3 * 256 + d.val < 1024 := by
  have := (idx t).2.2.2; omega
theorem blkX (c : Dev nD) (t : Fin cfg0.N) (k : Fin 1536) (f : Fin 1024) :
    iblk m c 0 t (ix2 k f) = m ((c : Thread nD τ).loc main_arg0) (ix2 ⟨t.val % 3 * 1536 + k.val, lt_row t k⟩ f) := by
  refine Eq.trans (b := V m c main_v7 (ix2 ⟨t.val % 3 * 1536 + k.val, lt_row t k⟩ f)) ?_ (by rw [hostX]; rfl)
  blk_point [iblk, (idx t).1]
theorem blkY (c : Dev nD) (t : Fin cfg0.N) (p : Fin 3) (k : Fin 1536) (d : Fin 256) :
    iblk m c 1 t (ix3 p k d) = m ((c : Thread nD τ).loc main_arg1) (ix2 ⟨t.val % 3 * 1536 + k.val, lt_row t k⟩ ⟨p.val * 1024 + (t.val / 3 * 256 + d.val), lt_quarter t p d⟩) := by
  refine Eq.trans (b := V m c main_v6 (ix3 p ⟨t.val % 3 * 1536 + k.val, lt_row t k⟩ ⟨t.val / 3 * 256 + d.val, lt_lanes t d⟩)) ?_ (by rw [hostY]; exact pieces_at _ _ _ _)
  blk_point [iblk, (idx t).2.1]

/-- At the first point of a sum the accumulator is that point's product. -/
theorem acc_start (c : Dev nD) (t : Fin cfg0.N) (h0 : t.val % 3 = 0) (p : Fin 3) (f : Fin 1024) (d : Fin 256) :
    (outsAt0 m c t.val t.isLt).2 (ix3 p f d) = 0 + prod (iblk m c 0 t) (iblk m c 1 t) p f d := by
  rw [outsAt0_A m c t h0 (by omega)]; frame_out
  rw [canon_three _ _ _ _ _ (View.cover_of_tiled_head _ _ _ (by rfl) _)]
  canon_tiles x h
  · idx_vars x
    obtain rfl : x0 = 0 := Subsingleton.elim _ _
    obtain rfl : p = 2 := Fin.ext h0
    obtain rfl : f = x1 := Fin.ext h1
    obtain rfl : d = x2 := Fin.ext h2
    rw [step2_at]
    refine Ideal.add_congr ?_ (prod_to _ _ _ fun k => by pointwise)
    rw [View.readCov_skip _ _ _ _ _ rfl, View.readCov_skip _ _ _ _ _ rfl, View.readCov_fill _ _ _ _ _ (by decide)]; pointwise [k0_pay3]
  · idx_vars x
    obtain rfl : x0 = 0 := Subsingleton.elim _ _
    obtain rfl : p = 1 := Fin.ext h0
    obtain rfl : f = x1 := Fin.ext h1
    obtain rfl : d = x2 := Fin.ext h2
    rw [step1_at]
    refine Ideal.add_congr ?_ (prod_to _ _ _ fun k => by pointwise)
    rw [View.readCov_skip _ _ _ _ _ rfl, View.readCov_fill _ _ _ _ _ (by decide)]; pointwise [k0_pay3]
  · idx_vars x
    obtain rfl : x0 = 0 := Subsingleton.elim _ _
    obtain rfl : p = 0 := Fin.ext h0
    obtain rfl : f = x1 := Fin.ext h1
    obtain rfl : d = x2 := Fin.ext h2
    rw [step0_at]
    refine Ideal.add_congr ?_ (prod_to _ _ _ fun k => by pointwise)
    rw [View.readCov_fill _ _ _ _ _ (by decide)]; pointwise [k0_pay3]

/-- Every later point adds its product to what the point before left. -/
theorem acc_step (c : Dev nD) (t : Fin cfg0.N) (h0 : ¬t.val % 3 = 0) (p : Fin 3) (f : Fin 1024) (d : Fin 256) :
    (outsAt0 m c t.val t.isLt).2 (ix3 p f d) = (outsAt0 m c (t.val - 1) (Nat.lt_of_le_of_lt (Nat.sub_le _ _) t.isLt)).2 (ix3 p f d)
      + prod (iblk m c 0 t) (iblk m c 1 t) p f d := by
  by_cases h2 : t.val % 3 = 2
  · rw [outsAt0_C m c t h0 h2]; frame_out
    canon_tiles x h
    · idx_vars x
      obtain rfl : x0 = 0 := Subsingleton.elim _ _
      obtain rfl : p = 2 := Fin.ext h0
      obtain rfl : f = x1 := Fin.ext h1
      obtain rfl : d = x2 := Fin.ext h2
      rw [step2_at]
      exact Ideal.add_congr (by pointwise; exact congrFun (Memref.IsWhole.read_unread _ _) _) (prod_to _ _ _ fun k => by pointwise)
    · idx_vars x
      obtain rfl : x0 = 0 := Subsingleton.elim _ _
      obtain rfl : p = 1 := Fin.ext h0
      obtain rfl : f = x1 := Fin.ext h1
      obtain rfl : d = x2 := Fin.ext h2
      rw [step1_at]
      exact Ideal.add_congr (by pointwise; exact congrFun (Memref.IsWhole.read_unread _ _) _) (prod_to _ _ _ fun k => by pointwise)
    · idx_vars x
      obtain rfl : x0 = 0 := Subsingleton.elim _ _
      obtain rfl : p = 0 := Fin.ext h0
      obtain rfl : f = x1 := Fin.ext h1
      obtain rfl : d = x2 := Fin.ext h2
      rw [step0_at]
      exact Ideal.add_congr (by pointwise; exact congrFun (Memref.IsWhole.read_unread _ _) _) (prod_to _ _ _ fun k => by pointwise)
  · rw [outsAt0_B m c t h0 h2]; frame_out
    canon_tiles x h
    · idx_vars x
      obtain rfl : x0 = 0 := Subsingleton.elim _ _
      obtain rfl : p = 2 := Fin.ext h0
      obtain rfl : f = x1 := Fin.ext h1
      obtain rfl : d = x2 := Fin.ext h2
      rw [step2_at]
      exact Ideal.add_congr (by pointwise; exact congrFun (Memref.IsWhole.read_unread _ _) _) (prod_to _ _ _ fun k => by pointwise)
    · idx_vars x
      obtain rfl : x0 = 0 := Subsingleton.elim _ _
      obtain rfl : p = 1 := Fin.ext h0
      obtain rfl : f = x1 := Fin.ext h1
      obtain rfl : d = x2 := Fin.ext h2
      rw [step1_at]
      exact Ideal.add_congr (by pointwise; exact congrFun (Memref.IsWhole.read_unread _ _) _) (prod_to _ _ _ fun k => by pointwise)
    · idx_vars x
      obtain rfl : x0 = 0 := Subsingleton.elim _ _
      obtain rfl : p = 0 := Fin.ext h0
      obtain rfl : f = x1 := Fin.ext h1
      obtain rfl : d = x2 := Fin.ext h2
      rw [step0_at]
      exact Ideal.add_congr (by pointwise; exact congrFun (Memref.IsWhole.read_unread _ _) _) (prod_to _ _ _ fun k => by pointwise)

/-- The array written back is the reference's. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t hf y => ?_
  blk_simp
  have hm := (flush0_2 t).mp hf
  have hi := (idx t).2.2.1
  have ho : (outsAt0 m c t.val t.isLt).1 y = (outsAt0 m c t.val t.isLt).2 (ix3 (y 0) (y 2) (y 3)) := by
    idx_vars y
    have e : (outsAt0 m c t.val t.isLt).1 = k0_pay2 (outsAt0 m c t.val t.isLt).2 := by
      rw [outsAt0_C m c t (by omega) hm]; frame_out
      rw [View.readCov_eq_canon']
      exact congrArg _ (funext fun j => congrArg _ (funext fun a => Fin.ext (by fin_cases a <;> simp [Rect.toLoadRect, LoadRect.idx])))
    rw [e]
    exact store_at _ y0 y1 y2 y3
  have hs := Pipeline.eq_sum_fin_of_reset_step_apply_of_flush (fun n h => (outsAt0 m c n h).2) 3 (fun _ => 0)
    (fun t j => prod (iblk m c 0 t) (iblk m c 1 t) (j 0) (j 1) (j 2))
    (fun t h j => by idx_vars j; exact acc_start m c t h j0 j1 j2)
    (fun t h j => by idx_vars j; exact acc_step m c t h j0 j1 j2)
    t hm (ix3 (y 0) (y 2) (y 3))
  rw [after0_2, ho, hs, zero_add]
  idx_vars y
  obtain rfl : y1 = 0 := Subsingleton.elim _ _
  have hq : t.val / 3 < 4 := by have := (idx t).2.2.2; omega
  rw [show (win0_2.blk t).view.emb (ix4 y0 0 y2 y3) = ix4 y0 ⟨t.val / 3, hq⟩ y2 y3 from by blk_ext [hi]]
  refine Eq.trans ?_ (ref_at _ _ _ _ _ _).symm
  refine Fin.sum_mul_add_congr fun s k hl => ?_
  refine Ideal.mul_congr ((blkX m c _ k y2).trans ?_) ((blkY m c _ y0 k y3).trans ?_)
  · refine congrArg (m (c.tc.loc main_arg0)) (congrArg₂ ix2 (Fin.ext ?_) rfl)
    show (3 * (t.val / 3) + s.val) % 3 * 1536 + k.val = s.val * 1536 + k.val
    omega
  · refine congrArg (m (c.tc.loc main_arg1)) (congrArg₂ ix2 (Fin.ext ?_) (Fin.ext ?_))
    · show (3 * (t.val / 3) + s.val) % 3 * 1536 + k.val = s.val * 1536 + k.val
      omega
    · show y0.val * 1024 + ((3 * (t.val / 3) + s.val) / 3 * 256 + y3.val) = y0.val * 1024 + t.val / 3 * 256 + y3.val
      omega

/-- Both programs end with the same array. -/
theorem algebraic : Cert.algebraic_KGwiIdeal_RGwiIdeal := by
  intro m g m' g' hpre hagree
  refine ⟨fun c => ref (m ((c : Thread nD τ).loc main_arg0)) (m ((c : Thread nD τ).loc main_arg1)), ?_, ?_⟩
  · exact θ_run_mono (θ_run_and (Cert.KGwiIdeal.Gen.run_main m g) (Cert.KGwiIdeal.Gen.unchanged m g)) fun r h c =>
      ⟨((h.1 c).1 2).trans (final m c), h.2 c⟩
  · refine θ_run_mono (Cert.RGwiIdeal.Value.run m' g') fun r h c => ⟨(h c).1.trans ?_, (h c).2⟩
    refine (Cert.RGwiIdeal.Read.val_main_v6_eq _ _).trans ?_
    show ref (m' (c.tc.loc Cert.RGwiIdeal.main_arg0)) (m' (c.tc.loc Cert.RGwiIdeal.main_arg1)) = _
    rw [(hagree c).1, (hagree c).2]

end Cert.KGwiIdeal.Tiles
-- ==== Proof.ScbValue.lean ====
module

public import proofs.«01_k».proof.Proof.Gen.KScbIdeal.Frame
public import Idealize.ShloMosaic.Lib.Pipeline.ValueKit
public import Idealize.ShloMosaic.Lib.Pipeline.ReadBack
public import Idealize.ShloMosaic.Lib.Claim

/-! The gradient of the projection in: the product's gradient is summed over four column blocks of each of three pieces, and goes back through the norm. -/

@[expose] public section
set_option maxRecDepth 16384
noncomputable section
open Idealize.ShloMosaic Idealize.ShloMosaic.TcCoe Idealize.SL.Sem
open Idealize.ShloMosaic.Pipeline (Dat)
namespace Cert.KScbIdeal.Rows
open Cert.KScbIdeal Cert.KScbIdeal.Gen

/-- One over the number of lanes. -/
abbrev inv : EReal := Scalar.ofBits (F := Ideal) .f32 0x3A800000#32
/-- The small constant of the norm. -/
abbrev eps : EReal := Scalar.ofBits (F := Ideal) .f32 0x358637BD#32

theorem zero_at (j) : k0_pay18 (F := Ideal) j = 0 := by pointwise [k0_pay18]
theorem acc_at (acc : Vec Ideal S512x1024 .f32) (p0 p1 p2 : Vec Ideal S1x512x256 .f32) (w0 w1 w2 : Vec Ideal S1x1x1024x256 .bf16) (r : Fin 512) (d : Fin 1024) :
    k0_pay1 (F := Ideal) (k0_pay19 acc p0 w0 p1 w1 p2 w2) (ix2 r d) = acc (ix2 r d) + ((((0 : EReal) + ∑ f : Fin 256, p0 (ix3 0 r f) * w0 (ix4 0 0 d f))
      + ∑ f : Fin 256, p1 (ix3 0 r f) * w1 (ix4 0 0 d f)) + ∑ f : Fin 256, p2 (ix3 0 r f) * w2 (ix4 0 0 d f)) := by
  pointwise [k0_pay1, k0_pay19]
theorem r_at (h : Vec Ideal S512x1024 .f32) (r : Fin 512) (z : Fin 1) :
    k0_pay10 (F := Ideal) h (ix2 r z) = Ideal.rsqrt ((∑ d : Fin 1024, h (ix2 r d) * h (ix2 r d)) * inv + eps) := by
  pointwise [k0_pay10, k0_pay8]
theorem shift_at (acc : Vec Ideal S512x1024 .f32) (z z' : Fin 1) (d : Fin 1024) :
    k0_pay3 (F := Ideal) (k0_pay12 acc) (ix3 z z' d) = ∑ r : Fin 512, acc (ix2 r d) := by
  pointwise [k0_pay3, k0_pay12]
theorem scale_at (acc h : Vec Ideal S512x1024 .f32) (g : Vec Ideal S1x1024 .f32) (z z' : Fin 1) (d : Fin 1024) :
    k0_pay4 (F := Ideal) (k0_pay13 acc h g) (ix3 z z' d) = ∑ r : Fin 512, acc (ix2 r d) * (h (ix2 r d) * Ideal.rsqrt ((∑ d : Fin 1024, h (ix2 r d) * h (ix2 r d)) * inv + eps) * g (ix2 0 d)) := by
  pointwise [k0_pay4, k0_pay13, k0_pay11, k0_pay9, k0_pay8, r_at]
theorem gain_at (acc h : Vec Ideal S512x1024 .f32) (s : Vec Ideal S1x1x1024 .f32) (z z' : Fin 1) (d : Fin 1024) :
    k0_pay6 (F := Ideal) (k0_pay15 acc h s) (ix3 z z' d) = ∑ r : Fin 512, acc (ix2 r d) * (1 + s (ix3 0 0 d)) * (h (ix2 r d) * Ideal.rsqrt ((∑ d : Fin 1024, h (ix2 r d) * h (ix2 r d)) * inv + eps)) := by
  pointwise [k0_pay6, k0_pay15, k0_pay14, k0_pay11, k0_pay8, r_at]
theorem store_2 (j) : k0_pay5 (F := Ideal) j = 0 := by pointwise [k0_pay5]
theorem store_4 (j) : k0_pay7 (F := Ideal) j = 0 := by pointwise [k0_pay7]
theorem dx_at (dh acc h : Vec Ideal S512x1024 .f32) (g : Vec Ideal S1x1024 .f32) (s : Vec Ideal S1x1x1024 .f32) (r : Fin 512) (d : Fin 1024) :
    k0_pay2 (F := Ideal) (k0_pay16 acc h g s) (k0_pay17 h) dh (ix2 r d)
      = dh (ix2 r d) + Ideal.rsqrt ((∑ d : Fin 1024, h (ix2 r d) * h (ix2 r d)) * inv + eps) * (acc (ix2 r d) * (1 + s (ix3 0 0 d)) * g (ix2 0 d)
        - h (ix2 r d) * Ideal.rsqrt ((∑ d : Fin 1024, h (ix2 r d) * h (ix2 r d)) * inv + eps)
          * ((∑ d : Fin 1024, acc (ix2 r d) * (1 + s (ix3 0 0 d)) * g (ix2 0 d) * (h (ix2 r d) * Ideal.rsqrt ((∑ d : Fin 1024, h (ix2 r d) * h (ix2 r d)) * inv + eps))) * inv)) := by
  pointwise [k0_pay2, k0_pay17, k0_pay16, k0_pay14, k0_pay11, k0_pay9, k0_pay8, r_at]

/-- The stream a row belongs to: the two sequences of the batch, then the context. -/
def grp (r : Fin 4608) : Fin 3 := ⟨r.val / 2048, by omega⟩
theorem lt_sl (s : Fin 3) (d : Fin 1024) : (4 * s.val + d.val / 256) / 3 < 4 := by omega
theorem lt_ln (s : Fin 3) (d : Fin 1024) : (4 * s.val + d.val / 256) % 3 * 256 + d.val % 256 < 768 := by omega
/-- The slot and the lane of column `d` of piece `s` of the weight. -/
def sl (s : Fin 3) (d : Fin 1024) : Fin 4 := ⟨(4 * s.val + d.val / 256) / 3, lt_sl s d⟩
def ln (s : Fin 3) (d : Fin 1024) : Fin 768 := ⟨(4 * s.val + d.val / 256) % 3 * 256 + d.val % 256, lt_ln s d⟩
/-- The row `a` of block `i`. -/
def brow (i : Fin 9) (a : Fin 512) : Fin 4608 := ⟨i.val * 512 + a.val, by omega⟩
theorem lt_qcol (q : Fin 4) (f : Fin 256) : q.val * 256 + f.val < 1024 := by omega
/-- The column `f` of column block `q`. -/
def qcol (q : Fin 4) (f : Fin 256) : Fin 1024 := ⟨q.val * 256 + f.val, lt_qcol q f⟩

/-- The arrays the call reads. -/
structure Arrs where
  DH : FVec Ideal S4608x1024 .f32
  DP : FVec Ideal S3x4608x1024 .f32
  H : FVec Ideal S4608x1024 .f32
  M : FVec Ideal S3x9x1024 .f32
  G : FVec Ideal S1x1024 .f32
  W : FVec Ideal S4x1x1024x768 .bf16

namespace Arrs
variable (X : Arrs)
/-- One piece's share of one column block in the cotangent of the modulated row. -/
def piece (s : Fin 3) (q : Fin 4) (r : Fin 4608) (d : Fin 1024) : EReal :=
  ∑ f : Fin 256, X.DP (ix3 s r (qcol q f)) * X.W (ix4 (sl s (qcol q f)) 0 d (ln s (qcol q f)))
/-- One column block's share. -/
def part (q : Fin 4) (r : Fin 4608) (d : Fin 1024) : EReal := (((0 : EReal) + X.piece 0 q r d) + X.piece 1 q r d) + X.piece 2 q r d
/-- The cotangent of the modulated row. -/
def dm (r : Fin 4608) (d : Fin 1024) : EReal := ∑ q : Fin 4, X.part q r d
/-- The norm's factor of a row. -/
def rn (r : Fin 4608) : EReal := Ideal.rsqrt ((∑ d : Fin 1024, X.H (ix2 r d) * X.H (ix2 r d)) * inv + eps)
/-- The cotangent of the normed row, before the norm. -/
def dn (r : Fin 4608) (d : Fin 1024) : EReal := X.dm r d * (1 + X.M (ix3 (grp r) 4 d)) * X.G (ix2 0 d)
def dx (r : Fin 4608) (d : Fin 1024) : EReal :=
  X.DH (ix2 r d) + X.rn r * (X.dn r d - X.H (ix2 r d) * X.rn r * ((∑ d : Fin 1024, X.dn r d * (X.H (ix2 r d) * X.rn r)) * inv))
/-- The sums over a block's rows: shift, scale and gain. -/
def sums (i : Fin 9) (k : ℕ) (d : Fin 1024) : EReal :=
  if k = 0 then ∑ a : Fin 512, X.dm (brow i a) d
  else if k = 1 then ∑ a : Fin 512, X.dm (brow i a) d * (X.H (ix2 (brow i a) d) * X.rn (brow i a) * X.G (ix2 0 d))
  else if k = 3 then ∑ a : Fin 512, X.dm (brow i a) d * (1 + X.M (ix3 (grp (brow i a)) 4 d)) * (X.H (ix2 (brow i a) d) * X.rn (brow i a))
  else 0
def outDx : FVec Ideal S4608x1024 .f32 := fun j => X.dx (j 0) (j 1)
def outSums : FVec Ideal S9x8x1024 .f32 := fun j => X.sums (j 0) (j 1).val (j 2)
end Arrs

section
variable (X : Arrs) {R : Fin 4608}
theorem acc_row {acc : Vec Ideal S512x1024 .f32} {p0 p1 p2 : Vec Ideal S1x512x256 .f32} {w0 w1 w2 : Vec Ideal S1x1x1024x256 .bf16} {r : Fin 512} {d : Fin 1024} {q : Fin 4} {e : EReal}
    (hp0 : ∀ f, p0 (ix3 0 r f) = X.DP (ix3 0 R (qcol q f))) (hp1 : ∀ f, p1 (ix3 0 r f) = X.DP (ix3 1 R (qcol q f))) (hp2 : ∀ f, p2 (ix3 0 r f) = X.DP (ix3 2 R (qcol q f)))
    (hw0 : ∀ d f, w0 (ix4 0 0 d f) = X.W (ix4 (sl 0 (qcol q f)) 0 d (ln 0 (qcol q f)))) (hw1 : ∀ d f, w1 (ix4 0 0 d f) = X.W (ix4 (sl 1 (qcol q f)) 0 d (ln 1 (qcol q f))))
    (hw2 : ∀ d f, w2 (ix4 0 0 d f) = X.W (ix4 (sl 2 (qcol q f)) 0 d (ln 2 (qcol q f)))) (he : acc (ix2 r d) = e) :
    k0_pay1 (F := Ideal) (k0_pay19 acc p0 w0 p1 w1 p2 w2) (ix2 r d) = e + X.part q R d := by
  rw [acc_at, he]
  simp only [hp0, hp1, hp2, hw0, hw1, hw2]
  rfl
theorem dx_row {dh acc h : Vec Ideal S512x1024 .f32} {g : Vec Ideal S1x1024 .f32} {s : Vec Ideal S1x1x1024 .f32} {r : Fin 512}
    (hdh : ∀ d, dh (ix2 r d) = X.DH (ix2 R d)) (hacc : ∀ d, acc (ix2 r d) = X.dm R d) (hh : ∀ d, h (ix2 r d) = X.H (ix2 R d))
    (hg : ∀ d, g (ix2 0 d) = X.G (ix2 0 d)) (hs : ∀ d, s (ix3 0 0 d) = X.M (ix3 (grp R) 4 d)) (d : Fin 1024) :
    k0_pay2 (F := Ideal) (k0_pay16 acc h g s) (k0_pay17 h) dh (ix2 r d) = X.dx R d := by
  rw [dx_at]
  simp only [hdh, hacc, hh, hg, hs]
  rfl
theorem shift_row {acc : Vec Ideal S512x1024 .f32} {i : Fin 9} (hacc : ∀ r d, acc (ix2 r d) = X.dm (brow i r) d) (z z' : Fin 1) (d : Fin 1024) :
    k0_pay3 (F := Ideal) (k0_pay12 acc) (ix3 z z' d) = X.sums i 0 d := by
  rw [shift_at]; simp only [hacc]; rfl
theorem scale_row {acc h : Vec Ideal S512x1024 .f32} {g : Vec Ideal S1x1024 .f32} {i : Fin 9} (hacc : ∀ r d, acc (ix2 r d) = X.dm (brow i r) d)
    (hh : ∀ r d, h (ix2 r d) = X.H (ix2 (brow i r) d)) (hg : ∀ d, g (ix2 0 d) = X.G (ix2 0 d)) (z z' : Fin 1) (d : Fin 1024) :
    k0_pay4 (F := Ideal) (k0_pay13 acc h g) (ix3 z z' d) = X.sums i 1 d := by
  rw [scale_at]; simp only [hacc, hh, hg]; rfl
theorem gain_row {acc h : Vec Ideal S512x1024 .f32} {s : Vec Ideal S1x1x1024 .f32} {i : Fin 9} (hacc : ∀ r d, acc (ix2 r d) = X.dm (brow i r) d)
    (hh : ∀ r d, h (ix2 r d) = X.H (ix2 (brow i r) d)) (hs : ∀ r d, s (ix3 0 0 d) = X.M (ix3 (grp (brow i r)) 4 d)) (z z' : Fin 1) (d : Fin 1024) :
    k0_pay6 (F := Ideal) (k0_pay15 acc h s) (ix3 z z' d) = X.sums i 3 d := by
  rw [gain_at]
  refine Eq.trans (Finset.sum_congr rfl fun r _ => ?_) (b := ∑ a : Fin 512, X.dm (brow i a) d * (1 + X.M (ix3 (grp (brow i a)) 4 d)) * (X.H (ix2 (brow i a) d) * X.rn (brow i a))) rfl
  simp only [hacc, hh]; rw [hs r]; rfl
end

variable (m : (ℓ : Loc nD τ sig) → Buf (Elt Ideal) ℓ)

/-- The arrays the call reads. -/
def arrs (c : Dev nD) : Arrs where
  DH := V m c main_v2
  DP := V m c main_v15
  H := V m c main_v5
  M := V m c main_v20
  G := V m c main_v21
  W := V m c main_v19

theorem idx : ∀ t : Fin cfg0.N, win0_0.index t = ![t.val / 4, 0] ∧ win0_1.index t = ![0, t.val / 4, t.val % 4] ∧ win0_2.index t = ![t.val / 4, 0]
    ∧ win0_3.index t = ![t.val / 16, 0, 0] ∧ win0_4.index t = ![0, 0]
    ∧ win0_5.index t = ![t.val % 4 / 3, 0, 0, t.val % 4 % 3] ∧ win0_6.index t = ![(4 + t.val % 4) / 3, 0, 0, (4 + t.val % 4) % 3]
    ∧ win0_7.index t = ![(8 + t.val % 4) / 3, 0, 0, (8 + t.val % 4) % 3]
    ∧ win0_8.index t = ![t.val / 4, 0] ∧ win0_9.index t = ![t.val / 4, 0, 0] ∧ t.val < 36 :=
  (by decide +kernel : ∀ t : Fin grid0.N, _)
theorem lt (t : Fin cfg0.N) : t.val < 36 := (idx t).2.2.2.2.2.2.2.2.2.2
/-- The row of the whole array at row `a` of point `t`'s block. -/
def row (t : Fin cfg0.N) (a : Fin 512) : Fin 4608 := ⟨t.val / 4 * 512 + a.val, by have := lt t; omega⟩
/-- The block of a point. -/
def blk (t : Fin cfg0.N) : Fin 9 := ⟨t.val / 4, by have := lt t; omega⟩
/-- The column block of a point. -/
def slot (t : Fin cfg0.N) : Fin 4 := ⟨t.val % 4, by omega⟩
theorem lt_sl' (s : Fin 3) (t : Fin cfg0.N) : (4 * s.val + t.val % 4) / 3 < 4 := by omega
theorem lt_ln' (s : Fin 3) (t : Fin cfg0.N) (f : Fin 256) : (4 * s.val + t.val % 4) % 3 * 256 + f.val < 768 := by omega
theorem sl_lane (s : Fin 3) (t : Fin cfg0.N) (f : Fin 256) : sl s (qcol (slot t) f) = ⟨(4 * s.val + t.val % 4) / 3, lt_sl' s t⟩ := by
  apply Fin.ext; simp only [sl, qcol, slot]; omega
theorem ln_lane (s : Fin 3) (t : Fin cfg0.N) (f : Fin 256) : ln s (qcol (slot t) f) = ⟨(4 * s.val + t.val % 4) % 3 * 256 + f.val, lt_ln' s t f⟩ := by
  apply Fin.ext; simp only [ln, qcol, slot]; omega
theorem grp_row (t : Fin cfg0.N) (a : Fin 512) : grp (row t a) = ⟨t.val / 16, by have := lt t; omega⟩ := by
  apply Fin.ext; simp only [grp, row]; omega

section
variable (c : Dev nD) (t : Fin cfg0.N)
theorem blk0 (a : Fin 512) (d : Fin 1024) : iblk m c 0 t (ix2 a d) = (arrs m c).DH (ix2 (row t a) d) := by
  unfold row; simp only [arrs]; blk_ext [iblk, idx t]
theorem blk1 (s : Fin 3) (a : Fin 512) (f : Fin 256) : iblk m c 1 t (ix3 s a f) = (arrs m c).DP (ix3 s (row t a) (qcol (slot t) f)) := by
  unfold row qcol slot; simp only [arrs]; blk_ext [iblk, idx t]
theorem blk2 (a : Fin 512) (d : Fin 1024) : iblk m c 2 t (ix2 a d) = (arrs m c).H (ix2 (row t a) d) := by
  unfold row; simp only [arrs]; blk_ext [iblk, idx t]
theorem blk3 (a : Fin 512) (k : Fin 9) (d : Fin 1024) : iblk m c 3 t (ix3 0 k d) = (arrs m c).M (ix3 (grp (row t a)) k d) := by
  rw [grp_row]; simp only [arrs]; blk_ext [iblk, idx t]
theorem blk4 (d : Fin 1024) : iblk m c 4 t (ix2 0 d) = (arrs m c).G (ix2 0 d) := by
  simp only [arrs]; blk_ext [iblk, idx t]
theorem blk5 (k : Fin 1024) (f : Fin 256) : iblk m c 5 t (ix4 0 0 k f) = (arrs m c).W (ix4 (sl 0 (qcol (slot t) f)) 0 k (ln 0 (qcol (slot t) f))) := by
  rw [sl_lane, ln_lane]; simp only [arrs]; blk_ext [iblk, idx t]
theorem blk6 (k : Fin 1024) (f : Fin 256) : iblk m c 6 t (ix4 0 0 k f) = (arrs m c).W (ix4 (sl 1 (qcol (slot t) f)) 0 k (ln 1 (qcol (slot t) f))) := by
  rw [sl_lane, ln_lane]; simp only [arrs]; blk_ext [iblk, idx t]
theorem blk7 (k : Fin 1024) (f : Fin 256) : iblk m c 7 t (ix4 0 0 k f) = (arrs m c).W (ix4 (sl 2 (qcol (slot t) f)) 0 k (ln 2 (qcol (slot t) f))) := by
  rw [sl_lane, ln_lane]; simp only [arrs]; blk_ext [iblk, idx t]
theorem dp_0 (a : Fin 512) (f : Fin 256) : View.ld (iblk m c 1 t) (Rect.unit ![0, 0, 0] ![1, 512, 256] inb_S3x512x256_S1x512x256_0_0_0) (ix3 0 a f)
    = (arrs m c).DP (ix3 0 (row t a) (qcol (slot t) f)) := by
  refine Eq.trans ?_ (blk1 m c t 0 a f); pointwise
theorem dp_1 (a : Fin 512) (f : Fin 256) : View.ld (iblk m c 1 t) (Rect.unit ![1, 0, 0] ![1, 512, 256] inb_S3x512x256_S1x512x256_1_0_0) (ix3 0 a f)
    = (arrs m c).DP (ix3 1 (row t a) (qcol (slot t) f)) := by
  refine Eq.trans ?_ (blk1 m c t 1 a f); pointwise
theorem dp_2 (a : Fin 512) (f : Fin 256) : View.ld (iblk m c 1 t) (Rect.unit ![2, 0, 0] ![1, 512, 256] inb_S3x512x256_S1x512x256_2_0_0) (ix3 0 a f)
    = (arrs m c).DP (ix3 2 (row t a) (qcol (slot t) f)) := by
  refine Eq.trans ?_ (blk1 m c t 2 a f); pointwise
theorem scale_blk (a : Fin 512) (d : Fin 1024) : View.ld (iblk m c 3 t) (Rect.unit ![0, 4, 0] ![1, 1, 1024] inb_S1x9x1024_S1x1x1024_0_4_0) (ix3 0 0 d)
    = (arrs m c).M (ix3 (grp (row t a)) 4 d) := by
  refine Eq.trans ?_ (blk3 m c t a 4 d); pointwise
end

theorem acc_start (c : Dev nD) (t : Fin cfg0.N) (h0 : t.val % 4 = 0) (y : S512x1024.Idx) :
    (outsAt0 m c t.val t.isLt).2.2 y = 0 + (arrs m c).part (slot t) (row t (y 0)) (y 1) := by
  rw [outsAt0_A m c t h0 (by omega)]; frame_out
  idx_vars y
  exact acc_row (arrs m c) (q := slot t) (R := row t y0) (dp_0 m c t y0) (dp_1 m c t y0) (dp_2 m c t y0) (blk5 m c t) (blk6 m c t) (blk7 m c t) (zero_at _)

theorem acc_step (c : Dev nD) (t : Fin cfg0.N) (hz : ¬t.val % 4 = 0) (y : S512x1024.Idx) :
    (outsAt0 m c t.val t.isLt).2.2 y = (outsAt0 m c (t.val - 1) (by have := t.isLt; omega)).2.2 y + (arrs m c).part (slot t) (row t (y 0)) (y 1) := by
  idx_vars y
  by_cases h3 : t.val % 4 = 3
  · rw [outsAt0_C m c t hz h3]; frame_out
    exact acc_row (arrs m c) (q := slot t) (R := row t y0) (dp_0 m c t y0) (dp_1 m c t y0) (dp_2 m c t y0) (blk5 m c t) (blk6 m c t) (blk7 m c t) (congrFun (Memref.IsWhole.read_unread _ _) _)
  · rw [outsAt0_B m c t hz h3]; frame_out
    exact acc_row (arrs m c) (q := slot t) (R := row t y0) (dp_0 m c t y0) (dp_1 m c t y0) (dp_2 m c t y0) (blk5 m c t) (blk6 m c t) (blk7 m c t) (congrFun (Memref.IsWhole.read_unread _ _) _)

/-- At the last point of a block the accumulator holds the whole sum. -/
theorem acc_end (c : Dev nD) (t : Fin cfg0.N) (h1 : t.val % 4 = 3) (y : S512x1024.Idx) :
    (outsAt0 m c t.val t.isLt).2.2 y = (arrs m c).dm (row t (y 0)) (y 1) := by
  rw [Pipeline.eq_sum_fin_of_reset_step_apply_of_flush (fun n h => (outsAt0 m c n h).2.2) 4 (fun _ => 0) _ (acc_start m c) (acc_step m c) t h1 y, zero_add]
  unfold Arrs.dm
  refine Finset.sum_congr rfl fun s _ => ?_
  have hs : slot ⟨4 * (t.val / 4) + s.val, by have := lt t; show _ < 36; omega⟩ = s := by apply Fin.ext; simp only [slot]; omega
  have hr : row ⟨4 * (t.val / 4) + s.val, by have := lt t; show _ < 36; omega⟩ (y 0) = row t (y 0) := by apply Fin.ext; simp only [row]; omega
  rw [hs, hr]

theorem app2 {a b : ℕ} (f : Fin a → Fin b → EReal) {i i' : Fin a} {j j' : Fin b} (hi : i.val = i'.val) (hj : j.val = j'.val) :
    f i j = f i' j' := by rw [Fin.ext hi, Fin.ext hj]

theorem final8 (c : Dev nD) : (dats m 0 c).arrAt 8 (cfgs 0).N = (arrs m c).outDx := by
  refine (dats m 0 c).arrAt_eq_of_covers 8 _ (by decide +kernel) fun t hf y => ?_
  blk_simp
  have h3 := (flush0_8 t).mp hf
  rw [after0_8]
  have hacc : (outsAt0 m c t.val t.isLt).2.2 = fun y => (arrs m c).dm (row t (y 0)) (y 1) := funext (acc_end m c t h3)
  rw [outsAt0_C m c t (by omega) h3] at hacc ⊢
  frame_out at hacc
  frame_out
  obtain ⟨a, d, rfl⟩ : ∃ (a : Fin 512) (d : Fin 1024), y = ix2 a d := ⟨y 0, y 1, eq_ix2 y⟩
  refine (dx_row (arrs m c) (R := row t a) (blk0 m c t a) (fun d => congrFun hacc (ix2 a d)) (blk2 m c t a) (blk4 m c t) (scale_blk m c t a) d).trans ?_
  exact app2 (arrs m c).dx (by show t.val / 4 * 512 + a.val = _; blk_simp [idx t]) (by blk_simp [idx t])

theorem sums_congr {X : Arrs} {i i' : Fin 9} {k k' : ℕ} {d d' : Fin 1024} (hi : i.val = i'.val) (hk : k = k') (hd : d.val = d'.val) :
    X.sums i k d = X.sums i' k' d' := by rw [Fin.ext hi, hk, Fin.ext hd]
theorem sums_zero {X : Arrs} {i : Fin 9} {k : ℕ} {d : Fin 1024} (hk : 4 ≤ k ∨ k = 2) : X.sums i k d = 0 := by
  unfold Arrs.sums
  rw [if_neg (by omega), if_neg (by omega), if_neg (by omega)]

theorem final9 (c : Dev nD) : (dats m 0 c).arrAt 9 (cfgs 0).N = (arrs m c).outSums := by
  refine (dats m 0 c).arrAt_eq_of_covers 9 _ (by decide +kernel) fun t hf y => ?_
  blk_simp
  have h3 := (flush0_9 t).mp hf
  rw [after0_9]
  have hacc : (outsAt0 m c t.val t.isLt).2.2 = fun y => (arrs m c).dm (row t (y 0)) (y 1) := funext (acc_end m c t h3)
  rw [outsAt0_C m c t (by omega) h3] at hacc ⊢
  frame_out at hacc
  frame_out
  have hs : ∀ (r : Fin 512) (d : Fin 1024), View.ld (iblk m c 3 t) (Rect.unit ![0, 4, 0] ![1, 1, 1024] inb_S1x9x1024_S1x1x1024_0_4_0) (ix3 0 0 d) = (arrs m c).M (ix3 (grp (brow (blk t) r)) 4 d) := fun r d => scale_blk m c t r d
  canon_tiles x h using (View.cover_of_tiledBy _ ![1, 1, 1024] (by sl_kernel_rfl) y)
  · refine (store_4 x).trans (sums_zero (.inl ?_)).symm
    blk_simp [idx t]; omega
  · idx_vars x
    refine (gain_row (arrs m c) (i := blk t) (fun r d => congrFun hacc (ix2 r d)) (blk2 m c t) hs _ _ _).trans ?_
    exact sums_congr (by show t.val / 4 = _; blk_simp [idx t]) (by blk_simp [idx t]; omega) (by blk_simp [idx t]; omega)
  · refine (store_2 x).trans (sums_zero (.inr ?_)).symm
    blk_simp [idx t]; omega
  · idx_vars x
    refine (scale_row (arrs m c) (i := blk t) (fun r d => congrFun hacc (ix2 r d)) (blk2 m c t) (blk4 m c t) _ _ _).trans ?_
    exact sums_congr (by show t.val / 4 = _; blk_simp [idx t]) (by blk_simp [idx t]; omega) (by blk_simp [idx t]; omega)
  · idx_vars x
    refine (shift_row (arrs m c) (i := blk t) (fun r d => congrFun hacc (ix2 r d)) _ _ _).trans ?_
    exact sums_congr (by show t.val / 4 = _; blk_simp [idx t]) (by blk_simp [idx t]; omega) (by blk_simp [idx t]; omega)

end Cert.KScbIdeal.Rows
-- ==== Proof.Scb.lean ====
module

public import proofs.«01_k».proof.Proof.ScbValue
public import proofs.«01_k».proof.Proof.Gen.RScbIdeal.Read
public import proofs.«01_k».proof.Proof.NormGrad
public import proofs.«01_k».proof.Defs

/-! The gradient of the projection in: what the call is handed, the reference over the same arrays, and the two results. -/

@[expose] public section
set_option maxRecDepth 16384
noncomputable section
open Idealize.ShloMosaic Idealize.ShloMosaic.TcCoe Idealize.SL.Sem
open Idealize.ShloMosaic.Pipeline (Dat)
namespace Cert.KScbIdeal.Rows
open Cert.KScbIdeal Cert.KScbIdeal.Gen Cert.RScbIdeal.Read Cert.Reals

/-- The rows of the latent stream, then those of the context. -/
def join (x : FVec Ideal S2x2048x1024 .f32) (y : FVec Ideal S2x256x1024 .f32) : FVec Ideal S4608x1024 .f32 :=
  concatenate S4608x1024 0 [⟨S4096x1024, shapeCast S4096x1024 x shapeCasts_S2x2048x1024_S4096x1024⟩, ⟨S512x1024, shapeCast S512x1024 y shapeCasts_S2x256x1024_S512x1024⟩] concatenates_S4096x1024_S512x1024_S4608x1024_d0
/-- The modulation of the two sequences and of the context. -/
def mods (x : FVec Ideal S2x9x1024 .f32) (y : FVec Ideal S1x9x1024 .f32) : FVec Ideal S3x9x1024 .f32 :=
  concatenate S3x9x1024 0 [⟨S2x9x1024, x⟩, ⟨S1x9x1024, y⟩] concatenates_S2x9x1024_S1x9x1024_S3x9x1024_d0
/-- The weight, its columns in four slots. -/
def wts (x : FVec Ideal S1024x3072 .f32) : FVec Ideal S4x1x1024x768 .bf16 :=
  truncf .bf16 (broadcastInDim S4x1x1024x768 ![0, 2, 3] bcast_S4x1024x768_S4x1x1024x768_0_2_3 (transpose S4x1024x768 [1, 0, 2] (shapeCast S1024x4x768 x shapeCasts_S1024x3072_S1024x4x768) transposes_S1024x4x768_S4x1024x768_1_0_2)) bitsLt_bf16_f32

/-- The cotangents of the three pieces side by side, the rows of the latent stream first. -/
def wide (x : FVec Ideal S2x2048x3072 .f32) (y : FVec Ideal S2x256x3072 .f32) : FVec Ideal S4608x3072 .f32 :=
  concatenate S4608x3072 0 [⟨S4096x3072, shapeCast S4096x3072 x shapeCasts_S2x2048x3072_S4096x3072⟩, ⟨S512x3072, shapeCast S512x3072 y shapeCasts_S2x256x3072_S512x3072⟩] concatenates_S4096x3072_S512x3072_S4608x3072_d0
/-- The cotangents of the three pieces, one piece after another. -/
def pieces (x : FVec Ideal S2x2048x3072 .f32) (y : FVec Ideal S2x256x3072 .f32) : FVec Ideal S3x4608x1024 .f32 :=
  concatenate S3x4608x1024 0 [⟨S1x4608x1024, broadcastInDim S1x4608x1024 ![1, 2] bcast_S4608x1024_S1x4608x1024_1_2 (extractStridedSlice S4608x1024 ![0, 0] (wide x y) slices_S4608x3072_S4608x1024_0_0)⟩, ⟨S1x4608x1024, broadcastInDim S1x4608x1024 ![1, 2] bcast_S4608x1024_S1x4608x1024_1_2 (extractStridedSlice S4608x1024 ![0, 1024] (wide x y) slices_S4608x3072_S4608x1024_0_1024)⟩, ⟨S1x4608x1024, broadcastInDim S1x4608x1024 ![1, 2] bcast_S4608x1024_S1x4608x1024_1_2 (extractStridedSlice S4608x1024 ![0, 2048] (wide x y) slices_S4608x3072_S4608x1024_0_2048)⟩] concatenates_S1x4608x1024_S1x4608x1024_S1x4608x1024_S3x4608x1024_d0

theorem lt_col (s : Fin 3) (d : Fin 1024) : s.val * 1024 + d.val < 3072 := by omega
/-- Column `d` of piece `s`. -/
def col (s : Fin 3) (d : Fin 1024) : Fin 3072 := ⟨s.val * 1024 + d.val, lt_col s d⟩
theorem lt_wts (s : Fin 4) (e : Fin 768) : s.val * 768 + e.val < 3072 := by omega
theorem wts_read (x) (s : Fin 4) (k : Fin 1024) (e : Fin 768) : wts x (ix4 s 0 k e) = x (ix2 k ⟨s.val * 768 + e.val, lt_wts s e⟩) := by
  pointwise [wts]
theorem wts_at (x) (s : Fin 3) (k d : Fin 1024) : wts x (ix4 (sl s d) 0 k (ln s d)) = x (ix2 k (col s d)) := by
  refine (wts_read x _ _ _).trans (congrArg (fun e => x (ix2 k e)) (Fin.ext ?_))
  simp only [sl, ln, col]; omega
theorem pieces_0 (x y) (r : Fin 4608) (d : Fin 1024) : pieces x y (ix3 0 r d) = wide x y (ix2 r (col 0 d)) := by
  pointwise [pieces]
  blk_ext [col]
theorem pieces_1 (x y) (r : Fin 4608) (d : Fin 1024) : pieces x y (ix3 1 r d) = wide x y (ix2 r (col 1 d)) := by
  pointwise [pieces]
  blk_ext [col]
theorem pieces_2 (x y) (r : Fin 4608) (d : Fin 1024) : pieces x y (ix3 2 r d) = wide x y (ix2 r (col 2 d)) := by
  pointwise [pieces]
  blk_ext [col]
theorem piece_cases {P : Fin 3 → Prop} (h0 : P 0) (h1 : P 1) (h2 : P 2) : ∀ s, P s
  | 0 => h0
  | 1 => h1
  | 2 => h2
theorem pieces_at (x y) (s : Fin 3) (r : Fin 4608) (d : Fin 1024) : pieces x y (ix3 s r d) = wide x y (ix2 r (col s d)) :=
  piece_cases (P := fun s => pieces x y (ix3 s r d) = wide x y (ix2 r (col s d))) (pieces_0 x y r d) (pieces_1 x y r d) (pieces_2 x y r d) s
theorem wide_z (x y) (i : Fin 9) (a : Fin 512) (e : Fin 3072) : wide x y (ix2 (brow i a) e) = val_main_v8 (F := Ideal) x y (ix3 i a e) := by
  unfold brow
  pointwise [wide, val_main_v8, val_main_v7, val_main_v6]
  by_cases h : i.val < 8
  · rw [dif_pos (by omega), dif_pos (by omega)]; blk_ext
  · rw [dif_neg (by omega), dif_neg (by omega)]; blk_ext
theorem join_z (x y) (i : Fin 9) (a : Fin 512) (d : Fin 1024) : join x y (ix2 (brow i a) d) = val_main_v2 (F := Ideal) x y (ix3 i a d) := by
  unfold brow
  pointwise [join, val_main_v2, val_main_v1, val_main_v0]
  by_cases h : i.val < 8
  · rw [dif_pos (by omega), dif_pos (by omega)]; blk_ext
  · rw [dif_neg (by omega), dif_neg (by omega)]; blk_ext
theorem join_dh (x y) (i : Fin 9) (a : Fin 512) (d : Fin 1024) : join x y (ix2 (brow i a) d) = val_main_v5 (F := Ideal) x y (ix3 i a d) := join_z x y i a d
theorem lt_blk (i : Fin 9) : i.val / 4 < 3 := by omega
theorem grp_brow (i : Fin 9) (a : Fin 512) : grp (brow i a) = ⟨i.val / 4, lt_blk i⟩ := by unfold grp brow; apply Fin.ext; simp only; omega
theorem mod4 (x6 x7) (i : Fin 9) (a : Fin 512) (d : Fin 1024) : mods x6 x7 (ix3 (grp (brow i a)) 4 d) = val_main_v19 (F := Ideal) x6 x7 (ix3 i 0 d) := by
  rw [grp_brow]
  pointwise [mods, val_main_v19, val_main_v18, val_main_v17, val_main_v16, val_main_v15]
  by_cases h : i.val < 8
  · rw [dif_pos (by omega), dif_pos (by omega)]
  · rw [dif_neg (by omega), dif_neg (by omega)]; blk_ext

/-- The arrays of the call from the arguments. -/
def ofArgs (x0 : FVec Ideal S2x2048x1024 .f32) (x1 : FVec Ideal S2x256x1024 .f32) (x2 : FVec Ideal S2x2048x3072 .f32) (x3 : FVec Ideal S2x256x3072 .f32)
    (x4 : FVec Ideal S2x2048x1024 .f32) (x5 : FVec Ideal S2x256x1024 .f32) (x6 : FVec Ideal S2x9x1024 .f32) (x7 : FVec Ideal S1x9x1024 .f32)
    (x8 : FVec Ideal S1024 .f32) (x9 : FVec Ideal S1024x3072 .f32) : Arrs where
  DH := join x0 x1
  DP := pieces x2 x3
  H := join x4 x5
  M := mods x6 x7
  G := shapeCast S1x1024 x8 shapeCasts_S1024_S1x1024
  W := wts x9

section
variable (m : (ℓ : Loc nD τ sig) → Buf (Elt Ideal) ℓ) (c : Dev nD)
theorem hostDH : V m c main_v2 = join (m ((c : Thread nD τ).loc main_arg0)) (m ((c : Thread nD τ).loc main_arg1)) := by
  unfold V; entry_read; rfl
theorem hostDP : V m c main_v15 = pieces (m ((c : Thread nD τ).loc main_arg2)) (m ((c : Thread nD τ).loc main_arg3)) := by
  unfold V; rfl
theorem hostH : V m c main_v5 = join (m ((c : Thread nD τ).loc main_arg4)) (m ((c : Thread nD τ).loc main_arg5)) := by
  unfold V; entry_read; rfl
theorem hostM : V m c main_v20 = mods (m ((c : Thread nD τ).loc main_arg6)) (m ((c : Thread nD τ).loc main_arg7)) := by
  unfold V; entry_read; rfl
theorem hostG : V m c main_v21 = shapeCast S1x1024 (m ((c : Thread nD τ).loc main_arg8)) shapeCasts_S1024_S1x1024 := by
  unfold V; entry_read; rfl
theorem hostW : V m c main_v19 = wts (m ((c : Thread nD τ).loc main_arg9)) := by
  unfold V; entry_read; rfl
theorem arrs_eq : arrs m c = ofArgs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  unfold arrs ofArgs
  rw [hostDH, hostDP, hostH, hostM, hostG, hostW]
end

section
variable (x0 : FVec Ideal S2x2048x1024 .f32) (x1 : FVec Ideal S2x256x1024 .f32) (x2 : FVec Ideal S2x2048x3072 .f32) (x3 : FVec Ideal S2x256x3072 .f32)
    (x4 : FVec Ideal S2x2048x1024 .f32) (x5 : FVec Ideal S2x256x1024 .f32) (x6 : FVec Ideal S2x9x1024 .f32) (x7 : FVec Ideal S1x9x1024 .f32)
    (x8 : FVec Ideal S1024 .f32) (x9 : FVec Ideal S1024x3072 .f32)
  (i : Fin 9) (a : Fin 512)

theorem ref_g (d : Fin 1024) : x8 (ix1 d) = (ofArgs x0 x1 x2 x3 x4 x5 x6 x7 x8 x9).G (ix2 0 d) := by
  refine Eq.symm ?_
  show shapeCast S1x1024 x8 shapeCasts_S1024_S1x1024 (ix2 0 d) = _
  pointwise
theorem ref_h (d : Fin 1024) : val_main_v2 (F := Ideal) x4 x5 (ix3 i a d) = (ofArgs x0 x1 x2 x3 x4 x5 x6 x7 x8 x9).H (ix2 (brow i a) d) := (join_z x4 x5 i a d).symm
theorem ref_dh (d : Fin 1024) : val_main_v5 (F := Ideal) x0 x1 (ix3 i a d) = (ofArgs x0 x1 x2 x3 x4 x5 x6 x7 x8 x9).DH (ix2 (brow i a) d) := (join_dh x0 x1 i a d).symm
theorem ref_s (d : Fin 1024) : val_main_v19 (F := Ideal) x6 x7 (ix3 i 0 d) = (ofArgs x0 x1 x2 x3 x4 x5 x6 x7 x8 x9).M (ix3 (grp (brow i a)) 4 d) := (mod4 x6 x7 i a d).symm
theorem col_split (s : Fin 3) (q : Fin 4) (f : Fin 256) (e : Fin 3072) (he : e.val = s.val * 1024 + (q.val * 256 + f.val)) : e = col s (qcol q f) := Fin.ext he
theorem ref_dm (d : Fin 1024) : val_main_v42 (F := Ideal) x2 x3 x9 (ix3 i a d) = (ofArgs x0 x1 x2 x3 x4 x5 x6 x7 x8 x9).dm (brow i a) d := by
  have hp : ∀ s q, (ofArgs x0 x1 x2 x3 x4 x5 x6 x7 x8 x9).piece s q (brow i a) d = ∑ f : Fin 256, val_main_v8 (F := Ideal) x2 x3 (ix3 i a (col s (qcol q f))) * x9 (ix2 d (col s (qcol q f))) := by
    intro s q
    unfold Arrs.piece
    refine Finset.sum_congr rfl fun f _ => ?_
    simp only [ofArgs]
    rw [pieces_at, wide_z, wts_at]
  unfold Arrs.dm Arrs.part
  simp only [hp, zero_add]
  pointwise [val_main_v42]
  rw [Fin.sum_univ_tiles 3 1024 rfl, Fin.sum_univ_three, Fin.sum_univ_tiles 4 256 rfl, Fin.sum_univ_tiles 4 256 rfl, Fin.sum_univ_tiles 4 256 rfl, Finset.sum_add_distrib, Finset.sum_add_distrib]
  rfl
theorem ref_ms : val_main_v26 (F := Ideal) x4 x5 (ix3 i a 0) = (∑ d : Fin 1024, (ofArgs x0 x1 x2 x3 x4 x5 x6 x7 x8 x9).H (ix2 (brow i a) d) * (ofArgs x0 x1 x2 x3 x4 x5 x6 x7 x8 x9).H (ix2 (brow i a) d)) * inv + eps := by
  simp only [← ref_h]
  pointwise [val_main_v26, val_main_v25, val_main_v24, val_main_v23, val_main_v22, val_main_v21, val_main_v20, val_main_cst, val_main_cst_0, val_main_cst_1]
  rw [bits_1024, Ideal.div_coe (by norm_num), ← bits_inv]
theorem ref_rn : val_main_v27 (F := Ideal) x4 x5 (ix3 i a 0) = (ofArgs x0 x1 x2 x3 x4 x5 x6 x7 x8 x9).rn (brow i a) := by
  rw [Arrs.rn, ← ref_ms]
  pointwise [val_main_v27]
theorem ref_dscaled (d : Fin 1024) : val_main_v49 (F := Ideal) x2 x3 x6 x7 x9 (ix3 i a d)
    = (ofArgs x0 x1 x2 x3 x4 x5 x6 x7 x8 x9).dm (brow i a) d * (1 + (ofArgs x0 x1 x2 x3 x4 x5 x6 x7 x8 x9).M (ix3 (grp (brow i a)) 4 d)) := by
  pointwise [val_main_v49, val_main_v48, val_main_v36, val_main_v35, val_main_cst_3]
  rw [ref_dm x0 x1 x2 x3 x4 x5 x6 x7 x8 x9, ref_s x0 x1 x2 x3 x4 x5 x6 x7 x8 x9 i a]
theorem ref_dn (d : Fin 1024) : val_main_v54 (F := Ideal) x2 x3 x6 x7 x8 x9 (ix3 i a d) = (ofArgs x0 x1 x2 x3 x4 x5 x6 x7 x8 x9).dn (brow i a) d := by
  pointwise [val_main_v54, val_main_v53, val_main_v9]
  rw [ref_dscaled x0 x1 x2 x3 x4 x5 x6 x7 x8 x9, ref_g x0 x1 x2 x3 x4 x5 x6 x7 x8 x9, Arrs.dn]
theorem ref_dx (d : Fin 1024) : val_main_v69 (F := Ideal) x0 x1 x2 x3 x4 x5 x6 x7 x8 x9 (ix3 i a d) = (ofArgs x0 x1 x2 x3 x4 x5 x6 x7 x8 x9).dx (brow i a) d := by
  refine Eq.trans ?_ (norm_eq (fun d => (ofArgs x0 x1 x2 x3 x4 x5 x6 x7 x8 x9).DH (ix2 (brow i a) d)) (fun d => (ofArgs x0 x1 x2 x3 x4 x5 x6 x7 x8 x9).H (ix2 (brow i a) d)) (fun d => (ofArgs x0 x1 x2 x3 x4 x5 x6 x7 x8 x9).dn (brow i a) d) rfl d)
  pointwise [val_main_v69, val_main_v68, val_main_v67, val_main_v66, val_main_v65, val_main_v64, val_main_v63, val_main_v62, val_main_v61, val_main_v60, val_main_v59, val_main_v58, val_main_v57, val_main_v56, val_main_v55, val_main_v30, val_main_v29, val_main_v28, val_main_cst_2, val_main_cst_7, val_main_cst_8, val_main_cst_9]
  simp only [Fin.sum_univ_one, ref_dn x0 x1 x2 x3 x4 x5 x6 x7 x8 x9, ref_h x0 x1 x2 x3 x4 x5 x6 x7 x8 x9, ref_dh x0 x1 x2 x3 x4 x5 x6 x7 x8 x9]
  rw [ref_rn x0 x1 x2 x3 x4 x5 x6 x7 x8 x9, ref_ms x0 x1 x2 x3 x4 x5 x6 x7 x8 x9, Arrs.rn]
  try rfl
theorem ref_sums (k : Fin 8) (d : Fin 1024) : val_main_v72 (F := Ideal) x2 x3 x4 x5 x6 x7 x8 x9 (ix3 i k d) = (ofArgs x0 x1 x2 x3 x4 x5 x6 x7 x8 x9).sums i k.val d := by
  have hdm := fun a d => ref_dm x0 x1 x2 x3 x4 x5 x6 x7 x8 x9 i a d
  have hds := fun a d => ref_dscaled x0 x1 x2 x3 x4 x5 x6 x7 x8 x9 i a d
  unfold Arrs.sums
  pointwise [val_main_v72]
  by_cases h0 : k.val = 0
  · refine (dif_pos (show k.val < 1 by omega)).trans ?_
    rw [if_pos h0]
    pointwise [val_main_v44, val_main_v43, val_main_cst_4]
    exact Finset.sum_congr rfl fun a _ => hdm a d
  refine (dif_neg (show ¬k.val < 1 by omega)).trans ?_
  by_cases h1 : k.val = 1
  · refine (dif_pos (show k.val - 1 < 1 by omega)).trans ?_
    rw [if_neg h0, if_pos h1]
    pointwise [val_main_v47, val_main_v46, val_main_v45, val_main_cst_5, val_main_v34, val_main_v33, val_main_v32, val_main_v31, val_main_v9]
    refine Finset.sum_congr rfl fun a _ => ?_
    rw [hdm, ref_h x0 x1 x2 x3 x4 x5 x6 x7 x8 x9, ref_rn x0 x1 x2 x3 x4 x5 x6 x7 x8 x9, ref_g x0 x1 x2 x3 x4 x5 x6 x7 x8 x9, mul_comm]
  refine (dif_neg (show ¬k.val - 1 < 1 by omega)).trans ?_
  by_cases h2 : k.val = 2
  · refine (dif_pos (show k.val - 1 - 1 < 1 by omega)).trans ?_
    rw [if_neg h0, if_neg h1, if_neg (show ¬k.val = 3 by omega)]
    pointwise [val_main_v70, val_main_cst_10]
  refine (dif_neg (show ¬k.val - 1 - 1 < 1 by omega)).trans ?_
  by_cases h3 : k.val = 3
  · refine (dif_pos (show k.val - 1 - 1 - 1 < 1 by omega)).trans ?_
    rw [if_neg h0, if_neg h1, if_pos h3]
    pointwise [val_main_v52, val_main_v51, val_main_v50, val_main_cst_6, val_main_v32, val_main_v31]
    refine Finset.sum_congr rfl fun a _ => ?_
    rw [hds, ref_h x0 x1 x2 x3 x4 x5 x6 x7 x8 x9, ref_rn x0 x1 x2 x3 x4 x5 x6 x7 x8 x9, mul_comm]
  · refine (dif_neg (show ¬k.val - 1 - 1 - 1 < 1 by omega)).trans ?_
    rw [if_neg h0, if_neg h1, if_neg h3]
    pointwise [val_main_v71, val_main_cst_11]

theorem lt_q (r : Fin 4608) : r.val / 512 < 9 := by omega
theorem lt_m (r : Fin 4608) : r.val % 512 < 512 := by omega
theorem brow_split (r : Fin 4608) : brow ⟨r.val / 512, lt_q r⟩ ⟨r.val % 512, lt_m r⟩ = r := by
  unfold brow; apply Fin.ext; simp only; omega
theorem rows_eq {A B : FVec Ideal S4608x1024 .f32} (h : ∀ i a d, A (ix2 (brow i a) d) = B (ix2 (brow i a) d)) : A = B := by
  funext j
  rw [eq_ix2 j, ← brow_split (j 0)]
  exact h _ _ _
theorem flat_at (x : FVec Ideal Cert.RScbIdeal.S9x512x1024 .f32) (d : Fin 1024) : shapeCast S4608x1024 x Cert.RScbIdeal.Gen.shapeCasts_S9x512x1024_S4608x1024 (ix2 (brow i a) d) = x (ix3 i a d) := by
  unfold brow
  pointwise
theorem res_dx : val_main_v73 (F := Ideal) x0 x1 x2 x3 x4 x5 x6 x7 x8 x9 = (ofArgs x0 x1 x2 x3 x4 x5 x6 x7 x8 x9).outDx :=
  rows_eq fun i a d => (flat_at i a (val_main_v69 (F := Ideal) x0 x1 x2 x3 x4 x5 x6 x7 x8 x9) d).trans (ref_dx x0 x1 x2 x3 x4 x5 x6 x7 x8 x9 i a d)
theorem res_sums : val_main_v72 (F := Ideal) x2 x3 x4 x5 x6 x7 x8 x9 = (ofArgs x0 x1 x2 x3 x4 x5 x6 x7 x8 x9).outSums := by
  funext j
  rw [eq_ix3 j]
  exact ref_sums x0 x1 x2 x3 x4 x5 x6 x7 x8 x9 (j 0) (j 1) (j 2)
end

/-- Both results of the kernel are those of the reference. -/
theorem algebraic : Cert.algebraic_KScbIdeal_RScbIdeal := by
  intro m g m' g' hpre hagree
  refine ⟨fun c => (arrs m c).outDx, fun c => (arrs m c).outSums, ?_, ?_⟩
  · exact θ_run_mono (θ_run_and (Cert.KScbIdeal.Gen.run_main m g) (Cert.KScbIdeal.Gen.unchanged m g)) fun r h c =>
      ⟨((h.1 c).1 8).trans (final8 m c), ((h.1 c).1 9).trans (final9 m c), h.2 c⟩
  · refine θ_run_mono (Cert.RScbIdeal.Value.run m' g') fun r h c => ⟨(h c).1.trans ?_, (h c).2.1.trans ?_, (h c).2.2⟩
    · refine (val_main_v73_eq m' c).trans ?_
      show val_main_v73 (F := Ideal) (m' (c.tc.loc Cert.RScbIdeal.main_arg0)) (m' (c.tc.loc Cert.RScbIdeal.main_arg1)) (m' (c.tc.loc Cert.RScbIdeal.main_arg2)) (m' (c.tc.loc Cert.RScbIdeal.main_arg3)) (m' (c.tc.loc Cert.RScbIdeal.main_arg4)) (m' (c.tc.loc Cert.RScbIdeal.main_arg5)) (m' (c.tc.loc Cert.RScbIdeal.main_arg6)) (m' (c.tc.loc Cert.RScbIdeal.main_arg7)) (m' (c.tc.loc Cert.RScbIdeal.main_arg8)) (m' (c.tc.loc Cert.RScbIdeal.main_arg9)) = (arrs m c).outDx
      rw [arrs_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
      exact res_dx _ _ _ _ _ _ _ _ _ _
    · refine (val_main_v72_eq m' c).trans ?_
      show val_main_v72 (F := Ideal) (m' (c.tc.loc Cert.RScbIdeal.main_arg2)) (m' (c.tc.loc Cert.RScbIdeal.main_arg3)) (m' (c.tc.loc Cert.RScbIdeal.main_arg4)) (m' (c.tc.loc Cert.RScbIdeal.main_arg5)) (m' (c.tc.loc Cert.RScbIdeal.main_arg6)) (m' (c.tc.loc Cert.RScbIdeal.main_arg7)) (m' (c.tc.loc Cert.RScbIdeal.main_arg8)) (m' (c.tc.loc Cert.RScbIdeal.main_arg9)) = (arrs m c).outSums
      rw [arrs_eq, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
      exact res_sums _ _ _ _ _ _ _ _ _ _
end Cert.KScbIdeal.Rows
-- ==== Proof.lean ====
module

public import proofs.«01_k».proof.Defs
public import proofs.«01_k».proof.Proof.Gen.KConv.Frame
public import proofs.«01_k».proof.Proof.Gen.KConvIdeal.Frame
public import proofs.«01_k».proof.Proof.Gen.KConvIdeal.Value
public import proofs.«01_k».proof.Proof.Gen.RConvIdeal.Run
public import proofs.«01_k».proof.Proof.Gen.RConvIdeal.Read
public import proofs.«01_k».proof.Proof.Gen.KGw.Frame
public import proofs.«01_k».proof.Proof.Gen.KGwIdeal.Frame
public import proofs.«01_k».proof.Proof.Gen.KGwIdeal.Value
public import proofs.«01_k».proof.Proof.Gen.RGwIdeal.Run
public import proofs.«01_k».proof.Proof.Gen.RGwIdeal.Read
public import proofs.«01_k».proof.Proof.Gen.KFfn.Frame
public import proofs.«01_k».proof.Proof.Gen.KFfnIdeal.Frame
public import proofs.«01_k».proof.Proof.Gen.RFfnIdeal.Run
public import proofs.«01_k».proof.Proof.Gen.RFfnIdeal.Read
public import proofs.«01_k».proof.Proof.Gen.KFwd.Frame
public import proofs.«01_k».proof.Proof.Gen.KFwdIdeal.Frame
public import proofs.«01_k».proof.Proof.Gen.RFwdIdeal.Run
public import proofs.«01_k».proof.Proof.Gen.RFwdIdeal.Read
public import proofs.«01_k».proof.Proof.Gen.KAttn.Frame
public import proofs.«01_k».proof.Proof.Gen.KAttnIdeal.Frame
public import proofs.«01_k».proof.Proof.Gen.RAttnIdeal.Run
public import proofs.«01_k».proof.Proof.Gen.RAttnIdeal.Read
public import proofs.«01_k».proof.Proof.Gen.KAtf.Frame
public import proofs.«01_k».proof.Proof.Gen.KAtfIdeal.Frame
public import proofs.«01_k».proof.Proof.Gen.RAtfIdeal.Run
public import proofs.«01_k».proof.Proof.Gen.RAtfIdeal.Read
public import proofs.«01_k».proof.Proof.Gen.KOut.Frame
public import proofs.«01_k».proof.Proof.Gen.KOutIdeal.Frame
public import proofs.«01_k».proof.Proof.Gen.ROutIdeal.Run
public import proofs.«01_k».proof.Proof.Gen.ROutIdeal.Read
public import proofs.«01_k».proof.Proof.Gen.KOub.Frame
public import proofs.«01_k».proof.Proof.Gen.KOubIdeal.Frame
public import proofs.«01_k».proof.Proof.Gen.ROubIdeal.Run
public import proofs.«01_k».proof.Proof.Gen.ROubIdeal.Read
public import proofs.«01_k».proof.Proof.Gen.KGwo.Frame
public import proofs.«01_k».proof.Proof.Gen.KGwoIdeal.Frame
public import proofs.«01_k».proof.Proof.Gen.RGwoIdeal.Run
public import proofs.«01_k».proof.Proof.Gen.RGwoIdeal.Read
public import proofs.«01_k».proof.Proof.Gen.KSci.Frame
public import proofs.«01_k».proof.Proof.Gen.KSciIdeal.Frame
public import proofs.«01_k».proof.Proof.Gen.RSciIdeal.Run
public import proofs.«01_k».proof.Proof.Gen.RSciIdeal.Read
public import proofs.«01_k».proof.Proof.Gen.KGwi.Frame
public import proofs.«01_k».proof.Proof.Gen.KGwiIdeal.Frame
public import proofs.«01_k».proof.Proof.Gen.RGwiIdeal.Run
public import proofs.«01_k».proof.Proof.Gen.RGwiIdeal.Read
public import proofs.«01_k».proof.Proof.Gen.KScb.Frame
public import proofs.«01_k».proof.Proof.Gen.KScbIdeal.Frame
public import proofs.«01_k».proof.Proof.Gen.RScbIdeal.Run
public import proofs.«01_k».proof.Proof.Gen.RScbIdeal.Read
public import proofs.«01_k».proof.Proof.Conv
public import proofs.«01_k».proof.Proof.GwValue
public import proofs.«01_k».proof.Proof.Ffn
public import proofs.«01_k».proof.Proof.Fwd
public import proofs.«01_k».proof.Proof.Attn
public import proofs.«01_k».proof.Proof.Atf
public import proofs.«01_k».proof.Proof.OutValue
public import proofs.«01_k».proof.Proof.OubValue
public import proofs.«01_k».proof.Proof.GwoValue
public import proofs.«01_k».proof.Proof.Sci
public import proofs.«01_k».proof.Proof.GwiValue
public import proofs.«01_k».proof.Proof.Scb
public import proofs.«01_k».proof.Proof.Gen.Pre_ffn_finite
public import proofs.«01_k».proof.Proof.Gen.Pre_attn_finite
public import proofs.«01_k».proof.Proof.Gen.Pre_scores_finite
public import Idealize.ShloMosaic.Lib.Quiescent

@[expose] public section

open Idealize.ShloMosaic Idealize.ShloMosaic.TcCoe Idealize.SL.Sem

/-- The reference of the gated convolution's gradient runs without fault and leaves its arguments alone. -/
theorem Cert.Proof.frame_RConv : Cert.quiescent_RConvIdeal (hRConvIdeal := Cert.RConvIdeal.Gen.facts) :=
  fun m g _ => (θ_run _ _ _).mono (fun _ h => ⟨fun c => (h c).2.2, sem_eq_zero_of_no_sems (by decide) _⟩) (Cert.RConvIdeal.Value.run m g)

/-- The reference of the weight gradient runs without fault and leaves its arguments alone. -/
theorem Cert.Proof.frame_RGw : Cert.quiescent_RGwIdeal (hRGwIdeal := Cert.RGwIdeal.Gen.facts) :=
  fun m g _ => (θ_run _ _ _).mono (fun _ h => ⟨fun c => (h c).2, sem_eq_zero_of_no_sems (by decide) _⟩) (Cert.RGwIdeal.Value.run m g)

/-- The reference of the feed-forward gradient runs without fault and leaves its arguments alone. -/
theorem Cert.Proof.frame_RFfn : Cert.quiescent_RFfnIdeal (hRFfnIdeal := Cert.RFfnIdeal.Gen.facts) :=
  fun m g _ => (θ_run _ _ _).mono (fun _ h => ⟨fun c => (h c).2.2.2.2.2.2, sem_eq_zero_of_no_sems (by decide) _⟩) (Cert.RFfnIdeal.Value.run m g)

/-- The reference of the forward half-step runs without fault and leaves its arguments alone. -/
theorem Cert.Proof.frame_RFwd : Cert.quiescent_RFwdIdeal (hRFwdIdeal := Cert.RFwdIdeal.Gen.facts) :=
  fun m g _ => (θ_run _ _ _).mono (fun _ h => ⟨fun c => (h c).2.2.2.2.2, sem_eq_zero_of_no_sems (by decide) _⟩) (Cert.RFwdIdeal.Value.run m g)

/-- The reference of the attention gradient runs without fault and leaves its arguments alone. -/
theorem Cert.Proof.frame_RAttn : Cert.quiescent_RAttnIdeal (hRAttnIdeal := Cert.RAttnIdeal.Gen.facts) :=
  fun m g _ => (θ_run _ _ _).mono (fun _ h => ⟨fun c => (h c).2.2.2.2.2, sem_eq_zero_of_no_sems (by decide) _⟩) (Cert.RAttnIdeal.Value.run m g)

/-- The reference of the attention runs without fault and leaves its arguments alone. -/
theorem Cert.Proof.frame_RAtf : Cert.quiescent_RAtfIdeal (hRAtfIdeal := Cert.RAtfIdeal.Gen.facts) :=
  fun m g _ => (θ_run _ _ _).mono (fun _ h => ⟨fun c => (h c).2, sem_eq_zero_of_no_sems (by decide) _⟩) (Cert.RAtfIdeal.Value.run m g)

/-- The reference of the projection out runs without fault and leaves its arguments alone. -/
theorem Cert.Proof.frame_ROut : Cert.quiescent_ROutIdeal (hROutIdeal := Cert.ROutIdeal.Gen.facts) :=
  fun m g _ => (θ_run _ _ _).mono (fun _ h => ⟨fun c => (h c).2.2, sem_eq_zero_of_no_sems (by decide) _⟩) (Cert.ROutIdeal.Value.run m g)

/-- The reference of the gradient of the projection out runs without fault and leaves its arguments alone. -/
theorem Cert.Proof.frame_ROub : Cert.quiescent_ROubIdeal (hROubIdeal := Cert.ROubIdeal.Gen.facts) :=
  fun m g _ => (θ_run _ _ _).mono (fun _ h => ⟨fun c => (h c).2.2.2, sem_eq_zero_of_no_sems (by decide) _⟩) (Cert.ROubIdeal.Value.run m g)

/-- The reference of the weight gradient of the projection out runs without fault and leaves its arguments alone. -/
theorem Cert.Proof.frame_RGwo : Cert.quiescent_RGwoIdeal (hRGwoIdeal := Cert.RGwoIdeal.Gen.facts) :=
  fun m g _ => (θ_run _ _ _).mono (fun _ h => ⟨fun c => (h c).2, sem_eq_zero_of_no_sems (by decide) _⟩) (Cert.RGwoIdeal.Value.run m g)

/-- The reference of the projection in runs without fault and leaves its arguments alone. -/
theorem Cert.Proof.frame_RSci : Cert.quiescent_RSciIdeal (hRSciIdeal := Cert.RSciIdeal.Gen.facts) :=
  fun m g _ => (θ_run _ _ _).mono (fun _ h => ⟨fun c => (h c).2.2, sem_eq_zero_of_no_sems (by decide) _⟩) (Cert.RSciIdeal.Value.run m g)

/-- The reference of the weight gradient of the projection in runs without fault and leaves its arguments alone. -/
theorem Cert.Proof.frame_RGwi : Cert.quiescent_RGwiIdeal (hRGwiIdeal := Cert.RGwiIdeal.Gen.facts) :=
  fun m g _ => (θ_run _ _ _).mono (fun _ h => ⟨fun c => (h c).2, sem_eq_zero_of_no_sems (by decide) _⟩) (Cert.RGwiIdeal.Value.run m g)

/-- The reference of the gradient of the projection in runs without fault and leaves its arguments alone. -/
theorem Cert.Proof.frame_RScb : Cert.quiescent_RScbIdeal (hRScbIdeal := Cert.RScbIdeal.Gen.facts) :=
  fun m g _ => (θ_run _ _ _).mono (fun _ h => ⟨fun c => (h c).2.2, sem_eq_zero_of_no_sems (by decide) _⟩) (Cert.RScbIdeal.Value.run m g)

/-- The twelve calls: they run without fault, leave their arguments alone, and compute what their references compute. -/
theorem Cert.Proof.claim : Cert.Claim :=
  ⟨Cert.KConv.Gen.facts, Cert.KConvIdeal.Gen.facts, Cert.RConvIdeal.Gen.facts, Cert.KGw.Gen.facts, Cert.KGwIdeal.Gen.facts, Cert.RGwIdeal.Gen.facts,
    Cert.KFfn.Gen.facts, Cert.KFfnIdeal.Gen.facts, Cert.RFfnIdeal.Gen.facts, Cert.KFwd.Gen.facts, Cert.KFwdIdeal.Gen.facts, Cert.RFwdIdeal.Gen.facts,
    Cert.KAttn.Gen.facts, Cert.KAttnIdeal.Gen.facts, Cert.RAttnIdeal.Gen.facts,
    Cert.KAtf.Gen.facts, Cert.KAtfIdeal.Gen.facts, Cert.RAtfIdeal.Gen.facts,
    Cert.KOut.Gen.facts, Cert.KOutIdeal.Gen.facts, Cert.ROutIdeal.Gen.facts,
    Cert.KOub.Gen.facts, Cert.KOubIdeal.Gen.facts, Cert.ROubIdeal.Gen.facts,
    Cert.KGwo.Gen.facts, Cert.KGwoIdeal.Gen.facts, Cert.RGwoIdeal.Gen.facts,
    Cert.KSci.Gen.facts, Cert.KSciIdeal.Gen.facts, Cert.RSciIdeal.Gen.facts,
    Cert.KGwi.Gen.facts, Cert.KGwiIdeal.Gen.facts, Cert.RGwiIdeal.Gen.facts,
    Cert.KScb.Gen.facts, Cert.KScbIdeal.Gen.facts, Cert.RScbIdeal.Gen.facts,
    Cert.Pre_ffn_finite.Gen.facts, Cert.Pre_attn_finite.Gen.facts, Cert.Pre_scores_finite.Gen.facts,
    fun m ρ _ => Cert.KConv.Gen.frame m ρ, fun m ρ _ => Cert.KConvIdeal.Gen.frame m ρ, Cert.Proof.frame_RConv,
    fun m ρ _ => Cert.KGw.Gen.frame m ρ, fun m ρ _ => Cert.KGwIdeal.Gen.frame m ρ, Cert.Proof.frame_RGw,
    fun m ρ _ => Cert.KFfn.Gen.frame m ρ, fun m ρ _ => Cert.KFfnIdeal.Gen.frame m ρ, fun m ρ _ => Cert.KFfnIdeal.Gen.frame m ρ,
    Cert.Proof.frame_RFfn, fun m ρ _ => Cert.Proof.frame_RFfn m ρ trivial,
    fun m ρ _ => Cert.KFwd.Gen.frame m ρ, fun m ρ _ => Cert.KFwdIdeal.Gen.frame m ρ, Cert.Proof.frame_RFwd,
    fun m ρ _ => Cert.KAttn.Gen.frame m ρ, fun m ρ _ => Cert.KAttnIdeal.Gen.frame m ρ, fun m ρ _ => Cert.KAttnIdeal.Gen.frame m ρ,
    Cert.Proof.frame_RAttn, fun m ρ _ => Cert.Proof.frame_RAttn m ρ trivial,
    fun m ρ _ => Cert.KAtf.Gen.frame m ρ, fun m ρ _ => Cert.KAtfIdeal.Gen.frame m ρ, fun m ρ _ => Cert.KAtfIdeal.Gen.frame m ρ,
    Cert.Proof.frame_RAtf, fun m ρ _ => Cert.Proof.frame_RAtf m ρ trivial,
    fun m ρ _ => Cert.KOut.Gen.frame m ρ, fun m ρ _ => Cert.KOutIdeal.Gen.frame m ρ, Cert.Proof.frame_ROut,
    fun m ρ _ => Cert.KOub.Gen.frame m ρ, fun m ρ _ => Cert.KOubIdeal.Gen.frame m ρ, Cert.Proof.frame_ROub,
    fun m ρ _ => Cert.KGwo.Gen.frame m ρ, fun m ρ _ => Cert.KGwoIdeal.Gen.frame m ρ, Cert.Proof.frame_RGwo,
    fun m ρ _ => Cert.KSci.Gen.frame m ρ, fun m ρ _ => Cert.KSciIdeal.Gen.frame m ρ, Cert.Proof.frame_RSci,
    fun m ρ _ => Cert.KGwi.Gen.frame m ρ, fun m ρ _ => Cert.KGwiIdeal.Gen.frame m ρ, Cert.Proof.frame_RGwi,
    fun m ρ _ => Cert.KScb.Gen.frame m ρ, fun m ρ _ => Cert.KScbIdeal.Gen.frame m ρ, Cert.Proof.frame_RScb,
    trivial, Cert.KConvIdeal.Rows.algebraic, trivial, Cert.KGwIdeal.Tiles.algebraic, trivial,
    (letI := Cert.Pre_ffn_finite.Gen.facts; Cert.KFfnIdeal.Rows.algebraic), trivial, Cert.KFwdIdeal.Rows.algebraic,
    Cert.KAttnIdeal.Rows.preserves, (letI := Cert.Pre_attn_finite.Gen.facts; Cert.KAttnIdeal.Rows.algebraic),
    trivial, (letI := Cert.Pre_scores_finite.Gen.facts; Cert.KAtfIdeal.Rows.algebraic),
    trivial, Cert.KOutIdeal.Rows.algebraic,
    trivial, Cert.KOubIdeal.Rows.algebraic,
    trivial, Cert.KGwoIdeal.Tiles.algebraic,
    trivial, Cert.KSciIdeal.Rows.algebraic,
    trivial, Cert.KGwiIdeal.Tiles.algebraic,
    trivial, Cert.KScbIdeal.Rows.algebraic⟩
